-- ==== Defs.lean ====
def Pre_AInDw (m : (ℓ : Loc Cert.AInDw.nD Cert.AInDw.τ Cert.AInDw.sig) → Buf (Elt Bits) ℓ) : Prop :=
  True

def Pre_AInDwIdeal (m : (ℓ : Loc Cert.AInDwIdeal.nD Cert.AInDwIdeal.τ Cert.AInDwIdeal.sig) → Buf (Elt Ideal) ℓ) : Prop :=
  True

def Pre_AInDwRefIdeal (m : (ℓ : Loc Cert.AInDwRefIdeal.nD Cert.AInDwRefIdeal.τ Cert.AInDwRefIdeal.sig) → Buf (Elt Ideal) ℓ) : Prop :=
  True

def Pre_AOutDw (m : (ℓ : Loc Cert.AOutDw.nD Cert.AOutDw.τ Cert.AOutDw.sig) → Buf (Elt Bits) ℓ) : Prop :=
  True

def Pre_AOutDwIdeal (m : (ℓ : Loc Cert.AOutDwIdeal.nD Cert.AOutDwIdeal.τ Cert.AOutDwIdeal.sig) → Buf (Elt Ideal) ℓ) : Prop :=
  True

def Pre_AOutDwRefIdeal (m : (ℓ : Loc Cert.AOutDwRefIdeal.nD Cert.AOutDwRefIdeal.τ Cert.AOutDwRefIdeal.sig) → Buf (Elt Ideal) ℓ) : Prop :=
  True

def Pre_AOutDx (m : (ℓ : Loc Cert.AOutDx.nD Cert.AOutDx.τ Cert.AOutDx.sig) → Buf (Elt Bits) ℓ) : Prop :=
  True

def Pre_AOutDxIdeal (m : (ℓ : Loc Cert.AOutDxIdeal.nD Cert.AOutDxIdeal.τ Cert.AOutDxIdeal.sig) → Buf (Elt Ideal) ℓ) : Prop :=
  True

def Pre_AOutDxRefIdeal (m : (ℓ : Loc Cert.AOutDxRefIdeal.nD Cert.AOutDxRefIdeal.τ Cert.AOutDxRefIdeal.sig) → Buf (Elt Ideal) ℓ) : Prop :=
  True

def Pre_BOutDw (m : (ℓ : Loc Cert.BOutDw.nD Cert.BOutDw.τ Cert.BOutDw.sig) → Buf (Elt Bits) ℓ) : Prop :=
  True

def Pre_BOutDwIdeal (m : (ℓ : Loc Cert.BOutDwIdeal.nD Cert.BOutDwIdeal.τ Cert.BOutDwIdeal.sig) → Buf (Elt Ideal) ℓ) : Prop :=
  True

def Pre_BOutDwRefIdeal (m : (ℓ : Loc Cert.BOutDwRefIdeal.nD Cert.BOutDwRefIdeal.τ Cert.BOutDwRefIdeal.sig) → Buf (Elt Ideal) ℓ) : Prop :=
  True

def Pre_BOutDx (m : (ℓ : Loc Cert.BOutDx.nD Cert.BOutDx.τ Cert.BOutDx.sig) → Buf (Elt Bits) ℓ) : Prop :=
  True

def Pre_BOutDxIdeal (m : (ℓ : Loc Cert.BOutDxIdeal.nD Cert.BOutDxIdeal.τ Cert.BOutDxIdeal.sig) → Buf (Elt Ideal) ℓ) : Prop :=
  True

def Pre_BOutDxRefIdeal (m : (ℓ : Loc Cert.BOutDxRefIdeal.nD Cert.BOutDxRefIdeal.τ Cert.BOutDxRefIdeal.sig) → Buf (Elt Ideal) ℓ) : Prop :=
  True

def Pre_BInDw0 (m : (ℓ : Loc Cert.BInDw0.nD Cert.BInDw0.τ Cert.BInDw0.sig) → Buf (Elt Bits) ℓ) : Prop :=
  True

def Pre_BInDw0Ideal (m : (ℓ : Loc Cert.BInDw0Ideal.nD Cert.BInDw0Ideal.τ Cert.BInDw0Ideal.sig) → Buf (Elt Ideal) ℓ) : Prop :=
  True

def Pre_BInDw0RefIdeal (m : (ℓ : Loc Cert.BInDw0RefIdeal.nD Cert.BInDw0RefIdeal.τ Cert.BInDw0RefIdeal.sig) → Buf (Elt Ideal) ℓ) : Prop :=
  True

def Pre_BInDx0 (m : (ℓ : Loc Cert.BInDx0.nD Cert.BInDx0.τ Cert.BInDx0.sig) → Buf (Elt Bits) ℓ) : Prop :=
  True

def Pre_BInDx0Ideal (m : (ℓ : Loc Cert.BInDx0Ideal.nD Cert.BInDx0Ideal.τ Cert.BInDx0Ideal.sig) → Buf (Elt Ideal) ℓ) : Prop :=
  True

def Pre_BInDx0RefIdeal (m : (ℓ : Loc Cert.BInDx0RefIdeal.nD Cert.BInDx0RefIdeal.τ Cert.BInDx0RefIdeal.sig) → Buf (Elt Ideal) ℓ) : Prop :=
  True

def Pre_BIn0 (m : (ℓ : Loc Cert.BIn0.nD Cert.BIn0.τ Cert.BIn0.sig) → Buf (Elt Bits) ℓ) : Prop :=
  True

def Pre_BIn0Ideal (m : (ℓ : Loc Cert.BIn0Ideal.nD Cert.BIn0Ideal.τ Cert.BIn0Ideal.sig) → Buf (Elt Ideal) ℓ) : Prop :=
  True

def Pre_BIn0RefIdeal (m : (ℓ : Loc Cert.BIn0RefIdeal.nD Cert.BIn0RefIdeal.τ Cert.BIn0RefIdeal.sig) → Buf (Elt Ideal) ℓ) : Prop :=
  True

def Pre_BInDw1 (m : (ℓ : Loc Cert.BInDw1.nD Cert.BInDw1.τ Cert.BInDw1.sig) → Buf (Elt Bits) ℓ) : Prop :=
  True

def Pre_BInDw1Ideal (m : (ℓ : Loc Cert.BInDw1Ideal.nD Cert.BInDw1Ideal.τ Cert.BInDw1Ideal.sig) → Buf (Elt Ideal) ℓ) : Prop :=
  True

def Pre_BInDw1RefIdeal (m : (ℓ : Loc Cert.BInDw1RefIdeal.nD Cert.BInDw1RefIdeal.τ Cert.BInDw1RefIdeal.sig) → Buf (Elt Ideal) ℓ) : Prop :=
  True

def Pre_BInDx1 (m : (ℓ : Loc Cert.BInDx1.nD Cert.BInDx1.τ Cert.BInDx1.sig) → Buf (Elt Bits) ℓ) : Prop :=
  True

def Pre_BInDx1Ideal (m : (ℓ : Loc Cert.BInDx1Ideal.nD Cert.BInDx1Ideal.τ Cert.BInDx1Ideal.sig) → Buf (Elt Ideal) ℓ) : Prop :=
  True

def Pre_BInDx1RefIdeal (m : (ℓ : Loc Cert.BInDx1RefIdeal.nD Cert.BInDx1RefIdeal.τ Cert.BInDx1RefIdeal.sig) → Buf (Elt Ideal) ℓ) : Prop :=
  True

def Pre_BIn1 (m : (ℓ : Loc Cert.BIn1.nD Cert.BIn1.τ Cert.BIn1.sig) → Buf (Elt Bits) ℓ) : Prop :=
  True

def Pre_BIn1Ideal (m : (ℓ : Loc Cert.BIn1Ideal.nD Cert.BIn1Ideal.τ Cert.BIn1Ideal.sig) → Buf (Elt Ideal) ℓ) : Prop :=
  True

def Pre_BIn1RefIdeal (m : (ℓ : Loc Cert.BIn1RefIdeal.nD Cert.BIn1RefIdeal.τ Cert.BIn1RefIdeal.sig) → Buf (Elt Ideal) ℓ) : Prop :=
  True

def Pre_BInDw2 (m : (ℓ : Loc Cert.BInDw2.nD Cert.BInDw2.τ Cert.BInDw2.sig) → Buf (Elt Bits) ℓ) : Prop :=
  True

def Pre_BInDw2Ideal (m : (ℓ : Loc Cert.BInDw2Ideal.nD Cert.BInDw2Ideal.τ Cert.BInDw2Ideal.sig) → Buf (Elt Ideal) ℓ) : Prop :=
  True

def Pre_BInDw2RefIdeal (m : (ℓ : Loc Cert.BInDw2RefIdeal.nD Cert.BInDw2RefIdeal.τ Cert.BInDw2RefIdeal.sig) → Buf (Elt Ideal) ℓ) : Prop :=
  True

def Pre_BInDx2 (m : (ℓ : Loc Cert.BInDx2.nD Cert.BInDx2.τ Cert.BInDx2.sig) → Buf (Elt Bits) ℓ) : Prop :=
  True

def Pre_BInDx2Ideal (m : (ℓ : Loc Cert.BInDx2Ideal.nD Cert.BInDx2Ideal.τ Cert.BInDx2Ideal.sig) → Buf (Elt Ideal) ℓ) : Prop :=
  True

def Pre_BInDx2RefIdeal (m : (ℓ : Loc Cert.BInDx2RefIdeal.nD Cert.BInDx2RefIdeal.τ Cert.BInDx2RefIdeal.sig) → Buf (Elt Ideal) ℓ) : Prop :=
  True

def Pre_BIn2 (m : (ℓ : Loc Cert.BIn2.nD Cert.BIn2.τ Cert.BIn2.sig) → Buf (Elt Bits) ℓ) : Prop :=
  True

def Pre_BIn2Ideal (m : (ℓ : Loc Cert.BIn2Ideal.nD Cert.BIn2Ideal.τ Cert.BIn2Ideal.sig) → Buf (Elt Ideal) ℓ) : Prop :=
  True

def Pre_BIn2RefIdeal (m : (ℓ : Loc Cert.BIn2RefIdeal.nD Cert.BIn2RefIdeal.τ Cert.BIn2RefIdeal.sig) → Buf (Elt Ideal) ℓ) : Prop :=
  True

def Pre_AIn (m : (ℓ : Loc Cert.AIn.nD Cert.AIn.τ Cert.AIn.sig) → Buf (Elt Bits) ℓ) : Prop :=
  True

def Pre_AInIdeal (m : (ℓ : Loc Cert.AInIdeal.nD Cert.AInIdeal.τ Cert.AInIdeal.sig) → Buf (Elt Ideal) ℓ) : Prop :=
  True

def Pre_AInRefIdeal (m : (ℓ : Loc Cert.AInRefIdeal.nD Cert.AInRefIdeal.τ Cert.AInRefIdeal.sig) → Buf (Elt Ideal) ℓ) : Prop :=
  True

def Pre_AOut (m : (ℓ : Loc Cert.AOut.nD Cert.AOut.τ Cert.AOut.sig) → Buf (Elt Bits) ℓ) : Prop :=
  True

def Pre_AOutIdeal (m : (ℓ : Loc Cert.AOutIdeal.nD Cert.AOutIdeal.τ Cert.AOutIdeal.sig) → Buf (Elt Ideal) ℓ) : Prop :=
  True

def Pre_AOutRefIdeal (m : (ℓ : Loc Cert.AOutRefIdeal.nD Cert.AOutRefIdeal.τ Cert.AOutRefIdeal.sig) → Buf (Elt Ideal) ℓ) : Prop :=
  True

def Pre_BOutLoss (m : (ℓ : Loc Cert.BOutLoss.nD Cert.BOutLoss.τ Cert.BOutLoss.sig) → Buf (Elt Bits) ℓ) : Prop :=
  True

def Pre_BOutLossIdeal (m : (ℓ : Loc Cert.BOutLossIdeal.nD Cert.BOutLossIdeal.τ Cert.BOutLossIdeal.sig) → Buf (Elt Ideal) ℓ) : Prop :=
  True

def Pre_BOutLossRefIdeal (m : (ℓ : Loc Cert.BOutLossRefIdeal.nD Cert.BOutLossRefIdeal.τ Cert.BOutLossRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamAOut (m : (ℓ : Loc Cert.AdamAOut.nD Cert.AdamAOut.τ Cert.AdamAOut.sig) → Buf (Elt Bits) ℓ) : Prop :=
  True

def Pre_AdamAOutIdeal (m : (ℓ : Loc Cert.AdamAOutIdeal.nD Cert.AdamAOutIdeal.τ Cert.AdamAOutIdeal.sig) → Buf (Elt Ideal) ℓ) : Prop :=
  True

def Pre_AdamAOutRefIdeal (m : (ℓ : Loc Cert.AdamAOutRefIdeal.nD Cert.AdamAOutRefIdeal.τ Cert.AdamAOutRefIdeal.sig) → Buf (Elt Ideal) ℓ) : Prop :=
  True

def Pre_AdamBIn (m : (ℓ : Loc Cert.AdamBIn.nD Cert.AdamBIn.τ Cert.AdamBIn.sig) → Buf (Elt Bits) ℓ) : Prop :=
  True

def Pre_AdamBInIdeal (m : (ℓ : Loc Cert.AdamBInIdeal.nD Cert.AdamBInIdeal.τ Cert.AdamBInIdeal.sig) → Buf (Elt Ideal) ℓ) : Prop :=
  True

def Pre_AdamBInRefIdeal (m : (ℓ : Loc Cert.AdamBInRefIdeal.nD Cert.AdamBInRefIdeal.τ Cert.AdamBInRefIdeal.sig) → Buf (Elt Ideal) ℓ) : Prop :=
  True

def Pre_AdamBOut (m : (ℓ : Loc Cert.AdamBOut.nD Cert.AdamBOut.τ Cert.AdamBOut.sig) → Buf (Elt Bits) ℓ) : Prop :=
  True

def Pre_AdamBOutIdeal (m : (ℓ : Loc Cert.AdamBOutIdeal.nD Cert.AdamBOutIdeal.τ Cert.AdamBOutIdeal.sig) → Buf (Elt Ideal) ℓ) : Prop :=
  True

def Pre_AdamBOutRefIdeal (m : (ℓ : Loc Cert.AdamBOutRefIdeal.nD Cert.AdamBOutRefIdeal.τ Cert.AdamBOutRefIdeal.sig) → Buf (Elt Ideal) ℓ) : Prop :=
  True

def Pre_AdamAIn (m : (ℓ : Loc Cert.AdamAIn.nD Cert.AdamAIn.τ Cert.AdamAIn.sig) → Buf (Elt Bits) ℓ) : Prop :=
  True

def Pre_AdamAInIdeal (m : (ℓ : Loc Cert.AdamAInIdeal.nD Cert.AdamAInIdeal.τ Cert.AdamAInIdeal.sig) → Buf (Elt Ideal) ℓ) : Prop :=
  True

def Pre_AdamAInRefIdeal (m : (ℓ : Loc Cert.AdamAInRefIdeal.nD Cert.AdamAInRefIdeal.τ Cert.AdamAInRefIdeal.sig) → Buf (Elt Ideal) ℓ) : Prop :=
  True

def Pre_AttnBwd2 (m : (ℓ : Loc Cert.AttnBwd2.nD Cert.AttnBwd2.τ Cert.AttnBwd2.sig) → Buf (Elt Bits) ℓ) : Prop :=
  True

def Pre_AttnBwd2Ideal (m : (ℓ : Loc Cert.AttnBwd2Ideal.nD Cert.AttnBwd2Ideal.τ Cert.AttnBwd2Ideal.sig) → Buf (Elt Ideal) ℓ) : Prop :=
  True

def Pre_AttnBwd2RefIdeal (m : (ℓ : Loc Cert.AttnBwd2RefIdeal.nD Cert.AttnBwd2RefIdeal.τ Cert.AttnBwd2RefIdeal.sig) → Buf (Elt Ideal) ℓ) : Prop :=
  True

def Pre_InProjBwd (m : (ℓ : Loc Cert.InProjBwd.nD Cert.InProjBwd.τ Cert.InProjBwd.sig) → Buf (Elt Bits) ℓ) : Prop :=
  True

def Pre_InProjBwdIdeal (m : (ℓ : Loc Cert.InProjBwdIdeal.nD Cert.InProjBwdIdeal.τ Cert.InProjBwdIdeal.sig) → Buf (Elt Ideal) ℓ) : Prop :=
  True

def Pre_InProjBwdRefIdeal (m : (ℓ : Loc Cert.InProjBwdRefIdeal.nD Cert.InProjBwdRefIdeal.τ Cert.InProjBwdRefIdeal.sig) → Buf (Elt Ideal) ℓ) : Prop :=
  True

def quiescent_AInDw [hAInDw : Cert.AInDw.Facts] : Prop :=
  ∀ (m : (ℓ : Loc Cert.AInDw.nD Cert.AInDw.τ Cert.AInDw.sig) → Buf (Elt Bits) ℓ) (g : Dev Cert.AInDw.nD → PrngReg), Pre_AInDw m →
    θ_run (Cert.AInDw.defs (F := Bits)) (onTc (τ := Cert.AInDw.τ) (Cert.AInDw.main (F := Bits))) ⟨m, fun _ => 0, g⟩ (fun r => (∀ c : Dev Cert.AInDw.nD,
      r.2.mem ((c.tc : Thread Cert.AInDw.nD Cert.AInDw.τ).loc Cert.AInDw.main_arg0) = m ((c.tc : Thread Cert.AInDw.nD Cert.AInDw.τ).loc Cert.AInDw.main_arg0)
      ∧ r.2.mem ((c.tc : Thread Cert.AInDw.nD Cert.AInDw.τ).loc Cert.AInDw.main_arg1) = m ((c.tc : Thread Cert.AInDw.nD Cert.AInDw.τ).loc Cert.AInDw.main_arg1)
      ∧ r.2.mem ((c.tc : Thread Cert.AInDw.nD Cert.AInDw.τ).loc Cert.AInDw.main_arg2) = m ((c.tc : Thread Cert.AInDw.nD Cert.AInDw.τ).loc Cert.AInDw.main_arg2))
      ∧ r.2.sem = fun _ => 0)

def quiescent_AInDwIdeal [hAInDwIdeal : Cert.AInDwIdeal.Facts] : Prop :=
  ∀ (m : (ℓ : Loc Cert.AInDwIdeal.nD Cert.AInDwIdeal.τ Cert.AInDwIdeal.sig) → Buf (Elt Ideal) ℓ) (g : Dev Cert.AInDwIdeal.nD → PrngReg), Pre_AInDwIdeal m →
    θ_run (Cert.AInDwIdeal.defs (F := Ideal)) (onTc (τ := Cert.AInDwIdeal.τ) (Cert.AInDwIdeal.main (F := Ideal))) ⟨m, fun _ => 0, g⟩ (fun r => (∀ c : Dev Cert.AInDwIdeal.nD,
      r.2.mem ((c.tc : Thread Cert.AInDwIdeal.nD Cert.AInDwIdeal.τ).loc Cert.AInDwIdeal.main_arg0) = m ((c.tc : Thread Cert.AInDwIdeal.nD Cert.AInDwIdeal.τ).loc Cert.AInDwIdeal.main_arg0)
      ∧ r.2.mem ((c.tc : Thread Cert.AInDwIdeal.nD Cert.AInDwIdeal.τ).loc Cert.AInDwIdeal.main_arg1) = m ((c.tc : Thread Cert.AInDwIdeal.nD Cert.AInDwIdeal.τ).loc Cert.AInDwIdeal.main_arg1)
      ∧ r.2.mem ((c.tc : Thread Cert.AInDwIdeal.nD Cert.AInDwIdeal.τ).loc Cert.AInDwIdeal.main_arg2) = m ((c.tc : Thread Cert.AInDwIdeal.nD Cert.AInDwIdeal.τ).loc Cert.AInDwIdeal.main_arg2))
      ∧ r.2.sem = fun _ => 0)

def quiescent_AInDwRefIdeal [hAInDwRefIdeal : Cert.AInDwRefIdeal.Facts] : Prop :=
  ∀ (m : (ℓ : Loc Cert.AInDwRefIdeal.nD Cert.AInDwRefIdeal.τ Cert.AInDwRefIdeal.sig) → Buf (Elt Ideal) ℓ) (g : Dev Cert.AInDwRefIdeal.nD → PrngReg), Pre_AInDwRefIdeal m →
    θ_run (Cert.AInDwRefIdeal.defs (F := Ideal)) (onTc (τ := Cert.AInDwRefIdeal.τ) (Cert.AInDwRefIdeal.main (F := Ideal))) ⟨m, fun _ => 0, g⟩ (fun r => (∀ c : Dev Cert.AInDwRefIdeal.nD,
      r.2.mem ((c.tc : Thread Cert.AInDwRefIdeal.nD Cert.AInDwRefIdeal.τ).loc Cert.AInDwRefIdeal.main_arg0) = m ((c.tc : Thread Cert.AInDwRefIdeal.nD Cert.AInDwRefIdeal.τ).loc Cert.AInDwRefIdeal.main_arg0)
      ∧ r.2.mem ((c.tc : Thread Cert.AInDwRefIdeal.nD Cert.AInDwRefIdeal.τ).loc Cert.AInDwRefIdeal.main_arg1) = m ((c.tc : Thread Cert.AInDwRefIdeal.nD Cert.AInDwRefIdeal.τ).loc Cert.AInDwRefIdeal.main_arg1)
      ∧ r.2.mem ((c.tc : Thread Cert.AInDwRefIdeal.nD Cert.AInDwRefIdeal.τ).loc Cert.AInDwRefIdeal.main_arg2) = m ((c.tc : Thread Cert.AInDwRefIdeal.nD Cert.AInDwRefIdeal.τ).loc Cert.AInDwRefIdeal.main_arg2))
      ∧ r.2.sem = fun _ => 0)

def quiescent_AOutDw [hAOutDw : Cert.AOutDw.Facts] : Prop :=
  ∀ (m : (ℓ : Loc Cert.AOutDw.nD Cert.AOutDw.τ Cert.AOutDw.sig) → Buf (Elt Bits) ℓ) (g : Dev Cert.AOutDw.nD → PrngReg), Pre_AOutDw m →
    θ_run (Cert.AOutDw.defs (F := Bits)) (onTc (τ := Cert.AOutDw.τ) (Cert.AOutDw.main (F := Bits))) ⟨m, fun _ => 0, g⟩ (fun r => (∀ c : Dev Cert.AOutDw.nD,
      r.2.mem ((c.tc : Thread Cert.AOutDw.nD Cert.AOutDw.τ).loc Cert.AOutDw.main_arg0) = m ((c.tc : Thread Cert.AOutDw.nD Cert.AOutDw.τ).loc Cert.AOutDw.main_arg0)
      ∧ r.2.mem ((c.tc : Thread Cert.AOutDw.nD Cert.AOutDw.τ).loc Cert.AOutDw.main_arg1) = m ((c.tc : Thread Cert.AOutDw.nD Cert.AOutDw.τ).loc Cert.AOutDw.main_arg1)
      ∧ r.2.mem ((c.tc : Thread Cert.AOutDw.nD Cert.AOutDw.τ).loc Cert.AOutDw.main_arg2) = m ((c.tc : Thread Cert.AOutDw.nD Cert.AOutDw.τ).loc Cert.AOutDw.main_arg2))
      ∧ r.2.sem = fun _ => 0)

def quiescent_AOutDwIdeal [hAOutDwIdeal : Cert.AOutDwIdeal.Facts] : Prop :=
  ∀ (m : (ℓ : Loc Cert.AOutDwIdeal.nD Cert.AOutDwIdeal.τ Cert.AOutDwIdeal.sig) → Buf (Elt Ideal) ℓ) (g : Dev Cert.AOutDwIdeal.nD → PrngReg), Pre_AOutDwIdeal m →
    θ_run (Cert.AOutDwIdeal.defs (F := Ideal)) (onTc (τ := Cert.AOutDwIdeal.τ) (Cert.AOutDwIdeal.main (F := Ideal))) ⟨m, fun _ => 0, g⟩ (fun r => (∀ c : Dev Cert.AOutDwIdeal.nD,
      r.2.mem ((c.tc : Thread Cert.AOutDwIdeal.nD Cert.AOutDwIdeal.τ).loc Cert.AOutDwIdeal.main_arg0) = m ((c.tc : Thread Cert.AOutDwIdeal.nD Cert.AOutDwIdeal.τ).loc Cert.AOutDwIdeal.main_arg0)
      ∧ r.2.mem ((c.tc : Thread Cert.AOutDwIdeal.nD Cert.AOutDwIdeal.τ).loc Cert.AOutDwIdeal.main_arg1) = m ((c.tc : Thread Cert.AOutDwIdeal.nD Cert.AOutDwIdeal.τ).loc Cert.AOutDwIdeal.main_arg1)
      ∧ r.2.mem ((c.tc : Thread Cert.AOutDwIdeal.nD Cert.AOutDwIdeal.τ).loc Cert.AOutDwIdeal.main_arg2) = m ((c.tc : Thread Cert.AOutDwIdeal.nD Cert.AOutDwIdeal.τ).loc Cert.AOutDwIdeal.main_arg2))
      ∧ r.2.sem = fun _ => 0)

def quiescent_AOutDwRefIdeal [hAOutDwRefIdeal : Cert.AOutDwRefIdeal.Facts] : Prop :=
  ∀ (m : (ℓ : Loc Cert.AOutDwRefIdeal.nD Cert.AOutDwRefIdeal.τ Cert.AOutDwRefIdeal.sig) → Buf (Elt Ideal) ℓ) (g : Dev Cert.AOutDwRefIdeal.nD → PrngReg), Pre_AOutDwRefIdeal m →
    θ_run (Cert.AOutDwRefIdeal.defs (F := Ideal)) (onTc (τ := Cert.AOutDwRefIdeal.τ) (Cert.AOutDwRefIdeal.main (F := Ideal))) ⟨m, fun _ => 0, g⟩ (fun r => (∀ c : Dev Cert.AOutDwRefIdeal.nD,
      r.2.mem ((c.tc : Thread Cert.AOutDwRefIdeal.nD Cert.AOutDwRefIdeal.τ).loc Cert.AOutDwRefIdeal.main_arg0) = m ((c.tc : Thread Cert.AOutDwRefIdeal.nD Cert.AOutDwRefIdeal.τ).loc Cert.AOutDwRefIdeal.main_arg0)
      ∧ r.2.mem ((c.tc : Thread Cert.AOutDwRefIdeal.nD Cert.AOutDwRefIdeal.τ).loc Cert.AOutDwRefIdeal.main_arg1) = m ((c.tc : Thread Cert.AOutDwRefIdeal.nD Cert.AOutDwRefIdeal.τ).loc Cert.AOutDwRefIdeal.main_arg1)
      ∧ r.2.mem ((c.tc : Thread Cert.AOutDwRefIdeal.nD Cert.AOutDwRefIdeal.τ).loc Cert.AOutDwRefIdeal.main_arg2) = m ((c.tc : Thread Cert.AOutDwRefIdeal.nD Cert.AOutDwRefIdeal.τ).loc Cert.AOutDwRefIdeal.main_arg2))
      ∧ r.2.sem = fun _ => 0)

def quiescent_AOutDx [hAOutDx : Cert.AOutDx.Facts] : Prop :=
  ∀ (m : (ℓ : Loc Cert.AOutDx.nD Cert.AOutDx.τ Cert.AOutDx.sig) → Buf (Elt Bits) ℓ) (g : Dev Cert.AOutDx.nD → PrngReg), Pre_AOutDx m →
    θ_run (Cert.AOutDx.defs (F := Bits)) (onTc (τ := Cert.AOutDx.τ) (Cert.AOutDx.main (F := Bits))) ⟨m, fun _ => 0, g⟩ (fun r => (∀ c : Dev Cert.AOutDx.nD,
      r.2.mem ((c.tc : Thread Cert.AOutDx.nD Cert.AOutDx.τ).loc Cert.AOutDx.main_arg0) = m ((c.tc : Thread Cert.AOutDx.nD Cert.AOutDx.τ).loc Cert.AOutDx.main_arg0)
      ∧ r.2.mem ((c.tc : Thread Cert.AOutDx.nD Cert.AOutDx.τ).loc Cert.AOutDx.main_arg1) = m ((c.tc : Thread Cert.AOutDx.nD Cert.AOutDx.τ).loc Cert.AOutDx.main_arg1)
      ∧ r.2.mem ((c.tc : Thread Cert.AOutDx.nD Cert.AOutDx.τ).loc Cert.AOutDx.main_arg2) = m ((c.tc : Thread Cert.AOutDx.nD Cert.AOutDx.τ).loc Cert.AOutDx.main_arg2))
      ∧ r.2.sem = fun _ => 0)

def quiescent_AOutDxIdeal [hAOutDxIdeal : Cert.AOutDxIdeal.Facts] : Prop :=
  ∀ (m : (ℓ : Loc Cert.AOutDxIdeal.nD Cert.AOutDxIdeal.τ Cert.AOutDxIdeal.sig) → Buf (Elt Ideal) ℓ) (g : Dev Cert.AOutDxIdeal.nD → PrngReg), Pre_AOutDxIdeal m →
    θ_run (Cert.AOutDxIdeal.defs (F := Ideal)) (onTc (τ := Cert.AOutDxIdeal.τ) (Cert.AOutDxIdeal.main (F := Ideal))) ⟨m, fun _ => 0, g⟩ (fun r => (∀ c : Dev Cert.AOutDxIdeal.nD,
      r.2.mem ((c.tc : Thread Cert.AOutDxIdeal.nD Cert.AOutDxIdeal.τ).loc Cert.AOutDxIdeal.main_arg0) = m ((c.tc : Thread Cert.AOutDxIdeal.nD Cert.AOutDxIdeal.τ).loc Cert.AOutDxIdeal.main_arg0)
      ∧ r.2.mem ((c.tc : Thread Cert.AOutDxIdeal.nD Cert.AOutDxIdeal.τ).loc Cert.AOutDxIdeal.main_arg1) = m ((c.tc : Thread Cert.AOutDxIdeal.nD Cert.AOutDxIdeal.τ).loc Cert.AOutDxIdeal.main_arg1)
      ∧ r.2.mem ((c.tc : Thread Cert.AOutDxIdeal.nD Cert.AOutDxIdeal.τ).loc Cert.AOutDxIdeal.main_arg2) = m ((c.tc : Thread Cert.AOutDxIdeal.nD Cert.AOutDxIdeal.τ).loc Cert.AOutDxIdeal.main_arg2))
      ∧ r.2.sem = fun _ => 0)

def quiescent_AOutDxRefIdeal [hAOutDxRefIdeal : Cert.AOutDxRefIdeal.Facts] : Prop :=
  ∀ (m : (ℓ : Loc Cert.AOutDxRefIdeal.nD Cert.AOutDxRefIdeal.τ Cert.AOutDxRefIdeal.sig) → Buf (Elt Ideal) ℓ) (g : Dev Cert.AOutDxRefIdeal.nD → PrngReg), Pre_AOutDxRefIdeal m →
    θ_run (Cert.AOutDxRefIdeal.defs (F := Ideal)) (onTc (τ := Cert.AOutDxRefIdeal.τ) (Cert.AOutDxRefIdeal.main (F := Ideal))) ⟨m, fun _ => 0, g⟩ (fun r => (∀ c : Dev Cert.AOutDxRefIdeal.nD,
      r.2.mem ((c.tc : Thread Cert.AOutDxRefIdeal.nD Cert.AOutDxRefIdeal.τ).loc Cert.AOutDxRefIdeal.main_arg0) = m ((c.tc : Thread Cert.AOutDxRefIdeal.nD Cert.AOutDxRefIdeal.τ).loc Cert.AOutDxRefIdeal.main_arg0)
      ∧ r.2.mem ((c.tc : Thread Cert.AOutDxRefIdeal.nD Cert.AOutDxRefIdeal.τ).loc Cert.AOutDxRefIdeal.main_arg1) = m ((c.tc : Thread Cert.AOutDxRefIdeal.nD Cert.AOutDxRefIdeal.τ).loc Cert.AOutDxRefIdeal.main_arg1)
      ∧ r.2.mem ((c.tc : Thread Cert.AOutDxRefIdeal.nD Cert.AOutDxRefIdeal.τ).loc Cert.AOutDxRefIdeal.main_arg2) = m ((c.tc : Thread Cert.AOutDxRefIdeal.nD Cert.AOutDxRefIdeal.τ).loc Cert.AOutDxRefIdeal.main_arg2))
      ∧ r.2.sem = fun _ => 0)

def quiescent_BOutDw [hBOutDw : Cert.BOutDw.Facts] : Prop :=
  ∀ (m : (ℓ : Loc Cert.BOutDw.nD Cert.BOutDw.τ Cert.BOutDw.sig) → Buf (Elt Bits) ℓ) (g : Dev Cert.BOutDw.nD → PrngReg), Pre_BOutDw m →
    θ_run (Cert.BOutDw.defs (F := Bits)) (onTc (τ := Cert.BOutDw.τ) (Cert.BOutDw.main (F := Bits))) ⟨m, fun _ => 0, g⟩ (fun r => (∀ c : Dev Cert.BOutDw.nD,
      r.2.mem ((c.tc : Thread Cert.BOutDw.nD Cert.BOutDw.τ).loc Cert.BOutDw.main_arg0) = m ((c.tc : Thread Cert.BOutDw.nD Cert.BOutDw.τ).loc Cert.BOutDw.main_arg0)
      ∧ r.2.mem ((c.tc : Thread Cert.BOutDw.nD Cert.BOutDw.τ).loc Cert.BOutDw.main_arg1) = m ((c.tc : Thread Cert.BOutDw.nD Cert.BOutDw.τ).loc Cert.BOutDw.main_arg1)
      ∧ r.2.mem ((c.tc : Thread Cert.BOutDw.nD Cert.BOutDw.τ).loc Cert.BOutDw.main_arg2) = m ((c.tc : Thread Cert.BOutDw.nD Cert.BOutDw.τ).loc Cert.BOutDw.main_arg2))
      ∧ r.2.sem = fun _ => 0)

def quiescent_BOutDwIdeal [hBOutDwIdeal : Cert.BOutDwIdeal.Facts] : Prop :=
  ∀ (m : (ℓ : Loc Cert.BOutDwIdeal.nD Cert.BOutDwIdeal.τ Cert.BOutDwIdeal.sig) → Buf (Elt Ideal) ℓ) (g : Dev Cert.BOutDwIdeal.nD → PrngReg), Pre_BOutDwIdeal m →
    θ_run (Cert.BOutDwIdeal.defs (F := Ideal)) (onTc (τ := Cert.BOutDwIdeal.τ) (Cert.BOutDwIdeal.main (F := Ideal))) ⟨m, fun _ => 0, g⟩ (fun r => (∀ c : Dev Cert.BOutDwIdeal.nD,
      r.2.mem ((c.tc : Thread Cert.BOutDwIdeal.nD Cert.BOutDwIdeal.τ).loc Cert.BOutDwIdeal.main_arg0) = m ((c.tc : Thread Cert.BOutDwIdeal.nD Cert.BOutDwIdeal.τ).loc Cert.BOutDwIdeal.main_arg0)
      ∧ r.2.mem ((c.tc : Thread Cert.BOutDwIdeal.nD Cert.BOutDwIdeal.τ).loc Cert.BOutDwIdeal.main_arg1) = m ((c.tc : Thread Cert.BOutDwIdeal.nD Cert.BOutDwIdeal.τ).loc Cert.BOutDwIdeal.main_arg1)
      ∧ r.2.mem ((c.tc : Thread Cert.BOutDwIdeal.nD Cert.BOutDwIdeal.τ).loc Cert.BOutDwIdeal.main_arg2) = m ((c.tc : Thread Cert.BOutDwIdeal.nD Cert.BOutDwIdeal.τ).loc Cert.BOutDwIdeal.main_arg2))
      ∧ r.2.sem = fun _ => 0)

def quiescent_BOutDwRefIdeal [hBOutDwRefIdeal : Cert.BOutDwRefIdeal.Facts] : Prop :=
  ∀ (m : (ℓ : Loc Cert.BOutDwRefIdeal.nD Cert.BOutDwRefIdeal.τ Cert.BOutDwRefIdeal.sig) → Buf (Elt Ideal) ℓ) (g : Dev Cert.BOutDwRefIdeal.nD → PrngReg), Pre_BOutDwRefIdeal m →
    θ_run (Cert.BOutDwRefIdeal.defs (F := Ideal)) (onTc (τ := Cert.BOutDwRefIdeal.τ) (Cert.BOutDwRefIdeal.main (F := Ideal))) ⟨m, fun _ => 0, g⟩ (fun r => (∀ c : Dev Cert.BOutDwRefIdeal.nD,
      r.2.mem ((c.tc : Thread Cert.BOutDwRefIdeal.nD Cert.BOutDwRefIdeal.τ).loc Cert.BOutDwRefIdeal.main_arg0) = m ((c.tc : Thread Cert.BOutDwRefIdeal.nD Cert.BOutDwRefIdeal.τ).loc Cert.BOutDwRefIdeal.main_arg0)
      ∧ r.2.mem ((c.tc : Thread Cert.BOutDwRefIdeal.nD Cert.BOutDwRefIdeal.τ).loc Cert.BOutDwRefIdeal.main_arg1) = m ((c.tc : Thread Cert.BOutDwRefIdeal.nD Cert.BOutDwRefIdeal.τ).loc Cert.BOutDwRefIdeal.main_arg1)
      ∧ r.2.mem ((c.tc : Thread Cert.BOutDwRefIdeal.nD Cert.BOutDwRefIdeal.τ).loc Cert.BOutDwRefIdeal.main_arg2) = m ((c.tc : Thread Cert.BOutDwRefIdeal.nD Cert.BOutDwRefIdeal.τ).loc Cert.BOutDwRefIdeal.main_arg2))
      ∧ r.2.sem = fun _ => 0)

def quiescent_BOutDx [hBOutDx : Cert.BOutDx.Facts] : Prop :=
  ∀ (m : (ℓ : Loc Cert.BOutDx.nD Cert.BOutDx.τ Cert.BOutDx.sig) → Buf (Elt Bits) ℓ) (g : Dev Cert.BOutDx.nD → PrngReg), Pre_BOutDx m →
    θ_run (Cert.BOutDx.defs (F := Bits)) (onTc (τ := Cert.BOutDx.τ) (Cert.BOutDx.main (F := Bits))) ⟨m, fun _ => 0, g⟩ (fun r => (∀ c : Dev Cert.BOutDx.nD,
      r.2.mem ((c.tc : Thread Cert.BOutDx.nD Cert.BOutDx.τ).loc Cert.BOutDx.main_arg0) = m ((c.tc : Thread Cert.BOutDx.nD Cert.BOutDx.τ).loc Cert.BOutDx.main_arg0)
      ∧ r.2.mem ((c.tc : Thread Cert.BOutDx.nD Cert.BOutDx.τ).loc Cert.BOutDx.main_arg1) = m ((c.tc : Thread Cert.BOutDx.nD Cert.BOutDx.τ).loc Cert.BOutDx.main_arg1)
      ∧ r.2.mem ((c.tc : Thread Cert.BOutDx.nD Cert.BOutDx.τ).loc Cert.BOutDx.main_arg2) = m ((c.tc : Thread Cert.BOutDx.nD Cert.BOutDx.τ).loc Cert.BOutDx.main_arg2))
      ∧ r.2.sem = fun _ => 0)

def quiescent_BOutDxIdeal [hBOutDxIdeal : Cert.BOutDxIdeal.Facts] : Prop :=
  ∀ (m : (ℓ : Loc Cert.BOutDxIdeal.nD Cert.BOutDxIdeal.τ Cert.BOutDxIdeal.sig) → Buf (Elt Ideal) ℓ) (g : Dev Cert.BOutDxIdeal.nD → PrngReg), Pre_BOutDxIdeal m →
    θ_run (Cert.BOutDxIdeal.defs (F := Ideal)) (onTc (τ := Cert.BOutDxIdeal.τ) (Cert.BOutDxIdeal.main (F := Ideal))) ⟨m, fun _ => 0, g⟩ (fun r => (∀ c : Dev Cert.BOutDxIdeal.nD,
      r.2.mem ((c.tc : Thread Cert.BOutDxIdeal.nD Cert.BOutDxIdeal.τ).loc Cert.BOutDxIdeal.main_arg0) = m ((c.tc : Thread Cert.BOutDxIdeal.nD Cert.BOutDxIdeal.τ).loc Cert.BOutDxIdeal.main_arg0)
      ∧ r.2.mem ((c.tc : Thread Cert.BOutDxIdeal.nD Cert.BOutDxIdeal.τ).loc Cert.BOutDxIdeal.main_arg1) = m ((c.tc : Thread Cert.BOutDxIdeal.nD Cert.BOutDxIdeal.τ).loc Cert.BOutDxIdeal.main_arg1)
      ∧ r.2.mem ((c.tc : Thread Cert.BOutDxIdeal.nD Cert.BOutDxIdeal.τ).loc Cert.BOutDxIdeal.main_arg2) = m ((c.tc : Thread Cert.BOutDxIdeal.nD Cert.BOutDxIdeal.τ).loc Cert.BOutDxIdeal.main_arg2))
      ∧ r.2.sem = fun _ => 0)

def quiescent_BOutDxRefIdeal [hBOutDxRefIdeal : Cert.BOutDxRefIdeal.Facts] : Prop :=
  ∀ (m : (ℓ : Loc Cert.BOutDxRefIdeal.nD Cert.BOutDxRefIdeal.τ Cert.BOutDxRefIdeal.sig) → Buf (Elt Ideal) ℓ) (g : Dev Cert.BOutDxRefIdeal.nD → PrngReg), Pre_BOutDxRefIdeal m →
    θ_run (Cert.BOutDxRefIdeal.defs (F := Ideal)) (onTc (τ := Cert.BOutDxRefIdeal.τ) (Cert.BOutDxRefIdeal.main (F := Ideal))) ⟨m, fun _ => 0, g⟩ (fun r => (∀ c : Dev Cert.BOutDxRefIdeal.nD,
      r.2.mem ((c.tc : Thread Cert.BOutDxRefIdeal.nD Cert.BOutDxRefIdeal.τ).loc Cert.BOutDxRefIdeal.main_arg0) = m ((c.tc : Thread Cert.BOutDxRefIdeal.nD Cert.BOutDxRefIdeal.τ).loc Cert.BOutDxRefIdeal.main_arg0)
      ∧ r.2.mem ((c.tc : Thread Cert.BOutDxRefIdeal.nD Cert.BOutDxRefIdeal.τ).loc Cert.BOutDxRefIdeal.main_arg1) = m ((c.tc : Thread Cert.BOutDxRefIdeal.nD Cert.BOutDxRefIdeal.τ).loc Cert.BOutDxRefIdeal.main_arg1)
      ∧ r.2.mem ((c.tc : Thread Cert.BOutDxRefIdeal.nD Cert.BOutDxRefIdeal.τ).loc Cert.BOutDxRefIdeal.main_arg2) = m ((c.tc : Thread Cert.BOutDxRefIdeal.nD Cert.BOutDxRefIdeal.τ).loc Cert.BOutDxRefIdeal.main_arg2))
      ∧ r.2.sem = fun _ => 0)

def quiescent_BInDw0 [hBInDw0 : Cert.BInDw0.Facts] : Prop :=
  ∀ (m : (ℓ : Loc Cert.BInDw0.nD Cert.BInDw0.τ Cert.BInDw0.sig) → Buf (Elt Bits) ℓ) (g : Dev Cert.BInDw0.nD → PrngReg), Pre_BInDw0 m →
    θ_run (Cert.BInDw0.defs (F := Bits)) (onTc (τ := Cert.BInDw0.τ) (Cert.BInDw0.main (F := Bits))) ⟨m, fun _ => 0, g⟩ (fun r => (∀ c : Dev Cert.BInDw0.nD,
      r.2.mem ((c.tc : Thread Cert.BInDw0.nD Cert.BInDw0.τ).loc Cert.BInDw0.main_arg0) = m ((c.tc : Thread Cert.BInDw0.nD Cert.BInDw0.τ).loc Cert.BInDw0.main_arg0)
      ∧ r.2.mem ((c.tc : Thread Cert.BInDw0.nD Cert.BInDw0.τ).loc Cert.BInDw0.main_arg1) = m ((c.tc : Thread Cert.BInDw0.nD Cert.BInDw0.τ).loc Cert.BInDw0.main_arg1)
      ∧ r.2.mem ((c.tc : Thread Cert.BInDw0.nD Cert.BInDw0.τ).loc Cert.BInDw0.main_arg2) = m ((c.tc : Thread Cert.BInDw0.nD Cert.BInDw0.τ).loc Cert.BInDw0.main_arg2))
      ∧ r.2.sem = fun _ => 0)

def quiescent_BInDw0Ideal [hBInDw0Ideal : Cert.BInDw0Ideal.Facts] : Prop :=
  ∀ (m : (ℓ : Loc Cert.BInDw0Ideal.nD Cert.BInDw0Ideal.τ Cert.BInDw0Ideal.sig) → Buf (Elt Ideal) ℓ) (g : Dev Cert.BInDw0Ideal.nD → PrngReg), Pre_BInDw0Ideal m →
    θ_run (Cert.BInDw0Ideal.defs (F := Ideal)) (onTc (τ := Cert.BInDw0Ideal.τ) (Cert.BInDw0Ideal.main (F := Ideal))) ⟨m, fun _ => 0, g⟩ (fun r => (∀ c : Dev Cert.BInDw0Ideal.nD,
      r.2.mem ((c.tc : Thread Cert.BInDw0Ideal.nD Cert.BInDw0Ideal.τ).loc Cert.BInDw0Ideal.main_arg0) = m ((c.tc : Thread Cert.BInDw0Ideal.nD Cert.BInDw0Ideal.τ).loc Cert.BInDw0Ideal.main_arg0)
      ∧ r.2.mem ((c.tc : Thread Cert.BInDw0Ideal.nD Cert.BInDw0Ideal.τ).loc Cert.BInDw0Ideal.main_arg1) = m ((c.tc : Thread Cert.BInDw0Ideal.nD Cert.BInDw0Ideal.τ).loc Cert.BInDw0Ideal.main_arg1)
      ∧ r.2.mem ((c.tc : Thread Cert.BInDw0Ideal.nD Cert.BInDw0Ideal.τ).loc Cert.BInDw0Ideal.main_arg2) = m ((c.tc : Thread Cert.BInDw0Ideal.nD Cert.BInDw0Ideal.τ).loc Cert.BInDw0Ideal.main_arg2))
      ∧ r.2.sem = fun _ => 0)

def quiescent_BInDw0RefIdeal [hBInDw0RefIdeal : Cert.BInDw0RefIdeal.Facts] : Prop :=
  ∀ (m : (ℓ : Loc Cert.BInDw0RefIdeal.nD Cert.BInDw0RefIdeal.τ Cert.BInDw0RefIdeal.sig) → Buf (Elt Ideal) ℓ) (g : Dev Cert.BInDw0RefIdeal.nD → PrngReg), Pre_BInDw0RefIdeal m →
    θ_run (Cert.BInDw0RefIdeal.defs (F := Ideal)) (onTc (τ := Cert.BInDw0RefIdeal.τ) (Cert.BInDw0RefIdeal.main (F := Ideal))) ⟨m, fun _ => 0, g⟩ (fun r => (∀ c : Dev Cert.BInDw0RefIdeal.nD,
      r.2.mem ((c.tc : Thread Cert.BInDw0RefIdeal.nD Cert.BInDw0RefIdeal.τ).loc Cert.BInDw0RefIdeal.main_arg0) = m ((c.tc : Thread Cert.BInDw0RefIdeal.nD Cert.BInDw0RefIdeal.τ).loc Cert.BInDw0RefIdeal.main_arg0)
      ∧ r.2.mem ((c.tc : Thread Cert.BInDw0RefIdeal.nD Cert.BInDw0RefIdeal.τ).loc Cert.BInDw0RefIdeal.main_arg1) = m ((c.tc : Thread Cert.BInDw0RefIdeal.nD Cert.BInDw0RefIdeal.τ).loc Cert.BInDw0RefIdeal.main_arg1)
      ∧ r.2.mem ((c.tc : Thread Cert.BInDw0RefIdeal.nD Cert.BInDw0RefIdeal.τ).loc Cert.BInDw0RefIdeal.main_arg2) = m ((c.tc : Thread Cert.BInDw0RefIdeal.nD Cert.BInDw0RefIdeal.τ).loc Cert.BInDw0RefIdeal.main_arg2))
      ∧ r.2.sem = fun _ => 0)

def quiescent_BInDx0 [hBInDx0 : Cert.BInDx0.Facts] : Prop :=
  ∀ (m : (ℓ : Loc Cert.BInDx0.nD Cert.BInDx0.τ Cert.BInDx0.sig) → Buf (Elt Bits) ℓ) (g : Dev Cert.BInDx0.nD → PrngReg), Pre_BInDx0 m →
    θ_run (Cert.BInDx0.defs (F := Bits)) (onTc (τ := Cert.BInDx0.τ) (Cert.BInDx0.main (F := Bits))) ⟨m, fun _ => 0, g⟩ (fun r => (∀ c : Dev Cert.BInDx0.nD,
      r.2.mem ((c.tc : Thread Cert.BInDx0.nD Cert.BInDx0.τ).loc Cert.BInDx0.main_arg0) = m ((c.tc : Thread Cert.BInDx0.nD Cert.BInDx0.τ).loc Cert.BInDx0.main_arg0)
      ∧ r.2.mem ((c.tc : Thread Cert.BInDx0.nD Cert.BInDx0.τ).loc Cert.BInDx0.main_arg1) = m ((c.tc : Thread Cert.BInDx0.nD Cert.BInDx0.τ).loc Cert.BInDx0.main_arg1)
      ∧ r.2.mem ((c.tc : Thread Cert.BInDx0.nD Cert.BInDx0.τ).loc Cert.BInDx0.main_arg2) = m ((c.tc : Thread Cert.BInDx0.nD Cert.BInDx0.τ).loc Cert.BInDx0.main_arg2))
      ∧ r.2.sem = fun _ => 0)

def quiescent_BInDx0Ideal [hBInDx0Ideal : Cert.BInDx0Ideal.Facts] : Prop :=
  ∀ (m : (ℓ : Loc Cert.BInDx0Ideal.nD Cert.BInDx0Ideal.τ Cert.BInDx0Ideal.sig) → Buf (Elt Ideal) ℓ) (g : Dev Cert.BInDx0Ideal.nD → PrngReg), Pre_BInDx0Ideal m →
    θ_run (Cert.BInDx0Ideal.defs (F := Ideal)) (onTc (τ := Cert.BInDx0Ideal.τ) (Cert.BInDx0Ideal.main (F := Ideal))) ⟨m, fun _ => 0, g⟩ (fun r => (∀ c : Dev Cert.BInDx0Ideal.nD,
      r.2.mem ((c.tc : Thread Cert.BInDx0Ideal.nD Cert.BInDx0Ideal.τ).loc Cert.BInDx0Ideal.main_arg0) = m ((c.tc : Thread Cert.BInDx0Ideal.nD Cert.BInDx0Ideal.τ).loc Cert.BInDx0Ideal.main_arg0)
      ∧ r.2.mem ((c.tc : Thread Cert.BInDx0Ideal.nD Cert.BInDx0Ideal.τ).loc Cert.BInDx0Ideal.main_arg1) = m ((c.tc : Thread Cert.BInDx0Ideal.nD Cert.BInDx0Ideal.τ).loc Cert.BInDx0Ideal.main_arg1)
      ∧ r.2.mem ((c.tc : Thread Cert.BInDx0Ideal.nD Cert.BInDx0Ideal.τ).loc Cert.BInDx0Ideal.main_arg2) = m ((c.tc : Thread Cert.BInDx0Ideal.nD Cert.BInDx0Ideal.τ).loc Cert.BInDx0Ideal.main_arg2))
      ∧ r.2.sem = fun _ => 0)

def quiescent_BInDx0RefIdeal [hBInDx0RefIdeal : Cert.BInDx0RefIdeal.Facts] : Prop :=
  ∀ (m : (ℓ : Loc Cert.BInDx0RefIdeal.nD Cert.BInDx0RefIdeal.τ Cert.BInDx0RefIdeal.sig) → Buf (Elt Ideal) ℓ) (g : Dev Cert.BInDx0RefIdeal.nD → PrngReg), Pre_BInDx0RefIdeal m →
    θ_run (Cert.BInDx0RefIdeal.defs (F := Ideal)) (onTc (τ := Cert.BInDx0RefIdeal.τ) (Cert.BInDx0RefIdeal.main (F := Ideal))) ⟨m, fun _ => 0, g⟩ (fun r => (∀ c : Dev Cert.BInDx0RefIdeal.nD,
      r.2.mem ((c.tc : Thread Cert.BInDx0RefIdeal.nD Cert.BInDx0RefIdeal.τ).loc Cert.BInDx0RefIdeal.main_arg0) = m ((c.tc : Thread Cert.BInDx0RefIdeal.nD Cert.BInDx0RefIdeal.τ).loc Cert.BInDx0RefIdeal.main_arg0)
      ∧ r.2.mem ((c.tc : Thread Cert.BInDx0RefIdeal.nD Cert.BInDx0RefIdeal.τ).loc Cert.BInDx0RefIdeal.main_arg1) = m ((c.tc : Thread Cert.BInDx0RefIdeal.nD Cert.BInDx0RefIdeal.τ).loc Cert.BInDx0RefIdeal.main_arg1)
      ∧ r.2.mem ((c.tc : Thread Cert.BInDx0RefIdeal.nD Cert.BInDx0RefIdeal.τ).loc Cert.BInDx0RefIdeal.main_arg2) = m ((c.tc : Thread Cert.BInDx0RefIdeal.nD Cert.BInDx0RefIdeal.τ).loc Cert.BInDx0RefIdeal.main_arg2))
      ∧ r.2.sem = fun _ => 0)

def quiescent_BIn0 [hBIn0 : Cert.BIn0.Facts] : Prop :=
  ∀ (m : (ℓ : Loc Cert.BIn0.nD Cert.BIn0.τ Cert.BIn0.sig) → Buf (Elt Bits) ℓ) (g : Dev Cert.BIn0.nD → PrngReg), Pre_BIn0 m →
    θ_run (Cert.BIn0.defs (F := Bits)) (onTc (τ := Cert.BIn0.τ) (Cert.BIn0.main (F := Bits))) ⟨m, fun _ => 0, g⟩ (fun r => (∀ c : Dev Cert.BIn0.nD,
      r.2.mem ((c.tc : Thread Cert.BIn0.nD Cert.BIn0.τ).loc Cert.BIn0.main_arg0) = m ((c.tc : Thread Cert.BIn0.nD Cert.BIn0.τ).loc Cert.BIn0.main_arg0)
      ∧ r.2.mem ((c.tc : Thread Cert.BIn0.nD Cert.BIn0.τ).loc Cert.BIn0.main_arg1) = m ((c.tc : Thread Cert.BIn0.nD Cert.BIn0.τ).loc Cert.BIn0.main_arg1))
      ∧ r.2.sem = fun _ => 0)

def quiescent_BIn0Ideal [hBIn0Ideal : Cert.BIn0Ideal.Facts] : Prop :=
  ∀ (m : (ℓ : Loc Cert.BIn0Ideal.nD Cert.BIn0Ideal.τ Cert.BIn0Ideal.sig) → Buf (Elt Ideal) ℓ) (g : Dev Cert.BIn0Ideal.nD → PrngReg), Pre_BIn0Ideal m →
    θ_run (Cert.BIn0Ideal.defs (F := Ideal)) (onTc (τ := Cert.BIn0Ideal.τ) (Cert.BIn0Ideal.main (F := Ideal))) ⟨m, fun _ => 0, g⟩ (fun r => (∀ c : Dev Cert.BIn0Ideal.nD,
      r.2.mem ((c.tc : Thread Cert.BIn0Ideal.nD Cert.BIn0Ideal.τ).loc Cert.BIn0Ideal.main_arg0) = m ((c.tc : Thread Cert.BIn0Ideal.nD Cert.BIn0Ideal.τ).loc Cert.BIn0Ideal.main_arg0)
      ∧ r.2.mem ((c.tc : Thread Cert.BIn0Ideal.nD Cert.BIn0Ideal.τ).loc Cert.BIn0Ideal.main_arg1) = m ((c.tc : Thread Cert.BIn0Ideal.nD Cert.BIn0Ideal.τ).loc Cert.BIn0Ideal.main_arg1))
      ∧ r.2.sem = fun _ => 0)

def quiescent_BIn0RefIdeal [hBIn0RefIdeal : Cert.BIn0RefIdeal.Facts] : Prop :=
  ∀ (m : (ℓ : Loc Cert.BIn0RefIdeal.nD Cert.BIn0RefIdeal.τ Cert.BIn0RefIdeal.sig) → Buf (Elt Ideal) ℓ) (g : Dev Cert.BIn0RefIdeal.nD → PrngReg), Pre_BIn0RefIdeal m →
    θ_run (Cert.BIn0RefIdeal.defs (F := Ideal)) (onTc (τ := Cert.BIn0RefIdeal.τ) (Cert.BIn0RefIdeal.main (F := Ideal))) ⟨m, fun _ => 0, g⟩ (fun r => (∀ c : Dev Cert.BIn0RefIdeal.nD,
      r.2.mem ((c.tc : Thread Cert.BIn0RefIdeal.nD Cert.BIn0RefIdeal.τ).loc Cert.BIn0RefIdeal.main_arg0) = m ((c.tc : Thread Cert.BIn0RefIdeal.nD Cert.BIn0RefIdeal.τ).loc Cert.BIn0RefIdeal.main_arg0)
      ∧ r.2.mem ((c.tc : Thread Cert.BIn0RefIdeal.nD Cert.BIn0RefIdeal.τ).loc Cert.BIn0RefIdeal.main_arg1) = m ((c.tc : Thread Cert.BIn0RefIdeal.nD Cert.BIn0RefIdeal.τ).loc Cert.BIn0RefIdeal.main_arg1))
      ∧ r.2.sem = fun _ => 0)

def quiescent_BInDw1 [hBInDw1 : Cert.BInDw1.Facts] : Prop :=
  ∀ (m : (ℓ : Loc Cert.BInDw1.nD Cert.BInDw1.τ Cert.BInDw1.sig) → Buf (Elt Bits) ℓ) (g : Dev Cert.BInDw1.nD → PrngReg), Pre_BInDw1 m →
    θ_run (Cert.BInDw1.defs (F := Bits)) (onTc (τ := Cert.BInDw1.τ) (Cert.BInDw1.main (F := Bits))) ⟨m, fun _ => 0, g⟩ (fun r => (∀ c : Dev Cert.BInDw1.nD,
      r.2.mem ((c.tc : Thread Cert.BInDw1.nD Cert.BInDw1.τ).loc Cert.BInDw1.main_arg0) = m ((c.tc : Thread Cert.BInDw1.nD Cert.BInDw1.τ).loc Cert.BInDw1.main_arg0)
      ∧ r.2.mem ((c.tc : Thread Cert.BInDw1.nD Cert.BInDw1.τ).loc Cert.BInDw1.main_arg1) = m ((c.tc : Thread Cert.BInDw1.nD Cert.BInDw1.τ).loc Cert.BInDw1.main_arg1)
      ∧ r.2.mem ((c.tc : Thread Cert.BInDw1.nD Cert.BInDw1.τ).loc Cert.BInDw1.main_arg2) = m ((c.tc : Thread Cert.BInDw1.nD Cert.BInDw1.τ).loc Cert.BInDw1.main_arg2))
      ∧ r.2.sem = fun _ => 0)

def quiescent_BInDw1Ideal [hBInDw1Ideal : Cert.BInDw1Ideal.Facts] : Prop :=
  ∀ (m : (ℓ : Loc Cert.BInDw1Ideal.nD Cert.BInDw1Ideal.τ Cert.BInDw1Ideal.sig) → Buf (Elt Ideal) ℓ) (g : Dev Cert.BInDw1Ideal.nD → PrngReg), Pre_BInDw1Ideal m →
    θ_run (Cert.BInDw1Ideal.defs (F := Ideal)) (onTc (τ := Cert.BInDw1Ideal.τ) (Cert.BInDw1Ideal.main (F := Ideal))) ⟨m, fun _ => 0, g⟩ (fun r => (∀ c : Dev Cert.BInDw1Ideal.nD,
      r.2.mem ((c.tc : Thread Cert.BInDw1Ideal.nD Cert.BInDw1Ideal.τ).loc Cert.BInDw1Ideal.main_arg0) = m ((c.tc : Thread Cert.BInDw1Ideal.nD Cert.BInDw1Ideal.τ).loc Cert.BInDw1Ideal.main_arg0)
      ∧ r.2.mem ((c.tc : Thread Cert.BInDw1Ideal.nD Cert.BInDw1Ideal.τ).loc Cert.BInDw1Ideal.main_arg1) = m ((c.tc : Thread Cert.BInDw1Ideal.nD Cert.BInDw1Ideal.τ).loc Cert.BInDw1Ideal.main_arg1)
      ∧ r.2.mem ((c.tc : Thread Cert.BInDw1Ideal.nD Cert.BInDw1Ideal.τ).loc Cert.BInDw1Ideal.main_arg2) = m ((c.tc : Thread Cert.BInDw1Ideal.nD Cert.BInDw1Ideal.τ).loc Cert.BInDw1Ideal.main_arg2))
      ∧ r.2.sem = fun _ => 0)

def quiescent_BInDw1RefIdeal [hBInDw1RefIdeal : Cert.BInDw1RefIdeal.Facts] : Prop :=
  ∀ (m : (ℓ : Loc Cert.BInDw1RefIdeal.nD Cert.BInDw1RefIdeal.τ Cert.BInDw1RefIdeal.sig) → Buf (Elt Ideal) ℓ) (g : Dev Cert.BInDw1RefIdeal.nD → PrngReg), Pre_BInDw1RefIdeal m →
    θ_run (Cert.BInDw1RefIdeal.defs (F := Ideal)) (onTc (τ := Cert.BInDw1RefIdeal.τ) (Cert.BInDw1RefIdeal.main (F := Ideal))) ⟨m, fun _ => 0, g⟩ (fun r => (∀ c : Dev Cert.BInDw1RefIdeal.nD,
      r.2.mem ((c.tc : Thread Cert.BInDw1RefIdeal.nD Cert.BInDw1RefIdeal.τ).loc Cert.BInDw1RefIdeal.main_arg0) = m ((c.tc : Thread Cert.BInDw1RefIdeal.nD Cert.BInDw1RefIdeal.τ).loc Cert.BInDw1RefIdeal.main_arg0)
      ∧ r.2.mem ((c.tc : Thread Cert.BInDw1RefIdeal.nD Cert.BInDw1RefIdeal.τ).loc Cert.BInDw1RefIdeal.main_arg1) = m ((c.tc : Thread Cert.BInDw1RefIdeal.nD Cert.BInDw1RefIdeal.τ).loc Cert.BInDw1RefIdeal.main_arg1)
      ∧ r.2.mem ((c.tc : Thread Cert.BInDw1RefIdeal.nD Cert.BInDw1RefIdeal.τ).loc Cert.BInDw1RefIdeal.main_arg2) = m ((c.tc : Thread Cert.BInDw1RefIdeal.nD Cert.BInDw1RefIdeal.τ).loc Cert.BInDw1RefIdeal.main_arg2))
      ∧ r.2.sem = fun _ => 0)

def quiescent_BInDx1 [hBInDx1 : Cert.BInDx1.Facts] : Prop :=
  ∀ (m : (ℓ : Loc Cert.BInDx1.nD Cert.BInDx1.τ Cert.BInDx1.sig) → Buf (Elt Bits) ℓ) (g : Dev Cert.BInDx1.nD → PrngReg), Pre_BInDx1 m →
    θ_run (Cert.BInDx1.defs (F := Bits)) (onTc (τ := Cert.BInDx1.τ) (Cert.BInDx1.main (F := Bits))) ⟨m, fun _ => 0, g⟩ (fun r => (∀ c : Dev Cert.BInDx1.nD,
      r.2.mem ((c.tc : Thread Cert.BInDx1.nD Cert.BInDx1.τ).loc Cert.BInDx1.main_arg0) = m ((c.tc : Thread Cert.BInDx1.nD Cert.BInDx1.τ).loc Cert.BInDx1.main_arg0)
      ∧ r.2.mem ((c.tc : Thread Cert.BInDx1.nD Cert.BInDx1.τ).loc Cert.BInDx1.main_arg1) = m ((c.tc : Thread Cert.BInDx1.nD Cert.BInDx1.τ).loc Cert.BInDx1.main_arg1)
      ∧ r.2.mem ((c.tc : Thread Cert.BInDx1.nD Cert.BInDx1.τ).loc Cert.BInDx1.main_arg2) = m ((c.tc : Thread Cert.BInDx1.nD Cert.BInDx1.τ).loc Cert.BInDx1.main_arg2))
      ∧ r.2.sem = fun _ => 0)

def quiescent_BInDx1Ideal [hBInDx1Ideal : Cert.BInDx1Ideal.Facts] : Prop :=
  ∀ (m : (ℓ : Loc Cert.BInDx1Ideal.nD Cert.BInDx1Ideal.τ Cert.BInDx1Ideal.sig) → Buf (Elt Ideal) ℓ) (g : Dev Cert.BInDx1Ideal.nD → PrngReg), Pre_BInDx1Ideal m →
    θ_run (Cert.BInDx1Ideal.defs (F := Ideal)) (onTc (τ := Cert.BInDx1Ideal.τ) (Cert.BInDx1Ideal.main (F := Ideal))) ⟨m, fun _ => 0, g⟩ (fun r => (∀ c : Dev Cert.BInDx1Ideal.nD,
      r.2.mem ((c.tc : Thread Cert.BInDx1Ideal.nD Cert.BInDx1Ideal.τ).loc Cert.BInDx1Ideal.main_arg0) = m ((c.tc : Thread Cert.BInDx1Ideal.nD Cert.BInDx1Ideal.τ).loc Cert.BInDx1Ideal.main_arg0)
      ∧ r.2.mem ((c.tc : Thread Cert.BInDx1Ideal.nD Cert.BInDx1Ideal.τ).loc Cert.BInDx1Ideal.main_arg1) = m ((c.tc : Thread Cert.BInDx1Ideal.nD Cert.BInDx1Ideal.τ).loc Cert.BInDx1Ideal.main_arg1)
      ∧ r.2.mem ((c.tc : Thread Cert.BInDx1Ideal.nD Cert.BInDx1Ideal.τ).loc Cert.BInDx1Ideal.main_arg2) = m ((c.tc : Thread Cert.BInDx1Ideal.nD Cert.BInDx1Ideal.τ).loc Cert.BInDx1Ideal.main_arg2))
      ∧ r.2.sem = fun _ => 0)

def quiescent_BInDx1RefIdeal [hBInDx1RefIdeal : Cert.BInDx1RefIdeal.Facts] : Prop :=
  ∀ (m : (ℓ : Loc Cert.BInDx1RefIdeal.nD Cert.BInDx1RefIdeal.τ Cert.BInDx1RefIdeal.sig) → Buf (Elt Ideal) ℓ) (g : Dev Cert.BInDx1RefIdeal.nD → PrngReg), Pre_BInDx1RefIdeal m →
    θ_run (Cert.BInDx1RefIdeal.defs (F := Ideal)) (onTc (τ := Cert.BInDx1RefIdeal.τ) (Cert.BInDx1RefIdeal.main (F := Ideal))) ⟨m, fun _ => 0, g⟩ (fun r => (∀ c : Dev Cert.BInDx1RefIdeal.nD,
      r.2.mem ((c.tc : Thread Cert.BInDx1RefIdeal.nD Cert.BInDx1RefIdeal.τ).loc Cert.BInDx1RefIdeal.main_arg0) = m ((c.tc : Thread Cert.BInDx1RefIdeal.nD Cert.BInDx1RefIdeal.τ).loc Cert.BInDx1RefIdeal.main_arg0)
      ∧ r.2.mem ((c.tc : Thread Cert.BInDx1RefIdeal.nD Cert.BInDx1RefIdeal.τ).loc Cert.BInDx1RefIdeal.main_arg1) = m ((c.tc : Thread Cert.BInDx1RefIdeal.nD Cert.BInDx1RefIdeal.τ).loc Cert.BInDx1RefIdeal.main_arg1)
      ∧ r.2.mem ((c.tc : Thread Cert.BInDx1RefIdeal.nD Cert.BInDx1RefIdeal.τ).loc Cert.BInDx1RefIdeal.main_arg2) = m ((c.tc : Thread Cert.BInDx1RefIdeal.nD Cert.BInDx1RefIdeal.τ).loc Cert.BInDx1RefIdeal.main_arg2))
      ∧ r.2.sem = fun _ => 0)

def quiescent_BIn1 [hBIn1 : Cert.BIn1.Facts] : Prop :=
  ∀ (m : (ℓ : Loc Cert.BIn1.nD Cert.BIn1.τ Cert.BIn1.sig) → Buf (Elt Bits) ℓ) (g : Dev Cert.BIn1.nD → PrngReg), Pre_BIn1 m →
    θ_run (Cert.BIn1.defs (F := Bits)) (onTc (τ := Cert.BIn1.τ) (Cert.BIn1.main (F := Bits))) ⟨m, fun _ => 0, g⟩ (fun r => (∀ c : Dev Cert.BIn1.nD,
      r.2.mem ((c.tc : Thread Cert.BIn1.nD Cert.BIn1.τ).loc Cert.BIn1.main_arg0) = m ((c.tc : Thread Cert.BIn1.nD Cert.BIn1.τ).loc Cert.BIn1.main_arg0)
      ∧ r.2.mem ((c.tc : Thread Cert.BIn1.nD Cert.BIn1.τ).loc Cert.BIn1.main_arg1) = m ((c.tc : Thread Cert.BIn1.nD Cert.BIn1.τ).loc Cert.BIn1.main_arg1))
      ∧ r.2.sem = fun _ => 0)

def quiescent_BIn1Ideal [hBIn1Ideal : Cert.BIn1Ideal.Facts] : Prop :=
  ∀ (m : (ℓ : Loc Cert.BIn1Ideal.nD Cert.BIn1Ideal.τ Cert.BIn1Ideal.sig) → Buf (Elt Ideal) ℓ) (g : Dev Cert.BIn1Ideal.nD → PrngReg), Pre_BIn1Ideal m →
    θ_run (Cert.BIn1Ideal.defs (F := Ideal)) (onTc (τ := Cert.BIn1Ideal.τ) (Cert.BIn1Ideal.main (F := Ideal))) ⟨m, fun _ => 0, g⟩ (fun r => (∀ c : Dev Cert.BIn1Ideal.nD,
      r.2.mem ((c.tc : Thread Cert.BIn1Ideal.nD Cert.BIn1Ideal.τ).loc Cert.BIn1Ideal.main_arg0) = m ((c.tc : Thread Cert.BIn1Ideal.nD Cert.BIn1Ideal.τ).loc Cert.BIn1Ideal.main_arg0)
      ∧ r.2.mem ((c.tc : Thread Cert.BIn1Ideal.nD Cert.BIn1Ideal.τ).loc Cert.BIn1Ideal.main_arg1) = m ((c.tc : Thread Cert.BIn1Ideal.nD Cert.BIn1Ideal.τ).loc Cert.BIn1Ideal.main_arg1))
      ∧ r.2.sem = fun _ => 0)

def quiescent_BIn1RefIdeal [hBIn1RefIdeal : Cert.BIn1RefIdeal.Facts] : Prop :=
  ∀ (m : (ℓ : Loc Cert.BIn1RefIdeal.nD Cert.BIn1RefIdeal.τ Cert.BIn1RefIdeal.sig) → Buf (Elt Ideal) ℓ) (g : Dev Cert.BIn1RefIdeal.nD → PrngReg), Pre_BIn1RefIdeal m →
    θ_run (Cert.BIn1RefIdeal.defs (F := Ideal)) (onTc (τ := Cert.BIn1RefIdeal.τ) (Cert.BIn1RefIdeal.main (F := Ideal))) ⟨m, fun _ => 0, g⟩ (fun r => (∀ c : Dev Cert.BIn1RefIdeal.nD,
      r.2.mem ((c.tc : Thread Cert.BIn1RefIdeal.nD Cert.BIn1RefIdeal.τ).loc Cert.BIn1RefIdeal.main_arg0) = m ((c.tc : Thread Cert.BIn1RefIdeal.nD Cert.BIn1RefIdeal.τ).loc Cert.BIn1RefIdeal.main_arg0)
      ∧ r.2.mem ((c.tc : Thread Cert.BIn1RefIdeal.nD Cert.BIn1RefIdeal.τ).loc Cert.BIn1RefIdeal.main_arg1) = m ((c.tc : Thread Cert.BIn1RefIdeal.nD Cert.BIn1RefIdeal.τ).loc Cert.BIn1RefIdeal.main_arg1))
      ∧ r.2.sem = fun _ => 0)

def quiescent_BInDw2 [hBInDw2 : Cert.BInDw2.Facts] : Prop :=
  ∀ (m : (ℓ : Loc Cert.BInDw2.nD Cert.BInDw2.τ Cert.BInDw2.sig) → Buf (Elt Bits) ℓ) (g : Dev Cert.BInDw2.nD → PrngReg), Pre_BInDw2 m →
    θ_run (Cert.BInDw2.defs (F := Bits)) (onTc (τ := Cert.BInDw2.τ) (Cert.BInDw2.main (F := Bits))) ⟨m, fun _ => 0, g⟩ (fun r => (∀ c : Dev Cert.BInDw2.nD,
      r.2.mem ((c.tc : Thread Cert.BInDw2.nD Cert.BInDw2.τ).loc Cert.BInDw2.main_arg0) = m ((c.tc : Thread Cert.BInDw2.nD Cert.BInDw2.τ).loc Cert.BInDw2.main_arg0)
      ∧ r.2.mem ((c.tc : Thread Cert.BInDw2.nD Cert.BInDw2.τ).loc Cert.BInDw2.main_arg1) = m ((c.tc : Thread Cert.BInDw2.nD Cert.BInDw2.τ).loc Cert.BInDw2.main_arg1)
      ∧ r.2.mem ((c.tc : Thread Cert.BInDw2.nD Cert.BInDw2.τ).loc Cert.BInDw2.main_arg2) = m ((c.tc : Thread Cert.BInDw2.nD Cert.BInDw2.τ).loc Cert.BInDw2.main_arg2))
      ∧ r.2.sem = fun _ => 0)

def quiescent_BInDw2Ideal [hBInDw2Ideal : Cert.BInDw2Ideal.Facts] : Prop :=
  ∀ (m : (ℓ : Loc Cert.BInDw2Ideal.nD Cert.BInDw2Ideal.τ Cert.BInDw2Ideal.sig) → Buf (Elt Ideal) ℓ) (g : Dev Cert.BInDw2Ideal.nD → PrngReg), Pre_BInDw2Ideal m →
    θ_run (Cert.BInDw2Ideal.defs (F := Ideal)) (onTc (τ := Cert.BInDw2Ideal.τ) (Cert.BInDw2Ideal.main (F := Ideal))) ⟨m, fun _ => 0, g⟩ (fun r => (∀ c : Dev Cert.BInDw2Ideal.nD,
      r.2.mem ((c.tc : Thread Cert.BInDw2Ideal.nD Cert.BInDw2Ideal.τ).loc Cert.BInDw2Ideal.main_arg0) = m ((c.tc : Thread Cert.BInDw2Ideal.nD Cert.BInDw2Ideal.τ).loc Cert.BInDw2Ideal.main_arg0)
      ∧ r.2.mem ((c.tc : Thread Cert.BInDw2Ideal.nD Cert.BInDw2Ideal.τ).loc Cert.BInDw2Ideal.main_arg1) = m ((c.tc : Thread Cert.BInDw2Ideal.nD Cert.BInDw2Ideal.τ).loc Cert.BInDw2Ideal.main_arg1)
      ∧ r.2.mem ((c.tc : Thread Cert.BInDw2Ideal.nD Cert.BInDw2Ideal.τ).loc Cert.BInDw2Ideal.main_arg2) = m ((c.tc : Thread Cert.BInDw2Ideal.nD Cert.BInDw2Ideal.τ).loc Cert.BInDw2Ideal.main_arg2))
      ∧ r.2.sem = fun _ => 0)

def quiescent_BInDw2RefIdeal [hBInDw2RefIdeal : Cert.BInDw2RefIdeal.Facts] : Prop :=
  ∀ (m : (ℓ : Loc Cert.BInDw2RefIdeal.nD Cert.BInDw2RefIdeal.τ Cert.BInDw2RefIdeal.sig) → Buf (Elt Ideal) ℓ) (g : Dev Cert.BInDw2RefIdeal.nD → PrngReg), Pre_BInDw2RefIdeal m →
    θ_run (Cert.BInDw2RefIdeal.defs (F := Ideal)) (onTc (τ := Cert.BInDw2RefIdeal.τ) (Cert.BInDw2RefIdeal.main (F := Ideal))) ⟨m, fun _ => 0, g⟩ (fun r => (∀ c : Dev Cert.BInDw2RefIdeal.nD,
      r.2.mem ((c.tc : Thread Cert.BInDw2RefIdeal.nD Cert.BInDw2RefIdeal.τ).loc Cert.BInDw2RefIdeal.main_arg0) = m ((c.tc : Thread Cert.BInDw2RefIdeal.nD Cert.BInDw2RefIdeal.τ).loc Cert.BInDw2RefIdeal.main_arg0)
      ∧ r.2.mem ((c.tc : Thread Cert.BInDw2RefIdeal.nD Cert.BInDw2RefIdeal.τ).loc Cert.BInDw2RefIdeal.main_arg1) = m ((c.tc : Thread Cert.BInDw2RefIdeal.nD Cert.BInDw2RefIdeal.τ).loc Cert.BInDw2RefIdeal.main_arg1)
      ∧ r.2.mem ((c.tc : Thread Cert.BInDw2RefIdeal.nD Cert.BInDw2RefIdeal.τ).loc Cert.BInDw2RefIdeal.main_arg2) = m ((c.tc : Thread Cert.BInDw2RefIdeal.nD Cert.BInDw2RefIdeal.τ).loc Cert.BInDw2RefIdeal.main_arg2))
      ∧ r.2.sem = fun _ => 0)

def quiescent_BInDx2 [hBInDx2 : Cert.BInDx2.Facts] : Prop :=
  ∀ (m : (ℓ : Loc Cert.BInDx2.nD Cert.BInDx2.τ Cert.BInDx2.sig) → Buf (Elt Bits) ℓ) (g : Dev Cert.BInDx2.nD → PrngReg), Pre_BInDx2 m →
    θ_run (Cert.BInDx2.defs (F := Bits)) (onTc (τ := Cert.BInDx2.τ) (Cert.BInDx2.main (F := Bits))) ⟨m, fun _ => 0, g⟩ (fun r => (∀ c : Dev Cert.BInDx2.nD,
      r.2.mem ((c.tc : Thread Cert.BInDx2.nD Cert.BInDx2.τ).loc Cert.BInDx2.main_arg0) = m ((c.tc : Thread Cert.BInDx2.nD Cert.BInDx2.τ).loc Cert.BInDx2.main_arg0)
      ∧ r.2.mem ((c.tc : Thread Cert.BInDx2.nD Cert.BInDx2.τ).loc Cert.BInDx2.main_arg1) = m ((c.tc : Thread Cert.BInDx2.nD Cert.BInDx2.τ).loc Cert.BInDx2.main_arg1)
      ∧ r.2.mem ((c.tc : Thread Cert.BInDx2.nD Cert.BInDx2.τ).loc Cert.BInDx2.main_arg2) = m ((c.tc : Thread Cert.BInDx2.nD Cert.BInDx2.τ).loc Cert.BInDx2.main_arg2))
      ∧ r.2.sem = fun _ => 0)

def quiescent_BInDx2Ideal [hBInDx2Ideal : Cert.BInDx2Ideal.Facts] : Prop :=
  ∀ (m : (ℓ : Loc Cert.BInDx2Ideal.nD Cert.BInDx2Ideal.τ Cert.BInDx2Ideal.sig) → Buf (Elt Ideal) ℓ) (g : Dev Cert.BInDx2Ideal.nD → PrngReg), Pre_BInDx2Ideal m →
    θ_run (Cert.BInDx2Ideal.defs (F := Ideal)) (onTc (τ := Cert.BInDx2Ideal.τ) (Cert.BInDx2Ideal.main (F := Ideal))) ⟨m, fun _ => 0, g⟩ (fun r => (∀ c : Dev Cert.BInDx2Ideal.nD,
      r.2.mem ((c.tc : Thread Cert.BInDx2Ideal.nD Cert.BInDx2Ideal.τ).loc Cert.BInDx2Ideal.main_arg0) = m ((c.tc : Thread Cert.BInDx2Ideal.nD Cert.BInDx2Ideal.τ).loc Cert.BInDx2Ideal.main_arg0)
      ∧ r.2.mem ((c.tc : Thread Cert.BInDx2Ideal.nD Cert.BInDx2Ideal.τ).loc Cert.BInDx2Ideal.main_arg1) = m ((c.tc : Thread Cert.BInDx2Ideal.nD Cert.BInDx2Ideal.τ).loc Cert.BInDx2Ideal.main_arg1)
      ∧ r.2.mem ((c.tc : Thread Cert.BInDx2Ideal.nD Cert.BInDx2Ideal.τ).loc Cert.BInDx2Ideal.main_arg2) = m ((c.tc : Thread Cert.BInDx2Ideal.nD Cert.BInDx2Ideal.τ).loc Cert.BInDx2Ideal.main_arg2))
      ∧ r.2.sem = fun _ => 0)

def quiescent_BInDx2RefIdeal [hBInDx2RefIdeal : Cert.BInDx2RefIdeal.Facts] : Prop :=
  ∀ (m : (ℓ : Loc Cert.BInDx2RefIdeal.nD Cert.BInDx2RefIdeal.τ Cert.BInDx2RefIdeal.sig) → Buf (Elt Ideal) ℓ) (g : Dev Cert.BInDx2RefIdeal.nD → PrngReg), Pre_BInDx2RefIdeal m →
    θ_run (Cert.BInDx2RefIdeal.defs (F := Ideal)) (onTc (τ := Cert.BInDx2RefIdeal.τ) (Cert.BInDx2RefIdeal.main (F := Ideal))) ⟨m, fun _ => 0, g⟩ (fun r => (∀ c : Dev Cert.BInDx2RefIdeal.nD,
      r.2.mem ((c.tc : Thread Cert.BInDx2RefIdeal.nD Cert.BInDx2RefIdeal.τ).loc Cert.BInDx2RefIdeal.main_arg0) = m ((c.tc : Thread Cert.BInDx2RefIdeal.nD Cert.BInDx2RefIdeal.τ).loc Cert.BInDx2RefIdeal.main_arg0)
      ∧ r.2.mem ((c.tc : Thread Cert.BInDx2RefIdeal.nD Cert.BInDx2RefIdeal.τ).loc Cert.BInDx2RefIdeal.main_arg1) = m ((c.tc : Thread Cert.BInDx2RefIdeal.nD Cert.BInDx2RefIdeal.τ).loc Cert.BInDx2RefIdeal.main_arg1)
      ∧ r.2.mem ((c.tc : Thread Cert.BInDx2RefIdeal.nD Cert.BInDx2RefIdeal.τ).loc Cert.BInDx2RefIdeal.main_arg2) = m ((c.tc : Thread Cert.BInDx2RefIdeal.nD Cert.BInDx2RefIdeal.τ).loc Cert.BInDx2RefIdeal.main_arg2))
      ∧ r.2.sem = fun _ => 0)

def quiescent_BIn2 [hBIn2 : Cert.BIn2.Facts] : Prop :=
  ∀ (m : (ℓ : Loc Cert.BIn2.nD Cert.BIn2.τ Cert.BIn2.sig) → Buf (Elt Bits) ℓ) (g : Dev Cert.BIn2.nD → PrngReg), Pre_BIn2 m →
    θ_run (Cert.BIn2.defs (F := Bits)) (onTc (τ := Cert.BIn2.τ) (Cert.BIn2.main (F := Bits))) ⟨m, fun _ => 0, g⟩ (fun r => (∀ c : Dev Cert.BIn2.nD,
      r.2.mem ((c.tc : Thread Cert.BIn2.nD Cert.BIn2.τ).loc Cert.BIn2.main_arg0) = m ((c.tc : Thread Cert.BIn2.nD Cert.BIn2.τ).loc Cert.BIn2.main_arg0)
      ∧ r.2.mem ((c.tc : Thread Cert.BIn2.nD Cert.BIn2.τ).loc Cert.BIn2.main_arg1) = m ((c.tc : Thread Cert.BIn2.nD Cert.BIn2.τ).loc Cert.BIn2.main_arg1))
      ∧ r.2.sem = fun _ => 0)

def quiescent_BIn2Ideal [hBIn2Ideal : Cert.BIn2Ideal.Facts] : Prop :=
  ∀ (m : (ℓ : Loc Cert.BIn2Ideal.nD Cert.BIn2Ideal.τ Cert.BIn2Ideal.sig) → Buf (Elt Ideal) ℓ) (g : Dev Cert.BIn2Ideal.nD → PrngReg), Pre_BIn2Ideal m →
    θ_run (Cert.BIn2Ideal.defs (F := Ideal)) (onTc (τ := Cert.BIn2Ideal.τ) (Cert.BIn2Ideal.main (F := Ideal))) ⟨m, fun _ => 0, g⟩ (fun r => (∀ c : Dev Cert.BIn2Ideal.nD,
      r.2.mem ((c.tc : Thread Cert.BIn2Ideal.nD Cert.BIn2Ideal.τ).loc Cert.BIn2Ideal.main_arg0) = m ((c.tc : Thread Cert.BIn2Ideal.nD Cert.BIn2Ideal.τ).loc Cert.BIn2Ideal.main_arg0)
      ∧ r.2.mem ((c.tc : Thread Cert.BIn2Ideal.nD Cert.BIn2Ideal.τ).loc Cert.BIn2Ideal.main_arg1) = m ((c.tc : Thread Cert.BIn2Ideal.nD Cert.BIn2Ideal.τ).loc Cert.BIn2Ideal.main_arg1))
      ∧ r.2.sem = fun _ => 0)

def quiescent_BIn2RefIdeal [hBIn2RefIdeal : Cert.BIn2RefIdeal.Facts] : Prop :=
  ∀ (m : (ℓ : Loc Cert.BIn2RefIdeal.nD Cert.BIn2RefIdeal.τ Cert.BIn2RefIdeal.sig) → Buf (Elt Ideal) ℓ) (g : Dev Cert.BIn2RefIdeal.nD → PrngReg), Pre_BIn2RefIdeal m →
    θ_run (Cert.BIn2RefIdeal.defs (F := Ideal)) (onTc (τ := Cert.BIn2RefIdeal.τ) (Cert.BIn2RefIdeal.main (F := Ideal))) ⟨m, fun _ => 0, g⟩ (fun r => (∀ c : Dev Cert.BIn2RefIdeal.nD,
      r.2.mem ((c.tc : Thread Cert.BIn2RefIdeal.nD Cert.BIn2RefIdeal.τ).loc Cert.BIn2RefIdeal.main_arg0) = m ((c.tc : Thread Cert.BIn2RefIdeal.nD Cert.BIn2RefIdeal.τ).loc Cert.BIn2RefIdeal.main_arg0)
      ∧ r.2.mem ((c.tc : Thread Cert.BIn2RefIdeal.nD Cert.BIn2RefIdeal.τ).loc Cert.BIn2RefIdeal.main_arg1) = m ((c.tc : Thread Cert.BIn2RefIdeal.nD Cert.BIn2RefIdeal.τ).loc Cert.BIn2RefIdeal.main_arg1))
      ∧ r.2.sem = fun _ => 0)

def quiescent_AIn [hAIn : Cert.AIn.Facts] : Prop :=
  ∀ (m : (ℓ : Loc Cert.AIn.nD Cert.AIn.τ Cert.AIn.sig) → Buf (Elt Bits) ℓ) (g : Dev Cert.AIn.nD → PrngReg), Pre_AIn m →
    θ_run (Cert.AIn.defs (F := Bits)) (onTc (τ := Cert.AIn.τ) (Cert.AIn.main (F := Bits))) ⟨m, fun _ => 0, g⟩ (fun r => (∀ c : Dev Cert.AIn.nD,
      r.2.mem ((c.tc : Thread Cert.AIn.nD Cert.AIn.τ).loc Cert.AIn.main_arg0) = m ((c.tc : Thread Cert.AIn.nD Cert.AIn.τ).loc Cert.AIn.main_arg0)
      ∧ r.2.mem ((c.tc : Thread Cert.AIn.nD Cert.AIn.τ).loc Cert.AIn.main_arg1) = m ((c.tc : Thread Cert.AIn.nD Cert.AIn.τ).loc Cert.AIn.main_arg1))
      ∧ r.2.sem = fun _ => 0)

def quiescent_AInIdeal [hAInIdeal : Cert.AInIdeal.Facts] : Prop :=
  ∀ (m : (ℓ : Loc Cert.AInIdeal.nD Cert.AInIdeal.τ Cert.AInIdeal.sig) → Buf (Elt Ideal) ℓ) (g : Dev Cert.AInIdeal.nD → PrngReg), Pre_AInIdeal m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ r.2.sem = fun _ => 0)

def quiescent_AInRefIdeal [hAInRefIdeal : Cert.AInRefIdeal.Facts] : Prop :=
  ∀ (m : (ℓ : Loc Cert.AInRefIdeal.nD Cert.AInRefIdeal.τ Cert.AInRefIdeal.sig) → Buf (Elt Ideal) ℓ) (g : Dev Cert.AInRefIdeal.nD → PrngReg), Pre_AInRefIdeal m →
    θ_run (Cert.AInRefIdeal.defs (F := Ideal)) (onTc (τ := Cert.AInRefIdeal.τ) (Cert.AInRefIdeal.main (F := Ideal))) ⟨m, fun _ => 0, g⟩ (fun r => (∀ c : Dev Cert.AInRefIdeal.nD,
      r.2.mem ((c.tc : Thread Cert.AInRefIdeal.nD Cert.AInRefIdeal.τ).loc Cert.AInRefIdeal.main_arg0) = m ((c.tc : Thread Cert.AInRefIdeal.nD Cert.AInRefIdeal.τ).loc Cert.AInRefIdeal.main_arg0)
      ∧ r.2.mem ((c.tc : Thread Cert.AInRefIdeal.nD Cert.AInRefIdeal.τ).loc Cert.AInRefIdeal.main_arg1) = m ((c.tc : Thread Cert.AInRefIdeal.nD Cert.AInRefIdeal.τ).loc Cert.AInRefIdeal.main_arg1))
      ∧ r.2.sem = fun _ => 0)

def quiescent_AOut [hAOut : Cert.AOut.Facts] : Prop :=
  ∀ (m : (ℓ : Loc Cert.AOut.nD Cert.AOut.τ Cert.AOut.sig) → Buf (Elt Bits) ℓ) (g : Dev Cert.AOut.nD → PrngReg), Pre_AOut m →
    θ_run (Cert.AOut.defs (F := Bits)) (onTc (τ := Cert.AOut.τ) (Cert.AOut.main (F := Bits))) ⟨m, fun _ => 0, g⟩ (fun r => (∀ c : Dev Cert.AOut.nD,
      r.2.mem ((c.tc : Thread Cert.AOut.nD Cert.AOut.τ).loc Cert.AOut.main_arg0) = m ((c.tc : Thread Cert.AOut.nD Cert.AOut.τ).loc Cert.AOut.main_arg0)
      ∧ r.2.mem ((c.tc : Thread Cert.AOut.nD Cert.AOut.τ).loc Cert.AOut.main_arg1) = m ((c.tc : Thread Cert.AOut.nD Cert.AOut.τ).loc Cert.AOut.main_arg1)
      ∧ r.2.mem ((c.tc : Thread Cert.AOut.nD Cert.AOut.τ).loc Cert.AOut.main_arg2) = m ((c.tc : Thread Cert.AOut.nD Cert.AOut.τ).loc Cert.AOut.main_arg2)
      ∧ r.2.mem ((c.tc : Thread Cert.AOut.nD Cert.AOut.τ).loc Cert.AOut.main_arg3) = m ((c.tc : Thread Cert.AOut.nD Cert.AOut.τ).loc Cert.AOut.main_arg3))
      ∧ r.2.sem = fun _ => 0)

def quiescent_AOutIdeal [hAOutIdeal : Cert.AOutIdeal.Facts] : Prop :=
  ∀ (m : (ℓ : Loc Cert.AOutIdeal.nD Cert.AOutIdeal.τ Cert.AOutIdeal.sig) → Buf (Elt Ideal) ℓ) (g : Dev Cert.AOutIdeal.nD → PrngReg), Pre_AOutIdeal m →
    θ_run (Cert.AOutIdeal.defs (F := Ideal)) (onTc (τ := Cert.AOutIdeal.τ) (Cert.AOutIdeal.main (F := Ideal))) ⟨m, fun _ => 0, g⟩ (fun r => (∀ c : Dev Cert.AOutIdeal.nD,
      r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
      ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1)
      ∧ r.2.mem ((c.tc : Thread Cert.AOutIdeal.nD Cert.AOutIdeal.τ).loc Cert.AOutIdeal.main_arg2) = m ((c.tc : Thread Cert.AOutIdeal.nD Cert.AOutIdeal.τ).loc Cert.AOutIdeal.main_arg2)
      ∧ r.2.mem ((c.tc : Thread Cert.AOutIdeal.nD Cert.AOutIdeal.τ).loc Cert.AOutIdeal.main_arg3) = m ((c.tc : Thread Cert.AOutIdeal.nD Cert.AOutIdeal.τ).loc Cert.AOutIdeal.main_arg3))
      ∧ r.2.sem = fun _ => 0)

def quiescent_AOutRefIdeal [hAOutRefIdeal : Cert.AOutRefIdeal.Facts] : Prop :=
  ∀ (m : (ℓ : Loc Cert.AOutRefIdeal.nD Cert.AOutRefIdeal.τ Cert.AOutRefIdeal.sig) → Buf (Elt Ideal) ℓ) (g : Dev Cert.AOutRefIdeal.nD → PrngReg), Pre_AOutRefIdeal m →
    θ_run (Cert.AOutRefIdeal.defs (F := Ideal)) (onTc (τ := Cert.AOutRefIdeal.τ) (Cert.AOutRefIdeal.main (F := Ideal))) ⟨m, fun _ => 0, g⟩ (fun r => (∀ c : Dev Cert.AOutRefIdeal.nD,
      r.2.mem ((c.tc : Thread Cert.AOutRefIdeal.nD Cert.AOutRefIdeal.τ).loc Cert.AOutRefIdeal.main_arg0) = m ((c.tc : Thread Cert.AOutRefIdeal.nD Cert.AOutRefIdeal.τ).loc Cert.AOutRefIdeal.main_arg0)
      ∧ r.2.mem ((c.tc : Thread Cert.AOutRefIdeal.nD Cert.AOutRefIdeal.τ).loc Cert.AOutRefIdeal.main_arg1) = m ((c.tc : Thread Cert.AOutRefIdeal.nD Cert.AOutRefIdeal.τ).loc Cert.AOutRefIdeal.main_arg1)
      ∧ r.2.mem ((c.tc : Thread Cert.AOutRefIdeal.nD Cert.AOutRefIdeal.τ).loc Cert.AOutRefIdeal.main_arg2) = m ((c.tc : Thread Cert.AOutRefIdeal.nD Cert.AOutRefIdeal.τ).loc Cert.AOutRefIdeal.main_arg2)
      ∧ r.2.mem ((c.tc : Thread Cert.AOutRefIdeal.nD Cert.AOutRefIdeal.τ).loc Cert.AOutRefIdeal.main_arg3) = m ((c.tc : Thread Cert.AOutRefIdeal.nD Cert.AOutRefIdeal.τ).loc Cert.AOutRefIdeal.main_arg3))
      ∧ r.2.sem = fun _ => 0)

def quiescent_BOutLoss [hBOutLoss : Cert.BOutLoss.Facts] : Prop :=
  ∀ (m : (ℓ : Loc Cert.BOutLoss.nD Cert.BOutLoss.τ Cert.BOutLoss.sig) → Buf (Elt Bits) ℓ) (g : Dev Cert.BOutLoss.nD → PrngReg), Pre_BOutLoss m →
    θ_run (Cert.BOutLoss.defs (F := Bits)) (onTc (τ := Cert.BOutLoss.τ) (Cert.BOutLoss.main (F := Bits))) ⟨m, fun _ => 0, g⟩ (fun r => (∀ c : Dev Cert.BOutLoss.nD,
      r.2.mem ((c.tc : Thread Cert.BOutLoss.nD Cert.BOutLoss.τ).loc Cert.BOutLoss.main_arg0) = m ((c.tc : Thread Cert.BOutLoss.nD Cert.BOutLoss.τ).loc Cert.BOutLoss.main_arg0)
      ∧ r.2.mem ((c.tc : Thread Cert.BOutLoss.nD Cert.BOutLoss.τ).loc Cert.BOutLoss.main_arg1) = m ((c.tc : Thread Cert.BOutLoss.nD Cert.BOutLoss.τ).loc Cert.BOutLoss.main_arg1)
      ∧ r.2.mem ((c.tc : Thread Cert.BOutLoss.nD Cert.BOutLoss.τ).loc Cert.BOutLoss.main_arg2) = m ((c.tc : Thread Cert.BOutLoss.nD Cert.BOutLoss.τ).loc Cert.BOutLoss.main_arg2)
      ∧ r.2.mem ((c.tc : Thread Cert.BOutLoss.nD Cert.BOutLoss.τ).loc Cert.BOutLoss.main_arg3) = m ((c.tc : Thread Cert.BOutLoss.nD Cert.BOutLoss.τ).loc Cert.BOutLoss.main_arg3))
      ∧ r.2.sem = fun _ => 0)

def quiescent_BOutLossIdeal [hBOutLossIdeal : Cert.BOutLossIdeal.Facts] : Prop :=
  ∀ (m : (ℓ : Loc Cert.BOutLossIdeal.nD Cert.BOutLossIdeal.τ Cert.BOutLossIdeal.sig) → Buf (Elt Ideal) ℓ) (g : Dev Cert.BOutLossIdeal.nD → PrngReg), Pre_BOutLossIdeal m →
    θ_run (Cert.BOutLossIdeal.defs (F := Ideal)) (onTc (τ := Cert.BOutLossIdeal.τ) (Cert.BOutLossIdeal.main (F := Ideal))) ⟨m, fun _ => 0, g⟩ (fun r => (∀ c : Dev Cert.BOutLossIdeal.nD,
      r.2.mem ((c.tc : Thread Cert.BOutLossIdeal.nD Cert.BOutLossIdeal.τ).loc Cert.BOutLossIdeal.main_arg0) = m ((c.tc : Thread Cert.BOutLossIdeal.nD Cert.BOutLossIdeal.τ).loc Cert.BOutLossIdeal.main_arg0)
      ∧ r.2.mem ((c.tc : Thread Cert.BOutLossIdeal.nD Cert.BOutLossIdeal.τ).loc Cert.BOutLossIdeal.main_arg1) = m ((c.tc : Thread Cert.BOutLossIdeal.nD Cert.BOutLossIdeal.τ).loc Cert.BOutLossIdeal.main_arg1)
      ∧ r.2.mem ((c.tc : Thread Cert.BOutLossIdeal.nD Cert.BOutLossIdeal.τ).loc Cert.BOutLossIdeal.main_arg2) = m ((c.tc : Thread Cert.BOutLossIdeal.nD Cert.BOutLossIdeal.τ).loc Cert.BOutLossIdeal.main_arg2)
      ∧ r.2.mem ((c.tc : Thread Cert.BOutLossIdeal.nD Cert.BOutLossIdeal.τ).loc Cert.BOutLossIdeal.main_arg3) = m ((c.tc : Thread Cert.BOutLossIdeal.nD Cert.BOutLossIdeal.τ).loc Cert.BOutLossIdeal.main_arg3))
      ∧ r.2.sem = fun _ => 0)

def quiescent_BOutLossRefIdeal [hBOutLossRefIdeal : Cert.BOutLossRefIdeal.Facts] : Prop :=
  ∀ (m : (ℓ : Loc Cert.BOutLossRefIdeal.nD Cert.BOutLossRefIdeal.τ Cert.BOutLossRefIdeal.sig) → Buf (Elt Ideal) ℓ) (g : Dev Cert.BOutLossRefIdeal.nD → PrngReg), Pre_BOutLossRefIdeal m →
    θ_run (Cert.BOutLossRefIdeal.defs (F := Ideal)) (onTc (τ := Cert.BOutLossRefIdeal.τ) (Cert.BOutLossRefIdeal.main (F := Ideal))) ⟨m, fun _ => 0, g⟩ (fun r => (∀ c : Dev Cert.BOutLossRefIdeal.nD,
      r.2.mem ((c.tc : Thread Cert.BOutLossRefIdeal.nD Cert.BOutLossRefIdeal.τ).loc Cert.BOutLossRefIdeal.main_arg0) = m ((c.tc : Thread Cert.BOutLossRefIdeal.nD Cert.BOutLossRefIdeal.τ).loc Cert.BOutLossRefIdeal.main_arg0)
      ∧ r.2.mem ((c.tc : Thread Cert.BOutLossRefIdeal.nD Cert.BOutLossRefIdeal.τ).loc Cert.BOutLossRefIdeal.main_arg1) = m ((c.tc : Thread Cert.BOutLossRefIdeal.nD Cert.BOutLossRefIdeal.τ).loc Cert.BOutLossRefIdeal.main_arg1)
      ∧ r.2.mem ((c.tc : Thread Cert.BOutLossRefIdeal.nD Cert.BOutLossRefIdeal.τ).loc Cert.BOutLossRefIdeal.main_arg2) = m ((c.tc : Thread Cert.BOutLossRefIdeal.nD Cert.BOutLossRefIdeal.τ).loc Cert.BOutLossRefIdeal.main_arg2)
      ∧ r.2.mem ((c.tc : Thread Cert.BOutLossRefIdeal.nD Cert.BOutLossRefIdeal.τ).loc Cert.BOutLossRefIdeal.main_arg3) = m ((c.tc : Thread Cert.BOutLossRefIdeal.nD Cert.BOutLossRefIdeal.τ).loc Cert.BOutLossRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamAOut [hAdamAOut : Cert.AdamAOut.Facts] : Prop :=
  ∀ (m : (ℓ : Loc Cert.AdamAOut.nD Cert.AdamAOut.τ Cert.AdamAOut.sig) → Buf (Elt Bits) ℓ) (g : Dev Cert.AdamAOut.nD → PrngReg), Pre_AdamAOut m →
    θ_run (Cert.AdamAOut.defs (F := Bits)) (onTc (τ := Cert.AdamAOut.τ) (Cert.AdamAOut.main (F := Bits))) ⟨m, fun _ => 0, g⟩ (fun r => (∀ c : Dev Cert.AdamAOut.nD,
      r.2.mem ((c.tc : Thread Cert.AdamAOut.nD Cert.AdamAOut.τ).loc Cert.AdamAOut.main_arg0) = m ((c.tc : Thread Cert.AdamAOut.nD Cert.AdamAOut.τ).loc Cert.AdamAOut.main_arg0)
      ∧ r.2.mem ((c.tc : Thread Cert.AdamAOut.nD Cert.AdamAOut.τ).loc Cert.AdamAOut.main_arg1) = m ((c.tc : Thread Cert.AdamAOut.nD Cert.AdamAOut.τ).loc Cert.AdamAOut.main_arg1)
      ∧ r.2.mem ((c.tc : Thread Cert.AdamAOut.nD Cert.AdamAOut.τ).loc Cert.AdamAOut.main_arg2) = m ((c.tc : Thread Cert.AdamAOut.nD Cert.AdamAOut.τ).loc Cert.AdamAOut.main_arg2)
      ∧ r.2.mem ((c.tc : Thread Cert.AdamAOut.nD Cert.AdamAOut.τ).loc Cert.AdamAOut.main_arg3) = m ((c.tc : Thread Cert.AdamAOut.nD Cert.AdamAOut.τ).loc Cert.AdamAOut.main_arg3)
      ∧ r.2.mem ((c.tc : Thread Cert.AdamAOut.nD Cert.AdamAOut.τ).loc Cert.AdamAOut.main_arg4) = m ((c.tc : Thread Cert.AdamAOut.nD Cert.AdamAOut.τ).loc Cert.AdamAOut.main_arg4)
      ∧ r.2.mem ((c.tc : Thread Cert.AdamAOut.nD Cert.AdamAOut.τ).loc Cert.AdamAOut.main_arg5) = m ((c.tc : Thread Cert.AdamAOut.nD Cert.AdamAOut.τ).loc Cert.AdamAOut.main_arg5))
      ∧ r.2.sem = fun _ => 0)

def quiescent_AdamAOutIdeal [hAdamAOutIdeal : Cert.AdamAOutIdeal.Facts] : Prop :=
  ∀ (m : (ℓ : Loc Cert.AdamAOutIdeal.nD Cert.AdamAOutIdeal.τ Cert.AdamAOutIdeal.sig) → Buf (Elt Ideal) ℓ) (g : Dev Cert.AdamAOutIdeal.nD → PrngReg), Pre_AdamAOutIdeal m →
    θ_run (Cert.AdamAOutIdeal.defs (F := Ideal)) (onTc (τ := Cert.AdamAOutIdeal.τ) (Cert.AdamAOutIdeal.main (F := Ideal))) ⟨m, fun _ => 0, g⟩ (fun r => (∀ c : Dev Cert.AdamAOutIdeal.nD,
      r.2.mem ((c.tc : Thread Cert.AdamAOutIdeal.nD Cert.AdamAOutIdeal.τ).loc Cert.AdamAOutIdeal.main_arg0) = m ((c.tc : Thread Cert.AdamAOutIdeal.nD Cert.AdamAOutIdeal.τ).loc Cert.AdamAOutIdeal.main_arg0)
      ∧ r.2.mem ((c.tc : Thread Cert.AdamAOutIdeal.nD Cert.AdamAOutIdeal.τ).loc Cert.AdamAOutIdeal.main_arg1) = m ((c.tc : Thread Cert.AdamAOutIdeal.nD Cert.AdamAOutIdeal.τ).loc Cert.AdamAOutIdeal.main_arg1)
      ∧ r.2.mem ((c.tc : Thread Cert.AdamAOutIdeal.nD Cert.AdamAOutIdeal.τ).loc Cert.AdamAOutIdeal.main_arg2) = m ((c.tc : Thread Cert.AdamAOutIdeal.nD Cert.AdamAOutIdeal.τ).loc Cert.AdamAOutIdeal.main_arg2)
      ∧ r.2.mem ((c.tc : Thread Cert.AdamAOutIdeal.nD Cert.AdamAOutIdeal.τ).loc Cert.AdamAOutIdeal.main_arg3) = m ((c.tc : Thread Cert.AdamAOutIdeal.nD Cert.AdamAOutIdeal.τ).loc Cert.AdamAOutIdeal.main_arg3)
      ∧ r.2.mem ((c.tc : Thread Cert.AdamAOutIdeal.nD Cert.AdamAOutIdeal.τ).loc Cert.AdamAOutIdeal.main_arg4) = m ((c.tc : Thread Cert.AdamAOutIdeal.nD Cert.AdamAOutIdeal.τ).loc Cert.AdamAOutIdeal.main_arg4)
      ∧ r.2.mem ((c.tc : Thread Cert.AdamAOutIdeal.nD Cert.AdamAOutIdeal.τ).loc Cert.AdamAOutIdeal.main_arg5) = m ((c.tc : Thread Cert.AdamAOutIdeal.nD Cert.AdamAOutIdeal.τ).loc Cert.AdamAOutIdeal.main_arg5))
      ∧ r.2.sem = fun _ => 0)

def quiescent_AdamAOutRefIdeal [hAdamAOutRefIdeal : Cert.AdamAOutRefIdeal.Facts] : Prop :=
  ∀ (m : (ℓ : Loc Cert.AdamAOutRefIdeal.nD Cert.AdamAOutRefIdeal.τ Cert.AdamAOutRefIdeal.sig) → Buf (Elt Ideal) ℓ) (g : Dev Cert.AdamAOutRefIdeal.nD → PrngReg), Pre_AdamAOutRefIdeal m →
    θ_run (Cert.AdamAOutRefIdeal.defs (F := Ideal)) (onTc (τ := Cert.AdamAOutRefIdeal.τ) (Cert.AdamAOutRefIdeal.main (F := Ideal))) ⟨m, fun _ => 0, g⟩ (fun r => (∀ c : Dev Cert.AdamAOutRefIdeal.nD,
      r.2.mem ((c.tc : Thread Cert.AdamAOutRefIdeal.nD Cert.AdamAOutRefIdeal.τ).loc Cert.AdamAOutRefIdeal.main_arg0) = m ((c.tc : Thread Cert.AdamAOutRefIdeal.nD Cert.AdamAOutRefIdeal.τ).loc Cert.AdamAOutRefIdeal.main_arg0)
      ∧ r.2.mem ((c.tc : Thread Cert.AdamAOutRefIdeal.nD Cert.AdamAOutRefIdeal.τ).loc Cert.AdamAOutRefIdeal.main_arg1) = m ((c.tc : Thread Cert.AdamAOutRefIdeal.nD Cert.AdamAOutRefIdeal.τ).loc Cert.AdamAOutRefIdeal.main_arg1)
      ∧ r.2.mem ((c.tc : Thread Cert.AdamAOutRefIdeal.nD Cert.AdamAOutRefIdeal.τ).loc Cert.AdamAOutRefIdeal.main_arg2) = m ((c.tc : Thread Cert.AdamAOutRefIdeal.nD Cert.AdamAOutRefIdeal.τ).loc Cert.AdamAOutRefIdeal.main_arg2)
      ∧ r.2.mem ((c.tc : Thread Cert.AdamAOutRefIdeal.nD Cert.AdamAOutRefIdeal.τ).loc Cert.AdamAOutRefIdeal.main_arg3) = m ((c.tc : Thread Cert.AdamAOutRefIdeal.nD Cert.AdamAOutRefIdeal.τ).loc Cert.AdamAOutRefIdeal.main_arg3)
      ∧ r.2.mem ((c.tc : Thread Cert.AdamAOutRefIdeal.nD Cert.AdamAOutRefIdeal.τ).loc Cert.AdamAOutRefIdeal.main_arg4) = m ((c.tc : Thread Cert.AdamAOutRefIdeal.nD Cert.AdamAOutRefIdeal.τ).loc Cert.AdamAOutRefIdeal.main_arg4)
      ∧ r.2.mem ((c.tc : Thread Cert.AdamAOutRefIdeal.nD Cert.AdamAOutRefIdeal.τ).loc Cert.AdamAOutRefIdeal.main_arg5) = m ((c.tc : Thread Cert.AdamAOutRefIdeal.nD Cert.AdamAOutRefIdeal.τ).loc Cert.AdamAOutRefIdeal.main_arg5))
      ∧ r.2.sem = fun _ => 0)

def quiescent_AdamBIn [hAdamBIn : Cert.AdamBIn.Facts] : Prop :=
  ∀ (m : (ℓ : Loc Cert.AdamBIn.nD Cert.AdamBIn.τ Cert.AdamBIn.sig) → Buf (Elt Bits) ℓ) (g : Dev Cert.AdamBIn.nD → PrngReg), Pre_AdamBIn m →
    θ_run (Cert.AdamBIn.defs (F := Bits)) (onTc (τ := Cert.AdamBIn.τ) (Cert.AdamBIn.main (F := Bits))) ⟨m, fun _ => 0, g⟩ (fun r => (∀ c : Dev Cert.AdamBIn.nD,
      r.2.mem ((c.tc : Thread Cert.AdamBIn.nD Cert.AdamBIn.τ).loc Cert.AdamBIn.main_arg0) = m ((c.tc : Thread Cert.AdamBIn.nD Cert.AdamBIn.τ).loc Cert.AdamBIn.main_arg0)
      ∧ r.2.mem ((c.tc : Thread Cert.AdamBIn.nD Cert.AdamBIn.τ).loc Cert.AdamBIn.main_arg1) = m ((c.tc : Thread Cert.AdamBIn.nD Cert.AdamBIn.τ).loc Cert.AdamBIn.main_arg1)
      ∧ r.2.mem ((c.tc : Thread Cert.AdamBIn.nD Cert.AdamBIn.τ).loc Cert.AdamBIn.main_arg2) = m ((c.tc : Thread Cert.AdamBIn.nD Cert.AdamBIn.τ).loc Cert.AdamBIn.main_arg2)
      ∧ r.2.mem ((c.tc : Thread Cert.AdamBIn.nD Cert.AdamBIn.τ).loc Cert.AdamBIn.main_arg3) = m ((c.tc : Thread Cert.AdamBIn.nD Cert.AdamBIn.τ).loc Cert.AdamBIn.main_arg3)
      ∧ r.2.mem ((c.tc : Thread Cert.AdamBIn.nD Cert.AdamBIn.τ).loc Cert.AdamBIn.main_arg4) = m ((c.tc : Thread Cert.AdamBIn.nD Cert.AdamBIn.τ).loc Cert.AdamBIn.main_arg4)
      ∧ r.2.mem ((c.tc : Thread Cert.AdamBIn.nD Cert.AdamBIn.τ).loc Cert.AdamBIn.main_arg5) = m ((c.tc : Thread Cert.AdamBIn.nD Cert.AdamBIn.τ).loc Cert.AdamBIn.main_arg5))
      ∧ r.2.sem = fun _ => 0)

def quiescent_AdamBInIdeal [hAdamBInIdeal : Cert.AdamBInIdeal.Facts] : Prop :=
  ∀ (m : (ℓ : Loc Cert.AdamBInIdeal.nD Cert.AdamBInIdeal.τ Cert.AdamBInIdeal.sig) → Buf (Elt Ideal) ℓ) (g : Dev Cert.AdamBInIdeal.nD → PrngReg), Pre_AdamBInIdeal m →
    θ_run (Cert.AdamBInIdeal.defs (F := Ideal)) (onTc (τ := Cert.AdamBInIdeal.τ) (Cert.AdamBInIdeal.main (F := Ideal))) ⟨m, fun _ => 0, g⟩ (fun r => (∀ c : Dev Cert.AdamBInIdeal.nD,
      r.2.mem ((c.tc : Thread Cert.AdamBInIdeal.nD Cert.AdamBInIdeal.τ).loc Cert.AdamBInIdeal.main_arg0) = m ((c.tc : Thread Cert.AdamBInIdeal.nD Cert.AdamBInIdeal.τ).loc Cert.AdamBInIdeal.main_arg0)
      ∧ r.2.mem ((c.tc : Thread Cert.AdamBInIdeal.nD Cert.AdamBInIdeal.τ).loc Cert.AdamBInIdeal.main_arg1) = m ((c.tc : Thread Cert.AdamBInIdeal.nD Cert.AdamBInIdeal.τ).loc Cert.AdamBInIdeal.main_arg1)
      ∧ r.2.mem ((c.tc : Thread Cert.AdamBInIdeal.nD Cert.AdamBInIdeal.τ).loc Cert.AdamBInIdeal.main_arg2) = m ((c.tc : Thread Cert.AdamBInIdeal.nD Cert.AdamBInIdeal.τ).loc Cert.AdamBInIdeal.main_arg2)
      ∧ r.2.mem ((c.tc : Thread Cert.AdamBInIdeal.nD Cert.AdamBInIdeal.τ).loc Cert.AdamBInIdeal.main_arg3) = m ((c.tc : Thread Cert.AdamBInIdeal.nD Cert.AdamBInIdeal.τ).loc Cert.AdamBInIdeal.main_arg3)
      ∧ r.2.mem ((c.tc : Thread Cert.AdamBInIdeal.nD Cert.AdamBInIdeal.τ).loc Cert.AdamBInIdeal.main_arg4) = m ((c.tc : Thread Cert.AdamBInIdeal.nD Cert.AdamBInIdeal.τ).loc Cert.AdamBInIdeal.main_arg4)
      ∧ r.2.mem ((c.tc : Thread Cert.AdamBInIdeal.nD Cert.AdamBInIdeal.τ).loc Cert.AdamBInIdeal.main_arg5) = m ((c.tc : Thread Cert.AdamBInIdeal.nD Cert.AdamBInIdeal.τ).loc Cert.AdamBInIdeal.main_arg5))
      ∧ r.2.sem = fun _ => 0)

def quiescent_AdamBInRefIdeal [hAdamBInRefIdeal : Cert.AdamBInRefIdeal.Facts] : Prop :=
  ∀ (m : (ℓ : Loc Cert.AdamBInRefIdeal.nD Cert.AdamBInRefIdeal.τ Cert.AdamBInRefIdeal.sig) → Buf (Elt Ideal) ℓ) (g : Dev Cert.AdamBInRefIdeal.nD → PrngReg), Pre_AdamBInRefIdeal m →
    θ_run (Cert.AdamBInRefIdeal.defs (F := Ideal)) (onTc (τ := Cert.AdamBInRefIdeal.τ) (Cert.AdamBInRefIdeal.main (F := Ideal))) ⟨m, fun _ => 0, g⟩ (fun r => (∀ c : Dev Cert.AdamBInRefIdeal.nD,
      r.2.mem ((c.tc : Thread Cert.AdamBInRefIdeal.nD Cert.AdamBInRefIdeal.τ).loc Cert.AdamBInRefIdeal.main_arg0) = m ((c.tc : Thread Cert.AdamBInRefIdeal.nD Cert.AdamBInRefIdeal.τ).loc Cert.AdamBInRefIdeal.main_arg0)
      ∧ r.2.mem ((c.tc : Thread Cert.AdamBInRefIdeal.nD Cert.AdamBInRefIdeal.τ).loc Cert.AdamBInRefIdeal.main_arg1) = m ((c.tc : Thread Cert.AdamBInRefIdeal.nD Cert.AdamBInRefIdeal.τ).loc Cert.AdamBInRefIdeal.main_arg1)
      ∧ r.2.mem ((c.tc : Thread Cert.AdamBInRefIdeal.nD Cert.AdamBInRefIdeal.τ).loc Cert.AdamBInRefIdeal.main_arg2) = m ((c.tc : Thread Cert.AdamBInRefIdeal.nD Cert.AdamBInRefIdeal.τ).loc Cert.AdamBInRefIdeal.main_arg2)
      ∧ r.2.mem ((c.tc : Thread Cert.AdamBInRefIdeal.nD Cert.AdamBInRefIdeal.τ).loc Cert.AdamBInRefIdeal.main_arg3) = m ((c.tc : Thread Cert.AdamBInRefIdeal.nD Cert.AdamBInRefIdeal.τ).loc Cert.AdamBInRefIdeal.main_arg3)
      ∧ r.2.mem ((c.tc : Thread Cert.AdamBInRefIdeal.nD Cert.AdamBInRefIdeal.τ).loc Cert.AdamBInRefIdeal.main_arg4) = m ((c.tc : Thread Cert.AdamBInRefIdeal.nD Cert.AdamBInRefIdeal.τ).loc Cert.AdamBInRefIdeal.main_arg4)
      ∧ r.2.mem ((c.tc : Thread Cert.AdamBInRefIdeal.nD Cert.AdamBInRefIdeal.τ).loc Cert.AdamBInRefIdeal.main_arg5) = m ((c.tc : Thread Cert.AdamBInRefIdeal.nD Cert.AdamBInRefIdeal.τ).loc Cert.AdamBInRefIdeal.main_arg5))
      ∧ r.2.sem = fun _ => 0)

def quiescent_AdamBOut [hAdamBOut : Cert.AdamBOut.Facts] : Prop :=
  ∀ (m : (ℓ : Loc Cert.AdamBOut.nD Cert.AdamBOut.τ Cert.AdamBOut.sig) → Buf (Elt Bits) ℓ) (g : Dev Cert.AdamBOut.nD → PrngReg), Pre_AdamBOut m →
    θ_run (Cert.AdamBOut.defs (F := Bits)) (onTc (τ := Cert.AdamBOut.τ) (Cert.AdamBOut.main (F := Bits))) ⟨m, fun _ => 0, g⟩ (fun r => (∀ c : Dev Cert.AdamBOut.nD,
      r.2.mem ((c.tc : Thread Cert.AdamBOut.nD Cert.AdamBOut.τ).loc Cert.AdamBOut.main_arg0) = m ((c.tc : Thread Cert.AdamBOut.nD Cert.AdamBOut.τ).loc Cert.AdamBOut.main_arg0)
      ∧ r.2.mem ((c.tc : Thread Cert.AdamBOut.nD Cert.AdamBOut.τ).loc Cert.AdamBOut.main_arg1) = m ((c.tc : Thread Cert.AdamBOut.nD Cert.AdamBOut.τ).loc Cert.AdamBOut.main_arg1)
      ∧ r.2.mem ((c.tc : Thread Cert.AdamBOut.nD Cert.AdamBOut.τ).loc Cert.AdamBOut.main_arg2) = m ((c.tc : Thread Cert.AdamBOut.nD Cert.AdamBOut.τ).loc Cert.AdamBOut.main_arg2)
      ∧ r.2.mem ((c.tc : Thread Cert.AdamBOut.nD Cert.AdamBOut.τ).loc Cert.AdamBOut.main_arg3) = m ((c.tc : Thread Cert.AdamBOut.nD Cert.AdamBOut.τ).loc Cert.AdamBOut.main_arg3)
      ∧ r.2.mem ((c.tc : Thread Cert.AdamBOut.nD Cert.AdamBOut.τ).loc Cert.AdamBOut.main_arg4) = m ((c.tc : Thread Cert.AdamBOut.nD Cert.AdamBOut.τ).loc Cert.AdamBOut.main_arg4)
      ∧ r.2.mem ((c.tc : Thread Cert.AdamBOut.nD Cert.AdamBOut.τ).loc Cert.AdamBOut.main_arg5) = m ((c.tc : Thread Cert.AdamBOut.nD Cert.AdamBOut.τ).loc Cert.AdamBOut.main_arg5))
      ∧ r.2.sem = fun _ => 0)

def quiescent_AdamBOutIdeal [hAdamBOutIdeal : Cert.AdamBOutIdeal.Facts] : Prop :=
  ∀ (m : (ℓ : Loc Cert.AdamBOutIdeal.nD Cert.AdamBOutIdeal.τ Cert.AdamBOutIdeal.sig) → Buf (Elt Ideal) ℓ) (g : Dev Cert.AdamBOutIdeal.nD → PrngReg), Pre_AdamBOutIdeal m →
    θ_run (Cert.AdamBOutIdeal.defs (F := Ideal)) (onTc (τ := Cert.AdamBOutIdeal.τ) (Cert.AdamBOutIdeal.main (F := Ideal))) ⟨m, fun _ => 0, g⟩ (fun r => (∀ c : Dev Cert.AdamBOutIdeal.nD,
      r.2.mem ((c.tc : Thread Cert.AdamBOutIdeal.nD Cert.AdamBOutIdeal.τ).loc Cert.AdamBOutIdeal.main_arg0) = m ((c.tc : Thread Cert.AdamBOutIdeal.nD Cert.AdamBOutIdeal.τ).loc Cert.AdamBOutIdeal.main_arg0)
      ∧ r.2.mem ((c.tc : Thread Cert.AdamBOutIdeal.nD Cert.AdamBOutIdeal.τ).loc Cert.AdamBOutIdeal.main_arg1) = m ((c.tc : Thread Cert.AdamBOutIdeal.nD Cert.AdamBOutIdeal.τ).loc Cert.AdamBOutIdeal.main_arg1)
      ∧ r.2.mem ((c.tc : Thread Cert.AdamBOutIdeal.nD Cert.AdamBOutIdeal.τ).loc Cert.AdamBOutIdeal.main_arg2) = m ((c.tc : Thread Cert.AdamBOutIdeal.nD Cert.AdamBOutIdeal.τ).loc Cert.AdamBOutIdeal.main_arg2)
      ∧ r.2.mem ((c.tc : Thread Cert.AdamBOutIdeal.nD Cert.AdamBOutIdeal.τ).loc Cert.AdamBOutIdeal.main_arg3) = m ((c.tc : Thread Cert.AdamBOutIdeal.nD Cert.AdamBOutIdeal.τ).loc Cert.AdamBOutIdeal.main_arg3)
      ∧ r.2.mem ((c.tc : Thread Cert.AdamBOutIdeal.nD Cert.AdamBOutIdeal.τ).loc Cert.AdamBOutIdeal.main_arg4) = m ((c.tc : Thread Cert.AdamBOutIdeal.nD Cert.AdamBOutIdeal.τ).loc Cert.AdamBOutIdeal.main_arg4)
      ∧ r.2.mem ((c.tc : Thread Cert.AdamBOutIdeal.nD Cert.AdamBOutIdeal.τ).loc Cert.AdamBOutIdeal.main_arg5) = m ((c.tc : Thread Cert.AdamBOutIdeal.nD Cert.AdamBOutIdeal.τ).loc Cert.AdamBOutIdeal.main_arg5))
      ∧ r.2.sem = fun _ => 0)

def quiescent_AdamBOutRefIdeal [hAdamBOutRefIdeal : Cert.AdamBOutRefIdeal.Facts] : Prop :=
  ∀ (m : (ℓ : Loc Cert.AdamBOutRefIdeal.nD Cert.AdamBOutRefIdeal.τ Cert.AdamBOutRefIdeal.sig) → Buf (Elt Ideal) ℓ) (g : Dev Cert.AdamBOutRefIdeal.nD → PrngReg), Pre_AdamBOutRefIdeal m →
    θ_run (Cert.AdamBOutRefIdeal.defs (F := Ideal)) (onTc (τ := Cert.AdamBOutRefIdeal.τ) (Cert.AdamBOutRefIdeal.main (F := Ideal))) ⟨m, fun _ => 0, g⟩ (fun r => (∀ c : Dev Cert.AdamBOutRefIdeal.nD,
      r.2.mem ((c.tc : Thread Cert.AdamBOutRefIdeal.nD Cert.AdamBOutRefIdeal.τ).loc Cert.AdamBOutRefIdeal.main_arg0) = m ((c.tc : Thread Cert.AdamBOutRefIdeal.nD Cert.AdamBOutRefIdeal.τ).loc Cert.AdamBOutRefIdeal.main_arg0)
      ∧ r.2.mem ((c.tc : Thread Cert.AdamBOutRefIdeal.nD Cert.AdamBOutRefIdeal.τ).loc Cert.AdamBOutRefIdeal.main_arg1) = m ((c.tc : Thread Cert.AdamBOutRefIdeal.nD Cert.AdamBOutRefIdeal.τ).loc Cert.AdamBOutRefIdeal.main_arg1)
      ∧ r.2.mem ((c.tc : Thread Cert.AdamBOutRefIdeal.nD Cert.AdamBOutRefIdeal.τ).loc Cert.AdamBOutRefIdeal.main_arg2) = m ((c.tc : Thread Cert.AdamBOutRefIdeal.nD Cert.AdamBOutRefIdeal.τ).loc Cert.AdamBOutRefIdeal.main_arg2)
      ∧ r.2.mem ((c.tc : Thread Cert.AdamBOutRefIdeal.nD Cert.AdamBOutRefIdeal.τ).loc Cert.AdamBOutRefIdeal.main_arg3) = m ((c.tc : Thread Cert.AdamBOutRefIdeal.nD Cert.AdamBOutRefIdeal.τ).loc Cert.AdamBOutRefIdeal.main_arg3)
      ∧ r.2.mem ((c.tc : Thread Cert.AdamBOutRefIdeal.nD Cert.AdamBOutRefIdeal.τ).loc Cert.AdamBOutRefIdeal.main_arg4) = m ((c.tc : Thread Cert.AdamBOutRefIdeal.nD Cert.AdamBOutRefIdeal.τ).loc Cert.AdamBOutRefIdeal.main_arg4)
      ∧ r.2.mem ((c.tc : Thread Cert.AdamBOutRefIdeal.nD Cert.AdamBOutRefIdeal.τ).loc Cert.AdamBOutRefIdeal.main_arg5) = m ((c.tc : Thread Cert.AdamBOutRefIdeal.nD Cert.AdamBOutRefIdeal.τ).loc Cert.AdamBOutRefIdeal.main_arg5))
      ∧ r.2.sem = fun _ => 0)

def quiescent_AdamAIn [hAdamAIn : Cert.AdamAIn.Facts] : Prop :=
  ∀ (m : (ℓ : Loc Cert.AdamAIn.nD Cert.AdamAIn.τ Cert.AdamAIn.sig) → Buf (Elt Bits) ℓ) (g : Dev Cert.AdamAIn.nD → PrngReg), Pre_AdamAIn m →
    θ_run (Cert.AdamAIn.defs (F := Bits)) (onTc (τ := Cert.AdamAIn.τ) (Cert.AdamAIn.main (F := Bits))) ⟨m, fun _ => 0, g⟩ (fun r => (∀ c : Dev Cert.AdamAIn.nD,
      r.2.mem ((c.tc : Thread Cert.AdamAIn.nD Cert.AdamAIn.τ).loc Cert.AdamAIn.main_arg0) = m ((c.tc : Thread Cert.AdamAIn.nD Cert.AdamAIn.τ).loc Cert.AdamAIn.main_arg0)
      ∧ r.2.mem ((c.tc : Thread Cert.AdamAIn.nD Cert.AdamAIn.τ).loc Cert.AdamAIn.main_arg1) = m ((c.tc : Thread Cert.AdamAIn.nD Cert.AdamAIn.τ).loc Cert.AdamAIn.main_arg1)
      ∧ r.2.mem ((c.tc : Thread Cert.AdamAIn.nD Cert.AdamAIn.τ).loc Cert.AdamAIn.main_arg2) = m ((c.tc : Thread Cert.AdamAIn.nD Cert.AdamAIn.τ).loc Cert.AdamAIn.main_arg2)
      ∧ r.2.mem ((c.tc : Thread Cert.AdamAIn.nD Cert.AdamAIn.τ).loc Cert.AdamAIn.main_arg3) = m ((c.tc : Thread Cert.AdamAIn.nD Cert.AdamAIn.τ).loc Cert.AdamAIn.main_arg3)
      ∧ r.2.mem ((c.tc : Thread Cert.AdamAIn.nD Cert.AdamAIn.τ).loc Cert.AdamAIn.main_arg4) = m ((c.tc : Thread Cert.AdamAIn.nD Cert.AdamAIn.τ).loc Cert.AdamAIn.main_arg4)
      ∧ r.2.mem ((c.tc : Thread Cert.AdamAIn.nD Cert.AdamAIn.τ).loc Cert.AdamAIn.main_arg5) = m ((c.tc : Thread Cert.AdamAIn.nD Cert.AdamAIn.τ).loc Cert.AdamAIn.main_arg5))
      ∧ r.2.sem = fun _ => 0)

def quiescent_AdamAInIdeal [hAdamAInIdeal : Cert.AdamAInIdeal.Facts] : Prop :=
  ∀ (m : (ℓ : Loc Cert.AdamAInIdeal.nD Cert.AdamAInIdeal.τ Cert.AdamAInIdeal.sig) → Buf (Elt Ideal) ℓ) (g : Dev Cert.AdamAInIdeal.nD → PrngReg), Pre_AdamAInIdeal m →
    θ_run (Cert.AdamAInIdeal.defs (F := Ideal)) (onTc (τ := Cert.AdamAInIdeal.τ) (Cert.AdamAInIdeal.main (F := Ideal))) ⟨m, fun _ => 0, g⟩ (fun r => (∀ c : Dev Cert.AdamAInIdeal.nD,
      r.2.mem ((c.tc : Thread Cert.AdamAInIdeal.nD Cert.AdamAInIdeal.τ).loc Cert.AdamAInIdeal.main_arg0) = m ((c.tc : Thread Cert.AdamAInIdeal.nD Cert.AdamAInIdeal.τ).loc Cert.AdamAInIdeal.main_arg0)
      ∧ r.2.mem ((c.tc : Thread Cert.AdamAInIdeal.nD Cert.AdamAInIdeal.τ).loc Cert.AdamAInIdeal.main_arg1) = m ((c.tc : Thread Cert.AdamAInIdeal.nD Cert.AdamAInIdeal.τ).loc Cert.AdamAInIdeal.main_arg1)
      ∧ r.2.mem ((c.tc : Thread Cert.AdamAInIdeal.nD Cert.AdamAInIdeal.τ).loc Cert.AdamAInIdeal.main_arg2) = m ((c.tc : Thread Cert.AdamAInIdeal.nD Cert.AdamAInIdeal.τ).loc Cert.AdamAInIdeal.main_arg2)
      ∧ r.2.mem ((c.tc : Thread Cert.AdamAInIdeal.nD Cert.AdamAInIdeal.τ).loc Cert.AdamAInIdeal.main_arg3) = m ((c.tc : Thread Cert.AdamAInIdeal.nD Cert.AdamAInIdeal.τ).loc Cert.AdamAInIdeal.main_arg3)
      ∧ r.2.mem ((c.tc : Thread Cert.AdamAInIdeal.nD Cert.AdamAInIdeal.τ).loc Cert.AdamAInIdeal.main_arg4) = m ((c.tc : Thread Cert.AdamAInIdeal.nD Cert.AdamAInIdeal.τ).loc Cert.AdamAInIdeal.main_arg4)
      ∧ r.2.mem ((c.tc : Thread Cert.AdamAInIdeal.nD Cert.AdamAInIdeal.τ).loc Cert.AdamAInIdeal.main_arg5) = m ((c.tc : Thread Cert.AdamAInIdeal.nD Cert.AdamAInIdeal.τ).loc Cert.AdamAInIdeal.main_arg5))
      ∧ r.2.sem = fun _ => 0)

def quiescent_AdamAInRefIdeal [hAdamAInRefIdeal : Cert.AdamAInRefIdeal.Facts] : Prop :=
  ∀ (m : (ℓ : Loc Cert.AdamAInRefIdeal.nD Cert.AdamAInRefIdeal.τ Cert.AdamAInRefIdeal.sig) → Buf (Elt Ideal) ℓ) (g : Dev Cert.AdamAInRefIdeal.nD → PrngReg), Pre_AdamAInRefIdeal m →
    θ_run (Cert.AdamAInRefIdeal.defs (F := Ideal)) (onTc (τ := Cert.AdamAInRefIdeal.τ) (Cert.AdamAInRefIdeal.main (F := Ideal))) ⟨m, fun _ => 0, g⟩ (fun r => (∀ c : Dev Cert.AdamAInRefIdeal.nD,
      r.2.mem ((c.tc : Thread Cert.AdamAInRefIdeal.nD Cert.AdamAInRefIdeal.τ).loc Cert.AdamAInRefIdeal.main_arg0) = m ((c.tc : Thread Cert.AdamAInRefIdeal.nD Cert.AdamAInRefIdeal.τ).loc Cert.AdamAInRefIdeal.main_arg0)
      ∧ r.2.mem ((c.tc : Thread Cert.AdamAInRefIdeal.nD Cert.AdamAInRefIdeal.τ).loc Cert.AdamAInRefIdeal.main_arg1) = m ((c.tc : Thread Cert.AdamAInRefIdeal.nD Cert.AdamAInRefIdeal.τ).loc Cert.AdamAInRefIdeal.main_arg1)
      ∧ r.2.mem ((c.tc : Thread Cert.AdamAInRefIdeal.nD Cert.AdamAInRefIdeal.τ).loc Cert.AdamAInRefIdeal.main_arg2) = m ((c.tc : Thread Cert.AdamAInRefIdeal.nD Cert.AdamAInRefIdeal.τ).loc Cert.AdamAInRefIdeal.main_arg2)
      ∧ r.2.mem ((c.tc : Thread Cert.AdamAInRefIdeal.nD Cert.AdamAInRefIdeal.τ).loc Cert.AdamAInRefIdeal.main_arg3) = m ((c.tc : Thread Cert.AdamAInRefIdeal.nD Cert.AdamAInRefIdeal.τ).loc Cert.AdamAInRefIdeal.main_arg3)
      ∧ r.2.mem ((c.tc : Thread Cert.AdamAInRefIdeal.nD Cert.AdamAInRefIdeal.τ).loc Cert.AdamAInRefIdeal.main_arg4) = m ((c.tc : Thread Cert.AdamAInRefIdeal.nD Cert.AdamAInRefIdeal.τ).loc Cert.AdamAInRefIdeal.main_arg4)
      ∧ r.2.mem ((c.tc : Thread Cert.AdamAInRefIdeal.nD Cert.AdamAInRefIdeal.τ).loc Cert.AdamAInRefIdeal.main_arg5) = m ((c.tc : Thread Cert.AdamAInRefIdeal.nD Cert.AdamAInRefIdeal.τ).loc Cert.AdamAInRefIdeal.main_arg5))
      ∧ r.2.sem = fun _ => 0)

def quiescent_AttnBwd2 [hAttnBwd2 : Cert.AttnBwd2.Facts] : Prop :=
  ∀ (m : (ℓ : Loc Cert.AttnBwd2.nD Cert.AttnBwd2.τ Cert.AttnBwd2.sig) → Buf (Elt Bits) ℓ) (g : Dev Cert.AttnBwd2.nD → PrngReg), Pre_AttnBwd2 m →
    θ_run (Cert.AttnBwd2.defs (F := Bits)) (onTc (τ := Cert.AttnBwd2.τ) (Cert.AttnBwd2.main (F := Bits))) ⟨m, fun _ => 0, g⟩ (fun r => (∀ c : Dev Cert.AttnBwd2.nD,
      r.2.mem ((c.tc : Thread Cert.AttnBwd2.nD Cert.AttnBwd2.τ).loc Cert.AttnBwd2.main_arg0) = m ((c.tc : Thread Cert.AttnBwd2.nD Cert.AttnBwd2.τ).loc Cert.AttnBwd2.main_arg0)
      ∧ r.2.mem ((c.tc : Thread Cert.AttnBwd2.nD Cert.AttnBwd2.τ).loc Cert.AttnBwd2.main_arg1) = m ((c.tc : Thread Cert.AttnBwd2.nD Cert.AttnBwd2.τ).loc Cert.AttnBwd2.main_arg1)
      ∧ r.2.mem ((c.tc : Thread Cert.AttnBwd2.nD Cert.AttnBwd2.τ).loc Cert.AttnBwd2.main_arg2) = m ((c.tc : Thread Cert.AttnBwd2.nD Cert.AttnBwd2.τ).loc Cert.AttnBwd2.main_arg2)
      ∧ r.2.mem ((c.tc : Thread Cert.AttnBwd2.nD Cert.AttnBwd2.τ).loc Cert.AttnBwd2.main_arg3) = m ((c.tc : Thread Cert.AttnBwd2.nD Cert.AttnBwd2.τ).loc Cert.AttnBwd2.main_arg3)
      ∧ r.2.mem ((c.tc : Thread Cert.AttnBwd2.nD Cert.AttnBwd2.τ).loc Cert.AttnBwd2.main_arg4) = m ((c.tc : Thread Cert.AttnBwd2.nD Cert.AttnBwd2.τ).loc Cert.AttnBwd2.main_arg4)
      ∧ r.2.mem ((c.tc : Thread Cert.AttnBwd2.nD Cert.AttnBwd2.τ).loc Cert.AttnBwd2.main_arg5) = m ((c.tc : Thread Cert.AttnBwd2.nD Cert.AttnBwd2.τ).loc Cert.AttnBwd2.main_arg5))
      ∧ r.2.sem = fun _ => 0)

def quiescent_AttnBwd2Ideal [hAttnBwd2Ideal : Cert.AttnBwd2Ideal.Facts] : Prop :=
  ∀ (m : (ℓ : Loc Cert.AttnBwd2Ideal.nD Cert.AttnBwd2Ideal.τ Cert.AttnBwd2Ideal.sig) → Buf (Elt Ideal) ℓ) (g : Dev Cert.AttnBwd2Ideal.nD → PrngReg), Pre_AttnBwd2Ideal m →
    θ_run (Cert.AttnBwd2Ideal.defs (F := Ideal)) (onTc (τ := Cert.AttnBwd2Ideal.τ) (Cert.AttnBwd2Ideal.main (F := Ideal))) ⟨m, fun _ => 0, g⟩ (fun r => (∀ c : Dev Cert.AttnBwd2Ideal.nD,
      r.2.mem ((c.tc : Thread Cert.AttnBwd2Ideal.nD Cert.AttnBwd2Ideal.τ).loc Cert.AttnBwd2Ideal.main_arg0) = m ((c.tc : Thread Cert.AttnBwd2Ideal.nD Cert.AttnBwd2Ideal.τ).loc Cert.AttnBwd2Ideal.main_arg0)
      ∧ r.2.mem ((c.tc : Thread Cert.AttnBwd2Ideal.nD Cert.AttnBwd2Ideal.τ).loc Cert.AttnBwd2Ideal.main_arg1) = m ((c.tc : Thread Cert.AttnBwd2Ideal.nD Cert.AttnBwd2Ideal.τ).loc Cert.AttnBwd2Ideal.main_arg1)
      ∧ r.2.mem ((c.tc : Thread Cert.AttnBwd2Ideal.nD Cert.AttnBwd2Ideal.τ).loc Cert.AttnBwd2Ideal.main_arg2) = m ((c.tc : Thread Cert.AttnBwd2Ideal.nD Cert.AttnBwd2Ideal.τ).loc Cert.AttnBwd2Ideal.main_arg2)
      ∧ r.2.mem ((c.tc : Thread Cert.AttnBwd2Ideal.nD Cert.AttnBwd2Ideal.τ).loc Cert.AttnBwd2Ideal.main_arg3) = m ((c.tc : Thread Cert.AttnBwd2Ideal.nD Cert.AttnBwd2Ideal.τ).loc Cert.AttnBwd2Ideal.main_arg3)
      ∧ r.2.mem ((c.tc : Thread Cert.AttnBwd2Ideal.nD Cert.AttnBwd2Ideal.τ).loc Cert.AttnBwd2Ideal.main_arg4) = m ((c.tc : Thread Cert.AttnBwd2Ideal.nD Cert.AttnBwd2Ideal.τ).loc Cert.AttnBwd2Ideal.main_arg4)
      ∧ r.2.mem ((c.tc : Thread Cert.AttnBwd2Ideal.nD Cert.AttnBwd2Ideal.τ).loc Cert.AttnBwd2Ideal.main_arg5) = m ((c.tc : Thread Cert.AttnBwd2Ideal.nD Cert.AttnBwd2Ideal.τ).loc Cert.AttnBwd2Ideal.main_arg5))
      ∧ r.2.sem = fun _ => 0)

def quiescent_AttnBwd2RefIdeal [hAttnBwd2RefIdeal : Cert.AttnBwd2RefIdeal.Facts] : Prop :=
  ∀ (m : (ℓ : Loc Cert.AttnBwd2RefIdeal.nD Cert.AttnBwd2RefIdeal.τ Cert.AttnBwd2RefIdeal.sig) → Buf (Elt Ideal) ℓ) (g : Dev Cert.AttnBwd2RefIdeal.nD → PrngReg), Pre_AttnBwd2RefIdeal m →
    θ_run (Cert.AttnBwd2RefIdeal.defs (F := Ideal)) (onTc (τ := Cert.AttnBwd2RefIdeal.τ) (Cert.AttnBwd2RefIdeal.main (F := Ideal))) ⟨m, fun _ => 0, g⟩ (fun r => (∀ c : Dev Cert.AttnBwd2RefIdeal.nD,
      r.2.mem ((c.tc : Thread Cert.AttnBwd2RefIdeal.nD Cert.AttnBwd2RefIdeal.τ).loc Cert.AttnBwd2RefIdeal.main_arg0) = m ((c.tc : Thread Cert.AttnBwd2RefIdeal.nD Cert.AttnBwd2RefIdeal.τ).loc Cert.AttnBwd2RefIdeal.main_arg0)
      ∧ r.2.mem ((c.tc : Thread Cert.AttnBwd2RefIdeal.nD Cert.AttnBwd2RefIdeal.τ).loc Cert.AttnBwd2RefIdeal.main_arg1) = m ((c.tc : Thread Cert.AttnBwd2RefIdeal.nD Cert.AttnBwd2RefIdeal.τ).loc Cert.AttnBwd2RefIdeal.main_arg1)
      ∧ r.2.mem ((c.tc : Thread Cert.AttnBwd2RefIdeal.nD Cert.AttnBwd2RefIdeal.τ).loc Cert.AttnBwd2RefIdeal.main_arg2) = m ((c.tc : Thread Cert.AttnBwd2RefIdeal.nD Cert.AttnBwd2RefIdeal.τ).loc Cert.AttnBwd2RefIdeal.main_arg2)
      ∧ r.2.mem ((c.tc : Thread Cert.AttnBwd2RefIdeal.nD Cert.AttnBwd2RefIdeal.τ).loc Cert.AttnBwd2RefIdeal.main_arg3) = m ((c.tc : Thread Cert.AttnBwd2RefIdeal.nD Cert.AttnBwd2RefIdeal.τ).loc Cert.AttnBwd2RefIdeal.main_arg3)
      ∧ r.2.mem ((c.tc : Thread Cert.AttnBwd2RefIdeal.nD Cert.AttnBwd2RefIdeal.τ).loc Cert.AttnBwd2RefIdeal.main_arg4) = m ((c.tc : Thread Cert.AttnBwd2RefIdeal.nD Cert.AttnBwd2RefIdeal.τ).loc Cert.AttnBwd2RefIdeal.main_arg4)
      ∧ r.2.mem ((c.tc : Thread Cert.AttnBwd2RefIdeal.nD Cert.AttnBwd2RefIdeal.τ).loc Cert.AttnBwd2RefIdeal.main_arg5) = m ((c.tc : Thread Cert.AttnBwd2RefIdeal.nD Cert.AttnBwd2RefIdeal.τ).loc Cert.AttnBwd2RefIdeal.main_arg5))
      ∧ r.2.sem = fun _ => 0)

def quiescent_InProjBwd [hInProjBwd : Cert.InProjBwd.Facts] : Prop :=
  ∀ (m : (ℓ : Loc Cert.InProjBwd.nD Cert.InProjBwd.τ Cert.InProjBwd.sig) → Buf (Elt Bits) ℓ) (g : Dev Cert.InProjBwd.nD → PrngReg), Pre_InProjBwd m →
    θ_run (Cert.InProjBwd.defs (F := Bits)) (onTc (τ := Cert.InProjBwd.τ) (Cert.InProjBwd.main (F := Bits))) ⟨m, fun _ => 0, g⟩ (fun r => (∀ c : Dev Cert.InProjBwd.nD,
      r.2.mem ((c.tc : Thread Cert.InProjBwd.nD Cert.InProjBwd.τ).loc Cert.InProjBwd.main_arg0) = m ((c.tc : Thread Cert.InProjBwd.nD Cert.InProjBwd.τ).loc Cert.InProjBwd.main_arg0)
      ∧ r.2.mem ((c.tc : Thread Cert.InProjBwd.nD Cert.InProjBwd.τ).loc Cert.InProjBwd.main_arg1) = m ((c.tc : Thread Cert.InProjBwd.nD Cert.InProjBwd.τ).loc Cert.InProjBwd.main_arg1)
      ∧ r.2.mem ((c.tc : Thread Cert.InProjBwd.nD Cert.InProjBwd.τ).loc Cert.InProjBwd.main_arg2) = m ((c.tc : Thread Cert.InProjBwd.nD Cert.InProjBwd.τ).loc Cert.InProjBwd.main_arg2)
      ∧ r.2.mem ((c.tc : Thread Cert.InProjBwd.nD Cert.InProjBwd.τ).loc Cert.InProjBwd.main_arg3) = m ((c.tc : Thread Cert.InProjBwd.nD Cert.InProjBwd.τ).loc Cert.InProjBwd.main_arg3)
      ∧ r.2.mem ((c.tc : Thread Cert.InProjBwd.nD Cert.InProjBwd.τ).loc Cert.InProjBwd.main_arg4) = m ((c.tc : Thread Cert.InProjBwd.nD Cert.InProjBwd.τ).loc Cert.InProjBwd.main_arg4)
      ∧ r.2.mem ((c.tc : Thread Cert.InProjBwd.nD Cert.InProjBwd.τ).loc Cert.InProjBwd.main_arg5) = m ((c.tc : Thread Cert.InProjBwd.nD Cert.InProjBwd.τ).loc Cert.InProjBwd.main_arg5))
      ∧ r.2.sem = fun _ => 0)

def quiescent_InProjBwdIdeal [hInProjBwdIdeal : Cert.InProjBwdIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5))
      ∧ r.2.sem = fun _ => 0)

def quiescent_InProjBwdRefIdeal [hInProjBwdRefIdeal : Cert.InProjBwdRefIdeal.Facts] : Prop :=
  ∀ (m : (ℓ : Loc Cert.InProjBwdRefIdeal.nD Cert.InProjBwdRefIdeal.τ Cert.InProjBwdRefIdeal.sig) → Buf (Elt Ideal) ℓ) (g : Dev Cert.InProjBwdRefIdeal.nD → PrngReg), Pre_InProjBwdRefIdeal m →
    θ_run (Cert.InProjBwdRefIdeal.defs (F := Ideal)) (onTc (τ := Cert.InProjBwdRefIdeal.τ) (Cert.InProjBwdRefIdeal.main (F := Ideal))) ⟨m, fun _ => 0, g⟩ (fun r => (∀ c : Dev Cert.InProjBwdRefIdeal.nD,
      r.2.mem ((c.tc : Thread Cert.InProjBwdRefIdeal.nD Cert.InProjBwdRefIdeal.τ).loc Cert.InProjBwdRefIdeal.main_arg0) = m ((c.tc : Thread Cert.InProjBwdRefIdeal.nD Cert.InProjBwdRefIdeal.τ).loc Cert.InProjBwdRefIdeal.main_arg0)
      ∧ r.2.mem ((c.tc : Thread Cert.InProjBwdRefIdeal.nD Cert.InProjBwdRefIdeal.τ).loc Cert.InProjBwdRefIdeal.main_arg1) = m ((c.tc : Thread Cert.InProjBwdRefIdeal.nD Cert.InProjBwdRefIdeal.τ).loc Cert.InProjBwdRefIdeal.main_arg1)
      ∧ r.2.mem ((c.tc : Thread Cert.InProjBwdRefIdeal.nD Cert.InProjBwdRefIdeal.τ).loc Cert.InProjBwdRefIdeal.main_arg2) = m ((c.tc : Thread Cert.InProjBwdRefIdeal.nD Cert.InProjBwdRefIdeal.τ).loc Cert.InProjBwdRefIdeal.main_arg2)
      ∧ r.2.mem ((c.tc : Thread Cert.InProjBwdRefIdeal.nD Cert.InProjBwdRefIdeal.τ).loc Cert.InProjBwdRefIdeal.main_arg3) = m ((c.tc : Thread Cert.InProjBwdRefIdeal.nD Cert.InProjBwdRefIdeal.τ).loc Cert.InProjBwdRefIdeal.main_arg3)
      ∧ r.2.mem ((c.tc : Thread Cert.InProjBwdRefIdeal.nD Cert.InProjBwdRefIdeal.τ).loc Cert.InProjBwdRefIdeal.main_arg4) = m ((c.tc : Thread Cert.InProjBwdRefIdeal.nD Cert.InProjBwdRefIdeal.τ).loc Cert.InProjBwdRefIdeal.main_arg4)
      ∧ r.2.mem ((c.tc : Thread Cert.InProjBwdRefIdeal.nD Cert.InProjBwdRefIdeal.τ).loc Cert.InProjBwdRefIdeal.main_arg5) = m ((c.tc : Thread Cert.InProjBwdRefIdeal.nD Cert.InProjBwdRefIdeal.τ).loc Cert.InProjBwdRefIdeal.main_arg5))
      ∧ r.2.sem = fun _ => 0)

def preserves_AInDw_AInDwIdeal : Prop :=
  True

def algebraic_AInDwIdeal_AInDwRefIdeal [hAInDwIdeal : Cert.AInDwIdeal.Facts] [hAInDwRefIdeal : Cert.AInDwRefIdeal.Facts] : Prop :=
  ∀ (m : (ℓ : Loc Cert.AInDwIdeal.nD Cert.AInDwIdeal.τ Cert.AInDwIdeal.sig) → Buf (Elt Ideal) ℓ) (g : Dev Cert.AInDwIdeal.nD → PrngReg)
    (m' : (ℓ : Loc Cert.AInDwRefIdeal.nD Cert.AInDwRefIdeal.τ Cert.AInDwRefIdeal.sig) → Buf (Elt Ideal) ℓ) (g' : Dev Cert.AInDwRefIdeal.nD → PrngReg), Pre_AInDwIdeal m →
    (∀ c : Dev Cert.AInDwIdeal.nD,
      m' ((c.tc : Thread Cert.AInDwRefIdeal.nD Cert.AInDwRefIdeal.τ).loc Cert.AInDwRefIdeal.main_arg0) = m ((c.tc : Thread Cert.AInDwIdeal.nD Cert.AInDwIdeal.τ).loc Cert.AInDwIdeal.main_arg0)
      ∧ m' ((c.tc : Thread Cert.AInDwRefIdeal.nD Cert.AInDwRefIdeal.τ).loc Cert.AInDwRefIdeal.main_arg1) = m ((c.tc : Thread Cert.AInDwIdeal.nD Cert.AInDwIdeal.τ).loc Cert.AInDwIdeal.main_arg1)
      ∧ m' ((c.tc : Thread Cert.AInDwRefIdeal.nD Cert.AInDwRefIdeal.τ).loc Cert.AInDwRefIdeal.main_arg2) = m ((c.tc : Thread Cert.AInDwIdeal.nD Cert.AInDwIdeal.τ).loc Cert.AInDwIdeal.main_arg2)) →
    ∃ (v0 : (c : Dev Cert.AInDwIdeal.nD) → Buf (Elt Ideal) ((c.tc : Thread Cert.AInDwIdeal.nD Cert.AInDwIdeal.τ).loc Cert.AInDwIdeal.main_v2)),
      θ_run (Cert.AInDwIdeal.defs (F := Ideal)) (onTc (τ := Cert.AInDwIdeal.τ) (Cert.AInDwIdeal.main (F := Ideal))) ⟨m, fun _ => 0, g⟩ (fun r => ∀ c : Dev Cert.AInDwIdeal.nD,
          r.2.mem ((c.tc : Thread Cert.AInDwIdeal.nD Cert.AInDwIdeal.τ).loc Cert.AInDwIdeal.main_v2) = v0 c
          ∧ r.2.mem ((c.tc : Thread Cert.AInDwIdeal.nD Cert.AInDwIdeal.τ).loc Cert.AInDwIdeal.main_arg0) = m ((c.tc : Thread Cert.AInDwIdeal.nD Cert.AInDwIdeal.τ).loc Cert.AInDwIdeal.main_arg0)
          ∧ r.2.mem ((c.tc : Thread Cert.AInDwIdeal.nD Cert.AInDwIdeal.τ).loc Cert.AInDwIdeal.main_arg1) = m ((c.tc : Thread Cert.AInDwIdeal.nD Cert.AInDwIdeal.τ).loc Cert.AInDwIdeal.main_arg1)
          ∧ r.2.mem ((c.tc : Thread Cert.AInDwIdeal.nD Cert.AInDwIdeal.τ).loc Cert.AInDwIdeal.main_arg2) = m ((c.tc : Thread Cert.AInDwIdeal.nD Cert.AInDwIdeal.τ).loc Cert.AInDwIdeal.main_arg2))
      ∧ θ_run (Cert.AInDwRefIdeal.defs (F := Ideal)) (onTc (τ := Cert.AInDwRefIdeal.τ) (Cert.AInDwRefIdeal.main (F := Ideal))) ⟨m', fun _ => 0, g'⟩ (fun r => ∀ c : Dev Cert.AInDwRefIdeal.nD,
          r.2.mem ((c.tc : Thread Cert.AInDwRefIdeal.nD Cert.AInDwRefIdeal.τ).loc Cert.AInDwRefIdeal.main_v2) = v0 c
          ∧ r.2.mem ((c.tc : Thread Cert.AInDwRefIdeal.nD Cert.AInDwRefIdeal.τ).loc Cert.AInDwRefIdeal.main_arg0) = m' ((c.tc : Thread Cert.AInDwRefIdeal.nD Cert.AInDwRefIdeal.τ).loc Cert.AInDwRefIdeal.main_arg0)
          ∧ r.2.mem ((c.tc : Thread Cert.AInDwRefIdeal.nD Cert.AInDwRefIdeal.τ).loc Cert.AInDwRefIdeal.main_arg1) = m' ((c.tc : Thread Cert.AInDwRefIdeal.nD Cert.AInDwRefIdeal.τ).loc Cert.AInDwRefIdeal.main_arg1)
          ∧ r.2.mem ((c.tc : Thread Cert.AInDwRefIdeal.nD Cert.AInDwRefIdeal.τ).loc Cert.AInDwRefIdeal.main_arg2) = m' ((c.tc : Thread Cert.AInDwRefIdeal.nD Cert.AInDwRefIdeal.τ).loc Cert.AInDwRefIdeal.main_arg2))

def preserves_AOutDw_AOutDwIdeal : Prop :=
  True

def algebraic_AOutDwIdeal_AOutDwRefIdeal [hAOutDwIdeal : Cert.AOutDwIdeal.Facts] [hAOutDwRefIdeal : Cert.AOutDwRefIdeal.Facts] : Prop :=
  ∀ (m : (ℓ : Loc Cert.AOutDwIdeal.nD Cert.AOutDwIdeal.τ Cert.AOutDwIdeal.sig) → Buf (Elt Ideal) ℓ) (g : Dev Cert.AOutDwIdeal.nD → PrngReg)
    (m' : (ℓ : Loc Cert.AOutDwRefIdeal.nD Cert.AOutDwRefIdeal.τ Cert.AOutDwRefIdeal.sig) → Buf (Elt Ideal) ℓ) (g' : Dev Cert.AOutDwRefIdeal.nD → PrngReg), Pre_AOutDwIdeal m →
    (∀ c : Dev Cert.AOutDwIdeal.nD,
      m' ((c.tc : Thread Cert.AOutDwRefIdeal.nD Cert.AOutDwRefIdeal.τ).loc Cert.AOutDwRefIdeal.main_arg0) = m ((c.tc : Thread Cert.AOutDwIdeal.nD Cert.AOutDwIdeal.τ).loc Cert.AOutDwIdeal.main_arg0)
      ∧ m' ((c.tc : Thread Cert.AOutDwRefIdeal.nD Cert.AOutDwRefIdeal.τ).loc Cert.AOutDwRefIdeal.main_arg1) = m ((c.tc : Thread Cert.AOutDwIdeal.nD Cert.AOutDwIdeal.τ).loc Cert.AOutDwIdeal.main_arg1)
      ∧ m' ((c.tc : Thread Cert.AOutDwRefIdeal.nD Cert.AOutDwRefIdeal.τ).loc Cert.AOutDwRefIdeal.main_arg2) = m ((c.tc : Thread Cert.AOutDwIdeal.nD Cert.AOutDwIdeal.τ).loc Cert.AOutDwIdeal.main_arg2)) →
    ∃ (v0 : (c : Dev Cert.AOutDwIdeal.nD) → Buf (Elt Ideal) ((c.tc : Thread Cert.AOutDwIdeal.nD Cert.AOutDwIdeal.τ).loc Cert.AOutDwIdeal.main_v2)),
      θ_run (Cert.AOutDwIdeal.defs (F := Ideal)) (onTc (τ := Cert.AOutDwIdeal.τ) (Cert.AOutDwIdeal.main (F := Ideal))) ⟨m, fun _ => 0, g⟩ (fun r => ∀ c : Dev Cert.AOutDwIdeal.nD,
          r.2.mem ((c.tc : Thread Cert.AOutDwIdeal.nD Cert.AOutDwIdeal.τ).loc Cert.AOutDwIdeal.main_v2) = v0 c
          ∧ r.2.mem ((c.tc : Thread Cert.AOutDwIdeal.nD Cert.AOutDwIdeal.τ).loc Cert.AOutDwIdeal.main_arg0) = m ((c.tc : Thread Cert.AOutDwIdeal.nD Cert.AOutDwIdeal.τ).loc Cert.AOutDwIdeal.main_arg0)
          ∧ r.2.mem ((c.tc : Thread Cert.AOutDwIdeal.nD Cert.AOutDwIdeal.τ).loc Cert.AOutDwIdeal.main_arg1) = m ((c.tc : Thread Cert.AOutDwIdeal.nD Cert.AOutDwIdeal.τ).loc Cert.AOutDwIdeal.main_arg1)
          ∧ r.2.mem ((c.tc : Thread Cert.AOutDwIdeal.nD Cert.AOutDwIdeal.τ).loc Cert.AOutDwIdeal.main_arg2) = m ((c.tc : Thread Cert.AOutDwIdeal.nD Cert.AOutDwIdeal.τ).loc Cert.AOutDwIdeal.main_arg2))
      ∧ θ_run (Cert.AOutDwRefIdeal.defs (F := Ideal)) (onTc (τ := Cert.AOutDwRefIdeal.τ) (Cert.AOutDwRefIdeal.main (F := Ideal))) ⟨m', fun _ => 0, g'⟩ (fun r => ∀ c : Dev Cert.AOutDwRefIdeal.nD,
          r.2.mem ((c.tc : Thread Cert.AOutDwRefIdeal.nD Cert.AOutDwRefIdeal.τ).loc Cert.AOutDwRefIdeal.main_v2) = v0 c
          ∧ r.2.mem ((c.tc : Thread Cert.AOutDwRefIdeal.nD Cert.AOutDwRefIdeal.τ).loc Cert.AOutDwRefIdeal.main_arg0) = m' ((c.tc : Thread Cert.AOutDwRefIdeal.nD Cert.AOutDwRefIdeal.τ).loc Cert.AOutDwRefIdeal.main_arg0)
          ∧ r.2.mem ((c.tc : Thread Cert.AOutDwRefIdeal.nD Cert.AOutDwRefIdeal.τ).loc Cert.AOutDwRefIdeal.main_arg1) = m' ((c.tc : Thread Cert.AOutDwRefIdeal.nD Cert.AOutDwRefIdeal.τ).loc Cert.AOutDwRefIdeal.main_arg1)
          ∧ r.2.mem ((c.tc : Thread Cert.AOutDwRefIdeal.nD Cert.AOutDwRefIdeal.τ).loc Cert.AOutDwRefIdeal.main_arg2) = m' ((c.tc : Thread Cert.AOutDwRefIdeal.nD Cert.AOutDwRefIdeal.τ).loc Cert.AOutDwRefIdeal.main_arg2))

def preserves_AOutDx_AOutDxIdeal : Prop :=
  True

def algebraic_AOutDxIdeal_AOutDxRefIdeal [hAOutDxIdeal : Cert.AOutDxIdeal.Facts] [hAOutDxRefIdeal : Cert.AOutDxRefIdeal.Facts] : Prop :=
  ∀ (m : (ℓ : Loc Cert.AOutDxIdeal.nD Cert.AOutDxIdeal.τ Cert.AOutDxIdeal.sig) → Buf (Elt Ideal) ℓ) (g : Dev Cert.AOutDxIdeal.nD → PrngReg)
    (m' : (ℓ : Loc Cert.AOutDxRefIdeal.nD Cert.AOutDxRefIdeal.τ Cert.AOutDxRefIdeal.sig) → Buf (Elt Ideal) ℓ) (g' : Dev Cert.AOutDxRefIdeal.nD → PrngReg), Pre_AOutDxIdeal m →
    (∀ c : Dev Cert.AOutDxIdeal.nD,
      m' ((c.tc : Thread Cert.AOutDxRefIdeal.nD Cert.AOutDxRefIdeal.τ).loc Cert.AOutDxRefIdeal.main_arg0) = m ((c.tc : Thread Cert.AOutDxIdeal.nD Cert.AOutDxIdeal.τ).loc Cert.AOutDxIdeal.main_arg0)
      ∧ m' ((c.tc : Thread Cert.AOutDxRefIdeal.nD Cert.AOutDxRefIdeal.τ).loc Cert.AOutDxRefIdeal.main_arg1) = m ((c.tc : Thread Cert.AOutDxIdeal.nD Cert.AOutDxIdeal.τ).loc Cert.AOutDxIdeal.main_arg1)
      ∧ m' ((c.tc : Thread Cert.AOutDxRefIdeal.nD Cert.AOutDxRefIdeal.τ).loc Cert.AOutDxRefIdeal.main_arg2) = m ((c.tc : Thread Cert.AOutDxIdeal.nD Cert.AOutDxIdeal.τ).loc Cert.AOutDxIdeal.main_arg2)) →
    ∃ (v0 : (c : Dev Cert.AOutDxIdeal.nD) → Buf (Elt Ideal) ((c.tc : Thread Cert.AOutDxIdeal.nD Cert.AOutDxIdeal.τ).loc Cert.AOutDxIdeal.main_v2)),
      θ_run (Cert.AOutDxIdeal.defs (F := Ideal)) (onTc (τ := Cert.AOutDxIdeal.τ) (Cert.AOutDxIdeal.main (F := Ideal))) ⟨m, fun _ => 0, g⟩ (fun r => ∀ c : Dev Cert.AOutDxIdeal.nD,
          r.2.mem ((c.tc : Thread Cert.AOutDxIdeal.nD Cert.AOutDxIdeal.τ).loc Cert.AOutDxIdeal.main_v2) = v0 c
          ∧ r.2.mem ((c.tc : Thread Cert.AOutDxIdeal.nD Cert.AOutDxIdeal.τ).loc Cert.AOutDxIdeal.main_arg0) = m ((c.tc : Thread Cert.AOutDxIdeal.nD Cert.AOutDxIdeal.τ).loc Cert.AOutDxIdeal.main_arg0)
          ∧ r.2.mem ((c.tc : Thread Cert.AOutDxIdeal.nD Cert.AOutDxIdeal.τ).loc Cert.AOutDxIdeal.main_arg1) = m ((c.tc : Thread Cert.AOutDxIdeal.nD Cert.AOutDxIdeal.τ).loc Cert.AOutDxIdeal.main_arg1)
          ∧ r.2.mem ((c.tc : Thread Cert.AOutDxIdeal.nD Cert.AOutDxIdeal.τ).loc Cert.AOutDxIdeal.main_arg2) = m ((c.tc : Thread Cert.AOutDxIdeal.nD Cert.AOutDxIdeal.τ).loc Cert.AOutDxIdeal.main_arg2))
      ∧ θ_run (Cert.AOutDxRefIdeal.defs (F := Ideal)) (onTc (τ := Cert.AOutDxRefIdeal.τ) (Cert.AOutDxRefIdeal.main (F := Ideal))) ⟨m', fun _ => 0, g'⟩ (fun r => ∀ c : Dev Cert.AOutDxRefIdeal.nD,
          r.2.mem ((c.tc : Thread Cert.AOutDxRefIdeal.nD Cert.AOutDxRefIdeal.τ).loc Cert.AOutDxRefIdeal.main_v2) = v0 c
          ∧ r.2.mem ((c.tc : Thread Cert.AOutDxRefIdeal.nD Cert.AOutDxRefIdeal.τ).loc Cert.AOutDxRefIdeal.main_arg0) = m' ((c.tc : Thread Cert.AOutDxRefIdeal.nD Cert.AOutDxRefIdeal.τ).loc Cert.AOutDxRefIdeal.main_arg0)
          ∧ r.2.mem ((c.tc : Thread Cert.AOutDxRefIdeal.nD Cert.AOutDxRefIdeal.τ).loc Cert.AOutDxRefIdeal.main_arg1) = m' ((c.tc : Thread Cert.AOutDxRefIdeal.nD Cert.AOutDxRefIdeal.τ).loc Cert.AOutDxRefIdeal.main_arg1)
          ∧ r.2.mem ((c.tc : Thread Cert.AOutDxRefIdeal.nD Cert.AOutDxRefIdeal.τ).loc Cert.AOutDxRefIdeal.main_arg2) = m' ((c.tc : Thread Cert.AOutDxRefIdeal.nD Cert.AOutDxRefIdeal.τ).loc Cert.AOutDxRefIdeal.main_arg2))

def preserves_BOutDw_BOutDwIdeal : Prop :=
  True

def algebraic_BOutDwIdeal_BOutDwRefIdeal [hBOutDwIdeal : Cert.BOutDwIdeal.Facts] [hBOutDwRefIdeal : Cert.BOutDwRefIdeal.Facts] : Prop :=
  ∀ (m : (ℓ : Loc Cert.BOutDwIdeal.nD Cert.BOutDwIdeal.τ Cert.BOutDwIdeal.sig) → Buf (Elt Ideal) ℓ) (g : Dev Cert.BOutDwIdeal.nD → PrngReg)
    (m' : (ℓ : Loc Cert.BOutDwRefIdeal.nD Cert.BOutDwRefIdeal.τ Cert.BOutDwRefIdeal.sig) → Buf (Elt Ideal) ℓ) (g' : Dev Cert.BOutDwRefIdeal.nD → PrngReg), Pre_BOutDwIdeal m →
    (∀ c : Dev Cert.BOutDwIdeal.nD,
      m' ((c.tc : Thread Cert.BOutDwRefIdeal.nD Cert.BOutDwRefIdeal.τ).loc Cert.BOutDwRefIdeal.main_arg0) = m ((c.tc : Thread Cert.BOutDwIdeal.nD Cert.BOutDwIdeal.τ).loc Cert.BOutDwIdeal.main_arg0)
      ∧ m' ((c.tc : Thread Cert.BOutDwRefIdeal.nD Cert.BOutDwRefIdeal.τ).loc Cert.BOutDwRefIdeal.main_arg1) = m ((c.tc : Thread Cert.BOutDwIdeal.nD Cert.BOutDwIdeal.τ).loc Cert.BOutDwIdeal.main_arg1)
      ∧ m' ((c.tc : Thread Cert.BOutDwRefIdeal.nD Cert.BOutDwRefIdeal.τ).loc Cert.BOutDwRefIdeal.main_arg2) = m ((c.tc : Thread Cert.BOutDwIdeal.nD Cert.BOutDwIdeal.τ).loc Cert.BOutDwIdeal.main_arg2)) →
    ∃ (v0 : (c : Dev Cert.BOutDwIdeal.nD) → Buf (Elt Ideal) ((c.tc : Thread Cert.BOutDwIdeal.nD Cert.BOutDwIdeal.τ).loc Cert.BOutDwIdeal.main_v2)),
      θ_run (Cert.BOutDwIdeal.defs (F := Ideal)) (onTc (τ := Cert.BOutDwIdeal.τ) (Cert.BOutDwIdeal.main (F := Ideal))) ⟨m, fun _ => 0, g⟩ (fun r => ∀ c : Dev Cert.BOutDwIdeal.nD,
          r.2.mem ((c.tc : Thread Cert.BOutDwIdeal.nD Cert.BOutDwIdeal.τ).loc Cert.BOutDwIdeal.main_v2) = v0 c
          ∧ r.2.mem ((c.tc : Thread Cert.BOutDwIdeal.nD Cert.BOutDwIdeal.τ).loc Cert.BOutDwIdeal.main_arg0) = m ((c.tc : Thread Cert.BOutDwIdeal.nD Cert.BOutDwIdeal.τ).loc Cert.BOutDwIdeal.main_arg0)
          ∧ r.2.mem ((c.tc : Thread Cert.BOutDwIdeal.nD Cert.BOutDwIdeal.τ).loc Cert.BOutDwIdeal.main_arg1) = m ((c.tc : Thread Cert.BOutDwIdeal.nD Cert.BOutDwIdeal.τ).loc Cert.BOutDwIdeal.main_arg1)
          ∧ r.2.mem ((c.tc : Thread Cert.BOutDwIdeal.nD Cert.BOutDwIdeal.τ).loc Cert.BOutDwIdeal.main_arg2) = m ((c.tc : Thread Cert.BOutDwIdeal.nD Cert.BOutDwIdeal.τ).loc Cert.BOutDwIdeal.main_arg2))
      ∧ θ_run (Cert.BOutDwRefIdeal.defs (F := Ideal)) (onTc (τ := Cert.BOutDwRefIdeal.τ) (Cert.BOutDwRefIdeal.main (F := Ideal))) ⟨m', fun _ => 0, g'⟩ (fun r => ∀ c : Dev Cert.BOutDwRefIdeal.nD,
          r.2.mem ((c.tc : Thread Cert.BOutDwRefIdeal.nD Cert.BOutDwRefIdeal.τ).loc Cert.BOutDwRefIdeal.main_v2) = v0 c
          ∧ r.2.mem ((c.tc : Thread Cert.BOutDwRefIdeal.nD Cert.BOutDwRefIdeal.τ).loc Cert.BOutDwRefIdeal.main_arg0) = m' ((c.tc : Thread Cert.BOutDwRefIdeal.nD Cert.BOutDwRefIdeal.τ).loc Cert.BOutDwRefIdeal.main_arg0)
          ∧ r.2.mem ((c.tc : Thread Cert.BOutDwRefIdeal.nD Cert.BOutDwRefIdeal.τ).loc Cert.BOutDwRefIdeal.main_arg1) = m' ((c.tc : Thread Cert.BOutDwRefIdeal.nD Cert.BOutDwRefIdeal.τ).loc Cert.BOutDwRefIdeal.main_arg1)
          ∧ r.2.mem ((c.tc : Thread Cert.BOutDwRefIdeal.nD Cert.BOutDwRefIdeal.τ).loc Cert.BOutDwRefIdeal.main_arg2) = m' ((c.tc : Thread Cert.BOutDwRefIdeal.nD Cert.BOutDwRefIdeal.τ).loc Cert.BOutDwRefIdeal.main_arg2))

def preserves_BOutDx_BOutDxIdeal : Prop :=
  True

def algebraic_BOutDxIdeal_BOutDxRefIdeal [hBOutDxIdeal : Cert.BOutDxIdeal.Facts] [hBOutDxRefIdeal : Cert.BOutDxRefIdeal.Facts] : Prop :=
  ∀ (m : (ℓ : Loc Cert.BOutDxIdeal.nD Cert.BOutDxIdeal.τ Cert.BOutDxIdeal.sig) → Buf (Elt Ideal) ℓ) (g : Dev Cert.BOutDxIdeal.nD → PrngReg)
    (m' : (ℓ : Loc Cert.BOutDxRefIdeal.nD Cert.BOutDxRefIdeal.τ Cert.BOutDxRefIdeal.sig) → Buf (Elt Ideal) ℓ) (g' : Dev Cert.BOutDxRefIdeal.nD → PrngReg), Pre_BOutDxIdeal m →
    (∀ c : Dev Cert.BOutDxIdeal.nD,
      m' ((c.tc : Thread Cert.BOutDxRefIdeal.nD Cert.BOutDxRefIdeal.τ).loc Cert.BOutDxRefIdeal.main_arg0) = m ((c.tc : Thread Cert.BOutDxIdeal.nD Cert.BOutDxIdeal.τ).loc Cert.BOutDxIdeal.main_arg0)
      ∧ m' ((c.tc : Thread Cert.BOutDxRefIdeal.nD Cert.BOutDxRefIdeal.τ).loc Cert.BOutDxRefIdeal.main_arg1) = m ((c.tc : Thread Cert.BOutDxIdeal.nD Cert.BOutDxIdeal.τ).loc Cert.BOutDxIdeal.main_arg1)
      ∧ m' ((c.tc : Thread Cert.BOutDxRefIdeal.nD Cert.BOutDxRefIdeal.τ).loc Cert.BOutDxRefIdeal.main_arg2) = m ((c.tc : Thread Cert.BOutDxIdeal.nD Cert.BOutDxIdeal.τ).loc Cert.BOutDxIdeal.main_arg2)) →
    ∃ (v0 : (c : Dev Cert.BOutDxIdeal.nD) → Buf (Elt Ideal) ((c.tc : Thread Cert.BOutDxIdeal.nD Cert.BOutDxIdeal.τ).loc Cert.BOutDxIdeal.main_v2)),
      θ_run (Cert.BOutDxIdeal.defs (F := Ideal)) (onTc (τ := Cert.BOutDxIdeal.τ) (Cert.BOutDxIdeal.main (F := Ideal))) ⟨m, fun _ => 0, g⟩ (fun r => ∀ c : Dev Cert.BOutDxIdeal.nD,
          r.2.mem ((c.tc : Thread Cert.BOutDxIdeal.nD Cert.BOutDxIdeal.τ).loc Cert.BOutDxIdeal.main_v2) = v0 c
          ∧ r.2.mem ((c.tc : Thread Cert.BOutDxIdeal.nD Cert.BOutDxIdeal.τ).loc Cert.BOutDxIdeal.main_arg0) = m ((c.tc : Thread Cert.BOutDxIdeal.nD Cert.BOutDxIdeal.τ).loc Cert.BOutDxIdeal.main_arg0)
          ∧ r.2.mem ((c.tc : Thread Cert.BOutDxIdeal.nD Cert.BOutDxIdeal.τ).loc Cert.BOutDxIdeal.main_arg1) = m ((c.tc : Thread Cert.BOutDxIdeal.nD Cert.BOutDxIdeal.τ).loc Cert.BOutDxIdeal.main_arg1)
          ∧ r.2.mem ((c.tc : Thread Cert.BOutDxIdeal.nD Cert.BOutDxIdeal.τ).loc Cert.BOutDxIdeal.main_arg2) = m ((c.tc : Thread Cert.BOutDxIdeal.nD Cert.BOutDxIdeal.τ).loc Cert.BOutDxIdeal.main_arg2))
      ∧ θ_run (Cert.BOutDxRefIdeal.defs (F := Ideal)) (onTc (τ := Cert.BOutDxRefIdeal.τ) (Cert.BOutDxRefIdeal.main (F := Ideal))) ⟨m', fun _ => 0, g'⟩ (fun r => ∀ c : Dev Cert.BOutDxRefIdeal.nD,
          r.2.mem ((c.tc : Thread Cert.BOutDxRefIdeal.nD Cert.BOutDxRefIdeal.τ).loc Cert.BOutDxRefIdeal.main_v2) = v0 c
          ∧ r.2.mem ((c.tc : Thread Cert.BOutDxRefIdeal.nD Cert.BOutDxRefIdeal.τ).loc Cert.BOutDxRefIdeal.main_arg0) = m' ((c.tc : Thread Cert.BOutDxRefIdeal.nD Cert.BOutDxRefIdeal.τ).loc Cert.BOutDxRefIdeal.main_arg0)
          ∧ r.2.mem ((c.tc : Thread Cert.BOutDxRefIdeal.nD Cert.BOutDxRefIdeal.τ).loc Cert.BOutDxRefIdeal.main_arg1) = m' ((c.tc : Thread Cert.BOutDxRefIdeal.nD Cert.BOutDxRefIdeal.τ).loc Cert.BOutDxRefIdeal.main_arg1)
          ∧ r.2.mem ((c.tc : Thread Cert.BOutDxRefIdeal.nD Cert.BOutDxRefIdeal.τ).loc Cert.BOutDxRefIdeal.main_arg2) = m' ((c.tc : Thread Cert.BOutDxRefIdeal.nD Cert.BOutDxRefIdeal.τ).loc Cert.BOutDxRefIdeal.main_arg2))

def preserves_BInDw0_BInDw0Ideal : Prop :=
  True

def algebraic_BInDw0Ideal_BInDw0RefIdeal [hBInDw0Ideal : Cert.BInDw0Ideal.Facts] [hBInDw0RefIdeal : Cert.BInDw0RefIdeal.Facts] : Prop :=
  ∀ (m : (ℓ : Loc Cert.BInDw0Ideal.nD Cert.BInDw0Ideal.τ Cert.BInDw0Ideal.sig) → Buf (Elt Ideal) ℓ) (g : Dev Cert.BInDw0Ideal.nD → PrngReg)
    (m' : (ℓ : Loc Cert.BInDw0RefIdeal.nD Cert.BInDw0RefIdeal.τ Cert.BInDw0RefIdeal.sig) → Buf (Elt Ideal) ℓ) (g' : Dev Cert.BInDw0RefIdeal.nD → PrngReg), Pre_BInDw0Ideal m →
    (∀ c : Dev Cert.BInDw0Ideal.nD,
      m' ((c.tc : Thread Cert.BInDw0RefIdeal.nD Cert.BInDw0RefIdeal.τ).loc Cert.BInDw0RefIdeal.main_arg0) = m ((c.tc : Thread Cert.BInDw0Ideal.nD Cert.BInDw0Ideal.τ).loc Cert.BInDw0Ideal.main_arg0)
      ∧ m' ((c.tc : Thread Cert.BInDw0RefIdeal.nD Cert.BInDw0RefIdeal.τ).loc Cert.BInDw0RefIdeal.main_arg1) = m ((c.tc : Thread Cert.BInDw0Ideal.nD Cert.BInDw0Ideal.τ).loc Cert.BInDw0Ideal.main_arg1)
      ∧ m' ((c.tc : Thread Cert.BInDw0RefIdeal.nD Cert.BInDw0RefIdeal.τ).loc Cert.BInDw0RefIdeal.main_arg2) = m ((c.tc : Thread Cert.BInDw0Ideal.nD Cert.BInDw0Ideal.τ).loc Cert.BInDw0Ideal.main_arg2)) →
    ∃ (v0 : (c : Dev Cert.BInDw0Ideal.nD) → Buf (Elt Ideal) ((c.tc : Thread Cert.BInDw0Ideal.nD Cert.BInDw0Ideal.τ).loc Cert.BInDw0Ideal.main_v3)),
      θ_run (Cert.BInDw0Ideal.defs (F := Ideal)) (onTc (τ := Cert.BInDw0Ideal.τ) (Cert.BInDw0Ideal.main (F := Ideal))) ⟨m, fun _ => 0, g⟩ (fun r => ∀ c : Dev Cert.BInDw0Ideal.nD,
          r.2.mem ((c.tc : Thread Cert.BInDw0Ideal.nD Cert.BInDw0Ideal.τ).loc Cert.BInDw0Ideal.main_v3) = v0 c
          ∧ r.2.mem ((c.tc : Thread Cert.BInDw0Ideal.nD Cert.BInDw0Ideal.τ).loc Cert.BInDw0Ideal.main_arg0) = m ((c.tc : Thread Cert.BInDw0Ideal.nD Cert.BInDw0Ideal.τ).loc Cert.BInDw0Ideal.main_arg0)
          ∧ r.2.mem ((c.tc : Thread Cert.BInDw0Ideal.nD Cert.BInDw0Ideal.τ).loc Cert.BInDw0Ideal.main_arg1) = m ((c.tc : Thread Cert.BInDw0Ideal.nD Cert.BInDw0Ideal.τ).loc Cert.BInDw0Ideal.main_arg1)
          ∧ r.2.mem ((c.tc : Thread Cert.BInDw0Ideal.nD Cert.BInDw0Ideal.τ).loc Cert.BInDw0Ideal.main_arg2) = m ((c.tc : Thread Cert.BInDw0Ideal.nD Cert.BInDw0Ideal.τ).loc Cert.BInDw0Ideal.main_arg2))
      ∧ θ_run (Cert.BInDw0RefIdeal.defs (F := Ideal)) (onTc (τ := Cert.BInDw0RefIdeal.τ) (Cert.BInDw0RefIdeal.main (F := Ideal))) ⟨m', fun _ => 0, g'⟩ (fun r => ∀ c : Dev Cert.BInDw0RefIdeal.nD,
          r.2.mem ((c.tc : Thread Cert.BInDw0RefIdeal.nD Cert.BInDw0RefIdeal.τ).loc Cert.BInDw0RefIdeal.main_v27) = v0 c
          ∧ r.2.mem ((c.tc : Thread Cert.BInDw0RefIdeal.nD Cert.BInDw0RefIdeal.τ).loc Cert.BInDw0RefIdeal.main_arg0) = m' ((c.tc : Thread Cert.BInDw0RefIdeal.nD Cert.BInDw0RefIdeal.τ).loc Cert.BInDw0RefIdeal.main_arg0)
          ∧ r.2.mem ((c.tc : Thread Cert.BInDw0RefIdeal.nD Cert.BInDw0RefIdeal.τ).loc Cert.BInDw0RefIdeal.main_arg1) = m' ((c.tc : Thread Cert.BInDw0RefIdeal.nD Cert.BInDw0RefIdeal.τ).loc Cert.BInDw0RefIdeal.main_arg1)
          ∧ r.2.mem ((c.tc : Thread Cert.BInDw0RefIdeal.nD Cert.BInDw0RefIdeal.τ).loc Cert.BInDw0RefIdeal.main_arg2) = m' ((c.tc : Thread Cert.BInDw0RefIdeal.nD Cert.BInDw0RefIdeal.τ).loc Cert.BInDw0RefIdeal.main_arg2))

def preserves_BInDx0_BInDx0Ideal : Prop :=
  True

def algebraic_BInDx0Ideal_BInDx0RefIdeal [hBInDx0Ideal : Cert.BInDx0Ideal.Facts] [hBInDx0RefIdeal : Cert.BInDx0RefIdeal.Facts] : Prop :=
  ∀ (m : (ℓ : Loc Cert.BInDx0Ideal.nD Cert.BInDx0Ideal.τ Cert.BInDx0Ideal.sig) → Buf (Elt Ideal) ℓ) (g : Dev Cert.BInDx0Ideal.nD → PrngReg)
    (m' : (ℓ : Loc Cert.BInDx0RefIdeal.nD Cert.BInDx0RefIdeal.τ Cert.BInDx0RefIdeal.sig) → Buf (Elt Ideal) ℓ) (g' : Dev Cert.BInDx0RefIdeal.nD → PrngReg), Pre_BInDx0Ideal m →
    (∀ c : Dev Cert.BInDx0Ideal.nD,
      m' ((c.tc : Thread Cert.BInDx0RefIdeal.nD Cert.BInDx0RefIdeal.τ).loc Cert.BInDx0RefIdeal.main_arg0) = m ((c.tc : Thread Cert.BInDx0Ideal.nD Cert.BInDx0Ideal.τ).loc Cert.BInDx0Ideal.main_arg0)
      ∧ m' ((c.tc : Thread Cert.BInDx0RefIdeal.nD Cert.BInDx0RefIdeal.τ).loc Cert.BInDx0RefIdeal.main_arg1) = m ((c.tc : Thread Cert.BInDx0Ideal.nD Cert.BInDx0Ideal.τ).loc Cert.BInDx0Ideal.main_arg1)
      ∧ m' ((c.tc : Thread Cert.BInDx0RefIdeal.nD Cert.BInDx0RefIdeal.τ).loc Cert.BInDx0RefIdeal.main_arg2) = m ((c.tc : Thread Cert.BInDx0Ideal.nD Cert.BInDx0Ideal.τ).loc Cert.BInDx0Ideal.main_arg2)) →
    ∃ (v0 : (c : Dev Cert.BInDx0Ideal.nD) → Buf (Elt Ideal) ((c.tc : Thread Cert.BInDx0Ideal.nD Cert.BInDx0Ideal.τ).loc Cert.BInDx0Ideal.main_v4)),
      θ_run (Cert.BInDx0Ideal.defs (F := Ideal)) (onTc (τ := Cert.BInDx0Ideal.τ) (Cert.BInDx0Ideal.main (F := Ideal))) ⟨m, fun _ => 0, g⟩ (fun r => ∀ c : Dev Cert.BInDx0Ideal.nD,
          r.2.mem ((c.tc : Thread Cert.BInDx0Ideal.nD Cert.BInDx0Ideal.τ).loc Cert.BInDx0Ideal.main_v4) = v0 c
          ∧ r.2.mem ((c.tc : Thread Cert.BInDx0Ideal.nD Cert.BInDx0Ideal.τ).loc Cert.BInDx0Ideal.main_arg0) = m ((c.tc : Thread Cert.BInDx0Ideal.nD Cert.BInDx0Ideal.τ).loc Cert.BInDx0Ideal.main_arg0)
          ∧ r.2.mem ((c.tc : Thread Cert.BInDx0Ideal.nD Cert.BInDx0Ideal.τ).loc Cert.BInDx0Ideal.main_arg1) = m ((c.tc : Thread Cert.BInDx0Ideal.nD Cert.BInDx0Ideal.τ).loc Cert.BInDx0Ideal.main_arg1)
          ∧ r.2.mem ((c.tc : Thread Cert.BInDx0Ideal.nD Cert.BInDx0Ideal.τ).loc Cert.BInDx0Ideal.main_arg2) = m ((c.tc : Thread Cert.BInDx0Ideal.nD Cert.BInDx0Ideal.τ).loc Cert.BInDx0Ideal.main_arg2))
      ∧ θ_run (Cert.BInDx0RefIdeal.defs (F := Ideal)) (onTc (τ := Cert.BInDx0RefIdeal.τ) (Cert.BInDx0RefIdeal.main (F := Ideal))) ⟨m', fun _ => 0, g'⟩ (fun r => ∀ c : Dev Cert.BInDx0RefIdeal.nD,
          r.2.mem ((c.tc : Thread Cert.BInDx0RefIdeal.nD Cert.BInDx0RefIdeal.τ).loc Cert.BInDx0RefIdeal.main_v9) = v0 c
          ∧ r.2.mem ((c.tc : Thread Cert.BInDx0RefIdeal.nD Cert.BInDx0RefIdeal.τ).loc Cert.BInDx0RefIdeal.main_arg0) = m' ((c.tc : Thread Cert.BInDx0RefIdeal.nD Cert.BInDx0RefIdeal.τ).loc Cert.BInDx0RefIdeal.main_arg0)
          ∧ r.2.mem ((c.tc : Thread Cert.BInDx0RefIdeal.nD Cert.BInDx0RefIdeal.τ).loc Cert.BInDx0RefIdeal.main_arg1) = m' ((c.tc : Thread Cert.BInDx0RefIdeal.nD Cert.BInDx0RefIdeal.τ).loc Cert.BInDx0RefIdeal.main_arg1)
          ∧ r.2.mem ((c.tc : Thread Cert.BInDx0RefIdeal.nD Cert.BInDx0RefIdeal.τ).loc Cert.BInDx0RefIdeal.main_arg2) = m' ((c.tc : Thread Cert.BInDx0RefIdeal.nD Cert.BInDx0RefIdeal.τ).loc Cert.BInDx0RefIdeal.main_arg2))

def preserves_BIn0_BIn0Ideal : Prop :=
  True

def algebraic_BIn0Ideal_BIn0RefIdeal [hBIn0Ideal : Cert.BIn0Ideal.Facts] [hBIn0RefIdeal : Cert.BIn0RefIdeal.Facts] : Prop :=
  ∀ (m : (ℓ : Loc Cert.BIn0Ideal.nD Cert.BIn0Ideal.τ Cert.BIn0Ideal.sig) → Buf (Elt Ideal) ℓ) (g : Dev Cert.BIn0Ideal.nD → PrngReg)
    (m' : (ℓ : Loc Cert.BIn0RefIdeal.nD Cert.BIn0RefIdeal.τ Cert.BIn0RefIdeal.sig) → Buf (Elt Ideal) ℓ) (g' : Dev Cert.BIn0RefIdeal.nD → PrngReg), Pre_BIn0Ideal m →
    (∀ c : Dev Cert.BIn0Ideal.nD,
      m' ((c.tc : Thread Cert.BIn0RefIdeal.nD Cert.BIn0RefIdeal.τ).loc Cert.BIn0RefIdeal.main_arg0) = m ((c.tc : Thread Cert.BIn0Ideal.nD Cert.BIn0Ideal.τ).loc Cert.BIn0Ideal.main_arg0)
      ∧ m' ((c.tc : Thread Cert.BIn0RefIdeal.nD Cert.BIn0RefIdeal.τ).loc Cert.BIn0RefIdeal.main_arg1) = m ((c.tc : Thread Cert.BIn0Ideal.nD Cert.BIn0Ideal.τ).loc Cert.BIn0Ideal.main_arg1)) →
    ∃ (v0 : (c : Dev Cert.BIn0Ideal.nD) → Buf (Elt Ideal) ((c.tc : Thread Cert.BIn0Ideal.nD Cert.BIn0Ideal.τ).loc Cert.BIn0Ideal.main_v4)),
      θ_run (Cert.BIn0Ideal.defs (F := Ideal)) (onTc (τ := Cert.BIn0Ideal.τ) (Cert.BIn0Ideal.main (F := Ideal))) ⟨m, fun _ => 0, g⟩ (fun r => ∀ c : Dev Cert.BIn0Ideal.nD,
          r.2.mem ((c.tc : Thread Cert.BIn0Ideal.nD Cert.BIn0Ideal.τ).loc Cert.BIn0Ideal.main_v4) = v0 c
          ∧ r.2.mem ((c.tc : Thread Cert.BIn0Ideal.nD Cert.BIn0Ideal.τ).loc Cert.BIn0Ideal.main_arg0) = m ((c.tc : Thread Cert.BIn0Ideal.nD Cert.BIn0Ideal.τ).loc Cert.BIn0Ideal.main_arg0)
          ∧ r.2.mem ((c.tc : Thread Cert.BIn0Ideal.nD Cert.BIn0Ideal.τ).loc Cert.BIn0Ideal.main_arg1) = m ((c.tc : Thread Cert.BIn0Ideal.nD Cert.BIn0Ideal.τ).loc Cert.BIn0Ideal.main_arg1))
      ∧ θ_run (Cert.BIn0RefIdeal.defs (F := Ideal)) (onTc (τ := Cert.BIn0RefIdeal.τ) (Cert.BIn0RefIdeal.main (F := Ideal))) ⟨m', fun _ => 0, g'⟩ (fun r => ∀ c : Dev Cert.BIn0RefIdeal.nD,
          r.2.mem ((c.tc : Thread Cert.BIn0RefIdeal.nD Cert.BIn0RefIdeal.τ).loc Cert.BIn0RefIdeal.main_v8) = v0 c
          ∧ r.2.mem ((c.tc : Thread Cert.BIn0RefIdeal.nD Cert.BIn0RefIdeal.τ).loc Cert.BIn0RefIdeal.main_arg0) = m' ((c.tc : Thread Cert.BIn0RefIdeal.nD Cert.BIn0RefIdeal.τ).loc Cert.BIn0RefIdeal.main_arg0)
          ∧ r.2.mem ((c.tc : Thread Cert.BIn0RefIdeal.nD Cert.BIn0RefIdeal.τ).loc Cert.BIn0RefIdeal.main_arg1) = m' ((c.tc : Thread Cert.BIn0RefIdeal.nD Cert.BIn0RefIdeal.τ).loc Cert.BIn0RefIdeal.main_arg1))

def preserves_BInDw1_BInDw1Ideal : Prop :=
  True

def algebraic_BInDw1Ideal_BInDw1RefIdeal [hBInDw1Ideal : Cert.BInDw1Ideal.Facts] [hBInDw1RefIdeal : Cert.BInDw1RefIdeal.Facts] : Prop :=
  ∀ (m : (ℓ : Loc Cert.BInDw1Ideal.nD Cert.BInDw1Ideal.τ Cert.BInDw1Ideal.sig) → Buf (Elt Ideal) ℓ) (g : Dev Cert.BInDw1Ideal.nD → PrngReg)
    (m' : (ℓ : Loc Cert.BInDw1RefIdeal.nD Cert.BInDw1RefIdeal.τ Cert.BInDw1RefIdeal.sig) → Buf (Elt Ideal) ℓ) (g' : Dev Cert.BInDw1RefIdeal.nD → PrngReg), Pre_BInDw1Ideal m →
    (∀ c : Dev Cert.BInDw1Ideal.nD,
      m' ((c.tc : Thread Cert.BInDw1RefIdeal.nD Cert.BInDw1RefIdeal.τ).loc Cert.BInDw1RefIdeal.main_arg0) = m ((c.tc : Thread Cert.BInDw1Ideal.nD Cert.BInDw1Ideal.τ).loc Cert.BInDw1Ideal.main_arg0)
      ∧ m' ((c.tc : Thread Cert.BInDw1RefIdeal.nD Cert.BInDw1RefIdeal.τ).loc Cert.BInDw1RefIdeal.main_arg1) = m ((c.tc : Thread Cert.BInDw1Ideal.nD Cert.BInDw1Ideal.τ).loc Cert.BInDw1Ideal.main_arg1)
      ∧ m' ((c.tc : Thread Cert.BInDw1RefIdeal.nD Cert.BInDw1RefIdeal.τ).loc Cert.BInDw1RefIdeal.main_arg2) = m ((c.tc : Thread Cert.BInDw1Ideal.nD Cert.BInDw1Ideal.τ).loc Cert.BInDw1Ideal.main_arg2)) →
    ∃ (v0 : (c : Dev Cert.BInDw1Ideal.nD) → Buf (Elt Ideal) ((c.tc : Thread Cert.BInDw1Ideal.nD Cert.BInDw1Ideal.τ).loc Cert.BInDw1Ideal.main_v3)),
      θ_run (Cert.BInDw1Ideal.defs (F := Ideal)) (onTc (τ := Cert.BInDw1Ideal.τ) (Cert.BInDw1Ideal.main (F := Ideal))) ⟨m, fun _ => 0, g⟩ (fun r => ∀ c : Dev Cert.BInDw1Ideal.nD,
          r.2.mem ((c.tc : Thread Cert.BInDw1Ideal.nD Cert.BInDw1Ideal.τ).loc Cert.BInDw1Ideal.main_v3) = v0 c
          ∧ r.2.mem ((c.tc : Thread Cert.BInDw1Ideal.nD Cert.BInDw1Ideal.τ).loc Cert.BInDw1Ideal.main_arg0) = m ((c.tc : Thread Cert.BInDw1Ideal.nD Cert.BInDw1Ideal.τ).loc Cert.BInDw1Ideal.main_arg0)
          ∧ r.2.mem ((c.tc : Thread Cert.BInDw1Ideal.nD Cert.BInDw1Ideal.τ).loc Cert.BInDw1Ideal.main_arg1) = m ((c.tc : Thread Cert.BInDw1Ideal.nD Cert.BInDw1Ideal.τ).loc Cert.BInDw1Ideal.main_arg1)
          ∧ r.2.mem ((c.tc : Thread Cert.BInDw1Ideal.nD Cert.BInDw1Ideal.τ).loc Cert.BInDw1Ideal.main_arg2) = m ((c.tc : Thread Cert.BInDw1Ideal.nD Cert.BInDw1Ideal.τ).loc Cert.BInDw1Ideal.main_arg2))
      ∧ θ_run (Cert.BInDw1RefIdeal.defs (F := Ideal)) (onTc (τ := Cert.BInDw1RefIdeal.τ) (Cert.BInDw1RefIdeal.main (F := Ideal))) ⟨m', fun _ => 0, g'⟩ (fun r => ∀ c : Dev Cert.BInDw1RefIdeal.nD,
          r.2.mem ((c.tc : Thread Cert.BInDw1RefIdeal.nD Cert.BInDw1RefIdeal.τ).loc Cert.BInDw1RefIdeal.main_v21) = v0 c
          ∧ r.2.mem ((c.tc : Thread Cert.BInDw1RefIdeal.nD Cert.BInDw1RefIdeal.τ).loc Cert.BInDw1RefIdeal.main_arg0) = m' ((c.tc : Thread Cert.BInDw1RefIdeal.nD Cert.BInDw1RefIdeal.τ).loc Cert.BInDw1RefIdeal.main_arg0)
          ∧ r.2.mem ((c.tc : Thread Cert.BInDw1RefIdeal.nD Cert.BInDw1RefIdeal.τ).loc Cert.BInDw1RefIdeal.main_arg1) = m' ((c.tc : Thread Cert.BInDw1RefIdeal.nD Cert.BInDw1RefIdeal.τ).loc Cert.BInDw1RefIdeal.main_arg1)
          ∧ r.2.mem ((c.tc : Thread Cert.BInDw1RefIdeal.nD Cert.BInDw1RefIdeal.τ).loc Cert.BInDw1RefIdeal.main_arg2) = m' ((c.tc : Thread Cert.BInDw1RefIdeal.nD Cert.BInDw1RefIdeal.τ).loc Cert.BInDw1RefIdeal.main_arg2))

def preserves_BInDx1_BInDx1Ideal : Prop :=
  True

def algebraic_BInDx1Ideal_BInDx1RefIdeal [hBInDx1Ideal : Cert.BInDx1Ideal.Facts] [hBInDx1RefIdeal : Cert.BInDx1RefIdeal.Facts] : Prop :=
  ∀ (m : (ℓ : Loc Cert.BInDx1Ideal.nD Cert.BInDx1Ideal.τ Cert.BInDx1Ideal.sig) → Buf (Elt Ideal) ℓ) (g : Dev Cert.BInDx1Ideal.nD → PrngReg)
    (m' : (ℓ : Loc Cert.BInDx1RefIdeal.nD Cert.BInDx1RefIdeal.τ Cert.BInDx1RefIdeal.sig) → Buf (Elt Ideal) ℓ) (g' : Dev Cert.BInDx1RefIdeal.nD → PrngReg), Pre_BInDx1Ideal m →
    (∀ c : Dev Cert.BInDx1Ideal.nD,
      m' ((c.tc : Thread Cert.BInDx1RefIdeal.nD Cert.BInDx1RefIdeal.τ).loc Cert.BInDx1RefIdeal.main_arg0) = m ((c.tc : Thread Cert.BInDx1Ideal.nD Cert.BInDx1Ideal.τ).loc Cert.BInDx1Ideal.main_arg0)
      ∧ m' ((c.tc : Thread Cert.BInDx1RefIdeal.nD Cert.BInDx1RefIdeal.τ).loc Cert.BInDx1RefIdeal.main_arg1) = m ((c.tc : Thread Cert.BInDx1Ideal.nD Cert.BInDx1Ideal.τ).loc Cert.BInDx1Ideal.main_arg1)
      ∧ m' ((c.tc : Thread Cert.BInDx1RefIdeal.nD Cert.BInDx1RefIdeal.τ).loc Cert.BInDx1RefIdeal.main_arg2) = m ((c.tc : Thread Cert.BInDx1Ideal.nD Cert.BInDx1Ideal.τ).loc Cert.BInDx1Ideal.main_arg2)) →
    ∃ (v0 : (c : Dev Cert.BInDx1Ideal.nD) → Buf (Elt Ideal) ((c.tc : Thread Cert.BInDx1Ideal.nD Cert.BInDx1Ideal.τ).loc Cert.BInDx1Ideal.main_v4)),
      θ_run (Cert.BInDx1Ideal.defs (F := Ideal)) (onTc (τ := Cert.BInDx1Ideal.τ) (Cert.BInDx1Ideal.main (F := Ideal))) ⟨m, fun _ => 0, g⟩ (fun r => ∀ c : Dev Cert.BInDx1Ideal.nD,
          r.2.mem ((c.tc : Thread Cert.BInDx1Ideal.nD Cert.BInDx1Ideal.τ).loc Cert.BInDx1Ideal.main_v4) = v0 c
          ∧ r.2.mem ((c.tc : Thread Cert.BInDx1Ideal.nD Cert.BInDx1Ideal.τ).loc Cert.BInDx1Ideal.main_arg0) = m ((c.tc : Thread Cert.BInDx1Ideal.nD Cert.BInDx1Ideal.τ).loc Cert.BInDx1Ideal.main_arg0)
          ∧ r.2.mem ((c.tc : Thread Cert.BInDx1Ideal.nD Cert.BInDx1Ideal.τ).loc Cert.BInDx1Ideal.main_arg1) = m ((c.tc : Thread Cert.BInDx1Ideal.nD Cert.BInDx1Ideal.τ).loc Cert.BInDx1Ideal.main_arg1)
          ∧ r.2.mem ((c.tc : Thread Cert.BInDx1Ideal.nD Cert.BInDx1Ideal.τ).loc Cert.BInDx1Ideal.main_arg2) = m ((c.tc : Thread Cert.BInDx1Ideal.nD Cert.BInDx1Ideal.τ).loc Cert.BInDx1Ideal.main_arg2))
      ∧ θ_run (Cert.BInDx1RefIdeal.defs (F := Ideal)) (onTc (τ := Cert.BInDx1RefIdeal.τ) (Cert.BInDx1RefIdeal.main (F := Ideal))) ⟨m', fun _ => 0, g'⟩ (fun r => ∀ c : Dev Cert.BInDx1RefIdeal.nD,
          r.2.mem ((c.tc : Thread Cert.BInDx1RefIdeal.nD Cert.BInDx1RefIdeal.τ).loc Cert.BInDx1RefIdeal.main_v7) = v0 c
          ∧ r.2.mem ((c.tc : Thread Cert.BInDx1RefIdeal.nD Cert.BInDx1RefIdeal.τ).loc Cert.BInDx1RefIdeal.main_arg0) = m' ((c.tc : Thread Cert.BInDx1RefIdeal.nD Cert.BInDx1RefIdeal.τ).loc Cert.BInDx1RefIdeal.main_arg0)
          ∧ r.2.mem ((c.tc : Thread Cert.BInDx1RefIdeal.nD Cert.BInDx1RefIdeal.τ).loc Cert.BInDx1RefIdeal.main_arg1) = m' ((c.tc : Thread Cert.BInDx1RefIdeal.nD Cert.BInDx1RefIdeal.τ).loc Cert.BInDx1RefIdeal.main_arg1)
          ∧ r.2.mem ((c.tc : Thread Cert.BInDx1RefIdeal.nD Cert.BInDx1RefIdeal.τ).loc Cert.BInDx1RefIdeal.main_arg2) = m' ((c.tc : Thread Cert.BInDx1RefIdeal.nD Cert.BInDx1RefIdeal.τ).loc Cert.BInDx1RefIdeal.main_arg2))

def preserves_BIn1_BIn1Ideal : Prop :=
  True

def algebraic_BIn1Ideal_BIn1RefIdeal [hBIn1Ideal : Cert.BIn1Ideal.Facts] [hBIn1RefIdeal : Cert.BIn1RefIdeal.Facts] : Prop :=
  ∀ (m : (ℓ : Loc Cert.BIn1Ideal.nD Cert.BIn1Ideal.τ Cert.BIn1Ideal.sig) → Buf (Elt Ideal) ℓ) (g : Dev Cert.BIn1Ideal.nD → PrngReg)
    (m' : (ℓ : Loc Cert.BIn1RefIdeal.nD Cert.BIn1RefIdeal.τ Cert.BIn1RefIdeal.sig) → Buf (Elt Ideal) ℓ) (g' : Dev Cert.BIn1RefIdeal.nD → PrngReg), Pre_BIn1Ideal m →
    (∀ c : Dev Cert.BIn1Ideal.nD,
      m' ((c.tc : Thread Cert.BIn1RefIdeal.nD Cert.BIn1RefIdeal.τ).loc Cert.BIn1RefIdeal.main_arg0) = m ((c.tc : Thread Cert.BIn1Ideal.nD Cert.BIn1Ideal.τ).loc Cert.BIn1Ideal.main_arg0)
      ∧ m' ((c.tc : Thread Cert.BIn1RefIdeal.nD Cert.BIn1RefIdeal.τ).loc Cert.BIn1RefIdeal.main_arg1) = m ((c.tc : Thread Cert.BIn1Ideal.nD Cert.BIn1Ideal.τ).loc Cert.BIn1Ideal.main_arg1)) →
    ∃ (v0 : (c : Dev Cert.BIn1Ideal.nD) → Buf (Elt Ideal) ((c.tc : Thread Cert.BIn1Ideal.nD Cert.BIn1Ideal.τ).loc Cert.BIn1Ideal.main_v4)),
      θ_run (Cert.BIn1Ideal.defs (F := Ideal)) (onTc (τ := Cert.BIn1Ideal.τ) (Cert.BIn1Ideal.main (F := Ideal))) ⟨m, fun _ => 0, g⟩ (fun r => ∀ c : Dev Cert.BIn1Ideal.nD,
          r.2.mem ((c.tc : Thread Cert.BIn1Ideal.nD Cert.BIn1Ideal.τ).loc Cert.BIn1Ideal.main_v4) = v0 c
          ∧ r.2.mem ((c.tc : Thread Cert.BIn1Ideal.nD Cert.BIn1Ideal.τ).loc Cert.BIn1Ideal.main_arg0) = m ((c.tc : Thread Cert.BIn1Ideal.nD Cert.BIn1Ideal.τ).loc Cert.BIn1Ideal.main_arg0)
          ∧ r.2.mem ((c.tc : Thread Cert.BIn1Ideal.nD Cert.BIn1Ideal.τ).loc Cert.BIn1Ideal.main_arg1) = m ((c.tc : Thread Cert.BIn1Ideal.nD Cert.BIn1Ideal.τ).loc Cert.BIn1Ideal.main_arg1))
      ∧ θ_run (Cert.BIn1RefIdeal.defs (F := Ideal)) (onTc (τ := Cert.BIn1RefIdeal.τ) (Cert.BIn1RefIdeal.main (F := Ideal))) ⟨m', fun _ => 0, g'⟩ (fun r => ∀ c : Dev Cert.BIn1RefIdeal.nD,
          r.2.mem ((c.tc : Thread Cert.BIn1RefIdeal.nD Cert.BIn1RefIdeal.τ).loc Cert.BIn1RefIdeal.main_v6) = v0 c
          ∧ r.2.mem ((c.tc : Thread Cert.BIn1RefIdeal.nD Cert.BIn1RefIdeal.τ).loc Cert.BIn1RefIdeal.main_arg0) = m' ((c.tc : Thread Cert.BIn1RefIdeal.nD Cert.BIn1RefIdeal.τ).loc Cert.BIn1RefIdeal.main_arg0)
          ∧ r.2.mem ((c.tc : Thread Cert.BIn1RefIdeal.nD Cert.BIn1RefIdeal.τ).loc Cert.BIn1RefIdeal.main_arg1) = m' ((c.tc : Thread Cert.BIn1RefIdeal.nD Cert.BIn1RefIdeal.τ).loc Cert.BIn1RefIdeal.main_arg1))

def preserves_BInDw2_BInDw2Ideal : Prop :=
  True

def algebraic_BInDw2Ideal_BInDw2RefIdeal [hBInDw2Ideal : Cert.BInDw2Ideal.Facts] [hBInDw2RefIdeal : Cert.BInDw2RefIdeal.Facts] : Prop :=
  ∀ (m : (ℓ : Loc Cert.BInDw2Ideal.nD Cert.BInDw2Ideal.τ Cert.BInDw2Ideal.sig) → Buf (Elt Ideal) ℓ) (g : Dev Cert.BInDw2Ideal.nD → PrngReg)
    (m' : (ℓ : Loc Cert.BInDw2RefIdeal.nD Cert.BInDw2RefIdeal.τ Cert.BInDw2RefIdeal.sig) → Buf (Elt Ideal) ℓ) (g' : Dev Cert.BInDw2RefIdeal.nD → PrngReg), Pre_BInDw2Ideal m →
    (∀ c : Dev Cert.BInDw2Ideal.nD,
      m' ((c.tc : Thread Cert.BInDw2RefIdeal.nD Cert.BInDw2RefIdeal.τ).loc Cert.BInDw2RefIdeal.main_arg0) = m ((c.tc : Thread Cert.BInDw2Ideal.nD Cert.BInDw2Ideal.τ).loc Cert.BInDw2Ideal.main_arg0)
      ∧ m' ((c.tc : Thread Cert.BInDw2RefIdeal.nD Cert.BInDw2RefIdeal.τ).loc Cert.BInDw2RefIdeal.main_arg1) = m ((c.tc : Thread Cert.BInDw2Ideal.nD Cert.BInDw2Ideal.τ).loc Cert.BInDw2Ideal.main_arg1)
      ∧ m' ((c.tc : Thread Cert.BInDw2RefIdeal.nD Cert.BInDw2RefIdeal.τ).loc Cert.BInDw2RefIdeal.main_arg2) = m ((c.tc : Thread Cert.BInDw2Ideal.nD Cert.BInDw2Ideal.τ).loc Cert.BInDw2Ideal.main_arg2)) →
    ∃ (v0 : (c : Dev Cert.BInDw2Ideal.nD) → Buf (Elt Ideal) ((c.tc : Thread Cert.BInDw2Ideal.nD Cert.BInDw2Ideal.τ).loc Cert.BInDw2Ideal.main_v3)),
      θ_run (Cert.BInDw2Ideal.defs (F := Ideal)) (onTc (τ := Cert.BInDw2Ideal.τ) (Cert.BInDw2Ideal.main (F := Ideal))) ⟨m, fun _ => 0, g⟩ (fun r => ∀ c : Dev Cert.BInDw2Ideal.nD,
          r.2.mem ((c.tc : Thread Cert.BInDw2Ideal.nD Cert.BInDw2Ideal.τ).loc Cert.BInDw2Ideal.main_v3) = v0 c
          ∧ r.2.mem ((c.tc : Thread Cert.BInDw2Ideal.nD Cert.BInDw2Ideal.τ).loc Cert.BInDw2Ideal.main_arg0) = m ((c.tc : Thread Cert.BInDw2Ideal.nD Cert.BInDw2Ideal.τ).loc Cert.BInDw2Ideal.main_arg0)
          ∧ r.2.mem ((c.tc : Thread Cert.BInDw2Ideal.nD Cert.BInDw2Ideal.τ).loc Cert.BInDw2Ideal.main_arg1) = m ((c.tc : Thread Cert.BInDw2Ideal.nD Cert.BInDw2Ideal.τ).loc Cert.BInDw2Ideal.main_arg1)
          ∧ r.2.mem ((c.tc : Thread Cert.BInDw2Ideal.nD Cert.BInDw2Ideal.τ).loc Cert.BInDw2Ideal.main_arg2) = m ((c.tc : Thread Cert.BInDw2Ideal.nD Cert.BInDw2Ideal.τ).loc Cert.BInDw2Ideal.main_arg2))
      ∧ θ_run (Cert.BInDw2RefIdeal.defs (F := Ideal)) (onTc (τ := Cert.BInDw2RefIdeal.τ) (Cert.BInDw2RefIdeal.main (F := Ideal))) ⟨m', fun _ => 0, g'⟩ (fun r => ∀ c : Dev Cert.BInDw2RefIdeal.nD,
          r.2.mem ((c.tc : Thread Cert.BInDw2RefIdeal.nD Cert.BInDw2RefIdeal.τ).loc Cert.BInDw2RefIdeal.main_v21) = v0 c
          ∧ r.2.mem ((c.tc : Thread Cert.BInDw2RefIdeal.nD Cert.BInDw2RefIdeal.τ).loc Cert.BInDw2RefIdeal.main_arg0) = m' ((c.tc : Thread Cert.BInDw2RefIdeal.nD Cert.BInDw2RefIdeal.τ).loc Cert.BInDw2RefIdeal.main_arg0)
          ∧ r.2.mem ((c.tc : Thread Cert.BInDw2RefIdeal.nD Cert.BInDw2RefIdeal.τ).loc Cert.BInDw2RefIdeal.main_arg1) = m' ((c.tc : Thread Cert.BInDw2RefIdeal.nD Cert.BInDw2RefIdeal.τ).loc Cert.BInDw2RefIdeal.main_arg1)
          ∧ r.2.mem ((c.tc : Thread Cert.BInDw2RefIdeal.nD Cert.BInDw2RefIdeal.τ).loc Cert.BInDw2RefIdeal.main_arg2) = m' ((c.tc : Thread Cert.BInDw2RefIdeal.nD Cert.BInDw2RefIdeal.τ).loc Cert.BInDw2RefIdeal.main_arg2))

def preserves_BInDx2_BInDx2Ideal : Prop :=
  True

def algebraic_BInDx2Ideal_BInDx2RefIdeal [hBInDx2Ideal : Cert.BInDx2Ideal.Facts] [hBInDx2RefIdeal : Cert.BInDx2RefIdeal.Facts] : Prop :=
  ∀ (m : (ℓ : Loc Cert.BInDx2Ideal.nD Cert.BInDx2Ideal.τ Cert.BInDx2Ideal.sig) → Buf (Elt Ideal) ℓ) (g : Dev Cert.BInDx2Ideal.nD → PrngReg)
    (m' : (ℓ : Loc Cert.BInDx2RefIdeal.nD Cert.BInDx2RefIdeal.τ Cert.BInDx2RefIdeal.sig) → Buf (Elt Ideal) ℓ) (g' : Dev Cert.BInDx2RefIdeal.nD → PrngReg), Pre_BInDx2Ideal m →
    (∀ c : Dev Cert.BInDx2Ideal.nD,
      m' ((c.tc : Thread Cert.BInDx2RefIdeal.nD Cert.BInDx2RefIdeal.τ).loc Cert.BInDx2RefIdeal.main_arg0) = m ((c.tc : Thread Cert.BInDx2Ideal.nD Cert.BInDx2Ideal.τ).loc Cert.BInDx2Ideal.main_arg0)
      ∧ m' ((c.tc : Thread Cert.BInDx2RefIdeal.nD Cert.BInDx2RefIdeal.τ).loc Cert.BInDx2RefIdeal.main_arg1) = m ((c.tc : Thread Cert.BInDx2Ideal.nD Cert.BInDx2Ideal.τ).loc Cert.BInDx2Ideal.main_arg1)
      ∧ m' ((c.tc : Thread Cert.BInDx2RefIdeal.nD Cert.BInDx2RefIdeal.τ).loc Cert.BInDx2RefIdeal.main_arg2) = m ((c.tc : Thread Cert.BInDx2Ideal.nD Cert.BInDx2Ideal.τ).loc Cert.BInDx2Ideal.main_arg2)) →
    ∃ (v0 : (c : Dev Cert.BInDx2Ideal.nD) → Buf (Elt Ideal) ((c.tc : Thread Cert.BInDx2Ideal.nD Cert.BInDx2Ideal.τ).loc Cert.BInDx2Ideal.main_v4)),
      θ_run (Cert.BInDx2Ideal.defs (F := Ideal)) (onTc (τ := Cert.BInDx2Ideal.τ) (Cert.BInDx2Ideal.main (F := Ideal))) ⟨m, fun _ => 0, g⟩ (fun r => ∀ c : Dev Cert.BInDx2Ideal.nD,
          r.2.mem ((c.tc : Thread Cert.BInDx2Ideal.nD Cert.BInDx2Ideal.τ).loc Cert.BInDx2Ideal.main_v4) = v0 c
          ∧ r.2.mem ((c.tc : Thread Cert.BInDx2Ideal.nD Cert.BInDx2Ideal.τ).loc Cert.BInDx2Ideal.main_arg0) = m ((c.tc : Thread Cert.BInDx2Ideal.nD Cert.BInDx2Ideal.τ).loc Cert.BInDx2Ideal.main_arg0)
          ∧ r.2.mem ((c.tc : Thread Cert.BInDx2Ideal.nD Cert.BInDx2Ideal.τ).loc Cert.BInDx2Ideal.main_arg1) = m ((c.tc : Thread Cert.BInDx2Ideal.nD Cert.BInDx2Ideal.τ).loc Cert.BInDx2Ideal.main_arg1)
          ∧ r.2.mem ((c.tc : Thread Cert.BInDx2Ideal.nD Cert.BInDx2Ideal.τ).loc Cert.BInDx2Ideal.main_arg2) = m ((c.tc : Thread Cert.BInDx2Ideal.nD Cert.BInDx2Ideal.τ).loc Cert.BInDx2Ideal.main_arg2))
      ∧ θ_run (Cert.BInDx2RefIdeal.defs (F := Ideal)) (onTc (τ := Cert.BInDx2RefIdeal.τ) (Cert.BInDx2RefIdeal.main (F := Ideal))) ⟨m', fun _ => 0, g'⟩ (fun r => ∀ c : Dev Cert.BInDx2RefIdeal.nD,
          r.2.mem ((c.tc : Thread Cert.BInDx2RefIdeal.nD Cert.BInDx2RefIdeal.τ).loc Cert.BInDx2RefIdeal.main_v7) = v0 c
          ∧ r.2.mem ((c.tc : Thread Cert.BInDx2RefIdeal.nD Cert.BInDx2RefIdeal.τ).loc Cert.BInDx2RefIdeal.main_arg0) = m' ((c.tc : Thread Cert.BInDx2RefIdeal.nD Cert.BInDx2RefIdeal.τ).loc Cert.BInDx2RefIdeal.main_arg0)
          ∧ r.2.mem ((c.tc : Thread Cert.BInDx2RefIdeal.nD Cert.BInDx2RefIdeal.τ).loc Cert.BInDx2RefIdeal.main_arg1) = m' ((c.tc : Thread Cert.BInDx2RefIdeal.nD Cert.BInDx2RefIdeal.τ).loc Cert.BInDx2RefIdeal.main_arg1)
          ∧ r.2.mem ((c.tc : Thread Cert.BInDx2RefIdeal.nD Cert.BInDx2RefIdeal.τ).loc Cert.BInDx2RefIdeal.main_arg2) = m' ((c.tc : Thread Cert.BInDx2RefIdeal.nD Cert.BInDx2RefIdeal.τ).loc Cert.BInDx2RefIdeal.main_arg2))

def preserves_BIn2_BIn2Ideal : Prop :=
  True

def algebraic_BIn2Ideal_BIn2RefIdeal [hBIn2Ideal : Cert.BIn2Ideal.Facts] [hBIn2RefIdeal : Cert.BIn2RefIdeal.Facts] : Prop :=
  ∀ (m : (ℓ : Loc Cert.BIn2Ideal.nD Cert.BIn2Ideal.τ Cert.BIn2Ideal.sig) → Buf (Elt Ideal) ℓ) (g : Dev Cert.BIn2Ideal.nD → PrngReg)
    (m' : (ℓ : Loc Cert.BIn2RefIdeal.nD Cert.BIn2RefIdeal.τ Cert.BIn2RefIdeal.sig) → Buf (Elt Ideal) ℓ) (g' : Dev Cert.BIn2RefIdeal.nD → PrngReg), Pre_BIn2Ideal m →
    (∀ c : Dev Cert.BIn2Ideal.nD,
      m' ((c.tc : Thread Cert.BIn2RefIdeal.nD Cert.BIn2RefIdeal.τ).loc Cert.BIn2RefIdeal.main_arg0) = m ((c.tc : Thread Cert.BIn2Ideal.nD Cert.BIn2Ideal.τ).loc Cert.BIn2Ideal.main_arg0)
      ∧ m' ((c.tc : Thread Cert.BIn2RefIdeal.nD Cert.BIn2RefIdeal.τ).loc Cert.BIn2RefIdeal.main_arg1) = m ((c.tc : Thread Cert.BIn2Ideal.nD Cert.BIn2Ideal.τ).loc Cert.BIn2Ideal.main_arg1)) →
    ∃ (v0 : (c : Dev Cert.BIn2Ideal.nD) → Buf (Elt Ideal) ((c.tc : Thread Cert.BIn2Ideal.nD Cert.BIn2Ideal.τ).loc Cert.BIn2Ideal.main_v4)),
      θ_run (Cert.BIn2Ideal.defs (F := Ideal)) (onTc (τ := Cert.BIn2Ideal.τ) (Cert.BIn2Ideal.main (F := Ideal))) ⟨m, fun _ => 0, g⟩ (fun r => ∀ c : Dev Cert.BIn2Ideal.nD,
          r.2.mem ((c.tc : Thread Cert.BIn2Ideal.nD Cert.BIn2Ideal.τ).loc Cert.BIn2Ideal.main_v4) = v0 c
          ∧ r.2.mem ((c.tc : Thread Cert.BIn2Ideal.nD Cert.BIn2Ideal.τ).loc Cert.BIn2Ideal.main_arg0) = m ((c.tc : Thread Cert.BIn2Ideal.nD Cert.BIn2Ideal.τ).loc Cert.BIn2Ideal.main_arg0)
          ∧ r.2.mem ((c.tc : Thread Cert.BIn2Ideal.nD Cert.BIn2Ideal.τ).loc Cert.BIn2Ideal.main_arg1) = m ((c.tc : Thread Cert.BIn2Ideal.nD Cert.BIn2Ideal.τ).loc Cert.BIn2Ideal.main_arg1))
      ∧ θ_run (Cert.BIn2RefIdeal.defs (F := Ideal)) (onTc (τ := Cert.BIn2RefIdeal.τ) (Cert.BIn2RefIdeal.main (F := Ideal))) ⟨m', fun _ => 0, g'⟩ (fun r => ∀ c : Dev Cert.BIn2RefIdeal.nD,
          r.2.mem ((c.tc : Thread Cert.BIn2RefIdeal.nD Cert.BIn2RefIdeal.τ).loc Cert.BIn2RefIdeal.main_v6) = v0 c
          ∧ r.2.mem ((c.tc : Thread Cert.BIn2RefIdeal.nD Cert.BIn2RefIdeal.τ).loc Cert.BIn2RefIdeal.main_arg0) = m' ((c.tc : Thread Cert.BIn2RefIdeal.nD Cert.BIn2RefIdeal.τ).loc Cert.BIn2RefIdeal.main_arg0)
          ∧ r.2.mem ((c.tc : Thread Cert.BIn2RefIdeal.nD Cert.BIn2RefIdeal.τ).loc Cert.BIn2RefIdeal.main_arg1) = m' ((c.tc : Thread Cert.BIn2RefIdeal.nD Cert.BIn2RefIdeal.τ).loc Cert.BIn2RefIdeal.main_arg1))

def preserves_AIn_AInIdeal : Prop :=
  True

def algebraic_AInIdeal_AInRefIdeal [hAInIdeal : Cert.AInIdeal.Facts] [hAInRefIdeal : Cert.AInRefIdeal.Facts] : Prop :=
  ∀ (m : (ℓ : Loc Cert.AInIdeal.nD Cert.AInIdeal.τ Cert.AInIdeal.sig) → Buf (Elt Ideal) ℓ) (g : Dev Cert.AInIdeal.nD → PrngReg)
    (m' : (ℓ : Loc Cert.AInRefIdeal.nD Cert.AInRefIdeal.τ Cert.AInRefIdeal.sig) → Buf (Elt Ideal) ℓ) (g' : Dev Cert.AInRefIdeal.nD → PrngReg), Pre_AInIdeal m →
    (∀ c : Dev Cert.AInIdeal.nD,
      m' ((c.tc : Thread Cert.AInRefIdeal.nD Cert.AInRefIdeal.τ).loc Cert.AInRefIdeal.main_arg0) = m ((c.tc : Thread Cert.AInIdeal.nD Cert.AInIdeal.τ).loc Cert.AInIdeal.main_arg0)
      ∧ m' ((c.tc : Thread Cert.AInRefIdeal.nD Cert.AInRefIdeal.τ).loc Cert.AInRefIdeal.main_arg1) = m ((c.tc : Thread Cert.AInIdeal.nD Cert.AInIdeal.τ).loc Cert.AInIdeal.main_arg1)) →
    ∃ (v0 : (c : Dev Cert.AInIdeal.nD) → Buf (Elt Ideal) ((c.tc : Thread Cert.AInIdeal.nD Cert.AInIdeal.τ).loc Cert.AInIdeal.main_v2)),
      θ_run (Cert.AInIdeal.defs (F := Ideal)) (onTc (τ := Cert.AInIdeal.τ) (Cert.AInIdeal.main (F := Ideal))) ⟨m, fun _ => 0, g⟩ (fun r => ∀ c : Dev Cert.AInIdeal.nD,
          r.2.mem ((c.tc : Thread Cert.AInIdeal.nD Cert.AInIdeal.τ).loc Cert.AInIdeal.main_v2) = v0 c
          ∧ r.2.mem ((c.tc : Thread Cert.AInIdeal.nD Cert.AInIdeal.τ).loc Cert.AInIdeal.main_arg0) = m ((c.tc : Thread Cert.AInIdeal.nD Cert.AInIdeal.τ).loc Cert.AInIdeal.main_arg0)
          ∧ r.2.mem ((c.tc : Thread Cert.AInIdeal.nD Cert.AInIdeal.τ).loc Cert.AInIdeal.main_arg1) = m ((c.tc : Thread Cert.AInIdeal.nD Cert.AInIdeal.τ).loc Cert.AInIdeal.main_arg1))
      ∧ θ_run (Cert.AInRefIdeal.defs (F := Ideal)) (onTc (τ := Cert.AInRefIdeal.τ) (Cert.AInRefIdeal.main (F := Ideal))) ⟨m', fun _ => 0, g'⟩ (fun r => ∀ c : Dev Cert.AInRefIdeal.nD,
          r.2.mem ((c.tc : Thread Cert.AInRefIdeal.nD Cert.AInRefIdeal.τ).loc Cert.AInRefIdeal.main_v0) = v0 c
          ∧ r.2.mem ((c.tc : Thread Cert.AInRefIdeal.nD Cert.AInRefIdeal.τ).loc Cert.AInRefIdeal.main_arg0) = m' ((c.tc : Thread Cert.AInRefIdeal.nD Cert.AInRefIdeal.τ).loc Cert.AInRefIdeal.main_arg0)
          ∧ r.2.mem ((c.tc : Thread Cert.AInRefIdeal.nD Cert.AInRefIdeal.τ).loc Cert.AInRefIdeal.main_arg1) = m' ((c.tc : Thread Cert.AInRefIdeal.nD Cert.AInRefIdeal.τ).loc Cert.AInRefIdeal.main_arg1))

def preserves_AOut_AOutIdeal : Prop :=
  True

def algebraic_AOutIdeal_AOutRefIdeal [hAOutIdeal : Cert.AOutIdeal.Facts] [hAOutRefIdeal : Cert.AOutRefIdeal.Facts] : Prop :=
  ∀ (m : (ℓ : Loc Cert.AOutIdeal.nD Cert.AOutIdeal.τ Cert.AOutIdeal.sig) → Buf (Elt Ideal) ℓ) (g : Dev Cert.AOutIdeal.nD → PrngReg)
    (m' : (ℓ : Loc Cert.AOutRefIdeal.nD Cert.AOutRefIdeal.τ Cert.AOutRefIdeal.sig) → Buf (Elt Ideal) ℓ) (g' : Dev Cert.AOutRefIdeal.nD → PrngReg), Pre_AOutIdeal m →
    (∀ c : Dev Cert.AOutIdeal.nD,
      m' ((c.tc : Thread Cert.AOutRefIdeal.nD Cert.AOutRefIdeal.τ).loc Cert.AOutRefIdeal.main_arg0) = m ((c.tc : Thread Cert.AOutIdeal.nD Cert.AOutIdeal.τ).loc Cert.AOutIdeal.main_arg0)
      ∧ m' ((c.tc : Thread Cert.AOutRefIdeal.nD Cert.AOutRefIdeal.τ).loc Cert.AOutRefIdeal.main_arg1) = m ((c.tc : Thread Cert.AOutIdeal.nD Cert.AOutIdeal.τ).loc Cert.AOutIdeal.main_arg1)
      ∧ m' ((c.tc : Thread Cert.AOutRefIdeal.nD Cert.AOutRefIdeal.τ).loc Cert.AOutRefIdeal.main_arg2) = m ((c.tc : Thread Cert.AOutIdeal.nD Cert.AOutIdeal.τ).loc Cert.AOutIdeal.main_arg2)
      ∧ m' ((c.tc : Thread Cert.AOutRefIdeal.nD Cert.AOutRefIdeal.τ).loc Cert.AOutRefIdeal.main_arg3) = m ((c.tc : Thread Cert.AOutIdeal.nD Cert.AOutIdeal.τ).loc Cert.AOutIdeal.main_arg3)) →
    ∃ (v0 : (c : Dev Cert.AOutIdeal.nD) → Buf (Elt Ideal) ((c.tc : Thread Cert.AOutIdeal.nD Cert.AOutIdeal.τ).loc Cert.AOutIdeal.main_v2_0)) (v1 : (c : Dev Cert.AOutIdeal.nD) → Buf (Elt Ideal) ((c.tc : Thread Cert.AOutIdeal.nD Cert.AOutIdeal.τ).loc Cert.AOutIdeal.main_v2_1)),
      θ_run (Cert.AOutIdeal.defs (F := Ideal)) (onTc (τ := Cert.AOutIdeal.τ) (Cert.AOutIdeal.main (F := Ideal))) ⟨m, fun _ => 0, g⟩ (fun r => ∀ c : Dev Cert.AOutIdeal.nD,
          r.2.mem ((c.tc : Thread Cert.AOutIdeal.nD Cert.AOutIdeal.τ).loc Cert.AOutIdeal.main_v2_0) = v0 c
          ∧ r.2.mem ((c.tc : Thread Cert.AOutIdeal.nD Cert.AOutIdeal.τ).loc Cert.AOutIdeal.main_v2_1) = v1 c
          ∧ r.2.mem ((c.tc : Thread Cert.AOutIdeal.nD Cert.AOutIdeal.τ).loc Cert.AOutIdeal.main_arg0) = m ((c.tc : Thread Cert.AOutIdeal.nD Cert.AOutIdeal.τ).loc Cert.AOutIdeal.main_arg0)
          ∧ r.2.mem ((c.tc : Thread Cert.AOutIdeal.nD Cert.AOutIdeal.τ).loc Cert.AOutIdeal.main_arg1) = m ((c.tc : Thread Cert.AOutIdeal.nD Cert.AOutIdeal.τ).loc Cert.AOutIdeal.main_arg1)
          ∧ r.2.mem ((c.tc : Thread Cert.AOutIdeal.nD Cert.AOutIdeal.τ).loc Cert.AOutIdeal.main_arg2) = m ((c.tc : Thread Cert.AOutIdeal.nD Cert.AOutIdeal.τ).loc Cert.AOutIdeal.main_arg2)
          ∧ r.2.mem ((c.tc : Thread Cert.AOutIdeal.nD Cert.AOutIdeal.τ).loc Cert.AOutIdeal.main_arg3) = m ((c.tc : Thread Cert.AOutIdeal.nD Cert.AOutIdeal.τ).loc Cert.AOutIdeal.main_arg3))
      ∧ θ_run (Cert.AOutRefIdeal.defs (F := Ideal)) (onTc (τ := Cert.AOutRefIdeal.τ) (Cert.AOutRefIdeal.main (F := Ideal))) ⟨m', fun _ => 0, g'⟩ (fun r => ∀ c : Dev Cert.AOutRefIdeal.nD,
          r.2.mem ((c.tc : Thread Cert.AOutRefIdeal.nD Cert.AOutRefIdeal.τ).loc Cert.AOutRefIdeal.main_v1) = v0 c
          ∧ r.2.mem ((c.tc : Thread Cert.AOutRefIdeal.nD Cert.AOutRefIdeal.τ).loc Cert.AOutRefIdeal.main_v14) = v1 c
          ∧ r.2.mem ((c.tc : Thread Cert.AOutRefIdeal.nD Cert.AOutRefIdeal.τ).loc Cert.AOutRefIdeal.main_arg0) = m' ((c.tc : Thread Cert.AOutRefIdeal.nD Cert.AOutRefIdeal.τ).loc Cert.AOutRefIdeal.main_arg0)
          ∧ r.2.mem ((c.tc : Thread Cert.AOutRefIdeal.nD Cert.AOutRefIdeal.τ).loc Cert.AOutRefIdeal.main_arg1) = m' ((c.tc : Thread Cert.AOutRefIdeal.nD Cert.AOutRefIdeal.τ).loc Cert.AOutRefIdeal.main_arg1)
          ∧ r.2.mem ((c.tc : Thread Cert.AOutRefIdeal.nD Cert.AOutRefIdeal.τ).loc Cert.AOutRefIdeal.main_arg2) = m' ((c.tc : Thread Cert.AOutRefIdeal.nD Cert.AOutRefIdeal.τ).loc Cert.AOutRefIdeal.main_arg2)
          ∧ r.2.mem ((c.tc : Thread Cert.AOutRefIdeal.nD Cert.AOutRefIdeal.τ).loc Cert.AOutRefIdeal.main_arg3) = m' ((c.tc : Thread Cert.AOutRefIdeal.nD Cert.AOutRefIdeal.τ).loc Cert.AOutRefIdeal.main_arg3))

def preserves_BOutLoss_BOutLossIdeal : Prop :=
  True

def algebraic_BOutLossIdeal_BOutLossRefIdeal [hBOutLossIdeal : Cert.BOutLossIdeal.Facts] [hBOutLossRefIdeal : Cert.BOutLossRefIdeal.Facts] : Prop :=
  ∀ (m : (ℓ : Loc Cert.BOutLossIdeal.nD Cert.BOutLossIdeal.τ Cert.BOutLossIdeal.sig) → Buf (Elt Ideal) ℓ) (g : Dev Cert.BOutLossIdeal.nD → PrngReg)
    (m' : (ℓ : Loc Cert.BOutLossRefIdeal.nD Cert.BOutLossRefIdeal.τ Cert.BOutLossRefIdeal.sig) → Buf (Elt Ideal) ℓ) (g' : Dev Cert.BOutLossRefIdeal.nD → PrngReg), Pre_BOutLossIdeal m →
    (∀ c : Dev Cert.BOutLossIdeal.nD,
      m' ((c.tc : Thread Cert.BOutLossRefIdeal.nD Cert.BOutLossRefIdeal.τ).loc Cert.BOutLossRefIdeal.main_arg0) = m ((c.tc : Thread Cert.BOutLossIdeal.nD Cert.BOutLossIdeal.τ).loc Cert.BOutLossIdeal.main_arg0)
      ∧ m' ((c.tc : Thread Cert.BOutLossRefIdeal.nD Cert.BOutLossRefIdeal.τ).loc Cert.BOutLossRefIdeal.main_arg1) = m ((c.tc : Thread Cert.BOutLossIdeal.nD Cert.BOutLossIdeal.τ).loc Cert.BOutLossIdeal.main_arg1)
      ∧ m' ((c.tc : Thread Cert.BOutLossRefIdeal.nD Cert.BOutLossRefIdeal.τ).loc Cert.BOutLossRefIdeal.main_arg2) = m ((c.tc : Thread Cert.BOutLossIdeal.nD Cert.BOutLossIdeal.τ).loc Cert.BOutLossIdeal.main_arg2)
      ∧ m' ((c.tc : Thread Cert.BOutLossRefIdeal.nD Cert.BOutLossRefIdeal.τ).loc Cert.BOutLossRefIdeal.main_arg3) = m ((c.tc : Thread Cert.BOutLossIdeal.nD Cert.BOutLossIdeal.τ).loc Cert.BOutLossIdeal.main_arg3)) →
    ∃ (v0 : (c : Dev Cert.BOutLossIdeal.nD) → Buf (Elt Ideal) ((c.tc : Thread Cert.BOutLossIdeal.nD Cert.BOutLossIdeal.τ).loc Cert.BOutLossIdeal.main_v2_0)) (v1 : (c : Dev Cert.BOutLossIdeal.nD) → Buf (Elt Ideal) ((c.tc : Thread Cert.BOutLossIdeal.nD Cert.BOutLossIdeal.τ).loc Cert.BOutLossIdeal.main_v2_1)),
      θ_run (Cert.BOutLossIdeal.defs (F := Ideal)) (onTc (τ := Cert.BOutLossIdeal.τ) (Cert.BOutLossIdeal.main (F := Ideal))) ⟨m, fun _ => 0, g⟩ (fun r => ∀ c : Dev Cert.BOutLossIdeal.nD,
          r.2.mem ((c.tc : Thread Cert.BOutLossIdeal.nD Cert.BOutLossIdeal.τ).loc Cert.BOutLossIdeal.main_v2_0) = v0 c
          ∧ r.2.mem ((c.tc : Thread Cert.BOutLossIdeal.nD Cert.BOutLossIdeal.τ).loc Cert.BOutLossIdeal.main_v2_1) = v1 c
          ∧ r.2.mem ((c.tc : Thread Cert.BOutLossIdeal.nD Cert.BOutLossIdeal.τ).loc Cert.BOutLossIdeal.main_arg0) = m ((c.tc : Thread Cert.BOutLossIdeal.nD Cert.BOutLossIdeal.τ).loc Cert.BOutLossIdeal.main_arg0)
          ∧ r.2.mem ((c.tc : Thread Cert.BOutLossIdeal.nD Cert.BOutLossIdeal.τ).loc Cert.BOutLossIdeal.main_arg1) = m ((c.tc : Thread Cert.BOutLossIdeal.nD Cert.BOutLossIdeal.τ).loc Cert.BOutLossIdeal.main_arg1)
          ∧ r.2.mem ((c.tc : Thread Cert.BOutLossIdeal.nD Cert.BOutLossIdeal.τ).loc Cert.BOutLossIdeal.main_arg2) = m ((c.tc : Thread Cert.BOutLossIdeal.nD Cert.BOutLossIdeal.τ).loc Cert.BOutLossIdeal.main_arg2)
          ∧ r.2.mem ((c.tc : Thread Cert.BOutLossIdeal.nD Cert.BOutLossIdeal.τ).loc Cert.BOutLossIdeal.main_arg3) = m ((c.tc : Thread Cert.BOutLossIdeal.nD Cert.BOutLossIdeal.τ).loc Cert.BOutLossIdeal.main_arg3))
      ∧ θ_run (Cert.BOutLossRefIdeal.defs (F := Ideal)) (onTc (τ := Cert.BOutLossRefIdeal.τ) (Cert.BOutLossRefIdeal.main (F := Ideal))) ⟨m', fun _ => 0, g'⟩ (fun r => ∀ c : Dev Cert.BOutLossRefIdeal.nD,
          r.2.mem ((c.tc : Thread Cert.BOutLossRefIdeal.nD Cert.BOutLossRefIdeal.τ).loc Cert.BOutLossRefIdeal.main_v21) = v0 c
          ∧ r.2.mem ((c.tc : Thread Cert.BOutLossRefIdeal.nD Cert.BOutLossRefIdeal.τ).loc Cert.BOutLossRefIdeal.main_v23) = v1 c
          ∧ r.2.mem ((c.tc : Thread Cert.BOutLossRefIdeal.nD Cert.BOutLossRefIdeal.τ).loc Cert.BOutLossRefIdeal.main_arg0) = m' ((c.tc : Thread Cert.BOutLossRefIdeal.nD Cert.BOutLossRefIdeal.τ).loc Cert.BOutLossRefIdeal.main_arg0)
          ∧ r.2.mem ((c.tc : Thread Cert.BOutLossRefIdeal.nD Cert.BOutLossRefIdeal.τ).loc Cert.BOutLossRefIdeal.main_arg1) = m' ((c.tc : Thread Cert.BOutLossRefIdeal.nD Cert.BOutLossRefIdeal.τ).loc Cert.BOutLossRefIdeal.main_arg1)
          ∧ r.2.mem ((c.tc : Thread Cert.BOutLossRefIdeal.nD Cert.BOutLossRefIdeal.τ).loc Cert.BOutLossRefIdeal.main_arg2) = m' ((c.tc : Thread Cert.BOutLossRefIdeal.nD Cert.BOutLossRefIdeal.τ).loc Cert.BOutLossRefIdeal.main_arg2)
          ∧ r.2.mem ((c.tc : Thread Cert.BOutLossRefIdeal.nD Cert.BOutLossRefIdeal.τ).loc Cert.BOutLossRefIdeal.main_arg3) = m' ((c.tc : Thread Cert.BOutLossRefIdeal.nD Cert.BOutLossRefIdeal.τ).loc Cert.BOutLossRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamAOut_AdamAOutIdeal : Prop :=
  True

def algebraic_AdamAOutIdeal_AdamAOutRefIdeal [hAdamAOutIdeal : Cert.AdamAOutIdeal.Facts] [hAdamAOutRefIdeal : Cert.AdamAOutRefIdeal.Facts] : Prop :=
  ∀ (m : (ℓ : Loc Cert.AdamAOutIdeal.nD Cert.AdamAOutIdeal.τ Cert.AdamAOutIdeal.sig) → Buf (Elt Ideal) ℓ) (g : Dev Cert.AdamAOutIdeal.nD → PrngReg)
    (m' : (ℓ : Loc Cert.AdamAOutRefIdeal.nD Cert.AdamAOutRefIdeal.τ Cert.AdamAOutRefIdeal.sig) → Buf (Elt Ideal) ℓ) (g' : Dev Cert.AdamAOutRefIdeal.nD → PrngReg), Pre_AdamAOutIdeal m →
    (∀ c : Dev Cert.AdamAOutIdeal.nD,
      m' ((c.tc : Thread Cert.AdamAOutRefIdeal.nD Cert.AdamAOutRefIdeal.τ).loc Cert.AdamAOutRefIdeal.main_arg0) = m ((c.tc : Thread Cert.AdamAOutIdeal.nD Cert.AdamAOutIdeal.τ).loc Cert.AdamAOutIdeal.main_arg0)
      ∧ m' ((c.tc : Thread Cert.AdamAOutRefIdeal.nD Cert.AdamAOutRefIdeal.τ).loc Cert.AdamAOutRefIdeal.main_arg1) = m ((c.tc : Thread Cert.AdamAOutIdeal.nD Cert.AdamAOutIdeal.τ).loc Cert.AdamAOutIdeal.main_arg1)
      ∧ m' ((c.tc : Thread Cert.AdamAOutRefIdeal.nD Cert.AdamAOutRefIdeal.τ).loc Cert.AdamAOutRefIdeal.main_arg2) = m ((c.tc : Thread Cert.AdamAOutIdeal.nD Cert.AdamAOutIdeal.τ).loc Cert.AdamAOutIdeal.main_arg2)
      ∧ m' ((c.tc : Thread Cert.AdamAOutRefIdeal.nD Cert.AdamAOutRefIdeal.τ).loc Cert.AdamAOutRefIdeal.main_arg3) = m ((c.tc : Thread Cert.AdamAOutIdeal.nD Cert.AdamAOutIdeal.τ).loc Cert.AdamAOutIdeal.main_arg3)
      ∧ m' ((c.tc : Thread Cert.AdamAOutRefIdeal.nD Cert.AdamAOutRefIdeal.τ).loc Cert.AdamAOutRefIdeal.main_arg4) = m ((c.tc : Thread Cert.AdamAOutIdeal.nD Cert.AdamAOutIdeal.τ).loc Cert.AdamAOutIdeal.main_arg4)
      ∧ m' ((c.tc : Thread Cert.AdamAOutRefIdeal.nD Cert.AdamAOutRefIdeal.τ).loc Cert.AdamAOutRefIdeal.main_arg5) = m ((c.tc : Thread Cert.AdamAOutIdeal.nD Cert.AdamAOutIdeal.τ).loc Cert.AdamAOutIdeal.main_arg5)) →
    ∃ (v0 : (c : Dev Cert.AdamAOutIdeal.nD) → Buf (Elt Ideal) ((c.tc : Thread Cert.AdamAOutIdeal.nD Cert.AdamAOutIdeal.τ).loc Cert.AdamAOutIdeal.main_v0_0)) (v1 : (c : Dev Cert.AdamAOutIdeal.nD) → Buf (Elt Ideal) ((c.tc : Thread Cert.AdamAOutIdeal.nD Cert.AdamAOutIdeal.τ).loc Cert.AdamAOutIdeal.main_v0_1)) (v2 : (c : Dev Cert.AdamAOutIdeal.nD) → Buf (Elt Ideal) ((c.tc : Thread Cert.AdamAOutIdeal.nD Cert.AdamAOutIdeal.τ).loc Cert.AdamAOutIdeal.main_v0_2)) (v3 : (c : Dev Cert.AdamAOutIdeal.nD) → Buf (Elt Ideal) ((c.tc : Thread Cert.AdamAOutIdeal.nD Cert.AdamAOutIdeal.τ).loc Cert.AdamAOutIdeal.main_v0_3)),
      θ_run (Cert.AdamAOutIdeal.defs (F := Ideal)) (onTc (τ := Cert.AdamAOutIdeal.τ) (Cert.AdamAOutIdeal.main (F := Ideal))) ⟨m, fun _ => 0, g⟩ (fun r => ∀ c : Dev Cert.AdamAOutIdeal.nD,
          r.2.mem ((c.tc : Thread Cert.AdamAOutIdeal.nD Cert.AdamAOutIdeal.τ).loc Cert.AdamAOutIdeal.main_v0_0) = v0 c
          ∧ r.2.mem ((c.tc : Thread Cert.AdamAOutIdeal.nD Cert.AdamAOutIdeal.τ).loc Cert.AdamAOutIdeal.main_v0_1) = v1 c
          ∧ r.2.mem ((c.tc : Thread Cert.AdamAOutIdeal.nD Cert.AdamAOutIdeal.τ).loc Cert.AdamAOutIdeal.main_v0_2) = v2 c
          ∧ r.2.mem ((c.tc : Thread Cert.AdamAOutIdeal.nD Cert.AdamAOutIdeal.τ).loc Cert.AdamAOutIdeal.main_v0_3) = v3 c
          ∧ r.2.mem ((c.tc : Thread Cert.AdamAOutIdeal.nD Cert.AdamAOutIdeal.τ).loc Cert.AdamAOutIdeal.main_arg0) = m ((c.tc : Thread Cert.AdamAOutIdeal.nD Cert.AdamAOutIdeal.τ).loc Cert.AdamAOutIdeal.main_arg0)
          ∧ r.2.mem ((c.tc : Thread Cert.AdamAOutIdeal.nD Cert.AdamAOutIdeal.τ).loc Cert.AdamAOutIdeal.main_arg1) = m ((c.tc : Thread Cert.AdamAOutIdeal.nD Cert.AdamAOutIdeal.τ).loc Cert.AdamAOutIdeal.main_arg1)
          ∧ r.2.mem ((c.tc : Thread Cert.AdamAOutIdeal.nD Cert.AdamAOutIdeal.τ).loc Cert.AdamAOutIdeal.main_arg2) = m ((c.tc : Thread Cert.AdamAOutIdeal.nD Cert.AdamAOutIdeal.τ).loc Cert.AdamAOutIdeal.main_arg2)
          ∧ r.2.mem ((c.tc : Thread Cert.AdamAOutIdeal.nD Cert.AdamAOutIdeal.τ).loc Cert.AdamAOutIdeal.main_arg3) = m ((c.tc : Thread Cert.AdamAOutIdeal.nD Cert.AdamAOutIdeal.τ).loc Cert.AdamAOutIdeal.main_arg3)
          ∧ r.2.mem ((c.tc : Thread Cert.AdamAOutIdeal.nD Cert.AdamAOutIdeal.τ).loc Cert.AdamAOutIdeal.main_arg4) = m ((c.tc : Thread Cert.AdamAOutIdeal.nD Cert.AdamAOutIdeal.τ).loc Cert.AdamAOutIdeal.main_arg4)
          ∧ r.2.mem ((c.tc : Thread Cert.AdamAOutIdeal.nD Cert.AdamAOutIdeal.τ).loc Cert.AdamAOutIdeal.main_arg5) = m ((c.tc : Thread Cert.AdamAOutIdeal.nD Cert.AdamAOutIdeal.τ).loc Cert.AdamAOutIdeal.main_arg5))
      ∧ θ_run (Cert.AdamAOutRefIdeal.defs (F := Ideal)) (onTc (τ := Cert.AdamAOutRefIdeal.τ) (Cert.AdamAOutRefIdeal.main (F := Ideal))) ⟨m', fun _ => 0, g'⟩ (fun r => ∀ c : Dev Cert.AdamAOutRefIdeal.nD,
          r.2.mem ((c.tc : Thread Cert.AdamAOutRefIdeal.nD Cert.AdamAOutRefIdeal.τ).loc Cert.AdamAOutRefIdeal.main_v7) = v0 c
          ∧ r.2.mem ((c.tc : Thread Cert.AdamAOutRefIdeal.nD Cert.AdamAOutRefIdeal.τ).loc Cert.AdamAOutRefIdeal.main_v31) = v1 c
          ∧ r.2.mem ((c.tc : Thread Cert.AdamAOutRefIdeal.nD Cert.AdamAOutRefIdeal.τ).loc Cert.AdamAOutRefIdeal.main_v12) = v2 c
          ∧ r.2.mem ((c.tc : Thread Cert.AdamAOutRefIdeal.nD Cert.AdamAOutRefIdeal.τ).loc Cert.AdamAOutRefIdeal.main_v18) = v3 c
          ∧ r.2.mem ((c.tc : Thread Cert.AdamAOutRefIdeal.nD Cert.AdamAOutRefIdeal.τ).loc Cert.AdamAOutRefIdeal.main_arg0) = m' ((c.tc : Thread Cert.AdamAOutRefIdeal.nD Cert.AdamAOutRefIdeal.τ).loc Cert.AdamAOutRefIdeal.main_arg0)
          ∧ r.2.mem ((c.tc : Thread Cert.AdamAOutRefIdeal.nD Cert.AdamAOutRefIdeal.τ).loc Cert.AdamAOutRefIdeal.main_arg1) = m' ((c.tc : Thread Cert.AdamAOutRefIdeal.nD Cert.AdamAOutRefIdeal.τ).loc Cert.AdamAOutRefIdeal.main_arg1)
          ∧ r.2.mem ((c.tc : Thread Cert.AdamAOutRefIdeal.nD Cert.AdamAOutRefIdeal.τ).loc Cert.AdamAOutRefIdeal.main_arg2) = m' ((c.tc : Thread Cert.AdamAOutRefIdeal.nD Cert.AdamAOutRefIdeal.τ).loc Cert.AdamAOutRefIdeal.main_arg2)
          ∧ r.2.mem ((c.tc : Thread Cert.AdamAOutRefIdeal.nD Cert.AdamAOutRefIdeal.τ).loc Cert.AdamAOutRefIdeal.main_arg3) = m' ((c.tc : Thread Cert.AdamAOutRefIdeal.nD Cert.AdamAOutRefIdeal.τ).loc Cert.AdamAOutRefIdeal.main_arg3)
          ∧ r.2.mem ((c.tc : Thread Cert.AdamAOutRefIdeal.nD Cert.AdamAOutRefIdeal.τ).loc Cert.AdamAOutRefIdeal.main_arg4) = m' ((c.tc : Thread Cert.AdamAOutRefIdeal.nD Cert.AdamAOutRefIdeal.τ).loc Cert.AdamAOutRefIdeal.main_arg4)
          ∧ r.2.mem ((c.tc : Thread Cert.AdamAOutRefIdeal.nD Cert.AdamAOutRefIdeal.τ).loc Cert.AdamAOutRefIdeal.main_arg5) = m' ((c.tc : Thread Cert.AdamAOutRefIdeal.nD Cert.AdamAOutRefIdeal.τ).loc Cert.AdamAOutRefIdeal.main_arg5))

def preserves_AdamBIn_AdamBInIdeal : Prop :=
  True

def algebraic_AdamBInIdeal_AdamBInRefIdeal [hAdamBInIdeal : Cert.AdamBInIdeal.Facts] [hAdamBInRefIdeal : Cert.AdamBInRefIdeal.Facts] : Prop :=
  ∀ (m : (ℓ : Loc Cert.AdamBInIdeal.nD Cert.AdamBInIdeal.τ Cert.AdamBInIdeal.sig) → Buf (Elt Ideal) ℓ) (g : Dev Cert.AdamBInIdeal.nD → PrngReg)
    (m' : (ℓ : Loc Cert.AdamBInRefIdeal.nD Cert.AdamBInRefIdeal.τ Cert.AdamBInRefIdeal.sig) → Buf (Elt Ideal) ℓ) (g' : Dev Cert.AdamBInRefIdeal.nD → PrngReg), Pre_AdamBInIdeal m →
    (∀ c : Dev Cert.AdamBInIdeal.nD,
      m' ((c.tc : Thread Cert.AdamBInRefIdeal.nD Cert.AdamBInRefIdeal.τ).loc Cert.AdamBInRefIdeal.main_arg0) = m ((c.tc : Thread Cert.AdamBInIdeal.nD Cert.AdamBInIdeal.τ).loc Cert.AdamBInIdeal.main_arg0)
      ∧ m' ((c.tc : Thread Cert.AdamBInRefIdeal.nD Cert.AdamBInRefIdeal.τ).loc Cert.AdamBInRefIdeal.main_arg1) = m ((c.tc : Thread Cert.AdamBInIdeal.nD Cert.AdamBInIdeal.τ).loc Cert.AdamBInIdeal.main_arg1)
      ∧ m' ((c.tc : Thread Cert.AdamBInRefIdeal.nD Cert.AdamBInRefIdeal.τ).loc Cert.AdamBInRefIdeal.main_arg2) = m ((c.tc : Thread Cert.AdamBInIdeal.nD Cert.AdamBInIdeal.τ).loc Cert.AdamBInIdeal.main_arg2)
      ∧ m' ((c.tc : Thread Cert.AdamBInRefIdeal.nD Cert.AdamBInRefIdeal.τ).loc Cert.AdamBInRefIdeal.main_arg3) = m ((c.tc : Thread Cert.AdamBInIdeal.nD Cert.AdamBInIdeal.τ).loc Cert.AdamBInIdeal.main_arg3)
      ∧ m' ((c.tc : Thread Cert.AdamBInRefIdeal.nD Cert.AdamBInRefIdeal.τ).loc Cert.AdamBInRefIdeal.main_arg4) = m ((c.tc : Thread Cert.AdamBInIdeal.nD Cert.AdamBInIdeal.τ).loc Cert.AdamBInIdeal.main_arg4)
      ∧ m' ((c.tc : Thread Cert.AdamBInRefIdeal.nD Cert.AdamBInRefIdeal.τ).loc Cert.AdamBInRefIdeal.main_arg5) = m ((c.tc : Thread Cert.AdamBInIdeal.nD Cert.AdamBInIdeal.τ).loc Cert.AdamBInIdeal.main_arg5)) →
    ∃ (v0 : (c : Dev Cert.AdamBInIdeal.nD) → Buf (Elt Ideal) ((c.tc : Thread Cert.AdamBInIdeal.nD Cert.AdamBInIdeal.τ).loc Cert.AdamBInIdeal.main_v0_0)) (v1 : (c : Dev Cert.AdamBInIdeal.nD) → Buf (Elt Ideal) ((c.tc : Thread Cert.AdamBInIdeal.nD Cert.AdamBInIdeal.τ).loc Cert.AdamBInIdeal.main_v0_1)) (v2 : (c : Dev Cert.AdamBInIdeal.nD) → Buf (Elt Ideal) ((c.tc : Thread Cert.AdamBInIdeal.nD Cert.AdamBInIdeal.τ).loc Cert.AdamBInIdeal.main_v0_2)) (v3 : (c : Dev Cert.AdamBInIdeal.nD) → Buf (Elt Ideal) ((c.tc : Thread Cert.AdamBInIdeal.nD Cert.AdamBInIdeal.τ).loc Cert.AdamBInIdeal.main_v0_3)),
      θ_run (Cert.AdamBInIdeal.defs (F := Ideal)) (onTc (τ := Cert.AdamBInIdeal.τ) (Cert.AdamBInIdeal.main (F := Ideal))) ⟨m, fun _ => 0, g⟩ (fun r => ∀ c : Dev Cert.AdamBInIdeal.nD,
          r.2.mem ((c.tc : Thread Cert.AdamBInIdeal.nD Cert.AdamBInIdeal.τ).loc Cert.AdamBInIdeal.main_v0_0) = v0 c
          ∧ r.2.mem ((c.tc : Thread Cert.AdamBInIdeal.nD Cert.AdamBInIdeal.τ).loc Cert.AdamBInIdeal.main_v0_1) = v1 c
          ∧ r.2.mem ((c.tc : Thread Cert.AdamBInIdeal.nD Cert.AdamBInIdeal.τ).loc Cert.AdamBInIdeal.main_v0_2) = v2 c
          ∧ r.2.mem ((c.tc : Thread Cert.AdamBInIdeal.nD Cert.AdamBInIdeal.τ).loc Cert.AdamBInIdeal.main_v0_3) = v3 c
          ∧ r.2.mem ((c.tc : Thread Cert.AdamBInIdeal.nD Cert.AdamBInIdeal.τ).loc Cert.AdamBInIdeal.main_arg0) = m ((c.tc : Thread Cert.AdamBInIdeal.nD Cert.AdamBInIdeal.τ).loc Cert.AdamBInIdeal.main_arg0)
          ∧ r.2.mem ((c.tc : Thread Cert.AdamBInIdeal.nD Cert.AdamBInIdeal.τ).loc Cert.AdamBInIdeal.main_arg1) = m ((c.tc : Thread Cert.AdamBInIdeal.nD Cert.AdamBInIdeal.τ).loc Cert.AdamBInIdeal.main_arg1)
          ∧ r.2.mem ((c.tc : Thread Cert.AdamBInIdeal.nD Cert.AdamBInIdeal.τ).loc Cert.AdamBInIdeal.main_arg2) = m ((c.tc : Thread Cert.AdamBInIdeal.nD Cert.AdamBInIdeal.τ).loc Cert.AdamBInIdeal.main_arg2)
          ∧ r.2.mem ((c.tc : Thread Cert.AdamBInIdeal.nD Cert.AdamBInIdeal.τ).loc Cert.AdamBInIdeal.main_arg3) = m ((c.tc : Thread Cert.AdamBInIdeal.nD Cert.AdamBInIdeal.τ).loc Cert.AdamBInIdeal.main_arg3)
          ∧ r.2.mem ((c.tc : Thread Cert.AdamBInIdeal.nD Cert.AdamBInIdeal.τ).loc Cert.AdamBInIdeal.main_arg4) = m ((c.tc : Thread Cert.AdamBInIdeal.nD Cert.AdamBInIdeal.τ).loc Cert.AdamBInIdeal.main_arg4)
          ∧ r.2.mem ((c.tc : Thread Cert.AdamBInIdeal.nD Cert.AdamBInIdeal.τ).loc Cert.AdamBInIdeal.main_arg5) = m ((c.tc : Thread Cert.AdamBInIdeal.nD Cert.AdamBInIdeal.τ).loc Cert.AdamBInIdeal.main_arg5))
      ∧ θ_run (Cert.AdamBInRefIdeal.defs (F := Ideal)) (onTc (τ := Cert.AdamBInRefIdeal.τ) (Cert.AdamBInRefIdeal.main (F := Ideal))) ⟨m', fun _ => 0, g'⟩ (fun r => ∀ c : Dev Cert.AdamBInRefIdeal.nD,
          r.2.mem ((c.tc : Thread Cert.AdamBInRefIdeal.nD Cert.AdamBInRefIdeal.τ).loc Cert.AdamBInRefIdeal.main_v7) = v0 c
          ∧ r.2.mem ((c.tc : Thread Cert.AdamBInRefIdeal.nD Cert.AdamBInRefIdeal.τ).loc Cert.AdamBInRefIdeal.main_v31) = v1 c
          ∧ r.2.mem ((c.tc : Thread Cert.AdamBInRefIdeal.nD Cert.AdamBInRefIdeal.τ).loc Cert.AdamBInRefIdeal.main_v12) = v2 c
          ∧ r.2.mem ((c.tc : Thread Cert.AdamBInRefIdeal.nD Cert.AdamBInRefIdeal.τ).loc Cert.AdamBInRefIdeal.main_v18) = v3 c
          ∧ r.2.mem ((c.tc : Thread Cert.AdamBInRefIdeal.nD Cert.AdamBInRefIdeal.τ).loc Cert.AdamBInRefIdeal.main_arg0) = m' ((c.tc : Thread Cert.AdamBInRefIdeal.nD Cert.AdamBInRefIdeal.τ).loc Cert.AdamBInRefIdeal.main_arg0)
          ∧ r.2.mem ((c.tc : Thread Cert.AdamBInRefIdeal.nD Cert.AdamBInRefIdeal.τ).loc Cert.AdamBInRefIdeal.main_arg1) = m' ((c.tc : Thread Cert.AdamBInRefIdeal.nD Cert.AdamBInRefIdeal.τ).loc Cert.AdamBInRefIdeal.main_arg1)
          ∧ r.2.mem ((c.tc : Thread Cert.AdamBInRefIdeal.nD Cert.AdamBInRefIdeal.τ).loc Cert.AdamBInRefIdeal.main_arg2) = m' ((c.tc : Thread Cert.AdamBInRefIdeal.nD Cert.AdamBInRefIdeal.τ).loc Cert.AdamBInRefIdeal.main_arg2)
          ∧ r.2.mem ((c.tc : Thread Cert.AdamBInRefIdeal.nD Cert.AdamBInRefIdeal.τ).loc Cert.AdamBInRefIdeal.main_arg3) = m' ((c.tc : Thread Cert.AdamBInRefIdeal.nD Cert.AdamBInRefIdeal.τ).loc Cert.AdamBInRefIdeal.main_arg3)
          ∧ r.2.mem ((c.tc : Thread Cert.AdamBInRefIdeal.nD Cert.AdamBInRefIdeal.τ).loc Cert.AdamBInRefIdeal.main_arg4) = m' ((c.tc : Thread Cert.AdamBInRefIdeal.nD Cert.AdamBInRefIdeal.τ).loc Cert.AdamBInRefIdeal.main_arg4)
          ∧ r.2.mem ((c.tc : Thread Cert.AdamBInRefIdeal.nD Cert.AdamBInRefIdeal.τ).loc Cert.AdamBInRefIdeal.main_arg5) = m' ((c.tc : Thread Cert.AdamBInRefIdeal.nD Cert.AdamBInRefIdeal.τ).loc Cert.AdamBInRefIdeal.main_arg5))

def preserves_AdamBOut_AdamBOutIdeal : Prop :=
  True

def algebraic_AdamBOutIdeal_AdamBOutRefIdeal [hAdamBOutIdeal : Cert.AdamBOutIdeal.Facts] [hAdamBOutRefIdeal : Cert.AdamBOutRefIdeal.Facts] : Prop :=
  ∀ (m : (ℓ : Loc Cert.AdamBOutIdeal.nD Cert.AdamBOutIdeal.τ Cert.AdamBOutIdeal.sig) → Buf (Elt Ideal) ℓ) (g : Dev Cert.AdamBOutIdeal.nD → PrngReg)
    (m' : (ℓ : Loc Cert.AdamBOutRefIdeal.nD Cert.AdamBOutRefIdeal.τ Cert.AdamBOutRefIdeal.sig) → Buf (Elt Ideal) ℓ) (g' : Dev Cert.AdamBOutRefIdeal.nD → PrngReg), Pre_AdamBOutIdeal m →
    (∀ c : Dev Cert.AdamBOutIdeal.nD,
      m' ((c.tc : Thread Cert.AdamBOutRefIdeal.nD Cert.AdamBOutRefIdeal.τ).loc Cert.AdamBOutRefIdeal.main_arg0) = m ((c.tc : Thread Cert.AdamBOutIdeal.nD Cert.AdamBOutIdeal.τ).loc Cert.AdamBOutIdeal.main_arg0)
      ∧ m' ((c.tc : Thread Cert.AdamBOutRefIdeal.nD Cert.AdamBOutRefIdeal.τ).loc Cert.AdamBOutRefIdeal.main_arg1) = m ((c.tc : Thread Cert.AdamBOutIdeal.nD Cert.AdamBOutIdeal.τ).loc Cert.AdamBOutIdeal.main_arg1)
      ∧ m' ((c.tc : Thread Cert.AdamBOutRefIdeal.nD Cert.AdamBOutRefIdeal.τ).loc Cert.AdamBOutRefIdeal.main_arg2) = m ((c.tc : Thread Cert.AdamBOutIdeal.nD Cert.AdamBOutIdeal.τ).loc Cert.AdamBOutIdeal.main_arg2)
      ∧ m' ((c.tc : Thread Cert.AdamBOutRefIdeal.nD Cert.AdamBOutRefIdeal.τ).loc Cert.AdamBOutRefIdeal.main_arg3) = m ((c.tc : Thread Cert.AdamBOutIdeal.nD Cert.AdamBOutIdeal.τ).loc Cert.AdamBOutIdeal.main_arg3)
      ∧ m' ((c.tc : Thread Cert.AdamBOutRefIdeal.nD Cert.AdamBOutRefIdeal.τ).loc Cert.AdamBOutRefIdeal.main_arg4) = m ((c.tc : Thread Cert.AdamBOutIdeal.nD Cert.AdamBOutIdeal.τ).loc Cert.AdamBOutIdeal.main_arg4)
      ∧ m' ((c.tc : Thread Cert.AdamBOutRefIdeal.nD Cert.AdamBOutRefIdeal.τ).loc Cert.AdamBOutRefIdeal.main_arg5) = m ((c.tc : Thread Cert.AdamBOutIdeal.nD Cert.AdamBOutIdeal.τ).loc Cert.AdamBOutIdeal.main_arg5)) →
    ∃ (v0 : (c : Dev Cert.AdamBOutIdeal.nD) → Buf (Elt Ideal) ((c.tc : Thread Cert.AdamBOutIdeal.nD Cert.AdamBOutIdeal.τ).loc Cert.AdamBOutIdeal.main_v0_0)) (v1 : (c : Dev Cert.AdamBOutIdeal.nD) → Buf (Elt Ideal) ((c.tc : Thread Cert.AdamBOutIdeal.nD Cert.AdamBOutIdeal.τ).loc Cert.AdamBOutIdeal.main_v0_1)) (v2 : (c : Dev Cert.AdamBOutIdeal.nD) → Buf (Elt Ideal) ((c.tc : Thread Cert.AdamBOutIdeal.nD Cert.AdamBOutIdeal.τ).loc Cert.AdamBOutIdeal.main_v0_2)) (v3 : (c : Dev Cert.AdamBOutIdeal.nD) → Buf (Elt Ideal) ((c.tc : Thread Cert.AdamBOutIdeal.nD Cert.AdamBOutIdeal.τ).loc Cert.AdamBOutIdeal.main_v0_3)),
      θ_run (Cert.AdamBOutIdeal.defs (F := Ideal)) (onTc (τ := Cert.AdamBOutIdeal.τ) (Cert.AdamBOutIdeal.main (F := Ideal))) ⟨m, fun _ => 0, g⟩ (fun r => ∀ c : Dev Cert.AdamBOutIdeal.nD,
          r.2.mem ((c.tc : Thread Cert.AdamBOutIdeal.nD Cert.AdamBOutIdeal.τ).loc Cert.AdamBOutIdeal.main_v0_0) = v0 c
          ∧ r.2.mem ((c.tc : Thread Cert.AdamBOutIdeal.nD Cert.AdamBOutIdeal.τ).loc Cert.AdamBOutIdeal.main_v0_1) = v1 c
          ∧ r.2.mem ((c.tc : Thread Cert.AdamBOutIdeal.nD Cert.AdamBOutIdeal.τ).loc Cert.AdamBOutIdeal.main_v0_2) = v2 c
          ∧ r.2.mem ((c.tc : Thread Cert.AdamBOutIdeal.nD Cert.AdamBOutIdeal.τ).loc Cert.AdamBOutIdeal.main_v0_3) = v3 c
          ∧ r.2.mem ((c.tc : Thread Cert.AdamBOutIdeal.nD Cert.AdamBOutIdeal.τ).loc Cert.AdamBOutIdeal.main_arg0) = m ((c.tc : Thread Cert.AdamBOutIdeal.nD Cert.AdamBOutIdeal.τ).loc Cert.AdamBOutIdeal.main_arg0)
          ∧ r.2.mem ((c.tc : Thread Cert.AdamBOutIdeal.nD Cert.AdamBOutIdeal.τ).loc Cert.AdamBOutIdeal.main_arg1) = m ((c.tc : Thread Cert.AdamBOutIdeal.nD Cert.AdamBOutIdeal.τ).loc Cert.AdamBOutIdeal.main_arg1)
          ∧ r.2.mem ((c.tc : Thread Cert.AdamBOutIdeal.nD Cert.AdamBOutIdeal.τ).loc Cert.AdamBOutIdeal.main_arg2) = m ((c.tc : Thread Cert.AdamBOutIdeal.nD Cert.AdamBOutIdeal.τ).loc Cert.AdamBOutIdeal.main_arg2)
          ∧ r.2.mem ((c.tc : Thread Cert.AdamBOutIdeal.nD Cert.AdamBOutIdeal.τ).loc Cert.AdamBOutIdeal.main_arg3) = m ((c.tc : Thread Cert.AdamBOutIdeal.nD Cert.AdamBOutIdeal.τ).loc Cert.AdamBOutIdeal.main_arg3)
          ∧ r.2.mem ((c.tc : Thread Cert.AdamBOutIdeal.nD Cert.AdamBOutIdeal.τ).loc Cert.AdamBOutIdeal.main_arg4) = m ((c.tc : Thread Cert.AdamBOutIdeal.nD Cert.AdamBOutIdeal.τ).loc Cert.AdamBOutIdeal.main_arg4)
          ∧ r.2.mem ((c.tc : Thread Cert.AdamBOutIdeal.nD Cert.AdamBOutIdeal.τ).loc Cert.AdamBOutIdeal.main_arg5) = m ((c.tc : Thread Cert.AdamBOutIdeal.nD Cert.AdamBOutIdeal.τ).loc Cert.AdamBOutIdeal.main_arg5))
      ∧ θ_run (Cert.AdamBOutRefIdeal.defs (F := Ideal)) (onTc (τ := Cert.AdamBOutRefIdeal.τ) (Cert.AdamBOutRefIdeal.main (F := Ideal))) ⟨m', fun _ => 0, g'⟩ (fun r => ∀ c : Dev Cert.AdamBOutRefIdeal.nD,
          r.2.mem ((c.tc : Thread Cert.AdamBOutRefIdeal.nD Cert.AdamBOutRefIdeal.τ).loc Cert.AdamBOutRefIdeal.main_v7) = v0 c
          ∧ r.2.mem ((c.tc : Thread Cert.AdamBOutRefIdeal.nD Cert.AdamBOutRefIdeal.τ).loc Cert.AdamBOutRefIdeal.main_v31) = v1 c
          ∧ r.2.mem ((c.tc : Thread Cert.AdamBOutRefIdeal.nD Cert.AdamBOutRefIdeal.τ).loc Cert.AdamBOutRefIdeal.main_v12) = v2 c
          ∧ r.2.mem ((c.tc : Thread Cert.AdamBOutRefIdeal.nD Cert.AdamBOutRefIdeal.τ).loc Cert.AdamBOutRefIdeal.main_v18) = v3 c
          ∧ r.2.mem ((c.tc : Thread Cert.AdamBOutRefIdeal.nD Cert.AdamBOutRefIdeal.τ).loc Cert.AdamBOutRefIdeal.main_arg0) = m' ((c.tc : Thread Cert.AdamBOutRefIdeal.nD Cert.AdamBOutRefIdeal.τ).loc Cert.AdamBOutRefIdeal.main_arg0)
          ∧ r.2.mem ((c.tc : Thread Cert.AdamBOutRefIdeal.nD Cert.AdamBOutRefIdeal.τ).loc Cert.AdamBOutRefIdeal.main_arg1) = m' ((c.tc : Thread Cert.AdamBOutRefIdeal.nD Cert.AdamBOutRefIdeal.τ).loc Cert.AdamBOutRefIdeal.main_arg1)
          ∧ r.2.mem ((c.tc : Thread Cert.AdamBOutRefIdeal.nD Cert.AdamBOutRefIdeal.τ).loc Cert.AdamBOutRefIdeal.main_arg2) = m' ((c.tc : Thread Cert.AdamBOutRefIdeal.nD Cert.AdamBOutRefIdeal.τ).loc Cert.AdamBOutRefIdeal.main_arg2)
          ∧ r.2.mem ((c.tc : Thread Cert.AdamBOutRefIdeal.nD Cert.AdamBOutRefIdeal.τ).loc Cert.AdamBOutRefIdeal.main_arg3) = m' ((c.tc : Thread Cert.AdamBOutRefIdeal.nD Cert.AdamBOutRefIdeal.τ).loc Cert.AdamBOutRefIdeal.main_arg3)
          ∧ r.2.mem ((c.tc : Thread Cert.AdamBOutRefIdeal.nD Cert.AdamBOutRefIdeal.τ).loc Cert.AdamBOutRefIdeal.main_arg4) = m' ((c.tc : Thread Cert.AdamBOutRefIdeal.nD Cert.AdamBOutRefIdeal.τ).loc Cert.AdamBOutRefIdeal.main_arg4)
          ∧ r.2.mem ((c.tc : Thread Cert.AdamBOutRefIdeal.nD Cert.AdamBOutRefIdeal.τ).loc Cert.AdamBOutRefIdeal.main_arg5) = m' ((c.tc : Thread Cert.AdamBOutRefIdeal.nD Cert.AdamBOutRefIdeal.τ).loc Cert.AdamBOutRefIdeal.main_arg5))

def preserves_AdamAIn_AdamAInIdeal : Prop :=
  True

def algebraic_AdamAInIdeal_AdamAInRefIdeal [hAdamAInIdeal : Cert.AdamAInIdeal.Facts] [hAdamAInRefIdeal : Cert.AdamAInRefIdeal.Facts] : Prop :=
  ∀ (m : (ℓ : Loc Cert.AdamAInIdeal.nD Cert.AdamAInIdeal.τ Cert.AdamAInIdeal.sig) → Buf (Elt Ideal) ℓ) (g : Dev Cert.AdamAInIdeal.nD → PrngReg)
    (m' : (ℓ : Loc Cert.AdamAInRefIdeal.nD Cert.AdamAInRefIdeal.τ Cert.AdamAInRefIdeal.sig) → Buf (Elt Ideal) ℓ) (g' : Dev Cert.AdamAInRefIdeal.nD → PrngReg), Pre_AdamAInIdeal m →
    (∀ c : Dev Cert.AdamAInIdeal.nD,
      m' ((c.tc : Thread Cert.AdamAInRefIdeal.nD Cert.AdamAInRefIdeal.τ).loc Cert.AdamAInRefIdeal.main_arg0) = m ((c.tc : Thread Cert.AdamAInIdeal.nD Cert.AdamAInIdeal.τ).loc Cert.AdamAInIdeal.main_arg0)
      ∧ m' ((c.tc : Thread Cert.AdamAInRefIdeal.nD Cert.AdamAInRefIdeal.τ).loc Cert.AdamAInRefIdeal.main_arg1) = m ((c.tc : Thread Cert.AdamAInIdeal.nD Cert.AdamAInIdeal.τ).loc Cert.AdamAInIdeal.main_arg1)
      ∧ m' ((c.tc : Thread Cert.AdamAInRefIdeal.nD Cert.AdamAInRefIdeal.τ).loc Cert.AdamAInRefIdeal.main_arg2) = m ((c.tc : Thread Cert.AdamAInIdeal.nD Cert.AdamAInIdeal.τ).loc Cert.AdamAInIdeal.main_arg2)
      ∧ m' ((c.tc : Thread Cert.AdamAInRefIdeal.nD Cert.AdamAInRefIdeal.τ).loc Cert.AdamAInRefIdeal.main_arg3) = m ((c.tc : Thread Cert.AdamAInIdeal.nD Cert.AdamAInIdeal.τ).loc Cert.AdamAInIdeal.main_arg3)
      ∧ m' ((c.tc : Thread Cert.AdamAInRefIdeal.nD Cert.AdamAInRefIdeal.τ).loc Cert.AdamAInRefIdeal.main_arg4) = m ((c.tc : Thread Cert.AdamAInIdeal.nD Cert.AdamAInIdeal.τ).loc Cert.AdamAInIdeal.main_arg4)
      ∧ m' ((c.tc : Thread Cert.AdamAInRefIdeal.nD Cert.AdamAInRefIdeal.τ).loc Cert.AdamAInRefIdeal.main_arg5) = m ((c.tc : Thread Cert.AdamAInIdeal.nD Cert.AdamAInIdeal.τ).loc Cert.AdamAInIdeal.main_arg5)) →
    ∃ (v0 : (c : Dev Cert.AdamAInIdeal.nD) → Buf (Elt Ideal) ((c.tc : Thread Cert.AdamAInIdeal.nD Cert.AdamAInIdeal.τ).loc Cert.AdamAInIdeal.main_v7_0)) (v1 : (c : Dev Cert.AdamAInIdeal.nD) → Buf (Elt Ideal) ((c.tc : Thread Cert.AdamAInIdeal.nD Cert.AdamAInIdeal.τ).loc Cert.AdamAInIdeal.main_v7_1)) (v2 : (c : Dev Cert.AdamAInIdeal.nD) → Buf (Elt Ideal) ((c.tc : Thread Cert.AdamAInIdeal.nD Cert.AdamAInIdeal.τ).loc Cert.AdamAInIdeal.main_v7_2)) (v3 : (c : Dev Cert.AdamAInIdeal.nD) → Buf (Elt Ideal) ((c.tc : Thread Cert.AdamAInIdeal.nD Cert.AdamAInIdeal.τ).loc Cert.AdamAInIdeal.main_v7_3)),
      θ_run (Cert.AdamAInIdeal.defs (F := Ideal)) (onTc (τ := Cert.AdamAInIdeal.τ) (Cert.AdamAInIdeal.main (F := Ideal))) ⟨m, fun _ => 0, g⟩ (fun r => ∀ c : Dev Cert.AdamAInIdeal.nD,
          r.2.mem ((c.tc : Thread Cert.AdamAInIdeal.nD Cert.AdamAInIdeal.τ).loc Cert.AdamAInIdeal.main_v7_0) = v0 c
          ∧ r.2.mem ((c.tc : Thread Cert.AdamAInIdeal.nD Cert.AdamAInIdeal.τ).loc Cert.AdamAInIdeal.main_v7_1) = v1 c
          ∧ r.2.mem ((c.tc : Thread Cert.AdamAInIdeal.nD Cert.AdamAInIdeal.τ).loc Cert.AdamAInIdeal.main_v7_2) = v2 c
          ∧ r.2.mem ((c.tc : Thread Cert.AdamAInIdeal.nD Cert.AdamAInIdeal.τ).loc Cert.AdamAInIdeal.main_v7_3) = v3 c
          ∧ r.2.mem ((c.tc : Thread Cert.AdamAInIdeal.nD Cert.AdamAInIdeal.τ).loc Cert.AdamAInIdeal.main_arg0) = m ((c.tc : Thread Cert.AdamAInIdeal.nD Cert.AdamAInIdeal.τ).loc Cert.AdamAInIdeal.main_arg0)
          ∧ r.2.mem ((c.tc : Thread Cert.AdamAInIdeal.nD Cert.AdamAInIdeal.τ).loc Cert.AdamAInIdeal.main_arg1) = m ((c.tc : Thread Cert.AdamAInIdeal.nD Cert.AdamAInIdeal.τ).loc Cert.AdamAInIdeal.main_arg1)
          ∧ r.2.mem ((c.tc : Thread Cert.AdamAInIdeal.nD Cert.AdamAInIdeal.τ).loc Cert.AdamAInIdeal.main_arg2) = m ((c.tc : Thread Cert.AdamAInIdeal.nD Cert.AdamAInIdeal.τ).loc Cert.AdamAInIdeal.main_arg2)
          ∧ r.2.mem ((c.tc : Thread Cert.AdamAInIdeal.nD Cert.AdamAInIdeal.τ).loc Cert.AdamAInIdeal.main_arg3) = m ((c.tc : Thread Cert.AdamAInIdeal.nD Cert.AdamAInIdeal.τ).loc Cert.AdamAInIdeal.main_arg3)
          ∧ r.2.mem ((c.tc : Thread Cert.AdamAInIdeal.nD Cert.AdamAInIdeal.τ).loc Cert.AdamAInIdeal.main_arg4) = m ((c.tc : Thread Cert.AdamAInIdeal.nD Cert.AdamAInIdeal.τ).loc Cert.AdamAInIdeal.main_arg4)
          ∧ r.2.mem ((c.tc : Thread Cert.AdamAInIdeal.nD Cert.AdamAInIdeal.τ).loc Cert.AdamAInIdeal.main_arg5) = m ((c.tc : Thread Cert.AdamAInIdeal.nD Cert.AdamAInIdeal.τ).loc Cert.AdamAInIdeal.main_arg5))
      ∧ θ_run (Cert.AdamAInRefIdeal.defs (F := Ideal)) (onTc (τ := Cert.AdamAInRefIdeal.τ) (Cert.AdamAInRefIdeal.main (F := Ideal))) ⟨m', fun _ => 0, g'⟩ (fun r => ∀ c : Dev Cert.AdamAInRefIdeal.nD,
          r.2.mem ((c.tc : Thread Cert.AdamAInRefIdeal.nD Cert.AdamAInRefIdeal.τ).loc Cert.AdamAInRefIdeal.main_v32) = v0 c
          ∧ r.2.mem ((c.tc : Thread Cert.AdamAInRefIdeal.nD Cert.AdamAInRefIdeal.τ).loc Cert.AdamAInRefIdeal.main_v33) = v1 c
          ∧ r.2.mem ((c.tc : Thread Cert.AdamAInRefIdeal.nD Cert.AdamAInRefIdeal.τ).loc Cert.AdamAInRefIdeal.main_v34) = v2 c
          ∧ r.2.mem ((c.tc : Thread Cert.AdamAInRefIdeal.nD Cert.AdamAInRefIdeal.τ).loc Cert.AdamAInRefIdeal.main_v35) = v3 c
          ∧ r.2.mem ((c.tc : Thread Cert.AdamAInRefIdeal.nD Cert.AdamAInRefIdeal.τ).loc Cert.AdamAInRefIdeal.main_arg0) = m' ((c.tc : Thread Cert.AdamAInRefIdeal.nD Cert.AdamAInRefIdeal.τ).loc Cert.AdamAInRefIdeal.main_arg0)
          ∧ r.2.mem ((c.tc : Thread Cert.AdamAInRefIdeal.nD Cert.AdamAInRefIdeal.τ).loc Cert.AdamAInRefIdeal.main_arg1) = m' ((c.tc : Thread Cert.AdamAInRefIdeal.nD Cert.AdamAInRefIdeal.τ).loc Cert.AdamAInRefIdeal.main_arg1)
          ∧ r.2.mem ((c.tc : Thread Cert.AdamAInRefIdeal.nD Cert.AdamAInRefIdeal.τ).loc Cert.AdamAInRefIdeal.main_arg2) = m' ((c.tc : Thread Cert.AdamAInRefIdeal.nD Cert.AdamAInRefIdeal.τ).loc Cert.AdamAInRefIdeal.main_arg2)
          ∧ r.2.mem ((c.tc : Thread Cert.AdamAInRefIdeal.nD Cert.AdamAInRefIdeal.τ).loc Cert.AdamAInRefIdeal.main_arg3) = m' ((c.tc : Thread Cert.AdamAInRefIdeal.nD Cert.AdamAInRefIdeal.τ).loc Cert.AdamAInRefIdeal.main_arg3)
          ∧ r.2.mem ((c.tc : Thread Cert.AdamAInRefIdeal.nD Cert.AdamAInRefIdeal.τ).loc Cert.AdamAInRefIdeal.main_arg4) = m' ((c.tc : Thread Cert.AdamAInRefIdeal.nD Cert.AdamAInRefIdeal.τ).loc Cert.AdamAInRefIdeal.main_arg4)
          ∧ r.2.mem ((c.tc : Thread Cert.AdamAInRefIdeal.nD Cert.AdamAInRefIdeal.τ).loc Cert.AdamAInRefIdeal.main_arg5) = m' ((c.tc : Thread Cert.AdamAInRefIdeal.nD Cert.AdamAInRefIdeal.τ).loc Cert.AdamAInRefIdeal.main_arg5))

def preserves_AttnBwd2_AttnBwd2Ideal : Prop :=
  IdealRules.named_const.Statement Cert.AttnBwd2Ideal.κ "mask" .f32 0xF149F2CA#32 ⊥

def algebraic_AttnBwd2Ideal_AttnBwd2RefIdeal [hAttnBwd2Ideal : Cert.AttnBwd2Ideal.Facts] [hAttnBwd2RefIdeal : Cert.AttnBwd2RefIdeal.Facts] : Prop :=
  ∀ (m : (ℓ : Loc Cert.AttnBwd2Ideal.nD Cert.AttnBwd2Ideal.τ Cert.AttnBwd2Ideal.sig) → Buf (Elt Ideal) ℓ) (g : Dev Cert.AttnBwd2Ideal.nD → PrngReg)
    (m' : (ℓ : Loc Cert.AttnBwd2RefIdeal.nD Cert.AttnBwd2RefIdeal.τ Cert.AttnBwd2RefIdeal.sig) → Buf (Elt Ideal) ℓ) (g' : Dev Cert.AttnBwd2RefIdeal.nD → PrngReg), Pre_AttnBwd2Ideal m →
    (∀ c : Dev Cert.AttnBwd2Ideal.nD,
      m' ((c.tc : Thread Cert.AttnBwd2RefIdeal.nD Cert.AttnBwd2RefIdeal.τ).loc Cert.AttnBwd2RefIdeal.main_arg0) = m ((c.tc : Thread Cert.AttnBwd2Ideal.nD Cert.AttnBwd2Ideal.τ).loc Cert.AttnBwd2Ideal.main_arg0)
      ∧ m' ((c.tc : Thread Cert.AttnBwd2RefIdeal.nD Cert.AttnBwd2RefIdeal.τ).loc Cert.AttnBwd2RefIdeal.main_arg1) = m ((c.tc : Thread Cert.AttnBwd2Ideal.nD Cert.AttnBwd2Ideal.τ).loc Cert.AttnBwd2Ideal.main_arg1)
      ∧ m' ((c.tc : Thread Cert.AttnBwd2RefIdeal.nD Cert.AttnBwd2RefIdeal.τ).loc Cert.AttnBwd2RefIdeal.main_arg2) = m ((c.tc : Thread Cert.AttnBwd2Ideal.nD Cert.AttnBwd2Ideal.τ).loc Cert.AttnBwd2Ideal.main_arg2)
      ∧ m' ((c.tc : Thread Cert.AttnBwd2RefIdeal.nD Cert.AttnBwd2RefIdeal.τ).loc Cert.AttnBwd2RefIdeal.main_arg3) = m ((c.tc : Thread Cert.AttnBwd2Ideal.nD Cert.AttnBwd2Ideal.τ).loc Cert.AttnBwd2Ideal.main_arg3)
      ∧ m' ((c.tc : Thread Cert.AttnBwd2RefIdeal.nD Cert.AttnBwd2RefIdeal.τ).loc Cert.AttnBwd2RefIdeal.main_arg4) = m ((c.tc : Thread Cert.AttnBwd2Ideal.nD Cert.AttnBwd2Ideal.τ).loc Cert.AttnBwd2Ideal.main_arg4)
      ∧ m' ((c.tc : Thread Cert.AttnBwd2RefIdeal.nD Cert.AttnBwd2RefIdeal.τ).loc Cert.AttnBwd2RefIdeal.main_arg5) = m ((c.tc : Thread Cert.AttnBwd2Ideal.nD Cert.AttnBwd2Ideal.τ).loc Cert.AttnBwd2Ideal.main_arg5)) →
    ∃ (v0 : (c : Dev Cert.AttnBwd2Ideal.nD) → Buf (Elt Ideal) ((c.tc : Thread Cert.AttnBwd2Ideal.nD Cert.AttnBwd2Ideal.τ).loc Cert.AttnBwd2Ideal.main_v37_0)) (v1 : (c : Dev Cert.AttnBwd2Ideal.nD) → Buf (Elt Ideal) ((c.tc : Thread Cert.AttnBwd2Ideal.nD Cert.AttnBwd2Ideal.τ).loc Cert.AttnBwd2Ideal.main_v37_1)) (v2 : (c : Dev Cert.AttnBwd2Ideal.nD) → Buf (Elt Ideal) ((c.tc : Thread Cert.AttnBwd2Ideal.nD Cert.AttnBwd2Ideal.τ).loc Cert.AttnBwd2Ideal.main_v37_2)),
      θ_run (Cert.AttnBwd2Ideal.defs (F := Ideal)) (onTc (τ := Cert.AttnBwd2Ideal.τ) (Cert.AttnBwd2Ideal.main (F := Ideal))) ⟨m, fun _ => 0, g⟩ (fun r => ∀ c : Dev Cert.AttnBwd2Ideal.nD,
          r.2.mem ((c.tc : Thread Cert.AttnBwd2Ideal.nD Cert.AttnBwd2Ideal.τ).loc Cert.AttnBwd2Ideal.main_v37_0) = v0 c
          ∧ r.2.mem ((c.tc : Thread Cert.AttnBwd2Ideal.nD Cert.AttnBwd2Ideal.τ).loc Cert.AttnBwd2Ideal.main_v37_1) = v1 c
          ∧ r.2.mem ((c.tc : Thread Cert.AttnBwd2Ideal.nD Cert.AttnBwd2Ideal.τ).loc Cert.AttnBwd2Ideal.main_v37_2) = v2 c
          ∧ r.2.mem ((c.tc : Thread Cert.AttnBwd2Ideal.nD Cert.AttnBwd2Ideal.τ).loc Cert.AttnBwd2Ideal.main_arg0) = m ((c.tc : Thread Cert.AttnBwd2Ideal.nD Cert.AttnBwd2Ideal.τ).loc Cert.AttnBwd2Ideal.main_arg0)
          ∧ r.2.mem ((c.tc : Thread Cert.AttnBwd2Ideal.nD Cert.AttnBwd2Ideal.τ).loc Cert.AttnBwd2Ideal.main_arg1) = m ((c.tc : Thread Cert.AttnBwd2Ideal.nD Cert.AttnBwd2Ideal.τ).loc Cert.AttnBwd2Ideal.main_arg1)
          ∧ r.2.mem ((c.tc : Thread Cert.AttnBwd2Ideal.nD Cert.AttnBwd2Ideal.τ).loc Cert.AttnBwd2Ideal.main_arg2) = m ((c.tc : Thread Cert.AttnBwd2Ideal.nD Cert.AttnBwd2Ideal.τ).loc Cert.AttnBwd2Ideal.main_arg2)
          ∧ r.2.mem ((c.tc : Thread Cert.AttnBwd2Ideal.nD Cert.AttnBwd2Ideal.τ).loc Cert.AttnBwd2Ideal.main_arg3) = m ((c.tc : Thread Cert.AttnBwd2Ideal.nD Cert.AttnBwd2Ideal.τ).loc Cert.AttnBwd2Ideal.main_arg3)
          ∧ r.2.mem ((c.tc : Thread Cert.AttnBwd2Ideal.nD Cert.AttnBwd2Ideal.τ).loc Cert.AttnBwd2Ideal.main_arg4) = m ((c.tc : Thread Cert.AttnBwd2Ideal.nD Cert.AttnBwd2Ideal.τ).loc Cert.AttnBwd2Ideal.main_arg4)
          ∧ r.2.mem ((c.tc : Thread Cert.AttnBwd2Ideal.nD Cert.AttnBwd2Ideal.τ).loc Cert.AttnBwd2Ideal.main_arg5) = m ((c.tc : Thread Cert.AttnBwd2Ideal.nD Cert.AttnBwd2Ideal.τ).loc Cert.AttnBwd2Ideal.main_arg5))
      ∧ θ_run (Cert.AttnBwd2RefIdeal.defs (F := Ideal)) (onTc (τ := Cert.AttnBwd2RefIdeal.τ) (Cert.AttnBwd2RefIdeal.main (F := Ideal))) ⟨m', fun _ => 0, g'⟩ (fun r => ∀ c : Dev Cert.AttnBwd2RefIdeal.nD,
          r.2.mem ((c.tc : Thread Cert.AttnBwd2RefIdeal.nD Cert.AttnBwd2RefIdeal.τ).loc Cert.AttnBwd2RefIdeal.main_v59) = v0 c
          ∧ r.2.mem ((c.tc : Thread Cert.AttnBwd2RefIdeal.nD Cert.AttnBwd2RefIdeal.τ).loc Cert.AttnBwd2RefIdeal.main_v63) = v1 c
          ∧ r.2.mem ((c.tc : Thread Cert.AttnBwd2RefIdeal.nD Cert.AttnBwd2RefIdeal.τ).loc Cert.AttnBwd2RefIdeal.main_v67) = v2 c
          ∧ r.2.mem ((c.tc : Thread Cert.AttnBwd2RefIdeal.nD Cert.AttnBwd2RefIdeal.τ).loc Cert.AttnBwd2RefIdeal.main_arg0) = m' ((c.tc : Thread Cert.AttnBwd2RefIdeal.nD Cert.AttnBwd2RefIdeal.τ).loc Cert.AttnBwd2RefIdeal.main_arg0)
          ∧ r.2.mem ((c.tc : Thread Cert.AttnBwd2RefIdeal.nD Cert.AttnBwd2RefIdeal.τ).loc Cert.AttnBwd2RefIdeal.main_arg1) = m' ((c.tc : Thread Cert.AttnBwd2RefIdeal.nD Cert.AttnBwd2RefIdeal.τ).loc Cert.AttnBwd2RefIdeal.main_arg1)
          ∧ r.2.mem ((c.tc : Thread Cert.AttnBwd2RefIdeal.nD Cert.AttnBwd2RefIdeal.τ).loc Cert.AttnBwd2RefIdeal.main_arg2) = m' ((c.tc : Thread Cert.AttnBwd2RefIdeal.nD Cert.AttnBwd2RefIdeal.τ).loc Cert.AttnBwd2RefIdeal.main_arg2)
          ∧ r.2.mem ((c.tc : Thread Cert.AttnBwd2RefIdeal.nD Cert.AttnBwd2RefIdeal.τ).loc Cert.AttnBwd2RefIdeal.main_arg3) = m' ((c.tc : Thread Cert.AttnBwd2RefIdeal.nD Cert.AttnBwd2RefIdeal.τ).loc Cert.AttnBwd2RefIdeal.main_arg3)
          ∧ r.2.mem ((c.tc : Thread Cert.AttnBwd2RefIdeal.nD Cert.AttnBwd2RefIdeal.τ).loc Cert.AttnBwd2RefIdeal.main_arg4) = m' ((c.tc : Thread Cert.AttnBwd2RefIdeal.nD Cert.AttnBwd2RefIdeal.τ).loc Cert.AttnBwd2RefIdeal.main_arg4)
          ∧ r.2.mem ((c.tc : Thread Cert.AttnBwd2RefIdeal.nD Cert.AttnBwd2RefIdeal.τ).loc Cert.AttnBwd2RefIdeal.main_arg5) = m' ((c.tc : Thread Cert.AttnBwd2RefIdeal.nD Cert.AttnBwd2RefIdeal.τ).loc Cert.AttnBwd2RefIdeal.main_arg5))

def preserves_InProjBwd_InProjBwdIdeal : Prop :=
  True

def algebraic_InProjBwdIdeal_InProjBwdRefIdeal [hInProjBwdIdeal : Cert.InProjBwdIdeal.Facts] [hInProjBwdRefIdeal : Cert.InProjBwdRefIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg)
    (m' : (ℓ : Loc Cert.InProjBwdRefIdeal.nD Cert.InProjBwdRefIdeal.τ Cert.InProjBwdRefIdeal.sig) → Buf (Elt Ideal) ℓ) (g' : Dev Cert.InProjBwdRefIdeal.nD → PrngReg), Pre_InProjBwdIdeal m →
    (∀ c : Dev Cert.InProjBwdIdeal.nD,
      m' ((c.tc : Thread Cert.InProjBwdRefIdeal.nD Cert.InProjBwdRefIdeal.τ).loc Cert.InProjBwdRefIdeal.main_arg0) = m ((c.tc : Thread Cert.InProjBwdIdeal.nD Cert.InProjBwdIdeal.τ).loc Cert.InProjBwdIdeal.main_arg0)
      ∧ m' ((c.tc : Thread Cert.InProjBwdRefIdeal.nD Cert.InProjBwdRefIdeal.τ).loc Cert.InProjBwdRefIdeal.main_arg1) = m ((c.tc : Thread Cert.InProjBwdIdeal.nD Cert.InProjBwdIdeal.τ).loc Cert.InProjBwdIdeal.main_arg1)
      ∧ m' ((c.tc : Thread Cert.InProjBwdRefIdeal.nD Cert.InProjBwdRefIdeal.τ).loc Cert.InProjBwdRefIdeal.main_arg2) = m ((c.tc : Thread Cert.InProjBwdIdeal.nD Cert.InProjBwdIdeal.τ).loc Cert.InProjBwdIdeal.main_arg2)
      ∧ m' ((c.tc : Thread Cert.InProjBwdRefIdeal.nD Cert.InProjBwdRefIdeal.τ).loc Cert.InProjBwdRefIdeal.main_arg3) = m ((c.tc : Thread Cert.InProjBwdIdeal.nD Cert.InProjBwdIdeal.τ).loc Cert.InProjBwdIdeal.main_arg3)
      ∧ m' ((c.tc : Thread Cert.InProjBwdRefIdeal.nD Cert.InProjBwdRefIdeal.τ).loc Cert.InProjBwdRefIdeal.main_arg4) = m ((c.tc : Thread Cert.InProjBwdIdeal.nD Cert.InProjBwdIdeal.τ).loc Cert.InProjBwdIdeal.main_arg4)
      ∧ m' ((c.tc : Thread Cert.InProjBwdRefIdeal.nD Cert.InProjBwdRefIdeal.τ).loc Cert.InProjBwdRefIdeal.main_arg5) = m ((c.tc : Thread Cert.InProjBwdIdeal.nD Cert.InProjBwdIdeal.τ).loc Cert.InProjBwdIdeal.main_arg5)) →
    ∃ (v0 : (c : Dev Cert.InProjBwdIdeal.nD) → Buf (Elt Ideal) ((c.tc : Thread Cert.InProjBwdIdeal.nD Cert.InProjBwdIdeal.τ).loc Cert.InProjBwdIdeal.main_v2_0)) (v1 : (c : Dev Cert.InProjBwdIdeal.nD) → Buf (Elt Ideal) ((c.tc : Thread Cert.InProjBwdIdeal.nD Cert.InProjBwdIdeal.τ).loc Cert.InProjBwdIdeal.main_v2_1)),
      θ_run (Cert.InProjBwdIdeal.defs (F := Ideal)) (onTc (τ := Cert.InProjBwdIdeal.τ) (Cert.InProjBwdIdeal.main (F := Ideal))) ⟨m, fun _ => 0, g⟩ (fun r => ∀ c : Dev Cert.InProjBwdIdeal.nD,
          r.2.mem ((c.tc : Thread Cert.InProjBwdIdeal.nD Cert.InProjBwdIdeal.τ).loc Cert.InProjBwdIdeal.main_v2_0) = v0 c
          ∧ r.2.mem ((c.tc : Thread Cert.InProjBwdIdeal.nD Cert.InProjBwdIdeal.τ).loc Cert.InProjBwdIdeal.main_v2_1) = v1 c
          ∧ r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
          ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
          ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
          ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
          ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
          ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5))
      ∧ θ_run (Cert.InProjBwdRefIdeal.defs (F := Ideal)) (onTc (τ := Cert.InProjBwdRefIdeal.τ) (Cert.InProjBwdRefIdeal.main (F := Ideal))) ⟨m', fun _ => 0, g'⟩ (fun r => ∀ c : Dev Cert.InProjBwdRefIdeal.nD,
          r.2.mem ((c.tc : Thread Cert.InProjBwdRefIdeal.nD Cert.InProjBwdRefIdeal.τ).loc Cert.InProjBwdRefIdeal.main_v37) = v0 c
          ∧ r.2.mem ((c.tc : Thread Cert.InProjBwdRefIdeal.nD Cert.InProjBwdRefIdeal.τ).loc Cert.InProjBwdRefIdeal.main_v38) = v1 c
          ∧ r.2.mem ((c.tc : Thread Cert.InProjBwdRefIdeal.nD Cert.InProjBwdRefIdeal.τ).loc Cert.InProjBwdRefIdeal.main_arg0) = m' ((c.tc : Thread Cert.InProjBwdRefIdeal.nD Cert.InProjBwdRefIdeal.τ).loc Cert.InProjBwdRefIdeal.main_arg0)
          ∧ r.2.mem ((c.tc : Thread Cert.InProjBwdRefIdeal.nD Cert.InProjBwdRefIdeal.τ).loc Cert.InProjBwdRefIdeal.main_arg1) = m' ((c.tc : Thread Cert.InProjBwdRefIdeal.nD Cert.InProjBwdRefIdeal.τ).loc Cert.InProjBwdRefIdeal.main_arg1)
          ∧ r.2.mem ((c.tc : Thread Cert.InProjBwdRefIdeal.nD Cert.InProjBwdRefIdeal.τ).loc Cert.InProjBwdRefIdeal.main_arg2) = m' ((c.tc : Thread Cert.InProjBwdRefIdeal.nD Cert.InProjBwdRefIdeal.τ).loc Cert.InProjBwdRefIdeal.main_arg2)
          ∧ r.2.mem ((c.tc : Thread Cert.InProjBwdRefIdeal.nD Cert.InProjBwdRefIdeal.τ).loc Cert.InProjBwdRefIdeal.main_arg3) = m' ((c.tc : Thread Cert.InProjBwdRefIdeal.nD Cert.InProjBwdRefIdeal.τ).loc Cert.InProjBwdRefIdeal.main_arg3)
          ∧ r.2.mem ((c.tc : Thread Cert.InProjBwdRefIdeal.nD Cert.InProjBwdRefIdeal.τ).loc Cert.InProjBwdRefIdeal.main_arg4) = m' ((c.tc : Thread Cert.InProjBwdRefIdeal.nD Cert.InProjBwdRefIdeal.τ).loc Cert.InProjBwdRefIdeal.main_arg4)
          ∧ r.2.mem ((c.tc : Thread Cert.InProjBwdRefIdeal.nD Cert.InProjBwdRefIdeal.τ).loc Cert.InProjBwdRefIdeal.main_arg5) = m' ((c.tc : Thread Cert.InProjBwdRefIdeal.nD Cert.InProjBwdRefIdeal.τ).loc Cert.InProjBwdRefIdeal.main_arg5))

def Claim : Prop :=
  ∃ (hAInDw : Cert.AInDw.Facts) (hAInDwIdeal : Cert.AInDwIdeal.Facts) (hAInDwRefIdeal : Cert.AInDwRefIdeal.Facts) (hAOutDw : Cert.AOutDw.Facts) (hAOutDwIdeal : Cert.AOutDwIdeal.Facts) (hAOutDwRefIdeal : Cert.AOutDwRefIdeal.Facts) (hAOutDx : Cert.AOutDx.Facts) (hAOutDxIdeal : Cert.AOutDxIdeal.Facts) (hAOutDxRefIdeal : Cert.AOutDxRefIdeal.Facts) (hBOutDw : Cert.BOutDw.Facts) (hBOutDwIdeal : Cert.BOutDwIdeal.Facts) (hBOutDwRefIdeal : Cert.BOutDwRefIdeal.Facts) (hBOutDx : Cert.BOutDx.Facts) (hBOutDxIdeal : Cert.BOutDxIdeal.Facts) (hBOutDxRefIdeal : Cert.BOutDxRefIdeal.Facts) (hBInDw0 : Cert.BInDw0.Facts) (hBInDw0Ideal : Cert.BInDw0Ideal.Facts) (hBInDw0RefIdeal : Cert.BInDw0RefIdeal.Facts) (hBInDx0 : Cert.BInDx0.Facts) (hBInDx0Ideal : Cert.BInDx0Ideal.Facts) (hBInDx0RefIdeal : Cert.BInDx0RefIdeal.Facts) (hBIn0 : Cert.BIn0.Facts) (hBIn0Ideal : Cert.BIn0Ideal.Facts) (hBIn0RefIdeal : Cert.BIn0RefIdeal.Facts) (hBInDw1 : Cert.BInDw1.Facts) (hBInDw1Ideal : Cert.BInDw1Ideal.Facts) (hBInDw1RefIdeal : Cert.BInDw1RefIdeal.Facts) (hBInDx1 : Cert.BInDx1.Facts) (hBInDx1Ideal : Cert.BInDx1Ideal.Facts) (hBInDx1RefIdeal : Cert.BInDx1RefIdeal.Facts) (hBIn1 : Cert.BIn1.Facts) (hBIn1Ideal : Cert.BIn1Ideal.Facts) (hBIn1RefIdeal : Cert.BIn1RefIdeal.Facts) (hBInDw2 : Cert.BInDw2.Facts) (hBInDw2Ideal : Cert.BInDw2Ideal.Facts) (hBInDw2RefIdeal : Cert.BInDw2RefIdeal.Facts) (hBInDx2 : Cert.BInDx2.Facts) (hBInDx2Ideal : Cert.BInDx2Ideal.Facts) (hBInDx2RefIdeal : Cert.BInDx2RefIdeal.Facts) (hBIn2 : Cert.BIn2.Facts) (hBIn2Ideal : Cert.BIn2Ideal.Facts) (hBIn2RefIdeal : Cert.BIn2RefIdeal.Facts) (hAIn : Cert.AIn.Facts) (hAInIdeal : Cert.AInIdeal.Facts) (hAInRefIdeal : Cert.AInRefIdeal.Facts) (hAOut : Cert.AOut.Facts) (hAOutIdeal : Cert.AOutIdeal.Facts) (hAOutRefIdeal : Cert.AOutRefIdeal.Facts) (hBOutLoss : Cert.BOutLoss.Facts) (hBOutLossIdeal : Cert.BOutLossIdeal.Facts) (hBOutLossRefIdeal : Cert.BOutLossRefIdeal.Facts) (hAdamSmall : Cert.AdamSmall.Facts) (hAdamSmallIdeal : Cert.AdamSmallIdeal.Facts) (hAdamSmallRefIdeal : Cert.AdamSmallRefIdeal.Facts) (hAdamAOut : Cert.AdamAOut.Facts) (hAdamAOutIdeal : Cert.AdamAOutIdeal.Facts) (hAdamAOutRefIdeal : Cert.AdamAOutRefIdeal.Facts) (hAdamBIn : Cert.AdamBIn.Facts) (hAdamBInIdeal : Cert.AdamBInIdeal.Facts) (hAdamBInRefIdeal : Cert.AdamBInRefIdeal.Facts) (hAdamBOut : Cert.AdamBOut.Facts) (hAdamBOutIdeal : Cert.AdamBOutIdeal.Facts) (hAdamBOutRefIdeal : Cert.AdamBOutRefIdeal.Facts) (hAdamAIn : Cert.AdamAIn.Facts) (hAdamAInIdeal : Cert.AdamAInIdeal.Facts) (hAdamAInRefIdeal : Cert.AdamAInRefIdeal.Facts) (hAttnBwd2 : Cert.AttnBwd2.Facts) (hAttnBwd2Ideal : Cert.AttnBwd2Ideal.Facts) (hAttnBwd2RefIdeal : Cert.AttnBwd2RefIdeal.Facts) (hInProjBwd : Cert.InProjBwd.Facts) (hInProjBwdIdeal : Cert.InProjBwdIdeal.Facts) (hInProjBwdRefIdeal : Cert.InProjBwdRefIdeal.Facts),
    quiescent_AInDw (hAInDw := hAInDw)
    ∧ quiescent_AInDwIdeal (hAInDwIdeal := hAInDwIdeal)
    ∧ quiescent_AInDwRefIdeal (hAInDwRefIdeal := hAInDwRefIdeal)
    ∧ quiescent_AOutDw (hAOutDw := hAOutDw)
    ∧ quiescent_AOutDwIdeal (hAOutDwIdeal := hAOutDwIdeal)
    ∧ quiescent_AOutDwRefIdeal (hAOutDwRefIdeal := hAOutDwRefIdeal)
    ∧ quiescent_AOutDx (hAOutDx := hAOutDx)
    ∧ quiescent_AOutDxIdeal (hAOutDxIdeal := hAOutDxIdeal)
    ∧ quiescent_AOutDxRefIdeal (hAOutDxRefIdeal := hAOutDxRefIdeal)
    ∧ quiescent_BOutDw (hBOutDw := hBOutDw)
    ∧ quiescent_BOutDwIdeal (hBOutDwIdeal := hBOutDwIdeal)
    ∧ quiescent_BOutDwRefIdeal (hBOutDwRefIdeal := hBOutDwRefIdeal)
    ∧ quiescent_BOutDx (hBOutDx := hBOutDx)
    ∧ quiescent_BOutDxIdeal (hBOutDxIdeal := hBOutDxIdeal)
    ∧ quiescent_BOutDxRefIdeal (hBOutDxRefIdeal := hBOutDxRefIdeal)
    ∧ quiescent_BInDw0 (hBInDw0 := hBInDw0)
    ∧ quiescent_BInDw0Ideal (hBInDw0Ideal := hBInDw0Ideal)
    ∧ quiescent_BInDw0RefIdeal (hBInDw0RefIdeal := hBInDw0RefIdeal)
    ∧ quiescent_BInDx0 (hBInDx0 := hBInDx0)
    ∧ quiescent_BInDx0Ideal (hBInDx0Ideal := hBInDx0Ideal)
    ∧ quiescent_BInDx0RefIdeal (hBInDx0RefIdeal := hBInDx0RefIdeal)
    ∧ quiescent_BIn0 (hBIn0 := hBIn0)
    ∧ quiescent_BIn0Ideal (hBIn0Ideal := hBIn0Ideal)
    ∧ quiescent_BIn0RefIdeal (hBIn0RefIdeal := hBIn0RefIdeal)
    ∧ quiescent_BInDw1 (hBInDw1 := hBInDw1)
    ∧ quiescent_BInDw1Ideal (hBInDw1Ideal := hBInDw1Ideal)
    ∧ quiescent_BInDw1RefIdeal (hBInDw1RefIdeal := hBInDw1RefIdeal)
    ∧ quiescent_BInDx1 (hBInDx1 := hBInDx1)
    ∧ quiescent_BInDx1Ideal (hBInDx1Ideal := hBInDx1Ideal)
    ∧ quiescent_BInDx1RefIdeal (hBInDx1RefIdeal := hBInDx1RefIdeal)
    ∧ quiescent_BIn1 (hBIn1 := hBIn1)
    ∧ quiescent_BIn1Ideal (hBIn1Ideal := hBIn1Ideal)
    ∧ quiescent_BIn1RefIdeal (hBIn1RefIdeal := hBIn1RefIdeal)
    ∧ quiescent_BInDw2 (hBInDw2 := hBInDw2)
    ∧ quiescent_BInDw2Ideal (hBInDw2Ideal := hBInDw2Ideal)
    ∧ quiescent_BInDw2RefIdeal (hBInDw2RefIdeal := hBInDw2RefIdeal)
    ∧ quiescent_BInDx2 (hBInDx2 := hBInDx2)
    ∧ quiescent_BInDx2Ideal (hBInDx2Ideal := hBInDx2Ideal)
    ∧ quiescent_BInDx2RefIdeal (hBInDx2RefIdeal := hBInDx2RefIdeal)
    ∧ quiescent_BIn2 (hBIn2 := hBIn2)
    ∧ quiescent_BIn2Ideal (hBIn2Ideal := hBIn2Ideal)
    ∧ quiescent_BIn2RefIdeal (hBIn2RefIdeal := hBIn2RefIdeal)
    ∧ quiescent_AIn (hAIn := hAIn)
    ∧ quiescent_AInIdeal (hAInIdeal := hAInIdeal)
    ∧ quiescent_AInRefIdeal (hAInRefIdeal := hAInRefIdeal)
    ∧ quiescent_AOut (hAOut := hAOut)
    ∧ quiescent_AOutIdeal (hAOutIdeal := hAOutIdeal)
    ∧ quiescent_AOutRefIdeal (hAOutRefIdeal := hAOutRefIdeal)
    ∧ quiescent_BOutLoss (hBOutLoss := hBOutLoss)
    ∧ quiescent_BOutLossIdeal (hBOutLossIdeal := hBOutLossIdeal)
    ∧ quiescent_BOutLossRefIdeal (hBOutLossRefIdeal := hBOutLossRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamAOut (hAdamAOut := hAdamAOut)
    ∧ quiescent_AdamAOutIdeal (hAdamAOutIdeal := hAdamAOutIdeal)
    ∧ quiescent_AdamAOutRefIdeal (hAdamAOutRefIdeal := hAdamAOutRefIdeal)
    ∧ quiescent_AdamBIn (hAdamBIn := hAdamBIn)
    ∧ quiescent_AdamBInIdeal (hAdamBInIdeal := hAdamBInIdeal)
    ∧ quiescent_AdamBInRefIdeal (hAdamBInRefIdeal := hAdamBInRefIdeal)
    ∧ quiescent_AdamBOut (hAdamBOut := hAdamBOut)
    ∧ quiescent_AdamBOutIdeal (hAdamBOutIdeal := hAdamBOutIdeal)
    ∧ quiescent_AdamBOutRefIdeal (hAdamBOutRefIdeal := hAdamBOutRefIdeal)
    ∧ quiescent_AdamAIn (hAdamAIn := hAdamAIn)
    ∧ quiescent_AdamAInIdeal (hAdamAInIdeal := hAdamAInIdeal)
    ∧ quiescent_AdamAInRefIdeal (hAdamAInRefIdeal := hAdamAInRefIdeal)
    ∧ quiescent_AttnBwd2 (hAttnBwd2 := hAttnBwd2)
    ∧ quiescent_AttnBwd2Ideal (hAttnBwd2Ideal := hAttnBwd2Ideal)
    ∧ quiescent_AttnBwd2RefIdeal (hAttnBwd2RefIdeal := hAttnBwd2RefIdeal)
    ∧ quiescent_InProjBwd (hInProjBwd := hInProjBwd)
    ∧ quiescent_InProjBwdIdeal (hInProjBwdIdeal := hInProjBwdIdeal)
    ∧ quiescent_InProjBwdRefIdeal (hInProjBwdRefIdeal := hInProjBwdRefIdeal)
    ∧ preserves_AInDw_AInDwIdeal
    ∧ algebraic_AInDwIdeal_AInDwRefIdeal (hAInDwIdeal := hAInDwIdeal) (hAInDwRefIdeal := hAInDwRefIdeal)
    ∧ preserves_AOutDw_AOutDwIdeal
    ∧ algebraic_AOutDwIdeal_AOutDwRefIdeal (hAOutDwIdeal := hAOutDwIdeal) (hAOutDwRefIdeal := hAOutDwRefIdeal)
    ∧ preserves_AOutDx_AOutDxIdeal
    ∧ algebraic_AOutDxIdeal_AOutDxRefIdeal (hAOutDxIdeal := hAOutDxIdeal) (hAOutDxRefIdeal := hAOutDxRefIdeal)
    ∧ preserves_BOutDw_BOutDwIdeal
    ∧ algebraic_BOutDwIdeal_BOutDwRefIdeal (hBOutDwIdeal := hBOutDwIdeal) (hBOutDwRefIdeal := hBOutDwRefIdeal)
    ∧ preserves_BOutDx_BOutDxIdeal
    ∧ algebraic_BOutDxIdeal_BOutDxRefIdeal (hBOutDxIdeal := hBOutDxIdeal) (hBOutDxRefIdeal := hBOutDxRefIdeal)
    ∧ preserves_BInDw0_BInDw0Ideal
    ∧ algebraic_BInDw0Ideal_BInDw0RefIdeal (hBInDw0Ideal := hBInDw0Ideal) (hBInDw0RefIdeal := hBInDw0RefIdeal)
    ∧ preserves_BInDx0_BInDx0Ideal
    ∧ algebraic_BInDx0Ideal_BInDx0RefIdeal (hBInDx0Ideal := hBInDx0Ideal) (hBInDx0RefIdeal := hBInDx0RefIdeal)
    ∧ preserves_BIn0_BIn0Ideal
    ∧ algebraic_BIn0Ideal_BIn0RefIdeal (hBIn0Ideal := hBIn0Ideal) (hBIn0RefIdeal := hBIn0RefIdeal)
    ∧ preserves_BInDw1_BInDw1Ideal
    ∧ algebraic_BInDw1Ideal_BInDw1RefIdeal (hBInDw1Ideal := hBInDw1Ideal) (hBInDw1RefIdeal := hBInDw1RefIdeal)
    ∧ preserves_BInDx1_BInDx1Ideal
    ∧ algebraic_BInDx1Ideal_BInDx1RefIdeal (hBInDx1Ideal := hBInDx1Ideal) (hBInDx1RefIdeal := hBInDx1RefIdeal)
    ∧ preserves_BIn1_BIn1Ideal
    ∧ algebraic_BIn1Ideal_BIn1RefIdeal (hBIn1Ideal := hBIn1Ideal) (hBIn1RefIdeal := hBIn1RefIdeal)
    ∧ preserves_BInDw2_BInDw2Ideal
    ∧ algebraic_BInDw2Ideal_BInDw2RefIdeal (hBInDw2Ideal := hBInDw2Ideal) (hBInDw2RefIdeal := hBInDw2RefIdeal)
    ∧ preserves_BInDx2_BInDx2Ideal
    ∧ algebraic_BInDx2Ideal_BInDx2RefIdeal (hBInDx2Ideal := hBInDx2Ideal) (hBInDx2RefIdeal := hBInDx2RefIdeal)
    ∧ preserves_BIn2_BIn2Ideal
    ∧ algebraic_BIn2Ideal_BIn2RefIdeal (hBIn2Ideal := hBIn2Ideal) (hBIn2RefIdeal := hBIn2RefIdeal)
    ∧ preserves_AIn_AInIdeal
    ∧ algebraic_AInIdeal_AInRefIdeal (hAInIdeal := hAInIdeal) (hAInRefIdeal := hAInRefIdeal)
    ∧ preserves_AOut_AOutIdeal
    ∧ algebraic_AOutIdeal_AOutRefIdeal (hAOutIdeal := hAOutIdeal) (hAOutRefIdeal := hAOutRefIdeal)
    ∧ preserves_BOutLoss_BOutLossIdeal
    ∧ algebraic_BOutLossIdeal_BOutLossRefIdeal (hBOutLossIdeal := hBOutLossIdeal) (hBOutLossRefIdeal := hBOutLossRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamAOut_AdamAOutIdeal
    ∧ algebraic_AdamAOutIdeal_AdamAOutRefIdeal (hAdamAOutIdeal := hAdamAOutIdeal) (hAdamAOutRefIdeal := hAdamAOutRefIdeal)
    ∧ preserves_AdamBIn_AdamBInIdeal
    ∧ algebraic_AdamBInIdeal_AdamBInRefIdeal (hAdamBInIdeal := hAdamBInIdeal) (hAdamBInRefIdeal := hAdamBInRefIdeal)
    ∧ preserves_AdamBOut_AdamBOutIdeal
    ∧ algebraic_AdamBOutIdeal_AdamBOutRefIdeal (hAdamBOutIdeal := hAdamBOutIdeal) (hAdamBOutRefIdeal := hAdamBOutRefIdeal)
    ∧ preserves_AdamAIn_AdamAInIdeal
    ∧ algebraic_AdamAInIdeal_AdamAInRefIdeal (hAdamAInIdeal := hAdamAInIdeal) (hAdamAInRefIdeal := hAdamAInRefIdeal)
    ∧ preserves_AttnBwd2_AttnBwd2Ideal
    ∧ algebraic_AttnBwd2Ideal_AttnBwd2RefIdeal (hAttnBwd2Ideal := hAttnBwd2Ideal) (hAttnBwd2RefIdeal := hAttnBwd2RefIdeal)
    ∧ preserves_InProjBwd_InProjBwdIdeal
    ∧ algebraic_InProjBwdIdeal_InProjBwdRefIdeal (hInProjBwdIdeal := hInProjBwdIdeal) (hInProjBwdRefIdeal := hInProjBwdRefIdeal)
-- ==== AInDw.lean ====
abbrev S4096x1024 : Shape := ⟨2, ![4096, 1024]⟩
abbrev S1024x6144 : Shape := ⟨2, ![1024, 6144]⟩
abbrev S4096x6144 : Shape := ⟨2, ![4096, 6144]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S4096x6144, .f32⟩
  | .hbm, ⟨3, _⟩ => ⟨S4096x1024, .bf16⟩
  | .hbm, ⟨4, _⟩ => ⟨S4096x6144, .bf16⟩
  | .hbm, ⟨5, _⟩ => ⟨S1024x6144, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AInDwRefIdeal.lean ====
abbrev S4096x1024 : Shape := ⟨2, ![4096, 1024]⟩
abbrev S1024x6144 : Shape := ⟨2, ![1024, 6144]⟩
abbrev S4096x6144 : Shape := ⟨2, ![4096, 6144]⟩
abbrev S6144x1024 : Shape := ⟨2, ![6144, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S4096x6144, .f32⟩
  | .hbm, ⟨3, _⟩ => ⟨S4096x6144, .f32⟩
  | .hbm, ⟨4, _⟩ => ⟨S6144x1024, .f32⟩
  | .hbm, ⟨5, _⟩ => ⟨S1024x6144, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AOutDw.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x2048, .bf16⟩
  | .hbm, ⟨4, _⟩ => ⟨S4096x1024, .bf16⟩
  | .hbm, ⟨5, _⟩ => ⟨S2048x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AOutDwRefIdeal.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x1024, .f32⟩
  | .hbm, ⟨4, _⟩ => ⟨S1024x2048, .f32⟩
  | .hbm, ⟨5, _⟩ => ⟨S2048x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AOutDx.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x1024, .bf16⟩
  | .hbm, ⟨4, _⟩ => ⟨S2048x1024, .bf16⟩
  | .hbm, ⟨5, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AOutDxRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x1024, .f32⟩
  | .hbm, ⟨4, _⟩ => ⟨S4096x2048, .f32⟩
  | .hbm, ⟨5, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BOutDw.lean ====
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BOutDwRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BOutDx.lean ====
abbrev S4096x1024 : Shape := ⟨2, ![4096, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BOutDxRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== BInDw0.lean ====
abbrev S4096x1024 : Shape := ⟨2, ![4096, 1024]⟩
abbrev S1024x10240 : Shape := ⟨2, ![1024, 10240]⟩
abbrev S4096x4096 : Shape := ⟨2, ![4096, 4096]⟩
abbrev S_ : Shape := ⟨0, ![]⟩
abbrev S4x1024x2560 : Shape := ⟨3, ![4, 1024, 2560]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 8
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x4096, .f32⟩
  | .hbm, ⟨3, _⟩ => ⟨S_, .f32⟩
  | .hbm, ⟨4, _⟩ => ⟨S4x1024x2560, .f32⟩
  | .hbm, ⟨5, _⟩ => ⟨S4096x1024, .bf16⟩
  | .hbm, ⟨6, _⟩ => ⟨S4096x4096, .bf16⟩
  | .hbm, ⟨7, _⟩ => ⟨S4x1024x2560, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .f32⟩
  | .local _ .vmem, ⟨4, _⟩ => ⟨S1x1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli c3_i32 v16
  let c0_i32_4 : BitVec 32 := 0#32
  let v18 : BitVec 32 := Scalar.addi v17 c0_i32_4
  let c2_i32_5 : BitVec 32 := 2#32
  let v19 : BitVec 32 := Scalar.muli v18 c2_i32_5
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c5_i32 : BitVec 32 := 5#32
  let v31 : BitVec 32 := Scalar.divsi v30 c5_i32
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c5_i32 c0_i32_14
  let v38 : BitVec 32 := Scalar.extui v37
  let c0_i32_15 : BitVec 32 := 0#32
  let v39 : BitVec 1 := Scalar.cmpi .slt c5_i32 c0_i32_15
  let v40 : BitVec 32 := Scalar.extui v39
  let v41 : BitVec 32 := Scalar.subi v38 v40
  let v42 : BitVec 1 := Scalar.cmpi .ne v36 v41
  let v43 : BitVec 32 := Scalar.remsi v30 c5_i32
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c5_i32_18 : BitVec 32 := 5#32
  let c0_i32_19 : BitVec 32 := 0#32
  let v48 : BitVec 1 := Scalar.cmpi .eq c5_i32_18 c0_i32_19
  let c1_i32_20 : BitVec 32 := 1#32
  let v49 : BitVec 32 := Scalar.select v48 c1_i32_20 c5_i32_18
  let v50 : BitVec 32 := Scalar.remsi v30 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let c2_i32_24 : BitVec 32 := 2#32
  let v58 : BitVec 32 := Scalar.divsi arg1 c2_i32_24
  let c0_i32_25 : BitVec 32 := 0#32
  let v59 : BitVec 1 := Scalar.cmpi .sgt arg1 c0_i32_25
  let v60 : BitVec 32 := Scalar.extui v59
  let c0_i32_26 : BitVec 32 := 0#32
  let v61 : BitVec 1 := Scalar.cmpi .slt arg1 c0_i32_26
  let v62 : BitVec 32 := Scalar.extui v61
  let v63 : BitVec 32 := Scalar.subi v60 v62
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi arg1 c2_i32_24
  let c0_i32_29 : BitVec 32 := 0#32
  let v71 : BitVec 1 := Scalar.cmpi .ne v70 c0_i32_29
  let v72 : BitVec 1 := Scalar.andi v69 v71
  let c1_i32_30 : BitVec 32 := 1#32
  let v73 : BitVec 32 := Scalar.subi v58 c1_i32_30
  let v74 : BitVec 32 := Scalar.select v72 v73 v58
  let c3_i32_31 : BitVec 32 := 3#32
  let v75 : BitVec 32 := Scalar.muli c3_i32_31 v74
  let c0_i32_32 : BitVec 32 := 0#32
  let v76 : BitVec 32 := Scalar.addi v75 c0_i32_32
  let c2_i32_33 : BitVec 32 := 2#32
  let v77 : BitVec 32 := Scalar.muli v76 c2_i32_33
  let c2_i32_34 : BitVec 32 := 2#32
  let c0_i32_35 : BitVec 32 := 0#32
  let v78 : BitVec 1 := Scalar.cmpi .eq c2_i32_34 c0_i32_35
  let c1_i32_36 : BitVec 32 := 1#32
  let v79 : BitVec 32 := Scalar.select v78 c1_i32_36 c2_i32_34
  let v80 : BitVec 32 := Scalar.remsi arg1 v79
  let c0_i32_37 : BitVec 32 := 0#32
  let v81 : BitVec 1 := Scalar.cmpi .ne v80 c0_i32_37
  let c0_i32_38 : BitVec 32 := 0#32
  let v82 : BitVec 1 := Scalar.cmpi .slt v80 c0_i32_38
  let c0_i32_39 : BitVec 32 := 0#32
  let v83 : BitVec 1 := Scalar.cmpi .slt v79 c0_i32_39
  let v84 : BitVec 1 := Scalar.xori v82 v83
  let v85 : BitVec 1 := Scalar.andi v84 v81
  let v86 : BitVec 32 := Scalar.addi v80 v79
  let v87 : BitVec 32 := Scalar.select v85 v86 v80
  let v88 : BitVec 32 := Scalar.addi v77 v87
  let c5_i32_40 : BitVec 32 := 5#32
  let v89 : BitVec 32 := Scalar.divsi v88 c5_i32_40
  let c0_i32_41 : BitVec 32 := 0#32
  let v90 : BitVec 1 := Scalar.cmpi .sgt v88 c0_i32_41
  let v91 : BitVec 32 := Scalar.extui v90
  let c0_i32_42 : BitVec 32 := 0#32
  let v92 : BitVec 1 := Scalar.cmpi .slt v88 c0_i32_42
  let v93 : BitVec 32 := Scalar.extui v92
  let v94 : BitVec 32 := Scalar.subi v91 v93
  let c0_i32_43 : BitVec 32 := 0#32
  let v95 : BitVec 1 := Scalar.cmpi .sgt c5_i32_40 c0_i32_43
  let v96 : BitVec 32 := Scalar.extui v95
  let c0_i32_44 : BitVec 32 := 0#32
  let v97 : BitVec 1 := Scalar.cmpi .slt c5_i32_40 c0_i32_44
  let v98 : BitVec 32 := Scalar.extui v97
  let v99 : BitVec 32 := Scalar.subi v96 v98
  let v100 : BitVec 1 := Scalar.cmpi .ne v94 v99
  let v101 : BitVec 32 := Scalar.remsi v88 c5_i32_40
  let c0_i32_45 : BitVec 32 := 0#32
  let v102 : BitVec 1 := Scalar.cmpi .ne v101 c0_i32_45
  let v103 : BitVec 1 := Scalar.andi v100 v102
  let c1_i32_46 : BitVec 32 := 1#32
  let v104 : BitVec 32 := Scalar.subi v89 c1_i32_46
  let v105 : BitVec 32 := Scalar.select v103 v104 v89
  let c5_i32_47 : BitVec 32 := 5#32
  let c0_i32_48 : BitVec 32 := 0#32
  let v106 : BitVec 1 := Scalar.cmpi .eq c5_i32_47 c0_i32_48
  let c1_i32_49 : BitVec 32 := 1#32
  let v107 : BitVec 32 := Scalar.select v106 c1_i32_49 c5_i32_47
  let v108 : BitVec 32 := Scalar.remsi v88 v107
  let c0_i32_50 : BitVec 32 := 0#32
  let v109 : BitVec 1 := Scalar.cmpi .ne v108 c0_i32_50
  let c0_i32_51 : BitVec 32 := 0#32
  let v110 : BitVec 1 := Scalar.cmpi .slt v108 c0_i32_51
  let c0_i32_52 : BitVec 32 := 0#32
  let v111 : BitVec 1 := Scalar.cmpi .slt v107 c0_i32_52
  let v112 : BitVec 1 := Scalar.xori v110 v111
  let v113 : BitVec 1 := Scalar.andi v112 v109
  let v114 : BitVec 32 := Scalar.addi v108 v107
  let v115 : BitVec 32 := Scalar.select v113 v114 v108
  let c0_i32_53 : BitVec 32 := 0#32
  ![v47.toNat, arg0.toNat, v115.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BInDw0Ideal.lean ====
abbrev S4096x1024 : Shape := ⟨2, ![4096, 1024]⟩
abbrev S1024x10240 : Shape := ⟨2, ![1024, 10240]⟩
abbrev S4096x4096 : Shape := ⟨2, ![4096, 4096]⟩
abbrev S_ : Shape := ⟨0, ![]⟩
abbrev S4x1024x2560 : Shape := ⟨3, ![4, 1024, 2560]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 8
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x4096, .f32⟩
  | .hbm, ⟨3, _⟩ => ⟨S_, .f32⟩
  | .hbm, ⟨4, _⟩ => ⟨S4x1024x2560, .f32⟩
  | .hbm, ⟨5, _⟩ => ⟨S4096x1024, .bf16⟩
  | .hbm, ⟨6, _⟩ => ⟨S4096x4096, .bf16⟩
  | .hbm, ⟨7, _⟩ => ⟨S4x1024x2560, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .f32⟩
  | .local _ .vmem, ⟨4, _⟩ => ⟨S1x1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli c3_i32 v16
  let c0_i32_4 : BitVec 32 := 0#32
  let v18 : BitVec 32 := Scalar.addi v17 c0_i32_4
  let c2_i32_5 : BitVec 32 := 2#32
  let v19 : BitVec 32 := Scalar.muli v18 c2_i32_5
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c5_i32 : BitVec 32 := 5#32
  let v31 : BitVec 32 := Scalar.divsi v30 c5_i32
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c5_i32 c0_i32_14
  let v38 : BitVec 32 := Scalar.extui v37
  let c0_i32_15 : BitVec 32 := 0#32
  let v39 : BitVec 1 := Scalar.cmpi .slt c5_i32 c0_i32_15
  let v40 : BitVec 32 := Scalar.extui v39
  let v41 : BitVec 32 := Scalar.subi v38 v40
  let v42 : BitVec 1 := Scalar.cmpi .ne v36 v41
  let v43 : BitVec 32 := Scalar.remsi v30 c5_i32
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c5_i32_18 : BitVec 32 := 5#32
  let c0_i32_19 : BitVec 32 := 0#32
  let v48 : BitVec 1 := Scalar.cmpi .eq c5_i32_18 c0_i32_19
  let c1_i32_20 : BitVec 32 := 1#32
  let v49 : BitVec 32 := Scalar.select v48 c1_i32_20 c5_i32_18
  let v50 : BitVec 32 := Scalar.remsi v30 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let c2_i32_24 : BitVec 32 := 2#32
  let v58 : BitVec 32 := Scalar.divsi arg1 c2_i32_24
  let c0_i32_25 : BitVec 32 := 0#32
  let v59 : BitVec 1 := Scalar.cmpi .sgt arg1 c0_i32_25
  let v60 : BitVec 32 := Scalar.extui v59
  let c0_i32_26 : BitVec 32 := 0#32
  let v61 : BitVec 1 := Scalar.cmpi .slt arg1 c0_i32_26
  let v62 : BitVec 32 := Scalar.extui v61
  let v63 : BitVec 32 := Scalar.subi v60 v62
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi arg1 c2_i32_24
  let c0_i32_29 : BitVec 32 := 0#32
  let v71 : BitVec 1 := Scalar.cmpi .ne v70 c0_i32_29
  let v72 : BitVec 1 := Scalar.andi v69 v71
  let c1_i32_30 : BitVec 32 := 1#32
  let v73 : BitVec 32 := Scalar.subi v58 c1_i32_30
  let v74 : BitVec 32 := Scalar.select v72 v73 v58
  let c3_i32_31 : BitVec 32 := 3#32
  let v75 : BitVec 32 := Scalar.muli c3_i32_31 v74
  let c0_i32_32 : BitVec 32 := 0#32
  let v76 : BitVec 32 := Scalar.addi v75 c0_i32_32
  let c2_i32_33 : BitVec 32 := 2#32
  let v77 : BitVec 32 := Scalar.muli v76 c2_i32_33
  let c2_i32_34 : BitVec 32 := 2#32
  let c0_i32_35 : BitVec 32 := 0#32
  let v78 : BitVec 1 := Scalar.cmpi .eq c2_i32_34 c0_i32_35
  let c1_i32_36 : BitVec 32 := 1#32
  let v79 : BitVec 32 := Scalar.select v78 c1_i32_36 c2_i32_34
  let v80 : BitVec 32 := Scalar.remsi arg1 v79
  let c0_i32_37 : BitVec 32 := 0#32
  let v81 : BitVec 1 := Scalar.cmpi .ne v80 c0_i32_37
  let c0_i32_38 : BitVec 32 := 0#32
  let v82 : BitVec 1 := Scalar.cmpi .slt v80 c0_i32_38
  let c0_i32_39 : BitVec 32 := 0#32
  let v83 : BitVec 1 := Scalar.cmpi .slt v79 c0_i32_39
  let v84 : BitVec 1 := Scalar.xori v82 v83
  let v85 : BitVec 1 := Scalar.andi v84 v81
  let v86 : BitVec 32 := Scalar.addi v80 v79
  let v87 : BitVec 32 := Scalar.select v85 v86 v80
  let v88 : BitVec 32 := Scalar.addi v77 v87
  let c5_i32_40 : BitVec 32 := 5#32
  let v89 : BitVec 32 := Scalar.divsi v88 c5_i32_40
  let c0_i32_41 : BitVec 32 := 0#32
  let v90 : BitVec 1 := Scalar.cmpi .sgt v88 c0_i32_41
  let v91 : BitVec 32 := Scalar.extui v90
  let c0_i32_42 : BitVec 32 := 0#32
  let v92 : BitVec 1 := Scalar.cmpi .slt v88 c0_i32_42
  let v93 : BitVec 32 := Scalar.extui v92
  let v94 : BitVec 32 := Scalar.subi v91 v93
  let c0_i32_43 : BitVec 32 := 0#32
  let v95 : BitVec 1 := Scalar.cmpi .sgt c5_i32_40 c0_i32_43
  let v96 : BitVec 32 := Scalar.extui v95
  let c0_i32_44 : BitVec 32 := 0#32
  let v97 : BitVec 1 := Scalar.cmpi .slt c5_i32_40 c0_i32_44
  let v98 : BitVec 32 := Scalar.extui v97
  let v99 : BitVec 32 := Scalar.subi v96 v98
  let v100 : BitVec 1 := Scalar.cmpi .ne v94 v99
  let v101 : BitVec 32 := Scalar.remsi v88 c5_i32_40
  let c0_i32_45 : BitVec 32 := 0#32
  let v102 : BitVec 1 := Scalar.cmpi .ne v101 c0_i32_45
  let v103 : BitVec 1 := Scalar.andi v100 v102
  let c1_i32_46 : BitVec 32 := 1#32
  let v104 : BitVec 32 := Scalar.subi v89 c1_i32_46
  let v105 : BitVec 32 := Scalar.select v103 v104 v89
  let c5_i32_47 : BitVec 32 := 5#32
  let c0_i32_48 : BitVec 32 := 0#32
  let v106 : BitVec 1 := Scalar.cmpi .eq c5_i32_47 c0_i32_48
  let c1_i32_49 : BitVec 32 := 1#32
  let v107 : BitVec 32 := Scalar.select v106 c1_i32_49 c5_i32_47
  let v108 : BitVec 32 := Scalar.remsi v88 v107
  let c0_i32_50 : BitVec 32 := 0#32
  let v109 : BitVec 1 := Scalar.cmpi .ne v108 c0_i32_50
  let c0_i32_51 : BitVec 32 := 0#32
  let v110 : BitVec 1 := Scalar.cmpi .slt v108 c0_i32_51
  let c0_i32_52 : BitVec 32 := 0#32
  let v111 : BitVec 1 := Scalar.cmpi .slt v107 c0_i32_52
  let v112 : BitVec 1 := Scalar.xori v110 v111
  let v113 : BitVec 1 := Scalar.andi v112 v109
  let v114 : BitVec 32 := Scalar.addi v108 v107
  let v115 : BitVec 32 := Scalar.select v113 v114 v108
  let c0_i32_53 : BitVec 32 := 0#32
  ![v47.toNat, arg0.toNat, v115.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BInDw0RefIdeal.lean ====
abbrev S4096x1024 : Shape := ⟨2, ![4096, 1024]⟩
abbrev S1024x10240 : Shape := ⟨2, ![1024, 10240]⟩
abbrev S4096x4096 : Shape := ⟨2, ![4096, 4096]⟩
abbrev S1024x9216 : Shape := ⟨2, ![1024, 9216]⟩
abbrev S1024x3x3x1024 : Shape := ⟨4, ![1024, 3, 3, 1024]⟩
abbrev S1024x3x1x1024 : Shape := ⟨4, ![1024, 3, 1, 1024]⟩
abbrev S1024x3x1024 : Shape := ⟨3, ![1024, 3, 1024]⟩
abbrev S1024x3072 : Shape := ⟨2, ![1024, 3072]⟩
abbrev S1024x1024 : Shape := ⟨2, ![1024, 1024]⟩
abbrev S1024x4096 : Shape := ⟨2, ![1024, 4096]⟩
abbrev S_ : Shape := ⟨0, ![]⟩
abbrev S1024x2560 : Shape := ⟨2, ![1024, 2560]⟩
abbrev S1x1024x2560 : Shape := ⟨3, ![1, 1024, 2560]⟩
abbrev S4x1024x2560 : Shape := ⟨3, ![4, 1024, 2560]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x4096, .f32⟩
  | .hbm, ⟨3, _⟩ => ⟨S1024x9216, .f32⟩
  | .hbm, ⟨4, _⟩ => ⟨S1024x3x3x1024, .f32⟩
  | .hbm, ⟨5, _⟩ => ⟨S1024x3x1x1024, .f32⟩
  | .hbm, ⟨6, _⟩ => ⟨S1024x3x1024, .f32⟩
  | .hbm, ⟨7, _⟩ => ⟨S1024x3072, .f32⟩
  | .hbm, ⟨8, _⟩ => ⟨S1024x1024, .f32⟩
  | .hbm, ⟨9, _⟩ => ⟨S1024x4096, .f32⟩
  | .hbm, ⟨10, _⟩ => ⟨S4096x4096, .f32⟩
  | .hbm, ⟨11, _⟩ => ⟨S4096x1024, .f32⟩
  | .hbm, ⟨12, _⟩ => ⟨S1024x4096, .f32⟩
  | .hbm, ⟨13, _⟩ => ⟨S1024x3072, .f32⟩
  | .hbm, ⟨14, _⟩ => ⟨S1024x1024, .f32⟩
  | .hbm, ⟨15, _⟩ => ⟨S_, .f32⟩
  | .hbm, ⟨16, _⟩ => ⟨S1024x10240, .f32⟩
  | .hbm, ⟨17, _⟩ => ⟨S1024x3x1024, .f32⟩
  | .hbm, ⟨18, _⟩ => ⟨S1024x3x1x1024, .f32⟩
  | .hbm, ⟨19, _⟩ => ⟨S_, .f32⟩
  | .hbm, ⟨20, _⟩ => ⟨S1024x3x3x1024, .f32⟩
  | .hbm, ⟨21, _⟩ => ⟨S1024x9216, .f32⟩
  | .hbm, ⟨22, _⟩ => ⟨S_, .f32⟩
  | .hbm, ⟨23, _⟩ => ⟨S1024x10240, .f32⟩
  | .hbm, ⟨24, _⟩ => ⟨S1024x10240, .f32⟩
  | .hbm, ⟨25, _⟩ => ⟨S1024x2560, .f32⟩
  | .hbm, ⟨26, _⟩ => ⟨S1024x2560, .f32⟩
  | .hbm, ⟨27, _⟩ => ⟨S1024x2560, .f32⟩
  | .hbm, ⟨28, _⟩ => ⟨S1024x2560, .f32⟩
  | .hbm, ⟨29, _⟩ => ⟨S1x1024x2560, .f32⟩
  | .hbm, ⟨30, _⟩ => ⟨S1x1024x2560, .f32⟩
  | .hbm, ⟨31, _⟩ => ⟨S1x1024x2560, .f32⟩
  | .hbm, ⟨32, _⟩ => ⟨S1x1024x2560, .f32⟩
  | .hbm, ⟨33, _⟩ => ⟨S4x1024x2560, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== BInDx0.lean ====
abbrev S4096x1024 : Shape := ⟨2, ![4096, 1024]⟩
abbrev S1024x10240 : Shape := ⟨2, ![1024, 10240]⟩
abbrev S4096x4096 : Shape := ⟨2, ![4096, 4096]⟩
abbrev S1024x4x2560 : Shape := ⟨3, ![1024, 4, 2560]⟩
abbrev S4x1024x2560 : Shape := ⟨3, ![4, 1024, 2560]⟩
abbrev S2048x1024 : Shape := ⟨2, ![2048, 1024]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x4096, .f32⟩
  | .hbm, ⟨3, _⟩ => ⟨S4096x4096, .bf16⟩
  | .hbm, ⟨4, _⟩ => ⟨S1024x4x2560, .f32⟩
  | .hbm, ⟨5, _⟩ => ⟨S4x1024x2560, .f32⟩
  | .hbm, ⟨6, _⟩ => ⟨S4x1024x2560, .bf16⟩
  | .hbm, ⟨7, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32_12 : BitVec 32 := 3#32
  let v19 : BitVec 1 := Scalar.cmpi .eq arg1 c3_i32_12
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c2_i32_0 : BitVec 32 := 2#32
  let v2 : BitVec 32 := Scalar.divsi v1 c2_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c2_i32_0 c0_i32_3
  let v9 : BitVec 32 := Scalar.extui v8
  let c0_i32_4 : BitVec 32 := 0#32
  let v10 : BitVec 1 := Scalar.cmpi .slt c2_i32_0 c0_i32_4
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c3_i32 : BitVec 32 := 3#32
  let v19 : BitVec 32 := Scalar.muli c3_i32 v18
  let c0_i32_6 : BitVec 32 := 0#32
  let v20 : BitVec 32 := Scalar.addi v19 c0_i32_6
  let c2_i32_7 : BitVec 32 := 2#32
  let v21 : BitVec 32 := Scalar.muli v20 c2_i32_7
  let c2_i32_8 : BitVec 32 := 2#32
  let c0_i32_9 : BitVec 32 := 0#32
  let v22 : BitVec 1 := Scalar.cmpi .eq c2_i32_8 c0_i32_9
  let c1_i32_10 : BitVec 32 := 1#32
  let v23 : BitVec 32 := Scalar.select v22 c1_i32_10 c2_i32_8
  let v24 : BitVec 32 := Scalar.remsi v1 v23
  let c0_i32_11 : BitVec 32 := 0#32
  let v25 : BitVec 1 := Scalar.cmpi .ne v24 c0_i32_11
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c5_i32 : BitVec 32 := 5#32
  let v33 : BitVec 32 := Scalar.divsi v32 c5_i32
  let c0_i32_14 : BitVec 32 := 0#32
  let v34 : BitVec 1 := Scalar.cmpi .sgt v32 c0_i32_14
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c0_i32_16 : BitVec 32 := 0#32
  let v39 : BitVec 1 := Scalar.cmpi .sgt c5_i32 c0_i32_16
  let v40 : BitVec 32 := Scalar.extui v39
  let c0_i32_17 : BitVec 32 := 0#32
  let v41 : BitVec 1 := Scalar.cmpi .slt c5_i32 c0_i32_17
  let v42 : BitVec 32 := Scalar.extui v41
  let v43 : BitVec 32 := Scalar.subi v40 v42
  let v44 : BitVec 1 := Scalar.cmpi .ne v38 v43
  let v45 : BitVec 32 := Scalar.remsi v32 c5_i32
  let c0_i32_18 : BitVec 32 := 0#32
  let v46 : BitVec 1 := Scalar.cmpi .ne v45 c0_i32_18
  let v47 : BitVec 1 := Scalar.andi v44 v46
  let c1_i32_19 : BitVec 32 := 1#32
  let v48 : BitVec 32 := Scalar.subi v33 c1_i32_19
  let v49 : BitVec 32 := Scalar.select v47 v48 v33
  let c5_i32_20 : BitVec 32 := 5#32
  let c0_i32_21 : BitVec 32 := 0#32
  let v50 : BitVec 1 := Scalar.cmpi .eq c5_i32_20 c0_i32_21
  let c1_i32_22 : BitVec 32 := 1#32
  let v51 : BitVec 32 := Scalar.select v50 c1_i32_22 c5_i32_20
  let v52 : BitVec 32 := Scalar.remsi v32 v51
  let c0_i32_23 : BitVec 32 := 0#32
  let v53 : BitVec 1 := Scalar.cmpi .ne v52 c0_i32_23
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let v57 : BitVec 1 := Scalar.andi v56 v53
  let v58 : BitVec 32 := Scalar.addi v52 v51
  let v59 : BitVec 32 := Scalar.select v57 v58 v52
  let c2_i32_26 : BitVec 32 := 2#32
  let v60 : BitVec 32 := Scalar.muli c2_i32_26 arg1
  let c0_i32_27 : BitVec 32 := 0#32
  let v61 : BitVec 32 := Scalar.addi v60 c0_i32_27
  let c2_i32_28 : BitVec 32 := 2#32
  let v62 : BitVec 32 := Scalar.divsi v61 c2_i32_28
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c0_i32_31 : BitVec 32 := 0#32
  let v68 : BitVec 1 := Scalar.cmpi .sgt c2_i32_28 c0_i32_31
  let v69 : BitVec 32 := Scalar.extui v68
  let c0_i32_32 : BitVec 32 := 0#32
  let v70 : BitVec 1 := Scalar.cmpi .slt c2_i32_28 c0_i32_32
  let v71 : BitVec 32 := Scalar.extui v70
  let v72 : BitVec 32 := Scalar.subi v69 v71
  let v73 : BitVec 1 := Scalar.cmpi .ne v67 v72
  let v74 : BitVec 32 := Scalar.remsi v61 c2_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c3_i32_35 : BitVec 32 := 3#32
  let v79 : BitVec 32 := Scalar.muli c3_i32_35 v78
  let c0_i32_36 : BitVec 32 := 0#32
  let v80 : BitVec 32 := Scalar.addi v79 c0_i32_36
  let c2_i32_37 : BitVec 32 := 2#32
  let v81 : BitVec 32 := Scalar.muli v80 c2_i32_37
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v61 v83
  let c0_i32_41 : BitVec 32 := 0#32
  let v85 : BitVec 1 := Scalar.cmpi .ne v84 c0_i32_41
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let v89 : BitVec 1 := Scalar.andi v88 v85
  let v90 : BitVec 32 := Scalar.addi v84 v83
  let v91 : BitVec 32 := Scalar.select v89 v90 v84
  let v92 : BitVec 32 := Scalar.addi v81 v91
  let c5_i32_44 : BitVec 32 := 5#32
  let v93 : BitVec 32 := Scalar.divsi v92 c5_i32_44
  let c0_i32_45 : BitVec 32 := 0#32
  let v94 : BitVec 1 := Scalar.cmpi .sgt v92 c0_i32_45
  let v95 : BitVec 32 := Scalar.extui v94
  let c0_i32_46 : BitVec 32 := 0#32
  let v96 : BitVec 1 := Scalar.cmpi .slt v92 c0_i32_46
  let v97 : BitVec 32 := Scalar.extui v96
  let v98 : BitVec 32 := Scalar.subi v95 v97
  let c0_i32_47 : BitVec 32 := 0#32
  let v99 : BitVec 1 := Scalar.cmpi .sgt c5_i32_44 c0_i32_47
  let v100 : BitVec 32 := Scalar.extui v99
  let c0_i32_48 : BitVec 32 := 0#32
  let v101 : BitVec 1 := Scalar.cmpi .slt c5_i32_44 c0_i32_48
  let v102 : BitVec 32 := Scalar.extui v101
  let v103 : BitVec 32 := Scalar.subi v100 v102
  let v104 : BitVec 1 := Scalar.cmpi .ne v98 v103
  let v105 : BitVec 32 := Scalar.remsi v92 c5_i32_44
  let c0_i32_49 : BitVec 32 := 0#32
  let v106 : BitVec 1 := Scalar.cmpi .ne v105 c0_i32_49
  let v107 : BitVec 1 := Scalar.andi v104 v106
  let c1_i32_50 : BitVec 32 := 1#32
  let v108 : BitVec 32 := Scalar.subi v93 c1_i32_50
  let v109 : BitVec 32 := Scalar.select v107 v108 v93
  let c5_i32_51 : BitVec 32 := 5#32
  let c0_i32_52 : BitVec 32 := 0#32
  let v110 : BitVec 1 := Scalar.cmpi .eq c5_i32_51 c0_i32_52
  let c1_i32_53 : BitVec 32 := 1#32
  let v111 : BitVec 32 := Scalar.select v110 c1_i32_53 c5_i32_51
  let v112 : BitVec 32 := Scalar.remsi v92 v111
  let c0_i32_54 : BitVec 32 := 0#32
  let v113 : BitVec 1 := Scalar.cmpi .ne v112 c0_i32_54
  let c0_i32_55 : BitVec 32 := 0#32
  let v114 : BitVec 1 := Scalar.cmpi .slt v112 c0_i32_55
  let c0_i32_56 : BitVec 32 := 0#32
  let v115 : BitVec 1 := Scalar.cmpi .slt v111 c0_i32_56
  let v116 : BitVec 1 := Scalar.xori v114 v115
  let v117 : BitVec 1 := Scalar.andi v116 v113
  let v118 : BitVec 32 := Scalar.addi v112 v111
  let v119 : BitVec 32 := Scalar.select v117 v118 v112
  let c0_i32_57 : BitVec 32 := 0#32
  let c0_i32_58 : BitVec 32 := 0#32
  ![v49.toNat, c0_i32_57.toNat, v119.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c2_i32_0 : BitVec 32 := 2#32
  let v2 : BitVec 32 := Scalar.divsi v1 c2_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c3_i32 : BitVec 32 := 3#32
  let v19 : BitVec 32 := Scalar.muli c3_i32 v18
  let c0_i32_6 : BitVec 32 := 0#32
  let v20 : BitVec 32 := Scalar.addi v19 c0_i32_6
  let c2_i32_7 : BitVec 32 := 2#32
  let v21 : BitVec 32 := Scalar.muli v20 c2_i32_7
  let c2_i32_8 : BitVec 32 := 2#32
  let c0_i32_9 : BitVec 32 := 0#32
  let v22 : BitVec 1 := Scalar.cmpi .eq c2_i32_8 c0_i32_9
  let c1_i32_10 : BitVec 32 := 1#32
  let v23 : BitVec 32 := Scalar.select v22 c1_i32_10 c2_i32_8
  let v24 : BitVec 32 := Scalar.remsi v1 v23
  let c0_i32_11 : BitVec 32 := 0#32
  let v25 : BitVec 1 := Scalar.cmpi .ne v24 c0_i32_11
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c5_i32 : BitVec 32 := 5#32
  let v33 : BitVec 32 := Scalar.divsi v32 c5_i32
  let c0_i32_14 : BitVec 32 := 0#32
  let v34 : BitVec 1 := Scalar.cmpi .sgt v32 c0_i32_14
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c0_i32_16 : BitVec 32 := 0#32
  let v39 : BitVec 1 := Scalar.cmpi .sgt c5_i32 c0_i32_16
  let v40 : BitVec 32 := Scalar.extui v39
  let c0_i32_17 : BitVec 32 := 0#32
  let v41 : BitVec 1 := Scalar.cmpi .slt c5_i32 c0_i32_17
  let v42 : BitVec 32 := Scalar.extui v41
  let v43 : BitVec 32 := Scalar.subi v40 v42
  let v44 : BitVec 1 := Scalar.cmpi .ne v38 v43
  let v45 : BitVec 32 := Scalar.remsi v32 c5_i32
  let c0_i32_18 : BitVec 32 := 0#32
  let v46 : BitVec 1 := Scalar.cmpi .ne v45 c0_i32_18
  let v47 : BitVec 1 := Scalar.andi v44 v46
  let c1_i32_19 : BitVec 32 := 1#32
  let v48 : BitVec 32 := Scalar.subi v33 c1_i32_19
  let v49 : BitVec 32 := Scalar.select v47 v48 v33
  let c5_i32_20 : BitVec 32 := 5#32
  let c0_i32_21 : BitVec 32 := 0#32
  let v50 : BitVec 1 := Scalar.cmpi .eq c5_i32_20 c0_i32_21
  let c1_i32_22 : BitVec 32 := 1#32
  let v51 : BitVec 32 := Scalar.select v50 c1_i32_22 c5_i32_20
  let v52 : BitVec 32 := Scalar.remsi v32 v51
  let c0_i32_23 : BitVec 32 := 0#32
  let v53 : BitVec 1 := Scalar.cmpi .ne v52 c0_i32_23
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let v57 : BitVec 1 := Scalar.andi v56 v53
  let v58 : BitVec 32 := Scalar.addi v52 v51
  let v59 : BitVec 32 := Scalar.select v57 v58 v52
  let c2_i32_26 : BitVec 32 := 2#32
  let v60 : BitVec 32 := Scalar.muli c2_i32_26 arg1
  let c1_i32_27 : BitVec 32 := 1#32
  let v61 : BitVec 32 := Scalar.addi v60 c1_i32_27
  let c2_i32_28 : BitVec 32 := 2#32
  let v62 : BitVec 32 := Scalar.divsi v61 c2_i32_28
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c0_i32_31 : BitVec 32 := 0#32
  let v68 : BitVec 1 := Scalar.cmpi .sgt c2_i32_28 c0_i32_31
  let v69 : BitVec 32 := Scalar.extui v68
  let c0_i32_32 : BitVec 32 := 0#32
  let v70 : BitVec 1 := Scalar.cmpi .slt c2_i32_28 c0_i32_32
  let v71 : BitVec 32 := Scalar.extui v70
  let v72 : BitVec 32 := Scalar.subi v69 v71
  let v73 : BitVec 1 := Scalar.cmpi .ne v67 v72
  let v74 : BitVec 32 := Scalar.remsi v61 c2_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c3_i32_35 : BitVec 32 := 3#32
  let v79 : BitVec 32 := Scalar.muli c3_i32_35 v78
  let c0_i32_36 : BitVec 32 := 0#32
  let v80 : BitVec 32 := Scalar.addi v79 c0_i32_36
  let c2_i32_37 : BitVec 32 := 2#32
  let v81 : BitVec 32 := Scalar.muli v80 c2_i32_37
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v61 v83
  let c0_i32_41 : BitVec 32 := 0#32
  let v85 : BitVec 1 := Scalar.cmpi .ne v84 c0_i32_41
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let v89 : BitVec 1 := Scalar.andi v88 v85
  let v90 : BitVec 32 := Scalar.addi v84 v83
  let v91 : BitVec 32 := Scalar.select v89 v90 v84
  let v92 : BitVec 32 := Scalar.addi v81 v91
  let c5_i32_44 : BitVec 32 := 5#32
  let v93 : BitVec 32 := Scalar.divsi v92 c5_i32_44
  let c0_i32_45 : BitVec 32 := 0#32
  let v94 : BitVec 1 := Scalar.cmpi .sgt v92 c0_i32_45
  let v95 : BitVec 32 := Scalar.extui v94
  let c0_i32_46 : BitVec 32 := 0#32
  let v96 : BitVec 1 := Scalar.cmpi .slt v92 c0_i32_46
  let v97 : BitVec 32 := Scalar.extui v96
  let v98 : BitVec 32 := Scalar.subi v95 v97
  let c0_i32_47 : BitVec 32 := 0#32
  let v99 : BitVec 1 := Scalar.cmpi .sgt c5_i32_44 c0_i32_47
  let v100 : BitVec 32 := Scalar.extui v99
  let c0_i32_48 : BitVec 32 := 0#32
  let v101 : BitVec 1 := Scalar.cmpi .slt c5_i32_44 c0_i32_48
  let v102 : BitVec 32 := Scalar.extui v101
  let v103 : BitVec 32 := Scalar.subi v100 v102
  let v104 : BitVec 1 := Scalar.cmpi .ne v98 v103
  let v105 : BitVec 32 := Scalar.remsi v92 c5_i32_44
  let c0_i32_49 : BitVec 32 := 0#32
  let v106 : BitVec 1 := Scalar.cmpi .ne v105 c0_i32_49
  let v107 : BitVec 1 := Scalar.andi v104 v106
  let c1_i32_50 : BitVec 32 := 1#32
  let v108 : BitVec 32 := Scalar.subi v93 c1_i32_50
  let v109 : BitVec 32 := Scalar.select v107 v108 v93
  let c5_i32_51 : BitVec 32 := 5#32
  let c0_i32_52 : BitVec 32 := 0#32
  let v110 : BitVec 1 := Scalar.cmpi .eq c5_i32_51 c0_i32_52
  let c1_i32_53 : BitVec 32 := 1#32
  let v111 : BitVec 32 := Scalar.select v110 c1_i32_53 c5_i32_51
  let v112 : BitVec 32 := Scalar.remsi v92 v111
  let c0_i32_54 : BitVec 32 := 0#32
  let v113 : BitVec 1 := Scalar.cmpi .ne v112 c0_i32_54
  let c0_i32_55 : BitVec 32 := 0#32
  let v114 : BitVec 1 := Scalar.cmpi .slt v112 c0_i32_55
  let c0_i32_56 : BitVec 32 := 0#32
  let v115 : BitVec 1 := Scalar.cmpi .slt v111 c0_i32_56
  let v116 : BitVec 1 := Scalar.xori v114 v115
  let v117 : BitVec 1 := Scalar.andi v116 v113
  let v118 : BitVec 32 := Scalar.addi v112 v111
  let v119 : BitVec 32 := Scalar.select v117 v118 v112
  let c0_i32_57 : BitVec 32 := 0#32
  let c0_i32_58 : BitVec 32 := 0#32
  ![v49.toNat, c0_i32_57.toNat, v119.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== BInDx0Ideal.lean ====
abbrev S4096x1024 : Shape := ⟨2, ![4096, 1024]⟩
abbrev S1024x10240 : Shape := ⟨2, ![1024, 10240]⟩
abbrev S4096x4096 : Shape := ⟨2, ![4096, 4096]⟩
abbrev S1024x4x2560 : Shape := ⟨3, ![1024, 4, 2560]⟩
abbrev S4x1024x2560 : Shape := ⟨3, ![4, 1024, 2560]⟩
abbrev S2048x1024 : Shape := ⟨2, ![2048, 1024]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x4096, .f32⟩
  | .hbm, ⟨3, _⟩ => ⟨S4096x4096, .bf16⟩
  | .hbm, ⟨4, _⟩ => ⟨S1024x4x2560, .f32⟩
  | .hbm, ⟨5, _⟩ => ⟨S4x1024x2560, .f32⟩
  | .hbm, ⟨6, _⟩ => ⟨S4x1024x2560, .bf16⟩
  | .hbm, ⟨7, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32_12 : BitVec 32 := 3#32
  let v19 : BitVec 1 := Scalar.cmpi .eq arg1 c3_i32_12
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c2_i32_0 : BitVec 32 := 2#32
  let v2 : BitVec 32 := Scalar.divsi v1 c2_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c2_i32_0 c0_i32_3
  let v9 : BitVec 32 := Scalar.extui v8
  let c0_i32_4 : BitVec 32 := 0#32
  let v10 : BitVec 1 := Scalar.cmpi .slt c2_i32_0 c0_i32_4
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c3_i32 : BitVec 32 := 3#32
  let v19 : BitVec 32 := Scalar.muli c3_i32 v18
  let c0_i32_6 : BitVec 32 := 0#32
  let v20 : BitVec 32 := Scalar.addi v19 c0_i32_6
  let c2_i32_7 : BitVec 32 := 2#32
  let v21 : BitVec 32 := Scalar.muli v20 c2_i32_7
  let c2_i32_8 : BitVec 32 := 2#32
  let c0_i32_9 : BitVec 32 := 0#32
  let v22 : BitVec 1 := Scalar.cmpi .eq c2_i32_8 c0_i32_9
  let c1_i32_10 : BitVec 32 := 1#32
  let v23 : BitVec 32 := Scalar.select v22 c1_i32_10 c2_i32_8
  let v24 : BitVec 32 := Scalar.remsi v1 v23
  let c0_i32_11 : BitVec 32 := 0#32
  let v25 : BitVec 1 := Scalar.cmpi .ne v24 c0_i32_11
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c5_i32 : BitVec 32 := 5#32
  let v33 : BitVec 32 := Scalar.divsi v32 c5_i32
  let c0_i32_14 : BitVec 32 := 0#32
  let v34 : BitVec 1 := Scalar.cmpi .sgt v32 c0_i32_14
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c0_i32_16 : BitVec 32 := 0#32
  let v39 : BitVec 1 := Scalar.cmpi .sgt c5_i32 c0_i32_16
  let v40 : BitVec 32 := Scalar.extui v39
  let c0_i32_17 : BitVec 32 := 0#32
  let v41 : BitVec 1 := Scalar.cmpi .slt c5_i32 c0_i32_17
  let v42 : BitVec 32 := Scalar.extui v41
  let v43 : BitVec 32 := Scalar.subi v40 v42
  let v44 : BitVec 1 := Scalar.cmpi .ne v38 v43
  let v45 : BitVec 32 := Scalar.remsi v32 c5_i32
  let c0_i32_18 : BitVec 32 := 0#32
  let v46 : BitVec 1 := Scalar.cmpi .ne v45 c0_i32_18
  let v47 : BitVec 1 := Scalar.andi v44 v46
  let c1_i32_19 : BitVec 32 := 1#32
  let v48 : BitVec 32 := Scalar.subi v33 c1_i32_19
  let v49 : BitVec 32 := Scalar.select v47 v48 v33
  let c5_i32_20 : BitVec 32 := 5#32
  let c0_i32_21 : BitVec 32 := 0#32
  let v50 : BitVec 1 := Scalar.cmpi .eq c5_i32_20 c0_i32_21
  let c1_i32_22 : BitVec 32 := 1#32
  let v51 : BitVec 32 := Scalar.select v50 c1_i32_22 c5_i32_20
  let v52 : BitVec 32 := Scalar.remsi v32 v51
  let c0_i32_23 : BitVec 32 := 0#32
  let v53 : BitVec 1 := Scalar.cmpi .ne v52 c0_i32_23
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let v57 : BitVec 1 := Scalar.andi v56 v53
  let v58 : BitVec 32 := Scalar.addi v52 v51
  let v59 : BitVec 32 := Scalar.select v57 v58 v52
  let c2_i32_26 : BitVec 32 := 2#32
  let v60 : BitVec 32 := Scalar.muli c2_i32_26 arg1
  let c0_i32_27 : BitVec 32 := 0#32
  let v61 : BitVec 32 := Scalar.addi v60 c0_i32_27
  let c2_i32_28 : BitVec 32 := 2#32
  let v62 : BitVec 32 := Scalar.divsi v61 c2_i32_28
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c0_i32_31 : BitVec 32 := 0#32
  let v68 : BitVec 1 := Scalar.cmpi .sgt c2_i32_28 c0_i32_31
  let v69 : BitVec 32 := Scalar.extui v68
  let c0_i32_32 : BitVec 32 := 0#32
  let v70 : BitVec 1 := Scalar.cmpi .slt c2_i32_28 c0_i32_32
  let v71 : BitVec 32 := Scalar.extui v70
  let v72 : BitVec 32 := Scalar.subi v69 v71
  let v73 : BitVec 1 := Scalar.cmpi .ne v67 v72
  let v74 : BitVec 32 := Scalar.remsi v61 c2_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c3_i32_35 : BitVec 32 := 3#32
  let v79 : BitVec 32 := Scalar.muli c3_i32_35 v78
  let c0_i32_36 : BitVec 32 := 0#32
  let v80 : BitVec 32 := Scalar.addi v79 c0_i32_36
  let c2_i32_37 : BitVec 32 := 2#32
  let v81 : BitVec 32 := Scalar.muli v80 c2_i32_37
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v61 v83
  let c0_i32_41 : BitVec 32 := 0#32
  let v85 : BitVec 1 := Scalar.cmpi .ne v84 c0_i32_41
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let v89 : BitVec 1 := Scalar.andi v88 v85
  let v90 : BitVec 32 := Scalar.addi v84 v83
  let v91 : BitVec 32 := Scalar.select v89 v90 v84
  let v92 : BitVec 32 := Scalar.addi v81 v91
  let c5_i32_44 : BitVec 32 := 5#32
  let v93 : BitVec 32 := Scalar.divsi v92 c5_i32_44
  let c0_i32_45 : BitVec 32 := 0#32
  let v94 : BitVec 1 := Scalar.cmpi .sgt v92 c0_i32_45
  let v95 : BitVec 32 := Scalar.extui v94
  let c0_i32_46 : BitVec 32 := 0#32
  let v96 : BitVec 1 := Scalar.cmpi .slt v92 c0_i32_46
  let v97 : BitVec 32 := Scalar.extui v96
  let v98 : BitVec 32 := Scalar.subi v95 v97
  let c0_i32_47 : BitVec 32 := 0#32
  let v99 : BitVec 1 := Scalar.cmpi .sgt c5_i32_44 c0_i32_47
  let v100 : BitVec 32 := Scalar.extui v99
  let c0_i32_48 : BitVec 32 := 0#32
  let v101 : BitVec 1 := Scalar.cmpi .slt c5_i32_44 c0_i32_48
  let v102 : BitVec 32 := Scalar.extui v101
  let v103 : BitVec 32 := Scalar.subi v100 v102
  let v104 : BitVec 1 := Scalar.cmpi .ne v98 v103
  let v105 : BitVec 32 := Scalar.remsi v92 c5_i32_44
  let c0_i32_49 : BitVec 32 := 0#32
  let v106 : BitVec 1 := Scalar.cmpi .ne v105 c0_i32_49
  let v107 : BitVec 1 := Scalar.andi v104 v106
  let c1_i32_50 : BitVec 32 := 1#32
  let v108 : BitVec 32 := Scalar.subi v93 c1_i32_50
  let v109 : BitVec 32 := Scalar.select v107 v108 v93
  let c5_i32_51 : BitVec 32 := 5#32
  let c0_i32_52 : BitVec 32 := 0#32
  let v110 : BitVec 1 := Scalar.cmpi .eq c5_i32_51 c0_i32_52
  let c1_i32_53 : BitVec 32 := 1#32
  let v111 : BitVec 32 := Scalar.select v110 c1_i32_53 c5_i32_51
  let v112 : BitVec 32 := Scalar.remsi v92 v111
  let c0_i32_54 : BitVec 32 := 0#32
  let v113 : BitVec 1 := Scalar.cmpi .ne v112 c0_i32_54
  let c0_i32_55 : BitVec 32 := 0#32
  let v114 : BitVec 1 := Scalar.cmpi .slt v112 c0_i32_55
  let c0_i32_56 : BitVec 32 := 0#32
  let v115 : BitVec 1 := Scalar.cmpi .slt v111 c0_i32_56
  let v116 : BitVec 1 := Scalar.xori v114 v115
  let v117 : BitVec 1 := Scalar.andi v116 v113
  let v118 : BitVec 32 := Scalar.addi v112 v111
  let v119 : BitVec 32 := Scalar.select v117 v118 v112
  let c0_i32_57 : BitVec 32 := 0#32
  let c0_i32_58 : BitVec 32 := 0#32
  ![v49.toNat, c0_i32_57.toNat, v119.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c2_i32_0 : BitVec 32 := 2#32
  let v2 : BitVec 32 := Scalar.divsi v1 c2_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c3_i32 : BitVec 32 := 3#32
  let v19 : BitVec 32 := Scalar.muli c3_i32 v18
  let c0_i32_6 : BitVec 32 := 0#32
  let v20 : BitVec 32 := Scalar.addi v19 c0_i32_6
  let c2_i32_7 : BitVec 32 := 2#32
  let v21 : BitVec 32 := Scalar.muli v20 c2_i32_7
  let c2_i32_8 : BitVec 32 := 2#32
  let c0_i32_9 : BitVec 32 := 0#32
  let v22 : BitVec 1 := Scalar.cmpi .eq c2_i32_8 c0_i32_9
  let c1_i32_10 : BitVec 32 := 1#32
  let v23 : BitVec 32 := Scalar.select v22 c1_i32_10 c2_i32_8
  let v24 : BitVec 32 := Scalar.remsi v1 v23
  let c0_i32_11 : BitVec 32 := 0#32
  let v25 : BitVec 1 := Scalar.cmpi .ne v24 c0_i32_11
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c5_i32 : BitVec 32 := 5#32
  let v33 : BitVec 32 := Scalar.divsi v32 c5_i32
  let c0_i32_14 : BitVec 32 := 0#32
  let v34 : BitVec 1 := Scalar.cmpi .sgt v32 c0_i32_14
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c0_i32_16 : BitVec 32 := 0#32
  let v39 : BitVec 1 := Scalar.cmpi .sgt c5_i32 c0_i32_16
  let v40 : BitVec 32 := Scalar.extui v39
  let c0_i32_17 : BitVec 32 := 0#32
  let v41 : BitVec 1 := Scalar.cmpi .slt c5_i32 c0_i32_17
  let v42 : BitVec 32 := Scalar.extui v41
  let v43 : BitVec 32 := Scalar.subi v40 v42
  let v44 : BitVec 1 := Scalar.cmpi .ne v38 v43
  let v45 : BitVec 32 := Scalar.remsi v32 c5_i32
  let c0_i32_18 : BitVec 32 := 0#32
  let v46 : BitVec 1 := Scalar.cmpi .ne v45 c0_i32_18
  let v47 : BitVec 1 := Scalar.andi v44 v46
  let c1_i32_19 : BitVec 32 := 1#32
  let v48 : BitVec 32 := Scalar.subi v33 c1_i32_19
  let v49 : BitVec 32 := Scalar.select v47 v48 v33
  let c5_i32_20 : BitVec 32 := 5#32
  let c0_i32_21 : BitVec 32 := 0#32
  let v50 : BitVec 1 := Scalar.cmpi .eq c5_i32_20 c0_i32_21
  let c1_i32_22 : BitVec 32 := 1#32
  let v51 : BitVec 32 := Scalar.select v50 c1_i32_22 c5_i32_20
  let v52 : BitVec 32 := Scalar.remsi v32 v51
  let c0_i32_23 : BitVec 32 := 0#32
  let v53 : BitVec 1 := Scalar.cmpi .ne v52 c0_i32_23
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let v57 : BitVec 1 := Scalar.andi v56 v53
  let v58 : BitVec 32 := Scalar.addi v52 v51
  let v59 : BitVec 32 := Scalar.select v57 v58 v52
  let c2_i32_26 : BitVec 32 := 2#32
  let v60 : BitVec 32 := Scalar.muli c2_i32_26 arg1
  let c1_i32_27 : BitVec 32 := 1#32
  let v61 : BitVec 32 := Scalar.addi v60 c1_i32_27
  let c2_i32_28 : BitVec 32 := 2#32
  let v62 : BitVec 32 := Scalar.divsi v61 c2_i32_28
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c0_i32_31 : BitVec 32 := 0#32
  let v68 : BitVec 1 := Scalar.cmpi .sgt c2_i32_28 c0_i32_31
  let v69 : BitVec 32 := Scalar.extui v68
  let c0_i32_32 : BitVec 32 := 0#32
  let v70 : BitVec 1 := Scalar.cmpi .slt c2_i32_28 c0_i32_32
  let v71 : BitVec 32 := Scalar.extui v70
  let v72 : BitVec 32 := Scalar.subi v69 v71
  let v73 : BitVec 1 := Scalar.cmpi .ne v67 v72
  let v74 : BitVec 32 := Scalar.remsi v61 c2_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c3_i32_35 : BitVec 32 := 3#32
  let v79 : BitVec 32 := Scalar.muli c3_i32_35 v78
  let c0_i32_36 : BitVec 32 := 0#32
  let v80 : BitVec 32 := Scalar.addi v79 c0_i32_36
  let c2_i32_37 : BitVec 32 := 2#32
  let v81 : BitVec 32 := Scalar.muli v80 c2_i32_37
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v61 v83
  let c0_i32_41 : BitVec 32 := 0#32
  let v85 : BitVec 1 := Scalar.cmpi .ne v84 c0_i32_41
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let v89 : BitVec 1 := Scalar.andi v88 v85
  let v90 : BitVec 32 := Scalar.addi v84 v83
  let v91 : BitVec 32 := Scalar.select v89 v90 v84
  let v92 : BitVec 32 := Scalar.addi v81 v91
  let c5_i32_44 : BitVec 32 := 5#32
  let v93 : BitVec 32 := Scalar.divsi v92 c5_i32_44
  let c0_i32_45 : BitVec 32 := 0#32
  let v94 : BitVec 1 := Scalar.cmpi .sgt v92 c0_i32_45
  let v95 : BitVec 32 := Scalar.extui v94
  let c0_i32_46 : BitVec 32 := 0#32
  let v96 : BitVec 1 := Scalar.cmpi .slt v92 c0_i32_46
  let v97 : BitVec 32 := Scalar.extui v96
  let v98 : BitVec 32 := Scalar.subi v95 v97
  let c0_i32_47 : BitVec 32 := 0#32
  let v99 : BitVec 1 := Scalar.cmpi .sgt c5_i32_44 c0_i32_47
  let v100 : BitVec 32 := Scalar.extui v99
  let c0_i32_48 : BitVec 32 := 0#32
  let v101 : BitVec 1 := Scalar.cmpi .slt c5_i32_44 c0_i32_48
  let v102 : BitVec 32 := Scalar.extui v101
  let v103 : BitVec 32 := Scalar.subi v100 v102
  let v104 : BitVec 1 := Scalar.cmpi .ne v98 v103
  let v105 : BitVec 32 := Scalar.remsi v92 c5_i32_44
  let c0_i32_49 : BitVec 32 := 0#32
  let v106 : BitVec 1 := Scalar.cmpi .ne v105 c0_i32_49
  let v107 : BitVec 1 := Scalar.andi v104 v106
  let c1_i32_50 : BitVec 32 := 1#32
  let v108 : BitVec 32 := Scalar.subi v93 c1_i32_50
  let v109 : BitVec 32 := Scalar.select v107 v108 v93
  let c5_i32_51 : BitVec 32 := 5#32
  let c0_i32_52 : BitVec 32 := 0#32
  let v110 : BitVec 1 := Scalar.cmpi .eq c5_i32_51 c0_i32_52
  let c1_i32_53 : BitVec 32 := 1#32
  let v111 : BitVec 32 := Scalar.select v110 c1_i32_53 c5_i32_51
  let v112 : BitVec 32 := Scalar.remsi v92 v111
  let c0_i32_54 : BitVec 32 := 0#32
  let v113 : BitVec 1 := Scalar.cmpi .ne v112 c0_i32_54
  let c0_i32_55 : BitVec 32 := 0#32
  let v114 : BitVec 1 := Scalar.cmpi .slt v112 c0_i32_55
  let c0_i32_56 : BitVec 32 := 0#32
  let v115 : BitVec 1 := Scalar.cmpi .slt v111 c0_i32_56
  let v116 : BitVec 1 := Scalar.xori v114 v115
  let v117 : BitVec 1 := Scalar.andi v116 v113
  let v118 : BitVec 32 := Scalar.addi v112 v111
  let v119 : BitVec 32 := Scalar.select v117 v118 v112
  let c0_i32_57 : BitVec 32 := 0#32
  let c0_i32_58 : BitVec 32 := 0#32
  ![v49.toNat, c0_i32_57.toNat, v119.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== BInDx0RefIdeal.lean ====
abbrev S4096x1024 : Shape := ⟨2, ![4096, 1024]⟩
abbrev S1024x10240 : Shape := ⟨2, ![1024, 10240]⟩
abbrev S4096x4096 : Shape := ⟨2, ![4096, 4096]⟩
abbrev S1024x9216 : Shape := ⟨2, ![1024, 9216]⟩
abbrev S1024x3x3x1024 : Shape := ⟨4, ![1024, 3, 3, 1024]⟩
abbrev S1024x3x1x1024 : Shape := ⟨4, ![1024, 3, 1, 1024]⟩
abbrev S1024x3x1024 : Shape := ⟨3, ![1024, 3, 1024]⟩
abbrev S1024x3072 : Shape := ⟨2, ![1024, 3072]⟩
abbrev S1024x1024 : Shape := ⟨2, ![1024, 1024]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x4096, .f32⟩
  | .hbm, ⟨3, _⟩ => ⟨S1024x9216, .f32⟩
  | .hbm, ⟨4, _⟩ => ⟨S1024x3x3x1024, .f32⟩
  | .hbm, ⟨5, _⟩ => ⟨S1024x3x1x1024, .f32⟩
  | .hbm, ⟨6, _⟩ => ⟨S1024x3x1024, .f32⟩
  | .hbm, ⟨7, _⟩ => ⟨S1024x3072, .f32⟩
  | .hbm, ⟨8, _⟩ => ⟨S1024x1024, .f32⟩
  | .hbm, ⟨9, _⟩ => ⟨S1024x4096, .f32⟩
  | .hbm, ⟨10, _⟩ => ⟨S4096x4096, .f32⟩
  | .hbm, ⟨11, _⟩ => ⟨S4096x1024, .f32⟩
  | .hbm, ⟨12, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== BIn0.lean ====
abbrev S4096x1024 : Shape := ⟨2, ![4096, 1024]⟩
abbrev S1024x10240 : Shape := ⟨2, ![1024, 10240]⟩
abbrev S1024x4x2560 : Shape := ⟨3, ![1024, 4, 2560]⟩
abbrev S4x1024x2560 : Shape := ⟨3, ![4, 1024, 2560]⟩
abbrev S4096x4096 : Shape := ⟨2, ![4096, 4096]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x1024, .bf16⟩
  | .hbm, ⟨3, _⟩ => ⟨S1024x4x2560, .f32⟩
  | .hbm, ⟨4, _⟩ => ⟨S4x1024x2560, .f32⟩
  | .hbm, ⟨5, _⟩ => ⟨S4x1024x2560, .bf16⟩
  | .hbm, ⟨6, _⟩ => ⟨S4096x4096, .bf16⟩
  | .local _ .vmem, ⟨0, _⟩ => ⟨S4096x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S4096x512, .bf16⟩
  | .local _ .vmem, ⟨4, _⟩ => ⟨S4096x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli c3_i32 v16
  let c0_i32_4 : BitVec 32 := 0#32
  let v18 : BitVec 32 := Scalar.addi v17 c0_i32_4
  let c2_i32_5 : BitVec 32 := 2#32
  let v19 : BitVec 32 := Scalar.muli v18 c2_i32_5
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c5_i32 : BitVec 32 := 5#32
  let v31 : BitVec 32 := Scalar.divsi v30 c5_i32
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c5_i32 c0_i32_14
  let v38 : BitVec 32 := Scalar.extui v37
  let c0_i32_15 : BitVec 32 := 0#32
  let v39 : BitVec 1 := Scalar.cmpi .slt c5_i32 c0_i32_15
  let v40 : BitVec 32 := Scalar.extui v39
  let v41 : BitVec 32 := Scalar.subi v38 v40
  let v42 : BitVec 1 := Scalar.cmpi .ne v36 v41
  let v43 : BitVec 32 := Scalar.remsi v30 c5_i32
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c5_i32_18 : BitVec 32 := 5#32
  let c0_i32_19 : BitVec 32 := 0#32
  let v48 : BitVec 1 := Scalar.cmpi .eq c5_i32_18 c0_i32_19
  let c1_i32_20 : BitVec 32 := 1#32
  let v49 : BitVec 32 := Scalar.select v48 c1_i32_20 c5_i32_18
  let v50 : BitVec 32 := Scalar.remsi v30 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let c2_i32_24 : BitVec 32 := 2#32
  let v58 : BitVec 32 := Scalar.divsi arg1 c2_i32_24
  let c0_i32_25 : BitVec 32 := 0#32
  let v59 : BitVec 1 := Scalar.cmpi .sgt arg1 c0_i32_25
  let v60 : BitVec 32 := Scalar.extui v59
  let c0_i32_26 : BitVec 32 := 0#32
  let v61 : BitVec 1 := Scalar.cmpi .slt arg1 c0_i32_26
  let v62 : BitVec 32 := Scalar.extui v61
  let v63 : BitVec 32 := Scalar.subi v60 v62
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi arg1 c2_i32_24
  let c0_i32_29 : BitVec 32 := 0#32
  let v71 : BitVec 1 := Scalar.cmpi .ne v70 c0_i32_29
  let v72 : BitVec 1 := Scalar.andi v69 v71
  let c1_i32_30 : BitVec 32 := 1#32
  let v73 : BitVec 32 := Scalar.subi v58 c1_i32_30
  let v74 : BitVec 32 := Scalar.select v72 v73 v58
  let c3_i32_31 : BitVec 32 := 3#32
  let v75 : BitVec 32 := Scalar.muli c3_i32_31 v74
  let c0_i32_32 : BitVec 32 := 0#32
  let v76 : BitVec 32 := Scalar.addi v75 c0_i32_32
  let c2_i32_33 : BitVec 32 := 2#32
  let v77 : BitVec 32 := Scalar.muli v76 c2_i32_33
  let c2_i32_34 : BitVec 32 := 2#32
  let c0_i32_35 : BitVec 32 := 0#32
  let v78 : BitVec 1 := Scalar.cmpi .eq c2_i32_34 c0_i32_35
  let c1_i32_36 : BitVec 32 := 1#32
  let v79 : BitVec 32 := Scalar.select v78 c1_i32_36 c2_i32_34
  let v80 : BitVec 32 := Scalar.remsi arg1 v79
  let c0_i32_37 : BitVec 32 := 0#32
  let v81 : BitVec 1 := Scalar.cmpi .ne v80 c0_i32_37
  let c0_i32_38 : BitVec 32 := 0#32
  let v82 : BitVec 1 := Scalar.cmpi .slt v80 c0_i32_38
  let c0_i32_39 : BitVec 32 := 0#32
  let v83 : BitVec 1 := Scalar.cmpi .slt v79 c0_i32_39
  let v84 : BitVec 1 := Scalar.xori v82 v83
  let v85 : BitVec 1 := Scalar.andi v84 v81
  let v86 : BitVec 32 := Scalar.addi v80 v79
  let v87 : BitVec 32 := Scalar.select v85 v86 v80
  let v88 : BitVec 32 := Scalar.addi v77 v87
  let c5_i32_40 : BitVec 32 := 5#32
  let v89 : BitVec 32 := Scalar.divsi v88 c5_i32_40
  let c0_i32_41 : BitVec 32 := 0#32
  let v90 : BitVec 1 := Scalar.cmpi .sgt v88 c0_i32_41
  let v91 : BitVec 32 := Scalar.extui v90
  let c0_i32_42 : BitVec 32 := 0#32
  let v92 : BitVec 1 := Scalar.cmpi .slt v88 c0_i32_42
  let v93 : BitVec 32 := Scalar.extui v92
  let v94 : BitVec 32 := Scalar.subi v91 v93
  let c0_i32_43 : BitVec 32 := 0#32
  let v95 : BitVec 1 := Scalar.cmpi .sgt c5_i32_40 c0_i32_43
  let v96 : BitVec 32 := Scalar.extui v95
  let c0_i32_44 : BitVec 32 := 0#32
  let v97 : BitVec 1 := Scalar.cmpi .slt c5_i32_40 c0_i32_44
  let v98 : BitVec 32 := Scalar.extui v97
  let v99 : BitVec 32 := Scalar.subi v96 v98
  let v100 : BitVec 1 := Scalar.cmpi .ne v94 v99
  let v101 : BitVec 32 := Scalar.remsi v88 c5_i32_40
  let c0_i32_45 : BitVec 32 := 0#32
  let v102 : BitVec 1 := Scalar.cmpi .ne v101 c0_i32_45
  let v103 : BitVec 1 := Scalar.andi v100 v102
  let c1_i32_46 : BitVec 32 := 1#32
  let v104 : BitVec 32 := Scalar.subi v89 c1_i32_46
  let v105 : BitVec 32 := Scalar.select v103 v104 v89
  let c5_i32_47 : BitVec 32 := 5#32
  let c0_i32_48 : BitVec 32 := 0#32
  let v106 : BitVec 1 := Scalar.cmpi .eq c5_i32_47 c0_i32_48
  let c1_i32_49 : BitVec 32 := 1#32
  let v107 : BitVec 32 := Scalar.select v106 c1_i32_49 c5_i32_47
  let v108 : BitVec 32 := Scalar.remsi v88 v107
  let c0_i32_50 : BitVec 32 := 0#32
  let v109 : BitVec 1 := Scalar.cmpi .ne v108 c0_i32_50
  let c0_i32_51 : BitVec 32 := 0#32
  let v110 : BitVec 1 := Scalar.cmpi .slt v108 c0_i32_51
  let c0_i32_52 : BitVec 32 := 0#32
  let v111 : BitVec 1 := Scalar.cmpi .slt v107 c0_i32_52
  let v112 : BitVec 1 := Scalar.xori v110 v111
  let v113 : BitVec 1 := Scalar.andi v112 v109
  let v114 : BitVec 32 := Scalar.addi v108 v107
  let v115 : BitVec 32 := Scalar.select v113 v114 v108
  let c0_i32_53 : BitVec 32 := 0#32
  ![v47.toNat, arg2.toNat, v115.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BIn0Ideal.lean ====
abbrev S4096x1024 : Shape := ⟨2, ![4096, 1024]⟩
abbrev S1024x10240 : Shape := ⟨2, ![1024, 10240]⟩
abbrev S1024x4x2560 : Shape := ⟨3, ![1024, 4, 2560]⟩
abbrev S4x1024x2560 : Shape := ⟨3, ![4, 1024, 2560]⟩
abbrev S4096x4096 : Shape := ⟨2, ![4096, 4096]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x1024, .bf16⟩
  | .hbm, ⟨3, _⟩ => ⟨S1024x4x2560, .f32⟩
  | .hbm, ⟨4, _⟩ => ⟨S4x1024x2560, .f32⟩
  | .hbm, ⟨5, _⟩ => ⟨S4x1024x2560, .bf16⟩
  | .hbm, ⟨6, _⟩ => ⟨S4096x4096, .bf16⟩
  | .local _ .vmem, ⟨0, _⟩ => ⟨S4096x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S4096x512, .bf16⟩
  | .local _ .vmem, ⟨4, _⟩ => ⟨S4096x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli c3_i32 v16
  let c0_i32_4 : BitVec 32 := 0#32
  let v18 : BitVec 32 := Scalar.addi v17 c0_i32_4
  let c2_i32_5 : BitVec 32 := 2#32
  let v19 : BitVec 32 := Scalar.muli v18 c2_i32_5
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c5_i32 : BitVec 32 := 5#32
  let v31 : BitVec 32 := Scalar.divsi v30 c5_i32
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c5_i32 c0_i32_14
  let v38 : BitVec 32 := Scalar.extui v37
  let c0_i32_15 : BitVec 32 := 0#32
  let v39 : BitVec 1 := Scalar.cmpi .slt c5_i32 c0_i32_15
  let v40 : BitVec 32 := Scalar.extui v39
  let v41 : BitVec 32 := Scalar.subi v38 v40
  let v42 : BitVec 1 := Scalar.cmpi .ne v36 v41
  let v43 : BitVec 32 := Scalar.remsi v30 c5_i32
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c5_i32_18 : BitVec 32 := 5#32
  let c0_i32_19 : BitVec 32 := 0#32
  let v48 : BitVec 1 := Scalar.cmpi .eq c5_i32_18 c0_i32_19
  let c1_i32_20 : BitVec 32 := 1#32
  let v49 : BitVec 32 := Scalar.select v48 c1_i32_20 c5_i32_18
  let v50 : BitVec 32 := Scalar.remsi v30 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let c2_i32_24 : BitVec 32 := 2#32
  let v58 : BitVec 32 := Scalar.divsi arg1 c2_i32_24
  let c0_i32_25 : BitVec 32 := 0#32
  let v59 : BitVec 1 := Scalar.cmpi .sgt arg1 c0_i32_25
  let v60 : BitVec 32 := Scalar.extui v59
  let c0_i32_26 : BitVec 32 := 0#32
  let v61 : BitVec 1 := Scalar.cmpi .slt arg1 c0_i32_26
  let v62 : BitVec 32 := Scalar.extui v61
  let v63 : BitVec 32 := Scalar.subi v60 v62
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi arg1 c2_i32_24
  let c0_i32_29 : BitVec 32 := 0#32
  let v71 : BitVec 1 := Scalar.cmpi .ne v70 c0_i32_29
  let v72 : BitVec 1 := Scalar.andi v69 v71
  let c1_i32_30 : BitVec 32 := 1#32
  let v73 : BitVec 32 := Scalar.subi v58 c1_i32_30
  let v74 : BitVec 32 := Scalar.select v72 v73 v58
  let c3_i32_31 : BitVec 32 := 3#32
  let v75 : BitVec 32 := Scalar.muli c3_i32_31 v74
  let c0_i32_32 : BitVec 32 := 0#32
  let v76 : BitVec 32 := Scalar.addi v75 c0_i32_32
  let c2_i32_33 : BitVec 32 := 2#32
  let v77 : BitVec 32 := Scalar.muli v76 c2_i32_33
  let c2_i32_34 : BitVec 32 := 2#32
  let c0_i32_35 : BitVec 32 := 0#32
  let v78 : BitVec 1 := Scalar.cmpi .eq c2_i32_34 c0_i32_35
  let c1_i32_36 : BitVec 32 := 1#32
  let v79 : BitVec 32 := Scalar.select v78 c1_i32_36 c2_i32_34
  let v80 : BitVec 32 := Scalar.remsi arg1 v79
  let c0_i32_37 : BitVec 32 := 0#32
  let v81 : BitVec 1 := Scalar.cmpi .ne v80 c0_i32_37
  let c0_i32_38 : BitVec 32 := 0#32
  let v82 : BitVec 1 := Scalar.cmpi .slt v80 c0_i32_38
  let c0_i32_39 : BitVec 32 := 0#32
  let v83 : BitVec 1 := Scalar.cmpi .slt v79 c0_i32_39
  let v84 : BitVec 1 := Scalar.xori v82 v83
  let v85 : BitVec 1 := Scalar.andi v84 v81
  let v86 : BitVec 32 := Scalar.addi v80 v79
  let v87 : BitVec 32 := Scalar.select v85 v86 v80
  let v88 : BitVec 32 := Scalar.addi v77 v87
  let c5_i32_40 : BitVec 32 := 5#32
  let v89 : BitVec 32 := Scalar.divsi v88 c5_i32_40
  let c0_i32_41 : BitVec 32 := 0#32
  let v90 : BitVec 1 := Scalar.cmpi .sgt v88 c0_i32_41
  let v91 : BitVec 32 := Scalar.extui v90
  let c0_i32_42 : BitVec 32 := 0#32
  let v92 : BitVec 1 := Scalar.cmpi .slt v88 c0_i32_42
  let v93 : BitVec 32 := Scalar.extui v92
  let v94 : BitVec 32 := Scalar.subi v91 v93
  let c0_i32_43 : BitVec 32 := 0#32
  let v95 : BitVec 1 := Scalar.cmpi .sgt c5_i32_40 c0_i32_43
  let v96 : BitVec 32 := Scalar.extui v95
  let c0_i32_44 : BitVec 32 := 0#32
  let v97 : BitVec 1 := Scalar.cmpi .slt c5_i32_40 c0_i32_44
  let v98 : BitVec 32 := Scalar.extui v97
  let v99 : BitVec 32 := Scalar.subi v96 v98
  let v100 : BitVec 1 := Scalar.cmpi .ne v94 v99
  let v101 : BitVec 32 := Scalar.remsi v88 c5_i32_40
  let c0_i32_45 : BitVec 32 := 0#32
  let v102 : BitVec 1 := Scalar.cmpi .ne v101 c0_i32_45
  let v103 : BitVec 1 := Scalar.andi v100 v102
  let c1_i32_46 : BitVec 32 := 1#32
  let v104 : BitVec 32 := Scalar.subi v89 c1_i32_46
  let v105 : BitVec 32 := Scalar.select v103 v104 v89
  let c5_i32_47 : BitVec 32 := 5#32
  let c0_i32_48 : BitVec 32 := 0#32
  let v106 : BitVec 1 := Scalar.cmpi .eq c5_i32_47 c0_i32_48
  let c1_i32_49 : BitVec 32 := 1#32
  let v107 : BitVec 32 := Scalar.select v106 c1_i32_49 c5_i32_47
  let v108 : BitVec 32 := Scalar.remsi v88 v107
  let c0_i32_50 : BitVec 32 := 0#32
  let v109 : BitVec 1 := Scalar.cmpi .ne v108 c0_i32_50
  let c0_i32_51 : BitVec 32 := 0#32
  let v110 : BitVec 1 := Scalar.cmpi .slt v108 c0_i32_51
  let c0_i32_52 : BitVec 32 := 0#32
  let v111 : BitVec 1 := Scalar.cmpi .slt v107 c0_i32_52
  let v112 : BitVec 1 := Scalar.xori v110 v111
  let v113 : BitVec 1 := Scalar.andi v112 v109
  let v114 : BitVec 32 := Scalar.addi v108 v107
  let v115 : BitVec 32 := Scalar.select v113 v114 v108
  let c0_i32_53 : BitVec 32 := 0#32
  ![v47.toNat, arg2.toNat, v115.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BIn0RefIdeal.lean ====
abbrev S4096x1024 : Shape := ⟨2, ![4096, 1024]⟩
abbrev S1024x10240 : Shape := ⟨2, ![1024, 10240]⟩
abbrev S1024x9216 : Shape := ⟨2, ![1024, 9216]⟩
abbrev S1024x3x3x1024 : Shape := ⟨4, ![1024, 3, 3, 1024]⟩
abbrev S1024x3x1x1024 : Shape := ⟨4, ![1024, 3, 1, 1024]⟩
abbrev S1024x3x1024 : Shape := ⟨3, ![1024, 3, 1024]⟩
abbrev S1024x3072 : Shape := ⟨2, ![1024, 3072]⟩
abbrev S1024x1024 : Shape := ⟨2, ![1024, 1024]⟩
abbrev S1024x4096 : Shape := ⟨2, ![1024, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S1024x9216, .f32⟩
  | .hbm, ⟨3, _⟩ => ⟨S1024x3x3x1024, .f32⟩
  | .hbm, ⟨4, _⟩ => ⟨S1024x3x1x1024, .f32⟩
  | .hbm, ⟨5, _⟩ => ⟨S1024x3x1024, .f32⟩
  | .hbm, ⟨6, _⟩ => ⟨S1024x3072, .f32⟩
  | .hbm, ⟨7, _⟩ => ⟨S1024x1024, .f32⟩
  | .hbm, ⟨8, _⟩ => ⟨S1024x4096, .f32⟩
  | .hbm, ⟨9, _⟩ => ⟨S4096x4096, .f32⟩
  | .hbm, ⟨10, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== BInDw1.lean ====
abbrev S4096x1024 : Shape := ⟨2, ![4096, 1024]⟩
abbrev S1024x10240 : Shape := ⟨2, ![1024, 10240]⟩
abbrev S4096x3072 : Shape := ⟨2, ![4096, 3072]⟩
abbrev S_ : Shape := ⟨0, ![]⟩
abbrev S4x1024x2560 : Shape := ⟨3, ![4, 1024, 2560]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 8
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x3072, .f32⟩
  | .hbm, ⟨3, _⟩ => ⟨S_, .f32⟩
  | .hbm, ⟨4, _⟩ => ⟨S4x1024x2560, .f32⟩
  | .hbm, ⟨5, _⟩ => ⟨S4096x1024, .bf16⟩
  | .hbm, ⟨6, _⟩ => ⟨S4096x3072, .bf16⟩
  | .hbm, ⟨7, _⟩ => ⟨S4x1024x2560, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .f32⟩
  | .local _ .vmem, ⟨4, _⟩ => ⟨S1x1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli c3_i32 v16
  let c1_i32_4 : BitVec 32 := 1#32
  let v18 : BitVec 32 := Scalar.addi v17 c1_i32_4
  let c2_i32_5 : BitVec 32 := 2#32
  let v19 : BitVec 32 := Scalar.muli v18 c2_i32_5
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c5_i32 : BitVec 32 := 5#32
  let v31 : BitVec 32 := Scalar.divsi v30 c5_i32
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c5_i32 c0_i32_14
  let v38 : BitVec 32 := Scalar.extui v37
  let c0_i32_15 : BitVec 32 := 0#32
  let v39 : BitVec 1 := Scalar.cmpi .slt c5_i32 c0_i32_15
  let v40 : BitVec 32 := Scalar.extui v39
  let v41 : BitVec 32 := Scalar.subi v38 v40
  let v42 : BitVec 1 := Scalar.cmpi .ne v36 v41
  let v43 : BitVec 32 := Scalar.remsi v30 c5_i32
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c5_i32_18 : BitVec 32 := 5#32
  let c0_i32_19 : BitVec 32 := 0#32
  let v48 : BitVec 1 := Scalar.cmpi .eq c5_i32_18 c0_i32_19
  let c1_i32_20 : BitVec 32 := 1#32
  let v49 : BitVec 32 := Scalar.select v48 c1_i32_20 c5_i32_18
  let v50 : BitVec 32 := Scalar.remsi v30 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let c2_i32_24 : BitVec 32 := 2#32
  let v58 : BitVec 32 := Scalar.divsi arg1 c2_i32_24
  let c0_i32_25 : BitVec 32 := 0#32
  let v59 : BitVec 1 := Scalar.cmpi .sgt arg1 c0_i32_25
  let v60 : BitVec 32 := Scalar.extui v59
  let c0_i32_26 : BitVec 32 := 0#32
  let v61 : BitVec 1 := Scalar.cmpi .slt arg1 c0_i32_26
  let v62 : BitVec 32 := Scalar.extui v61
  let v63 : BitVec 32 := Scalar.subi v60 v62
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi arg1 c2_i32_24
  let c0_i32_29 : BitVec 32 := 0#32
  let v71 : BitVec 1 := Scalar.cmpi .ne v70 c0_i32_29
  let v72 : BitVec 1 := Scalar.andi v69 v71
  let c1_i32_30 : BitVec 32 := 1#32
  let v73 : BitVec 32 := Scalar.subi v58 c1_i32_30
  let v74 : BitVec 32 := Scalar.select v72 v73 v58
  let c3_i32_31 : BitVec 32 := 3#32
  let v75 : BitVec 32 := Scalar.muli c3_i32_31 v74
  let c1_i32_32 : BitVec 32 := 1#32
  let v76 : BitVec 32 := Scalar.addi v75 c1_i32_32
  let c2_i32_33 : BitVec 32 := 2#32
  let v77 : BitVec 32 := Scalar.muli v76 c2_i32_33
  let c2_i32_34 : BitVec 32 := 2#32
  let c0_i32_35 : BitVec 32 := 0#32
  let v78 : BitVec 1 := Scalar.cmpi .eq c2_i32_34 c0_i32_35
  let c1_i32_36 : BitVec 32 := 1#32
  let v79 : BitVec 32 := Scalar.select v78 c1_i32_36 c2_i32_34
  let v80 : BitVec 32 := Scalar.remsi arg1 v79
  let c0_i32_37 : BitVec 32 := 0#32
  let v81 : BitVec 1 := Scalar.cmpi .ne v80 c0_i32_37
  let c0_i32_38 : BitVec 32 := 0#32
  let v82 : BitVec 1 := Scalar.cmpi .slt v80 c0_i32_38
  let c0_i32_39 : BitVec 32 := 0#32
  let v83 : BitVec 1 := Scalar.cmpi .slt v79 c0_i32_39
  let v84 : BitVec 1 := Scalar.xori v82 v83
  let v85 : BitVec 1 := Scalar.andi v84 v81
  let v86 : BitVec 32 := Scalar.addi v80 v79
  let v87 : BitVec 32 := Scalar.select v85 v86 v80
  let v88 : BitVec 32 := Scalar.addi v77 v87
  let c5_i32_40 : BitVec 32 := 5#32
  let v89 : BitVec 32 := Scalar.divsi v88 c5_i32_40
  let c0_i32_41 : BitVec 32 := 0#32
  let v90 : BitVec 1 := Scalar.cmpi .sgt v88 c0_i32_41
  let v91 : BitVec 32 := Scalar.extui v90
  let c0_i32_42 : BitVec 32 := 0#32
  let v92 : BitVec 1 := Scalar.cmpi .slt v88 c0_i32_42
  let v93 : BitVec 32 := Scalar.extui v92
  let v94 : BitVec 32 := Scalar.subi v91 v93
  let c0_i32_43 : BitVec 32 := 0#32
  let v95 : BitVec 1 := Scalar.cmpi .sgt c5_i32_40 c0_i32_43
  let v96 : BitVec 32 := Scalar.extui v95
  let c0_i32_44 : BitVec 32 := 0#32
  let v97 : BitVec 1 := Scalar.cmpi .slt c5_i32_40 c0_i32_44
  let v98 : BitVec 32 := Scalar.extui v97
  let v99 : BitVec 32 := Scalar.subi v96 v98
  let v100 : BitVec 1 := Scalar.cmpi .ne v94 v99
  let v101 : BitVec 32 := Scalar.remsi v88 c5_i32_40
  let c0_i32_45 : BitVec 32 := 0#32
  let v102 : BitVec 1 := Scalar.cmpi .ne v101 c0_i32_45
  let v103 : BitVec 1 := Scalar.andi v100 v102
  let c1_i32_46 : BitVec 32 := 1#32
  let v104 : BitVec 32 := Scalar.subi v89 c1_i32_46
  let v105 : BitVec 32 := Scalar.select v103 v104 v89
  let c5_i32_47 : BitVec 32 := 5#32
  let c0_i32_48 : BitVec 32 := 0#32
  let v106 : BitVec 1 := Scalar.cmpi .eq c5_i32_47 c0_i32_48
  let c1_i32_49 : BitVec 32 := 1#32
  let v107 : BitVec 32 := Scalar.select v106 c1_i32_49 c5_i32_47
  let v108 : BitVec 32 := Scalar.remsi v88 v107
  let c0_i32_50 : BitVec 32 := 0#32
  let v109 : BitVec 1 := Scalar.cmpi .ne v108 c0_i32_50
  let c0_i32_51 : BitVec 32 := 0#32
  let v110 : BitVec 1 := Scalar.cmpi .slt v108 c0_i32_51
  let c0_i32_52 : BitVec 32 := 0#32
  let v111 : BitVec 1 := Scalar.cmpi .slt v107 c0_i32_52
  let v112 : BitVec 1 := Scalar.xori v110 v111
  let v113 : BitVec 1 := Scalar.andi v112 v109
  let v114 : BitVec 32 := Scalar.addi v108 v107
  let v115 : BitVec 32 := Scalar.select v113 v114 v108
  let c0_i32_53 : BitVec 32 := 0#32
  ![v47.toNat, arg0.toNat, v115.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BInDw1Ideal.lean ====
abbrev S4096x1024 : Shape := ⟨2, ![4096, 1024]⟩
abbrev S1024x10240 : Shape := ⟨2, ![1024, 10240]⟩
abbrev S4096x3072 : Shape := ⟨2, ![4096, 3072]⟩
abbrev S_ : Shape := ⟨0, ![]⟩
abbrev S4x1024x2560 : Shape := ⟨3, ![4, 1024, 2560]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 8
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x3072, .f32⟩
  | .hbm, ⟨3, _⟩ => ⟨S_, .f32⟩
  | .hbm, ⟨4, _⟩ => ⟨S4x1024x2560, .f32⟩
  | .hbm, ⟨5, _⟩ => ⟨S4096x1024, .bf16⟩
  | .hbm, ⟨6, _⟩ => ⟨S4096x3072, .bf16⟩
  | .hbm, ⟨7, _⟩ => ⟨S4x1024x2560, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .f32⟩
  | .local _ .vmem, ⟨4, _⟩ => ⟨S1x1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli c3_i32 v16
  let c1_i32_4 : BitVec 32 := 1#32
  let v18 : BitVec 32 := Scalar.addi v17 c1_i32_4
  let c2_i32_5 : BitVec 32 := 2#32
  let v19 : BitVec 32 := Scalar.muli v18 c2_i32_5
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c5_i32 : BitVec 32 := 5#32
  let v31 : BitVec 32 := Scalar.divsi v30 c5_i32
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c5_i32 c0_i32_14
  let v38 : BitVec 32 := Scalar.extui v37
  let c0_i32_15 : BitVec 32 := 0#32
  let v39 : BitVec 1 := Scalar.cmpi .slt c5_i32 c0_i32_15
  let v40 : BitVec 32 := Scalar.extui v39
  let v41 : BitVec 32 := Scalar.subi v38 v40
  let v42 : BitVec 1 := Scalar.cmpi .ne v36 v41
  let v43 : BitVec 32 := Scalar.remsi v30 c5_i32
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c5_i32_18 : BitVec 32 := 5#32
  let c0_i32_19 : BitVec 32 := 0#32
  let v48 : BitVec 1 := Scalar.cmpi .eq c5_i32_18 c0_i32_19
  let c1_i32_20 : BitVec 32 := 1#32
  let v49 : BitVec 32 := Scalar.select v48 c1_i32_20 c5_i32_18
  let v50 : BitVec 32 := Scalar.remsi v30 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let c2_i32_24 : BitVec 32 := 2#32
  let v58 : BitVec 32 := Scalar.divsi arg1 c2_i32_24
  let c0_i32_25 : BitVec 32 := 0#32
  let v59 : BitVec 1 := Scalar.cmpi .sgt arg1 c0_i32_25
  let v60 : BitVec 32 := Scalar.extui v59
  let c0_i32_26 : BitVec 32 := 0#32
  let v61 : BitVec 1 := Scalar.cmpi .slt arg1 c0_i32_26
  let v62 : BitVec 32 := Scalar.extui v61
  let v63 : BitVec 32 := Scalar.subi v60 v62
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi arg1 c2_i32_24
  let c0_i32_29 : BitVec 32 := 0#32
  let v71 : BitVec 1 := Scalar.cmpi .ne v70 c0_i32_29
  let v72 : BitVec 1 := Scalar.andi v69 v71
  let c1_i32_30 : BitVec 32 := 1#32
  let v73 : BitVec 32 := Scalar.subi v58 c1_i32_30
  let v74 : BitVec 32 := Scalar.select v72 v73 v58
  let c3_i32_31 : BitVec 32 := 3#32
  let v75 : BitVec 32 := Scalar.muli c3_i32_31 v74
  let c1_i32_32 : BitVec 32 := 1#32
  let v76 : BitVec 32 := Scalar.addi v75 c1_i32_32
  let c2_i32_33 : BitVec 32 := 2#32
  let v77 : BitVec 32 := Scalar.muli v76 c2_i32_33
  let c2_i32_34 : BitVec 32 := 2#32
  let c0_i32_35 : BitVec 32 := 0#32
  let v78 : BitVec 1 := Scalar.cmpi .eq c2_i32_34 c0_i32_35
  let c1_i32_36 : BitVec 32 := 1#32
  let v79 : BitVec 32 := Scalar.select v78 c1_i32_36 c2_i32_34
  let v80 : BitVec 32 := Scalar.remsi arg1 v79
  let c0_i32_37 : BitVec 32 := 0#32
  let v81 : BitVec 1 := Scalar.cmpi .ne v80 c0_i32_37
  let c0_i32_38 : BitVec 32 := 0#32
  let v82 : BitVec 1 := Scalar.cmpi .slt v80 c0_i32_38
  let c0_i32_39 : BitVec 32 := 0#32
  let v83 : BitVec 1 := Scalar.cmpi .slt v79 c0_i32_39
  let v84 : BitVec 1 := Scalar.xori v82 v83
  let v85 : BitVec 1 := Scalar.andi v84 v81
  let v86 : BitVec 32 := Scalar.addi v80 v79
  let v87 : BitVec 32 := Scalar.select v85 v86 v80
  let v88 : BitVec 32 := Scalar.addi v77 v87
  let c5_i32_40 : BitVec 32 := 5#32
  let v89 : BitVec 32 := Scalar.divsi v88 c5_i32_40
  let c0_i32_41 : BitVec 32 := 0#32
  let v90 : BitVec 1 := Scalar.cmpi .sgt v88 c0_i32_41
  let v91 : BitVec 32 := Scalar.extui v90
  let c0_i32_42 : BitVec 32 := 0#32
  let v92 : BitVec 1 := Scalar.cmpi .slt v88 c0_i32_42
  let v93 : BitVec 32 := Scalar.extui v92
  let v94 : BitVec 32 := Scalar.subi v91 v93
  let c0_i32_43 : BitVec 32 := 0#32
  let v95 : BitVec 1 := Scalar.cmpi .sgt c5_i32_40 c0_i32_43
  let v96 : BitVec 32 := Scalar.extui v95
  let c0_i32_44 : BitVec 32 := 0#32
  let v97 : BitVec 1 := Scalar.cmpi .slt c5_i32_40 c0_i32_44
  let v98 : BitVec 32 := Scalar.extui v97
  let v99 : BitVec 32 := Scalar.subi v96 v98
  let v100 : BitVec 1 := Scalar.cmpi .ne v94 v99
  let v101 : BitVec 32 := Scalar.remsi v88 c5_i32_40
  let c0_i32_45 : BitVec 32 := 0#32
  let v102 : BitVec 1 := Scalar.cmpi .ne v101 c0_i32_45
  let v103 : BitVec 1 := Scalar.andi v100 v102
  let c1_i32_46 : BitVec 32 := 1#32
  let v104 : BitVec 32 := Scalar.subi v89 c1_i32_46
  let v105 : BitVec 32 := Scalar.select v103 v104 v89
  let c5_i32_47 : BitVec 32 := 5#32
  let c0_i32_48 : BitVec 32 := 0#32
  let v106 : BitVec 1 := Scalar.cmpi .eq c5_i32_47 c0_i32_48
  let c1_i32_49 : BitVec 32 := 1#32
  let v107 : BitVec 32 := Scalar.select v106 c1_i32_49 c5_i32_47
  let v108 : BitVec 32 := Scalar.remsi v88 v107
  let c0_i32_50 : BitVec 32 := 0#32
  let v109 : BitVec 1 := Scalar.cmpi .ne v108 c0_i32_50
  let c0_i32_51 : BitVec 32 := 0#32
  let v110 : BitVec 1 := Scalar.cmpi .slt v108 c0_i32_51
  let c0_i32_52 : BitVec 32 := 0#32
  let v111 : BitVec 1 := Scalar.cmpi .slt v107 c0_i32_52
  let v112 : BitVec 1 := Scalar.xori v110 v111
  let v113 : BitVec 1 := Scalar.andi v112 v109
  let v114 : BitVec 32 := Scalar.addi v108 v107
  let v115 : BitVec 32 := Scalar.select v113 v114 v108
  let c0_i32_53 : BitVec 32 := 0#32
  ![v47.toNat, arg0.toNat, v115.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BInDw1RefIdeal.lean ====
abbrev S4096x1024 : Shape := ⟨2, ![4096, 1024]⟩
abbrev S1024x10240 : Shape := ⟨2, ![1024, 10240]⟩
abbrev S4096x3072 : Shape := ⟨2, ![4096, 3072]⟩
abbrev S1024x9216 : Shape := ⟨2, ![1024, 9216]⟩
abbrev S1024x3x3x1024 : Shape := ⟨4, ![1024, 3, 3, 1024]⟩
abbrev S1024x3x1x1024 : Shape := ⟨4, ![1024, 3, 1, 1024]⟩
abbrev S1024x3x1024 : Shape := ⟨3, ![1024, 3, 1024]⟩
abbrev S1024x3072 : Shape := ⟨2, ![1024, 3072]⟩
abbrev S3072x1024 : Shape := ⟨2, ![3072, 1024]⟩
abbrev S_ : Shape := ⟨0, ![]⟩
abbrev S1024x2560 : Shape := ⟨2, ![1024, 2560]⟩
abbrev S1x1024x2560 : Shape := ⟨3, ![1, 1024, 2560]⟩
abbrev S4x1024x2560 : Shape := ⟨3, ![4, 1024, 2560]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x3072, .f32⟩
  | .hbm, ⟨3, _⟩ => ⟨S1024x9216, .f32⟩
  | .hbm, ⟨4, _⟩ => ⟨S1024x3x3x1024, .f32⟩
  | .hbm, ⟨5, _⟩ => ⟨S1024x3x1x1024, .f32⟩
  | .hbm, ⟨6, _⟩ => ⟨S1024x3x1024, .f32⟩
  | .hbm, ⟨7, _⟩ => ⟨S1024x3072, .f32⟩
  | .hbm, ⟨8, _⟩ => ⟨S4096x3072, .f32⟩
  | .hbm, ⟨9, _⟩ => ⟨S3072x1024, .f32⟩
  | .hbm, ⟨10, _⟩ => ⟨S1024x3072, .f32⟩
  | .hbm, ⟨11, _⟩ => ⟨S1024x3x1024, .f32⟩
  | .hbm, ⟨12, _⟩ => ⟨S1024x3x1x1024, .f32⟩
  | .hbm, ⟨13, _⟩ => ⟨S_, .f32⟩
  | .hbm, ⟨14, _⟩ => ⟨S1024x3x3x1024, .f32⟩
  | .hbm, ⟨15, _⟩ => ⟨S1024x9216, .f32⟩
  | .hbm, ⟨16, _⟩ => ⟨S_, .f32⟩
  | .hbm, ⟨17, _⟩ => ⟨S1024x10240, .f32⟩
  | .hbm, ⟨18, _⟩ => ⟨S1024x2560, .f32⟩
  | .hbm, ⟨19, _⟩ => ⟨S1024x2560, .f32⟩
  | .hbm, ⟨20, _⟩ => ⟨S1024x2560, .f32⟩
  | .hbm, ⟨21, _⟩ => ⟨S1024x2560, .f32⟩
  | .hbm, ⟨22, _⟩ => ⟨S1x1024x2560, .f32⟩
  | .hbm, ⟨23, _⟩ => ⟨S1x1024x2560, .f32⟩
  | .hbm, ⟨24, _⟩ => ⟨S1x1024x2560, .f32⟩
  | .hbm, ⟨25, _⟩ => ⟨S1x1024x2560, .f32⟩
  | .hbm, ⟨26, _⟩ => ⟨S4x1024x2560, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== BInDx1.lean ====
abbrev S4096x1024 : Shape := ⟨2, ![4096, 1024]⟩
abbrev S1024x10240 : Shape := ⟨2, ![1024, 10240]⟩
abbrev S4096x3072 : Shape := ⟨2, ![4096, 3072]⟩
abbrev S1024x4x2560 : Shape := ⟨3, ![1024, 4, 2560]⟩
abbrev S4x1024x2560 : Shape := ⟨3, ![4, 1024, 2560]⟩
abbrev S2048x1024 : Shape := ⟨2, ![2048, 1024]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x3072, .f32⟩
  | .hbm, ⟨3, _⟩ => ⟨S4096x3072, .bf16⟩
  | .hbm, ⟨4, _⟩ => ⟨S1024x4x2560, .f32⟩
  | .hbm, ⟨5, _⟩ => ⟨S4x1024x2560, .f32⟩
  | .hbm, ⟨6, _⟩ => ⟨S4x1024x2560, .bf16⟩
  | .hbm, ⟨7, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 3], ![false, false]⟩

def k0_cond3 (i : grid0.Coords) : BitVec 1 :=
  let arg1 : BitVec 32 := BitVec.ofNat 32 (i 1).val
  let c2_i32_12 : BitVec 32 := 2#32
  let v19 : BitVec 1 := Scalar.cmpi .eq arg1 c2_i32_12
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c2_i32_0 : BitVec 32 := 2#32
  let v2 : BitVec 32 := Scalar.divsi v1 c2_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c2_i32_0 c0_i32_3
  let v9 : BitVec 32 := Scalar.extui v8
  let c0_i32_4 : BitVec 32 := 0#32
  let v10 : BitVec 1 := Scalar.cmpi .slt c2_i32_0 c0_i32_4
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c3_i32 : BitVec 32 := 3#32
  let v19 : BitVec 32 := Scalar.muli c3_i32 v18
  let c1_i32_6 : BitVec 32 := 1#32
  let v20 : BitVec 32 := Scalar.addi v19 c1_i32_6
  let c2_i32_7 : BitVec 32 := 2#32
  let v21 : BitVec 32 := Scalar.muli v20 c2_i32_7
  let c2_i32_8 : BitVec 32 := 2#32
  let c0_i32_9 : BitVec 32 := 0#32
  let v22 : BitVec 1 := Scalar.cmpi .eq c2_i32_8 c0_i32_9
  let c1_i32_10 : BitVec 32 := 1#32
  let v23 : BitVec 32 := Scalar.select v22 c1_i32_10 c2_i32_8
  let v24 : BitVec 32 := Scalar.remsi v1 v23
  let c0_i32_11 : BitVec 32 := 0#32
  let v25 : BitVec 1 := Scalar.cmpi .ne v24 c0_i32_11
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c5_i32 : BitVec 32 := 5#32
  let v33 : BitVec 32 := Scalar.divsi v32 c5_i32
  let c0_i32_14 : BitVec 32 := 0#32
  let v34 : BitVec 1 := Scalar.cmpi .sgt v32 c0_i32_14
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c0_i32_16 : BitVec 32 := 0#32
  let v39 : BitVec 1 := Scalar.cmpi .sgt c5_i32 c0_i32_16
  let v40 : BitVec 32 := Scalar.extui v39
  let c0_i32_17 : BitVec 32 := 0#32
  let v41 : BitVec 1 := Scalar.cmpi .slt c5_i32 c0_i32_17
  let v42 : BitVec 32 := Scalar.extui v41
  let v43 : BitVec 32 := Scalar.subi v40 v42
  let v44 : BitVec 1 := Scalar.cmpi .ne v38 v43
  let v45 : BitVec 32 := Scalar.remsi v32 c5_i32
  let c0_i32_18 : BitVec 32 := 0#32
  let v46 : BitVec 1 := Scalar.cmpi .ne v45 c0_i32_18
  let v47 : BitVec 1 := Scalar.andi v44 v46
  let c1_i32_19 : BitVec 32 := 1#32
  let v48 : BitVec 32 := Scalar.subi v33 c1_i32_19
  let v49 : BitVec 32 := Scalar.select v47 v48 v33
  let c5_i32_20 : BitVec 32 := 5#32
  let c0_i32_21 : BitVec 32 := 0#32
  let v50 : BitVec 1 := Scalar.cmpi .eq c5_i32_20 c0_i32_21
  let c1_i32_22 : BitVec 32 := 1#32
  let v51 : BitVec 32 := Scalar.select v50 c1_i32_22 c5_i32_20
  let v52 : BitVec 32 := Scalar.remsi v32 v51
  let c0_i32_23 : BitVec 32 := 0#32
  let v53 : BitVec 1 := Scalar.cmpi .ne v52 c0_i32_23
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let v57 : BitVec 1 := Scalar.andi v56 v53
  let v58 : BitVec 32 := Scalar.addi v52 v51
  let v59 : BitVec 32 := Scalar.select v57 v58 v52
  let c2_i32_26 : BitVec 32 := 2#32
  let v60 : BitVec 32 := Scalar.muli c2_i32_26 arg1
  let c0_i32_27 : BitVec 32 := 0#32
  let v61 : BitVec 32 := Scalar.addi v60 c0_i32_27
  let c2_i32_28 : BitVec 32 := 2#32
  let v62 : BitVec 32 := Scalar.divsi v61 c2_i32_28
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c0_i32_31 : BitVec 32 := 0#32
  let v68 : BitVec 1 := Scalar.cmpi .sgt c2_i32_28 c0_i32_31
  let v69 : BitVec 32 := Scalar.extui v68
  let c0_i32_32 : BitVec 32 := 0#32
  let v70 : BitVec 1 := Scalar.cmpi .slt c2_i32_28 c0_i32_32
  let v71 : BitVec 32 := Scalar.extui v70
  let v72 : BitVec 32 := Scalar.subi v69 v71
  let v73 : BitVec 1 := Scalar.cmpi .ne v67 v72
  let v74 : BitVec 32 := Scalar.remsi v61 c2_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c3_i32_35 : BitVec 32 := 3#32
  let v79 : BitVec 32 := Scalar.muli c3_i32_35 v78
  let c1_i32_36 : BitVec 32 := 1#32
  let v80 : BitVec 32 := Scalar.addi v79 c1_i32_36
  let c2_i32_37 : BitVec 32 := 2#32
  let v81 : BitVec 32 := Scalar.muli v80 c2_i32_37
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v61 v83
  let c0_i32_41 : BitVec 32 := 0#32
  let v85 : BitVec 1 := Scalar.cmpi .ne v84 c0_i32_41
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let v89 : BitVec 1 := Scalar.andi v88 v85
  let v90 : BitVec 32 := Scalar.addi v84 v83
  let v91 : BitVec 32 := Scalar.select v89 v90 v84
  let v92 : BitVec 32 := Scalar.addi v81 v91
  let c5_i32_44 : BitVec 32 := 5#32
  let v93 : BitVec 32 := Scalar.divsi v92 c5_i32_44
  let c0_i32_45 : BitVec 32 := 0#32
  let v94 : BitVec 1 := Scalar.cmpi .sgt v92 c0_i32_45
  let v95 : BitVec 32 := Scalar.extui v94
  let c0_i32_46 : BitVec 32 := 0#32
  let v96 : BitVec 1 := Scalar.cmpi .slt v92 c0_i32_46
  let v97 : BitVec 32 := Scalar.extui v96
  let v98 : BitVec 32 := Scalar.subi v95 v97
  let c0_i32_47 : BitVec 32 := 0#32
  let v99 : BitVec 1 := Scalar.cmpi .sgt c5_i32_44 c0_i32_47
  let v100 : BitVec 32 := Scalar.extui v99
  let c0_i32_48 : BitVec 32 := 0#32
  let v101 : BitVec 1 := Scalar.cmpi .slt c5_i32_44 c0_i32_48
  let v102 : BitVec 32 := Scalar.extui v101
  let v103 : BitVec 32 := Scalar.subi v100 v102
  let v104 : BitVec 1 := Scalar.cmpi .ne v98 v103
  let v105 : BitVec 32 := Scalar.remsi v92 c5_i32_44
  let c0_i32_49 : BitVec 32 := 0#32
  let v106 : BitVec 1 := Scalar.cmpi .ne v105 c0_i32_49
  let v107 : BitVec 1 := Scalar.andi v104 v106
  let c1_i32_50 : BitVec 32 := 1#32
  let v108 : BitVec 32 := Scalar.subi v93 c1_i32_50
  let v109 : BitVec 32 := Scalar.select v107 v108 v93
  let c5_i32_51 : BitVec 32 := 5#32
  let c0_i32_52 : BitVec 32 := 0#32
  let v110 : BitVec 1 := Scalar.cmpi .eq c5_i32_51 c0_i32_52
  let c1_i32_53 : BitVec 32 := 1#32
  let v111 : BitVec 32 := Scalar.select v110 c1_i32_53 c5_i32_51
  let v112 : BitVec 32 := Scalar.remsi v92 v111
  let c0_i32_54 : BitVec 32 := 0#32
  let v113 : BitVec 1 := Scalar.cmpi .ne v112 c0_i32_54
  let c0_i32_55 : BitVec 32 := 0#32
  let v114 : BitVec 1 := Scalar.cmpi .slt v112 c0_i32_55
  let c0_i32_56 : BitVec 32 := 0#32
  let v115 : BitVec 1 := Scalar.cmpi .slt v111 c0_i32_56
  let v116 : BitVec 1 := Scalar.xori v114 v115
  let v117 : BitVec 1 := Scalar.andi v116 v113
  let v118 : BitVec 32 := Scalar.addi v112 v111
  let v119 : BitVec 32 := Scalar.select v117 v118 v112
  let c0_i32_57 : BitVec 32 := 0#32
  let c0_i32_58 : BitVec 32 := 0#32
  ![v49.toNat, c0_i32_57.toNat, v119.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c2_i32_0 : BitVec 32 := 2#32
  let v2 : BitVec 32 := Scalar.divsi v1 c2_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c3_i32 : BitVec 32 := 3#32
  let v19 : BitVec 32 := Scalar.muli c3_i32 v18
  let c1_i32_6 : BitVec 32 := 1#32
  let v20 : BitVec 32 := Scalar.addi v19 c1_i32_6
  let c2_i32_7 : BitVec 32 := 2#32
  let v21 : BitVec 32 := Scalar.muli v20 c2_i32_7
  let c2_i32_8 : BitVec 32 := 2#32
  let c0_i32_9 : BitVec 32 := 0#32
  let v22 : BitVec 1 := Scalar.cmpi .eq c2_i32_8 c0_i32_9
  let c1_i32_10 : BitVec 32 := 1#32
  let v23 : BitVec 32 := Scalar.select v22 c1_i32_10 c2_i32_8
  let v24 : BitVec 32 := Scalar.remsi v1 v23
  let c0_i32_11 : BitVec 32 := 0#32
  let v25 : BitVec 1 := Scalar.cmpi .ne v24 c0_i32_11
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c5_i32 : BitVec 32 := 5#32
  let v33 : BitVec 32 := Scalar.divsi v32 c5_i32
  let c0_i32_14 : BitVec 32 := 0#32
  let v34 : BitVec 1 := Scalar.cmpi .sgt v32 c0_i32_14
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c0_i32_16 : BitVec 32 := 0#32
  let v39 : BitVec 1 := Scalar.cmpi .sgt c5_i32 c0_i32_16
  let v40 : BitVec 32 := Scalar.extui v39
  let c0_i32_17 : BitVec 32 := 0#32
  let v41 : BitVec 1 := Scalar.cmpi .slt c5_i32 c0_i32_17
  let v42 : BitVec 32 := Scalar.extui v41
  let v43 : BitVec 32 := Scalar.subi v40 v42
  let v44 : BitVec 1 := Scalar.cmpi .ne v38 v43
  let v45 : BitVec 32 := Scalar.remsi v32 c5_i32
  let c0_i32_18 : BitVec 32 := 0#32
  let v46 : BitVec 1 := Scalar.cmpi .ne v45 c0_i32_18
  let v47 : BitVec 1 := Scalar.andi v44 v46
  let c1_i32_19 : BitVec 32 := 1#32
  let v48 : BitVec 32 := Scalar.subi v33 c1_i32_19
  let v49 : BitVec 32 := Scalar.select v47 v48 v33
  let c5_i32_20 : BitVec 32 := 5#32
  let c0_i32_21 : BitVec 32 := 0#32
  let v50 : BitVec 1 := Scalar.cmpi .eq c5_i32_20 c0_i32_21
  let c1_i32_22 : BitVec 32 := 1#32
  let v51 : BitVec 32 := Scalar.select v50 c1_i32_22 c5_i32_20
  let v52 : BitVec 32 := Scalar.remsi v32 v51
  let c0_i32_23 : BitVec 32 := 0#32
  let v53 : BitVec 1 := Scalar.cmpi .ne v52 c0_i32_23
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let v57 : BitVec 1 := Scalar.andi v56 v53
  let v58 : BitVec 32 := Scalar.addi v52 v51
  let v59 : BitVec 32 := Scalar.select v57 v58 v52
  let c2_i32_26 : BitVec 32 := 2#32
  let v60 : BitVec 32 := Scalar.muli c2_i32_26 arg1
  let c1_i32_27 : BitVec 32 := 1#32
  let v61 : BitVec 32 := Scalar.addi v60 c1_i32_27
  let c2_i32_28 : BitVec 32 := 2#32
  let v62 : BitVec 32 := Scalar.divsi v61 c2_i32_28
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c0_i32_31 : BitVec 32 := 0#32
  let v68 : BitVec 1 := Scalar.cmpi .sgt c2_i32_28 c0_i32_31
  let v69 : BitVec 32 := Scalar.extui v68
  let c0_i32_32 : BitVec 32 := 0#32
  let v70 : BitVec 1 := Scalar.cmpi .slt c2_i32_28 c0_i32_32
  let v71 : BitVec 32 := Scalar.extui v70
  let v72 : BitVec 32 := Scalar.subi v69 v71
  let v73 : BitVec 1 := Scalar.cmpi .ne v67 v72
  let v74 : BitVec 32 := Scalar.remsi v61 c2_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c3_i32_35 : BitVec 32 := 3#32
  let v79 : BitVec 32 := Scalar.muli c3_i32_35 v78
  let c1_i32_36 : BitVec 32 := 1#32
  let v80 : BitVec 32 := Scalar.addi v79 c1_i32_36
  let c2_i32_37 : BitVec 32 := 2#32
  let v81 : BitVec 32 := Scalar.muli v80 c2_i32_37
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v61 v83
  let c0_i32_41 : BitVec 32 := 0#32
  let v85 : BitVec 1 := Scalar.cmpi .ne v84 c0_i32_41
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let v89 : BitVec 1 := Scalar.andi v88 v85
  let v90 : BitVec 32 := Scalar.addi v84 v83
  let v91 : BitVec 32 := Scalar.select v89 v90 v84
  let v92 : BitVec 32 := Scalar.addi v81 v91
  let c5_i32_44 : BitVec 32 := 5#32
  let v93 : BitVec 32 := Scalar.divsi v92 c5_i32_44
  let c0_i32_45 : BitVec 32 := 0#32
  let v94 : BitVec 1 := Scalar.cmpi .sgt v92 c0_i32_45
  let v95 : BitVec 32 := Scalar.extui v94
  let c0_i32_46 : BitVec 32 := 0#32
  let v96 : BitVec 1 := Scalar.cmpi .slt v92 c0_i32_46
  let v97 : BitVec 32 := Scalar.extui v96
  let v98 : BitVec 32 := Scalar.subi v95 v97
  let c0_i32_47 : BitVec 32 := 0#32
  let v99 : BitVec 1 := Scalar.cmpi .sgt c5_i32_44 c0_i32_47
  let v100 : BitVec 32 := Scalar.extui v99
  let c0_i32_48 : BitVec 32 := 0#32
  let v101 : BitVec 1 := Scalar.cmpi .slt c5_i32_44 c0_i32_48
  let v102 : BitVec 32 := Scalar.extui v101
  let v103 : BitVec 32 := Scalar.subi v100 v102
  let v104 : BitVec 1 := Scalar.cmpi .ne v98 v103
  let v105 : BitVec 32 := Scalar.remsi v92 c5_i32_44
  let c0_i32_49 : BitVec 32 := 0#32
  let v106 : BitVec 1 := Scalar.cmpi .ne v105 c0_i32_49
  let v107 : BitVec 1 := Scalar.andi v104 v106
  let c1_i32_50 : BitVec 32 := 1#32
  let v108 : BitVec 32 := Scalar.subi v93 c1_i32_50
  let v109 : BitVec 32 := Scalar.select v107 v108 v93
  let c5_i32_51 : BitVec 32 := 5#32
  let c0_i32_52 : BitVec 32 := 0#32
  let v110 : BitVec 1 := Scalar.cmpi .eq c5_i32_51 c0_i32_52
  let c1_i32_53 : BitVec 32 := 1#32
  let v111 : BitVec 32 := Scalar.select v110 c1_i32_53 c5_i32_51
  let v112 : BitVec 32 := Scalar.remsi v92 v111
  let c0_i32_54 : BitVec 32 := 0#32
  let v113 : BitVec 1 := Scalar.cmpi .ne v112 c0_i32_54
  let c0_i32_55 : BitVec 32 := 0#32
  let v114 : BitVec 1 := Scalar.cmpi .slt v112 c0_i32_55
  let c0_i32_56 : BitVec 32 := 0#32
  let v115 : BitVec 1 := Scalar.cmpi .slt v111 c0_i32_56
  let v116 : BitVec 1 := Scalar.xori v114 v115
  let v117 : BitVec 1 := Scalar.andi v116 v113
  let v118 : BitVec 32 := Scalar.addi v112 v111
  let v119 : BitVec 32 := Scalar.select v117 v118 v112
  let c0_i32_57 : BitVec 32 := 0#32
  let c0_i32_58 : BitVec 32 := 0#32
  ![v49.toNat, c0_i32_57.toNat, v119.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== BInDx1Ideal.lean ====
abbrev S4096x1024 : Shape := ⟨2, ![4096, 1024]⟩
abbrev S1024x10240 : Shape := ⟨2, ![1024, 10240]⟩
abbrev S4096x3072 : Shape := ⟨2, ![4096, 3072]⟩
abbrev S1024x4x2560 : Shape := ⟨3, ![1024, 4, 2560]⟩
abbrev S4x1024x2560 : Shape := ⟨3, ![4, 1024, 2560]⟩
abbrev S2048x1024 : Shape := ⟨2, ![2048, 1024]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x3072, .f32⟩
  | .hbm, ⟨3, _⟩ => ⟨S4096x3072, .bf16⟩
  | .hbm, ⟨4, _⟩ => ⟨S1024x4x2560, .f32⟩
  | .hbm, ⟨5, _⟩ => ⟨S4x1024x2560, .f32⟩
  | .hbm, ⟨6, _⟩ => ⟨S4x1024x2560, .bf16⟩
  | .hbm, ⟨7, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 3], ![false, false]⟩

def k0_cond3 (i : grid0.Coords) : BitVec 1 :=
  let arg1 : BitVec 32 := BitVec.ofNat 32 (i 1).val
  let c2_i32_12 : BitVec 32 := 2#32
  let v19 : BitVec 1 := Scalar.cmpi .eq arg1 c2_i32_12
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c2_i32_0 : BitVec 32 := 2#32
  let v2 : BitVec 32 := Scalar.divsi v1 c2_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c2_i32_0 c0_i32_3
  let v9 : BitVec 32 := Scalar.extui v8
  let c0_i32_4 : BitVec 32 := 0#32
  let v10 : BitVec 1 := Scalar.cmpi .slt c2_i32_0 c0_i32_4
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c3_i32 : BitVec 32 := 3#32
  let v19 : BitVec 32 := Scalar.muli c3_i32 v18
  let c1_i32_6 : BitVec 32 := 1#32
  let v20 : BitVec 32 := Scalar.addi v19 c1_i32_6
  let c2_i32_7 : BitVec 32 := 2#32
  let v21 : BitVec 32 := Scalar.muli v20 c2_i32_7
  let c2_i32_8 : BitVec 32 := 2#32
  let c0_i32_9 : BitVec 32 := 0#32
  let v22 : BitVec 1 := Scalar.cmpi .eq c2_i32_8 c0_i32_9
  let c1_i32_10 : BitVec 32 := 1#32
  let v23 : BitVec 32 := Scalar.select v22 c1_i32_10 c2_i32_8
  let v24 : BitVec 32 := Scalar.remsi v1 v23
  let c0_i32_11 : BitVec 32 := 0#32
  let v25 : BitVec 1 := Scalar.cmpi .ne v24 c0_i32_11
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c5_i32 : BitVec 32 := 5#32
  let v33 : BitVec 32 := Scalar.divsi v32 c5_i32
  let c0_i32_14 : BitVec 32 := 0#32
  let v34 : BitVec 1 := Scalar.cmpi .sgt v32 c0_i32_14
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c0_i32_16 : BitVec 32 := 0#32
  let v39 : BitVec 1 := Scalar.cmpi .sgt c5_i32 c0_i32_16
  let v40 : BitVec 32 := Scalar.extui v39
  let c0_i32_17 : BitVec 32 := 0#32
  let v41 : BitVec 1 := Scalar.cmpi .slt c5_i32 c0_i32_17
  let v42 : BitVec 32 := Scalar.extui v41
  let v43 : BitVec 32 := Scalar.subi v40 v42
  let v44 : BitVec 1 := Scalar.cmpi .ne v38 v43
  let v45 : BitVec 32 := Scalar.remsi v32 c5_i32
  let c0_i32_18 : BitVec 32 := 0#32
  let v46 : BitVec 1 := Scalar.cmpi .ne v45 c0_i32_18
  let v47 : BitVec 1 := Scalar.andi v44 v46
  let c1_i32_19 : BitVec 32 := 1#32
  let v48 : BitVec 32 := Scalar.subi v33 c1_i32_19
  let v49 : BitVec 32 := Scalar.select v47 v48 v33
  let c5_i32_20 : BitVec 32 := 5#32
  let c0_i32_21 : BitVec 32 := 0#32
  let v50 : BitVec 1 := Scalar.cmpi .eq c5_i32_20 c0_i32_21
  let c1_i32_22 : BitVec 32 := 1#32
  let v51 : BitVec 32 := Scalar.select v50 c1_i32_22 c5_i32_20
  let v52 : BitVec 32 := Scalar.remsi v32 v51
  let c0_i32_23 : BitVec 32 := 0#32
  let v53 : BitVec 1 := Scalar.cmpi .ne v52 c0_i32_23
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let v57 : BitVec 1 := Scalar.andi v56 v53
  let v58 : BitVec 32 := Scalar.addi v52 v51
  let v59 : BitVec 32 := Scalar.select v57 v58 v52
  let c2_i32_26 : BitVec 32 := 2#32
  let v60 : BitVec 32 := Scalar.muli c2_i32_26 arg1
  let c0_i32_27 : BitVec 32 := 0#32
  let v61 : BitVec 32 := Scalar.addi v60 c0_i32_27
  let c2_i32_28 : BitVec 32 := 2#32
  let v62 : BitVec 32 := Scalar.divsi v61 c2_i32_28
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c0_i32_31 : BitVec 32 := 0#32
  let v68 : BitVec 1 := Scalar.cmpi .sgt c2_i32_28 c0_i32_31
  let v69 : BitVec 32 := Scalar.extui v68
  let c0_i32_32 : BitVec 32 := 0#32
  let v70 : BitVec 1 := Scalar.cmpi .slt c2_i32_28 c0_i32_32
  let v71 : BitVec 32 := Scalar.extui v70
  let v72 : BitVec 32 := Scalar.subi v69 v71
  let v73 : BitVec 1 := Scalar.cmpi .ne v67 v72
  let v74 : BitVec 32 := Scalar.remsi v61 c2_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c3_i32_35 : BitVec 32 := 3#32
  let v79 : BitVec 32 := Scalar.muli c3_i32_35 v78
  let c1_i32_36 : BitVec 32 := 1#32
  let v80 : BitVec 32 := Scalar.addi v79 c1_i32_36
  let c2_i32_37 : BitVec 32 := 2#32
  let v81 : BitVec 32 := Scalar.muli v80 c2_i32_37
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v61 v83
  let c0_i32_41 : BitVec 32 := 0#32
  let v85 : BitVec 1 := Scalar.cmpi .ne v84 c0_i32_41
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let v89 : BitVec 1 := Scalar.andi v88 v85
  let v90 : BitVec 32 := Scalar.addi v84 v83
  let v91 : BitVec 32 := Scalar.select v89 v90 v84
  let v92 : BitVec 32 := Scalar.addi v81 v91
  let c5_i32_44 : BitVec 32 := 5#32
  let v93 : BitVec 32 := Scalar.divsi v92 c5_i32_44
  let c0_i32_45 : BitVec 32 := 0#32
  let v94 : BitVec 1 := Scalar.cmpi .sgt v92 c0_i32_45
  let v95 : BitVec 32 := Scalar.extui v94
  let c0_i32_46 : BitVec 32 := 0#32
  let v96 : BitVec 1 := Scalar.cmpi .slt v92 c0_i32_46
  let v97 : BitVec 32 := Scalar.extui v96
  let v98 : BitVec 32 := Scalar.subi v95 v97
  let c0_i32_47 : BitVec 32 := 0#32
  let v99 : BitVec 1 := Scalar.cmpi .sgt c5_i32_44 c0_i32_47
  let v100 : BitVec 32 := Scalar.extui v99
  let c0_i32_48 : BitVec 32 := 0#32
  let v101 : BitVec 1 := Scalar.cmpi .slt c5_i32_44 c0_i32_48
  let v102 : BitVec 32 := Scalar.extui v101
  let v103 : BitVec 32 := Scalar.subi v100 v102
  let v104 : BitVec 1 := Scalar.cmpi .ne v98 v103
  let v105 : BitVec 32 := Scalar.remsi v92 c5_i32_44
  let c0_i32_49 : BitVec 32 := 0#32
  let v106 : BitVec 1 := Scalar.cmpi .ne v105 c0_i32_49
  let v107 : BitVec 1 := Scalar.andi v104 v106
  let c1_i32_50 : BitVec 32 := 1#32
  let v108 : BitVec 32 := Scalar.subi v93 c1_i32_50
  let v109 : BitVec 32 := Scalar.select v107 v108 v93
  let c5_i32_51 : BitVec 32 := 5#32
  let c0_i32_52 : BitVec 32 := 0#32
  let v110 : BitVec 1 := Scalar.cmpi .eq c5_i32_51 c0_i32_52
  let c1_i32_53 : BitVec 32 := 1#32
  let v111 : BitVec 32 := Scalar.select v110 c1_i32_53 c5_i32_51
  let v112 : BitVec 32 := Scalar.remsi v92 v111
  let c0_i32_54 : BitVec 32 := 0#32
  let v113 : BitVec 1 := Scalar.cmpi .ne v112 c0_i32_54
  let c0_i32_55 : BitVec 32 := 0#32
  let v114 : BitVec 1 := Scalar.cmpi .slt v112 c0_i32_55
  let c0_i32_56 : BitVec 32 := 0#32
  let v115 : BitVec 1 := Scalar.cmpi .slt v111 c0_i32_56
  let v116 : BitVec 1 := Scalar.xori v114 v115
  let v117 : BitVec 1 := Scalar.andi v116 v113
  let v118 : BitVec 32 := Scalar.addi v112 v111
  let v119 : BitVec 32 := Scalar.select v117 v118 v112
  let c0_i32_57 : BitVec 32 := 0#32
  let c0_i32_58 : BitVec 32 := 0#32
  ![v49.toNat, c0_i32_57.toNat, v119.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c2_i32_0 : BitVec 32 := 2#32
  let v2 : BitVec 32 := Scalar.divsi v1 c2_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c3_i32 : BitVec 32 := 3#32
  let v19 : BitVec 32 := Scalar.muli c3_i32 v18
  let c1_i32_6 : BitVec 32 := 1#32
  let v20 : BitVec 32 := Scalar.addi v19 c1_i32_6
  let c2_i32_7 : BitVec 32 := 2#32
  let v21 : BitVec 32 := Scalar.muli v20 c2_i32_7
  let c2_i32_8 : BitVec 32 := 2#32
  let c0_i32_9 : BitVec 32 := 0#32
  let v22 : BitVec 1 := Scalar.cmpi .eq c2_i32_8 c0_i32_9
  let c1_i32_10 : BitVec 32 := 1#32
  let v23 : BitVec 32 := Scalar.select v22 c1_i32_10 c2_i32_8
  let v24 : BitVec 32 := Scalar.remsi v1 v23
  let c0_i32_11 : BitVec 32 := 0#32
  let v25 : BitVec 1 := Scalar.cmpi .ne v24 c0_i32_11
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c5_i32 : BitVec 32 := 5#32
  let v33 : BitVec 32 := Scalar.divsi v32 c5_i32
  let c0_i32_14 : BitVec 32 := 0#32
  let v34 : BitVec 1 := Scalar.cmpi .sgt v32 c0_i32_14
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c0_i32_16 : BitVec 32 := 0#32
  let v39 : BitVec 1 := Scalar.cmpi .sgt c5_i32 c0_i32_16
  let v40 : BitVec 32 := Scalar.extui v39
  let c0_i32_17 : BitVec 32 := 0#32
  let v41 : BitVec 1 := Scalar.cmpi .slt c5_i32 c0_i32_17
  let v42 : BitVec 32 := Scalar.extui v41
  let v43 : BitVec 32 := Scalar.subi v40 v42
  let v44 : BitVec 1 := Scalar.cmpi .ne v38 v43
  let v45 : BitVec 32 := Scalar.remsi v32 c5_i32
  let c0_i32_18 : BitVec 32 := 0#32
  let v46 : BitVec 1 := Scalar.cmpi .ne v45 c0_i32_18
  let v47 : BitVec 1 := Scalar.andi v44 v46
  let c1_i32_19 : BitVec 32 := 1#32
  let v48 : BitVec 32 := Scalar.subi v33 c1_i32_19
  let v49 : BitVec 32 := Scalar.select v47 v48 v33
  let c5_i32_20 : BitVec 32 := 5#32
  let c0_i32_21 : BitVec 32 := 0#32
  let v50 : BitVec 1 := Scalar.cmpi .eq c5_i32_20 c0_i32_21
  let c1_i32_22 : BitVec 32 := 1#32
  let v51 : BitVec 32 := Scalar.select v50 c1_i32_22 c5_i32_20
  let v52 : BitVec 32 := Scalar.remsi v32 v51
  let c0_i32_23 : BitVec 32 := 0#32
  let v53 : BitVec 1 := Scalar.cmpi .ne v52 c0_i32_23
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let v57 : BitVec 1 := Scalar.andi v56 v53
  let v58 : BitVec 32 := Scalar.addi v52 v51
  let v59 : BitVec 32 := Scalar.select v57 v58 v52
  let c2_i32_26 : BitVec 32 := 2#32
  let v60 : BitVec 32 := Scalar.muli c2_i32_26 arg1
  let c1_i32_27 : BitVec 32 := 1#32
  let v61 : BitVec 32 := Scalar.addi v60 c1_i32_27
  let c2_i32_28 : BitVec 32 := 2#32
  let v62 : BitVec 32 := Scalar.divsi v61 c2_i32_28
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c0_i32_31 : BitVec 32 := 0#32
  let v68 : BitVec 1 := Scalar.cmpi .sgt c2_i32_28 c0_i32_31
  let v69 : BitVec 32 := Scalar.extui v68
  let c0_i32_32 : BitVec 32 := 0#32
  let v70 : BitVec 1 := Scalar.cmpi .slt c2_i32_28 c0_i32_32
  let v71 : BitVec 32 := Scalar.extui v70
  let v72 : BitVec 32 := Scalar.subi v69 v71
  let v73 : BitVec 1 := Scalar.cmpi .ne v67 v72
  let v74 : BitVec 32 := Scalar.remsi v61 c2_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c3_i32_35 : BitVec 32 := 3#32
  let v79 : BitVec 32 := Scalar.muli c3_i32_35 v78
  let c1_i32_36 : BitVec 32 := 1#32
  let v80 : BitVec 32 := Scalar.addi v79 c1_i32_36
  let c2_i32_37 : BitVec 32 := 2#32
  let v81 : BitVec 32 := Scalar.muli v80 c2_i32_37
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v61 v83
  let c0_i32_41 : BitVec 32 := 0#32
  let v85 : BitVec 1 := Scalar.cmpi .ne v84 c0_i32_41
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let v89 : BitVec 1 := Scalar.andi v88 v85
  let v90 : BitVec 32 := Scalar.addi v84 v83
  let v91 : BitVec 32 := Scalar.select v89 v90 v84
  let v92 : BitVec 32 := Scalar.addi v81 v91
  let c5_i32_44 : BitVec 32 := 5#32
  let v93 : BitVec 32 := Scalar.divsi v92 c5_i32_44
  let c0_i32_45 : BitVec 32 := 0#32
  let v94 : BitVec 1 := Scalar.cmpi .sgt v92 c0_i32_45
  let v95 : BitVec 32 := Scalar.extui v94
  let c0_i32_46 : BitVec 32 := 0#32
  let v96 : BitVec 1 := Scalar.cmpi .slt v92 c0_i32_46
  let v97 : BitVec 32 := Scalar.extui v96
  let v98 : BitVec 32 := Scalar.subi v95 v97
  let c0_i32_47 : BitVec 32 := 0#32
  let v99 : BitVec 1 := Scalar.cmpi .sgt c5_i32_44 c0_i32_47
  let v100 : BitVec 32 := Scalar.extui v99
  let c0_i32_48 : BitVec 32 := 0#32
  let v101 : BitVec 1 := Scalar.cmpi .slt c5_i32_44 c0_i32_48
  let v102 : BitVec 32 := Scalar.extui v101
  let v103 : BitVec 32 := Scalar.subi v100 v102
  let v104 : BitVec 1 := Scalar.cmpi .ne v98 v103
  let v105 : BitVec 32 := Scalar.remsi v92 c5_i32_44
  let c0_i32_49 : BitVec 32 := 0#32
  let v106 : BitVec 1 := Scalar.cmpi .ne v105 c0_i32_49
  let v107 : BitVec 1 := Scalar.andi v104 v106
  let c1_i32_50 : BitVec 32 := 1#32
  let v108 : BitVec 32 := Scalar.subi v93 c1_i32_50
  let v109 : BitVec 32 := Scalar.select v107 v108 v93
  let c5_i32_51 : BitVec 32 := 5#32
  let c0_i32_52 : BitVec 32 := 0#32
  let v110 : BitVec 1 := Scalar.cmpi .eq c5_i32_51 c0_i32_52
  let c1_i32_53 : BitVec 32 := 1#32
  let v111 : BitVec 32 := Scalar.select v110 c1_i32_53 c5_i32_51
  let v112 : BitVec 32 := Scalar.remsi v92 v111
  let c0_i32_54 : BitVec 32 := 0#32
  let v113 : BitVec 1 := Scalar.cmpi .ne v112 c0_i32_54
  let c0_i32_55 : BitVec 32 := 0#32
  let v114 : BitVec 1 := Scalar.cmpi .slt v112 c0_i32_55
  let c0_i32_56 : BitVec 32 := 0#32
  let v115 : BitVec 1 := Scalar.cmpi .slt v111 c0_i32_56
  let v116 : BitVec 1 := Scalar.xori v114 v115
  let v117 : BitVec 1 := Scalar.andi v116 v113
  let v118 : BitVec 32 := Scalar.addi v112 v111
  let v119 : BitVec 32 := Scalar.select v117 v118 v112
  let c0_i32_57 : BitVec 32 := 0#32
  let c0_i32_58 : BitVec 32 := 0#32
  ![v49.toNat, c0_i32_57.toNat, v119.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== BInDx1RefIdeal.lean ====
abbrev S4096x1024 : Shape := ⟨2, ![4096, 1024]⟩
abbrev S1024x10240 : Shape := ⟨2, ![1024, 10240]⟩
abbrev S4096x3072 : Shape := ⟨2, ![4096, 3072]⟩
abbrev S1024x9216 : Shape := ⟨2, ![1024, 9216]⟩
abbrev S1024x3x3x1024 : Shape := ⟨4, ![1024, 3, 3, 1024]⟩
abbrev S1024x3x1x1024 : Shape := ⟨4, ![1024, 3, 1, 1024]⟩
abbrev S1024x3x1024 : Shape := ⟨3, ![1024, 3, 1024]⟩
abbrev S1024x3072 : Shape := ⟨2, ![1024, 3072]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x3072, .f32⟩
  | .hbm, ⟨3, _⟩ => ⟨S1024x9216, .f32⟩
  | .hbm, ⟨4, _⟩ => ⟨S1024x3x3x1024, .f32⟩
  | .hbm, ⟨5, _⟩ => ⟨S1024x3x1x1024, .f32⟩
  | .hbm, ⟨6, _⟩ => ⟨S1024x3x1024, .f32⟩
  | .hbm, ⟨7, _⟩ => ⟨S1024x3072, .f32⟩
  | .hbm, ⟨8, _⟩ => ⟨S4096x3072, .f32⟩
  | .hbm, ⟨9, _⟩ => ⟨S4096x1024, .f32⟩
  | .hbm, ⟨10, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== BIn1.lean ====
abbrev S4096x1024 : Shape := ⟨2, ![4096, 1024]⟩
abbrev S1024x10240 : Shape := ⟨2, ![1024, 10240]⟩
abbrev S1024x4x2560 : Shape := ⟨3, ![1024, 4, 2560]⟩
abbrev S4x1024x2560 : Shape := ⟨3, ![4, 1024, 2560]⟩
abbrev S4096x3072 : Shape := ⟨2, ![4096, 3072]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x1024, .bf16⟩
  | .hbm, ⟨3, _⟩ => ⟨S1024x4x2560, .f32⟩
  | .hbm, ⟨4, _⟩ => ⟨S4x1024x2560, .f32⟩
  | .hbm, ⟨5, _⟩ => ⟨S4x1024x2560, .bf16⟩
  | .hbm, ⟨6, _⟩ => ⟨S4096x3072, .bf16⟩
  | .local _ .vmem, ⟨0, _⟩ => ⟨S4096x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S4096x512, .bf16⟩
  | .local _ .vmem, ⟨4, _⟩ => ⟨S4096x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli c3_i32 v16
  let c1_i32_4 : BitVec 32 := 1#32
  let v18 : BitVec 32 := Scalar.addi v17 c1_i32_4
  let c2_i32_5 : BitVec 32 := 2#32
  let v19 : BitVec 32 := Scalar.muli v18 c2_i32_5
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c5_i32 : BitVec 32 := 5#32
  let v31 : BitVec 32 := Scalar.divsi v30 c5_i32
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c5_i32 c0_i32_14
  let v38 : BitVec 32 := Scalar.extui v37
  let c0_i32_15 : BitVec 32 := 0#32
  let v39 : BitVec 1 := Scalar.cmpi .slt c5_i32 c0_i32_15
  let v40 : BitVec 32 := Scalar.extui v39
  let v41 : BitVec 32 := Scalar.subi v38 v40
  let v42 : BitVec 1 := Scalar.cmpi .ne v36 v41
  let v43 : BitVec 32 := Scalar.remsi v30 c5_i32
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c5_i32_18 : BitVec 32 := 5#32
  let c0_i32_19 : BitVec 32 := 0#32
  let v48 : BitVec 1 := Scalar.cmpi .eq c5_i32_18 c0_i32_19
  let c1_i32_20 : BitVec 32 := 1#32
  let v49 : BitVec 32 := Scalar.select v48 c1_i32_20 c5_i32_18
  let v50 : BitVec 32 := Scalar.remsi v30 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let c2_i32_24 : BitVec 32 := 2#32
  let v58 : BitVec 32 := Scalar.divsi arg1 c2_i32_24
  let c0_i32_25 : BitVec 32 := 0#32
  let v59 : BitVec 1 := Scalar.cmpi .sgt arg1 c0_i32_25
  let v60 : BitVec 32 := Scalar.extui v59
  let c0_i32_26 : BitVec 32 := 0#32
  let v61 : BitVec 1 := Scalar.cmpi .slt arg1 c0_i32_26
  let v62 : BitVec 32 := Scalar.extui v61
  let v63 : BitVec 32 := Scalar.subi v60 v62
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi arg1 c2_i32_24
  let c0_i32_29 : BitVec 32 := 0#32
  let v71 : BitVec 1 := Scalar.cmpi .ne v70 c0_i32_29
  let v72 : BitVec 1 := Scalar.andi v69 v71
  let c1_i32_30 : BitVec 32 := 1#32
  let v73 : BitVec 32 := Scalar.subi v58 c1_i32_30
  let v74 : BitVec 32 := Scalar.select v72 v73 v58
  let c3_i32_31 : BitVec 32 := 3#32
  let v75 : BitVec 32 := Scalar.muli c3_i32_31 v74
  let c1_i32_32 : BitVec 32 := 1#32
  let v76 : BitVec 32 := Scalar.addi v75 c1_i32_32
  let c2_i32_33 : BitVec 32 := 2#32
  let v77 : BitVec 32 := Scalar.muli v76 c2_i32_33
  let c2_i32_34 : BitVec 32 := 2#32
  let c0_i32_35 : BitVec 32 := 0#32
  let v78 : BitVec 1 := Scalar.cmpi .eq c2_i32_34 c0_i32_35
  let c1_i32_36 : BitVec 32 := 1#32
  let v79 : BitVec 32 := Scalar.select v78 c1_i32_36 c2_i32_34
  let v80 : BitVec 32 := Scalar.remsi arg1 v79
  let c0_i32_37 : BitVec 32 := 0#32
  let v81 : BitVec 1 := Scalar.cmpi .ne v80 c0_i32_37
  let c0_i32_38 : BitVec 32 := 0#32
  let v82 : BitVec 1 := Scalar.cmpi .slt v80 c0_i32_38
  let c0_i32_39 : BitVec 32 := 0#32
  let v83 : BitVec 1 := Scalar.cmpi .slt v79 c0_i32_39
  let v84 : BitVec 1 := Scalar.xori v82 v83
  let v85 : BitVec 1 := Scalar.andi v84 v81
  let v86 : BitVec 32 := Scalar.addi v80 v79
  let v87 : BitVec 32 := Scalar.select v85 v86 v80
  let v88 : BitVec 32 := Scalar.addi v77 v87
  let c5_i32_40 : BitVec 32 := 5#32
  let v89 : BitVec 32 := Scalar.divsi v88 c5_i32_40
  let c0_i32_41 : BitVec 32 := 0#32
  let v90 : BitVec 1 := Scalar.cmpi .sgt v88 c0_i32_41
  let v91 : BitVec 32 := Scalar.extui v90
  let c0_i32_42 : BitVec 32 := 0#32
  let v92 : BitVec 1 := Scalar.cmpi .slt v88 c0_i32_42
  let v93 : BitVec 32 := Scalar.extui v92
  let v94 : BitVec 32 := Scalar.subi v91 v93
  let c0_i32_43 : BitVec 32 := 0#32
  let v95 : BitVec 1 := Scalar.cmpi .sgt c5_i32_40 c0_i32_43
  let v96 : BitVec 32 := Scalar.extui v95
  let c0_i32_44 : BitVec 32 := 0#32
  let v97 : BitVec 1 := Scalar.cmpi .slt c5_i32_40 c0_i32_44
  let v98 : BitVec 32 := Scalar.extui v97
  let v99 : BitVec 32 := Scalar.subi v96 v98
  let v100 : BitVec 1 := Scalar.cmpi .ne v94 v99
  let v101 : BitVec 32 := Scalar.remsi v88 c5_i32_40
  let c0_i32_45 : BitVec 32 := 0#32
  let v102 : BitVec 1 := Scalar.cmpi .ne v101 c0_i32_45
  let v103 : BitVec 1 := Scalar.andi v100 v102
  let c1_i32_46 : BitVec 32 := 1#32
  let v104 : BitVec 32 := Scalar.subi v89 c1_i32_46
  let v105 : BitVec 32 := Scalar.select v103 v104 v89
  let c5_i32_47 : BitVec 32 := 5#32
  let c0_i32_48 : BitVec 32 := 0#32
  let v106 : BitVec 1 := Scalar.cmpi .eq c5_i32_47 c0_i32_48
  let c1_i32_49 : BitVec 32 := 1#32
  let v107 : BitVec 32 := Scalar.select v106 c1_i32_49 c5_i32_47
  let v108 : BitVec 32 := Scalar.remsi v88 v107
  let c0_i32_50 : BitVec 32 := 0#32
  let v109 : BitVec 1 := Scalar.cmpi .ne v108 c0_i32_50
  let c0_i32_51 : BitVec 32 := 0#32
  let v110 : BitVec 1 := Scalar.cmpi .slt v108 c0_i32_51
  let c0_i32_52 : BitVec 32 := 0#32
  let v111 : BitVec 1 := Scalar.cmpi .slt v107 c0_i32_52
  let v112 : BitVec 1 := Scalar.xori v110 v111
  let v113 : BitVec 1 := Scalar.andi v112 v109
  let v114 : BitVec 32 := Scalar.addi v108 v107
  let v115 : BitVec 32 := Scalar.select v113 v114 v108
  let c0_i32_53 : BitVec 32 := 0#32
  ![v47.toNat, arg2.toNat, v115.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BIn1Ideal.lean ====
abbrev S4096x1024 : Shape := ⟨2, ![4096, 1024]⟩
abbrev S1024x10240 : Shape := ⟨2, ![1024, 10240]⟩
abbrev S1024x4x2560 : Shape := ⟨3, ![1024, 4, 2560]⟩
abbrev S4x1024x2560 : Shape := ⟨3, ![4, 1024, 2560]⟩
abbrev S4096x3072 : Shape := ⟨2, ![4096, 3072]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x1024, .bf16⟩
  | .hbm, ⟨3, _⟩ => ⟨S1024x4x2560, .f32⟩
  | .hbm, ⟨4, _⟩ => ⟨S4x1024x2560, .f32⟩
  | .hbm, ⟨5, _⟩ => ⟨S4x1024x2560, .bf16⟩
  | .hbm, ⟨6, _⟩ => ⟨S4096x3072, .bf16⟩
  | .local _ .vmem, ⟨0, _⟩ => ⟨S4096x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S4096x512, .bf16⟩
  | .local _ .vmem, ⟨4, _⟩ => ⟨S4096x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli c3_i32 v16
  let c1_i32_4 : BitVec 32 := 1#32
  let v18 : BitVec 32 := Scalar.addi v17 c1_i32_4
  let c2_i32_5 : BitVec 32 := 2#32
  let v19 : BitVec 32 := Scalar.muli v18 c2_i32_5
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c5_i32 : BitVec 32 := 5#32
  let v31 : BitVec 32 := Scalar.divsi v30 c5_i32
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c5_i32 c0_i32_14
  let v38 : BitVec 32 := Scalar.extui v37
  let c0_i32_15 : BitVec 32 := 0#32
  let v39 : BitVec 1 := Scalar.cmpi .slt c5_i32 c0_i32_15
  let v40 : BitVec 32 := Scalar.extui v39
  let v41 : BitVec 32 := Scalar.subi v38 v40
  let v42 : BitVec 1 := Scalar.cmpi .ne v36 v41
  let v43 : BitVec 32 := Scalar.remsi v30 c5_i32
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c5_i32_18 : BitVec 32 := 5#32
  let c0_i32_19 : BitVec 32 := 0#32
  let v48 : BitVec 1 := Scalar.cmpi .eq c5_i32_18 c0_i32_19
  let c1_i32_20 : BitVec 32 := 1#32
  let v49 : BitVec 32 := Scalar.select v48 c1_i32_20 c5_i32_18
  let v50 : BitVec 32 := Scalar.remsi v30 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let c2_i32_24 : BitVec 32 := 2#32
  let v58 : BitVec 32 := Scalar.divsi arg1 c2_i32_24
  let c0_i32_25 : BitVec 32 := 0#32
  let v59 : BitVec 1 := Scalar.cmpi .sgt arg1 c0_i32_25
  let v60 : BitVec 32 := Scalar.extui v59
  let c0_i32_26 : BitVec 32 := 0#32
  let v61 : BitVec 1 := Scalar.cmpi .slt arg1 c0_i32_26
  let v62 : BitVec 32 := Scalar.extui v61
  let v63 : BitVec 32 := Scalar.subi v60 v62
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi arg1 c2_i32_24
  let c0_i32_29 : BitVec 32 := 0#32
  let v71 : BitVec 1 := Scalar.cmpi .ne v70 c0_i32_29
  let v72 : BitVec 1 := Scalar.andi v69 v71
  let c1_i32_30 : BitVec 32 := 1#32
  let v73 : BitVec 32 := Scalar.subi v58 c1_i32_30
  let v74 : BitVec 32 := Scalar.select v72 v73 v58
  let c3_i32_31 : BitVec 32 := 3#32
  let v75 : BitVec 32 := Scalar.muli c3_i32_31 v74
  let c1_i32_32 : BitVec 32 := 1#32
  let v76 : BitVec 32 := Scalar.addi v75 c1_i32_32
  let c2_i32_33 : BitVec 32 := 2#32
  let v77 : BitVec 32 := Scalar.muli v76 c2_i32_33
  let c2_i32_34 : BitVec 32 := 2#32
  let c0_i32_35 : BitVec 32 := 0#32
  let v78 : BitVec 1 := Scalar.cmpi .eq c2_i32_34 c0_i32_35
  let c1_i32_36 : BitVec 32 := 1#32
  let v79 : BitVec 32 := Scalar.select v78 c1_i32_36 c2_i32_34
  let v80 : BitVec 32 := Scalar.remsi arg1 v79
  let c0_i32_37 : BitVec 32 := 0#32
  let v81 : BitVec 1 := Scalar.cmpi .ne v80 c0_i32_37
  let c0_i32_38 : BitVec 32 := 0#32
  let v82 : BitVec 1 := Scalar.cmpi .slt v80 c0_i32_38
  let c0_i32_39 : BitVec 32 := 0#32
  let v83 : BitVec 1 := Scalar.cmpi .slt v79 c0_i32_39
  let v84 : BitVec 1 := Scalar.xori v82 v83
  let v85 : BitVec 1 := Scalar.andi v84 v81
  let v86 : BitVec 32 := Scalar.addi v80 v79
  let v87 : BitVec 32 := Scalar.select v85 v86 v80
  let v88 : BitVec 32 := Scalar.addi v77 v87
  let c5_i32_40 : BitVec 32 := 5#32
  let v89 : BitVec 32 := Scalar.divsi v88 c5_i32_40
  let c0_i32_41 : BitVec 32 := 0#32
  let v90 : BitVec 1 := Scalar.cmpi .sgt v88 c0_i32_41
  let v91 : BitVec 32 := Scalar.extui v90
  let c0_i32_42 : BitVec 32 := 0#32
  let v92 : BitVec 1 := Scalar.cmpi .slt v88 c0_i32_42
  let v93 : BitVec 32 := Scalar.extui v92
  let v94 : BitVec 32 := Scalar.subi v91 v93
  let c0_i32_43 : BitVec 32 := 0#32
  let v95 : BitVec 1 := Scalar.cmpi .sgt c5_i32_40 c0_i32_43
  let v96 : BitVec 32 := Scalar.extui v95
  let c0_i32_44 : BitVec 32 := 0#32
  let v97 : BitVec 1 := Scalar.cmpi .slt c5_i32_40 c0_i32_44
  let v98 : BitVec 32 := Scalar.extui v97
  let v99 : BitVec 32 := Scalar.subi v96 v98
  let v100 : BitVec 1 := Scalar.cmpi .ne v94 v99
  let v101 : BitVec 32 := Scalar.remsi v88 c5_i32_40
  let c0_i32_45 : BitVec 32 := 0#32
  let v102 : BitVec 1 := Scalar.cmpi .ne v101 c0_i32_45
  let v103 : BitVec 1 := Scalar.andi v100 v102
  let c1_i32_46 : BitVec 32 := 1#32
  let v104 : BitVec 32 := Scalar.subi v89 c1_i32_46
  let v105 : BitVec 32 := Scalar.select v103 v104 v89
  let c5_i32_47 : BitVec 32 := 5#32
  let c0_i32_48 : BitVec 32 := 0#32
  let v106 : BitVec 1 := Scalar.cmpi .eq c5_i32_47 c0_i32_48
  let c1_i32_49 : BitVec 32 := 1#32
  let v107 : BitVec 32 := Scalar.select v106 c1_i32_49 c5_i32_47
  let v108 : BitVec 32 := Scalar.remsi v88 v107
  let c0_i32_50 : BitVec 32 := 0#32
  let v109 : BitVec 1 := Scalar.cmpi .ne v108 c0_i32_50
  let c0_i32_51 : BitVec 32 := 0#32
  let v110 : BitVec 1 := Scalar.cmpi .slt v108 c0_i32_51
  let c0_i32_52 : BitVec 32 := 0#32
  let v111 : BitVec 1 := Scalar.cmpi .slt v107 c0_i32_52
  let v112 : BitVec 1 := Scalar.xori v110 v111
  let v113 : BitVec 1 := Scalar.andi v112 v109
  let v114 : BitVec 32 := Scalar.addi v108 v107
  let v115 : BitVec 32 := Scalar.select v113 v114 v108
  let c0_i32_53 : BitVec 32 := 0#32
  ![v47.toNat, arg2.toNat, v115.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BIn1RefIdeal.lean ====
abbrev S4096x1024 : Shape := ⟨2, ![4096, 1024]⟩
abbrev S1024x10240 : Shape := ⟨2, ![1024, 10240]⟩
abbrev S1024x9216 : Shape := ⟨2, ![1024, 9216]⟩
abbrev S1024x3x3x1024 : Shape := ⟨4, ![1024, 3, 3, 1024]⟩
abbrev S1024x3x1x1024 : Shape := ⟨4, ![1024, 3, 1, 1024]⟩
abbrev S1024x3x1024 : Shape := ⟨3, ![1024, 3, 1024]⟩
abbrev S1024x3072 : Shape := ⟨2, ![1024, 3072]⟩
abbrev S4096x3072 : Shape := ⟨2, ![4096, 3072]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S1024x9216, .f32⟩
  | .hbm, ⟨3, _⟩ => ⟨S1024x3x3x1024, .f32⟩
  | .hbm, ⟨4, _⟩ => ⟨S1024x3x1x1024, .f32⟩
  | .hbm, ⟨5, _⟩ => ⟨S1024x3x1024, .f32⟩
  | .hbm, ⟨6, _⟩ => ⟨S1024x3072, .f32⟩
  | .hbm, ⟨7, _⟩ => ⟨S4096x3072, .f32⟩
  | .hbm, ⟨8, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== BInDw2.lean ====
abbrev S4096x1024 : Shape := ⟨2, ![4096, 1024]⟩
abbrev S1024x10240 : Shape := ⟨2, ![1024, 10240]⟩
abbrev S4096x3072 : Shape := ⟨2, ![4096, 3072]⟩
abbrev S_ : Shape := ⟨0, ![]⟩
abbrev S4x1024x2560 : Shape := ⟨3, ![4, 1024, 2560]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 8
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x3072, .f32⟩
  | .hbm, ⟨3, _⟩ => ⟨S_, .f32⟩
  | .hbm, ⟨4, _⟩ => ⟨S4x1024x2560, .f32⟩
  | .hbm, ⟨5, _⟩ => ⟨S4096x1024, .bf16⟩
  | .hbm, ⟨6, _⟩ => ⟨S4096x3072, .bf16⟩
  | .hbm, ⟨7, _⟩ => ⟨S4x1024x2560, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .f32⟩
  | .local _ .vmem, ⟨4, _⟩ => ⟨S1x1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli c3_i32 v16
  let c2_i32_4 : BitVec 32 := 2#32
  let v18 : BitVec 32 := Scalar.addi v17 c2_i32_4
  let c2_i32_5 : BitVec 32 := 2#32
  let v19 : BitVec 32 := Scalar.muli v18 c2_i32_5
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c5_i32 : BitVec 32 := 5#32
  let v31 : BitVec 32 := Scalar.divsi v30 c5_i32
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c5_i32 c0_i32_14
  let v38 : BitVec 32 := Scalar.extui v37
  let c0_i32_15 : BitVec 32 := 0#32
  let v39 : BitVec 1 := Scalar.cmpi .slt c5_i32 c0_i32_15
  let v40 : BitVec 32 := Scalar.extui v39
  let v41 : BitVec 32 := Scalar.subi v38 v40
  let v42 : BitVec 1 := Scalar.cmpi .ne v36 v41
  let v43 : BitVec 32 := Scalar.remsi v30 c5_i32
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c5_i32_18 : BitVec 32 := 5#32
  let c0_i32_19 : BitVec 32 := 0#32
  let v48 : BitVec 1 := Scalar.cmpi .eq c5_i32_18 c0_i32_19
  let c1_i32_20 : BitVec 32 := 1#32
  let v49 : BitVec 32 := Scalar.select v48 c1_i32_20 c5_i32_18
  let v50 : BitVec 32 := Scalar.remsi v30 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let c2_i32_24 : BitVec 32 := 2#32
  let v58 : BitVec 32 := Scalar.divsi arg1 c2_i32_24
  let c0_i32_25 : BitVec 32 := 0#32
  let v59 : BitVec 1 := Scalar.cmpi .sgt arg1 c0_i32_25
  let v60 : BitVec 32 := Scalar.extui v59
  let c0_i32_26 : BitVec 32 := 0#32
  let v61 : BitVec 1 := Scalar.cmpi .slt arg1 c0_i32_26
  let v62 : BitVec 32 := Scalar.extui v61
  let v63 : BitVec 32 := Scalar.subi v60 v62
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi arg1 c2_i32_24
  let c0_i32_29 : BitVec 32 := 0#32
  let v71 : BitVec 1 := Scalar.cmpi .ne v70 c0_i32_29
  let v72 : BitVec 1 := Scalar.andi v69 v71
  let c1_i32_30 : BitVec 32 := 1#32
  let v73 : BitVec 32 := Scalar.subi v58 c1_i32_30
  let v74 : BitVec 32 := Scalar.select v72 v73 v58
  let c3_i32_31 : BitVec 32 := 3#32
  let v75 : BitVec 32 := Scalar.muli c3_i32_31 v74
  let c2_i32_32 : BitVec 32 := 2#32
  let v76 : BitVec 32 := Scalar.addi v75 c2_i32_32
  let c2_i32_33 : BitVec 32 := 2#32
  let v77 : BitVec 32 := Scalar.muli v76 c2_i32_33
  let c2_i32_34 : BitVec 32 := 2#32
  let c0_i32_35 : BitVec 32 := 0#32
  let v78 : BitVec 1 := Scalar.cmpi .eq c2_i32_34 c0_i32_35
  let c1_i32_36 : BitVec 32 := 1#32
  let v79 : BitVec 32 := Scalar.select v78 c1_i32_36 c2_i32_34
  let v80 : BitVec 32 := Scalar.remsi arg1 v79
  let c0_i32_37 : BitVec 32 := 0#32
  let v81 : BitVec 1 := Scalar.cmpi .ne v80 c0_i32_37
  let c0_i32_38 : BitVec 32 := 0#32
  let v82 : BitVec 1 := Scalar.cmpi .slt v80 c0_i32_38
  let c0_i32_39 : BitVec 32 := 0#32
  let v83 : BitVec 1 := Scalar.cmpi .slt v79 c0_i32_39
  let v84 : BitVec 1 := Scalar.xori v82 v83
  let v85 : BitVec 1 := Scalar.andi v84 v81
  let v86 : BitVec 32 := Scalar.addi v80 v79
  let v87 : BitVec 32 := Scalar.select v85 v86 v80
  let v88 : BitVec 32 := Scalar.addi v77 v87
  let c5_i32_40 : BitVec 32 := 5#32
  let v89 : BitVec 32 := Scalar.divsi v88 c5_i32_40
  let c0_i32_41 : BitVec 32 := 0#32
  let v90 : BitVec 1 := Scalar.cmpi .sgt v88 c0_i32_41
  let v91 : BitVec 32 := Scalar.extui v90
  let c0_i32_42 : BitVec 32 := 0#32
  let v92 : BitVec 1 := Scalar.cmpi .slt v88 c0_i32_42
  let v93 : BitVec 32 := Scalar.extui v92
  let v94 : BitVec 32 := Scalar.subi v91 v93
  let c0_i32_43 : BitVec 32 := 0#32
  let v95 : BitVec 1 := Scalar.cmpi .sgt c5_i32_40 c0_i32_43
  let v96 : BitVec 32 := Scalar.extui v95
  let c0_i32_44 : BitVec 32 := 0#32
  let v97 : BitVec 1 := Scalar.cmpi .slt c5_i32_40 c0_i32_44
  let v98 : BitVec 32 := Scalar.extui v97
  let v99 : BitVec 32 := Scalar.subi v96 v98
  let v100 : BitVec 1 := Scalar.cmpi .ne v94 v99
  let v101 : BitVec 32 := Scalar.remsi v88 c5_i32_40
  let c0_i32_45 : BitVec 32 := 0#32
  let v102 : BitVec 1 := Scalar.cmpi .ne v101 c0_i32_45
  let v103 : BitVec 1 := Scalar.andi v100 v102
  let c1_i32_46 : BitVec 32 := 1#32
  let v104 : BitVec 32 := Scalar.subi v89 c1_i32_46
  let v105 : BitVec 32 := Scalar.select v103 v104 v89
  let c5_i32_47 : BitVec 32 := 5#32
  let c0_i32_48 : BitVec 32 := 0#32
  let v106 : BitVec 1 := Scalar.cmpi .eq c5_i32_47 c0_i32_48
  let c1_i32_49 : BitVec 32 := 1#32
  let v107 : BitVec 32 := Scalar.select v106 c1_i32_49 c5_i32_47
  let v108 : BitVec 32 := Scalar.remsi v88 v107
  let c0_i32_50 : BitVec 32 := 0#32
  let v109 : BitVec 1 := Scalar.cmpi .ne v108 c0_i32_50
  let c0_i32_51 : BitVec 32 := 0#32
  let v110 : BitVec 1 := Scalar.cmpi .slt v108 c0_i32_51
  let c0_i32_52 : BitVec 32 := 0#32
  let v111 : BitVec 1 := Scalar.cmpi .slt v107 c0_i32_52
  let v112 : BitVec 1 := Scalar.xori v110 v111
  let v113 : BitVec 1 := Scalar.andi v112 v109
  let v114 : BitVec 32 := Scalar.addi v108 v107
  let v115 : BitVec 32 := Scalar.select v113 v114 v108
  let c0_i32_53 : BitVec 32 := 0#32
  ![v47.toNat, arg0.toNat, v115.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BInDw2Ideal.lean ====
abbrev S4096x1024 : Shape := ⟨2, ![4096, 1024]⟩
abbrev S1024x10240 : Shape := ⟨2, ![1024, 10240]⟩
abbrev S4096x3072 : Shape := ⟨2, ![4096, 3072]⟩
abbrev S_ : Shape := ⟨0, ![]⟩
abbrev S4x1024x2560 : Shape := ⟨3, ![4, 1024, 2560]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 8
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x3072, .f32⟩
  | .hbm, ⟨3, _⟩ => ⟨S_, .f32⟩
  | .hbm, ⟨4, _⟩ => ⟨S4x1024x2560, .f32⟩
  | .hbm, ⟨5, _⟩ => ⟨S4096x1024, .bf16⟩
  | .hbm, ⟨6, _⟩ => ⟨S4096x3072, .bf16⟩
  | .hbm, ⟨7, _⟩ => ⟨S4x1024x2560, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .f32⟩
  | .local _ .vmem, ⟨4, _⟩ => ⟨S1x1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli c3_i32 v16
  let c2_i32_4 : BitVec 32 := 2#32
  let v18 : BitVec 32 := Scalar.addi v17 c2_i32_4
  let c2_i32_5 : BitVec 32 := 2#32
  let v19 : BitVec 32 := Scalar.muli v18 c2_i32_5
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c5_i32 : BitVec 32 := 5#32
  let v31 : BitVec 32 := Scalar.divsi v30 c5_i32
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c5_i32 c0_i32_14
  let v38 : BitVec 32 := Scalar.extui v37
  let c0_i32_15 : BitVec 32 := 0#32
  let v39 : BitVec 1 := Scalar.cmpi .slt c5_i32 c0_i32_15
  let v40 : BitVec 32 := Scalar.extui v39
  let v41 : BitVec 32 := Scalar.subi v38 v40
  let v42 : BitVec 1 := Scalar.cmpi .ne v36 v41
  let v43 : BitVec 32 := Scalar.remsi v30 c5_i32
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c5_i32_18 : BitVec 32 := 5#32
  let c0_i32_19 : BitVec 32 := 0#32
  let v48 : BitVec 1 := Scalar.cmpi .eq c5_i32_18 c0_i32_19
  let c1_i32_20 : BitVec 32 := 1#32
  let v49 : BitVec 32 := Scalar.select v48 c1_i32_20 c5_i32_18
  let v50 : BitVec 32 := Scalar.remsi v30 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let c2_i32_24 : BitVec 32 := 2#32
  let v58 : BitVec 32 := Scalar.divsi arg1 c2_i32_24
  let c0_i32_25 : BitVec 32 := 0#32
  let v59 : BitVec 1 := Scalar.cmpi .sgt arg1 c0_i32_25
  let v60 : BitVec 32 := Scalar.extui v59
  let c0_i32_26 : BitVec 32 := 0#32
  let v61 : BitVec 1 := Scalar.cmpi .slt arg1 c0_i32_26
  let v62 : BitVec 32 := Scalar.extui v61
  let v63 : BitVec 32 := Scalar.subi v60 v62
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi arg1 c2_i32_24
  let c0_i32_29 : BitVec 32 := 0#32
  let v71 : BitVec 1 := Scalar.cmpi .ne v70 c0_i32_29
  let v72 : BitVec 1 := Scalar.andi v69 v71
  let c1_i32_30 : BitVec 32 := 1#32
  let v73 : BitVec 32 := Scalar.subi v58 c1_i32_30
  let v74 : BitVec 32 := Scalar.select v72 v73 v58
  let c3_i32_31 : BitVec 32 := 3#32
  let v75 : BitVec 32 := Scalar.muli c3_i32_31 v74
  let c2_i32_32 : BitVec 32 := 2#32
  let v76 : BitVec 32 := Scalar.addi v75 c2_i32_32
  let c2_i32_33 : BitVec 32 := 2#32
  let v77 : BitVec 32 := Scalar.muli v76 c2_i32_33
  let c2_i32_34 : BitVec 32 := 2#32
  let c0_i32_35 : BitVec 32 := 0#32
  let v78 : BitVec 1 := Scalar.cmpi .eq c2_i32_34 c0_i32_35
  let c1_i32_36 : BitVec 32 := 1#32
  let v79 : BitVec 32 := Scalar.select v78 c1_i32_36 c2_i32_34
  let v80 : BitVec 32 := Scalar.remsi arg1 v79
  let c0_i32_37 : BitVec 32 := 0#32
  let v81 : BitVec 1 := Scalar.cmpi .ne v80 c0_i32_37
  let c0_i32_38 : BitVec 32 := 0#32
  let v82 : BitVec 1 := Scalar.cmpi .slt v80 c0_i32_38
  let c0_i32_39 : BitVec 32 := 0#32
  let v83 : BitVec 1 := Scalar.cmpi .slt v79 c0_i32_39
  let v84 : BitVec 1 := Scalar.xori v82 v83
  let v85 : BitVec 1 := Scalar.andi v84 v81
  let v86 : BitVec 32 := Scalar.addi v80 v79
  let v87 : BitVec 32 := Scalar.select v85 v86 v80
  let v88 : BitVec 32 := Scalar.addi v77 v87
  let c5_i32_40 : BitVec 32 := 5#32
  let v89 : BitVec 32 := Scalar.divsi v88 c5_i32_40
  let c0_i32_41 : BitVec 32 := 0#32
  let v90 : BitVec 1 := Scalar.cmpi .sgt v88 c0_i32_41
  let v91 : BitVec 32 := Scalar.extui v90
  let c0_i32_42 : BitVec 32 := 0#32
  let v92 : BitVec 1 := Scalar.cmpi .slt v88 c0_i32_42
  let v93 : BitVec 32 := Scalar.extui v92
  let v94 : BitVec 32 := Scalar.subi v91 v93
  let c0_i32_43 : BitVec 32 := 0#32
  let v95 : BitVec 1 := Scalar.cmpi .sgt c5_i32_40 c0_i32_43
  let v96 : BitVec 32 := Scalar.extui v95
  let c0_i32_44 : BitVec 32 := 0#32
  let v97 : BitVec 1 := Scalar.cmpi .slt c5_i32_40 c0_i32_44
  let v98 : BitVec 32 := Scalar.extui v97
  let v99 : BitVec 32 := Scalar.subi v96 v98
  let v100 : BitVec 1 := Scalar.cmpi .ne v94 v99
  let v101 : BitVec 32 := Scalar.remsi v88 c5_i32_40
  let c0_i32_45 : BitVec 32 := 0#32
  let v102 : BitVec 1 := Scalar.cmpi .ne v101 c0_i32_45
  let v103 : BitVec 1 := Scalar.andi v100 v102
  let c1_i32_46 : BitVec 32 := 1#32
  let v104 : BitVec 32 := Scalar.subi v89 c1_i32_46
  let v105 : BitVec 32 := Scalar.select v103 v104 v89
  let c5_i32_47 : BitVec 32 := 5#32
  let c0_i32_48 : BitVec 32 := 0#32
  let v106 : BitVec 1 := Scalar.cmpi .eq c5_i32_47 c0_i32_48
  let c1_i32_49 : BitVec 32 := 1#32
  let v107 : BitVec 32 := Scalar.select v106 c1_i32_49 c5_i32_47
  let v108 : BitVec 32 := Scalar.remsi v88 v107
  let c0_i32_50 : BitVec 32 := 0#32
  let v109 : BitVec 1 := Scalar.cmpi .ne v108 c0_i32_50
  let c0_i32_51 : BitVec 32 := 0#32
  let v110 : BitVec 1 := Scalar.cmpi .slt v108 c0_i32_51
  let c0_i32_52 : BitVec 32 := 0#32
  let v111 : BitVec 1 := Scalar.cmpi .slt v107 c0_i32_52
  let v112 : BitVec 1 := Scalar.xori v110 v111
  let v113 : BitVec 1 := Scalar.andi v112 v109
  let v114 : BitVec 32 := Scalar.addi v108 v107
  let v115 : BitVec 32 := Scalar.select v113 v114 v108
  let c0_i32_53 : BitVec 32 := 0#32
  ![v47.toNat, arg0.toNat, v115.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BInDw2RefIdeal.lean ====
abbrev S4096x1024 : Shape := ⟨2, ![4096, 1024]⟩
abbrev S1024x10240 : Shape := ⟨2, ![1024, 10240]⟩
abbrev S4096x3072 : Shape := ⟨2, ![4096, 3072]⟩
abbrev S1024x9216 : Shape := ⟨2, ![1024, 9216]⟩
abbrev S1024x3x3x1024 : Shape := ⟨4, ![1024, 3, 3, 1024]⟩
abbrev S1024x3x1x1024 : Shape := ⟨4, ![1024, 3, 1, 1024]⟩
abbrev S1024x3x1024 : Shape := ⟨3, ![1024, 3, 1024]⟩
abbrev S1024x3072 : Shape := ⟨2, ![1024, 3072]⟩
abbrev S3072x1024 : Shape := ⟨2, ![3072, 1024]⟩
abbrev S_ : Shape := ⟨0, ![]⟩
abbrev S1024x2560 : Shape := ⟨2, ![1024, 2560]⟩
abbrev S1x1024x2560 : Shape := ⟨3, ![1, 1024, 2560]⟩
abbrev S4x1024x2560 : Shape := ⟨3, ![4, 1024, 2560]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x3072, .f32⟩
  | .hbm, ⟨3, _⟩ => ⟨S1024x9216, .f32⟩
  | .hbm, ⟨4, _⟩ => ⟨S1024x3x3x1024, .f32⟩
  | .hbm, ⟨5, _⟩ => ⟨S1024x3x1x1024, .f32⟩
  | .hbm, ⟨6, _⟩ => ⟨S1024x3x1024, .f32⟩
  | .hbm, ⟨7, _⟩ => ⟨S1024x3072, .f32⟩
  | .hbm, ⟨8, _⟩ => ⟨S4096x3072, .f32⟩
  | .hbm, ⟨9, _⟩ => ⟨S3072x1024, .f32⟩
  | .hbm, ⟨10, _⟩ => ⟨S1024x3072, .f32⟩
  | .hbm, ⟨11, _⟩ => ⟨S1024x3x1024, .f32⟩
  | .hbm, ⟨12, _⟩ => ⟨S1024x3x1x1024, .f32⟩
  | .hbm, ⟨13, _⟩ => ⟨S_, .f32⟩
  | .hbm, ⟨14, _⟩ => ⟨S1024x3x3x1024, .f32⟩
  | .hbm, ⟨15, _⟩ => ⟨S1024x9216, .f32⟩
  | .hbm, ⟨16, _⟩ => ⟨S_, .f32⟩
  | .hbm, ⟨17, _⟩ => ⟨S1024x10240, .f32⟩
  | .hbm, ⟨18, _⟩ => ⟨S1024x2560, .f32⟩
  | .hbm, ⟨19, _⟩ => ⟨S1024x2560, .f32⟩
  | .hbm, ⟨20, _⟩ => ⟨S1024x2560, .f32⟩
  | .hbm, ⟨21, _⟩ => ⟨S1024x2560, .f32⟩
  | .hbm, ⟨22, _⟩ => ⟨S1x1024x2560, .f32⟩
  | .hbm, ⟨23, _⟩ => ⟨S1x1024x2560, .f32⟩
  | .hbm, ⟨24, _⟩ => ⟨S1x1024x2560, .f32⟩
  | .hbm, ⟨25, _⟩ => ⟨S1x1024x2560, .f32⟩
  | .hbm, ⟨26, _⟩ => ⟨S4x1024x2560, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== BInDx2.lean ====
abbrev S4096x1024 : Shape := ⟨2, ![4096, 1024]⟩
abbrev S1024x10240 : Shape := ⟨2, ![1024, 10240]⟩
abbrev S4096x3072 : Shape := ⟨2, ![4096, 3072]⟩
abbrev S1024x4x2560 : Shape := ⟨3, ![1024, 4, 2560]⟩
abbrev S4x1024x2560 : Shape := ⟨3, ![4, 1024, 2560]⟩
abbrev S2048x1024 : Shape := ⟨2, ![2048, 1024]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x3072, .f32⟩
  | .hbm, ⟨3, _⟩ => ⟨S4096x3072, .bf16⟩
  | .hbm, ⟨4, _⟩ => ⟨S1024x4x2560, .f32⟩
  | .hbm, ⟨5, _⟩ => ⟨S4x1024x2560, .f32⟩
  | .hbm, ⟨6, _⟩ => ⟨S4x1024x2560, .bf16⟩
  | .hbm, ⟨7, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 3], ![false, false]⟩

def k0_cond3 (i : grid0.Coords) : BitVec 1 :=
  let arg1 : BitVec 32 := BitVec.ofNat 32 (i 1).val
  let c2_i32_12 : BitVec 32 := 2#32
  let v19 : BitVec 1 := Scalar.cmpi .eq arg1 c2_i32_12
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c2_i32_0 : BitVec 32 := 2#32
  let v2 : BitVec 32 := Scalar.divsi v1 c2_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c2_i32_0 c0_i32_3
  let v9 : BitVec 32 := Scalar.extui v8
  let c0_i32_4 : BitVec 32 := 0#32
  let v10 : BitVec 1 := Scalar.cmpi .slt c2_i32_0 c0_i32_4
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c3_i32 : BitVec 32 := 3#32
  let v19 : BitVec 32 := Scalar.muli c3_i32 v18
  let c2_i32_6 : BitVec 32 := 2#32
  let v20 : BitVec 32 := Scalar.addi v19 c2_i32_6
  let c2_i32_7 : BitVec 32 := 2#32
  let v21 : BitVec 32 := Scalar.muli v20 c2_i32_7
  let c2_i32_8 : BitVec 32 := 2#32
  let c0_i32_9 : BitVec 32 := 0#32
  let v22 : BitVec 1 := Scalar.cmpi .eq c2_i32_8 c0_i32_9
  let c1_i32_10 : BitVec 32 := 1#32
  let v23 : BitVec 32 := Scalar.select v22 c1_i32_10 c2_i32_8
  let v24 : BitVec 32 := Scalar.remsi v1 v23
  let c0_i32_11 : BitVec 32 := 0#32
  let v25 : BitVec 1 := Scalar.cmpi .ne v24 c0_i32_11
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c5_i32 : BitVec 32 := 5#32
  let v33 : BitVec 32 := Scalar.divsi v32 c5_i32
  let c0_i32_14 : BitVec 32 := 0#32
  let v34 : BitVec 1 := Scalar.cmpi .sgt v32 c0_i32_14
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c0_i32_16 : BitVec 32 := 0#32
  let v39 : BitVec 1 := Scalar.cmpi .sgt c5_i32 c0_i32_16
  let v40 : BitVec 32 := Scalar.extui v39
  let c0_i32_17 : BitVec 32 := 0#32
  let v41 : BitVec 1 := Scalar.cmpi .slt c5_i32 c0_i32_17
  let v42 : BitVec 32 := Scalar.extui v41
  let v43 : BitVec 32 := Scalar.subi v40 v42
  let v44 : BitVec 1 := Scalar.cmpi .ne v38 v43
  let v45 : BitVec 32 := Scalar.remsi v32 c5_i32
  let c0_i32_18 : BitVec 32 := 0#32
  let v46 : BitVec 1 := Scalar.cmpi .ne v45 c0_i32_18
  let v47 : BitVec 1 := Scalar.andi v44 v46
  let c1_i32_19 : BitVec 32 := 1#32
  let v48 : BitVec 32 := Scalar.subi v33 c1_i32_19
  let v49 : BitVec 32 := Scalar.select v47 v48 v33
  let c5_i32_20 : BitVec 32 := 5#32
  let c0_i32_21 : BitVec 32 := 0#32
  let v50 : BitVec 1 := Scalar.cmpi .eq c5_i32_20 c0_i32_21
  let c1_i32_22 : BitVec 32 := 1#32
  let v51 : BitVec 32 := Scalar.select v50 c1_i32_22 c5_i32_20
  let v52 : BitVec 32 := Scalar.remsi v32 v51
  let c0_i32_23 : BitVec 32 := 0#32
  let v53 : BitVec 1 := Scalar.cmpi .ne v52 c0_i32_23
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let v57 : BitVec 1 := Scalar.andi v56 v53
  let v58 : BitVec 32 := Scalar.addi v52 v51
  let v59 : BitVec 32 := Scalar.select v57 v58 v52
  let c2_i32_26 : BitVec 32 := 2#32
  let v60 : BitVec 32 := Scalar.muli c2_i32_26 arg1
  let c0_i32_27 : BitVec 32 := 0#32
  let v61 : BitVec 32 := Scalar.addi v60 c0_i32_27
  let c2_i32_28 : BitVec 32 := 2#32
  let v62 : BitVec 32 := Scalar.divsi v61 c2_i32_28
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c0_i32_31 : BitVec 32 := 0#32
  let v68 : BitVec 1 := Scalar.cmpi .sgt c2_i32_28 c0_i32_31
  let v69 : BitVec 32 := Scalar.extui v68
  let c0_i32_32 : BitVec 32 := 0#32
  let v70 : BitVec 1 := Scalar.cmpi .slt c2_i32_28 c0_i32_32
  let v71 : BitVec 32 := Scalar.extui v70
  let v72 : BitVec 32 := Scalar.subi v69 v71
  let v73 : BitVec 1 := Scalar.cmpi .ne v67 v72
  let v74 : BitVec 32 := Scalar.remsi v61 c2_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c3_i32_35 : BitVec 32 := 3#32
  let v79 : BitVec 32 := Scalar.muli c3_i32_35 v78
  let c2_i32_36 : BitVec 32 := 2#32
  let v80 : BitVec 32 := Scalar.addi v79 c2_i32_36
  let c2_i32_37 : BitVec 32 := 2#32
  let v81 : BitVec 32 := Scalar.muli v80 c2_i32_37
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v61 v83
  let c0_i32_41 : BitVec 32 := 0#32
  let v85 : BitVec 1 := Scalar.cmpi .ne v84 c0_i32_41
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let v89 : BitVec 1 := Scalar.andi v88 v85
  let v90 : BitVec 32 := Scalar.addi v84 v83
  let v91 : BitVec 32 := Scalar.select v89 v90 v84
  let v92 : BitVec 32 := Scalar.addi v81 v91
  let c5_i32_44 : BitVec 32 := 5#32
  let v93 : BitVec 32 := Scalar.divsi v92 c5_i32_44
  let c0_i32_45 : BitVec 32 := 0#32
  let v94 : BitVec 1 := Scalar.cmpi .sgt v92 c0_i32_45
  let v95 : BitVec 32 := Scalar.extui v94
  let c0_i32_46 : BitVec 32 := 0#32
  let v96 : BitVec 1 := Scalar.cmpi .slt v92 c0_i32_46
  let v97 : BitVec 32 := Scalar.extui v96
  let v98 : BitVec 32 := Scalar.subi v95 v97
  let c0_i32_47 : BitVec 32 := 0#32
  let v99 : BitVec 1 := Scalar.cmpi .sgt c5_i32_44 c0_i32_47
  let v100 : BitVec 32 := Scalar.extui v99
  let c0_i32_48 : BitVec 32 := 0#32
  let v101 : BitVec 1 := Scalar.cmpi .slt c5_i32_44 c0_i32_48
  let v102 : BitVec 32 := Scalar.extui v101
  let v103 : BitVec 32 := Scalar.subi v100 v102
  let v104 : BitVec 1 := Scalar.cmpi .ne v98 v103
  let v105 : BitVec 32 := Scalar.remsi v92 c5_i32_44
  let c0_i32_49 : BitVec 32 := 0#32
  let v106 : BitVec 1 := Scalar.cmpi .ne v105 c0_i32_49
  let v107 : BitVec 1 := Scalar.andi v104 v106
  let c1_i32_50 : BitVec 32 := 1#32
  let v108 : BitVec 32 := Scalar.subi v93 c1_i32_50
  let v109 : BitVec 32 := Scalar.select v107 v108 v93
  let c5_i32_51 : BitVec 32 := 5#32
  let c0_i32_52 : BitVec 32 := 0#32
  let v110 : BitVec 1 := Scalar.cmpi .eq c5_i32_51 c0_i32_52
  let c1_i32_53 : BitVec 32 := 1#32
  let v111 : BitVec 32 := Scalar.select v110 c1_i32_53 c5_i32_51
  let v112 : BitVec 32 := Scalar.remsi v92 v111
  let c0_i32_54 : BitVec 32 := 0#32
  let v113 : BitVec 1 := Scalar.cmpi .ne v112 c0_i32_54
  let c0_i32_55 : BitVec 32 := 0#32
  let v114 : BitVec 1 := Scalar.cmpi .slt v112 c0_i32_55
  let c0_i32_56 : BitVec 32 := 0#32
  let v115 : BitVec 1 := Scalar.cmpi .slt v111 c0_i32_56
  let v116 : BitVec 1 := Scalar.xori v114 v115
  let v117 : BitVec 1 := Scalar.andi v116 v113
  let v118 : BitVec 32 := Scalar.addi v112 v111
  let v119 : BitVec 32 := Scalar.select v117 v118 v112
  let c0_i32_57 : BitVec 32 := 0#32
  let c0_i32_58 : BitVec 32 := 0#32
  ![v49.toNat, c0_i32_57.toNat, v119.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c2_i32_0 : BitVec 32 := 2#32
  let v2 : BitVec 32 := Scalar.divsi v1 c2_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c3_i32 : BitVec 32 := 3#32
  let v19 : BitVec 32 := Scalar.muli c3_i32 v18
  let c2_i32_6 : BitVec 32 := 2#32
  let v20 : BitVec 32 := Scalar.addi v19 c2_i32_6
  let c2_i32_7 : BitVec 32 := 2#32
  let v21 : BitVec 32 := Scalar.muli v20 c2_i32_7
  let c2_i32_8 : BitVec 32 := 2#32
  let c0_i32_9 : BitVec 32 := 0#32
  let v22 : BitVec 1 := Scalar.cmpi .eq c2_i32_8 c0_i32_9
  let c1_i32_10 : BitVec 32 := 1#32
  let v23 : BitVec 32 := Scalar.select v22 c1_i32_10 c2_i32_8
  let v24 : BitVec 32 := Scalar.remsi v1 v23
  let c0_i32_11 : BitVec 32 := 0#32
  let v25 : BitVec 1 := Scalar.cmpi .ne v24 c0_i32_11
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c5_i32 : BitVec 32 := 5#32
  let v33 : BitVec 32 := Scalar.divsi v32 c5_i32
  let c0_i32_14 : BitVec 32 := 0#32
  let v34 : BitVec 1 := Scalar.cmpi .sgt v32 c0_i32_14
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c0_i32_16 : BitVec 32 := 0#32
  let v39 : BitVec 1 := Scalar.cmpi .sgt c5_i32 c0_i32_16
  let v40 : BitVec 32 := Scalar.extui v39
  let c0_i32_17 : BitVec 32 := 0#32
  let v41 : BitVec 1 := Scalar.cmpi .slt c5_i32 c0_i32_17
  let v42 : BitVec 32 := Scalar.extui v41
  let v43 : BitVec 32 := Scalar.subi v40 v42
  let v44 : BitVec 1 := Scalar.cmpi .ne v38 v43
  let v45 : BitVec 32 := Scalar.remsi v32 c5_i32
  let c0_i32_18 : BitVec 32 := 0#32
  let v46 : BitVec 1 := Scalar.cmpi .ne v45 c0_i32_18
  let v47 : BitVec 1 := Scalar.andi v44 v46
  let c1_i32_19 : BitVec 32 := 1#32
  let v48 : BitVec 32 := Scalar.subi v33 c1_i32_19
  let v49 : BitVec 32 := Scalar.select v47 v48 v33
  let c5_i32_20 : BitVec 32 := 5#32
  let c0_i32_21 : BitVec 32 := 0#32
  let v50 : BitVec 1 := Scalar.cmpi .eq c5_i32_20 c0_i32_21
  let c1_i32_22 : BitVec 32 := 1#32
  let v51 : BitVec 32 := Scalar.select v50 c1_i32_22 c5_i32_20
  let v52 : BitVec 32 := Scalar.remsi v32 v51
  let c0_i32_23 : BitVec 32 := 0#32
  let v53 : BitVec 1 := Scalar.cmpi .ne v52 c0_i32_23
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let v57 : BitVec 1 := Scalar.andi v56 v53
  let v58 : BitVec 32 := Scalar.addi v52 v51
  let v59 : BitVec 32 := Scalar.select v57 v58 v52
  let c2_i32_26 : BitVec 32 := 2#32
  let v60 : BitVec 32 := Scalar.muli c2_i32_26 arg1
  let c1_i32_27 : BitVec 32 := 1#32
  let v61 : BitVec 32 := Scalar.addi v60 c1_i32_27
  let c2_i32_28 : BitVec 32 := 2#32
  let v62 : BitVec 32 := Scalar.divsi v61 c2_i32_28
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c0_i32_31 : BitVec 32 := 0#32
  let v68 : BitVec 1 := Scalar.cmpi .sgt c2_i32_28 c0_i32_31
  let v69 : BitVec 32 := Scalar.extui v68
  let c0_i32_32 : BitVec 32 := 0#32
  let v70 : BitVec 1 := Scalar.cmpi .slt c2_i32_28 c0_i32_32
  let v71 : BitVec 32 := Scalar.extui v70
  let v72 : BitVec 32 := Scalar.subi v69 v71
  let v73 : BitVec 1 := Scalar.cmpi .ne v67 v72
  let v74 : BitVec 32 := Scalar.remsi v61 c2_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c3_i32_35 : BitVec 32 := 3#32
  let v79 : BitVec 32 := Scalar.muli c3_i32_35 v78
  let c2_i32_36 : BitVec 32 := 2#32
  let v80 : BitVec 32 := Scalar.addi v79 c2_i32_36
  let c2_i32_37 : BitVec 32 := 2#32
  let v81 : BitVec 32 := Scalar.muli v80 c2_i32_37
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v61 v83
  let c0_i32_41 : BitVec 32 := 0#32
  let v85 : BitVec 1 := Scalar.cmpi .ne v84 c0_i32_41
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let v89 : BitVec 1 := Scalar.andi v88 v85
  let v90 : BitVec 32 := Scalar.addi v84 v83
  let v91 : BitVec 32 := Scalar.select v89 v90 v84
  let v92 : BitVec 32 := Scalar.addi v81 v91
  let c5_i32_44 : BitVec 32 := 5#32
  let v93 : BitVec 32 := Scalar.divsi v92 c5_i32_44
  let c0_i32_45 : BitVec 32 := 0#32
  let v94 : BitVec 1 := Scalar.cmpi .sgt v92 c0_i32_45
  let v95 : BitVec 32 := Scalar.extui v94
  let c0_i32_46 : BitVec 32 := 0#32
  let v96 : BitVec 1 := Scalar.cmpi .slt v92 c0_i32_46
  let v97 : BitVec 32 := Scalar.extui v96
  let v98 : BitVec 32 := Scalar.subi v95 v97
  let c0_i32_47 : BitVec 32 := 0#32
  let v99 : BitVec 1 := Scalar.cmpi .sgt c5_i32_44 c0_i32_47
  let v100 : BitVec 32 := Scalar.extui v99
  let c0_i32_48 : BitVec 32 := 0#32
  let v101 : BitVec 1 := Scalar.cmpi .slt c5_i32_44 c0_i32_48
  let v102 : BitVec 32 := Scalar.extui v101
  let v103 : BitVec 32 := Scalar.subi v100 v102
  let v104 : BitVec 1 := Scalar.cmpi .ne v98 v103
  let v105 : BitVec 32 := Scalar.remsi v92 c5_i32_44
  let c0_i32_49 : BitVec 32 := 0#32
  let v106 : BitVec 1 := Scalar.cmpi .ne v105 c0_i32_49
  let v107 : BitVec 1 := Scalar.andi v104 v106
  let c1_i32_50 : BitVec 32 := 1#32
  let v108 : BitVec 32 := Scalar.subi v93 c1_i32_50
  let v109 : BitVec 32 := Scalar.select v107 v108 v93
  let c5_i32_51 : BitVec 32 := 5#32
  let c0_i32_52 : BitVec 32 := 0#32
  let v110 : BitVec 1 := Scalar.cmpi .eq c5_i32_51 c0_i32_52
  let c1_i32_53 : BitVec 32 := 1#32
  let v111 : BitVec 32 := Scalar.select v110 c1_i32_53 c5_i32_51
  let v112 : BitVec 32 := Scalar.remsi v92 v111
  let c0_i32_54 : BitVec 32 := 0#32
  let v113 : BitVec 1 := Scalar.cmpi .ne v112 c0_i32_54
  let c0_i32_55 : BitVec 32 := 0#32
  let v114 : BitVec 1 := Scalar.cmpi .slt v112 c0_i32_55
  let c0_i32_56 : BitVec 32 := 0#32
  let v115 : BitVec 1 := Scalar.cmpi .slt v111 c0_i32_56
  let v116 : BitVec 1 := Scalar.xori v114 v115
  let v117 : BitVec 1 := Scalar.andi v116 v113
  let v118 : BitVec 32 := Scalar.addi v112 v111
  let v119 : BitVec 32 := Scalar.select v117 v118 v112
  let c0_i32_57 : BitVec 32 := 0#32
  let c0_i32_58 : BitVec 32 := 0#32
  ![v49.toNat, c0_i32_57.toNat, v119.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== BInDx2Ideal.lean ====
abbrev S4096x1024 : Shape := ⟨2, ![4096, 1024]⟩
abbrev S1024x10240 : Shape := ⟨2, ![1024, 10240]⟩
abbrev S4096x3072 : Shape := ⟨2, ![4096, 3072]⟩
abbrev S1024x4x2560 : Shape := ⟨3, ![1024, 4, 2560]⟩
abbrev S4x1024x2560 : Shape := ⟨3, ![4, 1024, 2560]⟩
abbrev S2048x1024 : Shape := ⟨2, ![2048, 1024]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x3072, .f32⟩
  | .hbm, ⟨3, _⟩ => ⟨S4096x3072, .bf16⟩
  | .hbm, ⟨4, _⟩ => ⟨S1024x4x2560, .f32⟩
  | .hbm, ⟨5, _⟩ => ⟨S4x1024x2560, .f32⟩
  | .hbm, ⟨6, _⟩ => ⟨S4x1024x2560, .bf16⟩
  | .hbm, ⟨7, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 3], ![false, false]⟩

def k0_cond3 (i : grid0.Coords) : BitVec 1 :=
  let arg1 : BitVec 32 := BitVec.ofNat 32 (i 1).val
  let c2_i32_12 : BitVec 32 := 2#32
  let v19 : BitVec 1 := Scalar.cmpi .eq arg1 c2_i32_12
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c2_i32_0 : BitVec 32 := 2#32
  let v2 : BitVec 32 := Scalar.divsi v1 c2_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c2_i32_0 c0_i32_3
  let v9 : BitVec 32 := Scalar.extui v8
  let c0_i32_4 : BitVec 32 := 0#32
  let v10 : BitVec 1 := Scalar.cmpi .slt c2_i32_0 c0_i32_4
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c3_i32 : BitVec 32 := 3#32
  let v19 : BitVec 32 := Scalar.muli c3_i32 v18
  let c2_i32_6 : BitVec 32 := 2#32
  let v20 : BitVec 32 := Scalar.addi v19 c2_i32_6
  let c2_i32_7 : BitVec 32 := 2#32
  let v21 : BitVec 32 := Scalar.muli v20 c2_i32_7
  let c2_i32_8 : BitVec 32 := 2#32
  let c0_i32_9 : BitVec 32 := 0#32
  let v22 : BitVec 1 := Scalar.cmpi .eq c2_i32_8 c0_i32_9
  let c1_i32_10 : BitVec 32 := 1#32
  let v23 : BitVec 32 := Scalar.select v22 c1_i32_10 c2_i32_8
  let v24 : BitVec 32 := Scalar.remsi v1 v23
  let c0_i32_11 : BitVec 32 := 0#32
  let v25 : BitVec 1 := Scalar.cmpi .ne v24 c0_i32_11
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c5_i32 : BitVec 32 := 5#32
  let v33 : BitVec 32 := Scalar.divsi v32 c5_i32
  let c0_i32_14 : BitVec 32 := 0#32
  let v34 : BitVec 1 := Scalar.cmpi .sgt v32 c0_i32_14
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c0_i32_16 : BitVec 32 := 0#32
  let v39 : BitVec 1 := Scalar.cmpi .sgt c5_i32 c0_i32_16
  let v40 : BitVec 32 := Scalar.extui v39
  let c0_i32_17 : BitVec 32 := 0#32
  let v41 : BitVec 1 := Scalar.cmpi .slt c5_i32 c0_i32_17
  let v42 : BitVec 32 := Scalar.extui v41
  let v43 : BitVec 32 := Scalar.subi v40 v42
  let v44 : BitVec 1 := Scalar.cmpi .ne v38 v43
  let v45 : BitVec 32 := Scalar.remsi v32 c5_i32
  let c0_i32_18 : BitVec 32 := 0#32
  let v46 : BitVec 1 := Scalar.cmpi .ne v45 c0_i32_18
  let v47 : BitVec 1 := Scalar.andi v44 v46
  let c1_i32_19 : BitVec 32 := 1#32
  let v48 : BitVec 32 := Scalar.subi v33 c1_i32_19
  let v49 : BitVec 32 := Scalar.select v47 v48 v33
  let c5_i32_20 : BitVec 32 := 5#32
  let c0_i32_21 : BitVec 32 := 0#32
  let v50 : BitVec 1 := Scalar.cmpi .eq c5_i32_20 c0_i32_21
  let c1_i32_22 : BitVec 32 := 1#32
  let v51 : BitVec 32 := Scalar.select v50 c1_i32_22 c5_i32_20
  let v52 : BitVec 32 := Scalar.remsi v32 v51
  let c0_i32_23 : BitVec 32 := 0#32
  let v53 : BitVec 1 := Scalar.cmpi .ne v52 c0_i32_23
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let v57 : BitVec 1 := Scalar.andi v56 v53
  let v58 : BitVec 32 := Scalar.addi v52 v51
  let v59 : BitVec 32 := Scalar.select v57 v58 v52
  let c2_i32_26 : BitVec 32 := 2#32
  let v60 : BitVec 32 := Scalar.muli c2_i32_26 arg1
  let c0_i32_27 : BitVec 32 := 0#32
  let v61 : BitVec 32 := Scalar.addi v60 c0_i32_27
  let c2_i32_28 : BitVec 32 := 2#32
  let v62 : BitVec 32 := Scalar.divsi v61 c2_i32_28
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c0_i32_31 : BitVec 32 := 0#32
  let v68 : BitVec 1 := Scalar.cmpi .sgt c2_i32_28 c0_i32_31
  let v69 : BitVec 32 := Scalar.extui v68
  let c0_i32_32 : BitVec 32 := 0#32
  let v70 : BitVec 1 := Scalar.cmpi .slt c2_i32_28 c0_i32_32
  let v71 : BitVec 32 := Scalar.extui v70
  let v72 : BitVec 32 := Scalar.subi v69 v71
  let v73 : BitVec 1 := Scalar.cmpi .ne v67 v72
  let v74 : BitVec 32 := Scalar.remsi v61 c2_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c3_i32_35 : BitVec 32 := 3#32
  let v79 : BitVec 32 := Scalar.muli c3_i32_35 v78
  let c2_i32_36 : BitVec 32 := 2#32
  let v80 : BitVec 32 := Scalar.addi v79 c2_i32_36
  let c2_i32_37 : BitVec 32 := 2#32
  let v81 : BitVec 32 := Scalar.muli v80 c2_i32_37
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v61 v83
  let c0_i32_41 : BitVec 32 := 0#32
  let v85 : BitVec 1 := Scalar.cmpi .ne v84 c0_i32_41
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let v89 : BitVec 1 := Scalar.andi v88 v85
  let v90 : BitVec 32 := Scalar.addi v84 v83
  let v91 : BitVec 32 := Scalar.select v89 v90 v84
  let v92 : BitVec 32 := Scalar.addi v81 v91
  let c5_i32_44 : BitVec 32 := 5#32
  let v93 : BitVec 32 := Scalar.divsi v92 c5_i32_44
  let c0_i32_45 : BitVec 32 := 0#32
  let v94 : BitVec 1 := Scalar.cmpi .sgt v92 c0_i32_45
  let v95 : BitVec 32 := Scalar.extui v94
  let c0_i32_46 : BitVec 32 := 0#32
  let v96 : BitVec 1 := Scalar.cmpi .slt v92 c0_i32_46
  let v97 : BitVec 32 := Scalar.extui v96
  let v98 : BitVec 32 := Scalar.subi v95 v97
  let c0_i32_47 : BitVec 32 := 0#32
  let v99 : BitVec 1 := Scalar.cmpi .sgt c5_i32_44 c0_i32_47
  let v100 : BitVec 32 := Scalar.extui v99
  let c0_i32_48 : BitVec 32 := 0#32
  let v101 : BitVec 1 := Scalar.cmpi .slt c5_i32_44 c0_i32_48
  let v102 : BitVec 32 := Scalar.extui v101
  let v103 : BitVec 32 := Scalar.subi v100 v102
  let v104 : BitVec 1 := Scalar.cmpi .ne v98 v103
  let v105 : BitVec 32 := Scalar.remsi v92 c5_i32_44
  let c0_i32_49 : BitVec 32 := 0#32
  let v106 : BitVec 1 := Scalar.cmpi .ne v105 c0_i32_49
  let v107 : BitVec 1 := Scalar.andi v104 v106
  let c1_i32_50 : BitVec 32 := 1#32
  let v108 : BitVec 32 := Scalar.subi v93 c1_i32_50
  let v109 : BitVec 32 := Scalar.select v107 v108 v93
  let c5_i32_51 : BitVec 32 := 5#32
  let c0_i32_52 : BitVec 32 := 0#32
  let v110 : BitVec 1 := Scalar.cmpi .eq c5_i32_51 c0_i32_52
  let c1_i32_53 : BitVec 32 := 1#32
  let v111 : BitVec 32 := Scalar.select v110 c1_i32_53 c5_i32_51
  let v112 : BitVec 32 := Scalar.remsi v92 v111
  let c0_i32_54 : BitVec 32 := 0#32
  let v113 : BitVec 1 := Scalar.cmpi .ne v112 c0_i32_54
  let c0_i32_55 : BitVec 32 := 0#32
  let v114 : BitVec 1 := Scalar.cmpi .slt v112 c0_i32_55
  let c0_i32_56 : BitVec 32 := 0#32
  let v115 : BitVec 1 := Scalar.cmpi .slt v111 c0_i32_56
  let v116 : BitVec 1 := Scalar.xori v114 v115
  let v117 : BitVec 1 := Scalar.andi v116 v113
  let v118 : BitVec 32 := Scalar.addi v112 v111
  let v119 : BitVec 32 := Scalar.select v117 v118 v112
  let c0_i32_57 : BitVec 32 := 0#32
  let c0_i32_58 : BitVec 32 := 0#32
  ![v49.toNat, c0_i32_57.toNat, v119.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c2_i32_0 : BitVec 32 := 2#32
  let v2 : BitVec 32 := Scalar.divsi v1 c2_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c3_i32 : BitVec 32 := 3#32
  let v19 : BitVec 32 := Scalar.muli c3_i32 v18
  let c2_i32_6 : BitVec 32 := 2#32
  let v20 : BitVec 32 := Scalar.addi v19 c2_i32_6
  let c2_i32_7 : BitVec 32 := 2#32
  let v21 : BitVec 32 := Scalar.muli v20 c2_i32_7
  let c2_i32_8 : BitVec 32 := 2#32
  let c0_i32_9 : BitVec 32 := 0#32
  let v22 : BitVec 1 := Scalar.cmpi .eq c2_i32_8 c0_i32_9
  let c1_i32_10 : BitVec 32 := 1#32
  let v23 : BitVec 32 := Scalar.select v22 c1_i32_10 c2_i32_8
  let v24 : BitVec 32 := Scalar.remsi v1 v23
  let c0_i32_11 : BitVec 32 := 0#32
  let v25 : BitVec 1 := Scalar.cmpi .ne v24 c0_i32_11
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c5_i32 : BitVec 32 := 5#32
  let v33 : BitVec 32 := Scalar.divsi v32 c5_i32
  let c0_i32_14 : BitVec 32 := 0#32
  let v34 : BitVec 1 := Scalar.cmpi .sgt v32 c0_i32_14
  let v35 : BitVec 32 := Scalar.extui v34
  let c0_i32_15 : BitVec 32 := 0#32
  let v36 : BitVec 1 := Scalar.cmpi .slt v32 c0_i32_15
  let v37 : BitVec 32 := Scalar.extui v36
  let v38 : BitVec 32 := Scalar.subi v35 v37
  let c0_i32_16 : BitVec 32 := 0#32
  let v39 : BitVec 1 := Scalar.cmpi .sgt c5_i32 c0_i32_16
  let v40 : BitVec 32 := Scalar.extui v39
  let c0_i32_17 : BitVec 32 := 0#32
  let v41 : BitVec 1 := Scalar.cmpi .slt c5_i32 c0_i32_17
  let v42 : BitVec 32 := Scalar.extui v41
  let v43 : BitVec 32 := Scalar.subi v40 v42
  let v44 : BitVec 1 := Scalar.cmpi .ne v38 v43
  let v45 : BitVec 32 := Scalar.remsi v32 c5_i32
  let c0_i32_18 : BitVec 32 := 0#32
  let v46 : BitVec 1 := Scalar.cmpi .ne v45 c0_i32_18
  let v47 : BitVec 1 := Scalar.andi v44 v46
  let c1_i32_19 : BitVec 32 := 1#32
  let v48 : BitVec 32 := Scalar.subi v33 c1_i32_19
  let v49 : BitVec 32 := Scalar.select v47 v48 v33
  let c5_i32_20 : BitVec 32 := 5#32
  let c0_i32_21 : BitVec 32 := 0#32
  let v50 : BitVec 1 := Scalar.cmpi .eq c5_i32_20 c0_i32_21
  let c1_i32_22 : BitVec 32 := 1#32
  let v51 : BitVec 32 := Scalar.select v50 c1_i32_22 c5_i32_20
  let v52 : BitVec 32 := Scalar.remsi v32 v51
  let c0_i32_23 : BitVec 32 := 0#32
  let v53 : BitVec 1 := Scalar.cmpi .ne v52 c0_i32_23
  let c0_i32_24 : BitVec 32 := 0#32
  let v54 : BitVec 1 := Scalar.cmpi .slt v52 c0_i32_24
  let c0_i32_25 : BitVec 32 := 0#32
  let v55 : BitVec 1 := Scalar.cmpi .slt v51 c0_i32_25
  let v56 : BitVec 1 := Scalar.xori v54 v55
  let v57 : BitVec 1 := Scalar.andi v56 v53
  let v58 : BitVec 32 := Scalar.addi v52 v51
  let v59 : BitVec 32 := Scalar.select v57 v58 v52
  let c2_i32_26 : BitVec 32 := 2#32
  let v60 : BitVec 32 := Scalar.muli c2_i32_26 arg1
  let c1_i32_27 : BitVec 32 := 1#32
  let v61 : BitVec 32 := Scalar.addi v60 c1_i32_27
  let c2_i32_28 : BitVec 32 := 2#32
  let v62 : BitVec 32 := Scalar.divsi v61 c2_i32_28
  let c0_i32_29 : BitVec 32 := 0#32
  let v63 : BitVec 1 := Scalar.cmpi .sgt v61 c0_i32_29
  let v64 : BitVec 32 := Scalar.extui v63
  let c0_i32_30 : BitVec 32 := 0#32
  let v65 : BitVec 1 := Scalar.cmpi .slt v61 c0_i32_30
  let v66 : BitVec 32 := Scalar.extui v65
  let v67 : BitVec 32 := Scalar.subi v64 v66
  let c0_i32_31 : BitVec 32 := 0#32
  let v68 : BitVec 1 := Scalar.cmpi .sgt c2_i32_28 c0_i32_31
  let v69 : BitVec 32 := Scalar.extui v68
  let c0_i32_32 : BitVec 32 := 0#32
  let v70 : BitVec 1 := Scalar.cmpi .slt c2_i32_28 c0_i32_32
  let v71 : BitVec 32 := Scalar.extui v70
  let v72 : BitVec 32 := Scalar.subi v69 v71
  let v73 : BitVec 1 := Scalar.cmpi .ne v67 v72
  let v74 : BitVec 32 := Scalar.remsi v61 c2_i32_28
  let c0_i32_33 : BitVec 32 := 0#32
  let v75 : BitVec 1 := Scalar.cmpi .ne v74 c0_i32_33
  let v76 : BitVec 1 := Scalar.andi v73 v75
  let c1_i32_34 : BitVec 32 := 1#32
  let v77 : BitVec 32 := Scalar.subi v62 c1_i32_34
  let v78 : BitVec 32 := Scalar.select v76 v77 v62
  let c3_i32_35 : BitVec 32 := 3#32
  let v79 : BitVec 32 := Scalar.muli c3_i32_35 v78
  let c2_i32_36 : BitVec 32 := 2#32
  let v80 : BitVec 32 := Scalar.addi v79 c2_i32_36
  let c2_i32_37 : BitVec 32 := 2#32
  let v81 : BitVec 32 := Scalar.muli v80 c2_i32_37
  let c2_i32_38 : BitVec 32 := 2#32
  let c0_i32_39 : BitVec 32 := 0#32
  let v82 : BitVec 1 := Scalar.cmpi .eq c2_i32_38 c0_i32_39
  let c1_i32_40 : BitVec 32 := 1#32
  let v83 : BitVec 32 := Scalar.select v82 c1_i32_40 c2_i32_38
  let v84 : BitVec 32 := Scalar.remsi v61 v83
  let c0_i32_41 : BitVec 32 := 0#32
  let v85 : BitVec 1 := Scalar.cmpi .ne v84 c0_i32_41
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let v89 : BitVec 1 := Scalar.andi v88 v85
  let v90 : BitVec 32 := Scalar.addi v84 v83
  let v91 : BitVec 32 := Scalar.select v89 v90 v84
  let v92 : BitVec 32 := Scalar.addi v81 v91
  let c5_i32_44 : BitVec 32 := 5#32
  let v93 : BitVec 32 := Scalar.divsi v92 c5_i32_44
  let c0_i32_45 : BitVec 32 := 0#32
  let v94 : BitVec 1 := Scalar.cmpi .sgt v92 c0_i32_45
  let v95 : BitVec 32 := Scalar.extui v94
  let c0_i32_46 : BitVec 32 := 0#32
  let v96 : BitVec 1 := Scalar.cmpi .slt v92 c0_i32_46
  let v97 : BitVec 32 := Scalar.extui v96
  let v98 : BitVec 32 := Scalar.subi v95 v97
  let c0_i32_47 : BitVec 32 := 0#32
  let v99 : BitVec 1 := Scalar.cmpi .sgt c5_i32_44 c0_i32_47
  let v100 : BitVec 32 := Scalar.extui v99
  let c0_i32_48 : BitVec 32 := 0#32
  let v101 : BitVec 1 := Scalar.cmpi .slt c5_i32_44 c0_i32_48
  let v102 : BitVec 32 := Scalar.extui v101
  let v103 : BitVec 32 := Scalar.subi v100 v102
  let v104 : BitVec 1 := Scalar.cmpi .ne v98 v103
  let v105 : BitVec 32 := Scalar.remsi v92 c5_i32_44
  let c0_i32_49 : BitVec 32 := 0#32
  let v106 : BitVec 1 := Scalar.cmpi .ne v105 c0_i32_49
  let v107 : BitVec 1 := Scalar.andi v104 v106
  let c1_i32_50 : BitVec 32 := 1#32
  let v108 : BitVec 32 := Scalar.subi v93 c1_i32_50
  let v109 : BitVec 32 := Scalar.select v107 v108 v93
  let c5_i32_51 : BitVec 32 := 5#32
  let c0_i32_52 : BitVec 32 := 0#32
  let v110 : BitVec 1 := Scalar.cmpi .eq c5_i32_51 c0_i32_52
  let c1_i32_53 : BitVec 32 := 1#32
  let v111 : BitVec 32 := Scalar.select v110 c1_i32_53 c5_i32_51
  let v112 : BitVec 32 := Scalar.remsi v92 v111
  let c0_i32_54 : BitVec 32 := 0#32
  let v113 : BitVec 1 := Scalar.cmpi .ne v112 c0_i32_54
  let c0_i32_55 : BitVec 32 := 0#32
  let v114 : BitVec 1 := Scalar.cmpi .slt v112 c0_i32_55
  let c0_i32_56 : BitVec 32 := 0#32
  let v115 : BitVec 1 := Scalar.cmpi .slt v111 c0_i32_56
  let v116 : BitVec 1 := Scalar.xori v114 v115
  let v117 : BitVec 1 := Scalar.andi v116 v113
  let v118 : BitVec 32 := Scalar.addi v112 v111
  let v119 : BitVec 32 := Scalar.select v117 v118 v112
  let c0_i32_57 : BitVec 32 := 0#32
  let c0_i32_58 : BitVec 32 := 0#32
  ![v49.toNat, c0_i32_57.toNat, v119.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== BInDx2RefIdeal.lean ====
abbrev S4096x1024 : Shape := ⟨2, ![4096, 1024]⟩
abbrev S1024x10240 : Shape := ⟨2, ![1024, 10240]⟩
abbrev S4096x3072 : Shape := ⟨2, ![4096, 3072]⟩
abbrev S1024x9216 : Shape := ⟨2, ![1024, 9216]⟩
abbrev S1024x3x3x1024 : Shape := ⟨4, ![1024, 3, 3, 1024]⟩
abbrev S1024x3x1x1024 : Shape := ⟨4, ![1024, 3, 1, 1024]⟩
abbrev S1024x3x1024 : Shape := ⟨3, ![1024, 3, 1024]⟩
abbrev S1024x3072 : Shape := ⟨2, ![1024, 3072]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x3072, .f32⟩
  | .hbm, ⟨3, _⟩ => ⟨S1024x9216, .f32⟩
  | .hbm, ⟨4, _⟩ => ⟨S1024x3x3x1024, .f32⟩
  | .hbm, ⟨5, _⟩ => ⟨S1024x3x1x1024, .f32⟩
  | .hbm, ⟨6, _⟩ => ⟨S1024x3x1024, .f32⟩
  | .hbm, ⟨7, _⟩ => ⟨S1024x3072, .f32⟩
  | .hbm, ⟨8, _⟩ => ⟨S4096x3072, .f32⟩
  | .hbm, ⟨9, _⟩ => ⟨S4096x1024, .f32⟩
  | .hbm, ⟨10, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== BIn2.lean ====
abbrev S4096x1024 : Shape := ⟨2, ![4096, 1024]⟩
abbrev S1024x10240 : Shape := ⟨2, ![1024, 10240]⟩
abbrev S1024x4x2560 : Shape := ⟨3, ![1024, 4, 2560]⟩
abbrev S4x1024x2560 : Shape := ⟨3, ![4, 1024, 2560]⟩
abbrev S4096x3072 : Shape := ⟨2, ![4096, 3072]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x1024, .bf16⟩
  | .hbm, ⟨3, _⟩ => ⟨S1024x4x2560, .f32⟩
  | .hbm, ⟨4, _⟩ => ⟨S4x1024x2560, .f32⟩
  | .hbm, ⟨5, _⟩ => ⟨S4x1024x2560, .bf16⟩
  | .hbm, ⟨6, _⟩ => ⟨S4096x3072, .bf16⟩
  | .local _ .vmem, ⟨0, _⟩ => ⟨S4096x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S4096x512, .bf16⟩
  | .local _ .vmem, ⟨4, _⟩ => ⟨S4096x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli c3_i32 v16
  let c2_i32_4 : BitVec 32 := 2#32
  let v18 : BitVec 32 := Scalar.addi v17 c2_i32_4
  let c2_i32_5 : BitVec 32 := 2#32
  let v19 : BitVec 32 := Scalar.muli v18 c2_i32_5
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c5_i32 : BitVec 32 := 5#32
  let v31 : BitVec 32 := Scalar.divsi v30 c5_i32
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c5_i32 c0_i32_14
  let v38 : BitVec 32 := Scalar.extui v37
  let c0_i32_15 : BitVec 32 := 0#32
  let v39 : BitVec 1 := Scalar.cmpi .slt c5_i32 c0_i32_15
  let v40 : BitVec 32 := Scalar.extui v39
  let v41 : BitVec 32 := Scalar.subi v38 v40
  let v42 : BitVec 1 := Scalar.cmpi .ne v36 v41
  let v43 : BitVec 32 := Scalar.remsi v30 c5_i32
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c5_i32_18 : BitVec 32 := 5#32
  let c0_i32_19 : BitVec 32 := 0#32
  let v48 : BitVec 1 := Scalar.cmpi .eq c5_i32_18 c0_i32_19
  let c1_i32_20 : BitVec 32 := 1#32
  let v49 : BitVec 32 := Scalar.select v48 c1_i32_20 c5_i32_18
  let v50 : BitVec 32 := Scalar.remsi v30 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let c2_i32_24 : BitVec 32 := 2#32
  let v58 : BitVec 32 := Scalar.divsi arg1 c2_i32_24
  let c0_i32_25 : BitVec 32 := 0#32
  let v59 : BitVec 1 := Scalar.cmpi .sgt arg1 c0_i32_25
  let v60 : BitVec 32 := Scalar.extui v59
  let c0_i32_26 : BitVec 32 := 0#32
  let v61 : BitVec 1 := Scalar.cmpi .slt arg1 c0_i32_26
  let v62 : BitVec 32 := Scalar.extui v61
  let v63 : BitVec 32 := Scalar.subi v60 v62
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi arg1 c2_i32_24
  let c0_i32_29 : BitVec 32 := 0#32
  let v71 : BitVec 1 := Scalar.cmpi .ne v70 c0_i32_29
  let v72 : BitVec 1 := Scalar.andi v69 v71
  let c1_i32_30 : BitVec 32 := 1#32
  let v73 : BitVec 32 := Scalar.subi v58 c1_i32_30
  let v74 : BitVec 32 := Scalar.select v72 v73 v58
  let c3_i32_31 : BitVec 32 := 3#32
  let v75 : BitVec 32 := Scalar.muli c3_i32_31 v74
  let c2_i32_32 : BitVec 32 := 2#32
  let v76 : BitVec 32 := Scalar.addi v75 c2_i32_32
  let c2_i32_33 : BitVec 32 := 2#32
  let v77 : BitVec 32 := Scalar.muli v76 c2_i32_33
  let c2_i32_34 : BitVec 32 := 2#32
  let c0_i32_35 : BitVec 32 := 0#32
  let v78 : BitVec 1 := Scalar.cmpi .eq c2_i32_34 c0_i32_35
  let c1_i32_36 : BitVec 32 := 1#32
  let v79 : BitVec 32 := Scalar.select v78 c1_i32_36 c2_i32_34
  let v80 : BitVec 32 := Scalar.remsi arg1 v79
  let c0_i32_37 : BitVec 32 := 0#32
  let v81 : BitVec 1 := Scalar.cmpi .ne v80 c0_i32_37
  let c0_i32_38 : BitVec 32 := 0#32
  let v82 : BitVec 1 := Scalar.cmpi .slt v80 c0_i32_38
  let c0_i32_39 : BitVec 32 := 0#32
  let v83 : BitVec 1 := Scalar.cmpi .slt v79 c0_i32_39
  let v84 : BitVec 1 := Scalar.xori v82 v83
  let v85 : BitVec 1 := Scalar.andi v84 v81
  let v86 : BitVec 32 := Scalar.addi v80 v79
  let v87 : BitVec 32 := Scalar.select v85 v86 v80
  let v88 : BitVec 32 := Scalar.addi v77 v87
  let c5_i32_40 : BitVec 32 := 5#32
  let v89 : BitVec 32 := Scalar.divsi v88 c5_i32_40
  let c0_i32_41 : BitVec 32 := 0#32
  let v90 : BitVec 1 := Scalar.cmpi .sgt v88 c0_i32_41
  let v91 : BitVec 32 := Scalar.extui v90
  let c0_i32_42 : BitVec 32 := 0#32
  let v92 : BitVec 1 := Scalar.cmpi .slt v88 c0_i32_42
  let v93 : BitVec 32 := Scalar.extui v92
  let v94 : BitVec 32 := Scalar.subi v91 v93
  let c0_i32_43 : BitVec 32 := 0#32
  let v95 : BitVec 1 := Scalar.cmpi .sgt c5_i32_40 c0_i32_43
  let v96 : BitVec 32 := Scalar.extui v95
  let c0_i32_44 : BitVec 32 := 0#32
  let v97 : BitVec 1 := Scalar.cmpi .slt c5_i32_40 c0_i32_44
  let v98 : BitVec 32 := Scalar.extui v97
  let v99 : BitVec 32 := Scalar.subi v96 v98
  let v100 : BitVec 1 := Scalar.cmpi .ne v94 v99
  let v101 : BitVec 32 := Scalar.remsi v88 c5_i32_40
  let c0_i32_45 : BitVec 32 := 0#32
  let v102 : BitVec 1 := Scalar.cmpi .ne v101 c0_i32_45
  let v103 : BitVec 1 := Scalar.andi v100 v102
  let c1_i32_46 : BitVec 32 := 1#32
  let v104 : BitVec 32 := Scalar.subi v89 c1_i32_46
  let v105 : BitVec 32 := Scalar.select v103 v104 v89
  let c5_i32_47 : BitVec 32 := 5#32
  let c0_i32_48 : BitVec 32 := 0#32
  let v106 : BitVec 1 := Scalar.cmpi .eq c5_i32_47 c0_i32_48
  let c1_i32_49 : BitVec 32 := 1#32
  let v107 : BitVec 32 := Scalar.select v106 c1_i32_49 c5_i32_47
  let v108 : BitVec 32 := Scalar.remsi v88 v107
  let c0_i32_50 : BitVec 32 := 0#32
  let v109 : BitVec 1 := Scalar.cmpi .ne v108 c0_i32_50
  let c0_i32_51 : BitVec 32 := 0#32
  let v110 : BitVec 1 := Scalar.cmpi .slt v108 c0_i32_51
  let c0_i32_52 : BitVec 32 := 0#32
  let v111 : BitVec 1 := Scalar.cmpi .slt v107 c0_i32_52
  let v112 : BitVec 1 := Scalar.xori v110 v111
  let v113 : BitVec 1 := Scalar.andi v112 v109
  let v114 : BitVec 32 := Scalar.addi v108 v107
  let v115 : BitVec 32 := Scalar.select v113 v114 v108
  let c0_i32_53 : BitVec 32 := 0#32
  ![v47.toNat, arg2.toNat, v115.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BIn2Ideal.lean ====
abbrev S4096x1024 : Shape := ⟨2, ![4096, 1024]⟩
abbrev S1024x10240 : Shape := ⟨2, ![1024, 10240]⟩
abbrev S1024x4x2560 : Shape := ⟨3, ![1024, 4, 2560]⟩
abbrev S4x1024x2560 : Shape := ⟨3, ![4, 1024, 2560]⟩
abbrev S4096x3072 : Shape := ⟨2, ![4096, 3072]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S4096x1024, .bf16⟩
  | .hbm, ⟨3, _⟩ => ⟨S1024x4x2560, .f32⟩
  | .hbm, ⟨4, _⟩ => ⟨S4x1024x2560, .f32⟩
  | .hbm, ⟨5, _⟩ => ⟨S4x1024x2560, .bf16⟩
  | .hbm, ⟨6, _⟩ => ⟨S4096x3072, .bf16⟩
  | .local _ .vmem, ⟨0, _⟩ => ⟨S4096x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S4096x512, .bf16⟩
  | .local _ .vmem, ⟨4, _⟩ => ⟨S4096x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli c3_i32 v16
  let c2_i32_4 : BitVec 32 := 2#32
  let v18 : BitVec 32 := Scalar.addi v17 c2_i32_4
  let c2_i32_5 : BitVec 32 := 2#32
  let v19 : BitVec 32 := Scalar.muli v18 c2_i32_5
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg1 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c5_i32 : BitVec 32 := 5#32
  let v31 : BitVec 32 := Scalar.divsi v30 c5_i32
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c5_i32 c0_i32_14
  let v38 : BitVec 32 := Scalar.extui v37
  let c0_i32_15 : BitVec 32 := 0#32
  let v39 : BitVec 1 := Scalar.cmpi .slt c5_i32 c0_i32_15
  let v40 : BitVec 32 := Scalar.extui v39
  let v41 : BitVec 32 := Scalar.subi v38 v40
  let v42 : BitVec 1 := Scalar.cmpi .ne v36 v41
  let v43 : BitVec 32 := Scalar.remsi v30 c5_i32
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c5_i32_18 : BitVec 32 := 5#32
  let c0_i32_19 : BitVec 32 := 0#32
  let v48 : BitVec 1 := Scalar.cmpi .eq c5_i32_18 c0_i32_19
  let c1_i32_20 : BitVec 32 := 1#32
  let v49 : BitVec 32 := Scalar.select v48 c1_i32_20 c5_i32_18
  let v50 : BitVec 32 := Scalar.remsi v30 v49
  let c0_i32_21 : BitVec 32 := 0#32
  let v51 : BitVec 1 := Scalar.cmpi .ne v50 c0_i32_21
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let v55 : BitVec 1 := Scalar.andi v54 v51
  let v56 : BitVec 32 := Scalar.addi v50 v49
  let v57 : BitVec 32 := Scalar.select v55 v56 v50
  let c2_i32_24 : BitVec 32 := 2#32
  let v58 : BitVec 32 := Scalar.divsi arg1 c2_i32_24
  let c0_i32_25 : BitVec 32 := 0#32
  let v59 : BitVec 1 := Scalar.cmpi .sgt arg1 c0_i32_25
  let v60 : BitVec 32 := Scalar.extui v59
  let c0_i32_26 : BitVec 32 := 0#32
  let v61 : BitVec 1 := Scalar.cmpi .slt arg1 c0_i32_26
  let v62 : BitVec 32 := Scalar.extui v61
  let v63 : BitVec 32 := Scalar.subi v60 v62
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi arg1 c2_i32_24
  let c0_i32_29 : BitVec 32 := 0#32
  let v71 : BitVec 1 := Scalar.cmpi .ne v70 c0_i32_29
  let v72 : BitVec 1 := Scalar.andi v69 v71
  let c1_i32_30 : BitVec 32 := 1#32
  let v73 : BitVec 32 := Scalar.subi v58 c1_i32_30
  let v74 : BitVec 32 := Scalar.select v72 v73 v58
  let c3_i32_31 : BitVec 32 := 3#32
  let v75 : BitVec 32 := Scalar.muli c3_i32_31 v74
  let c2_i32_32 : BitVec 32 := 2#32
  let v76 : BitVec 32 := Scalar.addi v75 c2_i32_32
  let c2_i32_33 : BitVec 32 := 2#32
  let v77 : BitVec 32 := Scalar.muli v76 c2_i32_33
  let c2_i32_34 : BitVec 32 := 2#32
  let c0_i32_35 : BitVec 32 := 0#32
  let v78 : BitVec 1 := Scalar.cmpi .eq c2_i32_34 c0_i32_35
  let c1_i32_36 : BitVec 32 := 1#32
  let v79 : BitVec 32 := Scalar.select v78 c1_i32_36 c2_i32_34
  let v80 : BitVec 32 := Scalar.remsi arg1 v79
  let c0_i32_37 : BitVec 32 := 0#32
  let v81 : BitVec 1 := Scalar.cmpi .ne v80 c0_i32_37
  let c0_i32_38 : BitVec 32 := 0#32
  let v82 : BitVec 1 := Scalar.cmpi .slt v80 c0_i32_38
  let c0_i32_39 : BitVec 32 := 0#32
  let v83 : BitVec 1 := Scalar.cmpi .slt v79 c0_i32_39
  let v84 : BitVec 1 := Scalar.xori v82 v83
  let v85 : BitVec 1 := Scalar.andi v84 v81
  let v86 : BitVec 32 := Scalar.addi v80 v79
  let v87 : BitVec 32 := Scalar.select v85 v86 v80
  let v88 : BitVec 32 := Scalar.addi v77 v87
  let c5_i32_40 : BitVec 32 := 5#32
  let v89 : BitVec 32 := Scalar.divsi v88 c5_i32_40
  let c0_i32_41 : BitVec 32 := 0#32
  let v90 : BitVec 1 := Scalar.cmpi .sgt v88 c0_i32_41
  let v91 : BitVec 32 := Scalar.extui v90
  let c0_i32_42 : BitVec 32 := 0#32
  let v92 : BitVec 1 := Scalar.cmpi .slt v88 c0_i32_42
  let v93 : BitVec 32 := Scalar.extui v92
  let v94 : BitVec 32 := Scalar.subi v91 v93
  let c0_i32_43 : BitVec 32 := 0#32
  let v95 : BitVec 1 := Scalar.cmpi .sgt c5_i32_40 c0_i32_43
  let v96 : BitVec 32 := Scalar.extui v95
  let c0_i32_44 : BitVec 32 := 0#32
  let v97 : BitVec 1 := Scalar.cmpi .slt c5_i32_40 c0_i32_44
  let v98 : BitVec 32 := Scalar.extui v97
  let v99 : BitVec 32 := Scalar.subi v96 v98
  let v100 : BitVec 1 := Scalar.cmpi .ne v94 v99
  let v101 : BitVec 32 := Scalar.remsi v88 c5_i32_40
  let c0_i32_45 : BitVec 32 := 0#32
  let v102 : BitVec 1 := Scalar.cmpi .ne v101 c0_i32_45
  let v103 : BitVec 1 := Scalar.andi v100 v102
  let c1_i32_46 : BitVec 32 := 1#32
  let v104 : BitVec 32 := Scalar.subi v89 c1_i32_46
  let v105 : BitVec 32 := Scalar.select v103 v104 v89
  let c5_i32_47 : BitVec 32 := 5#32
  let c0_i32_48 : BitVec 32 := 0#32
  let v106 : BitVec 1 := Scalar.cmpi .eq c5_i32_47 c0_i32_48
  let c1_i32_49 : BitVec 32 := 1#32
  let v107 : BitVec 32 := Scalar.select v106 c1_i32_49 c5_i32_47
  let v108 : BitVec 32 := Scalar.remsi v88 v107
  let c0_i32_50 : BitVec 32 := 0#32
  let v109 : BitVec 1 := Scalar.cmpi .ne v108 c0_i32_50
  let c0_i32_51 : BitVec 32 := 0#32
  let v110 : BitVec 1 := Scalar.cmpi .slt v108 c0_i32_51
  let c0_i32_52 : BitVec 32 := 0#32
  let v111 : BitVec 1 := Scalar.cmpi .slt v107 c0_i32_52
  let v112 : BitVec 1 := Scalar.xori v110 v111
  let v113 : BitVec 1 := Scalar.andi v112 v109
  let v114 : BitVec 32 := Scalar.addi v108 v107
  let v115 : BitVec 32 := Scalar.select v113 v114 v108
  let c0_i32_53 : BitVec 32 := 0#32
  ![v47.toNat, arg2.toNat, v115.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BIn2RefIdeal.lean ====
abbrev S4096x1024 : Shape := ⟨2, ![4096, 1024]⟩
abbrev S1024x10240 : Shape := ⟨2, ![1024, 10240]⟩
abbrev S1024x9216 : Shape := ⟨2, ![1024, 9216]⟩
abbrev S1024x3x3x1024 : Shape := ⟨4, ![1024, 3, 3, 1024]⟩
abbrev S1024x3x1x1024 : Shape := ⟨4, ![1024, 3, 1, 1024]⟩
abbrev S1024x3x1024 : Shape := ⟨3, ![1024, 3, 1024]⟩
abbrev S1024x3072 : Shape := ⟨2, ![1024, 3072]⟩
abbrev S4096x3072 : Shape := ⟨2, ![4096, 3072]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x10240, .f32⟩
  | .hbm, ⟨2, _⟩ => ⟨S1024x9216, .f32⟩
  | .hbm, ⟨3, _⟩ => ⟨S1024x3x3x1024, .f32⟩
  | .hbm, ⟨4, _⟩ => ⟨S1024x3x1x1024, .f32⟩
  | .hbm, ⟨5, _⟩ => ⟨S1024x3x1024, .f32⟩
  | .hbm, ⟨6, _⟩ => ⟨S1024x3072, .f32⟩
  | .hbm, ⟨7, _⟩ => ⟨S4096x3072, .f32⟩
  | .hbm, ⟨8, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== AIn.lean ====
abbrev S4096x1024 : Shape := ⟨2, ![4096, 1024]⟩
abbrev S1024x6144 : Shape := ⟨2, ![1024, 6144]⟩
abbrev S4096x6144 : Shape := ⟨2, ![4096, 6144]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S4096x1024, .bf16⟩
  | .hbm, ⟨3, _⟩ => ⟨S1024x6144, .bf16⟩
  | .hbm, ⟨4, _⟩ => ⟨S4096x6144, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AInRefIdeal.lean ====
abbrev S4096x1024 : Shape := ⟨2, ![4096, 1024]⟩
abbrev S1024x6144 : Shape := ⟨2, ![1024, 6144]⟩
abbrev S4096x6144 : Shape := ⟨2, ![4096, 6144]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S4096x6144, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AOut.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S1x1024, .f32⟩
  | .hbm, ⟨4, _⟩ => ⟨S4096x2048, .bf16⟩
  | .hbm, ⟨5, _⟩ => ⟨S2048x1024, .bf16⟩
  | .hbm, ⟨6, _⟩ => ⟨S4096x1024, .f32⟩
  | .hbm, ⟨7, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AOutRefIdeal.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== BOutLoss.lean ====
abbrev S4096x1024 : Shape := ⟨2, ![4096, 1024]⟩
abbrev S1024x1024 : Shape := ⟨2, ![1024, 1024]⟩
abbrev S8x8x128 : Shape := ⟨3, ![8, 8, 128]⟩
abbrev S512x1024 : Shape := ⟨2, ![512, 1024]⟩
abbrev S1x8x128 : Shape := ⟨3, ![1, 8, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S8x128 : Shape := ⟨2, ![8, 128]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .hbm, ⟨7, _⟩ => ⟨S8x8x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x8x128, .f32⟩
  | .local _ .vmem, ⟨10, _⟩ => ⟨S1x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== BOutLossRefIdeal.lean ====
abbrev S4096x1024 : Shape := ⟨2, ![4096, 1024]⟩
abbrev S1024x1024 : Shape := ⟨2, ![1024, 1024]⟩
abbrev S_ : Shape := ⟨0, ![]⟩
abbrev S4096 : Shape := ⟨1, ![4096]⟩
abbrev S8x512 : Shape := ⟨2, ![8, 512]⟩
abbrev S8 : Shape := ⟨1, ![8]⟩
abbrev S8x1x1 : Shape := ⟨3, ![8, 1, 1]⟩
abbrev S8x8x128 : Shape := ⟨3, ![8, 8, 128]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S8x512, .f32⟩
  | .hbm, ⟨17, _⟩ => ⟨S_, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S8x512, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096x1024, .f32⟩
  | .hbm, ⟨33, _⟩ => ⟨S4096x1024, .f32⟩
  | .hbm, ⟨34, _⟩ => ⟨S8x1x1, .f32⟩
  | .hbm, ⟨35, _⟩ => ⟨S8x8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== AdamSmall.lean ====
abbrev S88x128 : Shape := ⟨2, ![88, 128]⟩
abbrev S8x128 : Shape := ⟨2, ![8, 128]⟩

abbrev nBuf : Space → Nat
  | .hbm => 7
  | .vmem => 14
  | .smem => 0
  | _ => 0

abbrev bufTy : (tb : Table) → Fin (tcTables nBuf tb) → BufTy
  | .hbm, ⟨0, _⟩ => ⟨S88x128, .f32⟩
  | .hbm, ⟨1, _⟩ => ⟨S88x128, .f32⟩
  | .hbm, ⟨2, _⟩ => ⟨S88x128, .f32⟩
  | .hbm, ⟨3, _⟩ => ⟨S88x128, .f32⟩
  | .hbm, ⟨4, _⟩ => ⟨S88x128, .f32⟩
  | .hbm, ⟨5, _⟩ => ⟨S88x128, .f32⟩
  | .hbm, ⟨6, _⟩ => ⟨S88x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S88x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S88x128 : Shape := ⟨2, ![88, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S88x128, .f32⟩
  | .hbm, ⟨1, _⟩ => ⟨S88x128, .f32⟩
  | .hbm, ⟨2, _⟩ => ⟨S88x128, .f32⟩
  | .hbm, ⟨3, _⟩ => ⟨S88x128, .f32⟩
  | .hbm, ⟨4, _⟩ => ⟨S_, .f32⟩
  | .hbm, ⟨5, _⟩ => ⟨S88x128, .f32⟩
  | .hbm, ⟨6, _⟩ => ⟨S88x128, .f32⟩
  | .hbm, ⟨7, _⟩ => ⟨S_, .f32⟩
  | .hbm, ⟨8, _⟩ => ⟨S88x128, .f32⟩
  | .hbm, ⟨9, _⟩ => ⟨S88x128, .f32⟩
  | .hbm, ⟨10, _⟩ => ⟨S88x128, .f32⟩
  | .hbm, ⟨11, _⟩ => ⟨S_, .f32⟩
  | .hbm, ⟨12, _⟩ => ⟨S88x128, .f32⟩
  | .hbm, ⟨13, _⟩ => ⟨S88x128, .f32⟩
  | .hbm, ⟨14, _⟩ => ⟨S88x128, .f32⟩
  | .hbm, ⟨15, _⟩ => ⟨S_, .f32⟩
  | .hbm, ⟨16, _⟩ => ⟨S88x128, .f32⟩
  | .hbm, ⟨17, _⟩ => ⟨S88x128, .f32⟩
  | .hbm, ⟨18, _⟩ => ⟨S88x128, .f32⟩
  | .hbm, ⟨19, _⟩ => ⟨S_, .f32⟩
  | .hbm, ⟨20, _⟩ => ⟨S88x128, .f32⟩
  | .hbm, ⟨21, _⟩ => ⟨S88x128, .f32⟩
  | .hbm, ⟨22, _⟩ => ⟨S_, .f32⟩
  | .hbm, ⟨23, _⟩ => ⟨S88x128, .f32⟩
  | .hbm, ⟨24, _⟩ => ⟨S88x128, .f32⟩
  | .hbm, ⟨25, _⟩ => ⟨S88x128, .f32⟩
  | .hbm, ⟨26, _⟩ => ⟨S_, .f32⟩
  | .hbm, ⟨27, _⟩ => ⟨S88x128, .f32⟩
  | .hbm, ⟨28, _⟩ => ⟨S88x128, .f32⟩
  | .hbm, ⟨29, _⟩ => ⟨S88x128, .f32⟩
  | .hbm, ⟨30, _⟩ => ⟨S_, .f32⟩
  | .hbm, ⟨31, _⟩ => ⟨S88x128, .f32⟩
  | .hbm, ⟨32, _⟩ => ⟨S88x128, .f32⟩
  | .hbm, ⟨33, _⟩ => ⟨S88x128, .f32⟩
  | .hbm, ⟨34, _⟩ => ⟨S_, .f32⟩
  | .hbm, ⟨35, _⟩ => ⟨S88x128, .f32⟩
  | .hbm, ⟨36, _⟩ => ⟨S88x128, .f32⟩
  | _, _ => ⟨S88x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAOut.lean ====
abbrev S1 : Shape := ⟨1, ![1]⟩
abbrev S1x512x1024 : Shape := ⟨3, ![1, 512, 1024]⟩
abbrev S256x1024 : Shape := ⟨2, ![256, 1024]⟩
abbrev S1x128x1024 : Shape := ⟨3, ![1, 128, 1024]⟩
abbrev S128x1024 : Shape := ⟨2, ![128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S1x512x1024, .f32⟩
  | .hbm, ⟨1, _⟩ => ⟨S256x1024, .f32⟩
  | .hbm, ⟨2, _⟩ => ⟨S256x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .hbm, ⟨8, _⟩ => ⟨S1x512x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamAOutIdeal.lean ====
abbrev S1 : Shape := ⟨1, ![1]⟩
abbrev S1x512x1024 : Shape := ⟨3, ![1, 512, 1024]⟩
abbrev S256x1024 : Shape := ⟨2, ![256, 1024]⟩
abbrev S1x128x1024 : Shape := ⟨3, ![1, 128, 1024]⟩
abbrev S128x1024 : Shape := ⟨2, ![128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S1x512x1024, .f32⟩
  | .hbm, ⟨1, _⟩ => ⟨S256x1024, .f32⟩
  | .hbm, ⟨2, _⟩ => ⟨S256x1024, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .hbm, ⟨8, _⟩ => ⟨S1x512x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamAOutRefIdeal.lean ====
abbrev S1 : Shape := ⟨1, ![1]⟩
abbrev S1x512x1024 : Shape := ⟨3, ![1, 512, 1024]⟩
abbrev S256x1024 : Shape := ⟨2, ![256, 1024]⟩
abbrev S_ : Shape := ⟨0, ![]⟩
abbrev S512x1024 : Shape := ⟨2, ![512, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x512x1024, .f32⟩
  | .hbm, ⟨2, _⟩ => ⟨S256x1024, .f32⟩
  | .hbm, ⟨3, _⟩ => ⟨S256x1024, .f32⟩
  | .hbm, ⟨4, _⟩ => ⟨S1x512x1024, .f32⟩
  | .hbm, ⟨5, _⟩ => ⟨S1x512x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S256x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S256x1024, .f32⟩
  | .hbm, ⟨14, _⟩ => ⟨S512x1024, .f32⟩
  | .hbm, ⟨15, _⟩ => ⟨S1x512x1024, .f32⟩
  | .hbm, ⟨16, _⟩ => ⟨S_, .f32⟩
  | .hbm, ⟨17, _⟩ => ⟨S1x512x1024, .f32⟩
  | .hbm, ⟨18, _⟩ => ⟨S1x512x1024, .f32⟩
  | .hbm, ⟨19, _⟩ => ⟨S_, .f32⟩
  | .hbm, ⟨20, _⟩ => ⟨S1x512x1024, .f32⟩
  | .hbm, ⟨21, _⟩ => ⟨S1x512x1024, .f32⟩
  | .hbm, ⟨22, _⟩ => ⟨S1x512x1024, .f32⟩
  | .hbm, ⟨23, _⟩ => ⟨S_, .f32⟩
  | .hbm, ⟨24, _⟩ => ⟨S1x512x1024, .f32⟩
  | .hbm, ⟨25, _⟩ => ⟨S1x512x1024, .f32⟩
  | .hbm, ⟨26, _⟩ => ⟨S1x512x1024, .f32⟩
  | .hbm, ⟨27, _⟩ => ⟨S_, .f32⟩
  | .hbm, ⟨28, _⟩ => ⟨S1x512x1024, .f32⟩
  | .hbm, ⟨29, _⟩ => ⟨S1x512x1024, .f32⟩
  | .hbm, ⟨30, _⟩ => ⟨S1x512x1024, .f32⟩
  | .hbm, ⟨31, _⟩ => ⟨S_, .f32⟩
  | .hbm, ⟨32, _⟩ => ⟨S1x512x1024, .f32⟩
  | .hbm, ⟨33, _⟩ => ⟨S1x512x1024, .f32⟩
  | .hbm, ⟨34, _⟩ => ⟨S_, .f32⟩
  | .hbm, ⟨35, _⟩ => ⟨S1x512x1024, .f32⟩
  | .hbm, ⟨36, _⟩ => ⟨S1x512x1024, .f32⟩
  | .hbm, ⟨37, _⟩ => ⟨S1x512x1024, .f32⟩
  | .hbm, ⟨38, _⟩ => ⟨S_, .f32⟩
  | .hbm, ⟨39, _⟩ => ⟨S1x512x1024, .f32⟩
  | .hbm, ⟨40, _⟩ => ⟨S1x512x1024, .f32⟩
  | .hbm, ⟨41, _⟩ => ⟨S1x512x1024, .f32⟩
  | .hbm, ⟨42, _⟩ => ⟨S_, .f32⟩
  | .hbm, ⟨43, _⟩ => ⟨S1x512x1024, .f32⟩
  | .hbm, ⟨44, _⟩ => ⟨S1x512x1024, .f32⟩
  | .hbm, ⟨45, _⟩ => ⟨S1x512x1024, .f32⟩
  | .hbm, ⟨46, _⟩ => ⟨S_, .f32⟩
  | .hbm, ⟨47, _⟩ => ⟨S1x512x1024, .f32⟩
  | .hbm, ⟨48, _⟩ => ⟨S1x512x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== AdamBIn.lean ====
abbrev S1 : Shape := ⟨1, ![1]⟩
abbrev S1x1024x2560 : Shape := ⟨3, ![1, 1024, 2560]⟩
abbrev S512x2560 : Shape := ⟨2, ![512, 2560]⟩
abbrev S1x128x2560 : Shape := ⟨3, ![1, 128, 2560]⟩
abbrev S128x2560 : Shape := ⟨2, ![128, 2560]⟩

abbrev nBuf : Space → Nat
  | .hbm => 9
  | .vmem => 18
  | .smem => 1
  | _ => 0

abbrev bufTy : (tb : Table) → Fin (tcTables nBuf tb) → BufTy
  | .hbm, ⟨0, _⟩ => ⟨S1x1024x2560, .f32⟩
  | .hbm, ⟨1, _⟩ => ⟨S512x2560, .f32⟩
  | .hbm, ⟨2, _⟩ => ⟨S512x2560, .f32⟩
  | .hbm, ⟨3, _⟩ => ⟨S1x1024x2560, .f32⟩
  | .hbm, ⟨4, _⟩ => ⟨S1x1024x2560, .f32⟩
  | .hbm, ⟨5, _⟩ => ⟨S1x1024x2560, .f32⟩
  | .hbm, ⟨6, _⟩ => ⟨S1x1024x2560, .f32⟩
  | .hbm, ⟨7, _⟩ => ⟨S1x1024x2560, .f32⟩
  | .hbm, ⟨8, _⟩ => ⟨S1x1024x2560, .f32⟩
  | .local _ .vmem, ⟨0, _⟩ => ⟨S1x128x2560, .f32⟩
  | .local _ .vmem, ⟨1, _⟩ => ⟨S1x128x2560, .f32⟩
  | .local _ .vmem, ⟨2, _⟩ => ⟨S128x2560, .f32⟩
  | .local _ .vmem, ⟨3, _⟩ => ⟨S128x2560, .f32⟩
  | .local _ .vmem, ⟨4, _⟩ => ⟨S128x2560, .f32⟩
  | .local _ .vmem, ⟨5, _⟩ => ⟨S128x2560, .f32⟩
  | .local _ .vmem, ⟨6, _⟩ => ⟨S1x128x2560, .f32⟩
  | .local _ .vmem, ⟨7, _⟩ => ⟨S1x128x2560, .f32⟩
  | .local _ .vmem, ⟨8, _⟩ => ⟨S1x128x2560, .f32⟩
  | .local _ .vmem, ⟨9, _⟩ => ⟨S1x128x2560, .f32⟩
  | .local _ .vmem, ⟨10, _⟩ => ⟨S1x128x2560, .f32⟩
  | .local _ .vmem, ⟨11, _⟩ => ⟨S1x128x2560, .f32⟩
  | .local _ .vmem, ⟨12, _⟩ => ⟨S1x128x2560, .f32⟩
  | .local _ .vmem, ⟨13, _⟩ => ⟨S1x128x2560, .f32⟩
  | .local _ .vmem, ⟨14, _⟩ => ⟨S1x128x2560, .f32⟩
  | .local _ .vmem, ⟨15, _⟩ => ⟨S1x128x2560, .f32⟩
  | .local _ .vmem, ⟨16, _⟩ => ⟨S1x128x2560, .f32⟩
  | .local _ .vmem, ⟨17, _⟩ => ⟨S1x128x2560, .f32⟩
  | .local _ .smem, ⟨0, _⟩ => ⟨S1, .i32⟩
  | _, _ => ⟨S1x1024x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2560 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamBInIdeal.lean ====
abbrev S1 : Shape := ⟨1, ![1]⟩
abbrev S1x1024x2560 : Shape := ⟨3, ![1, 1024, 2560]⟩
abbrev S512x2560 : Shape := ⟨2, ![512, 2560]⟩
abbrev S1x128x2560 : Shape := ⟨3, ![1, 128, 2560]⟩
abbrev S128x2560 : Shape := ⟨2, ![128, 2560]⟩

abbrev nBuf : Space → Nat
  | .hbm => 9
  | .vmem => 18
  | .smem => 1
  | _ => 0

abbrev bufTy : (tb : Table) → Fin (tcTables nBuf tb) → BufTy
  | .hbm, ⟨0, _⟩ => ⟨S1x1024x2560, .f32⟩
  | .hbm, ⟨1, _⟩ => ⟨S512x2560, .f32⟩
  | .hbm, ⟨2, _⟩ => ⟨S512x2560, .f32⟩
  | .hbm, ⟨3, _⟩ => ⟨S1x1024x2560, .f32⟩
  | .hbm, ⟨4, _⟩ => ⟨S1x1024x2560, .f32⟩
  | .hbm, ⟨5, _⟩ => ⟨S1x1024x2560, .f32⟩
  | .hbm, ⟨6, _⟩ => ⟨S1x1024x2560, .f32⟩
  | .hbm, ⟨7, _⟩ => ⟨S1x1024x2560, .f32⟩
  | .hbm, ⟨8, _⟩ => ⟨S1x1024x2560, .f32⟩
  | .local _ .vmem, ⟨0, _⟩ => ⟨S1x128x2560, .f32⟩
  | .local _ .vmem, ⟨1, _⟩ => ⟨S1x128x2560, .f32⟩
  | .local _ .vmem, ⟨2, _⟩ => ⟨S128x2560, .f32⟩
  | .local _ .vmem, ⟨3, _⟩ => ⟨S128x2560, .f32⟩
  | .local _ .vmem, ⟨4, _⟩ => ⟨S128x2560, .f32⟩
  | .local _ .vmem, ⟨5, _⟩ => ⟨S128x2560, .f32⟩
  | .local _ .vmem, ⟨6, _⟩ => ⟨S1x128x2560, .f32⟩
  | .local _ .vmem, ⟨7, _⟩ => ⟨S1x128x2560, .f32⟩
  | .local _ .vmem, ⟨8, _⟩ => ⟨S1x128x2560, .f32⟩
  | .local _ .vmem, ⟨9, _⟩ => ⟨S1x128x2560, .f32⟩
  | .local _ .vmem, ⟨10, _⟩ => ⟨S1x128x2560, .f32⟩
  | .local _ .vmem, ⟨11, _⟩ => ⟨S1x128x2560, .f32⟩
  | .local _ .vmem, ⟨12, _⟩ => ⟨S1x128x2560, .f32⟩
  | .local _ .vmem, ⟨13, _⟩ => ⟨S1x128x2560, .f32⟩
  | .local _ .vmem, ⟨14, _⟩ => ⟨S1x128x2560, .f32⟩
  | .local _ .vmem, ⟨15, _⟩ => ⟨S1x128x2560, .f32⟩
  | .local _ .vmem, ⟨16, _⟩ => ⟨S1x128x2560, .f32⟩
  | .local _ .vmem, ⟨17, _⟩ => ⟨S1x128x2560, .f32⟩
  | .local _ .smem, ⟨0, _⟩ => ⟨S1, .i32⟩
  | _, _ => ⟨S1x1024x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2560 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamBInRefIdeal.lean ====
abbrev S1 : Shape := ⟨1, ![1]⟩
abbrev S1x1024x2560 : Shape := ⟨3, ![1, 1024, 2560]⟩
abbrev S512x2560 : Shape := ⟨2, ![512, 2560]⟩
abbrev S_ : Shape := ⟨0, ![]⟩
abbrev S1024x2560 : Shape := ⟨2, ![1024, 2560]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1024x2560, .f32⟩
  | .hbm, ⟨2, _⟩ => ⟨S512x2560, .f32⟩
  | .hbm, ⟨3, _⟩ => ⟨S512x2560, .f32⟩
  | .hbm, ⟨4, _⟩ => ⟨S1x1024x2560, .f32⟩
  | .hbm, ⟨5, _⟩ => ⟨S1x1024x2560, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x2560, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x2560, .f32⟩
  | .hbm, ⟨14, _⟩ => ⟨S1024x2560, .f32⟩
  | .hbm, ⟨15, _⟩ => ⟨S1x1024x2560, .f32⟩
  | .hbm, ⟨16, _⟩ => ⟨S_, .f32⟩
  | .hbm, ⟨17, _⟩ => ⟨S1x1024x2560, .f32⟩
  | .hbm, ⟨18, _⟩ => ⟨S1x1024x2560, .f32⟩
  | .hbm, ⟨19, _⟩ => ⟨S_, .f32⟩
  | .hbm, ⟨20, _⟩ => ⟨S1x1024x2560, .f32⟩
  | .hbm, ⟨21, _⟩ => ⟨S1x1024x2560, .f32⟩
  | .hbm, ⟨22, _⟩ => ⟨S1x1024x2560, .f32⟩
  | .hbm, ⟨23, _⟩ => ⟨S_, .f32⟩
  | .hbm, ⟨24, _⟩ => ⟨S1x1024x2560, .f32⟩
  | .hbm, ⟨25, _⟩ => ⟨S1x1024x2560, .f32⟩
  | .hbm, ⟨26, _⟩ => ⟨S1x1024x2560, .f32⟩
  | .hbm, ⟨27, _⟩ => ⟨S_, .f32⟩
  | .hbm, ⟨28, _⟩ => ⟨S1x1024x2560, .f32⟩
  | .hbm, ⟨29, _⟩ => ⟨S1x1024x2560, .f32⟩
  | .hbm, ⟨30, _⟩ => ⟨S1x1024x2560, .f32⟩
  | .hbm, ⟨31, _⟩ => ⟨S_, .f32⟩
  | .hbm, ⟨32, _⟩ => ⟨S1x1024x2560, .f32⟩
  | .hbm, ⟨33, _⟩ => ⟨S1x1024x2560, .f32⟩
  | .hbm, ⟨34, _⟩ => ⟨S_, .f32⟩
  | .hbm, ⟨35, _⟩ => ⟨S1x1024x2560, .f32⟩
  | .hbm, ⟨36, _⟩ => ⟨S1x1024x2560, .f32⟩
  | .hbm, ⟨37, _⟩ => ⟨S1x1024x2560, .f32⟩
  | .hbm, ⟨38, _⟩ => ⟨S_, .f32⟩
  | .hbm, ⟨39, _⟩ => ⟨S1x1024x2560, .f32⟩
  | .hbm, ⟨40, _⟩ => ⟨S1x1024x2560, .f32⟩
  | .hbm, ⟨41, _⟩ => ⟨S1x1024x2560, .f32⟩
  | .hbm, ⟨42, _⟩ => ⟨S_, .f32⟩
  | .hbm, ⟨43, _⟩ => ⟨S1x1024x2560, .f32⟩
  | .hbm, ⟨44, _⟩ => ⟨S1x1024x2560, .f32⟩
  | .hbm, ⟨45, _⟩ => ⟨S1x1024x2560, .f32⟩
  | .hbm, ⟨46, _⟩ => ⟨S_, .f32⟩
  | .hbm, ⟨47, _⟩ => ⟨S1x1024x2560, .f32⟩
  | .hbm, ⟨48, _⟩ => ⟨S1x1024x2560, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== AdamBOut.lean ====
abbrev S1 : Shape := ⟨1, ![1]⟩
abbrev S1x256x1024 : Shape := ⟨3, ![1, 256, 1024]⟩
abbrev S128x1024 : Shape := ⟨2, ![128, 1024]⟩
abbrev S1x128x1024 : Shape := ⟨3, ![1, 128, 1024]⟩

abbrev nBuf : Space → Nat
  | .hbm => 9
  | .vmem => 16
  | .smem => 1
  | _ => 0

abbrev bufTy : (tb : Table) → Fin (tcTables nBuf tb) → BufTy
  | .hbm, ⟨0, _⟩ => ⟨S1x256x1024, .f32⟩
  | .hbm, ⟨1, _⟩ => ⟨S128x1024, .f32⟩
  | .hbm, ⟨2, _⟩ => ⟨S128x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S128x1024, .f32⟩
  | .local _ .vmem, ⟨3, _⟩ => ⟨S128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .smem, ⟨0, _⟩ => ⟨S1, .i32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamBOutRefIdeal.lean ====
abbrev S1 : Shape := ⟨1, ![1]⟩
abbrev S1x256x1024 : Shape := ⟨3, ![1, 256, 1024]⟩
abbrev S128x1024 : Shape := ⟨2, ![128, 1024]⟩
abbrev S_ : Shape := ⟨0, ![]⟩
abbrev S256x1024 : Shape := ⟨2, ![256, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x256x1024, .f32⟩
  | .hbm, ⟨2, _⟩ => ⟨S128x1024, .f32⟩
  | .hbm, ⟨3, _⟩ => ⟨S128x1024, .f32⟩
  | .hbm, ⟨4, _⟩ => ⟨S1x256x1024, .f32⟩
  | .hbm, ⟨5, _⟩ => ⟨S1x256x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S128x1024, .f32⟩
  | .hbm, ⟨14, _⟩ => ⟨S256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S1x256x1024, .f32⟩
  | .hbm, ⟨38, _⟩ => ⟨S_, .f32⟩
  | .hbm, ⟨39, _⟩ => ⟨S1x256x1024, .f32⟩
  | .hbm, ⟨40, _⟩ => ⟨S1x256x1024, .f32⟩
  | .hbm, ⟨41, _⟩ => ⟨S1x256x1024, .f32⟩
  | .hbm, ⟨42, _⟩ => ⟨S_, .f32⟩
  | .hbm, ⟨43, _⟩ => ⟨S1x256x1024, .f32⟩
  | .hbm, ⟨44, _⟩ => ⟨S1x256x1024, .f32⟩
  | .hbm, ⟨45, _⟩ => ⟨S1x256x1024, .f32⟩
  | .hbm, ⟨46, _⟩ => ⟨S_, .f32⟩
  | .hbm, ⟨47, _⟩ => ⟨S1x256x1024, .f32⟩
  | .hbm, ⟨48, _⟩ => ⟨S1x256x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== AdamAIn.lean ====
abbrev S1 : Shape := ⟨1, ![1]⟩
abbrev S1x1024x1540 : Shape := ⟨3, ![1, 1024, 1540]⟩
abbrev S512x1540 : Shape := ⟨2, ![512, 1540]⟩
abbrev S1540x1x1024 : Shape := ⟨3, ![1540, 1, 1024]⟩
abbrev S1540x512 : Shape := ⟨2, ![1540, 512]⟩
abbrev S1540x1x512 : Shape := ⟨3, ![1540, 1, 512]⟩
abbrev S77x1x1024 : Shape := ⟨3, ![77, 1, 1024]⟩
abbrev S77x1x512 : Shape := ⟨3, ![77, 1, 512]⟩

abbrev nBuf : Space → Nat
  | .hbm => 16
  | .vmem => 18
  | .smem => 1
  | _ => 0

abbrev bufTy : (tb : Table) → Fin (tcTables nBuf tb) → BufTy
  | .hbm, ⟨0, _⟩ => ⟨S1x1024x1540, .f32⟩
  | .hbm, ⟨1, _⟩ => ⟨S512x1540, .f32⟩
  | .hbm, ⟨2, _⟩ => ⟨S512x1540, .f32⟩
  | .hbm, ⟨3, _⟩ => ⟨S1x1024x1540, .f32⟩
  | .hbm, ⟨4, _⟩ => ⟨S1x1024x1540, .f32⟩
  | .hbm, ⟨5, _⟩ => ⟨S1540x1x1024, .f32⟩
  | .hbm, ⟨6, _⟩ => ⟨S1540x512, .f32⟩
  | .hbm, ⟨7, _⟩ => ⟨S1540x1x512, .f32⟩
  | .hbm, ⟨8, _⟩ => ⟨S1540x512, .f32⟩
  | .hbm, ⟨9, _⟩ => ⟨S1540x1x512, .f32⟩
  | .hbm, ⟨10, _⟩ => ⟨S1540x1x1024, .f32⟩
  | .hbm, ⟨11, _⟩ => ⟨S1540x1x1024, .f32⟩
  | .hbm, ⟨12, _⟩ => ⟨S1540x1x1024, .f32⟩
  | .hbm, ⟨13, _⟩ => ⟨S1540x1x1024, .f32⟩
  | .hbm, ⟨14, _⟩ => ⟨S1540x1x1024, .f32⟩
  | .hbm, ⟨15, _⟩ => ⟨S1540x1x1024, .f32⟩
  | .local _ .vmem, ⟨0, _⟩ => ⟨S77x1x1024, .f32⟩
  | .local _ .vmem, ⟨1, _⟩ => ⟨S77x1x1024, .f32⟩
  | .local _ .vmem, ⟨2, _⟩ => ⟨S77x1x512, .f32⟩
  | .local _ .vmem, ⟨3, _⟩ => ⟨S77x1x512, .f32⟩
  | .local _ .vmem, ⟨4, _⟩ => ⟨S77x1x512, .f32⟩
  | .local _ .vmem, ⟨5, _⟩ => ⟨S77x1x512, .f32⟩
  | .local _ .vmem, ⟨6, _⟩ => ⟨S77x1x1024, .f32⟩
  | .local _ .vmem, ⟨7, _⟩ => ⟨S77x1x1024, .f32⟩
  | .local _ .vmem, ⟨8, _⟩ => ⟨S77x1x1024, .f32⟩
  | .local _ .vmem, ⟨9, _⟩ => ⟨S77x1x1024, .f32⟩
  | .local _ .vmem, ⟨10, _⟩ => ⟨S77x1x1024, .f32⟩
  | .local _ .vmem, ⟨11, _⟩ => ⟨S77x1x1024, .f32⟩
  | .local _ .vmem, ⟨12, _⟩ => ⟨S77x1x1024, .f32⟩
  | .local _ .vmem, ⟨13, _⟩ => ⟨S77x1x1024, .f32⟩
  | .local _ .vmem, ⟨14, _⟩ => ⟨S77x1x1024, .f32⟩
  | .local _ .vmem, ⟨15, _⟩ => ⟨S77x1x1024, .f32⟩
  | .local _ .vmem, ⟨16, _⟩ => ⟨S77x1x1024, .f32⟩
  | .local _ .vmem, ⟨17, _⟩ => ⟨S77x1x1024, .f32⟩
  | .local _ .smem, ⟨0, _⟩ => ⟨S1, .i32⟩
  | _, _ => ⟨S1x1024x1540, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![20], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S77x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S77x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S77x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S77x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S77x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S77x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S77x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S77x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S77x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamAInRefIdeal.lean ====
abbrev S1 : Shape := ⟨1, ![1]⟩
abbrev S1x1024x1540 : Shape := ⟨3, ![1, 1024, 1540]⟩
abbrev S512x1540 : Shape := ⟨2, ![512, 1540]⟩
abbrev S_ : Shape := ⟨0, ![]⟩
abbrev S1024x1540 : Shape := ⟨2, ![1024, 1540]⟩
abbrev S1540x1x1024 : Shape := ⟨3, ![1540, 1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1024x1540, .f32⟩
  | .hbm, ⟨2, _⟩ => ⟨S512x1540, .f32⟩
  | .hbm, ⟨3, _⟩ => ⟨S512x1540, .f32⟩
  | .hbm, ⟨4, _⟩ => ⟨S1x1024x1540, .f32⟩
  | .hbm, ⟨5, _⟩ => ⟨S1x1024x1540, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x1540, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x1540, .f32⟩
  | .hbm, ⟨14, _⟩ => ⟨S1024x1540, .f32⟩
  | .hbm, ⟨15, _⟩ => ⟨S1x1024x1540, .f32⟩
  | .hbm, ⟨16, _⟩ => ⟨S_, .f32⟩
  | .hbm, ⟨17, _⟩ => ⟨S1x1024x1540, .f32⟩
  | .hbm, ⟨18, _⟩ => ⟨S1x1024x1540, .f32⟩
  | .hbm, ⟨19, _⟩ => ⟨S_, .f32⟩
  | .hbm, ⟨20, _⟩ => ⟨S1x1024x1540, .f32⟩
  | .hbm, ⟨21, _⟩ => ⟨S1x1024x1540, .f32⟩
  | .hbm, ⟨22, _⟩ => ⟨S1x1024x1540, .f32⟩
  | .hbm, ⟨23, _⟩ => ⟨S_, .f32⟩
  | .hbm, ⟨24, _⟩ => ⟨S1x1024x1540, .f32⟩
  | .hbm, ⟨25, _⟩ => ⟨S1x1024x1540, .f32⟩
  | .hbm, ⟨26, _⟩ => ⟨S1x1024x1540, .f32⟩
  | .hbm, ⟨27, _⟩ => ⟨S_, .f32⟩
  | .hbm, ⟨28, _⟩ => ⟨S1x1024x1540, .f32⟩
  | .hbm, ⟨29, _⟩ => ⟨S1x1024x1540, .f32⟩
  | .hbm, ⟨30, _⟩ => ⟨S1x1024x1540, .f32⟩
  | .hbm, ⟨31, _⟩ => ⟨S_, .f32⟩
  | .hbm, ⟨32, _⟩ => ⟨S1x1024x1540, .f32⟩
  | .hbm, ⟨33, _⟩ => ⟨S1x1024x1540, .f32⟩
  | .hbm, ⟨34, _⟩ => ⟨S_, .f32⟩
  | .hbm, ⟨35, _⟩ => ⟨S1x1024x1540, .f32⟩
  | .hbm, ⟨36, _⟩ => ⟨S1x1024x1540, .f32⟩
  | .hbm, ⟨37, _⟩ => ⟨S1x1024x1540, .f32⟩
  | .hbm, ⟨38, _⟩ => ⟨S_, .f32⟩
  | .hbm, ⟨39, _⟩ => ⟨S1x1024x1540, .f32⟩
  | .hbm, ⟨40, _⟩ => ⟨S1x1024x1540, .f32⟩
  | .hbm, ⟨41, _⟩ => ⟨S1x1024x1540, .f32⟩
  | .hbm, ⟨42, _⟩ => ⟨S_, .f32⟩
  | .hbm, ⟨43, _⟩ => ⟨S1x1024x1540, .f32⟩
  | .hbm, ⟨44, _⟩ => ⟨S1x1024x1540, .f32⟩
  | .hbm, ⟨45, _⟩ => ⟨S1x1024x1540, .f32⟩
  | .hbm, ⟨46, _⟩ => ⟨S_, .f32⟩
  | .hbm, ⟨47, _⟩ => ⟨S1x1024x1540, .f32⟩
  | .hbm, ⟨48, _⟩ => ⟨S1x1024x1540, .f32⟩
  | .hbm, ⟨49, _⟩ => ⟨S1540x1x1024, .f32⟩
  | .hbm, ⟨50, _⟩ => ⟨S1540x1x1024, .f32⟩
  | .hbm, ⟨51, _⟩ => ⟨S1540x1x1024, .f32⟩
  | .hbm, ⟨52, _⟩ => ⟨S1540x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== AttnBwd2.lean ====
abbrev S2x2048x8x128 : Shape := ⟨4, ![2, 2048, 8, 128]⟩
abbrev S2x2048x8 : Shape := ⟨3, ![2, 2048, 8]⟩
abbrev S4096x1024 : Shape := ⟨2, ![4096, 1024]⟩
abbrev S2x128x16x1024 : Shape := ⟨4, ![2, 128, 16, 1024]⟩
abbrev S2x16x128x1024 : Shape := ⟨4, ![2, 16, 128, 1024]⟩
abbrev S32x128x1024 : Shape := ⟨3, ![32, 128, 1024]⟩
abbrev S4096x3072 : Shape := ⟨2, ![4096, 3072]⟩
abbrev S4096x8 : Shape := ⟨2, ![4096, 8]⟩
abbrev S2x128x16x8 : Shape := ⟨4, ![2, 128, 16, 8]⟩
abbrev S2x16x128x8 : Shape := ⟨4, ![2, 16, 128, 8]⟩
abbrev S32x128x8 : Shape := ⟨3, ![32, 128, 8]⟩
abbrev S32x128x3072 : Shape := ⟨3, ![32, 128, 3072]⟩
abbrev S32x128x128 : Shape := ⟨3, ![32, 128, 128]⟩
abbrev S128x128 : Shape := ⟨2, ![128, 128]⟩
abbrev S1x128x128 : Shape := ⟨3, ![1, 128, 128]⟩
abbrev S1x128x8 : Shape := ⟨3, ![1, 128, 8]⟩
abbrev S128x8 : Shape := ⟨2, ![128, 8]⟩
abbrev S128 : Shape := ⟨1, ![128]⟩
abbrev S128x1 : Shape := ⟨2, ![128, 1]⟩

abbrev nBuf : Space → Nat
  | .hbm => 46
  | .vmem => 18
  | .smem => 0
  | _ => 0

abbrev bufTy : (tb : Table) → Fin (tcTables nBuf tb) → BufTy
  | .hbm, ⟨0, _⟩ => ⟨S2x2048x8x128, .f32⟩
  | .hbm, ⟨1, _⟩ => ⟨S2x2048x8x128, .f32⟩
  | .hbm, ⟨2, _⟩ => ⟨S2x2048x8x128, .f32⟩
  | .hbm, ⟨3, _⟩ => ⟨S2x2048x8, .f32⟩
  | .hbm, ⟨4, _⟩ => ⟨S2x2048x8, .f32⟩
  | .hbm, ⟨5, _⟩ => ⟨S2x2048x8x128, .f32⟩
  | .hbm, ⟨6, _⟩ => ⟨S4096x1024, .f32⟩
  | .hbm, ⟨7, _⟩ => ⟨S2x128x16x1024, .f32⟩
  | .hbm, ⟨8, _⟩ => ⟨S2x16x128x1024, .f32⟩
  | .hbm, ⟨9, _⟩ => ⟨S32x128x1024, .f32⟩
  | .hbm, ⟨10, _⟩ => ⟨S4096x1024, .f32⟩
  | .hbm, ⟨11, _⟩ => ⟨S4096x1024, .f32⟩
  | .hbm, ⟨12, _⟩ => ⟨S2x128x16x1024, .f32⟩
  | .hbm, ⟨13, _⟩ => ⟨S2x16x128x1024, .f32⟩
  | .hbm, ⟨14, _⟩ => ⟨S32x128x1024, .f32⟩
  | .hbm, ⟨15, _⟩ => ⟨S4096x1024, .f32⟩
  | .hbm, ⟨16, _⟩ => ⟨S4096x1024, .f32⟩
  | .hbm, ⟨17, _⟩ => ⟨S2x128x16x1024, .f32⟩
  | .hbm, ⟨18, _⟩ => ⟨S2x16x128x1024, .f32⟩
  | .hbm, ⟨19, _⟩ => ⟨S32x128x1024, .f32⟩
  | .hbm, ⟨20, _⟩ => ⟨S4096x1024, .f32⟩
  | .hbm, ⟨21, _⟩ => ⟨S4096x3072, .f32⟩
  | .hbm, ⟨22, _⟩ => ⟨S4096x3072, .bf16⟩
  | .hbm, ⟨23, _⟩ => ⟨S4096x1024, .f32⟩
  | .hbm, ⟨24, _⟩ => ⟨S2x128x16x1024, .f32⟩
  | .hbm, ⟨25, _⟩ => ⟨S2x16x128x1024, .f32⟩
  | .hbm, ⟨26, _⟩ => ⟨S32x128x1024, .f32⟩
  | .hbm, ⟨27, _⟩ => ⟨S4096x1024, .f32⟩
  | .hbm, ⟨28, _⟩ => ⟨S4096x8, .f32⟩
  | .hbm, ⟨29, _⟩ => ⟨S2x128x16x8, .f32⟩
  | .hbm, ⟨30, _⟩ => ⟨S2x16x128x8, .f32⟩
  | .hbm, ⟨31, _⟩ => ⟨S32x128x8, .f32⟩
  | .hbm, ⟨32, _⟩ => ⟨S4096x8, .f32⟩
  | .hbm, ⟨33, _⟩ => ⟨S4096x8, .f32⟩
  | .hbm, ⟨34, _⟩ => ⟨S2x128x16x8, .f32⟩
  | .hbm, ⟨35, _⟩ => ⟨S2x16x128x8, .f32⟩
  | .hbm, ⟨36, _⟩ => ⟨S32x128x8, .f32⟩
  | .hbm, ⟨37, _⟩ => ⟨S4096x8, .f32⟩
  | .hbm, ⟨38, _⟩ => ⟨S32x128x3072, .bf16⟩
  | .hbm, ⟨39, _⟩ => ⟨S4096x1024, .bf16⟩
  | .hbm, ⟨40, _⟩ => ⟨S32x128x1024, .bf16⟩
  | .hbm, ⟨41, _⟩ => ⟨S32x128x8, .f32⟩
  | .hbm, ⟨42, _⟩ => ⟨S32x128x8, .f32⟩
  | .hbm, ⟨43, _⟩ => ⟨S32x128x1024, .bf16⟩
  | .hbm, ⟨44, _⟩ => ⟨S32x128x1024, .bf16⟩
  | .hbm, ⟨45, _⟩ => ⟨S32x128x1024, .bf16⟩
  | .local _ .vmem, ⟨0, _⟩ => ⟨S32x128x128, .bf16⟩
  | .local _ .vmem, ⟨1, _⟩ => ⟨S32x128x128, .bf16⟩
  | .local _ .vmem, ⟨2, _⟩ => ⟨S32x128x128, .bf16⟩
  | .local _ .vmem, ⟨3, _⟩ => ⟨S32x128x128, .bf16⟩
  | .local _ .vmem, ⟨4, _⟩ => ⟨S32x128x128, .bf16⟩
  | .local _ .vmem, ⟨5, _⟩ => ⟨S32x128x128, .bf16⟩
  | .local _ .vmem, ⟨6, _⟩ => ⟨S32x128x128, .bf16⟩
  | .local _ .vmem, ⟨7, _⟩ => ⟨S32x128x128, .bf16⟩
  | .local _ .vmem, ⟨8, _⟩ => ⟨S32x128x8, .f32⟩
  | .local _ .vmem, ⟨9, _⟩ => ⟨S32x128x8, .f32⟩
  | .local _ .vmem, ⟨10, _⟩ => ⟨S32x128x128, .bf16⟩
  | .local _ .vmem, ⟨11, _⟩ => ⟨S32x128x128, .bf16⟩
  | .local _ .vmem, ⟨12, _⟩ => ⟨S32x128x128, .bf16⟩
  | .local _ .vmem, ⟨13, _⟩ => ⟨S32x128x128, .bf16⟩
  | .local _ .vmem, ⟨14, _⟩ => ⟨S32x128x128, .bf16⟩
  | .local _ .vmem, ⟨15, _⟩ => ⟨S32x128x128, .bf16⟩
  | .local _ .vmem, ⟨16, _⟩ => ⟨S32x128x128, .f32⟩
  | .local _ .vmem, ⟨17, _⟩ => ⟨S32x128x128, .f32⟩
  | _, _ => ⟨S2x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37_0 : Ref sig .tc := ⟨.hbm, 43, rfl⟩
abbrev main_v37_1 : Ref sig .tc := ⟨.hbm, 44, rfl⟩
abbrev main_v37_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S32x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S32x128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S32x128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S32x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnBwd2Ideal.lean ====
variable {F : FTy → Type} [FloatOps F] [Named F]
def κ : String → Option EReal := fun
  | "mask" => some ⊥
  | _ => none
-- ==== AttnBwd2RefIdeal.lean ====
abbrev S2x2048x8x128 : Shape := ⟨4, ![2, 2048, 8, 128]⟩
abbrev S2x2048x8 : Shape := ⟨3, ![2, 2048, 8]⟩
abbrev S2x128x16x8x128 : Shape := ⟨5, ![2, 128, 16, 8, 128]⟩
abbrev S2x16x8x128x128 : Shape := ⟨5, ![2, 16, 8, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x128x16x8 : Shape := ⟨4, ![2, 128, 16, 8]⟩
abbrev S2x16x8x128 : Shape := ⟨4, ![2, 16, 8, 128]⟩
abbrev S2x16x8x128x1 : Shape := ⟨5, ![2, 16, 8, 128, 1]⟩
abbrev S2x128x16x1024 : Shape := ⟨4, ![2, 128, 16, 1024]⟩
abbrev S2x16x128x1024 : Shape := ⟨4, ![2, 16, 128, 1024]⟩
abbrev S32x128x1024 : Shape := ⟨3, ![32, 128, 1024]⟩

abbrev nBuf : Space → Nat
  | .hbm => 87
  | .vmem => 0
  | .smem => 0
  | _ => 0

abbrev bufTy : (tb : Table) → Fin (tcTables nBuf tb) → BufTy
  | .hbm, ⟨0, _⟩ => ⟨S2x2048x8x128, .f32⟩
  | .hbm, ⟨1, _⟩ => ⟨S2x2048x8x128, .f32⟩
  | .hbm, ⟨2, _⟩ => ⟨S2x2048x8x128, .f32⟩
  | .hbm, ⟨3, _⟩ => ⟨S2x2048x8, .f32⟩
  | .hbm, ⟨4, _⟩ => ⟨S2x2048x8, .f32⟩
  | .hbm, ⟨5, _⟩ => ⟨S2x2048x8x128, .f32⟩
  | .hbm, ⟨6, _⟩ => ⟨S2x128x16x8x128, .f32⟩
  | .hbm, ⟨7, _⟩ => ⟨S2x16x8x128x128, .f32⟩
  | .hbm, ⟨8, _⟩ => ⟨S2x128x16x8x128, .f32⟩
  | .hbm, ⟨9, _⟩ => ⟨S2x16x8x128x128, .f32⟩
  | .hbm, ⟨10, _⟩ => ⟨S2x128x16x8x128, .f32⟩
  | .hbm, ⟨11, _⟩ => ⟨S2x16x8x128x128, .f32⟩
  | .hbm, ⟨12, _⟩ => ⟨S128, .i32⟩
  | .hbm, ⟨13, _⟩ => ⟨S128x1, .i32⟩
  | .hbm, ⟨14, _⟩ => ⟨S128, .i32⟩
  | .hbm, ⟨15, _⟩ => ⟨S1x128, .i32⟩
  | .hbm, ⟨16, _⟩ => ⟨S128x128, .i32⟩
  | .hbm, ⟨17, _⟩ => ⟨S128x128, .i32⟩
  | .hbm, ⟨18, _⟩ => ⟨S128x128, .i32⟩
  | .hbm, ⟨19, _⟩ => ⟨S_, .i32⟩
  | .hbm, ⟨20, _⟩ => ⟨S128x128, .i32⟩
  | .hbm, ⟨21, _⟩ => ⟨S128x128, .i1⟩
  | .hbm, ⟨22, _⟩ => ⟨S_, .i32⟩
  | .hbm, ⟨23, _⟩ => ⟨S128x128, .i32⟩
  | .hbm, ⟨24, _⟩ => ⟨S128x128, .i1⟩
  | .hbm, ⟨25, _⟩ => ⟨S128x128, .i1⟩
  | .hbm, ⟨26, _⟩ => ⟨S2x16x8x128x128, .f32⟩
  | .hbm, ⟨27, _⟩ => ⟨S_, .f32⟩
  | .hbm, ⟨28, _⟩ => ⟨S2x16x8x128x128, .f32⟩
  | .hbm, ⟨29, _⟩ => ⟨S2x16x8x128x128, .f32⟩
  | .hbm, ⟨30, _⟩ => ⟨S2x128x16x8, .f32⟩
  | .hbm, ⟨31, _⟩ => ⟨S2x16x8x128, .f32⟩
  | .hbm, ⟨32, _⟩ => ⟨S2x16x8x128x1, .f32⟩
  | .hbm, ⟨33, _⟩ => ⟨S2x16x8x128x128, .f32⟩
  | .hbm, ⟨34, _⟩ => ⟨S2x16x8x128x128, .f32⟩
  | .hbm, ⟨35, _⟩ => ⟨S2x16x8x128x128, .f32⟩
  | .hbm, ⟨36, _⟩ => ⟨S_, .f32⟩
  | .hbm, ⟨37, _⟩ => ⟨S_, .f32⟩
  | .hbm, ⟨38, _⟩ => ⟨S2x16x8x128x128, .i1⟩
  | .hbm, ⟨39, _⟩ => ⟨S2x16x8x128x128, .f32⟩
  | .hbm, ⟨40, _⟩ => ⟨S2x16x8x128x128, .f32⟩
  | .hbm, ⟨41, _⟩ => ⟨S_, .f32⟩
  | .hbm, ⟨42, _⟩ => ⟨S2x16x8x128x128, .f32⟩
  | .hbm, ⟨43, _⟩ => ⟨S2x16x8x128x128, .f32⟩
  | .hbm, ⟨44, _⟩ => ⟨S2x128x16x8x128, .f32⟩
  | .hbm, ⟨45, _⟩ => ⟨S2x2048x8x128, .f32⟩
  | .hbm, ⟨46, _⟩ => ⟨S_, .f32⟩
  | .hbm, ⟨47, _⟩ => ⟨S2x16x8x128, .f32⟩
  | .hbm, ⟨48, _⟩ => ⟨S2x128x16x8, .f32⟩
  | .hbm, ⟨49, _⟩ => ⟨S2x2048x8, .f32⟩
  | .hbm, ⟨50, _⟩ => ⟨S2x2048x8, .f32⟩
  | .hbm, ⟨51, _⟩ => ⟨S2x128x16x8, .f32⟩
  | .hbm, ⟨52, _⟩ => ⟨S2x16x8x128, .f32⟩
  | .hbm, ⟨53, _⟩ => ⟨S2x16x8x128x128, .f32⟩
  | .hbm, ⟨54, _⟩ => ⟨S2x128x16x8x128, .f32⟩
  | .hbm, ⟨55, _⟩ => ⟨S2x16x8x128x128, .f32⟩
  | .hbm, ⟨56, _⟩ => ⟨S2x16x8x128x128, .f32⟩
  | .hbm, ⟨57, _⟩ => ⟨S2x16x8x128x128, .f32⟩
  | .hbm, ⟨58, _⟩ => ⟨S2x16x8x128x128, .f32⟩
  | .hbm, ⟨59, _⟩ => ⟨S2x16x8x128x128, .f32⟩
  | .hbm, ⟨60, _⟩ => ⟨S_, .f32⟩
  | .hbm, ⟨61, _⟩ => ⟨S2x16x8x128x128, .f32⟩
  | .hbm, ⟨62, _⟩ => ⟨S2x16x8x128x128, .f32⟩
  | .hbm, ⟨63, _⟩ => ⟨S2x16x8x128x128, .f32⟩
  | .hbm, ⟨64, _⟩ => ⟨S_, .f32⟩
  | .hbm, ⟨65, _⟩ => ⟨S2x16x8x128x128, .f32⟩
  | .hbm, ⟨66, _⟩ => ⟨S2x16x8x128x128, .f32⟩
  | .hbm, ⟨67, _⟩ => ⟨S2x16x8x128x128, .f32⟩
  | .hbm, ⟨68, _⟩ => ⟨S2x16x8x128x128, .f32⟩
  | .hbm, ⟨69, _⟩ => ⟨S2x128x16x8x128, .f32⟩
  | .hbm, ⟨70, _⟩ => ⟨S2x2048x8x128, .f32⟩
  | .hbm, ⟨71, _⟩ => ⟨S2x128x16x8x128, .f32⟩
  | .hbm, ⟨72, _⟩ => ⟨S2x2048x8x128, .f32⟩
  | .hbm, ⟨73, _⟩ => ⟨S2x128x16x8x128, .f32⟩
  | .hbm, ⟨74, _⟩ => ⟨S2x2048x8x128, .f32⟩
  | .hbm, ⟨75, _⟩ => ⟨S2x128x16x1024, .f32⟩
  | .hbm, ⟨76, _⟩ => ⟨S2x16x128x1024, .f32⟩
  | .hbm, ⟨77, _⟩ => ⟨S32x128x1024, .f32⟩
  | .hbm, ⟨78, _⟩ => ⟨S32x128x1024, .bf16⟩
  | .hbm, ⟨79, _⟩ => ⟨S2x128x16x1024, .f32⟩
  | .hbm, ⟨80, _⟩ => ⟨S2x16x128x1024, .f32⟩
  | .hbm, ⟨81, _⟩ => ⟨S32x128x1024, .f32⟩
  | .hbm, ⟨82, _⟩ => ⟨S32x128x1024, .bf16⟩
  | .hbm, ⟨83, _⟩ => ⟨S2x128x16x1024, .f32⟩
  | .hbm, ⟨84, _⟩ => ⟨S2x16x128x1024, .f32⟩
  | .hbm, ⟨85, _⟩ => ⟨S32x128x1024, .f32⟩
  | .hbm, ⟨86, _⟩ => ⟨S32x128x1024, .bf16⟩
  | _, _ => ⟨S2x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_call0_v0 : Ref sig .tc := ⟨.hbm, 37, rfl⟩
abbrev main_v27_1 : Ref sig .tc := ⟨.hbm, 38, rfl⟩
abbrev main_call0_v2 : Ref sig .tc := ⟨.hbm, 39, rfl⟩
abbrev main_v27_0 : Ref sig .tc := ⟨.hbm, 40, rfl⟩
abbrev main_call0_cst : Ref sig .tc := ⟨.hbm, 41, rfl⟩
abbrev main_v27_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call1_cst : Ref sig .tc := ⟨.hbm, 60, rfl⟩
abbrev main_call1_v0 : Ref sig .tc := ⟨.hbm, 61, rfl⟩
abbrev main_v44 : Ref sig .tc := ⟨.hbm, 62, rfl⟩
abbrev main_v45 : Ref sig .tc := ⟨.hbm, 63, rfl⟩
abbrev main_cst_3 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩

abbrev nD : Nat := 1
abbrev τ : Topo := Topo.v7x

variable {F : FTy → Type} [FloatOps F]
-- ==== InProjBwd.lean ====
abbrev S4096x1024 : Shape := ⟨2, ![4096, 1024]⟩
abbrev S1x1024 : Shape := ⟨2, ![1, 1024]⟩
abbrev S1024x6144 : Shape := ⟨2, ![1024, 6144]⟩
abbrev S4096x6144 : Shape := ⟨2, ![4096, 6144]⟩
abbrev S8x1024 : Shape := ⟨2, ![8, 1024]⟩
abbrev S512x3072 : Shape := ⟨2, ![512, 3072]⟩
abbrev S1024x3072 : Shape := ⟨2, ![1024, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6144, .f32⟩
  | .hbm, ⟨3, _⟩ => ⟨S4096x1024, .f32⟩
  | .hbm, ⟨4, _⟩ => ⟨S4096x1024, .f32⟩
  | .hbm, ⟨5, _⟩ => ⟨S4096x6144, .f32⟩
  | .hbm, ⟨6, _⟩ => ⟨S4096x6144, .bf16⟩
  | .hbm, ⟨7, _⟩ => ⟨S1024x6144, .bf16⟩
  | .hbm, ⟨8, _⟩ => ⟨S4096x1024, .f32⟩
  | .hbm, ⟨9, _⟩ => ⟨S8x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S1024x3072, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 2], ![false, false]⟩

def k0_cond4 (i : grid0.Coords) : BitVec 1 :=
  let arg1 : BitVec 32 := BitVec.ofNat 32 (i 1).val
  let c1_i32_9 : BitVec 32 := 1#32
  let v18 : BitVec 1 := Scalar.cmpi .eq arg1 c1_i32_9
  let v19 : BitVec 32 := Scalar.extui v18
  let c0_i32_10 : BitVec 32 := 0#32
  let v20 : BitVec 1 := Scalar.cmpi .ne v19 c0_i32_10
  v20

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== InProjBwdRefIdeal.lean ====
abbrev S4096x1024 : Shape := ⟨2, ![4096, 1024]⟩
abbrev S1x1024 : Shape := ⟨2, ![1, 1024]⟩
abbrev S1024x6144 : Shape := ⟨2, ![1024, 6144]⟩
abbrev S4096x6144 : Shape := ⟨2, ![4096, 6144]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x1024 : Shape := ⟨2, ![8, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6144, .f32⟩
  | .hbm, ⟨3, _⟩ => ⟨S4096x1024, .f32⟩
  | .hbm, ⟨4, _⟩ => ⟨S4096x1024, .f32⟩
  | .hbm, ⟨5, _⟩ => ⟨S4096x6144, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x6144, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .i32⟩
  | .hbm, ⟨53, _⟩ => ⟨S_, .f32⟩
  | .hbm, ⟨54, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c : Ref sig .tc := ⟨.hbm, 52, rfl⟩
abbrev main_call0_v0 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Proof.AInDwValue.lean ====
module

public import proofs.«01_k».proof.Proof.Gen.AInDwIdeal.Frame
public import proofs.«01_k».proof.Proof.Gen.AInDwRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AInDwIdeal.Whole

open Cert.AInDwIdeal Cert.AInDwIdeal.Gen Cert.AInDwRefIdeal.Read

variable (m : (ℓ : Loc nD τ sig) → Buf (Elt Ideal) ℓ)

theorem idx : ∀ t : Fin cfg0.N, win0_0.index t = ![0, 0] ∧ win0_1.index t = ![0, t.val] ∧ win0_2.index t = ![0, t.val] :=
  (by decide +kernel : ∀ t : Fin grid0.N, _)

/-- The reference's result over the arrays that the kernel was given. -/
abbrev REF (x0 : FVec Ideal Cert.AInDwRefIdeal.S4096x1024 .f32) (x2 : FVec Ideal Cert.AInDwRefIdeal.S4096x6144 .f32) : FVec Ideal Cert.AInDwRefIdeal.S1024x6144 .f32 :=
  val_main_v2 (F := Ideal) x0 x2

theorem point (c : Dev nD) (t : Fin cfg0.N) (y) : k0_pay1 (iblk m c 0 t) (iblk m c 1 t) y
    = REF (m ((c : Thread nD τ).loc main_arg0)) (m ((c : Thread nD τ).loc main_arg2)) (((cfg0.win 2).blk t).view.emb y) := by
  pointwise [k0_pay1, REF, val_main_v0, val_main_v1, val_main_v2]
  refine Finset.sum_congr rfl fun k _ => (mul_comm _ _).trans ?_
  blk_point [iblk, V, idx t]

theorem final (c : Dev nD) : (dats m 0 c).arrAt 2 (cfgs 0).N = REF (m ((c : Thread nD τ).loc main_arg0)) (m ((c : Thread nD τ).loc main_arg2)) := by
  refine (dats m 0 c).arrAt_eq_of_covers 2 _ (by decide +kernel) fun t _ y => ?_
  blk_simp
  rw [after0_2]; frame_out
  exact point m c t y

end Cert.AInDwIdeal.Whole

end
-- ==== Proof.AInDwClaim.lean ====
module

public import proofs.«01_k».proof.Defs
public import proofs.«01_k».proof.Proof.Gen.AInDw.Frame
public import proofs.«01_k».proof.Proof.Gen.AInDwRefIdeal
public import proofs.«01_k».proof.Proof.Gen.AInDwRefIdeal.Run
public import Idealize.ShloMosaic.Lib.Claim
public import proofs.«01_k».proof.Proof.AInDwValue

@[expose] public section

noncomputable section

namespace Cert.AInDwClaim

open Idealize.ShloMosaic Idealize.SL.Sem

theorem frame : Cert.quiescent_AInDw (hAInDw := Cert.AInDw.Gen.facts) :=
  fun m g _ => Cert.AInDw.Gen.frame m g

theorem frame_ideal : Cert.quiescent_AInDwIdeal (hAInDwIdeal := Cert.AInDwIdeal.Gen.facts) :=
  fun m g _ => Cert.AInDwIdeal.Gen.frame m g

theorem frame_ref : Cert.quiescent_AInDwRefIdeal (hAInDwRefIdeal := Cert.AInDwRefIdeal.Gen.facts) := fun m g _ =>
  (θ_run Cert.AInDwRefIdeal.defs _ _).mono (fun r h => ⟨fun c => (h c).2, Idealize.ShloMosaic.sem_eq_zero_of_no_sems (by decide) r.2⟩)
    (Cert.AInDwRefIdeal.Value.run (F := Ideal) m g)

theorem algebraic : Cert.algebraic_AInDwIdeal_AInDwRefIdeal (hAInDwIdeal := Cert.AInDwIdeal.Gen.facts)
    (hAInDwRefIdeal := Cert.AInDwRefIdeal.Gen.facts) := by
  pair_intro
  · run_from Cert.AInDwIdeal.Gen.run_main m g
  · run_from Cert.AInDwRefIdeal.Value.run m' g'
    exact (Cert.AInDwIdeal.Whole.final m c).symm

end Cert.AInDwClaim

end
-- ==== Proof.AOutDwValue.lean ====
module

public import proofs.«01_k».proof.Proof.Gen.AOutDwIdeal.Frame
public import proofs.«01_k».proof.Proof.Gen.AOutDwRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AOutDwIdeal.Whole

open Cert.AOutDwIdeal Cert.AOutDwIdeal.Gen Cert.AOutDwRefIdeal.Read

variable (m : (ℓ : Loc nD τ sig) → Buf (Elt Ideal) ℓ)

theorem idx : ∀ t : Fin cfg0.N, win0_0.index t = ![0, t.val] ∧ win0_1.index t = ![0, 0] ∧ win0_2.index t = ![t.val, 0] :=
  (by decide +kernel : ∀ t : Fin grid0.N, _)

/-- The reference's result over the arrays that the kernel was given. -/
abbrev REF (x0 : FVec Ideal Cert.AOutDwRefIdeal.S4096x2048 .f32) (x2 : FVec Ideal Cert.AOutDwRefIdeal.S4096x1024 .f32) : FVec Ideal Cert.AOutDwRefIdeal.S2048x1024 .f32 :=
  val_main_v2 (F := Ideal) x0 x2

theorem point (c : Dev nD) (t : Fin cfg0.N) (y) : k0_pay1 (iblk m c 0 t) (iblk m c 1 t) y
    = REF (m ((c : Thread nD τ).loc main_arg0)) (m ((c : Thread nD τ).loc main_arg2)) (((cfg0.win 2).blk t).view.emb y) := by
  pointwise [k0_pay1, REF, val_main_v0, val_main_v1, val_main_v2]
  refine Finset.sum_congr rfl fun k _ => (mul_comm _ _).trans ?_
  blk_point [iblk, V, idx t]

theorem final (c : Dev nD) : (dats m 0 c).arrAt 2 (cfgs 0).N = REF (m ((c : Thread nD τ).loc main_arg0)) (m ((c : Thread nD τ).loc main_arg2)) := by
  refine (dats m 0 c).arrAt_eq_of_covers 2 _ (by decide +kernel) fun t _ y => ?_
  blk_simp
  rw [after0_2]; frame_out
  exact point m c t y

end Cert.AOutDwIdeal.Whole

end
-- ==== Proof.AOutDwClaim.lean ====
module

public import proofs.«01_k».proof.Defs
public import proofs.«01_k».proof.Proof.Gen.AOutDw.Frame
public import proofs.«01_k».proof.Proof.Gen.AOutDwRefIdeal
public import proofs.«01_k».proof.Proof.Gen.AOutDwRefIdeal.Run
public import Idealize.ShloMosaic.Lib.Claim
public import proofs.«01_k».proof.Proof.AOutDwValue

@[expose] public section

noncomputable section

namespace Cert.AOutDwClaim

open Idealize.ShloMosaic Idealize.SL.Sem

theorem frame : Cert.quiescent_AOutDw (hAOutDw := Cert.AOutDw.Gen.facts) :=
  fun m g _ => Cert.AOutDw.Gen.frame m g

theorem frame_ideal : Cert.quiescent_AOutDwIdeal (hAOutDwIdeal := Cert.AOutDwIdeal.Gen.facts) :=
  fun m g _ => Cert.AOutDwIdeal.Gen.frame m g

theorem frame_ref : Cert.quiescent_AOutDwRefIdeal (hAOutDwRefIdeal := Cert.AOutDwRefIdeal.Gen.facts) := fun m g _ =>
  (θ_run Cert.AOutDwRefIdeal.defs _ _).mono (fun r h => ⟨fun c => (h c).2, Idealize.ShloMosaic.sem_eq_zero_of_no_sems (by decide) r.2⟩)
    (Cert.AOutDwRefIdeal.Value.run (F := Ideal) m g)

theorem algebraic : Cert.algebraic_AOutDwIdeal_AOutDwRefIdeal (hAOutDwIdeal := Cert.AOutDwIdeal.Gen.facts)
    (hAOutDwRefIdeal := Cert.AOutDwRefIdeal.Gen.facts) := by
  pair_intro
  · run_from Cert.AOutDwIdeal.Gen.run_main m g
  · run_from Cert.AOutDwRefIdeal.Value.run m' g'
    exact (Cert.AOutDwIdeal.Whole.final m c).symm

end Cert.AOutDwClaim

end
-- ==== Proof.AOutDxValue.lean ====
module

public import proofs.«01_k».proof.Proof.Gen.AOutDxIdeal.Frame
public import proofs.«01_k».proof.Proof.Gen.AOutDxRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AOutDxIdeal.Whole

open Cert.AOutDxIdeal Cert.AOutDxIdeal.Gen Cert.AOutDxRefIdeal.Read

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The reference's result over the arrays that the kernel was given. -/
abbrev REF (x1 : FVec Ideal Cert.AOutDxRefIdeal.S2048x1024 .f32) (x2 : FVec Ideal Cert.AOutDxRefIdeal.S4096x1024 .f32) : FVec Ideal Cert.AOutDxRefIdeal.S4096x2048 .bf16 :=
  val_main_v2 (F := Ideal) x1 x2

theorem point (c : Dev nD) (t : Fin cfg0.N) (y) : k0_pay1 (iblk m c 0 t) (iblk m c 1 t) y
    = REF (m ((c : Thread nD τ).loc main_arg1)) (m ((c : Thread nD τ).loc main_arg2)) (((cfg0.win 2).blk t).view.emb y) := by
  pointwise [k0_pay1, REF, val_main_v0, val_main_v1, val_main_v2]
  blk_point [iblk, V, idx t]

theorem final (c : Dev nD) : (dats m 0 c).arrAt 2 (cfgs 0).N = REF (m ((c : Thread nD τ).loc main_arg1)) (m ((c : Thread nD τ).loc main_arg2)) := by
  refine (dats m 0 c).arrAt_eq_of_covers 2 _ (by decide +kernel) fun t _ y => ?_
  blk_simp
  rw [after0_2]; frame_out
  exact point m c t y

end Cert.AOutDxIdeal.Whole

end
-- ==== Proof.AOutDxClaim.lean ====
module

public import proofs.«01_k».proof.Defs
public import proofs.«01_k».proof.Proof.Gen.AOutDx.Frame
public import proofs.«01_k».proof.Proof.Gen.AOutDxRefIdeal
public import proofs.«01_k».proof.Proof.Gen.AOutDxRefIdeal.Run
public import Idealize.ShloMosaic.Lib.Claim
public import proofs.«01_k».proof.Proof.AOutDxValue

@[expose] public section

noncomputable section

namespace Cert.AOutDxClaim

open Idealize.ShloMosaic Idealize.SL.Sem

theorem frame : Cert.quiescent_AOutDx (hAOutDx := Cert.AOutDx.Gen.facts) :=
  fun m g _ => Cert.AOutDx.Gen.frame m g

theorem frame_ideal : Cert.quiescent_AOutDxIdeal (hAOutDxIdeal := Cert.AOutDxIdeal.Gen.facts) :=
  fun m g _ => Cert.AOutDxIdeal.Gen.frame m g

theorem frame_ref : Cert.quiescent_AOutDxRefIdeal (hAOutDxRefIdeal := Cert.AOutDxRefIdeal.Gen.facts) := fun m g _ =>
  (θ_run Cert.AOutDxRefIdeal.defs _ _).mono (fun r h => ⟨fun c => (h c).2, Idealize.ShloMosaic.sem_eq_zero_of_no_sems (by decide) r.2⟩)
    (Cert.AOutDxRefIdeal.Value.run (F := Ideal) m g)

theorem algebraic : Cert.algebraic_AOutDxIdeal_AOutDxRefIdeal (hAOutDxIdeal := Cert.AOutDxIdeal.Gen.facts)
    (hAOutDxRefIdeal := Cert.AOutDxRefIdeal.Gen.facts) := by
  pair_intro
  · run_from Cert.AOutDxIdeal.Gen.run_main m g
  · run_from Cert.AOutDxRefIdeal.Value.run m' g'
    exact (Cert.AOutDxIdeal.Whole.final m c).symm

end Cert.AOutDxClaim

end
-- ==== Proof.BOutDwValue.lean ====
module

public import proofs.«01_k».proof.Proof.Gen.BOutDwIdeal.Frame
public import proofs.«01_k».proof.Proof.Gen.BOutDwRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.BOutDwIdeal.Whole

open Cert.BOutDwIdeal Cert.BOutDwIdeal.Gen Cert.BOutDwRefIdeal.Read

variable (m : (ℓ : Loc nD τ sig) → Buf (Elt Ideal) ℓ)

theorem idx : ∀ t : Fin cfg0.N, win0_0.index t = ![t.val % 4, 0] ∧ win0_1.index t = ![t.val % 4, 0] ∧ win0_2.index t = ![0, 0] :=
  (by decide +kernel : ∀ t : Fin grid0.N, _)

/-- The reference's result over the arrays that the kernel was given. -/
abbrev REF (x0 : FVec Ideal Cert.BOutDwRefIdeal.S4096x1024 .f32) (x2 : FVec Ideal Cert.BOutDwRefIdeal.S4096x1024 .f32) : FVec Ideal Cert.BOutDwRefIdeal.S1024x1024 .f32 :=
  val_main_v2 (F := Ideal) x0 x2

/-- What the body holds after a point: the output block at a run's last point, the scratch before it. -/
abbrev held (c : Dev nD) (n : ℕ) (h : n < cfg0.N) (y : S1024x1024.Idx) : EReal :=
  if n % 4 = 3 then ((outsAt0 m c n h).1 y : EReal) else ((outsAt0 m c n h).2 y : EReal)

theorem held_first (c : Dev nD) (t : Fin cfg0.N) (h : t.val % 4 = 0) (y) :
    held m c t.val t.isLt y = 0 + k0_pay1 (iblk m c 0 t) (iblk m c 1 t) y := by
  unfold held
  rw [if_neg (by omega), outsAt0_A m c t h (by omega) (by omega), zero_add]; frame_out
  pointwise [k0_pay2]
  try rfl

theorem held_next (c : Dev nD) (t : Fin cfg0.N) (h : ¬ t.val % 4 = 0) (y) : held m c t.val t.isLt y
    = held m c (t.val - 1) (Nat.lt_of_le_of_lt (Nat.sub_le _ _) t.isLt) y + k0_pay1 (iblk m c 0 t) (iblk m c 1 t) y := by
  unfold held
  rw [if_neg (show ¬ (t.val - 1) % 4 = 3 by omega)]
  by_cases hl : t.val % 4 = 3
  · rw [if_pos hl, outsAt0_C m c t h (by omega) hl]; frame_out
    pointwise [k0_pay4]
    rw [read_unread_whole]
    try rfl
  · rw [if_neg hl, outsAt0_B m c t h (by omega) hl]; frame_out
    pointwise [k0_pay3]
    rw [read_unread_whole]
    try rfl

theorem sums (c : Dev nD) (t : Fin cfg0.N) (h : t.val % 4 = 3) (y) :
    ((outsAt0 m c t.val t.isLt).1 y : EReal) = ∑ s : Fin 4, k0_pay1 (iblk m c 0 ⟨4 * (t.val / 4) + s.val, Pipeline.run_point_lt_of_flush t h s⟩) (iblk m c 1 ⟨4 * (t.val / 4) + s.val, Pipeline.run_point_lt_of_flush t h s⟩) y := by
  have e := Pipeline.eq_sum_fin_of_reset_step_apply_of_flush (held m c) 4 (fun _ => 0) _ (held_first m c)
    (held_next m c) t h y
  unfold held at e
  rw [if_pos h, zero_add] at e
  exact e

theorem point (c : Dev nD) (t : Fin cfg0.N) (h : t.val % 4 = 3) (y) : ((outsAt0 m c t.val t.isLt).1 y : EReal)
    = REF (m ((c : Thread nD τ).loc main_arg0)) (m ((c : Thread nD τ).loc main_arg2)) (((cfg0.win 2).blk t).view.emb y) := by
  rw [sums m c t h]
  pointwise [k0_pay1, REF, val_main_v0, val_main_v1, val_main_v2]
  refine Fin.sum_mul_add_congr fun s k hl => (mul_comm _ _).trans ?_
  blk_point [iblk, V, idx t, idx ⟨_, Pipeline.run_point_lt_of_flush t h s⟩]

theorem final (c : Dev nD) : (dats m 0 c).arrAt 2 (cfgs 0).N = REF (m ((c : Thread nD τ).loc main_arg0)) (m ((c : Thread nD τ).loc main_arg2)) := by
  refine (dats m 0 c).arrAt_eq_of_covers 2 _ (by decide +kernel) fun t hf y => ?_
  blk_simp
  rw [after0_2]
  exact point m c t ((flush0_2 t).mp hf) y

end Cert.BOutDwIdeal.Whole

end
-- ==== Proof.BOutDwClaim.lean ====
module

public import proofs.«01_k».proof.Defs
public import proofs.«01_k».proof.Proof.Gen.BOutDw.Frame
public import proofs.«01_k».proof.Proof.Gen.BOutDwRefIdeal
public import proofs.«01_k».proof.Proof.Gen.BOutDwRefIdeal.Run
public import Idealize.ShloMosaic.Lib.Claim
public import proofs.«01_k».proof.Proof.BOutDwValue

@[expose] public section

noncomputable section

namespace Cert.BOutDwClaim

open Idealize.ShloMosaic Idealize.SL.Sem

theorem frame : Cert.quiescent_BOutDw (hBOutDw := Cert.BOutDw.Gen.facts) :=
  fun m g _ => Cert.BOutDw.Gen.frame m g

theorem frame_ideal : Cert.quiescent_BOutDwIdeal (hBOutDwIdeal := Cert.BOutDwIdeal.Gen.facts) :=
  fun m g _ => Cert.BOutDwIdeal.Gen.frame m g

theorem frame_ref : Cert.quiescent_BOutDwRefIdeal (hBOutDwRefIdeal := Cert.BOutDwRefIdeal.Gen.facts) := fun m g _ =>
  (θ_run Cert.BOutDwRefIdeal.defs _ _).mono (fun r h => ⟨fun c => (h c).2, Idealize.ShloMosaic.sem_eq_zero_of_no_sems (by decide) r.2⟩)
    (Cert.BOutDwRefIdeal.Value.run (F := Ideal) m g)

theorem algebraic : Cert.algebraic_BOutDwIdeal_BOutDwRefIdeal (hBOutDwIdeal := Cert.BOutDwIdeal.Gen.facts)
    (hBOutDwRefIdeal := Cert.BOutDwRefIdeal.Gen.facts) := by
  pair_intro
  · run_from Cert.BOutDwIdeal.Gen.run_main m g
  · run_from Cert.BOutDwRefIdeal.Value.run m' g'
    exact (Cert.BOutDwIdeal.Whole.final m c).symm

end Cert.BOutDwClaim

end
-- ==== Proof.BOutDxValue.lean ====
module

public import proofs.«01_k».proof.Proof.Gen.BOutDxIdeal.Frame
public import proofs.«01_k».proof.Proof.Gen.BOutDxRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.BOutDxIdeal.Whole

open Cert.BOutDxIdeal Cert.BOutDxIdeal.Gen Cert.BOutDxRefIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The reference's result over the arrays that the kernel was given. -/
abbrev REF (x1 : FVec Ideal Cert.BOutDxRefIdeal.S1024x1024 .f32) (x2 : FVec Ideal Cert.BOutDxRefIdeal.S4096x1024 .f32) : FVec Ideal Cert.BOutDxRefIdeal.S4096x1024 .bf16 :=
  val_main_v2 (F := Ideal) x1 x2

theorem point (c : Dev nD) (t : Fin cfg0.N) (y) : k0_pay1 (iblk m c 0 t) (iblk m c 1 t) y
    = REF (m ((c : Thread nD τ).loc main_arg1)) (m ((c : Thread nD τ).loc main_arg2)) (((cfg0.win 2).blk t).view.emb y) := by
  pointwise [k0_pay1, REF, val_main_v0, val_main_v1, val_main_v2]
  blk_point [iblk, V, idx t]

theorem final (c : Dev nD) : (dats m 0 c).arrAt 2 (cfgs 0).N = REF (m ((c : Thread nD τ).loc main_arg1)) (m ((c : Thread nD τ).loc main_arg2)) := by
  refine (dats m 0 c).arrAt_eq_of_covers 2 _ (by decide +kernel) fun t _ y => ?_
  blk_simp
  rw [after0_2]; frame_out
  exact point m c t y

end Cert.BOutDxIdeal.Whole

end
-- ==== Proof.BOutDxClaim.lean ====
module

public import proofs.«01_k».proof.Defs
public import proofs.«01_k».proof.Proof.Gen.BOutDx.Frame
public import proofs.«01_k».proof.Proof.Gen.BOutDxRefIdeal
public import proofs.«01_k».proof.Proof.Gen.BOutDxRefIdeal.Run
public import Idealize.ShloMosaic.Lib.Claim
public import proofs.«01_k».proof.Proof.BOutDxValue

@[expose] public section

noncomputable section

namespace Cert.BOutDxClaim

open Idealize.ShloMosaic Idealize.SL.Sem

theorem frame : Cert.quiescent_BOutDx (hBOutDx := Cert.BOutDx.Gen.facts) :=
  fun m g _ => Cert.BOutDx.Gen.frame m g

theorem frame_ideal : Cert.quiescent_BOutDxIdeal (hBOutDxIdeal := Cert.BOutDxIdeal.Gen.facts) :=
  fun m g _ => Cert.BOutDxIdeal.Gen.frame m g

theorem frame_ref : Cert.quiescent_BOutDxRefIdeal (hBOutDxRefIdeal := Cert.BOutDxRefIdeal.Gen.facts) := fun m g _ =>
  (θ_run Cert.BOutDxRefIdeal.defs _ _).mono (fun r h => ⟨fun c => (h c).2, Idealize.ShloMosaic.sem_eq_zero_of_no_sems (by decide) r.2⟩)
    (Cert.BOutDxRefIdeal.Value.run (F := Ideal) m g)

theorem algebraic : Cert.algebraic_BOutDxIdeal_BOutDxRefIdeal (hBOutDxIdeal := Cert.BOutDxIdeal.Gen.facts)
    (hBOutDxRefIdeal := Cert.BOutDxRefIdeal.Gen.facts) := by
  pair_intro
  · run_from Cert.BOutDxIdeal.Gen.run_main m g
  · run_from Cert.BOutDxRefIdeal.Value.run m' g'
    exact (Cert.BOutDxIdeal.Whole.final m c).symm

end Cert.BOutDxClaim

end
-- ==== Proof.BInDw0Value.lean ====
module

public import proofs.«01_k».proof.Proof.Gen.BInDw0Ideal.Frame
public import proofs.«01_k».proof.Proof.Gen.BInDw0RefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.BInDw0Ideal.Whole

open Cert.BInDw0Ideal Cert.BInDw0Ideal.Gen Cert.BInDw0RefIdeal.Read

variable (m : (ℓ : Loc nD τ sig) → Buf (Elt Ideal) ℓ)

/-- The reference's result over the arrays that the kernel was given. -/
abbrev REF (x0 : FVec Ideal Cert.BInDw0RefIdeal.S4096x1024 .f32) (x2 : FVec Ideal Cert.BInDw0RefIdeal.S4096x4096 .f32) : FVec Ideal Cert.BInDw0RefIdeal.S4x1024x2560 .f32 :=
  val_main_v27 (F := Ideal) x0 x2

/-- The four shards of the gradient are the gradient's columns, 2560 to a shard. -/
theorem stacked (h : FVec Ideal Cert.BInDw0RefIdeal.S4096x1024 .f32) (ct : FVec Ideal Cert.BInDw0RefIdeal.S4096x4096 .f32) (i : Cert.BInDw0RefIdeal.S4x1024x2560.Idx) (j : Cert.BInDw0RefIdeal.S1024x10240.Idx) (h0 : (j 0 : ℕ) = i 1)
    (h1 : (j 1 : ℕ) = 2560 * i 0 + i 2) : REF h ct i = val_main_v18 (F := Ideal) h ct j := by
  have hi : (i 0 : ℕ) < 4 := (i 0).isLt
  pointwise [REF, val_main_v27, val_main_v26, val_main_v25, val_main_v24, val_main_v23, val_main_v22, val_main_v21, val_main_v20, val_main_v19]
  split_ifs <;> blk_ext

/-- A column of the group holds the product's column. -/
theorem padded_on (h : FVec Ideal Cert.BInDw0RefIdeal.S4096x1024 .f32) (ct : FVec Ideal Cert.BInDw0RefIdeal.S4096x4096 .f32) (j : Cert.BInDw0RefIdeal.S1024x10240.Idx) (q : Cert.BInDw0RefIdeal.S1024x4096.Idx) (h0 : (q 0 : ℕ) = j 0)
    (hc : (j 1 : ℕ) / 1024 % 3 = 0) (h1 : (q 1 : ℕ) = if (j 1 : ℕ) < 9216 then (j 1 : ℕ) / 3072 * 1024 + (j 1 : ℕ) % 1024 else (j 1 : ℕ) - 9216 + 3072) :
    val_main_v18 (F := Ideal) h ct j = val_main_v9 (F := Ideal) h ct q := by
  have hj : (j 1 : ℕ) < 10240 := (j 1).isLt
  pointwise [val_main_v18, val_main_v17, val_main_cst_1, val_main_v16, val_main_v15, val_main_cst_0, val_main_v14, val_main_v13, val_main_v12, val_main_cst, val_main_v11, val_main_v10]
  split_ifs at h1 ⊢ <;> first
    | (exfalso; omega)
    | (try simp only [zero_add, add_zero]
       blk_ext)

/-- A column of another group is zero. -/
theorem padded_off (h : FVec Ideal Cert.BInDw0RefIdeal.S4096x1024 .f32) (ct : FVec Ideal Cert.BInDw0RefIdeal.S4096x4096 .f32) (j : Cert.BInDw0RefIdeal.S1024x10240.Idx) (hc : ¬ (j 1 : ℕ) / 1024 % 3 = 0) :
    val_main_v18 (F := Ideal) h ct j = 0 := by
  have hj : (j 1 : ℕ) < 10240 := (j 1).isLt
  pointwise [val_main_v18, val_main_v17, val_main_cst_1, val_main_v16, val_main_v15, val_main_cst_0, val_main_v14, val_main_v13, val_main_v12, val_main_cst, val_main_v11, val_main_v10]
  split_ifs <;> first
    | (exfalso; omega)
    | simp only [zero_add, add_zero]

theorem idx : ∀ t : Fin cfg0.N, win0_0.index t = ![0, 0] ∧ win0_1.index t = ![0, t.val]
    ∧ win0_2.index t = ![((3 * (t.val / 2) + 0) * 2 + t.val % 2) / 5, 0, ((3 * (t.val / 2) + 0) * 2 + t.val % 2) % 5] :=
  (by decide +kernel : ∀ t : Fin grid0.N, _)

theorem product (c : Dev nD) (t : Fin cfg0.N) (y) (q : Cert.BInDw0RefIdeal.S1024x4096.Idx) (h0 : (q 0 : ℕ) = y 1)
    (h1 : (q 1 : ℕ) = 512 * t.val + y 2) : k0_pay1 (iblk m c 0 t) (iblk m c 1 t) y
    = val_main_v9 (F := Ideal) (m ((c : Thread nD τ).loc main_arg0)) (m ((c : Thread nD τ).loc main_arg2)) q := by
  pointwise [k0_pay1, val_main_v9, val_main_v8]
  refine Finset.sum_congr rfl fun k _ => (mul_comm _ _).trans ?_
  blk_point [iblk, V, idx t]

theorem point (c : Dev nD) (t : Fin cfg0.N) (y : S1x1024x512.Idx) : k0_pay1 (iblk m c 0 t) (iblk m c 1 t) y
    = REF (m ((c : Thread nD τ).loc main_arg0)) (m ((c : Thread nD τ).loc main_arg2)) (((cfg0.win 2).blk t).view.emb y) := by
  have ht : t.val < 8 := t.isLt
  have hy1 : (y 1 : ℕ) < 1024 := (y 1).isLt
  have hy2 : (y 2 : ℕ) < 512 := (y 2).isLt
  have hy0 : (y 0 : ℕ) < 1 := (y 0).isLt
  obtain_idx q : Cert.BInDw0RefIdeal.S1024x4096 := [(y 1 : ℕ), 512 * t.val + (y 2 : ℕ)] with hq
  obtain_idx j : Cert.BInDw0RefIdeal.S1024x10240 := [(y 1 : ℕ), 512 * ((3 * (t.val / 2) + 0) * 2 + t.val % 2) + (y 2 : ℕ)] with hj
  rw [product m c t y q hq0 hq1, stacked _ _ _ j ?_ ?_, padded_on _ _ j q (hq0.trans hj0.symm) ?_ ?_]
  · omega
  · split_ifs <;> omega
  · rw [hj0]; blk_simp [idx t]
  · rw [hj1]; blk_simp [idx t]; omega

theorem some_blocks (c : Dev nD) : (dats m 0 c).arrAt 2 (cfgs 0).N
    = fun i => if (2560 * (i 0 : ℕ) + (i 2 : ℕ)) / 1024 % 3 = 0 then REF (m ((c : Thread nD τ).loc main_arg0)) (m ((c : Thread nD τ).loc main_arg2)) i else V m c main_v3 i := by
  refine (dats m 0 c).arrAt_eq_of_coversWhere 2 _ (fun β => (5 * β 0 + β 2) / 2 % 3 = 0) (by decide +kernel) (fun t hf y => ?_)
    (fun j => by blk_simp [Pipeline.Window.cell_apply]; omega)
  blk_simp
  rw [after0_2]; unfold Gen.outsAt0; frame_out
  exact point m c t y

theorem final (c : Dev nD) : (dats m 0 c).arrAt 2 (cfgs 0).N = REF (m ((c : Thread nD τ).loc main_arg0)) (m ((c : Thread nD τ).loc main_arg2)) := by
  rw [some_blocks m c]
  funext i
  split
  · rfl
  · rename_i h
    have hi0 : (i 0 : ℕ) < 4 := (i 0).isLt
    have hi1 : (i 1 : ℕ) < 1024 := (i 1).isLt
    have hi2 : (i 2 : ℕ) < 2560 := (i 2).isLt
    obtain_idx j : Cert.BInDw0RefIdeal.S1024x10240 := [(i 1 : ℕ), 2560 * (i 0 : ℕ) + (i 2 : ℕ)] with hj
    rw [stacked _ _ i j hj0 hj1, padded_off _ _ j (by rw [hj1]; exact h)]
    entry_read
    pointwise

end Cert.BInDw0Ideal.Whole

end
-- ==== Proof.BInDw0Claim.lean ====
module

public import proofs.«01_k».proof.Defs
public import proofs.«01_k».proof.Proof.Gen.BInDw0.Frame
public import proofs.«01_k».proof.Proof.Gen.BInDw0RefIdeal
public import proofs.«01_k».proof.Proof.Gen.BInDw0RefIdeal.Run
public import Idealize.ShloMosaic.Lib.Claim
public import proofs.«01_k».proof.Proof.BInDw0Value

@[expose] public section

noncomputable section

namespace Cert.BInDw0Claim

open Idealize.ShloMosaic Idealize.SL.Sem

theorem frame : Cert.quiescent_BInDw0 (hBInDw0 := Cert.BInDw0.Gen.facts) :=
  fun m g _ => Cert.BInDw0.Gen.frame m g

theorem frame_ideal : Cert.quiescent_BInDw0Ideal (hBInDw0Ideal := Cert.BInDw0Ideal.Gen.facts) :=
  fun m g _ => Cert.BInDw0Ideal.Gen.frame m g

theorem frame_ref : Cert.quiescent_BInDw0RefIdeal (hBInDw0RefIdeal := Cert.BInDw0RefIdeal.Gen.facts) := fun m g _ =>
  (θ_run Cert.BInDw0RefIdeal.defs _ _).mono (fun r h => ⟨fun c => (h c).2, Idealize.ShloMosaic.sem_eq_zero_of_no_sems (by decide) r.2⟩)
    (Cert.BInDw0RefIdeal.Value.run (F := Ideal) m g)

theorem algebraic : Cert.algebraic_BInDw0Ideal_BInDw0RefIdeal (hBInDw0Ideal := Cert.BInDw0Ideal.Gen.facts)
    (hBInDw0RefIdeal := Cert.BInDw0RefIdeal.Gen.facts) := by
  pair_intro
  · run_from Cert.BInDw0Ideal.Gen.run_main m g
  · run_from Cert.BInDw0RefIdeal.Value.run m' g'
    rw [Cert.BInDw0RefIdeal.Read.val_main_v27_eq]
    try rw [(hagree c).1]
    try rw [(hagree c).2.2]
    exact (Cert.BInDw0Ideal.Whole.final m c).symm

end Cert.BInDw0Claim

end
-- ==== Proof.SumTwo.lean ====
module

public import Idealize.ShloMosaic.Lib.Pipeline.ValueKit

@[expose] public section

namespace Cert.SumTwo

/-- A sum over `J` stretches of 1024 places, each added up as two halves of 512. -/
theorem sum_two {L J : ℕ} {A B : Fin J → Fin 512 → EReal} {f : Fin L → EReal}
    (hA : ∀ (s : Fin J) (k : Fin 512) (hl : s.val * 1024 + k.val < L), A s k = f ⟨s.val * 1024 + k.val, hl⟩)
    (hB : ∀ (s : Fin J) (k : Fin 512) (hl : s.val * 1024 + (512 + k.val) < L),
      B s k = f ⟨s.val * 1024 + (512 + k.val), hl⟩)
    (hL : L = J * 1024) : ∑ s : Fin J, (∑ k : Fin 512, A s k + ∑ k : Fin 512, B s k) = ∑ l : Fin L, f l := by
  rw [← Fin.sum_mul_add_congr (S := J) (n := 512 + 512) (f := f)
    (F := fun s k => f ⟨s.val * 1024 + k.val, by have := s.isLt; have := k.isLt; omega⟩) (fun s k hl => rfl) hL]
  refine Finset.sum_congr rfl fun s _ => ?_
  rw [Fin.sum_univ_add]
  exact congrArg₂ (· + ·) (Finset.sum_congr rfl fun k _ => hA s k _) (Finset.sum_congr rfl fun k _ => hB s k _)

/-- A sum over 1024 places, added up as two halves of 512. -/
theorem sum_halves {A B : Fin 512 → EReal} {f : Fin 1024 → EReal} (hA : ∀ k : Fin 512, A k = f ⟨k.val, by omega⟩)
    (hB : ∀ k : Fin 512, B k = f ⟨512 + k.val, by omega⟩) : ∑ k, A k + ∑ k, B k = ∑ l, f l := by
  rw [Fin.sum_univ_add (a := 512) (b := 512) (f := f)]
  exact congrArg₂ (· + ·) (Finset.sum_congr rfl fun k _ => hA k) (Finset.sum_congr rfl fun k _ => hB k)

end Cert.SumTwo

end
-- ==== Proof.BInDx0Value.lean ====
module

public import proofs.«01_k».proof.Proof.Gen.BInDx0Ideal.Frame
public import proofs.«01_k».proof.Proof.Gen.BInDx0RefIdeal.Read
public import Idealize.ShloMosaic.Lib.Pipeline.ValueKit
public import Idealize.ShloMosaic.Lib.Pipeline.ReadBack
public import proofs.«01_k».proof.Proof.SumTwo

@[expose] public section

set_option maxRecDepth 16384

noncomputable section

open Idealize.ShloMosaic Idealize.ShloMosaic.TcCoe Idealize.SL.Sem
open Idealize.ShloMosaic.Pipeline (Dat)

namespace Cert.BInDx0Ideal.Whole

open Cert.BInDx0Ideal Cert.BInDx0Ideal.Gen Cert.BInDx0RefIdeal.Read

variable (m : (ℓ : Loc nD τ sig) → Buf (Elt Ideal) ℓ)

/-- The shards of the weight, read at an index: shard `i 0` holds the columns from `2560 * i 0` on. -/
theorem weight (c : Dev nD) (i : S4x1024x2560.Idx) (j : S1024x10240.Idx) (h0 : (j 0 : ℕ) = i 1)
    (h1 : (j 1 : ℕ) = i 0 * 2560 + i 2) : V m c main_v3 i = m ((c : Thread nD τ).loc main_arg1) j := by
  blk_simp [V]; entry_read; pointwise
  blk_ext

theorem idx : ∀ t : Fin cfg0.N, win0_0.index t = ![t.val / 4, t.val % 4] ∧ win0_1.index t = ![((3 * (t.val % 4) + 0) * 2 + 0) / 5, 0, ((3 * (t.val % 4) + 0) * 2 + 0) % 5]
    ∧ win0_2.index t = ![((3 * (t.val % 4) + 0) * 2 + 1) / 5, 0, ((3 * (t.val % 4) + 0) * 2 + 1) % 5] ∧ win0_3.index t = ![t.val / 4, 0] :=
  (by decide +kernel : ∀ t : Fin grid0.N, _)

/-- What the block of the weight at a grid point holds: its row and its column of the whole weight. -/
theorem wblk0_lt (t : Fin cfg0.N) (y : S1x1024x512.Idx) : 2560 * (((3 * (t.val % 4) + 0) * 2 + 0) / 5) + 512 * (((3 * (t.val % 4) + 0) * 2 + 0) % 5) + y 2 < 10240 := by
  have h0 : t.val < 8 := t.isLt
  have h1 : (y 2 : ℕ) < 512 := (y 2).isLt
  omega

theorem wblk0 (c : Dev nD) (t : Fin cfg0.N) (y : S1x1024x512.Idx) : iblk m c 1 t y
    = m ((c : Thread nD τ).loc main_arg1) (ix2 (y 1) ⟨2560 * (((3 * (t.val % 4) + 0) * 2 + 0) / 5) + 512 * (((3 * (t.val % 4) + 0) * 2 + 0) % 5) + y 2, wblk0_lt t y⟩) := by
  blk_simp [iblk]
  refine weight m c _ _ ?_ ?_
  · show (y 1 : ℕ) = _
    blk_simp [idx t]
  · show 2560 * (((3 * (t.val % 4) + 0) * 2 + 0) / 5) + 512 * (((3 * (t.val % 4) + 0) * 2 + 0) % 5) + y 2 = _
    blk_simp [idx t]; omega

/-- What the block of the weight at a grid point holds: its row and its column of the whole weight. -/
theorem wblk1_lt (t : Fin cfg0.N) (y : S1x1024x512.Idx) : 2560 * (((3 * (t.val % 4) + 0) * 2 + 1) / 5) + 512 * (((3 * (t.val % 4) + 0) * 2 + 1) % 5) + y 2 < 10240 := by
  have h0 : t.val < 8 := t.isLt
  have h1 : (y 2 : ℕ) < 512 := (y 2).isLt
  omega

theorem wblk1 (c : Dev nD) (t : Fin cfg0.N) (y : S1x1024x512.Idx) : iblk m c 2 t y
    = m ((c : Thread nD τ).loc main_arg1) (ix2 (y 1) ⟨2560 * (((3 * (t.val % 4) + 0) * 2 + 1) / 5) + 512 * (((3 * (t.val % 4) + 0) * 2 + 1) % 5) + y 2, wblk1_lt t y⟩) := by
  blk_simp [iblk]
  refine weight m c _ _ ?_ ?_
  · show (y 1 : ℕ) = _
    blk_simp [idx t]
  · show 2560 * (((3 * (t.val % 4) + 0) * 2 + 1) / 5) + 512 * (((3 * (t.val % 4) + 0) * 2 + 1) % 5) + y 2 = _
    blk_simp [idx t]; omega

/-- The reference's result over the arrays that the kernel was given. -/
abbrev REF (x1 : FVec Ideal Cert.BInDx0RefIdeal.S1024x10240 .f32) (x2 : FVec Ideal Cert.BInDx0RefIdeal.S4096x4096 .f32) : FVec Ideal Cert.BInDx0RefIdeal.S4096x1024 .bf16 :=
  val_main_v9 (F := Ideal) x1 x2

/-- What the body holds after a point: the output block at a run's last point, the scratch before it. -/
abbrev held (c : Dev nD) (n : ℕ) (h : n < cfg0.N) (y : S2048x1024.Idx) : EReal :=
  if n % 4 = 3 then ((outsAt0 m c n h).1 y : EReal) else ((outsAt0 m c n h).2 y : EReal)

theorem held_first (c : Dev nD) (t : Fin cfg0.N) (h : t.val % 4 = 0) (y) :
    held m c t.val t.isLt y = 0 + k0_pay1 (View.ld (iblk m c 0 t) (Rect.unit ![0, 0] ![2048, 512] inb_S2048x1024_S2048x512_0_0)) (iblk m c 1 t) (View.ld (iblk m c 0 t) (Rect.unit ![0, 512] ![2048, 512] inb_S2048x1024_S2048x512_0_512)) (iblk m c 2 t) y := by
  unfold held
  rw [if_neg (by omega), outsAt0_A m c t h (by omega) (by omega), zero_add]; frame_out
  pointwise [k0_pay2]
  try rfl

theorem held_next (c : Dev nD) (t : Fin cfg0.N) (h : ¬ t.val % 4 = 0) (y) : held m c t.val t.isLt y
    = held m c (t.val - 1) (Nat.lt_of_le_of_lt (Nat.sub_le _ _) t.isLt) y + k0_pay1 (View.ld (iblk m c 0 t) (Rect.unit ![0, 0] ![2048, 512] inb_S2048x1024_S2048x512_0_0)) (iblk m c 1 t) (View.ld (iblk m c 0 t) (Rect.unit ![0, 512] ![2048, 512] inb_S2048x1024_S2048x512_0_512)) (iblk m c 2 t) y := by
  unfold held
  rw [if_neg (show ¬ (t.val - 1) % 4 = 3 by omega)]
  by_cases hl : t.val % 4 = 3
  · rw [if_pos hl, outsAt0_C m c t h (by omega) hl]; frame_out
    pointwise [k0_pay4]
    rw [read_unread_whole]
    try rfl
  · rw [if_neg hl, outsAt0_B m c t h (by omega) hl]; frame_out
    pointwise [k0_pay3]
    rw [read_unread_whole]
    try rfl

theorem sums (c : Dev nD) (t : Fin cfg0.N) (h : t.val % 4 = 3) (y) :
    ((outsAt0 m c t.val t.isLt).1 y : EReal) = ∑ s : Fin 4, k0_pay1 (View.ld (iblk m c 0 ⟨4 * (t.val / 4) + s.val, Pipeline.run_point_lt_of_flush t h s⟩) (Rect.unit ![0, 0] ![2048, 512] inb_S2048x1024_S2048x512_0_0)) (iblk m c 1 ⟨4 * (t.val / 4) + s.val, Pipeline.run_point_lt_of_flush t h s⟩) (View.ld (iblk m c 0 ⟨4 * (t.val / 4) + s.val, Pipeline.run_point_lt_of_flush t h s⟩) (Rect.unit ![0, 512] ![2048, 512] inb_S2048x1024_S2048x512_0_512)) (iblk m c 2 ⟨4 * (t.val / 4) + s.val, Pipeline.run_point_lt_of_flush t h s⟩) y := by
  have e := Pipeline.eq_sum_fin_of_reset_step_apply_of_flush (held m c) 4 (fun _ => 0) _ (held_first m c)
    (held_next m c) t h y
  unfold held at e
  rw [if_pos h, zero_add] at e
  exact e

theorem point (c : Dev nD) (t : Fin cfg0.N) (h : t.val % 4 = 3) (y) : ((outsAt0 m c t.val t.isLt).1 y : EReal)
    = REF (m ((c : Thread nD τ).loc main_arg1)) (m ((c : Thread nD τ).loc main_arg2)) (((cfg0.win 3).blk t).view.emb y) := by
  rw [sums m c t h]
  pointwise [k0_pay1, REF, val_main_v0, val_main_v1, val_main_v2, val_main_v3, val_main_v4, val_main_v5, val_main_v6, val_main_v7, val_main_v8, val_main_v9]
  simp only [wblk0, wblk1]
  rw [Fin.sum_univ_castSucc]
  refine congrArg₂ (· + ·) (Cert.SumTwo.sum_two (fun s k hl => ?_) (fun s k hl => ?_) rfl)
    (Cert.SumTwo.sum_halves (fun k => ?_) (fun k => ?_))
  · blk_point [iblk, V, idx t, idx ⟨_, Pipeline.run_point_lt_of_flush t h s.castSucc⟩]
    all_goals (have e : (s.castSucc : ℕ) = s := rfl; omega)
  · blk_point [iblk, V, idx t, idx ⟨_, Pipeline.run_point_lt_of_flush t h s.castSucc⟩]
    all_goals (have e : (s.castSucc : ℕ) = s := rfl; omega)
  · blk_point [iblk, V, idx t, idx ⟨_, Pipeline.run_point_lt_of_flush t h (Fin.last 3)⟩]
    all_goals (have e : ((Fin.last 3 : Fin 4) : ℕ) = 3 := rfl; omega)
  · blk_point [iblk, V, idx t, idx ⟨_, Pipeline.run_point_lt_of_flush t h (Fin.last 3)⟩]
    all_goals (have e : ((Fin.last 3 : Fin 4) : ℕ) = 3 := rfl; omega)

theorem final (c : Dev nD) : (dats m 0 c).arrAt 3 (cfgs 0).N = REF (m ((c : Thread nD τ).loc main_arg1)) (m ((c : Thread nD τ).loc main_arg2)) := by
  refine (dats m 0 c).arrAt_eq_of_covers 3 _ (by decide +kernel) fun t hf y => ?_
  blk_simp
  rw [after0_3]
  exact point m c t ((flush0_3 t).mp hf) y

end Cert.BInDx0Ideal.Whole

end
-- ==== Proof.BInDx0Claim.lean ====
module

public import proofs.«01_k».proof.Defs
public import proofs.«01_k».proof.Proof.Gen.BInDx0.Frame
public import proofs.«01_k».proof.Proof.Gen.BInDx0RefIdeal
public import proofs.«01_k».proof.Proof.Gen.BInDx0RefIdeal.Run
public import Idealize.ShloMosaic.Lib.Claim
public import proofs.«01_k».proof.Proof.BInDx0Value

@[expose] public section

noncomputable section

namespace Cert.BInDx0Claim

open Idealize.ShloMosaic Idealize.SL.Sem

theorem frame : Cert.quiescent_BInDx0 (hBInDx0 := Cert.BInDx0.Gen.facts) :=
  fun m g _ => Cert.BInDx0.Gen.frame m g

theorem frame_ideal : Cert.quiescent_BInDx0Ideal (hBInDx0Ideal := Cert.BInDx0Ideal.Gen.facts) :=
  fun m g _ => Cert.BInDx0Ideal.Gen.frame m g

theorem frame_ref : Cert.quiescent_BInDx0RefIdeal (hBInDx0RefIdeal := Cert.BInDx0RefIdeal.Gen.facts) := fun m g _ =>
  (θ_run Cert.BInDx0RefIdeal.defs _ _).mono (fun r h => ⟨fun c => (h c).2, Idealize.ShloMosaic.sem_eq_zero_of_no_sems (by decide) r.2⟩)
    (Cert.BInDx0RefIdeal.Value.run (F := Ideal) m g)

theorem algebraic : Cert.algebraic_BInDx0Ideal_BInDx0RefIdeal (hBInDx0Ideal := Cert.BInDx0Ideal.Gen.facts)
    (hBInDx0RefIdeal := Cert.BInDx0RefIdeal.Gen.facts) := by
  pair_intro
  · run_from Cert.BInDx0Ideal.Gen.run_main m g
  · run_from Cert.BInDx0RefIdeal.Value.run m' g'
    have e := (Cert.BInDx0Ideal.Whole.final m c).symm
    rw [← (hagree c).2.1] at e
    exact e

end Cert.BInDx0Claim

end
-- ==== Proof.BIn0Value.lean ====
module

public import proofs.«01_k».proof.Proof.Gen.BIn0Ideal.Frame
public import proofs.«01_k».proof.Proof.Gen.BIn0RefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.BIn0Ideal.Whole

open Cert.BIn0Ideal Cert.BIn0Ideal.Gen Cert.BIn0RefIdeal.Read

variable (m : (ℓ : Loc nD τ sig) → Buf (Elt Ideal) ℓ)

/-- The shards of the weight, read at an index: shard `i 0` holds the columns from `2560 * i 0` on. -/
theorem weight (c : Dev nD) (i : S4x1024x2560.Idx) (j : S1024x10240.Idx) (h0 : (j 0 : ℕ) = i 1)
    (h1 : (j 1 : ℕ) = i 0 * 2560 + i 2) : V m c main_v3 i = m ((c : Thread nD τ).loc main_arg1) j := by
  blk_simp [V]; entry_read; pointwise
  blk_ext

theorem idx : ∀ t : Fin cfg0.N, win0_0.index t = ![0, 0] ∧ win0_1.index t = ![((3 * (t.val / 2) + 0) * 2 + t.val % 2) / 5, 0, ((3 * (t.val / 2) + 0) * 2 + t.val % 2) % 5] ∧ win0_2.index t = ![0, t.val] :=
  (by decide +kernel : ∀ t : Fin grid0.N, _)

/-- What the block of the weight at a grid point holds: its row and its column of the whole weight. -/
theorem wblk_lt (t : Fin cfg0.N) (y : S1x1024x512.Idx) : 2560 * (((3 * (t.val / 2) + 0) * 2 + t.val % 2) / 5) + 512 * (((3 * (t.val / 2) + 0) * 2 + t.val % 2) % 5) + y 2 < 10240 := by
  have h0 : t.val < 8 := t.isLt
  have h1 : (y 2 : ℕ) < 512 := (y 2).isLt
  omega

theorem wblk (c : Dev nD) (t : Fin cfg0.N) (y : S1x1024x512.Idx) : iblk m c 1 t y
    = m ((c : Thread nD τ).loc main_arg1) (ix2 (y 1) ⟨2560 * (((3 * (t.val / 2) + 0) * 2 + t.val % 2) / 5) + 512 * (((3 * (t.val / 2) + 0) * 2 + t.val % 2) % 5) + y 2, wblk_lt t y⟩) := by
  blk_simp [iblk]
  refine weight m c _ _ ?_ ?_
  · show (y 1 : ℕ) = _
    blk_simp [idx t]
  · show 2560 * (((3 * (t.val / 2) + 0) * 2 + t.val % 2) / 5) + 512 * (((3 * (t.val / 2) + 0) * 2 + t.val % 2) % 5) + y 2 = _
    blk_simp [idx t]; omega

/-- The reference's result over the arrays that the kernel was given. -/
abbrev REF (x0 : FVec Ideal Cert.BIn0RefIdeal.S4096x1024 .f32) (x1 : FVec Ideal Cert.BIn0RefIdeal.S1024x10240 .f32) : FVec Ideal Cert.BIn0RefIdeal.S4096x4096 .bf16 :=
  val_main_v8 (F := Ideal) x0 x1

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF, val_main_v0, val_main_v1, val_main_v2, val_main_v3, val_main_v4, val_main_v5, val_main_v6, val_main_v7, val_main_v8]
  simp only [wblk]
  blk_point [iblk, V, idx t]
  all_goals (blk_simp [idx t] at *; omega)

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.BIn0Ideal.Whole

end
-- ==== Proof.BIn0Claim.lean ====
module

public import proofs.«01_k».proof.Defs
public import proofs.«01_k».proof.Proof.Gen.BIn0.Frame
public import proofs.«01_k».proof.Proof.Gen.BIn0RefIdeal
public import proofs.«01_k».proof.Proof.Gen.BIn0RefIdeal.Run
public import Idealize.ShloMosaic.Lib.Claim
public import proofs.«01_k».proof.Proof.BIn0Value

@[expose] public section

noncomputable section

namespace Cert.BIn0Claim

open Idealize.ShloMosaic Idealize.SL.Sem

theorem frame : Cert.quiescent_BIn0 (hBIn0 := Cert.BIn0.Gen.facts) :=
  fun m g _ => Cert.BIn0.Gen.frame m g

theorem frame_ideal : Cert.quiescent_BIn0Ideal (hBIn0Ideal := Cert.BIn0Ideal.Gen.facts) :=
  fun m g _ => Cert.BIn0Ideal.Gen.frame m g

theorem frame_ref : Cert.quiescent_BIn0RefIdeal (hBIn0RefIdeal := Cert.BIn0RefIdeal.Gen.facts) := fun m g _ =>
  (θ_run Cert.BIn0RefIdeal.defs _ _).mono (fun r h => ⟨fun c => (h c).2, Idealize.ShloMosaic.sem_eq_zero_of_no_sems (by decide) r.2⟩)
    (Cert.BIn0RefIdeal.Value.run (F := Ideal) m g)

theorem algebraic : Cert.algebraic_BIn0Ideal_BIn0RefIdeal (hBIn0Ideal := Cert.BIn0Ideal.Gen.facts)
    (hBIn0RefIdeal := Cert.BIn0RefIdeal.Gen.facts) := by
  pair_intro
  · run_from Cert.BIn0Ideal.Gen.run_main m g
  · run_from Cert.BIn0RefIdeal.Value.run m' g'
    exact (Cert.BIn0Ideal.Whole.final m c).symm

end Cert.BIn0Claim

end
-- ==== Proof.BInDw1Value.lean ====
module

public import proofs.«01_k».proof.Proof.Gen.BInDw1Ideal.Frame
public import proofs.«01_k».proof.Proof.Gen.BInDw1RefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.BInDw1Ideal.Whole

open Cert.BInDw1Ideal Cert.BInDw1Ideal.Gen Cert.BInDw1RefIdeal.Read

variable (m : (ℓ : Loc nD τ sig) → Buf (Elt Ideal) ℓ)

/-- The reference's result over the arrays that the kernel was given. -/
abbrev REF (x0 : FVec Ideal Cert.BInDw1RefIdeal.S4096x1024 .f32) (x2 : FVec Ideal Cert.BInDw1RefIdeal.S4096x3072 .f32) : FVec Ideal Cert.BInDw1RefIdeal.S4x1024x2560 .f32 :=
  val_main_v21 (F := Ideal) x0 x2

/-- The four shards of the gradient are the gradient's columns, 2560 to a shard. -/
theorem stacked (h : FVec Ideal Cert.BInDw1RefIdeal.S4096x1024 .f32) (ct : FVec Ideal Cert.BInDw1RefIdeal.S4096x3072 .f32) (i : Cert.BInDw1RefIdeal.S4x1024x2560.Idx) (j : Cert.BInDw1RefIdeal.S1024x10240.Idx) (h0 : (j 0 : ℕ) = i 1)
    (h1 : (j 1 : ℕ) = 2560 * i 0 + i 2) : REF h ct i = val_main_v12 (F := Ideal) h ct j := by
  have hi : (i 0 : ℕ) < 4 := (i 0).isLt
  pointwise [REF, val_main_v21, val_main_v20, val_main_v19, val_main_v18, val_main_v17, val_main_v16, val_main_v15, val_main_v14, val_main_v13]
  split_ifs <;> blk_ext

/-- A column of the group holds the product's column. -/
theorem padded_on (h : FVec Ideal Cert.BInDw1RefIdeal.S4096x1024 .f32) (ct : FVec Ideal Cert.BInDw1RefIdeal.S4096x3072 .f32) (j : Cert.BInDw1RefIdeal.S1024x10240.Idx) (q : Cert.BInDw1RefIdeal.S1024x3072.Idx) (h0 : (q 0 : ℕ) = j 0)
    (hc : (j 1 : ℕ) / 1024 % 3 = 1) (h1 : (q 1 : ℕ) = if (j 1 : ℕ) < 9216 then (j 1 : ℕ) / 3072 * 1024 + (j 1 : ℕ) % 1024 else (j 1 : ℕ) - 9216 + 3072) :
    val_main_v12 (F := Ideal) h ct j = val_main_v7 (F := Ideal) h ct q := by
  have hj : (j 1 : ℕ) < 10240 := (j 1).isLt
  pointwise [val_main_v12, val_main_cst_0, val_main_v11, val_main_v10, val_main_cst, val_main_v9, val_main_v8]
  split_ifs at h1 ⊢ <;> first
    | (exfalso; omega)
    | (try simp only [zero_add, add_zero]
       blk_ext)

/-- A column of another group is zero. -/
theorem padded_off (h : FVec Ideal Cert.BInDw1RefIdeal.S4096x1024 .f32) (ct : FVec Ideal Cert.BInDw1RefIdeal.S4096x3072 .f32) (j : Cert.BInDw1RefIdeal.S1024x10240.Idx) (hc : ¬ (j 1 : ℕ) / 1024 % 3 = 1) :
    val_main_v12 (F := Ideal) h ct j = 0 := by
  have hj : (j 1 : ℕ) < 10240 := (j 1).isLt
  pointwise [val_main_v12, val_main_cst_0, val_main_v11, val_main_v10, val_main_cst, val_main_v9, val_main_v8]
  split_ifs <;> first
    | (exfalso; omega)
    | simp only [zero_add, add_zero]

theorem idx : ∀ t : Fin cfg0.N, win0_0.index t = ![0, 0] ∧ win0_1.index t = ![0, t.val]
    ∧ win0_2.index t = ![((3 * (t.val / 2) + 1) * 2 + t.val % 2) / 5, 0, ((3 * (t.val / 2) + 1) * 2 + t.val % 2) % 5] :=
  (by decide +kernel : ∀ t : Fin grid0.N, _)

theorem product (c : Dev nD) (t : Fin cfg0.N) (y) (q : Cert.BInDw1RefIdeal.S1024x3072.Idx) (h0 : (q 0 : ℕ) = y 1)
    (h1 : (q 1 : ℕ) = 512 * t.val + y 2) : k0_pay1 (iblk m c 0 t) (iblk m c 1 t) y
    = val_main_v7 (F := Ideal) (m ((c : Thread nD τ).loc main_arg0)) (m ((c : Thread nD τ).loc main_arg2)) q := by
  pointwise [k0_pay1, val_main_v7, val_main_v6]
  refine Finset.sum_congr rfl fun k _ => (mul_comm _ _).trans ?_
  blk_point [iblk, V, idx t]

theorem point (c : Dev nD) (t : Fin cfg0.N) (y : S1x1024x512.Idx) : k0_pay1 (iblk m c 0 t) (iblk m c 1 t) y
    = REF (m ((c : Thread nD τ).loc main_arg0)) (m ((c : Thread nD τ).loc main_arg2)) (((cfg0.win 2).blk t).view.emb y) := by
  have ht : t.val < 6 := t.isLt
  have hy1 : (y 1 : ℕ) < 1024 := (y 1).isLt
  have hy2 : (y 2 : ℕ) < 512 := (y 2).isLt
  have hy0 : (y 0 : ℕ) < 1 := (y 0).isLt
  obtain_idx q : Cert.BInDw1RefIdeal.S1024x3072 := [(y 1 : ℕ), 512 * t.val + (y 2 : ℕ)] with hq
  obtain_idx j : Cert.BInDw1RefIdeal.S1024x10240 := [(y 1 : ℕ), 512 * ((3 * (t.val / 2) + 1) * 2 + t.val % 2) + (y 2 : ℕ)] with hj
  rw [product m c t y q hq0 hq1, stacked _ _ _ j ?_ ?_, padded_on _ _ j q (hq0.trans hj0.symm) ?_ ?_]
  · omega
  · split_ifs <;> omega
  · rw [hj0]; blk_simp [idx t]
  · rw [hj1]; blk_simp [idx t]; omega

theorem some_blocks (c : Dev nD) : (dats m 0 c).arrAt 2 (cfgs 0).N
    = fun i => if (2560 * (i 0 : ℕ) + (i 2 : ℕ)) / 1024 % 3 = 1 then REF (m ((c : Thread nD τ).loc main_arg0)) (m ((c : Thread nD τ).loc main_arg2)) i else V m c main_v3 i := by
  refine (dats m 0 c).arrAt_eq_of_coversWhere 2 _ (fun β => (5 * β 0 + β 2) / 2 % 3 = 1) (by decide +kernel) (fun t hf y => ?_)
    (fun j => by blk_simp [Pipeline.Window.cell_apply]; omega)
  blk_simp
  rw [after0_2]; unfold Gen.outsAt0; frame_out
  exact point m c t y

theorem final (c : Dev nD) : (dats m 0 c).arrAt 2 (cfgs 0).N = REF (m ((c : Thread nD τ).loc main_arg0)) (m ((c : Thread nD τ).loc main_arg2)) := by
  rw [some_blocks m c]
  funext i
  split
  · rfl
  · rename_i h
    have hi0 : (i 0 : ℕ) < 4 := (i 0).isLt
    have hi1 : (i 1 : ℕ) < 1024 := (i 1).isLt
    have hi2 : (i 2 : ℕ) < 2560 := (i 2).isLt
    obtain_idx j : Cert.BInDw1RefIdeal.S1024x10240 := [(i 1 : ℕ), 2560 * (i 0 : ℕ) + (i 2 : ℕ)] with hj
    rw [stacked _ _ i j hj0 hj1, padded_off _ _ j (by rw [hj1]; exact h)]
    entry_read
    pointwise

end Cert.BInDw1Ideal.Whole

end
-- ==== Proof.BInDw1Claim.lean ====
module

public import proofs.«01_k».proof.Defs
public import proofs.«01_k».proof.Proof.Gen.BInDw1.Frame
public import proofs.«01_k».proof.Proof.Gen.BInDw1RefIdeal
public import proofs.«01_k».proof.Proof.Gen.BInDw1RefIdeal.Run
public import Idealize.ShloMosaic.Lib.Claim
public import proofs.«01_k».proof.Proof.BInDw1Value

@[expose] public section

noncomputable section

namespace Cert.BInDw1Claim

open Idealize.ShloMosaic Idealize.SL.Sem

theorem frame : Cert.quiescent_BInDw1 (hBInDw1 := Cert.BInDw1.Gen.facts) :=
  fun m g _ => Cert.BInDw1.Gen.frame m g

theorem frame_ideal : Cert.quiescent_BInDw1Ideal (hBInDw1Ideal := Cert.BInDw1Ideal.Gen.facts) :=
  fun m g _ => Cert.BInDw1Ideal.Gen.frame m g

theorem frame_ref : Cert.quiescent_BInDw1RefIdeal (hBInDw1RefIdeal := Cert.BInDw1RefIdeal.Gen.facts) := fun m g _ =>
  (θ_run Cert.BInDw1RefIdeal.defs _ _).mono (fun r h => ⟨fun c => (h c).2, Idealize.ShloMosaic.sem_eq_zero_of_no_sems (by decide) r.2⟩)
    (Cert.BInDw1RefIdeal.Value.run (F := Ideal) m g)

theorem algebraic : Cert.algebraic_BInDw1Ideal_BInDw1RefIdeal (hBInDw1Ideal := Cert.BInDw1Ideal.Gen.facts)
    (hBInDw1RefIdeal := Cert.BInDw1RefIdeal.Gen.facts) := by
  pair_intro
  · run_from Cert.BInDw1Ideal.Gen.run_main m g
  · run_from Cert.BInDw1RefIdeal.Value.run m' g'
    rw [Cert.BInDw1RefIdeal.Read.val_main_v21_eq]
    try rw [(hagree c).1]
    try rw [(hagree c).2.2]
    exact (Cert.BInDw1Ideal.Whole.final m c).symm

end Cert.BInDw1Claim

end
-- ==== Proof.BInDx1Value.lean ====
module

public import proofs.«01_k».proof.Proof.Gen.BInDx1Ideal.Frame
public import proofs.«01_k».proof.Proof.Gen.BInDx1RefIdeal.Read
public import Idealize.ShloMosaic.Lib.Pipeline.ValueKit
public import Idealize.ShloMosaic.Lib.Pipeline.ReadBack
public import proofs.«01_k».proof.Proof.SumTwo

@[expose] public section

set_option maxRecDepth 16384

noncomputable section

open Idealize.ShloMosaic Idealize.ShloMosaic.TcCoe Idealize.SL.Sem
open Idealize.ShloMosaic.Pipeline (Dat)

namespace Cert.BInDx1Ideal.Whole

open Cert.BInDx1Ideal Cert.BInDx1Ideal.Gen Cert.BInDx1RefIdeal.Read

variable (m : (ℓ : Loc nD τ sig) → Buf (Elt Ideal) ℓ)

/-- The shards of the weight, read at an index: shard `i 0` holds the columns from `2560 * i 0` on. -/
theorem weight (c : Dev nD) (i : S4x1024x2560.Idx) (j : S1024x10240.Idx) (h0 : (j 0 : ℕ) = i 1)
    (h1 : (j 1 : ℕ) = i 0 * 2560 + i 2) : V m c main_v3 i = m ((c : Thread nD τ).loc main_arg1) j := by
  blk_simp [V]; entry_read; pointwise
  blk_ext

theorem idx : ∀ t : Fin cfg0.N, win0_0.index t = ![t.val / 3, t.val % 3] ∧ win0_1.index t = ![((3 * (t.val % 3) + 1) * 2 + 0) / 5, 0, ((3 * (t.val % 3) + 1) * 2 + 0) % 5]
    ∧ win0_2.index t = ![((3 * (t.val % 3) + 1) * 2 + 1) / 5, 0, ((3 * (t.val % 3) + 1) * 2 + 1) % 5] ∧ win0_3.index t = ![t.val / 3, 0] :=
  (by decide +kernel : ∀ t : Fin grid0.N, _)

/-- What the block of the weight at a grid point holds: its row and its column of the whole weight. -/
theorem wblk0_lt (t : Fin cfg0.N) (y : S1x1024x512.Idx) : 2560 * (((3 * (t.val % 3) + 1) * 2 + 0) / 5) + 512 * (((3 * (t.val % 3) + 1) * 2 + 0) % 5) + y 2 < 10240 := by
  have h0 : t.val < 6 := t.isLt
  have h1 : (y 2 : ℕ) < 512 := (y 2).isLt
  omega

theorem wblk0 (c : Dev nD) (t : Fin cfg0.N) (y : S1x1024x512.Idx) : iblk m c 1 t y
    = m ((c : Thread nD τ).loc main_arg1) (ix2 (y 1) ⟨2560 * (((3 * (t.val % 3) + 1) * 2 + 0) / 5) + 512 * (((3 * (t.val % 3) + 1) * 2 + 0) % 5) + y 2, wblk0_lt t y⟩) := by
  blk_simp [iblk]
  refine weight m c _ _ ?_ ?_
  · show (y 1 : ℕ) = _
    blk_simp [idx t]
  · show 2560 * (((3 * (t.val % 3) + 1) * 2 + 0) / 5) + 512 * (((3 * (t.val % 3) + 1) * 2 + 0) % 5) + y 2 = _
    blk_simp [idx t]; omega

/-- What the block of the weight at a grid point holds: its row and its column of the whole weight. -/
theorem wblk1_lt (t : Fin cfg0.N) (y : S1x1024x512.Idx) : 2560 * (((3 * (t.val % 3) + 1) * 2 + 1) / 5) + 512 * (((3 * (t.val % 3) + 1) * 2 + 1) % 5) + y 2 < 10240 := by
  have h0 : t.val < 6 := t.isLt
  have h1 : (y 2 : ℕ) < 512 := (y 2).isLt
  omega

theorem wblk1 (c : Dev nD) (t : Fin cfg0.N) (y : S1x1024x512.Idx) : iblk m c 2 t y
    = m ((c : Thread nD τ).loc main_arg1) (ix2 (y 1) ⟨2560 * (((3 * (t.val % 3) + 1) * 2 + 1) / 5) + 512 * (((3 * (t.val % 3) + 1) * 2 + 1) % 5) + y 2, wblk1_lt t y⟩) := by
  blk_simp [iblk]
  refine weight m c _ _ ?_ ?_
  · show (y 1 : ℕ) = _
    blk_simp [idx t]
  · show 2560 * (((3 * (t.val % 3) + 1) * 2 + 1) / 5) + 512 * (((3 * (t.val % 3) + 1) * 2 + 1) % 5) + y 2 = _
    blk_simp [idx t]; omega

/-- The reference's result over the arrays that the kernel was given. -/
abbrev REF (x1 : FVec Ideal Cert.BInDx1RefIdeal.S1024x10240 .f32) (x2 : FVec Ideal Cert.BInDx1RefIdeal.S4096x3072 .f32) : FVec Ideal Cert.BInDx1RefIdeal.S4096x1024 .bf16 :=
  val_main_v7 (F := Ideal) x1 x2

/-- What the body holds after a point: the output block at a run's last point, the scratch before it. -/
abbrev held (c : Dev nD) (n : ℕ) (h : n < cfg0.N) (y : S2048x1024.Idx) : EReal :=
  if n % 3 = 2 then ((outsAt0 m c n h).1 y : EReal) else ((outsAt0 m c n h).2 y : EReal)

theorem held_first (c : Dev nD) (t : Fin cfg0.N) (h : t.val % 3 = 0) (y) :
    held m c t.val t.isLt y = 0 + k0_pay1 (View.ld (iblk m c 0 t) (Rect.unit ![0, 0] ![2048, 512] inb_S2048x1024_S2048x512_0_0)) (iblk m c 1 t) (View.ld (iblk m c 0 t) (Rect.unit ![0, 512] ![2048, 512] inb_S2048x1024_S2048x512_0_512)) (iblk m c 2 t) y := by
  unfold held
  rw [if_neg (by omega), outsAt0_A m c t h (by omega) (by omega), zero_add]; frame_out
  pointwise [k0_pay2]
  try rfl

theorem held_next (c : Dev nD) (t : Fin cfg0.N) (h : ¬ t.val % 3 = 0) (y) : held m c t.val t.isLt y
    = held m c (t.val - 1) (Nat.lt_of_le_of_lt (Nat.sub_le _ _) t.isLt) y + k0_pay1 (View.ld (iblk m c 0 t) (Rect.unit ![0, 0] ![2048, 512] inb_S2048x1024_S2048x512_0_0)) (iblk m c 1 t) (View.ld (iblk m c 0 t) (Rect.unit ![0, 512] ![2048, 512] inb_S2048x1024_S2048x512_0_512)) (iblk m c 2 t) y := by
  unfold held
  rw [if_neg (show ¬ (t.val - 1) % 3 = 2 by omega)]
  by_cases hl : t.val % 3 = 2
  · rw [if_pos hl, outsAt0_C m c t h (by omega) hl]; frame_out
    pointwise [k0_pay4]
    rw [read_unread_whole]
    try rfl
  · rw [if_neg hl, outsAt0_B m c t h (by omega) hl]; frame_out
    pointwise [k0_pay3]
    rw [read_unread_whole]
    try rfl

theorem sums (c : Dev nD) (t : Fin cfg0.N) (h : t.val % 3 = 2) (y) :
    ((outsAt0 m c t.val t.isLt).1 y : EReal) = ∑ s : Fin 3, k0_pay1 (View.ld (iblk m c 0 ⟨3 * (t.val / 3) + s.val, Pipeline.run_point_lt_of_flush t h s⟩) (Rect.unit ![0, 0] ![2048, 512] inb_S2048x1024_S2048x512_0_0)) (iblk m c 1 ⟨3 * (t.val / 3) + s.val, Pipeline.run_point_lt_of_flush t h s⟩) (View.ld (iblk m c 0 ⟨3 * (t.val / 3) + s.val, Pipeline.run_point_lt_of_flush t h s⟩) (Rect.unit ![0, 512] ![2048, 512] inb_S2048x1024_S2048x512_0_512)) (iblk m c 2 ⟨3 * (t.val / 3) + s.val, Pipeline.run_point_lt_of_flush t h s⟩) y := by
  have e := Pipeline.eq_sum_fin_of_reset_step_apply_of_flush (held m c) 3 (fun _ => 0) _ (held_first m c)
    (held_next m c) t h y
  unfold held at e
  rw [if_pos h, zero_add] at e
  exact e

theorem point (c : Dev nD) (t : Fin cfg0.N) (h : t.val % 3 = 2) (y) : ((outsAt0 m c t.val t.isLt).1 y : EReal)
    = REF (m ((c : Thread nD τ).loc main_arg1)) (m ((c : Thread nD τ).loc main_arg2)) (((cfg0.win 3).blk t).view.emb y) := by
  rw [sums m c t h]
  pointwise [k0_pay1, REF, val_main_v0, val_main_v1, val_main_v2, val_main_v3, val_main_v4, val_main_v5, val_main_v6, val_main_v7]
  simp only [wblk0, wblk1]
  refine Cert.SumTwo.sum_two (fun s k hl => ?_) (fun s k hl => ?_) rfl
  · blk_point [iblk, V, idx t, idx ⟨_, Pipeline.run_point_lt_of_flush t h s⟩]
  · blk_point [iblk, V, idx t, idx ⟨_, Pipeline.run_point_lt_of_flush t h s⟩]

theorem final (c : Dev nD) : (dats m 0 c).arrAt 3 (cfgs 0).N = REF (m ((c : Thread nD τ).loc main_arg1)) (m ((c : Thread nD τ).loc main_arg2)) := by
  refine (dats m 0 c).arrAt_eq_of_covers 3 _ (by decide +kernel) fun t hf y => ?_
  blk_simp
  rw [after0_3]
  exact point m c t ((flush0_3 t).mp hf) y

end Cert.BInDx1Ideal.Whole

end
-- ==== Proof.BInDx1Claim.lean ====
module

public import proofs.«01_k».proof.Defs
public import proofs.«01_k».proof.Proof.Gen.BInDx1.Frame
public import proofs.«01_k».proof.Proof.Gen.BInDx1RefIdeal
public import proofs.«01_k».proof.Proof.Gen.BInDx1RefIdeal.Run
public import Idealize.ShloMosaic.Lib.Claim
public import proofs.«01_k».proof.Proof.BInDx1Value

@[expose] public section

noncomputable section

namespace Cert.BInDx1Claim

open Idealize.ShloMosaic Idealize.SL.Sem

theorem frame : Cert.quiescent_BInDx1 (hBInDx1 := Cert.BInDx1.Gen.facts) :=
  fun m g _ => Cert.BInDx1.Gen.frame m g

theorem frame_ideal : Cert.quiescent_BInDx1Ideal (hBInDx1Ideal := Cert.BInDx1Ideal.Gen.facts) :=
  fun m g _ => Cert.BInDx1Ideal.Gen.frame m g

theorem frame_ref : Cert.quiescent_BInDx1RefIdeal (hBInDx1RefIdeal := Cert.BInDx1RefIdeal.Gen.facts) := fun m g _ =>
  (θ_run Cert.BInDx1RefIdeal.defs _ _).mono (fun r h => ⟨fun c => (h c).2, Idealize.ShloMosaic.sem_eq_zero_of_no_sems (by decide) r.2⟩)
    (Cert.BInDx1RefIdeal.Value.run (F := Ideal) m g)

theorem algebraic : Cert.algebraic_BInDx1Ideal_BInDx1RefIdeal (hBInDx1Ideal := Cert.BInDx1Ideal.Gen.facts)
    (hBInDx1RefIdeal := Cert.BInDx1RefIdeal.Gen.facts) := by
  pair_intro
  · run_from Cert.BInDx1Ideal.Gen.run_main m g
  · run_from Cert.BInDx1RefIdeal.Value.run m' g'
    exact (Cert.BInDx1Ideal.Whole.final m c).symm

end Cert.BInDx1Claim

end
-- ==== Proof.BIn1Value.lean ====
module

public import proofs.«01_k».proof.Proof.Gen.BIn1Ideal.Frame
public import proofs.«01_k».proof.Proof.Gen.BIn1RefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.BIn1Ideal.Whole

open Cert.BIn1Ideal Cert.BIn1Ideal.Gen Cert.BIn1RefIdeal.Read

variable (m : (ℓ : Loc nD τ sig) → Buf (Elt Ideal) ℓ)

/-- The shards of the weight, read at an index: shard `i 0` holds the columns from `2560 * i 0` on. -/
theorem weight (c : Dev nD) (i : S4x1024x2560.Idx) (j : S1024x10240.Idx) (h0 : (j 0 : ℕ) = i 1)
    (h1 : (j 1 : ℕ) = i 0 * 2560 + i 2) : V m c main_v3 i = m ((c : Thread nD τ).loc main_arg1) j := by
  blk_simp [V]; entry_read; pointwise
  blk_ext

theorem idx : ∀ t : Fin cfg0.N, win0_0.index t = ![0, 0] ∧ win0_1.index t = ![((3 * (t.val / 2) + 1) * 2 + t.val % 2) / 5, 0, ((3 * (t.val / 2) + 1) * 2 + t.val % 2) % 5] ∧ win0_2.index t = ![0, t.val] :=
  (by decide +kernel : ∀ t : Fin grid0.N, _)

/-- What the block of the weight at a grid point holds: its row and its column of the whole weight. -/
theorem wblk_lt (t : Fin cfg0.N) (y : S1x1024x512.Idx) : 2560 * (((3 * (t.val / 2) + 1) * 2 + t.val % 2) / 5) + 512 * (((3 * (t.val / 2) + 1) * 2 + t.val % 2) % 5) + y 2 < 10240 := by
  have h0 : t.val < 6 := t.isLt
  have h1 : (y 2 : ℕ) < 512 := (y 2).isLt
  omega

theorem wblk (c : Dev nD) (t : Fin cfg0.N) (y : S1x1024x512.Idx) : iblk m c 1 t y
    = m ((c : Thread nD τ).loc main_arg1) (ix2 (y 1) ⟨2560 * (((3 * (t.val / 2) + 1) * 2 + t.val % 2) / 5) + 512 * (((3 * (t.val / 2) + 1) * 2 + t.val % 2) % 5) + y 2, wblk_lt t y⟩) := by
  blk_simp [iblk]
  refine weight m c _ _ ?_ ?_
  · show (y 1 : ℕ) = _
    blk_simp [idx t]
  · show 2560 * (((3 * (t.val / 2) + 1) * 2 + t.val % 2) / 5) + 512 * (((3 * (t.val / 2) + 1) * 2 + t.val % 2) % 5) + y 2 = _
    blk_simp [idx t]; omega

/-- The reference's result over the arrays that the kernel was given. -/
abbrev REF (x0 : FVec Ideal Cert.BIn1RefIdeal.S4096x1024 .f32) (x1 : FVec Ideal Cert.BIn1RefIdeal.S1024x10240 .f32) : FVec Ideal Cert.BIn1RefIdeal.S4096x3072 .bf16 :=
  val_main_v6 (F := Ideal) x0 x1

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF, val_main_v0, val_main_v1, val_main_v2, val_main_v3, val_main_v4, val_main_v5, val_main_v6]
  simp only [wblk]
  blk_point [iblk, V, idx t]

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.BIn1Ideal.Whole

end
-- ==== Proof.BIn1Claim.lean ====
module

public import proofs.«01_k».proof.Defs
public import proofs.«01_k».proof.Proof.Gen.BIn1.Frame
public import proofs.«01_k».proof.Proof.Gen.BIn1RefIdeal
public import proofs.«01_k».proof.Proof.Gen.BIn1RefIdeal.Run
public import Idealize.ShloMosaic.Lib.Claim
public import proofs.«01_k».proof.Proof.BIn1Value

@[expose] public section

noncomputable section

namespace Cert.BIn1Claim

open Idealize.ShloMosaic Idealize.SL.Sem

theorem frame : Cert.quiescent_BIn1 (hBIn1 := Cert.BIn1.Gen.facts) :=
  fun m g _ => Cert.BIn1.Gen.frame m g

theorem frame_ideal : Cert.quiescent_BIn1Ideal (hBIn1Ideal := Cert.BIn1Ideal.Gen.facts) :=
  fun m g _ => Cert.BIn1Ideal.Gen.frame m g

theorem frame_ref : Cert.quiescent_BIn1RefIdeal (hBIn1RefIdeal := Cert.BIn1RefIdeal.Gen.facts) := fun m g _ =>
  (θ_run Cert.BIn1RefIdeal.defs _ _).mono (fun r h => ⟨fun c => (h c).2, Idealize.ShloMosaic.sem_eq_zero_of_no_sems (by decide) r.2⟩)
    (Cert.BIn1RefIdeal.Value.run (F := Ideal) m g)

theorem algebraic : Cert.algebraic_BIn1Ideal_BIn1RefIdeal (hBIn1Ideal := Cert.BIn1Ideal.Gen.facts)
    (hBIn1RefIdeal := Cert.BIn1RefIdeal.Gen.facts) := by
  pair_intro
  · run_from Cert.BIn1Ideal.Gen.run_main m g
  · run_from Cert.BIn1RefIdeal.Value.run m' g'
    exact (Cert.BIn1Ideal.Whole.final m c).symm

end Cert.BIn1Claim

end
-- ==== Proof.BInDw2Value.lean ====
module

public import proofs.«01_k».proof.Proof.Gen.BInDw2Ideal.Frame
public import proofs.«01_k».proof.Proof.Gen.BInDw2RefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.BInDw2Ideal.Whole

open Cert.BInDw2Ideal Cert.BInDw2Ideal.Gen Cert.BInDw2RefIdeal.Read

variable (m : (ℓ : Loc nD τ sig) → Buf (Elt Ideal) ℓ)

/-- The reference's result over the arrays that the kernel was given. -/
abbrev REF (x0 : FVec Ideal Cert.BInDw2RefIdeal.S4096x1024 .f32) (x2 : FVec Ideal Cert.BInDw2RefIdeal.S4096x3072 .f32) : FVec Ideal Cert.BInDw2RefIdeal.S4x1024x2560 .f32 :=
  val_main_v21 (F := Ideal) x0 x2

/-- The four shards of the gradient are the gradient's columns, 2560 to a shard. -/
theorem stacked (h : FVec Ideal Cert.BInDw2RefIdeal.S4096x1024 .f32) (ct : FVec Ideal Cert.BInDw2RefIdeal.S4096x3072 .f32) (i : Cert.BInDw2RefIdeal.S4x1024x2560.Idx) (j : Cert.BInDw2RefIdeal.S1024x10240.Idx) (h0 : (j 0 : ℕ) = i 1)
    (h1 : (j 1 : ℕ) = 2560 * i 0 + i 2) : REF h ct i = val_main_v12 (F := Ideal) h ct j := by
  have hi : (i 0 : ℕ) < 4 := (i 0).isLt
  pointwise [REF, val_main_v21, val_main_v20, val_main_v19, val_main_v18, val_main_v17, val_main_v16, val_main_v15, val_main_v14, val_main_v13]
  split_ifs <;> blk_ext

/-- A column of the group holds the product's column. -/
theorem padded_on (h : FVec Ideal Cert.BInDw2RefIdeal.S4096x1024 .f32) (ct : FVec Ideal Cert.BInDw2RefIdeal.S4096x3072 .f32) (j : Cert.BInDw2RefIdeal.S1024x10240.Idx) (q : Cert.BInDw2RefIdeal.S1024x3072.Idx) (h0 : (q 0 : ℕ) = j 0)
    (hc : (j 1 : ℕ) / 1024 % 3 = 2) (h1 : (q 1 : ℕ) = if (j 1 : ℕ) < 9216 then (j 1 : ℕ) / 3072 * 1024 + (j 1 : ℕ) % 1024 else (j 1 : ℕ) - 9216 + 3072) :
    val_main_v12 (F := Ideal) h ct j = val_main_v7 (F := Ideal) h ct q := by
  have hj : (j 1 : ℕ) < 10240 := (j 1).isLt
  pointwise [val_main_v12, val_main_cst_0, val_main_v11, val_main_v10, val_main_cst, val_main_v9, val_main_v8]
  split_ifs at h1 ⊢ <;> first
    | (exfalso; omega)
    | (try simp only [zero_add, add_zero]
       blk_ext)

/-- A column of another group is zero. -/
theorem padded_off (h : FVec Ideal Cert.BInDw2RefIdeal.S4096x1024 .f32) (ct : FVec Ideal Cert.BInDw2RefIdeal.S4096x3072 .f32) (j : Cert.BInDw2RefIdeal.S1024x10240.Idx) (hc : ¬ (j 1 : ℕ) / 1024 % 3 = 2) :
    val_main_v12 (F := Ideal) h ct j = 0 := by
  have hj : (j 1 : ℕ) < 10240 := (j 1).isLt
  pointwise [val_main_v12, val_main_cst_0, val_main_v11, val_main_v10, val_main_cst, val_main_v9, val_main_v8]
  split_ifs <;> first
    | (exfalso; omega)
    | simp only [zero_add, add_zero]

theorem idx : ∀ t : Fin cfg0.N, win0_0.index t = ![0, 0] ∧ win0_1.index t = ![0, t.val]
    ∧ win0_2.index t = ![((3 * (t.val / 2) + 2) * 2 + t.val % 2) / 5, 0, ((3 * (t.val / 2) + 2) * 2 + t.val % 2) % 5] :=
  (by decide +kernel : ∀ t : Fin grid0.N, _)

theorem product (c : Dev nD) (t : Fin cfg0.N) (y) (q : Cert.BInDw2RefIdeal.S1024x3072.Idx) (h0 : (q 0 : ℕ) = y 1)
    (h1 : (q 1 : ℕ) = 512 * t.val + y 2) : k0_pay1 (iblk m c 0 t) (iblk m c 1 t) y
    = val_main_v7 (F := Ideal) (m ((c : Thread nD τ).loc main_arg0)) (m ((c : Thread nD τ).loc main_arg2)) q := by
  pointwise [k0_pay1, val_main_v7, val_main_v6]
  refine Finset.sum_congr rfl fun k _ => (mul_comm _ _).trans ?_
  blk_point [iblk, V, idx t]

theorem point (c : Dev nD) (t : Fin cfg0.N) (y : S1x1024x512.Idx) : k0_pay1 (iblk m c 0 t) (iblk m c 1 t) y
    = REF (m ((c : Thread nD τ).loc main_arg0)) (m ((c : Thread nD τ).loc main_arg2)) (((cfg0.win 2).blk t).view.emb y) := by
  have ht : t.val < 6 := t.isLt
  have hy1 : (y 1 : ℕ) < 1024 := (y 1).isLt
  have hy2 : (y 2 : ℕ) < 512 := (y 2).isLt
  have hy0 : (y 0 : ℕ) < 1 := (y 0).isLt
  obtain_idx q : Cert.BInDw2RefIdeal.S1024x3072 := [(y 1 : ℕ), 512 * t.val + (y 2 : ℕ)] with hq
  obtain_idx j : Cert.BInDw2RefIdeal.S1024x10240 := [(y 1 : ℕ), 512 * ((3 * (t.val / 2) + 2) * 2 + t.val % 2) + (y 2 : ℕ)] with hj
  rw [product m c t y q hq0 hq1, stacked _ _ _ j ?_ ?_, padded_on _ _ j q (hq0.trans hj0.symm) ?_ ?_]
  · omega
  · split_ifs <;> omega
  · rw [hj0]; blk_simp [idx t]
  · rw [hj1]; blk_simp [idx t]; omega

theorem some_blocks (c : Dev nD) : (dats m 0 c).arrAt 2 (cfgs 0).N
    = fun i => if (2560 * (i 0 : ℕ) + (i 2 : ℕ)) / 1024 % 3 = 2 then REF (m ((c : Thread nD τ).loc main_arg0)) (m ((c : Thread nD τ).loc main_arg2)) i else V m c main_v3 i := by
  refine (dats m 0 c).arrAt_eq_of_coversWhere 2 _ (fun β => (5 * β 0 + β 2) / 2 % 3 = 2) (by decide +kernel) (fun t hf y => ?_)
    (fun j => by blk_simp [Pipeline.Window.cell_apply]; omega)
  blk_simp
  rw [after0_2]; unfold Gen.outsAt0; frame_out
  exact point m c t y

theorem final (c : Dev nD) : (dats m 0 c).arrAt 2 (cfgs 0).N = REF (m ((c : Thread nD τ).loc main_arg0)) (m ((c : Thread nD τ).loc main_arg2)) := by
  rw [some_blocks m c]
  funext i
  split
  · rfl
  · rename_i h
    have hi0 : (i 0 : ℕ) < 4 := (i 0).isLt
    have hi1 : (i 1 : ℕ) < 1024 := (i 1).isLt
    have hi2 : (i 2 : ℕ) < 2560 := (i 2).isLt
    obtain_idx j : Cert.BInDw2RefIdeal.S1024x10240 := [(i 1 : ℕ), 2560 * (i 0 : ℕ) + (i 2 : ℕ)] with hj
    rw [stacked _ _ i j hj0 hj1, padded_off _ _ j (by rw [hj1]; exact h)]
    entry_read
    pointwise

end Cert.BInDw2Ideal.Whole

end
-- ==== Proof.BInDw2Claim.lean ====
module

public import proofs.«01_k».proof.Defs
public import proofs.«01_k».proof.Proof.Gen.BInDw2.Frame
public import proofs.«01_k».proof.Proof.Gen.BInDw2RefIdeal
public import proofs.«01_k».proof.Proof.Gen.BInDw2RefIdeal.Run
public import Idealize.ShloMosaic.Lib.Claim
public import proofs.«01_k».proof.Proof.BInDw2Value

@[expose] public section

noncomputable section

namespace Cert.BInDw2Claim

open Idealize.ShloMosaic Idealize.SL.Sem

theorem frame : Cert.quiescent_BInDw2 (hBInDw2 := Cert.BInDw2.Gen.facts) :=
  fun m g _ => Cert.BInDw2.Gen.frame m g

theorem frame_ideal : Cert.quiescent_BInDw2Ideal (hBInDw2Ideal := Cert.BInDw2Ideal.Gen.facts) :=
  fun m g _ => Cert.BInDw2Ideal.Gen.frame m g

theorem frame_ref : Cert.quiescent_BInDw2RefIdeal (hBInDw2RefIdeal := Cert.BInDw2RefIdeal.Gen.facts) := fun m g _ =>
  (θ_run Cert.BInDw2RefIdeal.defs _ _).mono (fun r h => ⟨fun c => (h c).2, Idealize.ShloMosaic.sem_eq_zero_of_no_sems (by decide) r.2⟩)
    (Cert.BInDw2RefIdeal.Value.run (F := Ideal) m g)

theorem algebraic : Cert.algebraic_BInDw2Ideal_BInDw2RefIdeal (hBInDw2Ideal := Cert.BInDw2Ideal.Gen.facts)
    (hBInDw2RefIdeal := Cert.BInDw2RefIdeal.Gen.facts) := by
  pair_intro
  · run_from Cert.BInDw2Ideal.Gen.run_main m g
  · run_from Cert.BInDw2RefIdeal.Value.run m' g'
    rw [Cert.BInDw2RefIdeal.Read.val_main_v21_eq]
    try rw [(hagree c).1]
    try rw [(hagree c).2.2]
    exact (Cert.BInDw2Ideal.Whole.final m c).symm

end Cert.BInDw2Claim

end
-- ==== Proof.BInDx2Value.lean ====
module

public import proofs.«01_k».proof.Proof.Gen.BInDx2Ideal.Frame
public import proofs.«01_k».proof.Proof.Gen.BInDx2RefIdeal.Read
public import Idealize.ShloMosaic.Lib.Pipeline.ValueKit
public import Idealize.ShloMosaic.Lib.Pipeline.ReadBack
public import proofs.«01_k».proof.Proof.SumTwo

@[expose] public section

set_option maxRecDepth 16384

noncomputable section

open Idealize.ShloMosaic Idealize.ShloMosaic.TcCoe Idealize.SL.Sem
open Idealize.ShloMosaic.Pipeline (Dat)

namespace Cert.BInDx2Ideal.Whole

open Cert.BInDx2Ideal Cert.BInDx2Ideal.Gen Cert.BInDx2RefIdeal.Read

variable (m : (ℓ : Loc nD τ sig) → Buf (Elt Ideal) ℓ)

/-- The shards of the weight, read at an index: shard `i 0` holds the columns from `2560 * i 0` on. -/
theorem weight (c : Dev nD) (i : S4x1024x2560.Idx) (j : S1024x10240.Idx) (h0 : (j 0 : ℕ) = i 1)
    (h1 : (j 1 : ℕ) = i 0 * 2560 + i 2) : V m c main_v3 i = m ((c : Thread nD τ).loc main_arg1) j := by
  blk_simp [V]; entry_read; pointwise
  blk_ext

theorem idx : ∀ t : Fin cfg0.N, win0_0.index t = ![t.val / 3, t.val % 3] ∧ win0_1.index t = ![((3 * (t.val % 3) + 2) * 2 + 0) / 5, 0, ((3 * (t.val % 3) + 2) * 2 + 0) % 5]
    ∧ win0_2.index t = ![((3 * (t.val % 3) + 2) * 2 + 1) / 5, 0, ((3 * (t.val % 3) + 2) * 2 + 1) % 5] ∧ win0_3.index t = ![t.val / 3, 0] :=
  (by decide +kernel : ∀ t : Fin grid0.N, _)

/-- What the block of the weight at a grid point holds: its row and its column of the whole weight. -/
theorem wblk0_lt (t : Fin cfg0.N) (y : S1x1024x512.Idx) : 2560 * (((3 * (t.val % 3) + 2) * 2 + 0) / 5) + 512 * (((3 * (t.val % 3) + 2) * 2 + 0) % 5) + y 2 < 10240 := by
  have h0 : t.val < 6 := t.isLt
  have h1 : (y 2 : ℕ) < 512 := (y 2).isLt
  omega

theorem wblk0 (c : Dev nD) (t : Fin cfg0.N) (y : S1x1024x512.Idx) : iblk m c 1 t y
    = m ((c : Thread nD τ).loc main_arg1) (ix2 (y 1) ⟨2560 * (((3 * (t.val % 3) + 2) * 2 + 0) / 5) + 512 * (((3 * (t.val % 3) + 2) * 2 + 0) % 5) + y 2, wblk0_lt t y⟩) := by
  blk_simp [iblk]
  refine weight m c _ _ ?_ ?_
  · show (y 1 : ℕ) = _
    blk_simp [idx t]
  · show 2560 * (((3 * (t.val % 3) + 2) * 2 + 0) / 5) + 512 * (((3 * (t.val % 3) + 2) * 2 + 0) % 5) + y 2 = _
    blk_simp [idx t]; omega

/-- What the block of the weight at a grid point holds: its row and its column of the whole weight. -/
theorem wblk1_lt (t : Fin cfg0.N) (y : S1x1024x512.Idx) : 2560 * (((3 * (t.val % 3) + 2) * 2 + 1) / 5) + 512 * (((3 * (t.val % 3) + 2) * 2 + 1) % 5) + y 2 < 10240 := by
  have h0 : t.val < 6 := t.isLt
  have h1 : (y 2 : ℕ) < 512 := (y 2).isLt
  omega

theorem wblk1 (c : Dev nD) (t : Fin cfg0.N) (y : S1x1024x512.Idx) : iblk m c 2 t y
    = m ((c : Thread nD τ).loc main_arg1) (ix2 (y 1) ⟨2560 * (((3 * (t.val % 3) + 2) * 2 + 1) / 5) + 512 * (((3 * (t.val % 3) + 2) * 2 + 1) % 5) + y 2, wblk1_lt t y⟩) := by
  blk_simp [iblk]
  refine weight m c _ _ ?_ ?_
  · show (y 1 : ℕ) = _
    blk_simp [idx t]
  · show 2560 * (((3 * (t.val % 3) + 2) * 2 + 1) / 5) + 512 * (((3 * (t.val % 3) + 2) * 2 + 1) % 5) + y 2 = _
    blk_simp [idx t]; omega

/-- The reference's result over the arrays that the kernel was given. -/
abbrev REF (x1 : FVec Ideal Cert.BInDx2RefIdeal.S1024x10240 .f32) (x2 : FVec Ideal Cert.BInDx2RefIdeal.S4096x3072 .f32) : FVec Ideal Cert.BInDx2RefIdeal.S4096x1024 .bf16 :=
  val_main_v7 (F := Ideal) x1 x2

/-- What the body holds after a point: the output block at a run's last point, the scratch before it. -/
abbrev held (c : Dev nD) (n : ℕ) (h : n < cfg0.N) (y : S2048x1024.Idx) : EReal :=
  if n % 3 = 2 then ((outsAt0 m c n h).1 y : EReal) else ((outsAt0 m c n h).2 y : EReal)

theorem held_first (c : Dev nD) (t : Fin cfg0.N) (h : t.val % 3 = 0) (y) :
    held m c t.val t.isLt y = 0 + k0_pay1 (View.ld (iblk m c 0 t) (Rect.unit ![0, 0] ![2048, 512] inb_S2048x1024_S2048x512_0_0)) (iblk m c 1 t) (View.ld (iblk m c 0 t) (Rect.unit ![0, 512] ![2048, 512] inb_S2048x1024_S2048x512_0_512)) (iblk m c 2 t) y := by
  unfold held
  rw [if_neg (by omega), outsAt0_A m c t h (by omega) (by omega), zero_add]; frame_out
  pointwise [k0_pay2]
  try rfl

theorem held_next (c : Dev nD) (t : Fin cfg0.N) (h : ¬ t.val % 3 = 0) (y) : held m c t.val t.isLt y
    = held m c (t.val - 1) (Nat.lt_of_le_of_lt (Nat.sub_le _ _) t.isLt) y + k0_pay1 (View.ld (iblk m c 0 t) (Rect.unit ![0, 0] ![2048, 512] inb_S2048x1024_S2048x512_0_0)) (iblk m c 1 t) (View.ld (iblk m c 0 t) (Rect.unit ![0, 512] ![2048, 512] inb_S2048x1024_S2048x512_0_512)) (iblk m c 2 t) y := by
  unfold held
  rw [if_neg (show ¬ (t.val - 1) % 3 = 2 by omega)]
  by_cases hl : t.val % 3 = 2
  · rw [if_pos hl, outsAt0_C m c t h (by omega) hl]; frame_out
    pointwise [k0_pay4]
    rw [read_unread_whole]
    try rfl
  · rw [if_neg hl, outsAt0_B m c t h (by omega) hl]; frame_out
    pointwise [k0_pay3]
    rw [read_unread_whole]
    try rfl

theorem sums (c : Dev nD) (t : Fin cfg0.N) (h : t.val % 3 = 2) (y) :
    ((outsAt0 m c t.val t.isLt).1 y : EReal) = ∑ s : Fin 3, k0_pay1 (View.ld (iblk m c 0 ⟨3 * (t.val / 3) + s.val, Pipeline.run_point_lt_of_flush t h s⟩) (Rect.unit ![0, 0] ![2048, 512] inb_S2048x1024_S2048x512_0_0)) (iblk m c 1 ⟨3 * (t.val / 3) + s.val, Pipeline.run_point_lt_of_flush t h s⟩) (View.ld (iblk m c 0 ⟨3 * (t.val / 3) + s.val, Pipeline.run_point_lt_of_flush t h s⟩) (Rect.unit ![0, 512] ![2048, 512] inb_S2048x1024_S2048x512_0_512)) (iblk m c 2 ⟨3 * (t.val / 3) + s.val, Pipeline.run_point_lt_of_flush t h s⟩) y := by
  have e := Pipeline.eq_sum_fin_of_reset_step_apply_of_flush (held m c) 3 (fun _ => 0) _ (held_first m c)
    (held_next m c) t h y
  unfold held at e
  rw [if_pos h, zero_add] at e
  exact e

theorem point (c : Dev nD) (t : Fin cfg0.N) (h : t.val % 3 = 2) (y) : ((outsAt0 m c t.val t.isLt).1 y : EReal)
    = REF (m ((c : Thread nD τ).loc main_arg1)) (m ((c : Thread nD τ).loc main_arg2)) (((cfg0.win 3).blk t).view.emb y) := by
  rw [sums m c t h]
  pointwise [k0_pay1, REF, val_main_v0, val_main_v1, val_main_v2, val_main_v3, val_main_v4, val_main_v5, val_main_v6, val_main_v7]
  simp only [wblk0, wblk1]
  refine Cert.SumTwo.sum_two (fun s k hl => ?_) (fun s k hl => ?_) rfl
  · blk_point [iblk, V, idx t, idx ⟨_, Pipeline.run_point_lt_of_flush t h s⟩]
  · blk_point [iblk, V, idx t, idx ⟨_, Pipeline.run_point_lt_of_flush t h s⟩]

theorem final (c : Dev nD) : (dats m 0 c).arrAt 3 (cfgs 0).N = REF (m ((c : Thread nD τ).loc main_arg1)) (m ((c : Thread nD τ).loc main_arg2)) := by
  refine (dats m 0 c).arrAt_eq_of_covers 3 _ (by decide +kernel) fun t hf y => ?_
  blk_simp
  rw [after0_3]
  exact point m c t ((flush0_3 t).mp hf) y

end Cert.BInDx2Ideal.Whole

end
-- ==== Proof.BInDx2Claim.lean ====
module

public import proofs.«01_k».proof.Defs
public import proofs.«01_k».proof.Proof.Gen.BInDx2.Frame
public import proofs.«01_k».proof.Proof.Gen.BInDx2RefIdeal
public import proofs.«01_k».proof.Proof.Gen.BInDx2RefIdeal.Run
public import Idealize.ShloMosaic.Lib.Claim
public import proofs.«01_k».proof.Proof.BInDx2Value

@[expose] public section

noncomputable section

namespace Cert.BInDx2Claim

open Idealize.ShloMosaic Idealize.SL.Sem

theorem frame : Cert.quiescent_BInDx2 (hBInDx2 := Cert.BInDx2.Gen.facts) :=
  fun m g _ => Cert.BInDx2.Gen.frame m g

theorem frame_ideal : Cert.quiescent_BInDx2Ideal (hBInDx2Ideal := Cert.BInDx2Ideal.Gen.facts) :=
  fun m g _ => Cert.BInDx2Ideal.Gen.frame m g

theorem frame_ref : Cert.quiescent_BInDx2RefIdeal (hBInDx2RefIdeal := Cert.BInDx2RefIdeal.Gen.facts) := fun m g _ =>
  (θ_run Cert.BInDx2RefIdeal.defs _ _).mono (fun r h => ⟨fun c => (h c).2, Idealize.ShloMosaic.sem_eq_zero_of_no_sems (by decide) r.2⟩)
    (Cert.BInDx2RefIdeal.Value.run (F := Ideal) m g)

theorem algebraic : Cert.algebraic_BInDx2Ideal_BInDx2RefIdeal (hBInDx2Ideal := Cert.BInDx2Ideal.Gen.facts)
    (hBInDx2RefIdeal := Cert.BInDx2RefIdeal.Gen.facts) := by
  pair_intro
  · run_from Cert.BInDx2Ideal.Gen.run_main m g
  · run_from Cert.BInDx2RefIdeal.Value.run m' g'
    exact (Cert.BInDx2Ideal.Whole.final m c).symm

end Cert.BInDx2Claim

end
-- ==== Proof.BIn2Value.lean ====
module

public import proofs.«01_k».proof.Proof.Gen.BIn2Ideal.Frame
public import proofs.«01_k».proof.Proof.Gen.BIn2RefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.BIn2Ideal.Whole

open Cert.BIn2Ideal Cert.BIn2Ideal.Gen Cert.BIn2RefIdeal.Read

variable (m : (ℓ : Loc nD τ sig) → Buf (Elt Ideal) ℓ)

/-- The shards of the weight, read at an index: shard `i 0` holds the columns from `2560 * i 0` on. -/
theorem weight (c : Dev nD) (i : S4x1024x2560.Idx) (j : S1024x10240.Idx) (h0 : (j 0 : ℕ) = i 1)
    (h1 : (j 1 : ℕ) = i 0 * 2560 + i 2) : V m c main_v3 i = m ((c : Thread nD τ).loc main_arg1) j := by
  blk_simp [V]; entry_read; pointwise
  blk_ext

theorem idx : ∀ t : Fin cfg0.N, win0_0.index t = ![0, 0] ∧ win0_1.index t = ![((3 * (t.val / 2) + 2) * 2 + t.val % 2) / 5, 0, ((3 * (t.val / 2) + 2) * 2 + t.val % 2) % 5] ∧ win0_2.index t = ![0, t.val] :=
  (by decide +kernel : ∀ t : Fin grid0.N, _)

/-- What the block of the weight at a grid point holds: its row and its column of the whole weight. -/
theorem wblk_lt (t : Fin cfg0.N) (y : S1x1024x512.Idx) : 2560 * (((3 * (t.val / 2) + 2) * 2 + t.val % 2) / 5) + 512 * (((3 * (t.val / 2) + 2) * 2 + t.val % 2) % 5) + y 2 < 10240 := by
  have h0 : t.val < 6 := t.isLt
  have h1 : (y 2 : ℕ) < 512 := (y 2).isLt
  omega

theorem wblk (c : Dev nD) (t : Fin cfg0.N) (y : S1x1024x512.Idx) : iblk m c 1 t y
    = m ((c : Thread nD τ).loc main_arg1) (ix2 (y 1) ⟨2560 * (((3 * (t.val / 2) + 2) * 2 + t.val % 2) / 5) + 512 * (((3 * (t.val / 2) + 2) * 2 + t.val % 2) % 5) + y 2, wblk_lt t y⟩) := by
  blk_simp [iblk]
  refine weight m c _ _ ?_ ?_
  · show (y 1 : ℕ) = _
    blk_simp [idx t]
  · show 2560 * (((3 * (t.val / 2) + 2) * 2 + t.val % 2) / 5) + 512 * (((3 * (t.val / 2) + 2) * 2 + t.val % 2) % 5) + y 2 = _
    blk_simp [idx t]; omega

/-- The reference's result over the arrays that the kernel was given. -/
abbrev REF (x0 : FVec Ideal Cert.BIn2RefIdeal.S4096x1024 .f32) (x1 : FVec Ideal Cert.BIn2RefIdeal.S1024x10240 .f32) : FVec Ideal Cert.BIn2RefIdeal.S4096x3072 .bf16 :=
  val_main_v6 (F := Ideal) x0 x1

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF, val_main_v0, val_main_v1, val_main_v2, val_main_v3, val_main_v4, val_main_v5, val_main_v6]
  simp only [wblk]
  blk_point [iblk, V, idx t]

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.BIn2Ideal.Whole

end
-- ==== Proof.BIn2Claim.lean ====
module

public import proofs.«01_k».proof.Defs
public import proofs.«01_k».proof.Proof.Gen.BIn2.Frame
public import proofs.«01_k».proof.Proof.Gen.BIn2RefIdeal
public import proofs.«01_k».proof.Proof.Gen.BIn2RefIdeal.Run
public import Idealize.ShloMosaic.Lib.Claim
public import proofs.«01_k».proof.Proof.BIn2Value

@[expose] public section

noncomputable section

namespace Cert.BIn2Claim

open Idealize.ShloMosaic Idealize.SL.Sem

theorem frame : Cert.quiescent_BIn2 (hBIn2 := Cert.BIn2.Gen.facts) :=
  fun m g _ => Cert.BIn2.Gen.frame m g

theorem frame_ideal : Cert.quiescent_BIn2Ideal (hBIn2Ideal := Cert.BIn2Ideal.Gen.facts) :=
  fun m g _ => Cert.BIn2Ideal.Gen.frame m g

theorem frame_ref : Cert.quiescent_BIn2RefIdeal (hBIn2RefIdeal := Cert.BIn2RefIdeal.Gen.facts) := fun m g _ =>
  (θ_run Cert.BIn2RefIdeal.defs _ _).mono (fun r h => ⟨fun c => (h c).2, Idealize.ShloMosaic.sem_eq_zero_of_no_sems (by decide) r.2⟩)
    (Cert.BIn2RefIdeal.Value.run (F := Ideal) m g)

theorem algebraic : Cert.algebraic_BIn2Ideal_BIn2RefIdeal (hBIn2Ideal := Cert.BIn2Ideal.Gen.facts)
    (hBIn2RefIdeal := Cert.BIn2RefIdeal.Gen.facts) := by
  pair_intro
  · run_from Cert.BIn2Ideal.Gen.run_main m g
  · run_from Cert.BIn2RefIdeal.Value.run m' g'
    exact (Cert.BIn2Ideal.Whole.final m c).symm

end Cert.BIn2Claim

end
-- ==== Proof.AInValue.lean ====
module

public import proofs.«01_k».proof.Proof.Gen.AInIdeal.Frame
public import proofs.«01_k».proof.Proof.Gen.AInRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AInIdeal.Whole

open Cert.AInIdeal Cert.AInIdeal.Gen Cert.AInRefIdeal.Read

variable (m : (ℓ : Loc nD τ sig) → Buf (Elt Ideal) ℓ)

theorem idx : ∀ t : Fin cfg0.N, win0_0.index t = ![t.val / 6, 0] ∧ win0_1.index t = ![0, t.val % 6] ∧ win0_2.index t = ![t.val / 6, t.val % 6] :=
  (by decide +kernel : ∀ t : Fin grid0.N, _)

/-- The reference's result over the arrays that the kernel was given. -/
abbrev REF (x0 : FVec Ideal Cert.AInRefIdeal.S4096x1024 .f32) (x1 : FVec Ideal Cert.AInRefIdeal.S1024x6144 .f32) : FVec Ideal Cert.AInRefIdeal.S4096x6144 .f32 :=
  val_main_v0 (F := Ideal) x0 x1

theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF, val_main_v0]
  blk_point [iblk, V, idx t]

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.AInIdeal.Whole

end
-- ==== Proof.AInClaim.lean ====
module

public import proofs.«01_k».proof.Defs
public import proofs.«01_k».proof.Proof.Gen.AIn.Frame
public import proofs.«01_k».proof.Proof.Gen.AInRefIdeal
public import proofs.«01_k».proof.Proof.Gen.AInRefIdeal.Run
public import Idealize.ShloMosaic.Lib.Claim
public import proofs.«01_k».proof.Proof.AInValue

@[expose] public section

noncomputable section

namespace Cert.AInClaim

open Idealize.ShloMosaic Idealize.SL.Sem

theorem frame : Cert.quiescent_AIn (hAIn := Cert.AIn.Gen.facts) :=
  fun m g _ => Cert.AIn.Gen.frame m g

theorem frame_ideal : Cert.quiescent_AInIdeal (hAInIdeal := Cert.AInIdeal.Gen.facts) :=
  fun m g _ => Cert.AInIdeal.Gen.frame m g

theorem frame_ref : Cert.quiescent_AInRefIdeal (hAInRefIdeal := Cert.AInRefIdeal.Gen.facts) := fun m g _ =>
  (θ_run Cert.AInRefIdeal.defs _ _).mono (fun r h => ⟨fun c => (h c).2, Idealize.ShloMosaic.sem_eq_zero_of_no_sems (by decide) r.2⟩)
    (Cert.AInRefIdeal.Value.run (F := Ideal) m g)

theorem algebraic : Cert.algebraic_AInIdeal_AInRefIdeal (hAInIdeal := Cert.AInIdeal.Gen.facts)
    (hAInRefIdeal := Cert.AInRefIdeal.Gen.facts) := by
  pair_intro
  · run_from Cert.AInIdeal.Gen.run_main m g
  · run_from Cert.AInRefIdeal.Value.run m' g'
    exact (Cert.AInIdeal.Whole.final m c).symm

end Cert.AInClaim

end
-- ==== Proof.AOutValue.lean ====
module

public import proofs.«01_k».proof.Proof.Gen.AOutIdeal.Frame
public import proofs.«01_k».proof.Proof.Gen.AOutRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AOutIdeal.Whole

open Cert.AOutIdeal Cert.AOutIdeal.Gen Cert.AOutRefIdeal.Read

variable (m : (ℓ : Loc nD τ sig) → Buf (Elt Ideal) ℓ)

/-- The reference's result over the arrays that the kernel was given. -/
abbrev REF4 (x0 : FVec Ideal Cert.AOutRefIdeal.S4096x2048 .f32) (x1 : FVec Ideal Cert.AOutRefIdeal.S2048x1024 .f32) (x2 : FVec Ideal Cert.AOutRefIdeal.S4096x1024 .f32) : FVec Ideal Cert.AOutRefIdeal.S4096x1024 .f32 :=
  val_main_v1 (F := Ideal) x0 x1 x2

/-- The reference's result over the arrays that the kernel was given. -/
abbrev REF5 (x0 : FVec Ideal Cert.AOutRefIdeal.S4096x2048 .f32) (x1 : FVec Ideal Cert.AOutRefIdeal.S2048x1024 .f32) (x2 : FVec Ideal Cert.AOutRefIdeal.S4096x1024 .f32) (x3 : FVec Ideal Cert.AOutRefIdeal.S1x1024 .f32) : FVec Ideal Cert.AOutRefIdeal.S4096x1024 .bf16 :=
  val_main_v14 (F := Ideal) x0 x1 x2 x3

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The residual stream of the block, entry by entry. -/
theorem stream (c : Dev nD) (t : Fin cfg0.N) (y : S512x1024.Idx) (i : Cert.AOutRefIdeal.S4096x1024.Idx)
    (h0 : (i 0 : ℕ) = 512 * t.val + y 0) (h1 : (i 1 : ℕ) = y 1) :
    k0_pay1 (iblk m c 0 t) (iblk m c 1 t) (iblk m c 2 t) y = REF4 (m ((c : Thread nD τ).loc main_arg0)) (m ((c : Thread nD τ).loc main_arg1)) (m ((c : Thread nD τ).loc main_arg2)) i := by
  pointwise [k0_pay1, REF4, val_main_v1, val_main_v0]
  refine (add_comm _ _).trans (congrArg₂ (· + ·) ?_ (Finset.sum_congr rfl fun k _ => ?_))
  · blk_point [iblk, V, idx t]
  · blk_point [iblk, V, idx t]

theorem normed (c : Dev nD) (t : Fin cfg0.N) (y : S512x1024.Idx) (i : Cert.AOutRefIdeal.S4096x1024.Idx)
    (h0 : (i 0 : ℕ) = 512 * t.val + y 0) (h1 : (i 1 : ℕ) = y 1) :
    k0_pay2 (iblk m c 0 t) (iblk m c 1 t) (iblk m c 2 t) (iblk m c 3 t) y = REF5 (m ((c : Thread nD τ).loc main_arg0)) (m ((c : Thread nD τ).loc main_arg1)) (m ((c : Thread nD τ).loc main_arg2)) (m ((c : Thread nD τ).loc main_arg3)) i := by
  pointwise [k0_pay2, REF5, val_main_v2, val_main_cst, val_main_v3, val_main_v4, val_main_cst_0, val_main_v5, val_main_v6, val_main_cst_1, val_main_v7, val_main_v8, val_main_v9, val_main_v10, val_main_v11, val_main_v12, val_main_v13, val_main_v14]
  have e := fun k => stream m c t (ix2 (y 0) k) (ix2 (i 0) k) h0 rfl
  refine congrArg₂ (· * ·) (congrArg₂ (· * ·) (stream m c t y i h0 h1) (congrArg (fun s => Ideal.rsqrt (Ideal.div s _ + _))
    (Finset.sum_congr rfl fun k _ => congrArg₂ (· * ·) (e k) (e k)))) ?_
  blk_point [iblk, V, idx t]

theorem point4 (c : Dev nD) (t : Fin cfg0.N) (y) : k0_pay1 (iblk m c 0 t) (iblk m c 1 t) (iblk m c 2 t) y
    = REF4 (m ((c : Thread nD τ).loc main_arg0)) (m ((c : Thread nD τ).loc main_arg1)) (m ((c : Thread nD τ).loc main_arg2)) (((cfg0.win 4).blk t).view.emb y) := by
  refine stream m c t y _ ?_ ?_ <;> (blk_simp [idx t]; try omega)

theorem final4 (c : Dev nD) : (dats m 0 c).arrAt 4 (cfgs 0).N = REF4 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point4 m c t y

theorem point5 (c : Dev nD) (t : Fin cfg0.N) (y) : k0_pay2 (iblk m c 0 t) (iblk m c 1 t) (iblk m c 2 t) (iblk m c 3 t) y
    = REF5 (m ((c : Thread nD τ).loc main_arg0)) (m ((c : Thread nD τ).loc main_arg1)) (m ((c : Thread nD τ).loc main_arg2)) (m ((c : Thread nD τ).loc main_arg3)) (((cfg0.win 5).blk t).view.emb y) := by
  refine normed m c t y _ ?_ ?_ <;> (blk_simp [idx t]; try omega)

theorem final5 (c : Dev nD) : (dats m 0 c).arrAt 5 (cfgs 0).N = REF5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point5 m c t y

end Cert.AOutIdeal.Whole

end
-- ==== Proof.AOutClaim.lean ====
module

public import proofs.«01_k».proof.Defs
public import proofs.«01_k».proof.Proof.Gen.AOut.Frame
public import proofs.«01_k».proof.Proof.Gen.AOutRefIdeal
public import proofs.«01_k».proof.Proof.Gen.AOutRefIdeal.Run
public import Idealize.ShloMosaic.Lib.Claim
public import proofs.«01_k».proof.Proof.AOutValue

@[expose] public section

noncomputable section

namespace Cert.AOutClaim

open Idealize.ShloMosaic Idealize.SL.Sem

theorem frame : Cert.quiescent_AOut (hAOut := Cert.AOut.Gen.facts) :=
  fun m g _ => Cert.AOut.Gen.frame m g

theorem frame_ideal : Cert.quiescent_AOutIdeal (hAOutIdeal := Cert.AOutIdeal.Gen.facts) :=
  fun m g _ => Cert.AOutIdeal.Gen.frame m g

theorem frame_ref : Cert.quiescent_AOutRefIdeal (hAOutRefIdeal := Cert.AOutRefIdeal.Gen.facts) := fun m g _ =>
  (θ_run Cert.AOutRefIdeal.defs _ _).mono (fun r h => ⟨fun c => (h c).2.2, Idealize.ShloMosaic.sem_eq_zero_of_no_sems (by decide) r.2⟩)
    (Cert.AOutRefIdeal.Value.run (F := Ideal) m g)

theorem algebraic : Cert.algebraic_AOutIdeal_AOutRefIdeal (hAOutIdeal := Cert.AOutIdeal.Gen.facts)
    (hAOutRefIdeal := Cert.AOutRefIdeal.Gen.facts) := by
  pair_intro
  · run_from Cert.AOutIdeal.Gen.run_main m g
  · run_from Cert.AOutRefIdeal.Value.run m' g'
    · exact (Cert.AOutIdeal.Whole.final4 m c).symm
    · exact (Cert.AOutIdeal.Whole.final5 m c).symm

end Cert.AOutClaim

end
-- ==== Proof.BOutLossValue.lean ====
module

public import proofs.«01_k».proof.Proof.Gen.BOutLossIdeal.Frame
public import proofs.«01_k».proof.Proof.Gen.BOutLossRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.BOutLossIdeal.Whole

open Cert.BOutLossIdeal Cert.BOutLossIdeal.Gen Cert.BOutLossRefIdeal.Read

variable (m : (ℓ : Loc nD τ sig) → Buf (Elt Ideal) ℓ)

/-- The reference's result over the arrays that the kernel was given. -/
abbrev REF4 (x0 : FVec Ideal Cert.BOutLossRefIdeal.S4096x1024 .f32) (x1 : FVec Ideal Cert.BOutLossRefIdeal.S1024x1024 .f32) (x2 : FVec Ideal Cert.BOutLossRefIdeal.S4096x1024 .f32) (x3 : FVec Ideal Cert.BOutLossRefIdeal.S4096x1024 .f32) : FVec Ideal Cert.BOutLossRefIdeal.S4096x1024 .f32 :=
  val_main_v21 (F := Ideal) x0 x1 x2 x3

/-- The reference's result over the arrays that the kernel was given. -/
abbrev REF5 (x0 : FVec Ideal Cert.BOutLossRefIdeal.S4096x1024 .f32) (x1 : FVec Ideal Cert.BOutLossRefIdeal.S1024x1024 .f32) (x2 : FVec Ideal Cert.BOutLossRefIdeal.S4096x1024 .f32) (x3 : FVec Ideal Cert.BOutLossRefIdeal.S4096x1024 .f32) : FVec Ideal Cert.BOutLossRefIdeal.S8x8x128 .f32 :=
  val_main_v23 (F := Ideal) x0 x1 x2 x3

/-- The reference's result over the arrays that the kernel was given. -/
abbrev DIFF (x0 : FVec Ideal Cert.BOutLossRefIdeal.S4096x1024 .f32) (x1 : FVec Ideal Cert.BOutLossRefIdeal.S1024x1024 .f32) (x2 : FVec Ideal Cert.BOutLossRefIdeal.S4096x1024 .f32) (x3 : FVec Ideal Cert.BOutLossRefIdeal.S4096x1024 .f32) : FVec Ideal Cert.BOutLossRefIdeal.S4096x1024 .f32 :=
  val_main_v2 (F := Ideal) x0 x1 x2 x3

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0, 0] :=
  (by decide +kernel : ∀ t : Fin grid0.N, _)

theorem two : Ideal.ofBits .f32 0x40000000#32 = ((2 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem width : Ideal.ofBits .f32 0x44800000#32 = ((1024 : ℝ) : EReal) := by
  simp [Ideal.ofBits, Ideal.ieee, -EReal.coe_mul]; norm_num
theorem inv_width : Ideal.ofBits .f32 0x3A800000#32 = ((1 / 1024 : ℝ) : EReal) := by
  simp [Ideal.ofBits, Ideal.ieee, -EReal.coe_mul]; norm_num
theorem inv_width_half : Ideal.ofBits .f32 0x3A000000#32 = ((1 / 2048 : ℝ) : EReal) := by
  simp [Ideal.ofBits, Ideal.ieee, -EReal.coe_mul]; norm_num
theorem div_width (x : EReal) : Ideal.div x ((1024 : ℝ) : EReal) = x * ((1 / 1024 : ℝ) : EReal) := by
  have h : ((1024 : ℝ) : EReal) ≠ 0 := by norm_num
  unfold Ideal.div
  rw [if_neg h, ← EReal.coe_inv]
  norm_num

theorem sq_nonneg' (x : EReal) : 0 ≤ x * x := by
  rcases le_total 0 x with h | h
  · exact mul_nonneg h h
  · have := mul_nonneg (EReal.neg_nonneg.2 h) (EReal.neg_nonneg.2 h)
    rwa [neg_mul, mul_neg, neg_neg] at this

theorem sum_mul {ι : Type} (s : Finset ι) (f : ι → EReal) (hf : ∀ i, 0 ≤ f i) (a : EReal) : (∑ i ∈ s, f i) * a = ∑ i ∈ s, f i * a := by
  classical
  induction s using Finset.induction_on with
  | empty => simp
  | insert i s hi ih => rw [Finset.sum_insert hi, Finset.sum_insert hi, ← ih, EReal.right_distrib_of_nonneg (hf i) (Finset.sum_nonneg fun i _ => hf i)]

/-- The difference to the target, entry by entry. -/
theorem diff (c : Dev nD) (t : Fin cfg0.N) (y : S512x1024.Idx) (i : Cert.BOutLossRefIdeal.S4096x1024.Idx)
    (h0 : (i 0 : ℕ) = 512 * t.val + y 0) (h1 : (i 1 : ℕ) = y 1) :
    k0_pay1 (iblk m c 0 t) (iblk m c 1 t) (iblk m c 2 t) (iblk m c 3 t) y = DIFF (m ((c : Thread nD τ).loc main_arg0)) (m ((c : Thread nD τ).loc main_arg1)) (m ((c : Thread nD τ).loc main_arg2)) (m ((c : Thread nD τ).loc main_arg3)) i := by
  pointwise [k0_pay1, DIFF, val_main_v2, val_main_v1, val_main_v0]
  refine congrArg₂ (· - ·) ((add_comm _ _).trans (congrArg₂ (· + ·) ?_ (Finset.sum_congr rfl fun k _ => ?_))) ?_
  · blk_point [iblk, V, idx t]
  · blk_point [iblk, V, idx t]
  · blk_point [iblk, V, idx t]

theorem point4 (c : Dev nD) (t : Fin cfg0.N) (y) : k0_pay2 (iblk m c 0 t) (iblk m c 1 t) (iblk m c 2 t) (iblk m c 3 t) y
    = REF4 (m ((c : Thread nD τ).loc main_arg0)) (m ((c : Thread nD τ).loc main_arg1)) (m ((c : Thread nD τ).loc main_arg2)) (m ((c : Thread nD τ).loc main_arg3)) (((cfg0.win 4).blk t).view.emb y) := by
  have e := diff m c t y (((cfg0.win 4).blk t).view.emb y) (by blk_simp [idx t]; try omega) (by blk_simp [idx t])
  pointwise [k0_pay2, REF4, val_main_v3, val_main_cst, val_main_v4, val_main_v5, val_main_cst_0, val_main_v6, val_main_cst_1, val_main_v7, val_main_v8, val_main_v9, val_main_cst_2, val_main_v10, val_main_cst_3, val_main_v11, val_main_v12, val_main_cst_4, val_main_v13, val_main_cst_5, val_main_v14, val_main_v15, val_main_v16, val_main_v17, val_main_cst_6, val_main_v18, val_main_v19, val_main_v20, val_main_v21, val_main_v22, val_main_v23]
  rw [e, half, two, width, inv_width, div_width]
  show val_main_v2 (F := Ideal) _ _ _ _ _ * _ = _
  rw [mul_comm, ← mul_assoc, ← EReal.coe_mul, ← EReal.coe_mul]
  exact congrArg₂ (· * ·) (by norm_num) rfl

theorem final4 (c : Dev nD) : (dats m 0 c).arrAt 4 (cfgs 0).N = REF4 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point4 m c t y

theorem point5 (c : Dev nD) (t : Fin cfg0.N) (y) : k0_pay3 (iblk m c 0 t) (iblk m c 1 t) (iblk m c 2 t) (iblk m c 3 t) y
    = REF5 (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay3, REF5, val_main_v3, val_main_cst, val_main_v4, val_main_v5, val_main_cst_0, val_main_v6, val_main_cst_1, val_main_v7, val_main_v8, val_main_v9, val_main_cst_2, val_main_v10, val_main_cst_3, val_main_v11, val_main_v12, val_main_cst_4, val_main_v13, val_main_cst_5, val_main_v14, val_main_v15, val_main_v16, val_main_v17, val_main_cst_6, val_main_v18, val_main_v19, val_main_v20, val_main_v21, val_main_v22, val_main_v23]
  rw [half, width, inv_width_half, sum_mul _ _ (fun _ => Finset.sum_nonneg fun _ _ => sq_nonneg' _), mul_comm, sum_mul _ _ (fun x => ?_)]
  · refine Finset.sum_congr rfl fun x _ => ?_
    rw [div_width, mul_assoc, ← EReal.coe_mul]
    refine congrArg₂ (· * ·) (Finset.sum_congr rfl fun k _ => ?_) (by norm_num)
    have e := diff m c t (ix2 x k) (ix2 ⟨(((cfg0.win 5).blk t).view.emb y 0 : ℕ) * 512 + x, by have : t.val < 8 := t.isLt; blk_simp [idx t]; omega⟩ k)
      (by blk_simp [idx t]; show _ * 512 + _ = _; omega) rfl
    exact congrArg₂ (· * ·) e e
  · rw [div_width]
    exact mul_nonneg (Finset.sum_nonneg fun _ _ => sq_nonneg' _) (by norm_num)

theorem final5 (c : Dev nD) : (dats m 0 c).arrAt 5 (cfgs 0).N = REF5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point5 m c t y

end Cert.BOutLossIdeal.Whole

end
-- ==== Proof.BOutLossClaim.lean ====
module

public import proofs.«01_k».proof.Defs
public import proofs.«01_k».proof.Proof.Gen.BOutLoss.Frame
public import proofs.«01_k».proof.Proof.Gen.BOutLossRefIdeal
public import proofs.«01_k».proof.Proof.Gen.BOutLossRefIdeal.Run
public import Idealize.ShloMosaic.Lib.Claim
public import proofs.«01_k».proof.Proof.BOutLossValue

@[expose] public section

noncomputable section

namespace Cert.BOutLossClaim

open Idealize.ShloMosaic Idealize.SL.Sem

theorem frame : Cert.quiescent_BOutLoss (hBOutLoss := Cert.BOutLoss.Gen.facts) :=
  fun m g _ => Cert.BOutLoss.Gen.frame m g

theorem frame_ideal : Cert.quiescent_BOutLossIdeal (hBOutLossIdeal := Cert.BOutLossIdeal.Gen.facts) :=
  fun m g _ => Cert.BOutLossIdeal.Gen.frame m g

theorem frame_ref : Cert.quiescent_BOutLossRefIdeal (hBOutLossRefIdeal := Cert.BOutLossRefIdeal.Gen.facts) := fun m g _ =>
  (θ_run Cert.BOutLossRefIdeal.defs _ _).mono (fun r h => ⟨fun c => (h c).2.2, Idealize.ShloMosaic.sem_eq_zero_of_no_sems (by decide) r.2⟩)
    (Cert.BOutLossRefIdeal.Value.run (F := Ideal) m g)

theorem algebraic : Cert.algebraic_BOutLossIdeal_BOutLossRefIdeal (hBOutLossIdeal := Cert.BOutLossIdeal.Gen.facts)
    (hBOutLossRefIdeal := Cert.BOutLossRefIdeal.Gen.facts) := by
  pair_intro
  · run_from Cert.BOutLossIdeal.Gen.run_main m g
  · run_from Cert.BOutLossRefIdeal.Value.run m' g'
    · exact (Cert.BOutLossIdeal.Whole.final4 m c).symm
    · exact (Cert.BOutLossIdeal.Whole.final5 m c).symm

end Cert.BOutLossClaim

end
-- ==== Proof.AdamSmallValue.lean ====
module

public import proofs.«01_k».proof.Proof.Gen.AdamSmallIdeal.Frame
public import proofs.«01_k».proof.Proof.Gen.AdamSmallRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AdamSmallIdeal.Whole

open Cert.AdamSmallIdeal Cert.AdamSmallIdeal.Gen Cert.AdamSmallRefIdeal.Read

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The reference's result over the arrays that the kernel was given. -/
abbrev REF4 (x0 : FVec Ideal Cert.AdamSmallRefIdeal.S88x128 .f32) (x1 : FVec Ideal Cert.AdamSmallRefIdeal.S88x128 .f32) (x2 : FVec Ideal Cert.AdamSmallRefIdeal.S88x128 .f32) (x3 : FVec Ideal Cert.AdamSmallRefIdeal.S88x128 .f32) : FVec Ideal Cert.AdamSmallRefIdeal.S88x128 .f32 :=
  val_main_v23 (F := Ideal) x0 x1 x2 x3

theorem point4 (c : Dev nD) (t : Fin cfg0.N) (y) : k0_pay3 (iblk m c 1 t) (iblk m c 2 t) (iblk m c 3 t) (iblk m c 0 t) y
    = REF4 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay3, REF4, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  try pointwise [k0_pay1, k0_pay2]
  blk_point [iblk, V, idx t]

theorem final4 (c : Dev nD) : (dats m 0 c).arrAt 4 (cfgs 0).N = REF4 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point4 m c t y

/-- The reference's result over the arrays that the kernel was given. -/
abbrev REF5 (x1 : FVec Ideal Cert.AdamSmallRefIdeal.S88x128 .f32) (x2 : FVec Ideal Cert.AdamSmallRefIdeal.S88x128 .f32) : FVec Ideal Cert.AdamSmallRefIdeal.S88x128 .f32 :=
  val_main_v4 (F := Ideal) x1 x2

theorem point5 (c : Dev nD) (t : Fin cfg0.N) (y) : k0_pay1 (iblk m c 1 t) (iblk m c 2 t) y
    = REF5 (m ((c : Thread nD τ).loc main_arg1)) (m ((c : Thread nD τ).loc main_arg2)) (((cfg0.win 5).blk t).view.emb y) := by
  pointwise [k0_pay1, REF5, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  try pointwise [k0_pay1, k0_pay2]
  blk_point [iblk, V, idx t]

theorem final5 (c : Dev nD) : (dats m 0 c).arrAt 5 (cfgs 0).N = REF5 (m ((c : Thread nD τ).loc main_arg1)) (m ((c : Thread nD τ).loc main_arg2)) := by
  refine (dats m 0 c).arrAt_eq_of_covers 5 _ (by decide +kernel) fun t _ y => ?_
  blk_simp
  rw [after0_5]; frame_out
  exact point5 m c t y

/-- The reference's result over the arrays that the kernel was given. -/
abbrev REF6 (x1 : FVec Ideal Cert.AdamSmallRefIdeal.S88x128 .f32) (x3 : FVec Ideal Cert.AdamSmallRefIdeal.S88x128 .f32) : FVec Ideal Cert.AdamSmallRefIdeal.S88x128 .f32 :=
  val_main_v10 (F := Ideal) x1 x3

theorem point6 (c : Dev nD) (t : Fin cfg0.N) (y) : k0_pay2 (iblk m c 1 t) (iblk m c 3 t) y
    = REF6 (m ((c : Thread nD τ).loc main_arg1)) (m ((c : Thread nD τ).loc main_arg3)) (((cfg0.win 6).blk t).view.emb y) := by
  pointwise [k0_pay2, REF6, val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  try pointwise [k0_pay1, k0_pay2]
  blk_point [iblk, V, idx t]

theorem final6 (c : Dev nD) : (dats m 0 c).arrAt 6 (cfgs 0).N = REF6 (m ((c : Thread nD τ).loc main_arg1)) (m ((c : Thread nD τ).loc main_arg3)) := by
  refine (dats m 0 c).arrAt_eq_of_covers 6 _ (by decide +kernel) fun t _ y => ?_
  blk_simp
  rw [after0_6]; frame_out
  exact point6 m c t y

end Cert.AdamSmallIdeal.Whole

end
-- ==== Proof.AdamSmallClaim.lean ====
module

public import proofs.«01_k».proof.Defs
public import proofs.«01_k».proof.Proof.Gen.AdamSmall.Frame
public import proofs.«01_k».proof.Proof.Gen.AdamSmallRefIdeal
public import proofs.«01_k».proof.Proof.Gen.AdamSmallRefIdeal.Run
public import Idealize.ShloMosaic.Lib.Claim
public import proofs.«01_k».proof.Proof.AdamSmallValue

@[expose] public section

noncomputable section

namespace Cert.AdamSmallClaim

open Idealize.ShloMosaic Idealize.SL.Sem

theorem frame : Cert.quiescent_AdamSmall (hAdamSmall := Cert.AdamSmall.Gen.facts) :=
  fun m g _ => Cert.AdamSmall.Gen.frame m g

theorem frame_ideal : Cert.quiescent_AdamSmallIdeal (hAdamSmallIdeal := Cert.AdamSmallIdeal.Gen.facts) :=
  fun m g _ => Cert.AdamSmallIdeal.Gen.frame m g

theorem frame_ref : Cert.quiescent_AdamSmallRefIdeal (hAdamSmallRefIdeal := Cert.AdamSmallRefIdeal.Gen.facts) := fun m g _ =>
  (θ_run Cert.AdamSmallRefIdeal.defs _ _).mono (fun r h => ⟨fun c => (h c).2.2.2, Idealize.ShloMosaic.sem_eq_zero_of_no_sems (by decide) r.2⟩)
    (Cert.AdamSmallRefIdeal.Value.run (F := Ideal) m g)

theorem algebraic : Cert.algebraic_AdamSmallIdeal_AdamSmallRefIdeal (hAdamSmallIdeal := Cert.AdamSmallIdeal.Gen.facts)
    (hAdamSmallRefIdeal := Cert.AdamSmallRefIdeal.Gen.facts) := by
  pair_intro
  · run_from Cert.AdamSmallIdeal.Gen.run_main m g
  · run_from Cert.AdamSmallRefIdeal.Value.run m' g'
    · exact (Cert.AdamSmallIdeal.Whole.final4 m c).symm
    · exact (Cert.AdamSmallIdeal.Whole.final5 m c).symm
    · exact (Cert.AdamSmallIdeal.Whole.final6 m c).symm

end Cert.AdamSmallClaim

end
-- ==== Proof.AdamAOutValue.lean ====
module

public import proofs.«01_k».proof.Proof.Gen.AdamAOutIdeal.Frame
public import proofs.«01_k».proof.Proof.Gen.AdamAOutRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AdamAOutIdeal.Whole

open Cert.AdamAOutIdeal Cert.AdamAOutIdeal.Gen Cert.AdamAOutRefIdeal.Read

variable (m : (ℓ : Loc nD τ sig) → Buf (Elt Ideal) ℓ)

/-- No window's index map reads the table. -/
theorem ok {F : FTy → Type} [FloatOps F] (m : (ℓ : Loc nD τ sig) → Buf (Elt F) ℓ) : Ok m := trivial

/-- A table to decide the schedule at: the index maps read none. -/
abbrev a0 : (pcfg0 (F := Ideal)).Adm := ⟨fun | 0 => (fun _ => 0#32 : IVec S1 32) | ⟨_ + 1, h⟩ => absurd h (Nat.not_lt.2 (Nat.le_add_left _ _)), trivial⟩

theorem idx : ∀ t : Fin (cfgM m (ok m)).N, ((cfgM m (ok m)).win 0).index t = ![0, t.val, 0] ∧ ((cfgM m (ok m)).win 1).index t = ![t.val % 2, 0] ∧ ((cfgM m (ok m)).win 2).index t = ![t.val % 2, 0] ∧ ((cfgM m (ok m)).win 3).index t = ![0, t.val, 0] ∧ ((cfgM m (ok m)).win 4).index t = ![0, t.val, 0] ∧ ((cfgM m (ok m)).win 5).index t = ![0, t.val, 0] ∧ ((cfgM m (ok m)).win 6).index t = ![0, t.val, 0] ∧ ((cfgM m (ok m)).win 7).index t = ![0, t.val, 0] ∧ ((cfgM m (ok m)).win 8).index t = ![0, t.val, 0] :=
  (by decide +kernel : ∀ t : Fin (cfg0 a0).N, ((cfg0 a0).win 0).index t = ![0, t.val, 0] ∧ ((cfg0 a0).win 1).index t = ![t.val % 2, 0] ∧ ((cfg0 a0).win 2).index t = ![t.val % 2, 0] ∧ ((cfg0 a0).win 3).index t = ![0, t.val, 0] ∧ ((cfg0 a0).win 4).index t = ![0, t.val, 0] ∧ ((cfg0 a0).win 5).index t = ![0, t.val, 0] ∧ ((cfg0 a0).win 6).index t = ![0, t.val, 0] ∧ ((cfg0 a0).win 7).index t = ![0, t.val, 0] ∧ ((cfg0 a0).win 8).index t = ![0, t.val, 0])

theorem cov5 : ((cfgM m (ok m)).win 5).Covers := (by decide +kernel : ((cfg0 a0).win 5).Covers)
theorem cov6 : ((cfgM m (ok m)).win 6).Covers := (by decide +kernel : ((cfg0 a0).win 6).Covers)
theorem cov7 : ((cfgM m (ok m)).win 7).Covers := (by decide +kernel : ((cfg0 a0).win 7).Covers)
theorem cov8 : ((cfgM m (ok m)).win 8).Covers := (by decide +kernel : ((cfg0 a0).win 8).Covers)

theorem tb (c : Dev nD) : tbl m 0 = m ((c : Thread nD τ).loc main_arg0) := by
  obtain rfl : c = 0 := Subsingleton.elim _ _
  rfl

theorem eq_swap (a b : BitVec 32) : IntOp.cmpi .eq a b = IntOp.cmpi .eq b a := by
  simp only [IntOp.cmpi, BEq.comm]

/-- The block's half: the lower rows are half 0, the upper rows half 1. -/
theorem sel (t : Fin grid0.N) (w : BitVec 32) (a b : Vec Ideal S128x1024 .f32) :
    k0_pay6 (F := Ideal) (grid0.coords t) w a b = Scalar.select (IntOp.cmpi .eq w (BitVec.ofNat 32 (t.val / 2))) a b := by
  rw [eq_swap w]
  refine congrArg (fun z => Scalar.select (IntOp.cmpi .eq z w) a b) (?_ : (_ : BitVec 32) = _)
  revert t
  decide +kernel

theorem word (c : Dev nD) : View.readAt (Elt Ideal) (View.whole main_arg0) (Rect.unit (s := S1) ![0] S1.size inb_S1_S1_0).toLoadRect
    (m ((c : Thread nD τ).loc main_arg0)) (Shape.Idx.first (by decide)) = m ((c : Thread nD τ).loc main_arg0) (ix1 0) := by
  rw [View.readAt_eq_ld]
  refine congrArg (m ((c : Thread nD τ).loc main_arg0)) (funext fun a => ?_)
  fin_cases a; apply Fin.ext
  exact Nat.lt_one_iff.1 (Fin.isLt _)

/-- The gradient put together from its two halves. -/
abbrev REF5 (x0 : IVec Cert.AdamAOutRefIdeal.S1 32) (x2 x3 : FVec Ideal Cert.AdamAOutRefIdeal.S256x1024 .f32) : FVec Ideal Cert.AdamAOutRefIdeal.S1x512x1024 .f32 :=
  val_main_v7 (F := Ideal) x0 x2 x3

theorem halves (x0 : IVec Cert.AdamAOutRefIdeal.S1 32) (x2 x3 : FVec Ideal Cert.AdamAOutRefIdeal.S256x1024 .f32) (q) : REF5 x0 x2 x3 q
    = Scalar.select (IntOp.cmpi .eq (x0 (ix1 0)) (BitVec.ofNat 32 ((q 1).val / 256))) (x2 (ix2 ⟨(q 1).val % 256, Nat.mod_lt _ (by decide)⟩ (q 2))) (x3 (ix2 ⟨(q 1).val % 256, Nat.mod_lt _ (by decide)⟩ (q 2))) := by
  pointwise [REF5, val_main_v0, val_main_v1, val_main_c, val_main_v2, val_main_v3, val_main_c_0, val_main_v4, val_main_v5, val_main_v6, val_main_v7]
  have h : (q 1).val < 512 := (q 1).isLt
  by_cases h1 : (q 1).val < 256
  · rw [dif_pos h1, Nat.div_eq_of_lt h1]; simp only [Nat.mod_eq_of_lt h1]
  · rw [dif_neg h1]
    try rw [dif_pos rfl]
    rw [show (q 1).val / 256 = 1 by omega]; simp only [show (q 1).val % 256 = (q 1).val - 256 by omega]

/-- Where element `y` of the block at point `t` lies in the array. -/
def Q (t : Fin (cfgM m (ok m)).N) (y : S1x128x1024.Idx) : S1x512x1024.Idx := (((cfgM m (ok m)).win 5).blk t).view.emb y

theorem Q_1 (t : Fin (cfgM m (ok m)).N) (y : S1x128x1024.Idx) : (Q m t y 1).val = t.val * 128 + (y 1).val := by
  unfold Q; blk_simp [idx m t]

theorem Q_2 (t : Fin (cfgM m (ok m)).N) (y : S1x128x1024.Idx) : (Q m t y 2).val = (y 2).val := by
  unfold Q; blk_simp [idx m t]

def B0 (c : Dev nD) (t : Fin (cfgM m (ok m)).N) : Vec Ideal S1x128x1024 .f32 := iblk m (ok m) c 0 t
def B1 (c : Dev nD) (t : Fin (cfgM m (ok m)).N) : Vec Ideal S128x1024 .f32 := iblk m (ok m) c 1 t
def B2 (c : Dev nD) (t : Fin (cfgM m (ok m)).N) : Vec Ideal S128x1024 .f32 := iblk m (ok m) c 2 t
def B3 (c : Dev nD) (t : Fin (cfgM m (ok m)).N) : Vec Ideal S1x128x1024 .f32 := iblk m (ok m) c 3 t
def B4 (c : Dev nD) (t : Fin (cfgM m (ok m)).N) : Vec Ideal S1x128x1024 .f32 := iblk m (ok m) c 4 t

theorem B1_at (c : Dev nD) (t : Fin (cfgM m (ok m)).N) (y : S128x1024.Idx) (i : S256x1024.Idx) (h0 : (i 0).val = t.val % 2 * 128 + (y 0).val) (h1 : (i 1).val = (y 1).val) :
    B1 m c t y = m ((c : Thread nD τ).loc main_arg2) i := by
  unfold B1
  blk_point [iblk, V, idx m t]

theorem B2_at (c : Dev nD) (t : Fin (cfgM m (ok m)).N) (y : S128x1024.Idx) (i : S256x1024.Idx) (h0 : (i 0).val = t.val % 2 * 128 + (y 0).val) (h1 : (i 1).val = (y 1).val) :
    B2 m c t y = m ((c : Thread nD τ).loc main_arg3) i := by
  unfold B2
  blk_point [iblk, V, idx m t]

theorem B0_at (c : Dev nD) (t : Fin (cfgM m (ok m)).N) (y : S1x128x1024.Idx) :
    B0 m c t y = m ((c : Thread nD τ).loc main_arg1) (Q m t y) := by
  unfold B0 Q
  blk_point [iblk, V, idx m t]

theorem B3_at (c : Dev nD) (t : Fin (cfgM m (ok m)).N) (y : S1x128x1024.Idx) :
    B3 m c t y = m ((c : Thread nD τ).loc main_arg4) (Q m t y) := by
  unfold B3 Q
  blk_point [iblk, V, idx m t]

theorem B4_at (c : Dev nD) (t : Fin (cfgM m (ok m)).N) (y : S1x128x1024.Idx) :
    B4 m c t y = m ((c : Thread nD τ).loc main_arg5) (Q m t y) := by
  unfold B4 Q
  blk_point [iblk, V, idx m t]

/-- The block of the gradient at point `t`. -/
def G (c : Dev nD) (t : Fin (cfgM m (ok m)).N) : Vec Ideal S128x1024 .f32 := k0_pay6 (F := Ideal) (grid0.coords t) (m ((c : Thread nD τ).loc main_arg0) (ix1 0)) (B1 m c t) (B2 m c t)

theorem G_at (c : Dev nD) (t : Fin (cfgM m (ok m)).N) (y : S1x128x1024.Idx) :
    G m c t (ix2 (y 1) (y 2)) = REF5 (m ((c : Thread nD τ).loc main_arg0)) (m ((c : Thread nD τ).loc main_arg2)) (m ((c : Thread nD τ).loc main_arg3)) (Q m t y) := by
  have hy : (y 1).val < 128 := (y 1).isLt
  have ht : t.val < 4 := t.isLt
  have h1 := Q_1 m t y
  have h2 := Q_2 m t y
  unfold G
  rw [sel, halves]
  have e : (Q m t y 1).val / 256 = t.val / 2 := by omega
  have e' : (Q m t y 1).val % 256 = t.val % 2 * 128 + (y 1).val := by omega
  rw [e, ← B1_at m c t (ix2 (y 1) (y 2)) _ e' h2, ← B2_at m c t (ix2 (y 1) (y 2)) _ e' h2]
  unfold Scalar.select
  split_ifs <;> rfl

theorem whole (y : S1x128x1024.Idx) : (ix3 0 (y 1) (y 2) : S1x128x1024.Idx) = y := by
  blk_ext

theorem point5 (c : Dev nD) (t : Fin (cfgM m (ok m)).N) (y : S1x128x1024.Idx) : k0_pay2 (F := Ideal) (G m c t) y = REF5 (m ((c : Thread nD τ).loc main_arg0)) (m ((c : Thread nD τ).loc main_arg2)) (m ((c : Thread nD τ).loc main_arg3)) (Q m t y) := by
  have hG : k0_pay6 (F := Ideal) (grid0.coords t) (m ((c : Thread nD τ).loc main_arg0) (ix1 0)) (B1 m c t) (B2 m c t) = G m c t := rfl
  pointwise [k0_pay2]
  simp only [hG, G_at, B0_at, B3_at, B4_at, whole]

theorem final5 (c : Dev nD) : (dats m (ok m) 0 c).arrAt 5 (cfgM m (ok m)).N = REF5 (m ((c : Thread nD τ).loc main_arg0)) (m ((c : Thread nD τ).loc main_arg2)) (m ((c : Thread nD τ).loc main_arg3)) := by
  refine (dats m (ok m) 0 c).arrAt_eq_of_covers 5 _ (cov5 m) fun t _ y => ?_
  blk_simp
  rw [after0_5]; unfold outsAt0; dsimp only; frame_out
  refine Eq.trans ?_ (point5 m c t y)
  rw [tb m c, word m c]
  unfold G B1 B2
  try erw [(hs0_0 m (ok m) t).read_unread]
  try erw [(hs0_1 m (ok m) t).read_unread]
  try erw [(hs0_2 m (ok m) t).read_unread]
  try erw [(hs0_3 m (ok m) t).read_unread]
  try erw [(hs0_4 m (ok m) t).read_unread]
  try rfl

/-- The reference's result over the arrays that the kernel was given. -/
abbrev REF6 (x0 : IVec Cert.AdamAOutRefIdeal.S1 32) (x1 : FVec Ideal Cert.AdamAOutRefIdeal.S1x512x1024 .f32) (x2 x3 : FVec Ideal Cert.AdamAOutRefIdeal.S256x1024 .f32) (x4 : FVec Ideal Cert.AdamAOutRefIdeal.S1x512x1024 .f32) (x5 : FVec Ideal Cert.AdamAOutRefIdeal.S1x512x1024 .f32) : FVec Ideal Cert.AdamAOutRefIdeal.S1x512x1024 .f32 :=
  val_main_v31 (F := Ideal) x0 x1 x2 x3 x4 x5

theorem point6 (c : Dev nD) (t : Fin (cfgM m (ok m)).N) (y : S1x128x1024.Idx) : k0_pay3 (F := Ideal) (G m c t) (k0_pay7 (B0 m c t)) (k0_pay8 (grid0.coords t) (m ((c : Thread nD τ).loc main_arg0) (ix1 0)) (B1 m c t) (B2 m c t) (B3 m c t)) (k0_pay9 (B4 m c t)) y = REF6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (Q m t y) := by
  have hG : k0_pay6 (F := Ideal) (grid0.coords t) (m ((c : Thread nD τ).loc main_arg0) (ix1 0)) (B1 m c t) (B2 m c t) = G m c t := rfl
  pointwise [k0_pay3, k0_pay1, k0_pay7, k0_pay8, k0_pay9, REF6, val_main_cst, val_main_v8, val_main_v9, val_main_cst_1, val_main_v10, val_main_v11, val_main_v12, val_main_cst_2, val_main_v13, val_main_v14, val_main_v15, val_main_cst_3, val_main_v16, val_main_v17, val_main_v18, val_main_cst_4, val_main_v19, val_main_v20, val_main_cst_5, val_main_v21, val_main_v22, val_main_v23, val_main_cst_6, val_main_v24, val_main_v25, val_main_v26, val_main_cst_7, val_main_v27, val_main_v28, val_main_v29, val_main_cst_8, val_main_v30, val_main_v31]
  simp only [hG, G_at, B0_at, B3_at, B4_at, whole]
  try rfl

theorem final6 (c : Dev nD) : (dats m (ok m) 0 c).arrAt 6 (cfgM m (ok m)).N = REF6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m (ok m) 0 c).arrAt_eq_of_covers 6 _ (cov6 m) fun t _ y => ?_
  blk_simp
  rw [after0_6]; unfold outsAt0; dsimp only; frame_out
  refine Eq.trans ?_ (point6 m c t y)
  rw [tb m c, word m c]
  unfold G B0 B1 B2 B3 B4
  try erw [(hs0_0 m (ok m) t).read_unread]
  try erw [(hs0_1 m (ok m) t).read_unread]
  try erw [(hs0_2 m (ok m) t).read_unread]
  try erw [(hs0_3 m (ok m) t).read_unread]
  try erw [(hs0_4 m (ok m) t).read_unread]
  try rfl

/-- The reference's result over the arrays that the kernel was given. -/
abbrev REF7 (x0 : IVec Cert.AdamAOutRefIdeal.S1 32) (x2 x3 : FVec Ideal Cert.AdamAOutRefIdeal.S256x1024 .f32) (x4 : FVec Ideal Cert.AdamAOutRefIdeal.S1x512x1024 .f32) : FVec Ideal Cert.AdamAOutRefIdeal.S1x512x1024 .f32 :=
  val_main_v12 (F := Ideal) x0 x2 x3 x4

theorem point7 (c : Dev nD) (t : Fin (cfgM m (ok m)).N) (y : S1x128x1024.Idx) : k0_pay4 (F := Ideal) (k0_pay8 (grid0.coords t) (m ((c : Thread nD τ).loc main_arg0) (ix1 0)) (B1 m c t) (B2 m c t) (B3 m c t)) y = REF7 (m ((c : Thread nD τ).loc main_arg0)) (m ((c : Thread nD τ).loc main_arg2)) (m ((c : Thread nD τ).loc main_arg3)) (m ((c : Thread nD τ).loc main_arg4)) (Q m t y) := by
  have hG : k0_pay6 (F := Ideal) (grid0.coords t) (m ((c : Thread nD τ).loc main_arg0) (ix1 0)) (B1 m c t) (B2 m c t) = G m c t := rfl
  pointwise [k0_pay4, k0_pay8, REF7, val_main_cst, val_main_v8, val_main_v9, val_main_cst_1, val_main_v10, val_main_v11, val_main_v12, val_main_cst_2, val_main_v13, val_main_v14, val_main_v15, val_main_cst_3, val_main_v16, val_main_v17, val_main_v18, val_main_cst_4, val_main_v19, val_main_v20, val_main_cst_5, val_main_v21, val_main_v22, val_main_v23, val_main_cst_6, val_main_v24, val_main_v25, val_main_v26, val_main_cst_7, val_main_v27, val_main_v28, val_main_v29, val_main_cst_8, val_main_v30, val_main_v31]
  simp only [hG, G_at, B0_at, B3_at, B4_at, whole]
  try rfl

theorem final7 (c : Dev nD) : (dats m (ok m) 0 c).arrAt 7 (cfgM m (ok m)).N = REF7 (m ((c : Thread nD τ).loc main_arg0)) (m ((c : Thread nD τ).loc main_arg2)) (m ((c : Thread nD τ).loc main_arg3)) (m ((c : Thread nD τ).loc main_arg4)) := by
  refine (dats m (ok m) 0 c).arrAt_eq_of_covers 7 _ (cov7 m) fun t _ y => ?_
  blk_simp
  rw [after0_7]; unfold outsAt0; dsimp only; frame_out
  refine Eq.trans ?_ (point7 m c t y)
  rw [tb m c, word m c]
  unfold  B1 B2 B3
  try erw [(hs0_0 m (ok m) t).read_unread]
  try erw [(hs0_1 m (ok m) t).read_unread]
  try erw [(hs0_2 m (ok m) t).read_unread]
  try erw [(hs0_3 m (ok m) t).read_unread]
  try erw [(hs0_4 m (ok m) t).read_unread]
  try rfl

/-- The reference's result over the arrays that the kernel was given. -/
abbrev REF8 (x0 : IVec Cert.AdamAOutRefIdeal.S1 32) (x2 x3 : FVec Ideal Cert.AdamAOutRefIdeal.S256x1024 .f32) (x5 : FVec Ideal Cert.AdamAOutRefIdeal.S1x512x1024 .f32) : FVec Ideal Cert.AdamAOutRefIdeal.S1x512x1024 .f32 :=
  val_main_v18 (F := Ideal) x0 x2 x3 x5

theorem point8 (c : Dev nD) (t : Fin (cfgM m (ok m)).N) (y : S1x128x1024.Idx) : k0_pay5 (F := Ideal) (G m c t) (k0_pay9 (B4 m c t)) y = REF8 (m ((c : Thread nD τ).loc main_arg0)) (m ((c : Thread nD τ).loc main_arg2)) (m ((c : Thread nD τ).loc main_arg3)) (m ((c : Thread nD τ).loc main_arg5)) (Q m t y) := by
  have hG : k0_pay6 (F := Ideal) (grid0.coords t) (m ((c : Thread nD τ).loc main_arg0) (ix1 0)) (B1 m c t) (B2 m c t) = G m c t := rfl
  pointwise [k0_pay5, k0_pay1, k0_pay9, REF8, val_main_cst, val_main_v8, val_main_v9, val_main_cst_1, val_main_v10, val_main_v11, val_main_v12, val_main_cst_2, val_main_v13, val_main_v14, val_main_v15, val_main_cst_3, val_main_v16, val_main_v17, val_main_v18, val_main_cst_4, val_main_v19, val_main_v20, val_main_cst_5, val_main_v21, val_main_v22, val_main_v23, val_main_cst_6, val_main_v24, val_main_v25, val_main_v26, val_main_cst_7, val_main_v27, val_main_v28, val_main_v29, val_main_cst_8, val_main_v30, val_main_v31]
  simp only [hG, G_at, B0_at, B3_at, B4_at, whole]
  try rfl

theorem final8 (c : Dev nD) : (dats m (ok m) 0 c).arrAt 8 (cfgM m (ok m)).N = REF8 (m ((c : Thread nD τ).loc main_arg0)) (m ((c : Thread nD τ).loc main_arg2)) (m ((c : Thread nD τ).loc main_arg3)) (m ((c : Thread nD τ).loc main_arg5)) := by
  refine (dats m (ok m) 0 c).arrAt_eq_of_covers 8 _ (cov8 m) fun t _ y => ?_
  blk_simp
  rw [after0_8]; unfold outsAt0; dsimp only; frame_out
  refine Eq.trans ?_ (point8 m c t y)
  rw [tb m c, word m c]
  unfold G B1 B2 B4
  try erw [(hs0_0 m (ok m) t).read_unread]
  try erw [(hs0_1 m (ok m) t).read_unread]
  try erw [(hs0_2 m (ok m) t).read_unread]
  try erw [(hs0_3 m (ok m) t).read_unread]
  try erw [(hs0_4 m (ok m) t).read_unread]
  try rfl

end Cert.AdamAOutIdeal.Whole

end
-- ==== Proof.AdamAOutClaim.lean ====
module

public import proofs.«01_k».proof.Defs
public import proofs.«01_k».proof.Proof.Gen.AdamAOut.Frame
public import proofs.«01_k».proof.Proof.Gen.AdamAOutRefIdeal
public import proofs.«01_k».proof.Proof.Gen.AdamAOutRefIdeal.Run
public import Idealize.ShloMosaic.Lib.Claim
public import proofs.«01_k».proof.Proof.AdamAOutValue

@[expose] public section

noncomputable section

namespace Cert.AdamAOutClaim

open Idealize.ShloMosaic Idealize.SL.Sem

theorem frame : Cert.quiescent_AdamAOut (hAdamAOut := Cert.AdamAOut.Gen.facts) :=
  fun m g _ => Cert.AdamAOut.Gen.frame m g trivial

theorem frame_ideal : Cert.quiescent_AdamAOutIdeal (hAdamAOutIdeal := Cert.AdamAOutIdeal.Gen.facts) :=
  fun m g _ => Cert.AdamAOutIdeal.Gen.frame m g trivial

theorem frame_ref : Cert.quiescent_AdamAOutRefIdeal (hAdamAOutRefIdeal := Cert.AdamAOutRefIdeal.Gen.facts) := fun m g _ =>
  (θ_run Cert.AdamAOutRefIdeal.defs _ _).mono (fun r h => ⟨fun c => (h c).2.2.2.2, Idealize.ShloMosaic.sem_eq_zero_of_no_sems (by decide) r.2⟩)
    (Cert.AdamAOutRefIdeal.Value.run (F := Ideal) m g)

section algebraic

open Idealize.ShloMosaic.TcCoe Cert.AdamAOutIdeal Cert.AdamAOutIdeal.Gen Cert.AdamAOutIdeal.Whole

theorem algebraic : Cert.algebraic_AdamAOutIdeal_AdamAOutRefIdeal (hAdamAOutIdeal := Cert.AdamAOutIdeal.Gen.facts)
    (hAdamAOutRefIdeal := Cert.AdamAOutRefIdeal.Gen.facts) := by
  intro m g m' g' hpre hagree
  refine ⟨fun c => REF5 (m ((c : Thread nD τ).loc main_arg0)) (m ((c : Thread nD τ).loc main_arg2)) (m ((c : Thread nD τ).loc main_arg3)),
    fun c => REF6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    fun c => REF7 (m ((c : Thread nD τ).loc main_arg0)) (m ((c : Thread nD τ).loc main_arg2)) (m ((c : Thread nD τ).loc main_arg3)) (m ((c : Thread nD τ).loc main_arg4)),
    fun c => REF8 (m ((c : Thread nD τ).loc main_arg0)) (m ((c : Thread nD τ).loc main_arg2)) (m ((c : Thread nD τ).loc main_arg3)) (m ((c : Thread nD τ).loc main_arg5)), ?_, ?_⟩
  · refine θ_run_mono (θ_run_and (run_main m g trivial) (Cert.AdamAOutIdeal.Gen.frame m g trivial)) ?_
    intro r hr c
    exact ⟨((hr.1 c).1 5).trans (final5 m c), ((hr.1 c).1 6).trans (final6 m c), ((hr.1 c).1 7).trans (final7 m c), ((hr.1 c).1 8).trans (final8 m c), hr.2.1 c⟩
  · refine θ_run_mono (Cert.AdamAOutRefIdeal.Value.run m' g') ?_
    intro r h c
    obtain ⟨e0, e1, e2, e3, e4, e5⟩ := hagree c
    refine ⟨(h c).1.trans ?_, (h c).2.1.trans ?_, (h c).2.2.1.trans ?_, (h c).2.2.2.1.trans ?_, (h c).2.2.2.2⟩
    · refine (Cert.AdamAOutRefIdeal.Read.val_main_v7_eq _ _ _).trans ?_
      rw [e0, e2, e3]
    · refine (Cert.AdamAOutRefIdeal.Read.val_main_v31_eq _ _ _ _ _ _).trans ?_
      rw [e0, e1, e2, e3, e4, e5]
    · refine (Cert.AdamAOutRefIdeal.Read.val_main_v12_eq _ _ _ _).trans ?_
      rw [e0, e2, e3, e4]
    · refine (Cert.AdamAOutRefIdeal.Read.val_main_v18_eq _ _ _ _).trans ?_
      rw [e0, e2, e3, e5]

end algebraic

end Cert.AdamAOutClaim

end
-- ==== Proof.AdamBInValue.lean ====
module

public import proofs.«01_k».proof.Proof.Gen.AdamBInIdeal.Frame
public import proofs.«01_k».proof.Proof.Gen.AdamBInRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AdamBInIdeal.Whole

open Cert.AdamBInIdeal Cert.AdamBInIdeal.Gen Cert.AdamBInRefIdeal.Read

variable (m : (ℓ : Loc nD τ sig) → Buf (Elt Ideal) ℓ)

/-- No window's index map reads the table. -/
theorem ok {F : FTy → Type} [FloatOps F] (m : (ℓ : Loc nD τ sig) → Buf (Elt F) ℓ) : Ok m := trivial

/-- A table to decide the schedule at: the index maps read none. -/
abbrev a0 : (pcfg0 (F := Ideal)).Adm := ⟨fun | 0 => (fun _ => 0#32 : IVec S1 32) | ⟨_ + 1, h⟩ => absurd h (Nat.not_lt.2 (Nat.le_add_left _ _)), trivial⟩

theorem idx : ∀ t : Fin (cfgM m (ok m)).N, ((cfgM m (ok m)).win 0).index t = ![0, t.val, 0] ∧ ((cfgM m (ok m)).win 1).index t = ![t.val % 4, 0] ∧ ((cfgM m (ok m)).win 2).index t = ![t.val % 4, 0] ∧ ((cfgM m (ok m)).win 3).index t = ![0, t.val, 0] ∧ ((cfgM m (ok m)).win 4).index t = ![0, t.val, 0] ∧ ((cfgM m (ok m)).win 5).index t = ![0, t.val, 0] ∧ ((cfgM m (ok m)).win 6).index t = ![0, t.val, 0] ∧ ((cfgM m (ok m)).win 7).index t = ![0, t.val, 0] ∧ ((cfgM m (ok m)).win 8).index t = ![0, t.val, 0] :=
  (by decide +kernel : ∀ t : Fin (cfg0 a0).N, ((cfg0 a0).win 0).index t = ![0, t.val, 0] ∧ ((cfg0 a0).win 1).index t = ![t.val % 4, 0] ∧ ((cfg0 a0).win 2).index t = ![t.val % 4, 0] ∧ ((cfg0 a0).win 3).index t = ![0, t.val, 0] ∧ ((cfg0 a0).win 4).index t = ![0, t.val, 0] ∧ ((cfg0 a0).win 5).index t = ![0, t.val, 0] ∧ ((cfg0 a0).win 6).index t = ![0, t.val, 0] ∧ ((cfg0 a0).win 7).index t = ![0, t.val, 0] ∧ ((cfg0 a0).win 8).index t = ![0, t.val, 0])

theorem cov5 : ((cfgM m (ok m)).win 5).Covers := (by decide +kernel : ((cfg0 a0).win 5).Covers)
theorem cov6 : ((cfgM m (ok m)).win 6).Covers := (by decide +kernel : ((cfg0 a0).win 6).Covers)
theorem cov7 : ((cfgM m (ok m)).win 7).Covers := (by decide +kernel : ((cfg0 a0).win 7).Covers)
theorem cov8 : ((cfgM m (ok m)).win 8).Covers := (by decide +kernel : ((cfg0 a0).win 8).Covers)

theorem tb (c : Dev nD) : tbl m 0 = m ((c : Thread nD τ).loc main_arg0) := by
  obtain rfl : c = 0 := Subsingleton.elim _ _
  rfl

theorem eq_swap (a b : BitVec 32) : IntOp.cmpi .eq a b = IntOp.cmpi .eq b a := by
  simp only [IntOp.cmpi, BEq.comm]

/-- The block's half: the lower rows are half 0, the upper rows half 1. -/
theorem sel (t : Fin grid0.N) (w : BitVec 32) (a b : Vec Ideal S128x2560 .f32) :
    k0_pay6 (F := Ideal) (grid0.coords t) w a b = Scalar.select (IntOp.cmpi .eq w (BitVec.ofNat 32 (t.val / 4))) a b := by
  rw [eq_swap w]
  refine congrArg (fun z => Scalar.select (IntOp.cmpi .eq z w) a b) (?_ : (_ : BitVec 32) = _)
  revert t
  decide +kernel

theorem word (c : Dev nD) : View.readAt (Elt Ideal) (View.whole main_arg0) (Rect.unit (s := S1) ![0] S1.size inb_S1_S1_0).toLoadRect
    (m ((c : Thread nD τ).loc main_arg0)) (Shape.Idx.first (by decide)) = m ((c : Thread nD τ).loc main_arg0) (ix1 0) := by
  rw [View.readAt_eq_ld]
  refine congrArg (m ((c : Thread nD τ).loc main_arg0)) (funext fun a => ?_)
  fin_cases a; apply Fin.ext
  exact Nat.lt_one_iff.1 (Fin.isLt _)

/-- The gradient put together from its two halves. -/
abbrev REF5 (x0 : IVec Cert.AdamBInRefIdeal.S1 32) (x2 x3 : FVec Ideal Cert.AdamBInRefIdeal.S512x2560 .f32) : FVec Ideal Cert.AdamBInRefIdeal.S1x1024x2560 .f32 :=
  val_main_v7 (F := Ideal) x0 x2 x3

theorem halves (x0 : IVec Cert.AdamBInRefIdeal.S1 32) (x2 x3 : FVec Ideal Cert.AdamBInRefIdeal.S512x2560 .f32) (q) : REF5 x0 x2 x3 q
    = Scalar.select (IntOp.cmpi .eq (x0 (ix1 0)) (BitVec.ofNat 32 ((q 1).val / 512))) (x2 (ix2 ⟨(q 1).val % 512, Nat.mod_lt _ (by decide)⟩ (q 2))) (x3 (ix2 ⟨(q 1).val % 512, Nat.mod_lt _ (by decide)⟩ (q 2))) := by
  pointwise [REF5, val_main_v0, val_main_v1, val_main_c, val_main_v2, val_main_v3, val_main_c_0, val_main_v4, val_main_v5, val_main_v6, val_main_v7]
  have h : (q 1).val < 1024 := (q 1).isLt
  by_cases h1 : (q 1).val < 512
  · rw [dif_pos h1, Nat.div_eq_of_lt h1]; simp only [Nat.mod_eq_of_lt h1]
  · rw [dif_neg h1]
    try rw [dif_pos rfl]
    rw [show (q 1).val / 512 = 1 by omega]; simp only [show (q 1).val % 512 = (q 1).val - 512 by omega]

/-- Where element `y` of the block at point `t` lies in the array. -/
def Q (t : Fin (cfgM m (ok m)).N) (y : S1x128x2560.Idx) : S1x1024x2560.Idx := (((cfgM m (ok m)).win 5).blk t).view.emb y

theorem Q_1 (t : Fin (cfgM m (ok m)).N) (y : S1x128x2560.Idx) : (Q m t y 1).val = t.val * 128 + (y 1).val := by
  unfold Q; blk_simp [idx m t]

theorem Q_2 (t : Fin (cfgM m (ok m)).N) (y : S1x128x2560.Idx) : (Q m t y 2).val = (y 2).val := by
  unfold Q; blk_simp [idx m t]

def B0 (c : Dev nD) (t : Fin (cfgM m (ok m)).N) : Vec Ideal S1x128x2560 .f32 := iblk m (ok m) c 0 t
def B1 (c : Dev nD) (t : Fin (cfgM m (ok m)).N) : Vec Ideal S128x2560 .f32 := iblk m (ok m) c 1 t
def B2 (c : Dev nD) (t : Fin (cfgM m (ok m)).N) : Vec Ideal S128x2560 .f32 := iblk m (ok m) c 2 t
def B3 (c : Dev nD) (t : Fin (cfgM m (ok m)).N) : Vec Ideal S1x128x2560 .f32 := iblk m (ok m) c 3 t
def B4 (c : Dev nD) (t : Fin (cfgM m (ok m)).N) : Vec Ideal S1x128x2560 .f32 := iblk m (ok m) c 4 t

theorem B1_at (c : Dev nD) (t : Fin (cfgM m (ok m)).N) (y : S128x2560.Idx) (i : S512x2560.Idx) (h0 : (i 0).val = t.val % 4 * 128 + (y 0).val) (h1 : (i 1).val = (y 1).val) :
    B1 m c t y = m ((c : Thread nD τ).loc main_arg2) i := by
  unfold B1
  blk_point [iblk, V, idx m t]

theorem B2_at (c : Dev nD) (t : Fin (cfgM m (ok m)).N) (y : S128x2560.Idx) (i : S512x2560.Idx) (h0 : (i 0).val = t.val % 4 * 128 + (y 0).val) (h1 : (i 1).val = (y 1).val) :
    B2 m c t y = m ((c : Thread nD τ).loc main_arg3) i := by
  unfold B2
  blk_point [iblk, V, idx m t]

theorem B0_at (c : Dev nD) (t : Fin (cfgM m (ok m)).N) (y : S1x128x2560.Idx) :
    B0 m c t y = m ((c : Thread nD τ).loc main_arg1) (Q m t y) := by
  unfold B0 Q
  blk_point [iblk, V, idx m t]

theorem B3_at (c : Dev nD) (t : Fin (cfgM m (ok m)).N) (y : S1x128x2560.Idx) :
    B3 m c t y = m ((c : Thread nD τ).loc main_arg4) (Q m t y) := by
  unfold B3 Q
  blk_point [iblk, V, idx m t]

theorem B4_at (c : Dev nD) (t : Fin (cfgM m (ok m)).N) (y : S1x128x2560.Idx) :
    B4 m c t y = m ((c : Thread nD τ).loc main_arg5) (Q m t y) := by
  unfold B4 Q
  blk_point [iblk, V, idx m t]

/-- The block of the gradient at point `t`. -/
def G (c : Dev nD) (t : Fin (cfgM m (ok m)).N) : Vec Ideal S128x2560 .f32 := k0_pay6 (F := Ideal) (grid0.coords t) (m ((c : Thread nD τ).loc main_arg0) (ix1 0)) (B1 m c t) (B2 m c t)

theorem G_at (c : Dev nD) (t : Fin (cfgM m (ok m)).N) (y : S1x128x2560.Idx) :
    G m c t (ix2 (y 1) (y 2)) = REF5 (m ((c : Thread nD τ).loc main_arg0)) (m ((c : Thread nD τ).loc main_arg2)) (m ((c : Thread nD τ).loc main_arg3)) (Q m t y) := by
  have hy : (y 1).val < 128 := (y 1).isLt
  have ht : t.val < 8 := t.isLt
  have h1 := Q_1 m t y
  have h2 := Q_2 m t y
  unfold G
  rw [sel, halves]
  have e : (Q m t y 1).val / 512 = t.val / 4 := by omega
  have e' : (Q m t y 1).val % 512 = t.val % 4 * 128 + (y 1).val := by omega
  rw [e, ← B1_at m c t (ix2 (y 1) (y 2)) _ e' h2, ← B2_at m c t (ix2 (y 1) (y 2)) _ e' h2]
  unfold Scalar.select
  split_ifs <;> rfl

theorem whole (y : S1x128x2560.Idx) : (ix3 0 (y 1) (y 2) : S1x128x2560.Idx) = y := by
  blk_ext

theorem point5 (c : Dev nD) (t : Fin (cfgM m (ok m)).N) (y : S1x128x2560.Idx) : k0_pay2 (F := Ideal) (G m c t) y = REF5 (m ((c : Thread nD τ).loc main_arg0)) (m ((c : Thread nD τ).loc main_arg2)) (m ((c : Thread nD τ).loc main_arg3)) (Q m t y) := by
  have hG : k0_pay6 (F := Ideal) (grid0.coords t) (m ((c : Thread nD τ).loc main_arg0) (ix1 0)) (B1 m c t) (B2 m c t) = G m c t := rfl
  pointwise [k0_pay2]
  simp only [hG, G_at, B0_at, B3_at, B4_at, whole]

theorem final5 (c : Dev nD) : (dats m (ok m) 0 c).arrAt 5 (cfgM m (ok m)).N = REF5 (m ((c : Thread nD τ).loc main_arg0)) (m ((c : Thread nD τ).loc main_arg2)) (m ((c : Thread nD τ).loc main_arg3)) := by
  refine (dats m (ok m) 0 c).arrAt_eq_of_covers 5 _ (cov5 m) fun t _ y => ?_
  blk_simp
  rw [after0_5]; unfold outsAt0; dsimp only; frame_out
  refine Eq.trans ?_ (point5 m c t y)
  rw [tb m c, word m c]
  unfold G B1 B2
  try erw [(hs0_0 m (ok m) t).read_unread]
  try erw [(hs0_1 m (ok m) t).read_unread]
  try erw [(hs0_2 m (ok m) t).read_unread]
  try erw [(hs0_3 m (ok m) t).read_unread]
  try erw [(hs0_4 m (ok m) t).read_unread]
  try rfl

/-- The reference's result over the arrays that the kernel was given. -/
abbrev REF6 (x0 : IVec Cert.AdamBInRefIdeal.S1 32) (x1 : FVec Ideal Cert.AdamBInRefIdeal.S1x1024x2560 .f32) (x2 x3 : FVec Ideal Cert.AdamBInRefIdeal.S512x2560 .f32) (x4 : FVec Ideal Cert.AdamBInRefIdeal.S1x1024x2560 .f32) (x5 : FVec Ideal Cert.AdamBInRefIdeal.S1x1024x2560 .f32) : FVec Ideal Cert.AdamBInRefIdeal.S1x1024x2560 .f32 :=
  val_main_v31 (F := Ideal) x0 x1 x2 x3 x4 x5

theorem point6 (c : Dev nD) (t : Fin (cfgM m (ok m)).N) (y : S1x128x2560.Idx) : k0_pay3 (F := Ideal) (G m c t) (k0_pay7 (B0 m c t)) (k0_pay8 (grid0.coords t) (m ((c : Thread nD τ).loc main_arg0) (ix1 0)) (B1 m c t) (B2 m c t) (B3 m c t)) (k0_pay9 (B4 m c t)) y = REF6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (Q m t y) := by
  have hG : k0_pay6 (F := Ideal) (grid0.coords t) (m ((c : Thread nD τ).loc main_arg0) (ix1 0)) (B1 m c t) (B2 m c t) = G m c t := rfl
  pointwise [k0_pay3, k0_pay1, k0_pay7, k0_pay8, k0_pay9, REF6, val_main_cst, val_main_v8, val_main_v9, val_main_cst_1, val_main_v10, val_main_v11, val_main_v12, val_main_cst_2, val_main_v13, val_main_v14, val_main_v15, val_main_cst_3, val_main_v16, val_main_v17, val_main_v18, val_main_cst_4, val_main_v19, val_main_v20, val_main_cst_5, val_main_v21, val_main_v22, val_main_v23, val_main_cst_6, val_main_v24, val_main_v25, val_main_v26, val_main_cst_7, val_main_v27, val_main_v28, val_main_v29, val_main_cst_8, val_main_v30, val_main_v31]
  simp only [hG, G_at, B0_at, B3_at, B4_at, whole]
  try rfl

theorem final6 (c : Dev nD) : (dats m (ok m) 0 c).arrAt 6 (cfgM m (ok m)).N = REF6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m (ok m) 0 c).arrAt_eq_of_covers 6 _ (cov6 m) fun t _ y => ?_
  blk_simp
  rw [after0_6]; unfold outsAt0; dsimp only; frame_out
  refine Eq.trans ?_ (point6 m c t y)
  rw [tb m c, word m c]
  unfold G B0 B1 B2 B3 B4
  try erw [(hs0_0 m (ok m) t).read_unread]
  try erw [(hs0_1 m (ok m) t).read_unread]
  try erw [(hs0_2 m (ok m) t).read_unread]
  try erw [(hs0_3 m (ok m) t).read_unread]
  try erw [(hs0_4 m (ok m) t).read_unread]
  try rfl

/-- The reference's result over the arrays that the kernel was given. -/
abbrev REF7 (x0 : IVec Cert.AdamBInRefIdeal.S1 32) (x2 x3 : FVec Ideal Cert.AdamBInRefIdeal.S512x2560 .f32) (x4 : FVec Ideal Cert.AdamBInRefIdeal.S1x1024x2560 .f32) : FVec Ideal Cert.AdamBInRefIdeal.S1x1024x2560 .f32 :=
  val_main_v12 (F := Ideal) x0 x2 x3 x4

theorem point7 (c : Dev nD) (t : Fin (cfgM m (ok m)).N) (y : S1x128x2560.Idx) : k0_pay4 (F := Ideal) (k0_pay8 (grid0.coords t) (m ((c : Thread nD τ).loc main_arg0) (ix1 0)) (B1 m c t) (B2 m c t) (B3 m c t)) y = REF7 (m ((c : Thread nD τ).loc main_arg0)) (m ((c : Thread nD τ).loc main_arg2)) (m ((c : Thread nD τ).loc main_arg3)) (m ((c : Thread nD τ).loc main_arg4)) (Q m t y) := by
  have hG : k0_pay6 (F := Ideal) (grid0.coords t) (m ((c : Thread nD τ).loc main_arg0) (ix1 0)) (B1 m c t) (B2 m c t) = G m c t := rfl
  pointwise [k0_pay4, k0_pay8, REF7, val_main_cst, val_main_v8, val_main_v9, val_main_cst_1, val_main_v10, val_main_v11, val_main_v12, val_main_cst_2, val_main_v13, val_main_v14, val_main_v15, val_main_cst_3, val_main_v16, val_main_v17, val_main_v18, val_main_cst_4, val_main_v19, val_main_v20, val_main_cst_5, val_main_v21, val_main_v22, val_main_v23, val_main_cst_6, val_main_v24, val_main_v25, val_main_v26, val_main_cst_7, val_main_v27, val_main_v28, val_main_v29, val_main_cst_8, val_main_v30, val_main_v31]
  simp only [hG, G_at, B0_at, B3_at, B4_at, whole]
  try rfl

theorem final7 (c : Dev nD) : (dats m (ok m) 0 c).arrAt 7 (cfgM m (ok m)).N = REF7 (m ((c : Thread nD τ).loc main_arg0)) (m ((c : Thread nD τ).loc main_arg2)) (m ((c : Thread nD τ).loc main_arg3)) (m ((c : Thread nD τ).loc main_arg4)) := by
  refine (dats m (ok m) 0 c).arrAt_eq_of_covers 7 _ (cov7 m) fun t _ y => ?_
  blk_simp
  rw [after0_7]; unfold outsAt0; dsimp only; frame_out
  refine Eq.trans ?_ (point7 m c t y)
  rw [tb m c, word m c]
  unfold  B1 B2 B3
  try erw [(hs0_0 m (ok m) t).read_unread]
  try erw [(hs0_1 m (ok m) t).read_unread]
  try erw [(hs0_2 m (ok m) t).read_unread]
  try erw [(hs0_3 m (ok m) t).read_unread]
  try erw [(hs0_4 m (ok m) t).read_unread]
  try rfl

/-- The reference's result over the arrays that the kernel was given. -/
abbrev REF8 (x0 : IVec Cert.AdamBInRefIdeal.S1 32) (x2 x3 : FVec Ideal Cert.AdamBInRefIdeal.S512x2560 .f32) (x5 : FVec Ideal Cert.AdamBInRefIdeal.S1x1024x2560 .f32) : FVec Ideal Cert.AdamBInRefIdeal.S1x1024x2560 .f32 :=
  val_main_v18 (F := Ideal) x0 x2 x3 x5

theorem point8 (c : Dev nD) (t : Fin (cfgM m (ok m)).N) (y : S1x128x2560.Idx) : k0_pay5 (F := Ideal) (G m c t) (k0_pay9 (B4 m c t)) y = REF8 (m ((c : Thread nD τ).loc main_arg0)) (m ((c : Thread nD τ).loc main_arg2)) (m ((c : Thread nD τ).loc main_arg3)) (m ((c : Thread nD τ).loc main_arg5)) (Q m t y) := by
  have hG : k0_pay6 (F := Ideal) (grid0.coords t) (m ((c : Thread nD τ).loc main_arg0) (ix1 0)) (B1 m c t) (B2 m c t) = G m c t := rfl
  pointwise [k0_pay5, k0_pay1, k0_pay9, REF8, val_main_cst, val_main_v8, val_main_v9, val_main_cst_1, val_main_v10, val_main_v11, val_main_v12, val_main_cst_2, val_main_v13, val_main_v14, val_main_v15, val_main_cst_3, val_main_v16, val_main_v17, val_main_v18, val_main_cst_4, val_main_v19, val_main_v20, val_main_cst_5, val_main_v21, val_main_v22, val_main_v23, val_main_cst_6, val_main_v24, val_main_v25, val_main_v26, val_main_cst_7, val_main_v27, val_main_v28, val_main_v29, val_main_cst_8, val_main_v30, val_main_v31]
  simp only [hG, G_at, B0_at, B3_at, B4_at, whole]
  try rfl

theorem final8 (c : Dev nD) : (dats m (ok m) 0 c).arrAt 8 (cfgM m (ok m)).N = REF8 (m ((c : Thread nD τ).loc main_arg0)) (m ((c : Thread nD τ).loc main_arg2)) (m ((c : Thread nD τ).loc main_arg3)) (m ((c : Thread nD τ).loc main_arg5)) := by
  refine (dats m (ok m) 0 c).arrAt_eq_of_covers 8 _ (cov8 m) fun t _ y => ?_
  blk_simp
  rw [after0_8]; unfold outsAt0; dsimp only; frame_out
  refine Eq.trans ?_ (point8 m c t y)
  rw [tb m c, word m c]
  unfold G B1 B2 B4
  try erw [(hs0_0 m (ok m) t).read_unread]
  try erw [(hs0_1 m (ok m) t).read_unread]
  try erw [(hs0_2 m (ok m) t).read_unread]
  try erw [(hs0_3 m (ok m) t).read_unread]
  try erw [(hs0_4 m (ok m) t).read_unread]
  try rfl

end Cert.AdamBInIdeal.Whole

end
-- ==== Proof.AdamBInClaim.lean ====
module

public import proofs.«01_k».proof.Defs
public import proofs.«01_k».proof.Proof.Gen.AdamBIn.Frame
public import proofs.«01_k».proof.Proof.Gen.AdamBInRefIdeal
public import proofs.«01_k».proof.Proof.Gen.AdamBInRefIdeal.Run
public import Idealize.ShloMosaic.Lib.Claim
public import proofs.«01_k».proof.Proof.AdamBInValue

@[expose] public section

noncomputable section

namespace Cert.AdamBInClaim

open Idealize.ShloMosaic Idealize.SL.Sem

theorem frame : Cert.quiescent_AdamBIn (hAdamBIn := Cert.AdamBIn.Gen.facts) :=
  fun m g _ => Cert.AdamBIn.Gen.frame m g trivial

theorem frame_ideal : Cert.quiescent_AdamBInIdeal (hAdamBInIdeal := Cert.AdamBInIdeal.Gen.facts) :=
  fun m g _ => Cert.AdamBInIdeal.Gen.frame m g trivial

theorem frame_ref : Cert.quiescent_AdamBInRefIdeal (hAdamBInRefIdeal := Cert.AdamBInRefIdeal.Gen.facts) := fun m g _ =>
  (θ_run Cert.AdamBInRefIdeal.defs _ _).mono (fun r h => ⟨fun c => (h c).2.2.2.2, Idealize.ShloMosaic.sem_eq_zero_of_no_sems (by decide) r.2⟩)
    (Cert.AdamBInRefIdeal.Value.run (F := Ideal) m g)

section algebraic

open Idealize.ShloMosaic.TcCoe Cert.AdamBInIdeal Cert.AdamBInIdeal.Gen Cert.AdamBInIdeal.Whole

theorem algebraic : Cert.algebraic_AdamBInIdeal_AdamBInRefIdeal (hAdamBInIdeal := Cert.AdamBInIdeal.Gen.facts)
    (hAdamBInRefIdeal := Cert.AdamBInRefIdeal.Gen.facts) := by
  intro m g m' g' hpre hagree
  refine ⟨fun c => REF5 (m ((c : Thread nD τ).loc main_arg0)) (m ((c : Thread nD τ).loc main_arg2)) (m ((c : Thread nD τ).loc main_arg3)),
    fun c => REF6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    fun c => REF7 (m ((c : Thread nD τ).loc main_arg0)) (m ((c : Thread nD τ).loc main_arg2)) (m ((c : Thread nD τ).loc main_arg3)) (m ((c : Thread nD τ).loc main_arg4)),
    fun c => REF8 (m ((c : Thread nD τ).loc main_arg0)) (m ((c : Thread nD τ).loc main_arg2)) (m ((c : Thread nD τ).loc main_arg3)) (m ((c : Thread nD τ).loc main_arg5)), ?_, ?_⟩
  · refine θ_run_mono (θ_run_and (run_main m g trivial) (Cert.AdamBInIdeal.Gen.frame m g trivial)) ?_
    intro r hr c
    exact ⟨((hr.1 c).1 5).trans (final5 m c), ((hr.1 c).1 6).trans (final6 m c), ((hr.1 c).1 7).trans (final7 m c), ((hr.1 c).1 8).trans (final8 m c), hr.2.1 c⟩
  · refine θ_run_mono (Cert.AdamBInRefIdeal.Value.run m' g') ?_
    intro r h c
    obtain ⟨e0, e1, e2, e3, e4, e5⟩ := hagree c
    refine ⟨(h c).1.trans ?_, (h c).2.1.trans ?_, (h c).2.2.1.trans ?_, (h c).2.2.2.1.trans ?_, (h c).2.2.2.2⟩
    · refine (Cert.AdamBInRefIdeal.Read.val_main_v7_eq _ _ _).trans ?_
      rw [e0, e2, e3]
    · refine (Cert.AdamBInRefIdeal.Read.val_main_v31_eq _ _ _ _ _ _).trans ?_
      rw [e0, e1, e2, e3, e4, e5]
    · refine (Cert.AdamBInRefIdeal.Read.val_main_v12_eq _ _ _ _).trans ?_
      rw [e0, e2, e3, e4]
    · refine (Cert.AdamBInRefIdeal.Read.val_main_v18_eq _ _ _ _).trans ?_
      rw [e0, e2, e3, e5]

end algebraic

end Cert.AdamBInClaim

end
-- ==== Proof.AdamBOutValue.lean ====
module

public import proofs.«01_k».proof.Proof.Gen.AdamBOutIdeal.Frame
public import proofs.«01_k».proof.Proof.Gen.AdamBOutRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AdamBOutIdeal.Whole

open Cert.AdamBOutIdeal Cert.AdamBOutIdeal.Gen Cert.AdamBOutRefIdeal.Read

variable (m : (ℓ : Loc nD τ sig) → Buf (Elt Ideal) ℓ)

/-- No window's index map reads the table. -/
theorem ok {F : FTy → Type} [FloatOps F] (m : (ℓ : Loc nD τ sig) → Buf (Elt F) ℓ) : Ok m := trivial

/-- A table to decide the schedule at: the index maps read none. -/
abbrev a0 : (pcfg0 (F := Ideal)).Adm := ⟨fun | 0 => (fun _ => 0#32 : IVec S1 32) | ⟨_ + 1, h⟩ => absurd h (Nat.not_lt.2 (Nat.le_add_left _ _)), trivial⟩

theorem idx : ∀ t : Fin (cfgM m (ok m)).N, ((cfgM m (ok m)).win 0).index t = ![0, t.val, 0] ∧ ((cfgM m (ok m)).win 1).index t = ![0, 0] ∧ ((cfgM m (ok m)).win 2).index t = ![0, 0] ∧ ((cfgM m (ok m)).win 3).index t = ![0, t.val, 0] ∧ ((cfgM m (ok m)).win 4).index t = ![0, t.val, 0] ∧ ((cfgM m (ok m)).win 5).index t = ![0, t.val, 0] ∧ ((cfgM m (ok m)).win 6).index t = ![0, t.val, 0] ∧ ((cfgM m (ok m)).win 7).index t = ![0, t.val, 0] ∧ ((cfgM m (ok m)).win 8).index t = ![0, t.val, 0] :=
  (by decide +kernel : ∀ t : Fin (cfg0 a0).N, ((cfg0 a0).win 0).index t = ![0, t.val, 0] ∧ ((cfg0 a0).win 1).index t = ![0, 0] ∧ ((cfg0 a0).win 2).index t = ![0, 0] ∧ ((cfg0 a0).win 3).index t = ![0, t.val, 0] ∧ ((cfg0 a0).win 4).index t = ![0, t.val, 0] ∧ ((cfg0 a0).win 5).index t = ![0, t.val, 0] ∧ ((cfg0 a0).win 6).index t = ![0, t.val, 0] ∧ ((cfg0 a0).win 7).index t = ![0, t.val, 0] ∧ ((cfg0 a0).win 8).index t = ![0, t.val, 0])

theorem cov5 : ((cfgM m (ok m)).win 5).Covers := (by decide +kernel : ((cfg0 a0).win 5).Covers)
theorem cov6 : ((cfgM m (ok m)).win 6).Covers := (by decide +kernel : ((cfg0 a0).win 6).Covers)
theorem cov7 : ((cfgM m (ok m)).win 7).Covers := (by decide +kernel : ((cfg0 a0).win 7).Covers)
theorem cov8 : ((cfgM m (ok m)).win 8).Covers := (by decide +kernel : ((cfg0 a0).win 8).Covers)

theorem tb (c : Dev nD) : tbl m 0 = m ((c : Thread nD τ).loc main_arg0) := by
  obtain rfl : c = 0 := Subsingleton.elim _ _
  rfl

theorem eq_swap (a b : BitVec 32) : IntOp.cmpi .eq a b = IntOp.cmpi .eq b a := by
  simp only [IntOp.cmpi, BEq.comm]

/-- The block's half: the lower rows are half 0, the upper rows half 1. -/
theorem sel (t : Fin grid0.N) (w : BitVec 32) (a b : Vec Ideal S128x1024 .f32) :
    k0_pay6 (F := Ideal) (grid0.coords t) w a b = Scalar.select (IntOp.cmpi .eq w (BitVec.ofNat 32 (t.val / 1))) a b := by
  rw [eq_swap w]
  refine congrArg (fun z => Scalar.select (IntOp.cmpi .eq z w) a b) (?_ : (_ : BitVec 32) = _)
  revert t
  decide +kernel

theorem word (c : Dev nD) : View.readAt (Elt Ideal) (View.whole main_arg0) (Rect.unit (s := S1) ![0] S1.size inb_S1_S1_0).toLoadRect
    (m ((c : Thread nD τ).loc main_arg0)) (Shape.Idx.first (by decide)) = m ((c : Thread nD τ).loc main_arg0) (ix1 0) := by
  rw [View.readAt_eq_ld]
  refine congrArg (m ((c : Thread nD τ).loc main_arg0)) (funext fun a => ?_)
  fin_cases a; apply Fin.ext
  exact Nat.lt_one_iff.1 (Fin.isLt _)

/-- The gradient put together from its two halves. -/
abbrev REF5 (x0 : IVec Cert.AdamBOutRefIdeal.S1 32) (x2 x3 : FVec Ideal Cert.AdamBOutRefIdeal.S128x1024 .f32) : FVec Ideal Cert.AdamBOutRefIdeal.S1x256x1024 .f32 :=
  val_main_v7 (F := Ideal) x0 x2 x3

theorem halves (x0 : IVec Cert.AdamBOutRefIdeal.S1 32) (x2 x3 : FVec Ideal Cert.AdamBOutRefIdeal.S128x1024 .f32) (q) : REF5 x0 x2 x3 q
    = Scalar.select (IntOp.cmpi .eq (x0 (ix1 0)) (BitVec.ofNat 32 ((q 1).val / 128))) (x2 (ix2 ⟨(q 1).val % 128, Nat.mod_lt _ (by decide)⟩ (q 2))) (x3 (ix2 ⟨(q 1).val % 128, Nat.mod_lt _ (by decide)⟩ (q 2))) := by
  pointwise [REF5, val_main_v0, val_main_v1, val_main_c, val_main_v2, val_main_v3, val_main_c_0, val_main_v4, val_main_v5, val_main_v6, val_main_v7]
  have h : (q 1).val < 256 := (q 1).isLt
  by_cases h1 : (q 1).val < 128
  · rw [dif_pos h1, Nat.div_eq_of_lt h1]; simp only [Nat.mod_eq_of_lt h1]
  · rw [dif_neg h1]
    try rw [dif_pos rfl]
    rw [show (q 1).val / 128 = 1 by omega]; simp only [show (q 1).val % 128 = (q 1).val - 128 by omega]

/-- Where element `y` of the block at point `t` lies in the array. -/
def Q (t : Fin (cfgM m (ok m)).N) (y : S1x128x1024.Idx) : S1x256x1024.Idx := (((cfgM m (ok m)).win 5).blk t).view.emb y

theorem Q_1 (t : Fin (cfgM m (ok m)).N) (y : S1x128x1024.Idx) : (Q m t y 1).val = t.val * 128 + (y 1).val := by
  unfold Q; blk_simp [idx m t]

theorem Q_2 (t : Fin (cfgM m (ok m)).N) (y : S1x128x1024.Idx) : (Q m t y 2).val = (y 2).val := by
  unfold Q; blk_simp [idx m t]

def B0 (c : Dev nD) (t : Fin (cfgM m (ok m)).N) : Vec Ideal S1x128x1024 .f32 := iblk m (ok m) c 0 t
def B1 (c : Dev nD) (t : Fin (cfgM m (ok m)).N) : Vec Ideal S128x1024 .f32 := iblk m (ok m) c 1 t
def B2 (c : Dev nD) (t : Fin (cfgM m (ok m)).N) : Vec Ideal S128x1024 .f32 := iblk m (ok m) c 2 t
def B3 (c : Dev nD) (t : Fin (cfgM m (ok m)).N) : Vec Ideal S1x128x1024 .f32 := iblk m (ok m) c 3 t
def B4 (c : Dev nD) (t : Fin (cfgM m (ok m)).N) : Vec Ideal S1x128x1024 .f32 := iblk m (ok m) c 4 t

theorem B1_at (c : Dev nD) (t : Fin (cfgM m (ok m)).N) (y : S128x1024.Idx) (i : S128x1024.Idx) (h0 : (i 0).val = t.val % 1 * 128 + (y 0).val) (h1 : (i 1).val = (y 1).val) :
    B1 m c t y = m ((c : Thread nD τ).loc main_arg2) i := by
  unfold B1
  blk_point [iblk, V, idx m t]

theorem B2_at (c : Dev nD) (t : Fin (cfgM m (ok m)).N) (y : S128x1024.Idx) (i : S128x1024.Idx) (h0 : (i 0).val = t.val % 1 * 128 + (y 0).val) (h1 : (i 1).val = (y 1).val) :
    B2 m c t y = m ((c : Thread nD τ).loc main_arg3) i := by
  unfold B2
  blk_point [iblk, V, idx m t]

theorem B0_at (c : Dev nD) (t : Fin (cfgM m (ok m)).N) (y : S1x128x1024.Idx) :
    B0 m c t y = m ((c : Thread nD τ).loc main_arg1) (Q m t y) := by
  unfold B0 Q
  blk_point [iblk, V, idx m t]

theorem B3_at (c : Dev nD) (t : Fin (cfgM m (ok m)).N) (y : S1x128x1024.Idx) :
    B3 m c t y = m ((c : Thread nD τ).loc main_arg4) (Q m t y) := by
  unfold B3 Q
  blk_point [iblk, V, idx m t]

theorem B4_at (c : Dev nD) (t : Fin (cfgM m (ok m)).N) (y : S1x128x1024.Idx) :
    B4 m c t y = m ((c : Thread nD τ).loc main_arg5) (Q m t y) := by
  unfold B4 Q
  blk_point [iblk, V, idx m t]

/-- The block of the gradient at point `t`. -/
def G (c : Dev nD) (t : Fin (cfgM m (ok m)).N) : Vec Ideal S128x1024 .f32 := k0_pay6 (F := Ideal) (grid0.coords t) (m ((c : Thread nD τ).loc main_arg0) (ix1 0)) (B1 m c t) (B2 m c t)

theorem G_at (c : Dev nD) (t : Fin (cfgM m (ok m)).N) (y : S1x128x1024.Idx) :
    G m c t (ix2 (y 1) (y 2)) = REF5 (m ((c : Thread nD τ).loc main_arg0)) (m ((c : Thread nD τ).loc main_arg2)) (m ((c : Thread nD τ).loc main_arg3)) (Q m t y) := by
  have hy : (y 1).val < 128 := (y 1).isLt
  have ht : t.val < 2 := t.isLt
  have h1 := Q_1 m t y
  have h2 := Q_2 m t y
  unfold G
  rw [sel, halves]
  have e : (Q m t y 1).val / 128 = t.val / 1 := by omega
  have e' : (Q m t y 1).val % 128 = t.val % 1 * 128 + (y 1).val := by omega
  rw [e, ← B1_at m c t (ix2 (y 1) (y 2)) _ e' h2, ← B2_at m c t (ix2 (y 1) (y 2)) _ e' h2]
  unfold Scalar.select
  split_ifs <;> rfl

theorem whole (y : S1x128x1024.Idx) : (ix3 0 (y 1) (y 2) : S1x128x1024.Idx) = y := by
  blk_ext

theorem point5 (c : Dev nD) (t : Fin (cfgM m (ok m)).N) (y : S1x128x1024.Idx) : k0_pay2 (F := Ideal) (G m c t) y = REF5 (m ((c : Thread nD τ).loc main_arg0)) (m ((c : Thread nD τ).loc main_arg2)) (m ((c : Thread nD τ).loc main_arg3)) (Q m t y) := by
  have hG : k0_pay6 (F := Ideal) (grid0.coords t) (m ((c : Thread nD τ).loc main_arg0) (ix1 0)) (B1 m c t) (B2 m c t) = G m c t := rfl
  pointwise [k0_pay2]
  simp only [hG, G_at, B0_at, B3_at, B4_at, whole]

theorem final5 (c : Dev nD) : (dats m (ok m) 0 c).arrAt 5 (cfgM m (ok m)).N = REF5 (m ((c : Thread nD τ).loc main_arg0)) (m ((c : Thread nD τ).loc main_arg2)) (m ((c : Thread nD τ).loc main_arg3)) := by
  refine (dats m (ok m) 0 c).arrAt_eq_of_covers 5 _ (cov5 m) fun t _ y => ?_
  blk_simp
  rw [after0_5]; unfold outsAt0; dsimp only; frame_out
  refine Eq.trans ?_ (point5 m c t y)
  rw [tb m c, word m c]
  unfold G B1 B2
  try erw [(hs0_0 m (ok m) t).read_unread]
  try erw [(hs0_1 m (ok m) t).read_unread]
  try erw [(hs0_2 m (ok m) t).read_unread]
  try erw [(hs0_3 m (ok m) t).read_unread]
  try erw [(hs0_4 m (ok m) t).read_unread]
  try rfl

/-- The reference's result over the arrays that the kernel was given. -/
abbrev REF6 (x0 : IVec Cert.AdamBOutRefIdeal.S1 32) (x1 : FVec Ideal Cert.AdamBOutRefIdeal.S1x256x1024 .f32) (x2 x3 : FVec Ideal Cert.AdamBOutRefIdeal.S128x1024 .f32) (x4 : FVec Ideal Cert.AdamBOutRefIdeal.S1x256x1024 .f32) (x5 : FVec Ideal Cert.AdamBOutRefIdeal.S1x256x1024 .f32) : FVec Ideal Cert.AdamBOutRefIdeal.S1x256x1024 .f32 :=
  val_main_v31 (F := Ideal) x0 x1 x2 x3 x4 x5

theorem point6 (c : Dev nD) (t : Fin (cfgM m (ok m)).N) (y : S1x128x1024.Idx) : k0_pay3 (F := Ideal) (G m c t) (k0_pay7 (B0 m c t)) (k0_pay8 (grid0.coords t) (m ((c : Thread nD τ).loc main_arg0) (ix1 0)) (B1 m c t) (B2 m c t) (B3 m c t)) (k0_pay9 (B4 m c t)) y = REF6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (Q m t y) := by
  have hG : k0_pay6 (F := Ideal) (grid0.coords t) (m ((c : Thread nD τ).loc main_arg0) (ix1 0)) (B1 m c t) (B2 m c t) = G m c t := rfl
  pointwise [k0_pay3, k0_pay1, k0_pay7, k0_pay8, k0_pay9, REF6, val_main_cst, val_main_v8, val_main_v9, val_main_cst_1, val_main_v10, val_main_v11, val_main_v12, val_main_cst_2, val_main_v13, val_main_v14, val_main_v15, val_main_cst_3, val_main_v16, val_main_v17, val_main_v18, val_main_cst_4, val_main_v19, val_main_v20, val_main_cst_5, val_main_v21, val_main_v22, val_main_v23, val_main_cst_6, val_main_v24, val_main_v25, val_main_v26, val_main_cst_7, val_main_v27, val_main_v28, val_main_v29, val_main_cst_8, val_main_v30, val_main_v31]
  simp only [hG, G_at, B0_at, B3_at, B4_at, whole]
  try rfl

theorem final6 (c : Dev nD) : (dats m (ok m) 0 c).arrAt 6 (cfgM m (ok m)).N = REF6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m (ok m) 0 c).arrAt_eq_of_covers 6 _ (cov6 m) fun t _ y => ?_
  blk_simp
  rw [after0_6]; unfold outsAt0; dsimp only; frame_out
  refine Eq.trans ?_ (point6 m c t y)
  rw [tb m c, word m c]
  unfold G B0 B1 B2 B3 B4
  try erw [(hs0_0 m (ok m) t).read_unread]
  try erw [(hs0_1 m (ok m) t).read_unread]
  try erw [(hs0_2 m (ok m) t).read_unread]
  try erw [(hs0_3 m (ok m) t).read_unread]
  try erw [(hs0_4 m (ok m) t).read_unread]
  try rfl

/-- The reference's result over the arrays that the kernel was given. -/
abbrev REF7 (x0 : IVec Cert.AdamBOutRefIdeal.S1 32) (x2 x3 : FVec Ideal Cert.AdamBOutRefIdeal.S128x1024 .f32) (x4 : FVec Ideal Cert.AdamBOutRefIdeal.S1x256x1024 .f32) : FVec Ideal Cert.AdamBOutRefIdeal.S1x256x1024 .f32 :=
  val_main_v12 (F := Ideal) x0 x2 x3 x4

theorem point7 (c : Dev nD) (t : Fin (cfgM m (ok m)).N) (y : S1x128x1024.Idx) : k0_pay4 (F := Ideal) (k0_pay8 (grid0.coords t) (m ((c : Thread nD τ).loc main_arg0) (ix1 0)) (B1 m c t) (B2 m c t) (B3 m c t)) y = REF7 (m ((c : Thread nD τ).loc main_arg0)) (m ((c : Thread nD τ).loc main_arg2)) (m ((c : Thread nD τ).loc main_arg3)) (m ((c : Thread nD τ).loc main_arg4)) (Q m t y) := by
  have hG : k0_pay6 (F := Ideal) (grid0.coords t) (m ((c : Thread nD τ).loc main_arg0) (ix1 0)) (B1 m c t) (B2 m c t) = G m c t := rfl
  pointwise [k0_pay4, k0_pay8, REF7, val_main_cst, val_main_v8, val_main_v9, val_main_cst_1, val_main_v10, val_main_v11, val_main_v12, val_main_cst_2, val_main_v13, val_main_v14, val_main_v15, val_main_cst_3, val_main_v16, val_main_v17, val_main_v18, val_main_cst_4, val_main_v19, val_main_v20, val_main_cst_5, val_main_v21, val_main_v22, val_main_v23, val_main_cst_6, val_main_v24, val_main_v25, val_main_v26, val_main_cst_7, val_main_v27, val_main_v28, val_main_v29, val_main_cst_8, val_main_v30, val_main_v31]
  simp only [hG, G_at, B0_at, B3_at, B4_at, whole]
  try rfl

theorem final7 (c : Dev nD) : (dats m (ok m) 0 c).arrAt 7 (cfgM m (ok m)).N = REF7 (m ((c : Thread nD τ).loc main_arg0)) (m ((c : Thread nD τ).loc main_arg2)) (m ((c : Thread nD τ).loc main_arg3)) (m ((c : Thread nD τ).loc main_arg4)) := by
  refine (dats m (ok m) 0 c).arrAt_eq_of_covers 7 _ (cov7 m) fun t _ y => ?_
  blk_simp
  rw [after0_7]; unfold outsAt0; dsimp only; frame_out
  refine Eq.trans ?_ (point7 m c t y)
  rw [tb m c, word m c]
  unfold  B1 B2 B3
  try erw [(hs0_0 m (ok m) t).read_unread]
  try erw [(hs0_1 m (ok m) t).read_unread]
  try erw [(hs0_2 m (ok m) t).read_unread]
  try erw [(hs0_3 m (ok m) t).read_unread]
  try erw [(hs0_4 m (ok m) t).read_unread]
  try rfl

/-- The reference's result over the arrays that the kernel was given. -/
abbrev REF8 (x0 : IVec Cert.AdamBOutRefIdeal.S1 32) (x2 x3 : FVec Ideal Cert.AdamBOutRefIdeal.S128x1024 .f32) (x5 : FVec Ideal Cert.AdamBOutRefIdeal.S1x256x1024 .f32) : FVec Ideal Cert.AdamBOutRefIdeal.S1x256x1024 .f32 :=
  val_main_v18 (F := Ideal) x0 x2 x3 x5

theorem point8 (c : Dev nD) (t : Fin (cfgM m (ok m)).N) (y : S1x128x1024.Idx) : k0_pay5 (F := Ideal) (G m c t) (k0_pay9 (B4 m c t)) y = REF8 (m ((c : Thread nD τ).loc main_arg0)) (m ((c : Thread nD τ).loc main_arg2)) (m ((c : Thread nD τ).loc main_arg3)) (m ((c : Thread nD τ).loc main_arg5)) (Q m t y) := by
  have hG : k0_pay6 (F := Ideal) (grid0.coords t) (m ((c : Thread nD τ).loc main_arg0) (ix1 0)) (B1 m c t) (B2 m c t) = G m c t := rfl
  pointwise [k0_pay5, k0_pay1, k0_pay9, REF8, val_main_cst, val_main_v8, val_main_v9, val_main_cst_1, val_main_v10, val_main_v11, val_main_v12, val_main_cst_2, val_main_v13, val_main_v14, val_main_v15, val_main_cst_3, val_main_v16, val_main_v17, val_main_v18, val_main_cst_4, val_main_v19, val_main_v20, val_main_cst_5, val_main_v21, val_main_v22, val_main_v23, val_main_cst_6, val_main_v24, val_main_v25, val_main_v26, val_main_cst_7, val_main_v27, val_main_v28, val_main_v29, val_main_cst_8, val_main_v30, val_main_v31]
  simp only [hG, G_at, B0_at, B3_at, B4_at, whole]
  try rfl

theorem final8 (c : Dev nD) : (dats m (ok m) 0 c).arrAt 8 (cfgM m (ok m)).N = REF8 (m ((c : Thread nD τ).loc main_arg0)) (m ((c : Thread nD τ).loc main_arg2)) (m ((c : Thread nD τ).loc main_arg3)) (m ((c : Thread nD τ).loc main_arg5)) := by
  refine (dats m (ok m) 0 c).arrAt_eq_of_covers 8 _ (cov8 m) fun t _ y => ?_
  blk_simp
  rw [after0_8]; unfold outsAt0; dsimp only; frame_out
  refine Eq.trans ?_ (point8 m c t y)
  rw [tb m c, word m c]
  unfold G B1 B2 B4
  try erw [(hs0_0 m (ok m) t).read_unread]
  try erw [(hs0_1 m (ok m) t).read_unread]
  try erw [(hs0_2 m (ok m) t).read_unread]
  try erw [(hs0_3 m (ok m) t).read_unread]
  try erw [(hs0_4 m (ok m) t).read_unread]
  try rfl

end Cert.AdamBOutIdeal.Whole

end
-- ==== Proof.AdamBOutClaim.lean ====
module

public import proofs.«01_k».proof.Defs
public import proofs.«01_k».proof.Proof.Gen.AdamBOut.Frame
public import proofs.«01_k».proof.Proof.Gen.AdamBOutRefIdeal
public import proofs.«01_k».proof.Proof.Gen.AdamBOutRefIdeal.Run
public import Idealize.ShloMosaic.Lib.Claim
public import proofs.«01_k».proof.Proof.AdamBOutValue

@[expose] public section

noncomputable section

namespace Cert.AdamBOutClaim

open Idealize.ShloMosaic Idealize.SL.Sem

theorem frame : Cert.quiescent_AdamBOut (hAdamBOut := Cert.AdamBOut.Gen.facts) :=
  fun m g _ => Cert.AdamBOut.Gen.frame m g trivial

theorem frame_ideal : Cert.quiescent_AdamBOutIdeal (hAdamBOutIdeal := Cert.AdamBOutIdeal.Gen.facts) :=
  fun m g _ => Cert.AdamBOutIdeal.Gen.frame m g trivial

theorem frame_ref : Cert.quiescent_AdamBOutRefIdeal (hAdamBOutRefIdeal := Cert.AdamBOutRefIdeal.Gen.facts) := fun m g _ =>
  (θ_run Cert.AdamBOutRefIdeal.defs _ _).mono (fun r h => ⟨fun c => (h c).2.2.2.2, Idealize.ShloMosaic.sem_eq_zero_of_no_sems (by decide) r.2⟩)
    (Cert.AdamBOutRefIdeal.Value.run (F := Ideal) m g)

section algebraic

open Idealize.ShloMosaic.TcCoe Cert.AdamBOutIdeal Cert.AdamBOutIdeal.Gen Cert.AdamBOutIdeal.Whole

theorem algebraic : Cert.algebraic_AdamBOutIdeal_AdamBOutRefIdeal (hAdamBOutIdeal := Cert.AdamBOutIdeal.Gen.facts)
    (hAdamBOutRefIdeal := Cert.AdamBOutRefIdeal.Gen.facts) := by
  intro m g m' g' hpre hagree
  refine ⟨fun c => REF5 (m ((c : Thread nD τ).loc main_arg0)) (m ((c : Thread nD τ).loc main_arg2)) (m ((c : Thread nD τ).loc main_arg3)),
    fun c => REF6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    fun c => REF7 (m ((c : Thread nD τ).loc main_arg0)) (m ((c : Thread nD τ).loc main_arg2)) (m ((c : Thread nD τ).loc main_arg3)) (m ((c : Thread nD τ).loc main_arg4)),
    fun c => REF8 (m ((c : Thread nD τ).loc main_arg0)) (m ((c : Thread nD τ).loc main_arg2)) (m ((c : Thread nD τ).loc main_arg3)) (m ((c : Thread nD τ).loc main_arg5)), ?_, ?_⟩
  · refine θ_run_mono (θ_run_and (run_main m g trivial) (Cert.AdamBOutIdeal.Gen.frame m g trivial)) ?_
    intro r hr c
    exact ⟨((hr.1 c).1 5).trans (final5 m c), ((hr.1 c).1 6).trans (final6 m c), ((hr.1 c).1 7).trans (final7 m c), ((hr.1 c).1 8).trans (final8 m c), hr.2.1 c⟩
  · refine θ_run_mono (Cert.AdamBOutRefIdeal.Value.run m' g') ?_
    intro r h c
    obtain ⟨e0, e1, e2, e3, e4, e5⟩ := hagree c
    refine ⟨(h c).1.trans ?_, (h c).2.1.trans ?_, (h c).2.2.1.trans ?_, (h c).2.2.2.1.trans ?_, (h c).2.2.2.2⟩
    · refine (Cert.AdamBOutRefIdeal.Read.val_main_v7_eq _ _ _).trans ?_
      rw [e0, e2, e3]
    · refine (Cert.AdamBOutRefIdeal.Read.val_main_v31_eq _ _ _ _ _ _).trans ?_
      rw [e0, e1, e2, e3, e4, e5]
    · refine (Cert.AdamBOutRefIdeal.Read.val_main_v12_eq _ _ _ _).trans ?_
      rw [e0, e2, e3, e4]
    · refine (Cert.AdamBOutRefIdeal.Read.val_main_v18_eq _ _ _ _).trans ?_
      rw [e0, e2, e3, e5]

end algebraic

end Cert.AdamBOutClaim

end
-- ==== Proof.AdamAInValue.lean ====
module

public import proofs.«01_k».proof.Proof.Gen.AdamAInIdeal.Frame
public import proofs.«01_k».proof.Proof.Gen.AdamAInRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AdamAInIdeal.Whole

open Cert.AdamAInIdeal Cert.AdamAInIdeal.Gen Cert.AdamAInRefIdeal.Read

variable (m : (ℓ : Loc nD τ sig) → Buf (Elt Ideal) ℓ)

/-- No window's index map reads the table. -/
theorem ok {F : FTy → Type} [FloatOps F] (m : (ℓ : Loc nD τ sig) → Buf (Elt F) ℓ) : Ok m := trivial

/-- A table to decide the schedule at: the index maps read none. -/
abbrev a0 : (pcfg0 (F := Ideal)).Adm := ⟨fun | 0 => (fun _ => 0#32 : IVec S1 32) | ⟨_ + 1, h⟩ => absurd h (Nat.not_lt.2 (Nat.le_add_left _ _)), trivial⟩

theorem idx : ∀ t : Fin (cfgM m (ok m)).N, ((cfgM m (ok m)).win 0).index t = ![t.val, 0, 0] ∧ ((cfgM m (ok m)).win 1).index t = ![t.val, 0, 0] ∧ ((cfgM m (ok m)).win 2).index t = ![t.val, 0, 0] ∧ ((cfgM m (ok m)).win 3).index t = ![t.val, 0, 0] ∧ ((cfgM m (ok m)).win 4).index t = ![t.val, 0, 0] ∧ ((cfgM m (ok m)).win 5).index t = ![t.val, 0, 0] ∧ ((cfgM m (ok m)).win 6).index t = ![t.val, 0, 0] ∧ ((cfgM m (ok m)).win 7).index t = ![t.val, 0, 0] ∧ ((cfgM m (ok m)).win 8).index t = ![t.val, 0, 0] :=
  (by decide +kernel : ∀ t : Fin (cfg0 a0).N, ((cfg0 a0).win 0).index t = ![t.val, 0, 0] ∧ ((cfg0 a0).win 1).index t = ![t.val, 0, 0] ∧ ((cfg0 a0).win 2).index t = ![t.val, 0, 0] ∧ ((cfg0 a0).win 3).index t = ![t.val, 0, 0] ∧ ((cfg0 a0).win 4).index t = ![t.val, 0, 0] ∧ ((cfg0 a0).win 5).index t = ![t.val, 0, 0] ∧ ((cfg0 a0).win 6).index t = ![t.val, 0, 0] ∧ ((cfg0 a0).win 7).index t = ![t.val, 0, 0] ∧ ((cfg0 a0).win 8).index t = ![t.val, 0, 0])

theorem cov5 : ((cfgM m (ok m)).win 5).Covers := (by decide +kernel : ((cfg0 a0).win 5).Covers)
theorem cov6 : ((cfgM m (ok m)).win 6).Covers := (by decide +kernel : ((cfg0 a0).win 6).Covers)
theorem cov7 : ((cfgM m (ok m)).win 7).Covers := (by decide +kernel : ((cfg0 a0).win 7).Covers)
theorem cov8 : ((cfgM m (ok m)).win 8).Covers := (by decide +kernel : ((cfg0 a0).win 8).Covers)

theorem tb (c : Dev nD) : tbl m 0 = m ((c : Thread nD τ).loc main_arg0) := by
  obtain rfl : c = 0 := Subsingleton.elim _ _
  rfl

theorem word (c : Dev nD) : View.readAt (Elt Ideal) (View.whole main_arg0) (Rect.unit (s := S1) ![0] S1.size inb_S1_S1_0).toLoadRect
    (m ((c : Thread nD τ).loc main_arg0)) (Shape.Idx.first (by decide)) = m ((c : Thread nD τ).loc main_arg0) (ix1 0) := by
  rw [View.readAt_eq_ld]
  refine congrArg (m ((c : Thread nD τ).loc main_arg0)) (funext fun a => ?_)
  fin_cases a; apply Fin.ext
  exact Nat.lt_one_iff.1 (Fin.isLt _)

/-- The gradient put together from its two halves, by columns. -/
abbrev REF5 (x0 : IVec Cert.AdamAInRefIdeal.S1 32) (x2 x3 : FVec Ideal Cert.AdamAInRefIdeal.S512x1540 .f32) : FVec Ideal Cert.AdamAInRefIdeal.S1540x1x1024 .f32 :=
  val_main_v32 (F := Ideal) x0 x2 x3

/-- The gradient by rows. -/
abbrev GRAD (x0 : IVec Cert.AdamAInRefIdeal.S1 32) (x2 x3 : FVec Ideal Cert.AdamAInRefIdeal.S512x1540 .f32) : FVec Ideal Cert.AdamAInRefIdeal.S1x1024x1540 .f32 :=
  val_main_v7 (F := Ideal) x0 x2 x3

theorem lower (x0 : IVec Cert.AdamAInRefIdeal.S1 32) (x2 x3 : FVec Ideal Cert.AdamAInRefIdeal.S512x1540 .f32) (q : Cert.AdamAInRefIdeal.S1x1024x1540.Idx) (h : (q 1).val < 512) : GRAD x0 x2 x3 q
    = Scalar.select (IntOp.cmpi .eq (x0 (ix1 0)) 0#32) (x2 (ix2 ⟨(q 1).val, h⟩ (q 2))) (x3 (ix2 ⟨(q 1).val, h⟩ (q 2))) := by
  pointwise [GRAD, val_main_v0, val_main_v1, val_main_c, val_main_v2, val_main_v3, val_main_c_0, val_main_v4, val_main_v5, val_main_v6, val_main_v7]
  rw [dif_pos h]

theorem upper (x0 : IVec Cert.AdamAInRefIdeal.S1 32) (x2 x3 : FVec Ideal Cert.AdamAInRefIdeal.S512x1540 .f32) (q : Cert.AdamAInRefIdeal.S1x1024x1540.Idx) (h : ¬ (q 1).val < 512) : GRAD x0 x2 x3 q
    = Scalar.select (IntOp.cmpi .eq (x0 (ix1 0)) 0#32) (x3 (ix2 ⟨(q 1).val - 512, by have : (q 1).val < 1024 := (q 1).isLt; omega⟩ (q 2))) (x2 (ix2 ⟨(q 1).val - 512, by have : (q 1).val < 1024 := (q 1).isLt; omega⟩ (q 2))) := by
  pointwise [GRAD, val_main_v0, val_main_v1, val_main_c, val_main_v2, val_main_v3, val_main_c_0, val_main_v4, val_main_v5, val_main_v6, val_main_v7]
  rw [dif_neg h]
  try rw [dif_pos rfl]

/-- Where element `y` of the block at point `t` lies in the array. -/
def Q (t : Fin (cfgM m (ok m)).N) (y : S77x1x1024.Idx) : S1540x1x1024.Idx := (((cfgM m (ok m)).win 5).blk t).view.emb y

theorem Q_0 (t : Fin (cfgM m (ok m)).N) (y : S77x1x1024.Idx) : (Q m t y 0).val = t.val * 77 + (y 0).val := by
  unfold Q; blk_simp [idx m t]

theorem Q_2 (t : Fin (cfgM m (ok m)).N) (y : S77x1x1024.Idx) : (Q m t y 2).val = (y 2).val := by
  unfold Q; blk_simp [idx m t]

/-- The same element by rows. -/
def P (t : Fin (cfgM m (ok m)).N) (y : S77x1x1024.Idx) : S1x1024x1540.Idx := ix3 0 (Q m t y 2) (Q m t y 0)

def B0 (c : Dev nD) (t : Fin (cfgM m (ok m)).N) : Vec Ideal S77x1x1024 .f32 := iblk m (ok m) c 0 t
def B1 (c : Dev nD) (t : Fin (cfgM m (ok m)).N) : Vec Ideal S77x1x512 .f32 := iblk m (ok m) c 1 t
def B2 (c : Dev nD) (t : Fin (cfgM m (ok m)).N) : Vec Ideal S77x1x512 .f32 := iblk m (ok m) c 2 t
def B3 (c : Dev nD) (t : Fin (cfgM m (ok m)).N) : Vec Ideal S77x1x1024 .f32 := iblk m (ok m) c 3 t
def B4 (c : Dev nD) (t : Fin (cfgM m (ok m)).N) : Vec Ideal S77x1x1024 .f32 := iblk m (ok m) c 4 t

theorem V0 (c : Dev nD) (i) : V m c main_v0 i = m ((c : Thread nD τ).loc main_arg1) (ix3 0 (i 2) (i 0)) := by
  entry_read
  pointwise
theorem V2 (c : Dev nD) (i) : V m c main_v2 i = m ((c : Thread nD τ).loc main_arg2) (ix2 (i 2) (i 0)) := by
  entry_read
  pointwise
theorem V4 (c : Dev nD) (i) : V m c main_v4 i = m ((c : Thread nD τ).loc main_arg3) (ix2 (i 2) (i 0)) := by
  entry_read
  pointwise
theorem V5 (c : Dev nD) (i) : V m c main_v5 i = m ((c : Thread nD τ).loc main_arg4) (ix3 0 (i 2) (i 0)) := by
  entry_read
  pointwise
theorem V6 (c : Dev nD) (i) : V m c main_v6 i = m ((c : Thread nD τ).loc main_arg5) (ix3 0 (i 2) (i 0)) := by
  entry_read
  pointwise

theorem B0_at (c : Dev nD) (t : Fin (cfgM m (ok m)).N) (y : S77x1x1024.Idx) : B0 m c t y = m ((c : Thread nD τ).loc main_arg1) (P m t y) := by
  have e : B0 m c t y = V m c main_v0 (Q m t y) := by
    unfold B0 Q
    blk_point [iblk, idx m t]
  rw [e, V0]; rfl
theorem B3_at (c : Dev nD) (t : Fin (cfgM m (ok m)).N) (y : S77x1x1024.Idx) : B3 m c t y = m ((c : Thread nD τ).loc main_arg4) (P m t y) := by
  have e : B3 m c t y = V m c main_v5 (Q m t y) := by
    unfold B3 Q
    blk_point [iblk, idx m t]
  rw [e, V5]; rfl
theorem B4_at (c : Dev nD) (t : Fin (cfgM m (ok m)).N) (y : S77x1x1024.Idx) : B4 m c t y = m ((c : Thread nD τ).loc main_arg5) (P m t y) := by
  have e : B4 m c t y = V m c main_v6 (Q m t y) := by
    unfold B4 Q
    blk_point [iblk, idx m t]
  rw [e, V6]; rfl

theorem B1_at (c : Dev nD) (t : Fin (cfgM m (ok m)).N) (x : S77x1x512.Idx) (i : S1540x1x512.Idx) (h0 : (i 0).val = t.val * 77 + (x 0).val) (h2 : (i 2).val = (x 2).val) :
    B1 m c t x = m ((c : Thread nD τ).loc main_arg2) (ix2 (i 2) (i 0)) := by
  refine Eq.trans ?_ (V2 m c i)
  unfold B1
  blk_point [iblk, idx m t]
theorem B2_at (c : Dev nD) (t : Fin (cfgM m (ok m)).N) (x : S77x1x512.Idx) (i : S1540x1x512.Idx) (h0 : (i 0).val = t.val * 77 + (x 0).val) (h2 : (i 2).val = (x 2).val) :
    B2 m c t x = m ((c : Thread nD τ).loc main_arg3) (ix2 (i 2) (i 0)) := by
  refine Eq.trans ?_ (V4 m c i)
  unfold B2
  blk_point [iblk, idx m t]

/-- The rectangle of a half of the block's columns. -/
abbrev lo : Rect S77x1x1024 := Rect.unit (s := S77x1x1024) ![0, 0, 0] S77x1x512.size inb_S77x1x1024_S77x1x512_0_0_0
abbrev hi : Rect S77x1x1024 := Rect.unit (s := S77x1x1024) ![0, 0, 512] S77x1x512.size inb_S77x1x1024_S77x1x512_0_0_512

/-- The first half of the block's gradient. -/
def G0 (c : Dev nD) (t : Fin (cfgM m (ok m)).N) : Vec Ideal S77x1x512 .f32 := k0_pay4 (F := Ideal) (m ((c : Thread nD τ).loc main_arg0) (ix1 0)) (B1 m c t) (B2 m c t)
/-- The second half. -/
def G1 (c : Dev nD) (t : Fin (cfgM m (ok m)).N) : Vec Ideal S77x1x512 .f32 := k0_pay5 (F := Ideal) (m ((c : Thread nD τ).loc main_arg0) (ix1 0)) (B2 m c t) (B1 m c t)

abbrev GR (c : Dev nD) := GRAD (m ((c : Thread nD τ).loc main_arg0)) (m ((c : Thread nD τ).loc main_arg2)) (m ((c : Thread nD τ).loc main_arg3))

theorem G0_at (c : Dev nD) (t : Fin (cfgM m (ok m)).N) (x : S77x1x512.Idx) : G0 m c t x = GR m c (P m t (lo.emb x)) := by
  have hx : (x 2).val < 512 := (x 2).isLt
  have e2 : (lo.emb x 2).val = (x 2).val := by show 0 + 1 * _ = _; omega
  have e0 : (lo.emb x 0).val = (x 0).val := by show 0 + 1 * _ = _; omega
  have h1 : ((P m t (lo.emb x)) 1).val = (x 2).val := (Q_2 m t _).trans e2
  have h2 : ((P m t (lo.emb x)) 2).val = t.val * 77 + (x 0).val := (Q_0 m t _).trans (by rw [e0])
  unfold GR
  rw [lower _ _ _ _ (h1 ▸ hx)]
  have b1 := B1_at m c t x (ix3 (P m t (lo.emb x) 2) 0 ⟨(P m t (lo.emb x) 1).val, h1 ▸ hx⟩) h2 h1
  have b2 := B2_at m c t x (ix3 (P m t (lo.emb x) 2) 0 ⟨(P m t (lo.emb x) 1).val, h1 ▸ hx⟩) h2 h1
  refine Eq.trans ?_ (congrArg₂ (Scalar.select _) b1 b2)
  unfold G0
  pointwise [k0_pay4]
  try unfold Scalar.select
  try rfl

theorem G1_at (c : Dev nD) (t : Fin (cfgM m (ok m)).N) (x : S77x1x512.Idx) : G1 m c t x = GR m c (P m t (hi.emb x)) := by
  have hx : (x 2).val < 512 := (x 2).isLt
  have e2 : (hi.emb x 2).val = 512 + (x 2).val := by show 512 + 1 * _ = _; omega
  have e0 : (hi.emb x 0).val = (x 0).val := by show 0 + 1 * _ = _; omega
  have h1 : ((P m t (hi.emb x)) 1).val = 512 + (x 2).val := (Q_2 m t _).trans e2
  have h2 : ((P m t (hi.emb x)) 2).val = t.val * 77 + (x 0).val := (Q_0 m t _).trans (by rw [e0])
  unfold GR
  rw [upper _ _ _ _ (by omega)]
  have hb : (P m t (hi.emb x) 1).val - 512 < 512 := by omega
  have h3 : (P m t (hi.emb x) 1).val - 512 = (x 2).val := by omega
  have b1 := B1_at m c t x (ix3 (P m t (hi.emb x) 2) 0 ⟨(P m t (hi.emb x) 1).val - 512, hb⟩) h2 h3
  have b2 := B2_at m c t x (ix3 (P m t (hi.emb x) 2) 0 ⟨(P m t (hi.emb x) 1).val - 512, hb⟩) h2 h3
  refine Eq.trans ?_ (congrArg₂ (Scalar.select _) b2 b1)
  unfold G1
  pointwise [k0_pay5]
  try unfold Scalar.select
  try rfl

/-- A block written in two halves holds what each half holds. -/
theorem halves (G : S77x1x1024.Idx → Ideal .f32) (p q : Vec Ideal S77x1x512 .f32) (hp : ∀ j, p j = G (hi.emb j)) (hq : ∀ j, q j = G (lo.emb j)) (y : S77x1x1024.Idx) :
    View.canon (Val := Elt Ideal) (s := S77x1x1024) (e := .f32) [⟨hi, p⟩, ⟨lo, q⟩] y = G y := by
  refine View.canon_apply_of_pieces (Val := Elt Ideal) (S := S77x1x1024) (e := .f32) G [⟨hi, p⟩, ⟨lo, q⟩] (fun r hr j => ?_) y (View.cover_of_tiledL (s := S77x1x1024) _ S77x1x512.size (by sl_kernel_rfl) y)
  simp only [List.mem_cons, List.mem_nil_iff, or_false] at hr
  rcases hr with rfl | rfl
  · exact hp j
  · exact hq j

set_option maxHeartbeats 2000000 in
theorem lower5 (c : Dev nD) (t : Fin (cfgM m (ok m)).N) (x : S77x1x512.Idx) (w mu nu : Vec Ideal S77x1x512 .f32)
    (l0 : w x = (m ((c : Thread nD τ).loc main_arg1)) (P m t (lo.emb x))) (l3 : mu x = (m ((c : Thread nD τ).loc main_arg4)) (P m t (lo.emb x))) (l4 : nu x = (m ((c : Thread nD τ).loc main_arg5)) (P m t (lo.emb x))) :
    (G0 m c t : FVec Ideal S77x1x512 .f32) x = REF5 (m ((c : Thread nD τ).loc main_arg0)) (m ((c : Thread nD τ).loc main_arg2)) (m ((c : Thread nD τ).loc main_arg3)) (Q m t (lo.emb x)) := by
  have hG : k0_pay4 (F := Ideal) (m ((c : Thread nD τ).loc main_arg0) (ix1 0)) (B1 m c t) (B2 m c t) = G0 m c t := rfl
  pointwise [k0_pay1, k0_pay2, k0_pay3, k0_pay6, k0_pay7, k0_pay8, k0_pay9, k0_pay10, k0_pay11, k0_pay12, k0_pay13, k0_pay14, k0_pay15, REF5, val_main_cst, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst_1, val_main_cst_2, val_main_cst_3, val_main_cst_4, val_main_cst_5, val_main_cst_6, val_main_cst_7, val_main_cst_8]
  simp only [hG, G0_at, l0, l3, l4]
  try rfl

set_option maxHeartbeats 2000000 in
theorem upper5 (c : Dev nD) (t : Fin (cfgM m (ok m)).N) (x : S77x1x512.Idx) (w mu nu : Vec Ideal S77x1x512 .f32)
    (l0 : w x = (m ((c : Thread nD τ).loc main_arg1)) (P m t (hi.emb x))) (l3 : mu x = (m ((c : Thread nD τ).loc main_arg4)) (P m t (hi.emb x))) (l4 : nu x = (m ((c : Thread nD τ).loc main_arg5)) (P m t (hi.emb x))) :
    (G1 m c t : FVec Ideal S77x1x512 .f32) x = REF5 (m ((c : Thread nD τ).loc main_arg0)) (m ((c : Thread nD τ).loc main_arg2)) (m ((c : Thread nD τ).loc main_arg3)) (Q m t (hi.emb x)) := by
  pointwise [k0_pay1, k0_pay2, k0_pay3, k0_pay6, k0_pay7, k0_pay8, k0_pay9, k0_pay10, k0_pay11, k0_pay12, k0_pay13, k0_pay14, k0_pay15, REF5, val_main_cst, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst_1, val_main_cst_2, val_main_cst_3, val_main_cst_4, val_main_cst_5, val_main_cst_6, val_main_cst_7, val_main_cst_8]
  simp only [G1_at, l0, l3, l4]
  try rfl

theorem final5 (c : Dev nD) : (dats m (ok m) 0 c).arrAt 5 (cfgM m (ok m)).N = REF5 (m ((c : Thread nD τ).loc main_arg0)) (m ((c : Thread nD τ).loc main_arg2)) (m ((c : Thread nD τ).loc main_arg3)) := by
  refine (dats m (ok m) 0 c).arrAt_eq_of_covers 5 _ (cov5 m) fun t _ y => ?_
  blk_simp
  rw [after0_5]; unfold outsAt0; dsimp only; frame_out
  try erw [(hs0_0 m (ok m) t).read_unread]
  try erw [(hs0_1 m (ok m) t).read_unread]
  try erw [(hs0_2 m (ok m) t).read_unread]
  try erw [(hs0_3 m (ok m) t).read_unread]
  try erw [(hs0_4 m (ok m) t).read_unread]
  rw [tb m c, word m c]
  exact halves (fun y => REF5 (m ((c : Thread nD τ).loc main_arg0)) (m ((c : Thread nD τ).loc main_arg2)) (m ((c : Thread nD τ).loc main_arg3)) (Q m t y)) _ _ (fun j => upper5 m c t j (View.ld (B0 m c t) hi) (View.ld (B3 m c t) hi) (View.ld (B4 m c t) hi) (B0_at m c t _) (B3_at m c t _) (B4_at m c t _)) (fun j => lower5 m c t j (View.ld (B0 m c t) lo) (View.ld (B3 m c t) lo) (View.ld (B4 m c t) lo) (B0_at m c t _) (B3_at m c t _) (B4_at m c t _)) y

/-- The reference's result over the arrays that the kernel was given. -/
abbrev REF6 (x0 : IVec Cert.AdamAInRefIdeal.S1 32) (x1 : FVec Ideal Cert.AdamAInRefIdeal.S1x1024x1540 .f32) (x2 : FVec Ideal Cert.AdamAInRefIdeal.S512x1540 .f32) (x3 : FVec Ideal Cert.AdamAInRefIdeal.S512x1540 .f32) (x4 : FVec Ideal Cert.AdamAInRefIdeal.S1x1024x1540 .f32) (x5 : FVec Ideal Cert.AdamAInRefIdeal.S1x1024x1540 .f32) : FVec Ideal Cert.AdamAInRefIdeal.S1540x1x1024 .f32 :=
  val_main_v33 (F := Ideal) x0 x1 x2 x3 x4 x5

set_option maxHeartbeats 2000000 in
theorem lower6 (c : Dev nD) (t : Fin (cfgM m (ok m)).N) (x : S77x1x512.Idx) (w mu nu : Vec Ideal S77x1x512 .f32)
    (l0 : w x = (m ((c : Thread nD τ).loc main_arg1)) (P m t (lo.emb x))) (l3 : mu x = (m ((c : Thread nD τ).loc main_arg4)) (P m t (lo.emb x))) (l4 : nu x = (m ((c : Thread nD τ).loc main_arg5)) (P m t (lo.emb x))) :
    (k0_pay11 (F := Ideal) (k0_pay6 w) (k0_pay7 (m ((c : Thread nD τ).loc main_arg0) (ix1 0)) (B1 m c t) (B2 m c t) mu) (k0_pay8 nu) (k0_pay9 (m ((c : Thread nD τ).loc main_arg0) (ix1 0)) (B1 m c t) (B2 m c t)) : FVec Ideal S77x1x512 .f32) x = REF6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (Q m t (lo.emb x)) := by
  have hG : k0_pay4 (F := Ideal) (m ((c : Thread nD τ).loc main_arg0) (ix1 0)) (B1 m c t) (B2 m c t) = G0 m c t := rfl
  pointwise [k0_pay1, k0_pay2, k0_pay3, k0_pay6, k0_pay7, k0_pay8, k0_pay9, k0_pay10, k0_pay11, k0_pay12, k0_pay13, k0_pay14, k0_pay15, REF6, val_main_cst, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst_1, val_main_cst_2, val_main_cst_3, val_main_cst_4, val_main_cst_5, val_main_cst_6, val_main_cst_7, val_main_cst_8]
  simp only [hG, G0_at, l0, l3, l4]
  try rfl

set_option maxHeartbeats 2000000 in
theorem upper6 (c : Dev nD) (t : Fin (cfgM m (ok m)).N) (x : S77x1x512.Idx) (w mu nu : Vec Ideal S77x1x512 .f32)
    (l0 : w x = (m ((c : Thread nD τ).loc main_arg1)) (P m t (hi.emb x))) (l3 : mu x = (m ((c : Thread nD τ).loc main_arg4)) (P m t (hi.emb x))) (l4 : nu x = (m ((c : Thread nD τ).loc main_arg5)) (P m t (hi.emb x))) :
    (k0_pay3 (F := Ideal) (G1 m c t) (k0_pay12 w) (k0_pay13 nu) (k0_pay14 mu) (k0_pay15 (G1 m c t)) : FVec Ideal S77x1x512 .f32) x = REF6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (Q m t (hi.emb x)) := by
  pointwise [k0_pay1, k0_pay2, k0_pay3, k0_pay6, k0_pay7, k0_pay8, k0_pay9, k0_pay10, k0_pay11, k0_pay12, k0_pay13, k0_pay14, k0_pay15, REF6, val_main_cst, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst_1, val_main_cst_2, val_main_cst_3, val_main_cst_4, val_main_cst_5, val_main_cst_6, val_main_cst_7, val_main_cst_8]
  simp only [G1_at, l0, l3, l4]
  try rfl

theorem final6 (c : Dev nD) : (dats m (ok m) 0 c).arrAt 6 (cfgM m (ok m)).N = REF6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m (ok m) 0 c).arrAt_eq_of_covers 6 _ (cov6 m) fun t _ y => ?_
  blk_simp
  rw [after0_6]; unfold outsAt0; dsimp only; frame_out
  try erw [(hs0_0 m (ok m) t).read_unread]
  try erw [(hs0_1 m (ok m) t).read_unread]
  try erw [(hs0_2 m (ok m) t).read_unread]
  try erw [(hs0_3 m (ok m) t).read_unread]
  try erw [(hs0_4 m (ok m) t).read_unread]
  rw [tb m c, word m c]
  exact halves (fun y => REF6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (Q m t y)) _ _ (fun j => upper6 m c t j (View.ld (B0 m c t) hi) (View.ld (B3 m c t) hi) (View.ld (B4 m c t) hi) (B0_at m c t _) (B3_at m c t _) (B4_at m c t _)) (fun j => lower6 m c t j (View.ld (B0 m c t) lo) (View.ld (B3 m c t) lo) (View.ld (B4 m c t) lo) (B0_at m c t _) (B3_at m c t _) (B4_at m c t _)) y

/-- The reference's result over the arrays that the kernel was given. -/
abbrev REF7 (x0 : IVec Cert.AdamAInRefIdeal.S1 32) (x2 : FVec Ideal Cert.AdamAInRefIdeal.S512x1540 .f32) (x3 : FVec Ideal Cert.AdamAInRefIdeal.S512x1540 .f32) (x4 : FVec Ideal Cert.AdamAInRefIdeal.S1x1024x1540 .f32) : FVec Ideal Cert.AdamAInRefIdeal.S1540x1x1024 .f32 :=
  val_main_v34 (F := Ideal) x0 x2 x3 x4

set_option maxHeartbeats 2000000 in
theorem lower7 (c : Dev nD) (t : Fin (cfgM m (ok m)).N) (x : S77x1x512.Idx) (w mu nu : Vec Ideal S77x1x512 .f32)
    (l0 : w x = (m ((c : Thread nD τ).loc main_arg1)) (P m t (lo.emb x))) (l3 : mu x = (m ((c : Thread nD τ).loc main_arg4)) (P m t (lo.emb x))) (l4 : nu x = (m ((c : Thread nD τ).loc main_arg5)) (P m t (lo.emb x))) :
    (k0_pay7 (F := Ideal) (m ((c : Thread nD τ).loc main_arg0) (ix1 0)) (B1 m c t) (B2 m c t) mu : FVec Ideal S77x1x512 .f32) x = REF7 (m ((c : Thread nD τ).loc main_arg0)) (m ((c : Thread nD τ).loc main_arg2)) (m ((c : Thread nD τ).loc main_arg3)) (m ((c : Thread nD τ).loc main_arg4)) (Q m t (lo.emb x)) := by
  have hG : k0_pay4 (F := Ideal) (m ((c : Thread nD τ).loc main_arg0) (ix1 0)) (B1 m c t) (B2 m c t) = G0 m c t := rfl
  pointwise [k0_pay1, k0_pay2, k0_pay3, k0_pay6, k0_pay7, k0_pay8, k0_pay9, k0_pay10, k0_pay11, k0_pay12, k0_pay13, k0_pay14, k0_pay15, REF7, val_main_cst, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst_1, val_main_cst_2, val_main_cst_3, val_main_cst_4, val_main_cst_5, val_main_cst_6, val_main_cst_7, val_main_cst_8]
  simp only [hG, G0_at, l0, l3, l4]
  try rfl

set_option maxHeartbeats 2000000 in
theorem upper7 (c : Dev nD) (t : Fin (cfgM m (ok m)).N) (x : S77x1x512.Idx) (w mu nu : Vec Ideal S77x1x512 .f32)
    (l0 : w x = (m ((c : Thread nD τ).loc main_arg1)) (P m t (hi.emb x))) (l3 : mu x = (m ((c : Thread nD τ).loc main_arg4)) (P m t (hi.emb x))) (l4 : nu x = (m ((c : Thread nD τ).loc main_arg5)) (P m t (hi.emb x))) :
    (k0_pay1 (F := Ideal) (k0_pay14 mu) (k0_pay15 (G1 m c t)) : FVec Ideal S77x1x512 .f32) x = REF7 (m ((c : Thread nD τ).loc main_arg0)) (m ((c : Thread nD τ).loc main_arg2)) (m ((c : Thread nD τ).loc main_arg3)) (m ((c : Thread nD τ).loc main_arg4)) (Q m t (hi.emb x)) := by
  pointwise [k0_pay1, k0_pay2, k0_pay3, k0_pay6, k0_pay7, k0_pay8, k0_pay9, k0_pay10, k0_pay11, k0_pay12, k0_pay13, k0_pay14, k0_pay15, REF7, val_main_cst, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst_1, val_main_cst_2, val_main_cst_3, val_main_cst_4, val_main_cst_5, val_main_cst_6, val_main_cst_7, val_main_cst_8]
  simp only [G1_at, l0, l3, l4]
  try rfl

theorem final7 (c : Dev nD) : (dats m (ok m) 0 c).arrAt 7 (cfgM m (ok m)).N = REF7 (m ((c : Thread nD τ).loc main_arg0)) (m ((c : Thread nD τ).loc main_arg2)) (m ((c : Thread nD τ).loc main_arg3)) (m ((c : Thread nD τ).loc main_arg4)) := by
  refine (dats m (ok m) 0 c).arrAt_eq_of_covers 7 _ (cov7 m) fun t _ y => ?_
  blk_simp
  rw [after0_7]; unfold outsAt0; dsimp only; frame_out
  try erw [(hs0_0 m (ok m) t).read_unread]
  try erw [(hs0_1 m (ok m) t).read_unread]
  try erw [(hs0_2 m (ok m) t).read_unread]
  try erw [(hs0_3 m (ok m) t).read_unread]
  try erw [(hs0_4 m (ok m) t).read_unread]
  rw [tb m c, word m c]
  exact halves (fun y => REF7 (m ((c : Thread nD τ).loc main_arg0)) (m ((c : Thread nD τ).loc main_arg2)) (m ((c : Thread nD τ).loc main_arg3)) (m ((c : Thread nD τ).loc main_arg4)) (Q m t y)) _ _ (fun j => upper7 m c t j (View.ld (B0 m c t) hi) (View.ld (B3 m c t) hi) (View.ld (B4 m c t) hi) (B0_at m c t _) (B3_at m c t _) (B4_at m c t _)) (fun j => lower7 m c t j (View.ld (B0 m c t) lo) (View.ld (B3 m c t) lo) (View.ld (B4 m c t) lo) (B0_at m c t _) (B3_at m c t _) (B4_at m c t _)) y

/-- The reference's result over the arrays that the kernel was given. -/
abbrev REF8 (x0 : IVec Cert.AdamAInRefIdeal.S1 32) (x2 : FVec Ideal Cert.AdamAInRefIdeal.S512x1540 .f32) (x3 : FVec Ideal Cert.AdamAInRefIdeal.S512x1540 .f32) (x5 : FVec Ideal Cert.AdamAInRefIdeal.S1x1024x1540 .f32) : FVec Ideal Cert.AdamAInRefIdeal.S1540x1x1024 .f32 :=
  val_main_v35 (F := Ideal) x0 x2 x3 x5

set_option maxHeartbeats 2000000 in
theorem lower8 (c : Dev nD) (t : Fin (cfgM m (ok m)).N) (x : S77x1x512.Idx) (w mu nu : Vec Ideal S77x1x512 .f32)
    (l0 : w x = (m ((c : Thread nD τ).loc main_arg1)) (P m t (lo.emb x))) (l3 : mu x = (m ((c : Thread nD τ).loc main_arg4)) (P m t (lo.emb x))) (l4 : nu x = (m ((c : Thread nD τ).loc main_arg5)) (P m t (lo.emb x))) :
    (k0_pay10 (F := Ideal) (k0_pay8 nu) (k0_pay9 (m ((c : Thread nD τ).loc main_arg0) (ix1 0)) (B1 m c t) (B2 m c t)) : FVec Ideal S77x1x512 .f32) x = REF8 (m ((c : Thread nD τ).loc main_arg0)) (m ((c : Thread nD τ).loc main_arg2)) (m ((c : Thread nD τ).loc main_arg3)) (m ((c : Thread nD τ).loc main_arg5)) (Q m t (lo.emb x)) := by
  have hG : k0_pay4 (F := Ideal) (m ((c : Thread nD τ).loc main_arg0) (ix1 0)) (B1 m c t) (B2 m c t) = G0 m c t := rfl
  pointwise [k0_pay1, k0_pay2, k0_pay3, k0_pay6, k0_pay7, k0_pay8, k0_pay9, k0_pay10, k0_pay11, k0_pay12, k0_pay13, k0_pay14, k0_pay15, REF8, val_main_cst, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst_1, val_main_cst_2, val_main_cst_3, val_main_cst_4, val_main_cst_5, val_main_cst_6, val_main_cst_7, val_main_cst_8]
  simp only [hG, G0_at, l0, l3, l4]
  try rfl

set_option maxHeartbeats 2000000 in
theorem upper8 (c : Dev nD) (t : Fin (cfgM m (ok m)).N) (x : S77x1x512.Idx) (w mu nu : Vec Ideal S77x1x512 .f32)
    (l0 : w x = (m ((c : Thread nD τ).loc main_arg1)) (P m t (hi.emb x))) (l3 : mu x = (m ((c : Thread nD τ).loc main_arg4)) (P m t (hi.emb x))) (l4 : nu x = (m ((c : Thread nD τ).loc main_arg5)) (P m t (hi.emb x))) :
    (k0_pay2 (F := Ideal) (G1 m c t) (k0_pay13 nu) : FVec Ideal S77x1x512 .f32) x = REF8 (m ((c : Thread nD τ).loc main_arg0)) (m ((c : Thread nD τ).loc main_arg2)) (m ((c : Thread nD τ).loc main_arg3)) (m ((c : Thread nD τ).loc main_arg5)) (Q m t (hi.emb x)) := by
  pointwise [k0_pay1, k0_pay2, k0_pay3, k0_pay6, k0_pay7, k0_pay8, k0_pay9, k0_pay10, k0_pay11, k0_pay12, k0_pay13, k0_pay14, k0_pay15, REF8, val_main_cst, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst_1, val_main_cst_2, val_main_cst_3, val_main_cst_4, val_main_cst_5, val_main_cst_6, val_main_cst_7, val_main_cst_8]
  simp only [G1_at, l0, l3, l4]
  try rfl

theorem final8 (c : Dev nD) : (dats m (ok m) 0 c).arrAt 8 (cfgM m (ok m)).N = REF8 (m ((c : Thread nD τ).loc main_arg0)) (m ((c : Thread nD τ).loc main_arg2)) (m ((c : Thread nD τ).loc main_arg3)) (m ((c : Thread nD τ).loc main_arg5)) := by
  refine (dats m (ok m) 0 c).arrAt_eq_of_covers 8 _ (cov8 m) fun t _ y => ?_
  blk_simp
  rw [after0_8]; unfold outsAt0; dsimp only; frame_out
  try erw [(hs0_0 m (ok m) t).read_unread]
  try erw [(hs0_1 m (ok m) t).read_unread]
  try erw [(hs0_2 m (ok m) t).read_unread]
  try erw [(hs0_3 m (ok m) t).read_unread]
  try erw [(hs0_4 m (ok m) t).read_unread]
  rw [tb m c, word m c]
  exact halves (fun y => REF8 (m ((c : Thread nD τ).loc main_arg0)) (m ((c : Thread nD τ).loc main_arg2)) (m ((c : Thread nD τ).loc main_arg3)) (m ((c : Thread nD τ).loc main_arg5)) (Q m t y)) _ _ (fun j => upper8 m c t j (View.ld (B0 m c t) hi) (View.ld (B3 m c t) hi) (View.ld (B4 m c t) hi) (B0_at m c t _) (B3_at m c t _) (B4_at m c t _)) (fun j => lower8 m c t j (View.ld (B0 m c t) lo) (View.ld (B3 m c t) lo) (View.ld (B4 m c t) lo) (B0_at m c t _) (B3_at m c t _) (B4_at m c t _)) y

end Cert.AdamAInIdeal.Whole

end
-- ==== Proof.AdamAInClaim.lean ====
module

public import proofs.«01_k».proof.Defs
public import proofs.«01_k».proof.Proof.Gen.AdamAIn.Frame
public import proofs.«01_k».proof.Proof.Gen.AdamAInRefIdeal
public import proofs.«01_k».proof.Proof.Gen.AdamAInRefIdeal.Run
public import Idealize.ShloMosaic.Lib.Claim
public import proofs.«01_k».proof.Proof.AdamAInValue

@[expose] public section

noncomputable section

namespace Cert.AdamAInClaim

open Idealize.ShloMosaic Idealize.SL.Sem

theorem frame : Cert.quiescent_AdamAIn (hAdamAIn := Cert.AdamAIn.Gen.facts) :=
  fun m g _ => Cert.AdamAIn.Gen.frame m g trivial

theorem frame_ideal : Cert.quiescent_AdamAInIdeal (hAdamAInIdeal := Cert.AdamAInIdeal.Gen.facts) :=
  fun m g _ => Cert.AdamAInIdeal.Gen.frame m g trivial

theorem frame_ref : Cert.quiescent_AdamAInRefIdeal (hAdamAInRefIdeal := Cert.AdamAInRefIdeal.Gen.facts) := fun m g _ =>
  (θ_run Cert.AdamAInRefIdeal.defs _ _).mono (fun r h => ⟨fun c => (h c).2.2.2.2, Idealize.ShloMosaic.sem_eq_zero_of_no_sems (by decide) r.2⟩)
    (Cert.AdamAInRefIdeal.Value.run (F := Ideal) m g)

section algebraic

open Idealize.ShloMosaic.TcCoe Cert.AdamAInIdeal Cert.AdamAInIdeal.Gen Cert.AdamAInIdeal.Whole

theorem algebraic : Cert.algebraic_AdamAInIdeal_AdamAInRefIdeal (hAdamAInIdeal := Cert.AdamAInIdeal.Gen.facts)
    (hAdamAInRefIdeal := Cert.AdamAInRefIdeal.Gen.facts) := by
  intro m g m' g' hpre hagree
  refine ⟨fun c => REF5 (m ((c : Thread nD τ).loc main_arg0)) (m ((c : Thread nD τ).loc main_arg2)) (m ((c : Thread nD τ).loc main_arg3)),
    fun c => REF6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    fun c => REF7 (m ((c : Thread nD τ).loc main_arg0)) (m ((c : Thread nD τ).loc main_arg2)) (m ((c : Thread nD τ).loc main_arg3)) (m ((c : Thread nD τ).loc main_arg4)),
    fun c => REF8 (m ((c : Thread nD τ).loc main_arg0)) (m ((c : Thread nD τ).loc main_arg2)) (m ((c : Thread nD τ).loc main_arg3)) (m ((c : Thread nD τ).loc main_arg5)), ?_, ?_⟩
  · refine θ_run_mono (θ_run_and (run_main m g trivial) (Cert.AdamAInIdeal.Gen.frame m g trivial)) ?_
    intro r hr c
    exact ⟨((hr.1 c).1 5).trans (final5 m c), ((hr.1 c).1 6).trans (final6 m c), ((hr.1 c).1 7).trans (final7 m c), ((hr.1 c).1 8).trans (final8 m c), hr.2.1 c⟩
  · refine θ_run_mono (Cert.AdamAInRefIdeal.Value.run m' g') ?_
    intro r h c
    obtain ⟨e0, e1, e2, e3, e4, e5⟩ := hagree c
    refine ⟨(h c).1.trans ?_, (h c).2.1.trans ?_, (h c).2.2.1.trans ?_, (h c).2.2.2.1.trans ?_, (h c).2.2.2.2⟩
    · refine (Cert.AdamAInRefIdeal.Read.val_main_v32_eq _ _ _).trans ?_
      rw [e0, e2, e3]
    · refine (Cert.AdamAInRefIdeal.Read.val_main_v33_eq _ _ _ _ _ _).trans ?_
      rw [e0, e1, e2, e3, e4, e5]
    · refine (Cert.AdamAInRefIdeal.Read.val_main_v34_eq _ _ _ _).trans ?_
      rw [e0, e2, e3, e4]
    · refine (Cert.AdamAInRefIdeal.Read.val_main_v35_eq _ _ _ _).trans ?_
      rw [e0, e2, e3, e5]

end algebraic

end Cert.AdamAInClaim

end
-- ==== Proof.AttnBwd2Pay.lean ====
module

public import proofs.«01_k».proof.Proof.Gen.AttnBwd2Ideal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnBwd2Ideal.Whole

open Cert.AttnBwd2Ideal Cert.AttnBwd2Ideal.Gen

/-! ## One stream's gradients from the rows read -/

/-- The gradient of the keys of one stream. -/
def DK (w : BitVec 32) (q k v d : Vec Ideal S1x128x128 .bf16) (l e : Vec Ideal S1x128x8 .f32) : FVec Ideal S128x128 .f32 :=
  k0_pay114 k0_pay1 (k0_pay4 q) (k0_pay13 w l) (k0_pay14 w e) (k0_pay9 (k0_pay4 q) k) (k0_pay10 (k0_pay5 d) v)

/-- The gradient of its queries. -/
def DQ (w : BitVec 32) (q k v d : Vec Ideal S1x128x128 .bf16) (l e : Vec Ideal S1x128x8 .f32) : FVec Ideal S128x128 .f32 :=
  k0_pay113 k0_pay1 (k0_pay13 w l) (k0_pay14 w e) (k0_pay9 (k0_pay4 q) k) (k0_pay10 (k0_pay5 d) v) k

/-- The gradient of its values. -/
def DV (w : BitVec 32) (q k d : Vec Ideal S1x128x128 .bf16) (l : Vec Ideal S1x128x8 .f32) : FVec Ideal S128x128 .f32 :=
  k0_pay115 k0_pay1 (k0_pay5 d) (k0_pay13 w l) (k0_pay9 (k0_pay4 q) k)

/-! ## Blocks of a stream -/

theorem inb3 (n : Nat) (h : n < 32) : ∀ a, (![n, 0, 0] : Fin 3 → Nat) a + S1x128x128.size a ≤ S32x128x128.size a := by
  intro a; fin_cases a
  · exact h
  · exact le_refl _
  · exact le_refl _
theorem inb8 (n : Nat) (h : n < 32) : ∀ a, (![n, 0, 0] : Fin 3 → Nat) a + S1x128x8.size a ≤ S32x128x8.size a := by
  intro a; fin_cases a
  · exact h
  · exact le_refl _
  · exact le_refl _

/-- The rectangle of stream `n`. -/
abbrev R3 (n : Nat) (h : n < 32) : Rect S32x128x128 := Rect.unit (s := S32x128x128) ![n, 0, 0] S1x128x128.size (inb3 n h)
abbrev R8 (n : Nat) (h : n < 32) : Rect S32x128x8 := Rect.unit (s := S32x128x8) ![n, 0, 0] S1x128x8.size (inb8 n h)

theorem mem3 (n : Nat) (h : n < 32) (y : S32x128x128.Idx) : y ∈ (R3 n h).set ↔ (y 0).val = n := by
  rw [Rect.mem_set_unit]
  constructor
  · intro g
    have g0 := g 0
    have a : n ≤ (y 0).val := g0.1
    have b : (y 0).val < n + 1 := g0.2
    omega
  · intro g a
    fin_cases a
    · show n ≤ (y 0).val ∧ (y 0).val < n + 1
      omega
    · have : (y 1).val < 128 := (y 1).isLt
      show 0 ≤ (y 1).val ∧ (y 1).val < 0 + 128
      omega
    · have : (y 2).val < 128 := (y 2).isLt
      show 0 ≤ (y 2).val ∧ (y 2).val < 0 + 128
      omega

/-- Writing stream `n` after the streams before it. -/
theorem put_step {e : EltTy} (T : S32x128x128.Idx → Elt Ideal e) (L : List (View.Piece (Elt Ideal) S32x128x128 e)) (n : Nat) (h : n < 32)
    (p : (R3 n h).shape.Idx → Elt Ideal e) (hp : ∀ x, p x = T ((R3 n h).emb x))
    (hL : ∀ y : S32x128x128.Idx, (y 0).val < n → View.canon L y = T y) (y : S32x128x128.Idx) (hy : (y 0).val < n + 1) :
    View.canon (⟨R3 n h, p⟩ :: L) y = T y := by
  by_cases hm : y ∈ (R3 n h).set
  · obtain ⟨x, rfl⟩ := (R3 n h).exists_idx_of_mem hm
    exact (View.canon_cons_emb (R3 n h) p L x).trans (hp x)
  · refine (View.canon_cons_of_not_mem (⟨R3 n h, p⟩ : View.Piece (Elt Ideal) S32x128x128 e) L hm).trans ?_
    rw [mem3] at hm
    exact hL y (by omega)

/-- The scratch after the streams before `n`: what they add, and zero. -/
def Acc (T : S32x128x128.Idx → EReal) (L : List (View.Piece (Elt Ideal) S32x128x128 .f32)) (n : Nat) : Prop :=
  ∀ y : S32x128x128.Idx, View.canon L y = if (y 0).val < n then T y else 0

theorem acc_zero (T) (w : Vec Ideal S32x128x128 .f32) (hw : ∀ y, w y = 0) (h : ∀ a, (![0, 0, 0] : Fin 3 → Nat) a + S32x128x128.size a ≤ S32x128x128.size a) :
    Acc T [⟨Rect.unit (s := S32x128x128) ![0, 0, 0] S32x128x128.size h, w⟩] 0 := by
  intro y
  have hy : y ∈ (Rect.unit (s := S32x128x128) ![0, 0, 0] S32x128x128.size h).set := by
    rw [Rect.mem_set_unit]
    intro a
    have := (y a).isLt
    fin_cases a <;> simp <;> exact this
  obtain ⟨x, hx⟩ := (Rect.unit (s := S32x128x128) ![0, 0, 0] S32x128x128.size h).exists_idx_of_mem hy
  rw [← hx]
  refine (View.canon_cons_emb (Rect.unit (s := S32x128x128) ![0, 0, 0] S32x128x128.size h) w [] x).trans ?_
  rw [hw, if_neg (Nat.not_lt_zero _)]

/-- Adding stream `n`'s share. -/
theorem acc_step {sig' : RefSig} {κ : Kind} {sp : Space} (T) (v : View sig' κ sp S32x128x128 .f32) (L : List (View.Piece (Elt Ideal) S32x128x128 .f32)) (n : Nat) (h : n < 32)
    (D : FVec Ideal S128x128 .f32) (hD : ∀ x : S1x128x128.Idx, D (ix2 (x 1) (x 2)) = T ((R3 n h).emb x)) (hL : Acc T L n) :
    Acc T (⟨R3 n h, k0_pay492 (F := Ideal) D (v.readCov L (R3 n h).toLoadRect)⟩ :: L) (n + 1) := by
  intro y
  by_cases hm : y ∈ (R3 n h).set
  · obtain ⟨x, rfl⟩ := (R3 n h).exists_idx_of_mem hm
    have h0 : ((R3 n h).emb x 0).val = n := (mem3 n h _).1 hm
    have h0' : ((R3 n h).idx x 0).val = n := h0
    rw [if_pos (by omega)]
    refine (View.canon_cons_emb (R3 n h) _ L x).trans ?_
    rw [View.readCov_eq_canon']
    generalize hz : (fun j => View.canon L ((R3 n h).toLoadRect.idx j)) = z
    have ez : ∀ j : S1x128x128.Idx, z j = 0 := by
      intro j
      rw [← hz]
      have hj : ((R3 n h).emb j 0).val = n := (mem3 n h _).1 ((R3 n h).idx_mem j)
      exact (hL ((R3 n h).emb j)).trans (if_neg (by omega))
    refine Eq.trans ?_ (hD x)
    have key : ∀ z : Vec Ideal S1x128x128 .f32, (∀ j, z j = 0) → k0_pay492 (F := Ideal) D z x = D (ix2 (x 1) (x 2)) := by
      intro z ez
      pointwise [k0_pay492]
      rw [ez]
      exact zero_add _
    exact key z ez
  · refine (View.canon_cons_of_not_mem (⟨R3 n h, k0_pay492 (F := Ideal) D (v.readCov L (R3 n h).toLoadRect)⟩ : View.Piece (Elt Ideal) S32x128x128 .f32) L hm).trans ?_
    rw [hL y]
    rw [mem3] at hm
    by_cases g : (y 0).val < n
    · rw [if_pos g, if_pos (by omega)]
    · rw [if_neg g, if_neg (by omega)]

section run

variable (c : Dev nD) (i : grid0.Coords) (arg2 : Memref sig .tc .vmem S32x128x128 .bf16) (harg2 : arg2.IsWhole) (arg3 : Memref sig .tc .vmem S32x128x128 .bf16) (harg3 : arg3.IsWhole) (arg4 : Memref sig .tc .vmem S32x128x128 .bf16) (harg4 : arg4.IsWhole) (arg5 : Memref sig .tc .vmem S32x128x128 .bf16) (harg5 : arg5.IsWhole) (arg6 : Memref sig .tc .vmem S32x128x8 .f32) (harg6 : arg6.IsWhole) (arg7 : Memref sig .tc .vmem S32x128x8 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S32x128x128 .bf16) (harg10 : arg10.IsWhole) (arg11 : Memref sig .tc .vmem S32x128x128 .f32) (harg11 : arg11.IsWhole) (arg12 : Memref sig .tc .vmem S32x128x128 .f32) (harg12 : arg12.IsWhole)
    (x0 : Vec Ideal S32x128x128 .bf16) (x1 : Vec Ideal S32x128x128 .bf16) (x2 : Vec Ideal S32x128x128 .bf16) (x3 : Vec Ideal S32x128x128 .bf16) (x4 : Vec Ideal S32x128x8 .f32) (x5 : Vec Ideal S32x128x8 .f32)

abbrev ld2 (n : Nat) (h : n < 32) : Vec Ideal S1x128x128 .bf16 := View.readAt (Elt Ideal) arg2.view (R3 n h).toLoadRect (harg2.unread x0)
abbrev ld3 (n : Nat) (h : n < 32) : Vec Ideal S1x128x128 .bf16 := View.readAt (Elt Ideal) arg3.view (R3 n h).toLoadRect (harg3.unread x1)
abbrev ld4 (n : Nat) (h : n < 32) : Vec Ideal S1x128x128 .bf16 := View.readAt (Elt Ideal) arg4.view (R3 n h).toLoadRect (harg4.unread x2)
abbrev ld5 (n : Nat) (h : n < 32) : Vec Ideal S1x128x128 .bf16 := View.readAt (Elt Ideal) arg5.view (R3 n h).toLoadRect (harg5.unread x3)
abbrev ld6 (n : Nat) (h : n < 32) : Vec Ideal S1x128x8 .f32 := View.readAt (Elt Ideal) arg6.view (R8 n h).toLoadRect (harg6.unread x4)
abbrev ld7 (n : Nat) (h : n < 32) : Vec Ideal S1x128x8 .f32 := View.readAt (Elt Ideal) arg7.view (R8 n h).toLoadRect (harg7.unread x5)

/-- The head's number as the kernel holds it. -/
abbrev W : BitVec 32 := BitVec.ofNat 32 (i 1).val

theorem hs0_at0 : (kernelRun0_A.sl.HS0_2 (F := Ideal) c i arg2 harg2 arg3 harg3 arg4 harg4 arg5 harg5 arg6 harg6 arg7 harg7 arg11 x0 x1 x2 x3 x4 x5) = ⟨R3 0 (by decide), k0_pay492 (F := Ideal) (DK (W i) (ld2 arg2 harg2 x0 0 (by decide)) (ld3 arg3 harg3 x1 0 (by decide)) (ld4 arg4 harg4 x2 0 (by decide)) (ld5 arg5 harg5 x3 0 (by decide)) (ld6 arg6 harg6 x4 0 (by decide)) (ld7 arg7 harg7 x5 0 (by decide))) (arg11.view.readCov (kernelRun0_A.sl.HS0_1 (F := Ideal)) (R3 0 (by decide)).toLoadRect)⟩ :: (kernelRun0_A.sl.HS0_1 (F := Ideal)) := by sl_kernel_rfl
theorem hs1_at0 : (kernelRun0_A.sl.HS1_2 (F := Ideal) c i arg2 harg2 arg3 harg3 arg5 harg5 arg6 harg6 arg12 x0 x1 x3 x4) = ⟨R3 0 (by decide), k0_pay492 (F := Ideal) (DV (W i) (ld2 arg2 harg2 x0 0 (by decide)) (ld3 arg3 harg3 x1 0 (by decide)) (ld5 arg5 harg5 x3 0 (by decide)) (ld6 arg6 harg6 x4 0 (by decide))) (arg12.view.readCov (kernelRun0_A.sl.HS0_1 (F := Ideal)) (R3 0 (by decide)).toLoadRect)⟩ :: (kernelRun0_A.sl.HS0_1 (F := Ideal)) := by sl_kernel_rfl
theorem hs0_at1 : (kernelRun0_A.sl.HS0_3 (F := Ideal) c i arg2 harg2 arg3 harg3 arg4 harg4 arg5 harg5 arg6 harg6 arg7 harg7 arg11 x0 x1 x2 x3 x4 x5) = ⟨R3 1 (by decide), k0_pay492 (F := Ideal) (DK (W i) (ld2 arg2 harg2 x0 1 (by decide)) (ld3 arg3 harg3 x1 1 (by decide)) (ld4 arg4 harg4 x2 1 (by decide)) (ld5 arg5 harg5 x3 1 (by decide)) (ld6 arg6 harg6 x4 1 (by decide)) (ld7 arg7 harg7 x5 1 (by decide))) (arg11.view.readCov (kernelRun0_A.sl.HS0_2 (F := Ideal) c i arg2 harg2 arg3 harg3 arg4 harg4 arg5 harg5 arg6 harg6 arg7 harg7 arg11 x0 x1 x2 x3 x4 x5) (R3 1 (by decide)).toLoadRect)⟩ :: (kernelRun0_A.sl.HS0_2 (F := Ideal) c i arg2 harg2 arg3 harg3 arg4 harg4 arg5 harg5 arg6 harg6 arg7 harg7 arg11 x0 x1 x2 x3 x4 x5) := by sl_kernel_rfl
theorem hs1_at1 : (kernelRun0_A.sl.HS1_3 (F := Ideal) c i arg2 harg2 arg3 harg3 arg5 harg5 arg6 harg6 arg12 x0 x1 x3 x4) = ⟨R3 1 (by decide), k0_pay492 (F := Ideal) (DV (W i) (ld2 arg2 harg2 x0 1 (by decide)) (ld3 arg3 harg3 x1 1 (by decide)) (ld5 arg5 harg5 x3 1 (by decide)) (ld6 arg6 harg6 x4 1 (by decide))) (arg12.view.readCov (kernelRun0_A.sl.HS1_2 (F := Ideal) c i arg2 harg2 arg3 harg3 arg5 harg5 arg6 harg6 arg12 x0 x1 x3 x4) (R3 1 (by decide)).toLoadRect)⟩ :: (kernelRun0_A.sl.HS1_2 (F := Ideal) c i arg2 harg2 arg3 harg3 arg5 harg5 arg6 harg6 arg12 x0 x1 x3 x4) := by sl_kernel_rfl
theorem hs0_at2 : (kernelRun0_A.sl.HS0_4 (F := Ideal) c i arg2 harg2 arg3 harg3 arg4 harg4 arg5 harg5 arg6 harg6 arg7 harg7 arg11 x0 x1 x2 x3 x4 x5) = ⟨R3 2 (by decide), k0_pay492 (F := Ideal) (DK (W i) (ld2 arg2 harg2 x0 2 (by decide)) (ld3 arg3 harg3 x1 2 (by decide)) (ld4 arg4 harg4 x2 2 (by decide)) (ld5 arg5 harg5 x3 2 (by decide)) (ld6 arg6 harg6 x4 2 (by decide)) (ld7 arg7 harg7 x5 2 (by decide))) (arg11.view.readCov (kernelRun0_A.sl.HS0_3 (F := Ideal) c i arg2 harg2 arg3 harg3 arg4 harg4 arg5 harg5 arg6 harg6 arg7 harg7 arg11 x0 x1 x2 x3 x4 x5) (R3 2 (by decide)).toLoadRect)⟩ :: (kernelRun0_A.sl.HS0_3 (F := Ideal) c i arg2 harg2 arg3 harg3 arg4 harg4 arg5 harg5 arg6 harg6 arg7 harg7 arg11 x0 x1 x2 x3 x4 x5) := by sl_kernel_rfl
theorem hs1_at2 : (kernelRun0_A.sl.HS1_4 (F := Ideal) c i arg2 harg2 arg3 harg3 arg5 harg5 arg6 harg6 arg12 x0 x1 x3 x4) = ⟨R3 2 (by decide), k0_pay492 (F := Ideal) (DV (W i) (ld2 arg2 harg2 x0 2 (by decide)) (ld3 arg3 harg3 x1 2 (by decide)) (ld5 arg5 harg5 x3 2 (by decide)) (ld6 arg6 harg6 x4 2 (by decide))) (arg12.view.readCov (kernelRun0_A.sl.HS1_3 (F := Ideal) c i arg2 harg2 arg3 harg3 arg5 harg5 arg6 harg6 arg12 x0 x1 x3 x4) (R3 2 (by decide)).toLoadRect)⟩ :: (kernelRun0_A.sl.HS1_3 (F := Ideal) c i arg2 harg2 arg3 harg3 arg5 harg5 arg6 harg6 arg12 x0 x1 x3 x4) := by sl_kernel_rfl
theorem hs0_at3 : (kernelRun0_A.sl.HS0_5 (F := Ideal) c i arg2 harg2 arg3 harg3 arg4 harg4 arg5 harg5 arg6 harg6 arg7 harg7 arg11 x0 x1 x2 x3 x4 x5) = ⟨R3 3 (by decide), k0_pay492 (F := Ideal) (DK (W i) (ld2 arg2 harg2 x0 3 (by decide)) (ld3 arg3 harg3 x1 3 (by decide)) (ld4 arg4 harg4 x2 3 (by decide)) (ld5 arg5 harg5 x3 3 (by decide)) (ld6 arg6 harg6 x4 3 (by decide)) (ld7 arg7 harg7 x5 3 (by decide))) (arg11.view.readCov (kernelRun0_A.sl.HS0_4 (F := Ideal) c i arg2 harg2 arg3 harg3 arg4 harg4 arg5 harg5 arg6 harg6 arg7 harg7 arg11 x0 x1 x2 x3 x4 x5) (R3 3 (by decide)).toLoadRect)⟩ :: (kernelRun0_A.sl.HS0_4 (F := Ideal) c i arg2 harg2 arg3 harg3 arg4 harg4 arg5 harg5 arg6 harg6 arg7 harg7 arg11 x0 x1 x2 x3 x4 x5) := by sl_kernel_rfl
theorem hs1_at3 : (kernelRun0_A.sl.HS1_5 (F := Ideal) c i arg2 harg2 arg3 harg3 arg5 harg5 arg6 harg6 arg12 x0 x1 x3 x4) = ⟨R3 3 (by decide), k0_pay492 (F := Ideal) (DV (W i) (ld2 arg2 harg2 x0 3 (by decide)) (ld3 arg3 harg3 x1 3 (by decide)) (ld5 arg5 harg5 x3 3 (by decide)) (ld6 arg6 harg6 x4 3 (by decide))) (arg12.view.readCov (kernelRun0_A.sl.HS1_4 (F := Ideal) c i arg2 harg2 arg3 harg3 arg5 harg5 arg6 harg6 arg12 x0 x1 x3 x4) (R3 3 (by decide)).toLoadRect)⟩ :: (kernelRun0_A.sl.HS1_4 (F := Ideal) c i arg2 harg2 arg3 harg3 arg5 harg5 arg6 harg6 arg12 x0 x1 x3 x4) := by sl_kernel_rfl
theorem hs0_at4 : (kernelRun0_A.sl.HS0_6 (F := Ideal) c i arg2 harg2 arg3 harg3 arg4 harg4 arg5 harg5 arg6 harg6 arg7 harg7 arg11 x0 x1 x2 x3 x4 x5) = ⟨R3 4 (by decide), k0_pay492 (F := Ideal) (DK (W i) (ld2 arg2 harg2 x0 4 (by decide)) (ld3 arg3 harg3 x1 4 (by decide)) (ld4 arg4 harg4 x2 4 (by decide)) (ld5 arg5 harg5 x3 4 (by decide)) (ld6 arg6 harg6 x4 4 (by decide)) (ld7 arg7 harg7 x5 4 (by decide))) (arg11.view.readCov (kernelRun0_A.sl.HS0_5 (F := Ideal) c i arg2 harg2 arg3 harg3 arg4 harg4 arg5 harg5 arg6 harg6 arg7 harg7 arg11 x0 x1 x2 x3 x4 x5) (R3 4 (by decide)).toLoadRect)⟩ :: (kernelRun0_A.sl.HS0_5 (F := Ideal) c i arg2 harg2 arg3 harg3 arg4 harg4 arg5 harg5 arg6 harg6 arg7 harg7 arg11 x0 x1 x2 x3 x4 x5) := by sl_kernel_rfl
theorem hs1_at4 : (kernelRun0_A.sl.HS1_6 (F := Ideal) c i arg2 harg2 arg3 harg3 arg5 harg5 arg6 harg6 arg12 x0 x1 x3 x4) = ⟨R3 4 (by decide), k0_pay492 (F := Ideal) (DV (W i) (ld2 arg2 harg2 x0 4 (by decide)) (ld3 arg3 harg3 x1 4 (by decide)) (ld5 arg5 harg5 x3 4 (by decide)) (ld6 arg6 harg6 x4 4 (by decide))) (arg12.view.readCov (kernelRun0_A.sl.HS1_5 (F := Ideal) c i arg2 harg2 arg3 harg3 arg5 harg5 arg6 harg6 arg12 x0 x1 x3 x4) (R3 4 (by decide)).toLoadRect)⟩ :: (kernelRun0_A.sl.HS1_5 (F := Ideal) c i arg2 harg2 arg3 harg3 arg5 harg5 arg6 harg6 arg12 x0 x1 x3 x4) := by sl_kernel_rfl
theorem hs0_at5 : (kernelRun0_A.sl.HS0_7 (F := Ideal) c i arg2 harg2 arg3 harg3 arg4 harg4 arg5 harg5 arg6 harg6 arg7 harg7 arg11 x0 x1 x2 x3 x4 x5) = ⟨R3 5 (by decide), k0_pay492 (F := Ideal) (DK (W i) (ld2 arg2 harg2 x0 5 (by decide)) (ld3 arg3 harg3 x1 5 (by decide)) (ld4 arg4 harg4 x2 5 (by decide)) (ld5 arg5 harg5 x3 5 (by decide)) (ld6 arg6 harg6 x4 5 (by decide)) (ld7 arg7 harg7 x5 5 (by decide))) (arg11.view.readCov (kernelRun0_A.sl.HS0_6 (F := Ideal) c i arg2 harg2 arg3 harg3 arg4 harg4 arg5 harg5 arg6 harg6 arg7 harg7 arg11 x0 x1 x2 x3 x4 x5) (R3 5 (by decide)).toLoadRect)⟩ :: (kernelRun0_A.sl.HS0_6 (F := Ideal) c i arg2 harg2 arg3 harg3 arg4 harg4 arg5 harg5 arg6 harg6 arg7 harg7 arg11 x0 x1 x2 x3 x4 x5) := by sl_kernel_rfl
theorem hs1_at5 : (kernelRun0_A.sl.HS1_7 (F := Ideal) c i arg2 harg2 arg3 harg3 arg5 harg5 arg6 harg6 arg12 x0 x1 x3 x4) = ⟨R3 5 (by decide), k0_pay492 (F := Ideal) (DV (W i) (ld2 arg2 harg2 x0 5 (by decide)) (ld3 arg3 harg3 x1 5 (by decide)) (ld5 arg5 harg5 x3 5 (by decide)) (ld6 arg6 harg6 x4 5 (by decide))) (arg12.view.readCov (kernelRun0_A.sl.HS1_6 (F := Ideal) c i arg2 harg2 arg3 harg3 arg5 harg5 arg6 harg6 arg12 x0 x1 x3 x4) (R3 5 (by decide)).toLoadRect)⟩ :: (kernelRun0_A.sl.HS1_6 (F := Ideal) c i arg2 harg2 arg3 harg3 arg5 harg5 arg6 harg6 arg12 x0 x1 x3 x4) := by sl_kernel_rfl
theorem hs0_at6 : (kernelRun0_A.sl.HS0_8 (F := Ideal) c i arg2 harg2 arg3 harg3 arg4 harg4 arg5 harg5 arg6 harg6 arg7 harg7 arg11 x0 x1 x2 x3 x4 x5) = ⟨R3 6 (by decide), k0_pay492 (F := Ideal) (DK (W i) (ld2 arg2 harg2 x0 6 (by decide)) (ld3 arg3 harg3 x1 6 (by decide)) (ld4 arg4 harg4 x2 6 (by decide)) (ld5 arg5 harg5 x3 6 (by decide)) (ld6 arg6 harg6 x4 6 (by decide)) (ld7 arg7 harg7 x5 6 (by decide))) (arg11.view.readCov (kernelRun0_A.sl.HS0_7 (F := Ideal) c i arg2 harg2 arg3 harg3 arg4 harg4 arg5 harg5 arg6 harg6 arg7 harg7 arg11 x0 x1 x2 x3 x4 x5) (R3 6 (by decide)).toLoadRect)⟩ :: (kernelRun0_A.sl.HS0_7 (F := Ideal) c i arg2 harg2 arg3 harg3 arg4 harg4 arg5 harg5 arg6 harg6 arg7 harg7 arg11 x0 x1 x2 x3 x4 x5) := by sl_kernel_rfl
theorem hs1_at6 : (kernelRun0_A.sl.HS1_8 (F := Ideal) c i arg2 harg2 arg3 harg3 arg5 harg5 arg6 harg6 arg12 x0 x1 x3 x4) = ⟨R3 6 (by decide), k0_pay492 (F := Ideal) (DV (W i) (ld2 arg2 harg2 x0 6 (by decide)) (ld3 arg3 harg3 x1 6 (by decide)) (ld5 arg5 harg5 x3 6 (by decide)) (ld6 arg6 harg6 x4 6 (by decide))) (arg12.view.readCov (kernelRun0_A.sl.HS1_7 (F := Ideal) c i arg2 harg2 arg3 harg3 arg5 harg5 arg6 harg6 arg12 x0 x1 x3 x4) (R3 6 (by decide)).toLoadRect)⟩ :: (kernelRun0_A.sl.HS1_7 (F := Ideal) c i arg2 harg2 arg3 harg3 arg5 harg5 arg6 harg6 arg12 x0 x1 x3 x4) := by sl_kernel_rfl
theorem hs0_at7 : (kernelRun0_A.sl.HS0_9 (F := Ideal) c i arg2 harg2 arg3 harg3 arg4 harg4 arg5 harg5 arg6 harg6 arg7 harg7 arg11 x0 x1 x2 x3 x4 x5) = ⟨R3 7 (by decide), k0_pay492 (F := Ideal) (DK (W i) (ld2 arg2 harg2 x0 7 (by decide)) (ld3 arg3 harg3 x1 7 (by decide)) (ld4 arg4 harg4 x2 7 (by decide)) (ld5 arg5 harg5 x3 7 (by decide)) (ld6 arg6 harg6 x4 7 (by decide)) (ld7 arg7 harg7 x5 7 (by decide))) (arg11.view.readCov (kernelRun0_A.sl.HS0_8 (F := Ideal) c i arg2 harg2 arg3 harg3 arg4 harg4 arg5 harg5 arg6 harg6 arg7 harg7 arg11 x0 x1 x2 x3 x4 x5) (R3 7 (by decide)).toLoadRect)⟩ :: (kernelRun0_A.sl.HS0_8 (F := Ideal) c i arg2 harg2 arg3 harg3 arg4 harg4 arg5 harg5 arg6 harg6 arg7 harg7 arg11 x0 x1 x2 x3 x4 x5) := by sl_kernel_rfl
theorem hs1_at7 : (kernelRun0_A.sl.HS1_9 (F := Ideal) c i arg2 harg2 arg3 harg3 arg5 harg5 arg6 harg6 arg12 x0 x1 x3 x4) = ⟨R3 7 (by decide), k0_pay492 (F := Ideal) (DV (W i) (ld2 arg2 harg2 x0 7 (by decide)) (ld3 arg3 harg3 x1 7 (by decide)) (ld5 arg5 harg5 x3 7 (by decide)) (ld6 arg6 harg6 x4 7 (by decide))) (arg12.view.readCov (kernelRun0_A.sl.HS1_8 (F := Ideal) c i arg2 harg2 arg3 harg3 arg5 harg5 arg6 harg6 arg12 x0 x1 x3 x4) (R3 7 (by decide)).toLoadRect)⟩ :: (kernelRun0_A.sl.HS1_8 (F := Ideal) c i arg2 harg2 arg3 harg3 arg5 harg5 arg6 harg6 arg12 x0 x1 x3 x4) := by sl_kernel_rfl
theorem hs0_at8 : (kernelRun0_A.sl.HS0_10 (F := Ideal) c i arg2 harg2 arg3 harg3 arg4 harg4 arg5 harg5 arg6 harg6 arg7 harg7 arg11 x0 x1 x2 x3 x4 x5) = ⟨R3 8 (by decide), k0_pay492 (F := Ideal) (DK (W i) (ld2 arg2 harg2 x0 8 (by decide)) (ld3 arg3 harg3 x1 8 (by decide)) (ld4 arg4 harg4 x2 8 (by decide)) (ld5 arg5 harg5 x3 8 (by decide)) (ld6 arg6 harg6 x4 8 (by decide)) (ld7 arg7 harg7 x5 8 (by decide))) (arg11.view.readCov (kernelRun0_A.sl.HS0_9 (F := Ideal) c i arg2 harg2 arg3 harg3 arg4 harg4 arg5 harg5 arg6 harg6 arg7 harg7 arg11 x0 x1 x2 x3 x4 x5) (R3 8 (by decide)).toLoadRect)⟩ :: (kernelRun0_A.sl.HS0_9 (F := Ideal) c i arg2 harg2 arg3 harg3 arg4 harg4 arg5 harg5 arg6 harg6 arg7 harg7 arg11 x0 x1 x2 x3 x4 x5) := by sl_kernel_rfl
theorem hs1_at8 : (kernelRun0_A.sl.HS1_10 (F := Ideal) c i arg2 harg2 arg3 harg3 arg5 harg5 arg6 harg6 arg12 x0 x1 x3 x4) = ⟨R3 8 (by decide), k0_pay492 (F := Ideal) (DV (W i) (ld2 arg2 harg2 x0 8 (by decide)) (ld3 arg3 harg3 x1 8 (by decide)) (ld5 arg5 harg5 x3 8 (by decide)) (ld6 arg6 harg6 x4 8 (by decide))) (arg12.view.readCov (kernelRun0_A.sl.HS1_9 (F := Ideal) c i arg2 harg2 arg3 harg3 arg5 harg5 arg6 harg6 arg12 x0 x1 x3 x4) (R3 8 (by decide)).toLoadRect)⟩ :: (kernelRun0_A.sl.HS1_9 (F := Ideal) c i arg2 harg2 arg3 harg3 arg5 harg5 arg6 harg6 arg12 x0 x1 x3 x4) := by sl_kernel_rfl
theorem hs0_at9 : (kernelRun0_A.sl.HS0_11 (F := Ideal) c i arg2 harg2 arg3 harg3 arg4 harg4 arg5 harg5 arg6 harg6 arg7 harg7 arg11 x0 x1 x2 x3 x4 x5) = ⟨R3 9 (by decide), k0_pay492 (F := Ideal) (DK (W i) (ld2 arg2 harg2 x0 9 (by decide)) (ld3 arg3 harg3 x1 9 (by decide)) (ld4 arg4 harg4 x2 9 (by decide)) (ld5 arg5 harg5 x3 9 (by decide)) (ld6 arg6 harg6 x4 9 (by decide)) (ld7 arg7 harg7 x5 9 (by decide))) (arg11.view.readCov (kernelRun0_A.sl.HS0_10 (F := Ideal) c i arg2 harg2 arg3 harg3 arg4 harg4 arg5 harg5 arg6 harg6 arg7 harg7 arg11 x0 x1 x2 x3 x4 x5) (R3 9 (by decide)).toLoadRect)⟩ :: (kernelRun0_A.sl.HS0_10 (F := Ideal) c i arg2 harg2 arg3 harg3 arg4 harg4 arg5 harg5 arg6 harg6 arg7 harg7 arg11 x0 x1 x2 x3 x4 x5) := by sl_kernel_rfl
theorem hs1_at9 : (kernelRun0_A.sl.HS1_11 (F := Ideal) c i arg2 harg2 arg3 harg3 arg5 harg5 arg6 harg6 arg12 x0 x1 x3 x4) = ⟨R3 9 (by decide), k0_pay492 (F := Ideal) (DV (W i) (ld2 arg2 harg2 x0 9 (by decide)) (ld3 arg3 harg3 x1 9 (by decide)) (ld5 arg5 harg5 x3 9 (by decide)) (ld6 arg6 harg6 x4 9 (by decide))) (arg12.view.readCov (kernelRun0_A.sl.HS1_10 (F := Ideal) c i arg2 harg2 arg3 harg3 arg5 harg5 arg6 harg6 arg12 x0 x1 x3 x4) (R3 9 (by decide)).toLoadRect)⟩ :: (kernelRun0_A.sl.HS1_10 (F := Ideal) c i arg2 harg2 arg3 harg3 arg5 harg5 arg6 harg6 arg12 x0 x1 x3 x4) := by sl_kernel_rfl
theorem hs0_at10 : (kernelRun0_A.sl.HS0_12 (F := Ideal) c i arg2 harg2 arg3 harg3 arg4 harg4 arg5 harg5 arg6 harg6 arg7 harg7 arg11 x0 x1 x2 x3 x4 x5) = ⟨R3 10 (by decide), k0_pay492 (F := Ideal) (DK (W i) (ld2 arg2 harg2 x0 10 (by decide)) (ld3 arg3 harg3 x1 10 (by decide)) (ld4 arg4 harg4 x2 10 (by decide)) (ld5 arg5 harg5 x3 10 (by decide)) (ld6 arg6 harg6 x4 10 (by decide)) (ld7 arg7 harg7 x5 10 (by decide))) (arg11.view.readCov (kernelRun0_A.sl.HS0_11 (F := Ideal) c i arg2 harg2 arg3 harg3 arg4 harg4 arg5 harg5 arg6 harg6 arg7 harg7 arg11 x0 x1 x2 x3 x4 x5) (R3 10 (by decide)).toLoadRect)⟩ :: (kernelRun0_A.sl.HS0_11 (F := Ideal) c i arg2 harg2 arg3 harg3 arg4 harg4 arg5 harg5 arg6 harg6 arg7 harg7 arg11 x0 x1 x2 x3 x4 x5) := by sl_kernel_rfl
theorem hs1_at10 : (kernelRun0_A.sl.HS1_12 (F := Ideal) c i arg2 harg2 arg3 harg3 arg5 harg5 arg6 harg6 arg12 x0 x1 x3 x4) = ⟨R3 10 (by decide), k0_pay492 (F := Ideal) (DV (W i) (ld2 arg2 harg2 x0 10 (by decide)) (ld3 arg3 harg3 x1 10 (by decide)) (ld5 arg5 harg5 x3 10 (by decide)) (ld6 arg6 harg6 x4 10 (by decide))) (arg12.view.readCov (kernelRun0_A.sl.HS1_11 (F := Ideal) c i arg2 harg2 arg3 harg3 arg5 harg5 arg6 harg6 arg12 x0 x1 x3 x4) (R3 10 (by decide)).toLoadRect)⟩ :: (kernelRun0_A.sl.HS1_11 (F := Ideal) c i arg2 harg2 arg3 harg3 arg5 harg5 arg6 harg6 arg12 x0 x1 x3 x4) := by sl_kernel_rfl
theorem hs0_at11 : (kernelRun0_A.sl.HS0_13 (F := Ideal) c i arg2 harg2 arg3 harg3 arg4 harg4 arg5 harg5 arg6 harg6 arg7 harg7 arg11 x0 x1 x2 x3 x4 x5) = ⟨R3 11 (by decide), k0_pay492 (F := Ideal) (DK (W i) (ld2 arg2 harg2 x0 11 (by decide)) (ld3 arg3 harg3 x1 11 (by decide)) (ld4 arg4 harg4 x2 11 (by decide)) (ld5 arg5 harg5 x3 11 (by decide)) (ld6 arg6 harg6 x4 11 (by decide)) (ld7 arg7 harg7 x5 11 (by decide))) (arg11.view.readCov (kernelRun0_A.sl.HS0_12 (F := Ideal) c i arg2 harg2 arg3 harg3 arg4 harg4 arg5 harg5 arg6 harg6 arg7 harg7 arg11 x0 x1 x2 x3 x4 x5) (R3 11 (by decide)).toLoadRect)⟩ :: (kernelRun0_A.sl.HS0_12 (F := Ideal) c i arg2 harg2 arg3 harg3 arg4 harg4 arg5 harg5 arg6 harg6 arg7 harg7 arg11 x0 x1 x2 x3 x4 x5) := by sl_kernel_rfl
theorem hs1_at11 : (kernelRun0_A.sl.HS1_13 (F := Ideal) c i arg2 harg2 arg3 harg3 arg5 harg5 arg6 harg6 arg12 x0 x1 x3 x4) = ⟨R3 11 (by decide), k0_pay492 (F := Ideal) (DV (W i) (ld2 arg2 harg2 x0 11 (by decide)) (ld3 arg3 harg3 x1 11 (by decide)) (ld5 arg5 harg5 x3 11 (by decide)) (ld6 arg6 harg6 x4 11 (by decide))) (arg12.view.readCov (kernelRun0_A.sl.HS1_12 (F := Ideal) c i arg2 harg2 arg3 harg3 arg5 harg5 arg6 harg6 arg12 x0 x1 x3 x4) (R3 11 (by decide)).toLoadRect)⟩ :: (kernelRun0_A.sl.HS1_12 (F := Ideal) c i arg2 harg2 arg3 harg3 arg5 harg5 arg6 harg6 arg12 x0 x1 x3 x4) := by sl_kernel_rfl
theorem hs0_at12 : (kernelRun0_A.sl.HS0_14 (F := Ideal) c i arg2 harg2 arg3 harg3 arg4 harg4 arg5 harg5 arg6 harg6 arg7 harg7 arg11 x0 x1 x2 x3 x4 x5) = ⟨R3 12 (by decide), k0_pay492 (F := Ideal) (DK (W i) (ld2 arg2 harg2 x0 12 (by decide)) (ld3 arg3 harg3 x1 12 (by decide)) (ld4 arg4 harg4 x2 12 (by decide)) (ld5 arg5 harg5 x3 12 (by decide)) (ld6 arg6 harg6 x4 12 (by decide)) (ld7 arg7 harg7 x5 12 (by decide))) (arg11.view.readCov (kernelRun0_A.sl.HS0_13 (F := Ideal) c i arg2 harg2 arg3 harg3 arg4 harg4 arg5 harg5 arg6 harg6 arg7 harg7 arg11 x0 x1 x2 x3 x4 x5) (R3 12 (by decide)).toLoadRect)⟩ :: (kernelRun0_A.sl.HS0_13 (F := Ideal) c i arg2 harg2 arg3 harg3 arg4 harg4 arg5 harg5 arg6 harg6 arg7 harg7 arg11 x0 x1 x2 x3 x4 x5) := by sl_kernel_rfl
theorem hs1_at12 : (kernelRun0_A.sl.HS1_14 (F := Ideal) c i arg2 harg2 arg3 harg3 arg5 harg5 arg6 harg6 arg12 x0 x1 x3 x4) = ⟨R3 12 (by decide), k0_pay492 (F := Ideal) (DV (W i) (ld2 arg2 harg2 x0 12 (by decide)) (ld3 arg3 harg3 x1 12 (by decide)) (ld5 arg5 harg5 x3 12 (by decide)) (ld6 arg6 harg6 x4 12 (by decide))) (arg12.view.readCov (kernelRun0_A.sl.HS1_13 (F := Ideal) c i arg2 harg2 arg3 harg3 arg5 harg5 arg6 harg6 arg12 x0 x1 x3 x4) (R3 12 (by decide)).toLoadRect)⟩ :: (kernelRun0_A.sl.HS1_13 (F := Ideal) c i arg2 harg2 arg3 harg3 arg5 harg5 arg6 harg6 arg12 x0 x1 x3 x4) := by sl_kernel_rfl
theorem hs0_at13 : (kernelRun0_A.sl.HS0_15 (F := Ideal) c i arg2 harg2 arg3 harg3 arg4 harg4 arg5 harg5 arg6 harg6 arg7 harg7 arg11 x0 x1 x2 x3 x4 x5) = ⟨R3 13 (by decide), k0_pay492 (F := Ideal) (DK (W i) (ld2 arg2 harg2 x0 13 (by decide)) (ld3 arg3 harg3 x1 13 (by decide)) (ld4 arg4 harg4 x2 13 (by decide)) (ld5 arg5 harg5 x3 13 (by decide)) (ld6 arg6 harg6 x4 13 (by decide)) (ld7 arg7 harg7 x5 13 (by decide))) (arg11.view.readCov (kernelRun0_A.sl.HS0_14 (F := Ideal) c i arg2 harg2 arg3 harg3 arg4 harg4 arg5 harg5 arg6 harg6 arg7 harg7 arg11 x0 x1 x2 x3 x4 x5) (R3 13 (by decide)).toLoadRect)⟩ :: (kernelRun0_A.sl.HS0_14 (F := Ideal) c i arg2 harg2 arg3 harg3 arg4 harg4 arg5 harg5 arg6 harg6 arg7 harg7 arg11 x0 x1 x2 x3 x4 x5) := by sl_kernel_rfl
theorem hs1_at13 : (kernelRun0_A.sl.HS1_15 (F := Ideal) c i arg2 harg2 arg3 harg3 arg5 harg5 arg6 harg6 arg12 x0 x1 x3 x4) = ⟨R3 13 (by decide), k0_pay492 (F := Ideal) (DV (W i) (ld2 arg2 harg2 x0 13 (by decide)) (ld3 arg3 harg3 x1 13 (by decide)) (ld5 arg5 harg5 x3 13 (by decide)) (ld6 arg6 harg6 x4 13 (by decide))) (arg12.view.readCov (kernelRun0_A.sl.HS1_14 (F := Ideal) c i arg2 harg2 arg3 harg3 arg5 harg5 arg6 harg6 arg12 x0 x1 x3 x4) (R3 13 (by decide)).toLoadRect)⟩ :: (kernelRun0_A.sl.HS1_14 (F := Ideal) c i arg2 harg2 arg3 harg3 arg5 harg5 arg6 harg6 arg12 x0 x1 x3 x4) := by sl_kernel_rfl
theorem hs0_at14 : (kernelRun0_A.sl.HS0_16 (F := Ideal) c i arg2 harg2 arg3 harg3 arg4 harg4 arg5 harg5 arg6 harg6 arg7 harg7 arg11 x0 x1 x2 x3 x4 x5) = ⟨R3 14 (by decide), k0_pay492 (F := Ideal) (DK (W i) (ld2 arg2 harg2 x0 14 (by decide)) (ld3 arg3 harg3 x1 14 (by decide)) (ld4 arg4 harg4 x2 14 (by decide)) (ld5 arg5 harg5 x3 14 (by decide)) (ld6 arg6 harg6 x4 14 (by decide)) (ld7 arg7 harg7 x5 14 (by decide))) (arg11.view.readCov (kernelRun0_A.sl.HS0_15 (F := Ideal) c i arg2 harg2 arg3 harg3 arg4 harg4 arg5 harg5 arg6 harg6 arg7 harg7 arg11 x0 x1 x2 x3 x4 x5) (R3 14 (by decide)).toLoadRect)⟩ :: (kernelRun0_A.sl.HS0_15 (F := Ideal) c i arg2 harg2 arg3 harg3 arg4 harg4 arg5 harg5 arg6 harg6 arg7 harg7 arg11 x0 x1 x2 x3 x4 x5) := by sl_kernel_rfl
theorem hs1_at14 : (kernelRun0_A.sl.HS1_16 (F := Ideal) c i arg2 harg2 arg3 harg3 arg5 harg5 arg6 harg6 arg12 x0 x1 x3 x4) = ⟨R3 14 (by decide), k0_pay492 (F := Ideal) (DV (W i) (ld2 arg2 harg2 x0 14 (by decide)) (ld3 arg3 harg3 x1 14 (by decide)) (ld5 arg5 harg5 x3 14 (by decide)) (ld6 arg6 harg6 x4 14 (by decide))) (arg12.view.readCov (kernelRun0_A.sl.HS1_15 (F := Ideal) c i arg2 harg2 arg3 harg3 arg5 harg5 arg6 harg6 arg12 x0 x1 x3 x4) (R3 14 (by decide)).toLoadRect)⟩ :: (kernelRun0_A.sl.HS1_15 (F := Ideal) c i arg2 harg2 arg3 harg3 arg5 harg5 arg6 harg6 arg12 x0 x1 x3 x4) := by sl_kernel_rfl
theorem hs0_at15 : (kernelRun0_A.sl.HS0_17 (F := Ideal) c i arg2 harg2 arg3 harg3 arg4 harg4 arg5 harg5 arg6 harg6 arg7 harg7 arg11 x0 x1 x2 x3 x4 x5) = ⟨R3 15 (by decide), k0_pay492 (F := Ideal) (DK (W i) (ld2 arg2 harg2 x0 15 (by decide)) (ld3 arg3 harg3 x1 15 (by decide)) (ld4 arg4 harg4 x2 15 (by decide)) (ld5 arg5 harg5 x3 15 (by decide)) (ld6 arg6 harg6 x4 15 (by decide)) (ld7 arg7 harg7 x5 15 (by decide))) (arg11.view.readCov (kernelRun0_A.sl.HS0_16 (F := Ideal) c i arg2 harg2 arg3 harg3 arg4 harg4 arg5 harg5 arg6 harg6 arg7 harg7 arg11 x0 x1 x2 x3 x4 x5) (R3 15 (by decide)).toLoadRect)⟩ :: (kernelRun0_A.sl.HS0_16 (F := Ideal) c i arg2 harg2 arg3 harg3 arg4 harg4 arg5 harg5 arg6 harg6 arg7 harg7 arg11 x0 x1 x2 x3 x4 x5) := by sl_kernel_rfl
theorem hs1_at15 : (kernelRun0_A.sl.HS1_17 (F := Ideal) c i arg2 harg2 arg3 harg3 arg5 harg5 arg6 harg6 arg12 x0 x1 x3 x4) = ⟨R3 15 (by decide), k0_pay492 (F := Ideal) (DV (W i) (ld2 arg2 harg2 x0 15 (by decide)) (ld3 arg3 harg3 x1 15 (by decide)) (ld5 arg5 harg5 x3 15 (by decide)) (ld6 arg6 harg6 x4 15 (by decide))) (arg12.view.readCov (kernelRun0_A.sl.HS1_16 (F := Ideal) c i arg2 harg2 arg3 harg3 arg5 harg5 arg6 harg6 arg12 x0 x1 x3 x4) (R3 15 (by decide)).toLoadRect)⟩ :: (kernelRun0_A.sl.HS1_16 (F := Ideal) c i arg2 harg2 arg3 harg3 arg5 harg5 arg6 harg6 arg12 x0 x1 x3 x4) := by sl_kernel_rfl
theorem hs0_at16 : (kernelRun0_A.sl.HS0_18 (F := Ideal) c i arg2 harg2 arg3 harg3 arg4 harg4 arg5 harg5 arg6 harg6 arg7 harg7 arg11 x0 x1 x2 x3 x4 x5) = ⟨R3 16 (by decide), k0_pay492 (F := Ideal) (DK (W i) (ld2 arg2 harg2 x0 16 (by decide)) (ld3 arg3 harg3 x1 16 (by decide)) (ld4 arg4 harg4 x2 16 (by decide)) (ld5 arg5 harg5 x3 16 (by decide)) (ld6 arg6 harg6 x4 16 (by decide)) (ld7 arg7 harg7 x5 16 (by decide))) (arg11.view.readCov (kernelRun0_A.sl.HS0_17 (F := Ideal) c i arg2 harg2 arg3 harg3 arg4 harg4 arg5 harg5 arg6 harg6 arg7 harg7 arg11 x0 x1 x2 x3 x4 x5) (R3 16 (by decide)).toLoadRect)⟩ :: (kernelRun0_A.sl.HS0_17 (F := Ideal) c i arg2 harg2 arg3 harg3 arg4 harg4 arg5 harg5 arg6 harg6 arg7 harg7 arg11 x0 x1 x2 x3 x4 x5) := by sl_kernel_rfl
theorem hs1_at16 : (kernelRun0_A.sl.HS1_18 (F := Ideal) c i arg2 harg2 arg3 harg3 arg5 harg5 arg6 harg6 arg12 x0 x1 x3 x4) = ⟨R3 16 (by decide), k0_pay492 (F := Ideal) (DV (W i) (ld2 arg2 harg2 x0 16 (by decide)) (ld3 arg3 harg3 x1 16 (by decide)) (ld5 arg5 harg5 x3 16 (by decide)) (ld6 arg6 harg6 x4 16 (by decide))) (arg12.view.readCov (kernelRun0_A.sl.HS1_17 (F := Ideal) c i arg2 harg2 arg3 harg3 arg5 harg5 arg6 harg6 arg12 x0 x1 x3 x4) (R3 16 (by decide)).toLoadRect)⟩ :: (kernelRun0_A.sl.HS1_17 (F := Ideal) c i arg2 harg2 arg3 harg3 arg5 harg5 arg6 harg6 arg12 x0 x1 x3 x4) := by sl_kernel_rfl
theorem hs0_at17 : (kernelRun0_A.sl.HS0_19 (F := Ideal) c i arg2 harg2 arg3 harg3 arg4 harg4 arg5 harg5 arg6 harg6 arg7 harg7 arg11 x0 x1 x2 x3 x4 x5) = ⟨R3 17 (by decide), k0_pay492 (F := Ideal) (DK (W i) (ld2 arg2 harg2 x0 17 (by decide)) (ld3 arg3 harg3 x1 17 (by decide)) (ld4 arg4 harg4 x2 17 (by decide)) (ld5 arg5 harg5 x3 17 (by decide)) (ld6 arg6 harg6 x4 17 (by decide)) (ld7 arg7 harg7 x5 17 (by decide))) (arg11.view.readCov (kernelRun0_A.sl.HS0_18 (F := Ideal) c i arg2 harg2 arg3 harg3 arg4 harg4 arg5 harg5 arg6 harg6 arg7 harg7 arg11 x0 x1 x2 x3 x4 x5) (R3 17 (by decide)).toLoadRect)⟩ :: (kernelRun0_A.sl.HS0_18 (F := Ideal) c i arg2 harg2 arg3 harg3 arg4 harg4 arg5 harg5 arg6 harg6 arg7 harg7 arg11 x0 x1 x2 x3 x4 x5) := by sl_kernel_rfl
theorem hs1_at17 : (kernelRun0_A.sl.HS1_19 (F := Ideal) c i arg2 harg2 arg3 harg3 arg5 harg5 arg6 harg6 arg12 x0 x1 x3 x4) = ⟨R3 17 (by decide), k0_pay492 (F := Ideal) (DV (W i) (ld2 arg2 harg2 x0 17 (by decide)) (ld3 arg3 harg3 x1 17 (by decide)) (ld5 arg5 harg5 x3 17 (by decide)) (ld6 arg6 harg6 x4 17 (by decide))) (arg12.view.readCov (kernelRun0_A.sl.HS1_18 (F := Ideal) c i arg2 harg2 arg3 harg3 arg5 harg5 arg6 harg6 arg12 x0 x1 x3 x4) (R3 17 (by decide)).toLoadRect)⟩ :: (kernelRun0_A.sl.HS1_18 (F := Ideal) c i arg2 harg2 arg3 harg3 arg5 harg5 arg6 harg6 arg12 x0 x1 x3 x4) := by sl_kernel_rfl
theorem hs0_at18 : (kernelRun0_A.sl.HS0_20 (F := Ideal) c i arg2 harg2 arg3 harg3 arg4 harg4 arg5 harg5 arg6 harg6 arg7 harg7 arg11 x0 x1 x2 x3 x4 x5) = ⟨R3 18 (by decide), k0_pay492 (F := Ideal) (DK (W i) (ld2 arg2 harg2 x0 18 (by decide)) (ld3 arg3 harg3 x1 18 (by decide)) (ld4 arg4 harg4 x2 18 (by decide)) (ld5 arg5 harg5 x3 18 (by decide)) (ld6 arg6 harg6 x4 18 (by decide)) (ld7 arg7 harg7 x5 18 (by decide))) (arg11.view.readCov (kernelRun0_A.sl.HS0_19 (F := Ideal) c i arg2 harg2 arg3 harg3 arg4 harg4 arg5 harg5 arg6 harg6 arg7 harg7 arg11 x0 x1 x2 x3 x4 x5) (R3 18 (by decide)).toLoadRect)⟩ :: (kernelRun0_A.sl.HS0_19 (F := Ideal) c i arg2 harg2 arg3 harg3 arg4 harg4 arg5 harg5 arg6 harg6 arg7 harg7 arg11 x0 x1 x2 x3 x4 x5) := by sl_kernel_rfl
theorem hs1_at18 : (kernelRun0_A.sl.HS1_20 (F := Ideal) c i arg2 harg2 arg3 harg3 arg5 harg5 arg6 harg6 arg12 x0 x1 x3 x4) = ⟨R3 18 (by decide), k0_pay492 (F := Ideal) (DV (W i) (ld2 arg2 harg2 x0 18 (by decide)) (ld3 arg3 harg3 x1 18 (by decide)) (ld5 arg5 harg5 x3 18 (by decide)) (ld6 arg6 harg6 x4 18 (by decide))) (arg12.view.readCov (kernelRun0_A.sl.HS1_19 (F := Ideal) c i arg2 harg2 arg3 harg3 arg5 harg5 arg6 harg6 arg12 x0 x1 x3 x4) (R3 18 (by decide)).toLoadRect)⟩ :: (kernelRun0_A.sl.HS1_19 (F := Ideal) c i arg2 harg2 arg3 harg3 arg5 harg5 arg6 harg6 arg12 x0 x1 x3 x4) := by sl_kernel_rfl
theorem hs0_at19 : (kernelRun0_A.sl.HS0_21 (F := Ideal) c i arg2 harg2 arg3 harg3 arg4 harg4 arg5 harg5 arg6 harg6 arg7 harg7 arg11 x0 x1 x2 x3 x4 x5) = ⟨R3 19 (by decide), k0_pay492 (F := Ideal) (DK (W i) (ld2 arg2 harg2 x0 19 (by decide)) (ld3 arg3 harg3 x1 19 (by decide)) (ld4 arg4 harg4 x2 19 (by decide)) (ld5 arg5 harg5 x3 19 (by decide)) (ld6 arg6 harg6 x4 19 (by decide)) (ld7 arg7 harg7 x5 19 (by decide))) (arg11.view.readCov (kernelRun0_A.sl.HS0_20 (F := Ideal) c i arg2 harg2 arg3 harg3 arg4 harg4 arg5 harg5 arg6 harg6 arg7 harg7 arg11 x0 x1 x2 x3 x4 x5) (R3 19 (by decide)).toLoadRect)⟩ :: (kernelRun0_A.sl.HS0_20 (F := Ideal) c i arg2 harg2 arg3 harg3 arg4 harg4 arg5 harg5 arg6 harg6 arg7 harg7 arg11 x0 x1 x2 x3 x4 x5) := by sl_kernel_rfl
theorem hs1_at19 : (kernelRun0_A.sl.HS1_21 (F := Ideal) c i arg2 harg2 arg3 harg3 arg5 harg5 arg6 harg6 arg12 x0 x1 x3 x4) = ⟨R3 19 (by decide), k0_pay492 (F := Ideal) (DV (W i) (ld2 arg2 harg2 x0 19 (by decide)) (ld3 arg3 harg3 x1 19 (by decide)) (ld5 arg5 harg5 x3 19 (by decide)) (ld6 arg6 harg6 x4 19 (by decide))) (arg12.view.readCov (kernelRun0_A.sl.HS1_20 (F := Ideal) c i arg2 harg2 arg3 harg3 arg5 harg5 arg6 harg6 arg12 x0 x1 x3 x4) (R3 19 (by decide)).toLoadRect)⟩ :: (kernelRun0_A.sl.HS1_20 (F := Ideal) c i arg2 harg2 arg3 harg3 arg5 harg5 arg6 harg6 arg12 x0 x1 x3 x4) := by sl_kernel_rfl
theorem hs0_at20 : (kernelRun0_A.sl.HS0_22 (F := Ideal) c i arg2 harg2 arg3 harg3 arg4 harg4 arg5 harg5 arg6 harg6 arg7 harg7 arg11 x0 x1 x2 x3 x4 x5) = ⟨R3 20 (by decide), k0_pay492 (F := Ideal) (DK (W i) (ld2 arg2 harg2 x0 20 (by decide)) (ld3 arg3 harg3 x1 20 (by decide)) (ld4 arg4 harg4 x2 20 (by decide)) (ld5 arg5 harg5 x3 20 (by decide)) (ld6 arg6 harg6 x4 20 (by decide)) (ld7 arg7 harg7 x5 20 (by decide))) (arg11.view.readCov (kernelRun0_A.sl.HS0_21 (F := Ideal) c i arg2 harg2 arg3 harg3 arg4 harg4 arg5 harg5 arg6 harg6 arg7 harg7 arg11 x0 x1 x2 x3 x4 x5) (R3 20 (by decide)).toLoadRect)⟩ :: (kernelRun0_A.sl.HS0_21 (F := Ideal) c i arg2 harg2 arg3 harg3 arg4 harg4 arg5 harg5 arg6 harg6 arg7 harg7 arg11 x0 x1 x2 x3 x4 x5) := by sl_kernel_rfl
theorem hs1_at20 : (kernelRun0_A.sl.HS1_22 (F := Ideal) c i arg2 harg2 arg3 harg3 arg5 harg5 arg6 harg6 arg12 x0 x1 x3 x4) = ⟨R3 20 (by decide), k0_pay492 (F := Ideal) (DV (W i) (ld2 arg2 harg2 x0 20 (by decide)) (ld3 arg3 harg3 x1 20 (by decide)) (ld5 arg5 harg5 x3 20 (by decide)) (ld6 arg6 harg6 x4 20 (by decide))) (arg12.view.readCov (kernelRun0_A.sl.HS1_21 (F := Ideal) c i arg2 harg2 arg3 harg3 arg5 harg5 arg6 harg6 arg12 x0 x1 x3 x4) (R3 20 (by decide)).toLoadRect)⟩ :: (kernelRun0_A.sl.HS1_21 (F := Ideal) c i arg2 harg2 arg3 harg3 arg5 harg5 arg6 harg6 arg12 x0 x1 x3 x4) := by sl_kernel_rfl
theorem hs0_at21 : (kernelRun0_A.sl.HS0_23 (F := Ideal) c i arg2 harg2 arg3 harg3 arg4 harg4 arg5 harg5 arg6 harg6 arg7 harg7 arg11 x0 x1 x2 x3 x4 x5) = ⟨R3 21 (by decide), k0_pay492 (F := Ideal) (DK (W i) (ld2 arg2 harg2 x0 21 (by decide)) (ld3 arg3 harg3 x1 21 (by decide)) (ld4 arg4 harg4 x2 21 (by decide)) (ld5 arg5 harg5 x3 21 (by decide)) (ld6 arg6 harg6 x4 21 (by decide)) (ld7 arg7 harg7 x5 21 (by decide))) (arg11.view.readCov (kernelRun0_A.sl.HS0_22 (F := Ideal) c i arg2 harg2 arg3 harg3 arg4 harg4 arg5 harg5 arg6 harg6 arg7 harg7 arg11 x0 x1 x2 x3 x4 x5) (R3 21 (by decide)).toLoadRect)⟩ :: (kernelRun0_A.sl.HS0_22 (F := Ideal) c i arg2 harg2 arg3 harg3 arg4 harg4 arg5 harg5 arg6 harg6 arg7 harg7 arg11 x0 x1 x2 x3 x4 x5) := by sl_kernel_rfl
theorem hs1_at21 : (kernelRun0_A.sl.HS1_23 (F := Ideal) c i arg2 harg2 arg3 harg3 arg5 harg5 arg6 harg6 arg12 x0 x1 x3 x4) = ⟨R3 21 (by decide), k0_pay492 (F := Ideal) (DV (W i) (ld2 arg2 harg2 x0 21 (by decide)) (ld3 arg3 harg3 x1 21 (by decide)) (ld5 arg5 harg5 x3 21 (by decide)) (ld6 arg6 harg6 x4 21 (by decide))) (arg12.view.readCov (kernelRun0_A.sl.HS1_22 (F := Ideal) c i arg2 harg2 arg3 harg3 arg5 harg5 arg6 harg6 arg12 x0 x1 x3 x4) (R3 21 (by decide)).toLoadRect)⟩ :: (kernelRun0_A.sl.HS1_22 (F := Ideal) c i arg2 harg2 arg3 harg3 arg5 harg5 arg6 harg6 arg12 x0 x1 x3 x4) := by sl_kernel_rfl
theorem hs0_at22 : (kernelRun0_A.sl.HS0_24 (F := Ideal) c i arg2 harg2 arg3 harg3 arg4 harg4 arg5 harg5 arg6 harg6 arg7 harg7 arg11 x0 x1 x2 x3 x4 x5) = ⟨R3 22 (by decide), k0_pay492 (F := Ideal) (DK (W i) (ld2 arg2 harg2 x0 22 (by decide)) (ld3 arg3 harg3 x1 22 (by decide)) (ld4 arg4 harg4 x2 22 (by decide)) (ld5 arg5 harg5 x3 22 (by decide)) (ld6 arg6 harg6 x4 22 (by decide)) (ld7 arg7 harg7 x5 22 (by decide))) (arg11.view.readCov (kernelRun0_A.sl.HS0_23 (F := Ideal) c i arg2 harg2 arg3 harg3 arg4 harg4 arg5 harg5 arg6 harg6 arg7 harg7 arg11 x0 x1 x2 x3 x4 x5) (R3 22 (by decide)).toLoadRect)⟩ :: (kernelRun0_A.sl.HS0_23 (F := Ideal) c i arg2 harg2 arg3 harg3 arg4 harg4 arg5 harg5 arg6 harg6 arg7 harg7 arg11 x0 x1 x2 x3 x4 x5) := by sl_kernel_rfl
theorem hs1_at22 : (kernelRun0_A.sl.HS1_24 (F := Ideal) c i arg2 harg2 arg3 harg3 arg5 harg5 arg6 harg6 arg12 x0 x1 x3 x4) = ⟨R3 22 (by decide), k0_pay492 (F := Ideal) (DV (W i) (ld2 arg2 harg2 x0 22 (by decide)) (ld3 arg3 harg3 x1 22 (by decide)) (ld5 arg5 harg5 x3 22 (by decide)) (ld6 arg6 harg6 x4 22 (by decide))) (arg12.view.readCov (kernelRun0_A.sl.HS1_23 (F := Ideal) c i arg2 harg2 arg3 harg3 arg5 harg5 arg6 harg6 arg12 x0 x1 x3 x4) (R3 22 (by decide)).toLoadRect)⟩ :: (kernelRun0_A.sl.HS1_23 (F := Ideal) c i arg2 harg2 arg3 harg3 arg5 harg5 arg6 harg6 arg12 x0 x1 x3 x4) := by sl_kernel_rfl
theorem hs0_at23 : (kernelRun0_A.sl.HS0_25 (F := Ideal) c i arg2 harg2 arg3 harg3 arg4 harg4 arg5 harg5 arg6 harg6 arg7 harg7 arg11 x0 x1 x2 x3 x4 x5) = ⟨R3 23 (by decide), k0_pay492 (F := Ideal) (DK (W i) (ld2 arg2 harg2 x0 23 (by decide)) (ld3 arg3 harg3 x1 23 (by decide)) (ld4 arg4 harg4 x2 23 (by decide)) (ld5 arg5 harg5 x3 23 (by decide)) (ld6 arg6 harg6 x4 23 (by decide)) (ld7 arg7 harg7 x5 23 (by decide))) (arg11.view.readCov (kernelRun0_A.sl.HS0_24 (F := Ideal) c i arg2 harg2 arg3 harg3 arg4 harg4 arg5 harg5 arg6 harg6 arg7 harg7 arg11 x0 x1 x2 x3 x4 x5) (R3 23 (by decide)).toLoadRect)⟩ :: (kernelRun0_A.sl.HS0_24 (F := Ideal) c i arg2 harg2 arg3 harg3 arg4 harg4 arg5 harg5 arg6 harg6 arg7 harg7 arg11 x0 x1 x2 x3 x4 x5) := by sl_kernel_rfl
theorem hs1_at23 : (kernelRun0_A.sl.HS1_25 (F := Ideal) c i arg2 harg2 arg3 harg3 arg5 harg5 arg6 harg6 arg12 x0 x1 x3 x4) = ⟨R3 23 (by decide), k0_pay492 (F := Ideal) (DV (W i) (ld2 arg2 harg2 x0 23 (by decide)) (ld3 arg3 harg3 x1 23 (by decide)) (ld5 arg5 harg5 x3 23 (by decide)) (ld6 arg6 harg6 x4 23 (by decide))) (arg12.view.readCov (kernelRun0_A.sl.HS1_24 (F := Ideal) c i arg2 harg2 arg3 harg3 arg5 harg5 arg6 harg6 arg12 x0 x1 x3 x4) (R3 23 (by decide)).toLoadRect)⟩ :: (kernelRun0_A.sl.HS1_24 (F := Ideal) c i arg2 harg2 arg3 harg3 arg5 harg5 arg6 harg6 arg12 x0 x1 x3 x4) := by sl_kernel_rfl
theorem hs0_at24 : (kernelRun0_A.sl.HS0_26 (F := Ideal) c i arg2 harg2 arg3 harg3 arg4 harg4 arg5 harg5 arg6 harg6 arg7 harg7 arg11 x0 x1 x2 x3 x4 x5) = ⟨R3 24 (by decide), k0_pay492 (F := Ideal) (DK (W i) (ld2 arg2 harg2 x0 24 (by decide)) (ld3 arg3 harg3 x1 24 (by decide)) (ld4 arg4 harg4 x2 24 (by decide)) (ld5 arg5 harg5 x3 24 (by decide)) (ld6 arg6 harg6 x4 24 (by decide)) (ld7 arg7 harg7 x5 24 (by decide))) (arg11.view.readCov (kernelRun0_A.sl.HS0_25 (F := Ideal) c i arg2 harg2 arg3 harg3 arg4 harg4 arg5 harg5 arg6 harg6 arg7 harg7 arg11 x0 x1 x2 x3 x4 x5) (R3 24 (by decide)).toLoadRect)⟩ :: (kernelRun0_A.sl.HS0_25 (F := Ideal) c i arg2 harg2 arg3 harg3 arg4 harg4 arg5 harg5 arg6 harg6 arg7 harg7 arg11 x0 x1 x2 x3 x4 x5) := by sl_kernel_rfl
theorem hs1_at24 : (kernelRun0_A.sl.HS1_26 (F := Ideal) c i arg2 harg2 arg3 harg3 arg5 harg5 arg6 harg6 arg12 x0 x1 x3 x4) = ⟨R3 24 (by decide), k0_pay492 (F := Ideal) (DV (W i) (ld2 arg2 harg2 x0 24 (by decide)) (ld3 arg3 harg3 x1 24 (by decide)) (ld5 arg5 harg5 x3 24 (by decide)) (ld6 arg6 harg6 x4 24 (by decide))) (arg12.view.readCov (kernelRun0_A.sl.HS1_25 (F := Ideal) c i arg2 harg2 arg3 harg3 arg5 harg5 arg6 harg6 arg12 x0 x1 x3 x4) (R3 24 (by decide)).toLoadRect)⟩ :: (kernelRun0_A.sl.HS1_25 (F := Ideal) c i arg2 harg2 arg3 harg3 arg5 harg5 arg6 harg6 arg12 x0 x1 x3 x4) := by sl_kernel_rfl
theorem hs0_at25 : (kernelRun0_A.sl.HS0_27 (F := Ideal) c i arg2 harg2 arg3 harg3 arg4 harg4 arg5 harg5 arg6 harg6 arg7 harg7 arg11 x0 x1 x2 x3 x4 x5) = ⟨R3 25 (by decide), k0_pay492 (F := Ideal) (DK (W i) (ld2 arg2 harg2 x0 25 (by decide)) (ld3 arg3 harg3 x1 25 (by decide)) (ld4 arg4 harg4 x2 25 (by decide)) (ld5 arg5 harg5 x3 25 (by decide)) (ld6 arg6 harg6 x4 25 (by decide)) (ld7 arg7 harg7 x5 25 (by decide))) (arg11.view.readCov (kernelRun0_A.sl.HS0_26 (F := Ideal) c i arg2 harg2 arg3 harg3 arg4 harg4 arg5 harg5 arg6 harg6 arg7 harg7 arg11 x0 x1 x2 x3 x4 x5) (R3 25 (by decide)).toLoadRect)⟩ :: (kernelRun0_A.sl.HS0_26 (F := Ideal) c i arg2 harg2 arg3 harg3 arg4 harg4 arg5 harg5 arg6 harg6 arg7 harg7 arg11 x0 x1 x2 x3 x4 x5) := by sl_kernel_rfl
theorem hs1_at25 : (kernelRun0_A.sl.HS1_27 (F := Ideal) c i arg2 harg2 arg3 harg3 arg5 harg5 arg6 harg6 arg12 x0 x1 x3 x4) = ⟨R3 25 (by decide), k0_pay492 (F := Ideal) (DV (W i) (ld2 arg2 harg2 x0 25 (by decide)) (ld3 arg3 harg3 x1 25 (by decide)) (ld5 arg5 harg5 x3 25 (by decide)) (ld6 arg6 harg6 x4 25 (by decide))) (arg12.view.readCov (kernelRun0_A.sl.HS1_26 (F := Ideal) c i arg2 harg2 arg3 harg3 arg5 harg5 arg6 harg6 arg12 x0 x1 x3 x4) (R3 25 (by decide)).toLoadRect)⟩ :: (kernelRun0_A.sl.HS1_26 (F := Ideal) c i arg2 harg2 arg3 harg3 arg5 harg5 arg6 harg6 arg12 x0 x1 x3 x4) := by sl_kernel_rfl
theorem hs0_at26 : (kernelRun0_A.sl.HS0_28 (F := Ideal) c i arg2 harg2 arg3 harg3 arg4 harg4 arg5 harg5 arg6 harg6 arg7 harg7 arg11 x0 x1 x2 x3 x4 x5) = ⟨R3 26 (by decide), k0_pay492 (F := Ideal) (DK (W i) (ld2 arg2 harg2 x0 26 (by decide)) (ld3 arg3 harg3 x1 26 (by decide)) (ld4 arg4 harg4 x2 26 (by decide)) (ld5 arg5 harg5 x3 26 (by decide)) (ld6 arg6 harg6 x4 26 (by decide)) (ld7 arg7 harg7 x5 26 (by decide))) (arg11.view.readCov (kernelRun0_A.sl.HS0_27 (F := Ideal) c i arg2 harg2 arg3 harg3 arg4 harg4 arg5 harg5 arg6 harg6 arg7 harg7 arg11 x0 x1 x2 x3 x4 x5) (R3 26 (by decide)).toLoadRect)⟩ :: (kernelRun0_A.sl.HS0_27 (F := Ideal) c i arg2 harg2 arg3 harg3 arg4 harg4 arg5 harg5 arg6 harg6 arg7 harg7 arg11 x0 x1 x2 x3 x4 x5) := by sl_kernel_rfl
theorem hs1_at26 : (kernelRun0_A.sl.HS1_28 (F := Ideal) c i arg2 harg2 arg3 harg3 arg5 harg5 arg6 harg6 arg12 x0 x1 x3 x4) = ⟨R3 26 (by decide), k0_pay492 (F := Ideal) (DV (W i) (ld2 arg2 harg2 x0 26 (by decide)) (ld3 arg3 harg3 x1 26 (by decide)) (ld5 arg5 harg5 x3 26 (by decide)) (ld6 arg6 harg6 x4 26 (by decide))) (arg12.view.readCov (kernelRun0_A.sl.HS1_27 (F := Ideal) c i arg2 harg2 arg3 harg3 arg5 harg5 arg6 harg6 arg12 x0 x1 x3 x4) (R3 26 (by decide)).toLoadRect)⟩ :: (kernelRun0_A.sl.HS1_27 (F := Ideal) c i arg2 harg2 arg3 harg3 arg5 harg5 arg6 harg6 arg12 x0 x1 x3 x4) := by sl_kernel_rfl
theorem hs0_at27 : (kernelRun0_A.sl.HS0_29 (F := Ideal) c i arg2 harg2 arg3 harg3 arg4 harg4 arg5 harg5 arg6 harg6 arg7 harg7 arg11 x0 x1 x2 x3 x4 x5) = ⟨R3 27 (by decide), k0_pay492 (F := Ideal) (DK (W i) (ld2 arg2 harg2 x0 27 (by decide)) (ld3 arg3 harg3 x1 27 (by decide)) (ld4 arg4 harg4 x2 27 (by decide)) (ld5 arg5 harg5 x3 27 (by decide)) (ld6 arg6 harg6 x4 27 (by decide)) (ld7 arg7 harg7 x5 27 (by decide))) (arg11.view.readCov (kernelRun0_A.sl.HS0_28 (F := Ideal) c i arg2 harg2 arg3 harg3 arg4 harg4 arg5 harg5 arg6 harg6 arg7 harg7 arg11 x0 x1 x2 x3 x4 x5) (R3 27 (by decide)).toLoadRect)⟩ :: (kernelRun0_A.sl.HS0_28 (F := Ideal) c i arg2 harg2 arg3 harg3 arg4 harg4 arg5 harg5 arg6 harg6 arg7 harg7 arg11 x0 x1 x2 x3 x4 x5) := by sl_kernel_rfl
theorem hs1_at27 : (kernelRun0_A.sl.HS1_29 (F := Ideal) c i arg2 harg2 arg3 harg3 arg5 harg5 arg6 harg6 arg12 x0 x1 x3 x4) = ⟨R3 27 (by decide), k0_pay492 (F := Ideal) (DV (W i) (ld2 arg2 harg2 x0 27 (by decide)) (ld3 arg3 harg3 x1 27 (by decide)) (ld5 arg5 harg5 x3 27 (by decide)) (ld6 arg6 harg6 x4 27 (by decide))) (arg12.view.readCov (kernelRun0_A.sl.HS1_28 (F := Ideal) c i arg2 harg2 arg3 harg3 arg5 harg5 arg6 harg6 arg12 x0 x1 x3 x4) (R3 27 (by decide)).toLoadRect)⟩ :: (kernelRun0_A.sl.HS1_28 (F := Ideal) c i arg2 harg2 arg3 harg3 arg5 harg5 arg6 harg6 arg12 x0 x1 x3 x4) := by sl_kernel_rfl
theorem hs0_at28 : (kernelRun0_A.sl.HS0_30 (F := Ideal) c i arg2 harg2 arg3 harg3 arg4 harg4 arg5 harg5 arg6 harg6 arg7 harg7 arg11 x0 x1 x2 x3 x4 x5) = ⟨R3 28 (by decide), k0_pay492 (F := Ideal) (DK (W i) (ld2 arg2 harg2 x0 28 (by decide)) (ld3 arg3 harg3 x1 28 (by decide)) (ld4 arg4 harg4 x2 28 (by decide)) (ld5 arg5 harg5 x3 28 (by decide)) (ld6 arg6 harg6 x4 28 (by decide)) (ld7 arg7 harg7 x5 28 (by decide))) (arg11.view.readCov (kernelRun0_A.sl.HS0_29 (F := Ideal) c i arg2 harg2 arg3 harg3 arg4 harg4 arg5 harg5 arg6 harg6 arg7 harg7 arg11 x0 x1 x2 x3 x4 x5) (R3 28 (by decide)).toLoadRect)⟩ :: (kernelRun0_A.sl.HS0_29 (F := Ideal) c i arg2 harg2 arg3 harg3 arg4 harg4 arg5 harg5 arg6 harg6 arg7 harg7 arg11 x0 x1 x2 x3 x4 x5) := by sl_kernel_rfl
theorem hs1_at28 : (kernelRun0_A.sl.HS1_30 (F := Ideal) c i arg2 harg2 arg3 harg3 arg5 harg5 arg6 harg6 arg12 x0 x1 x3 x4) = ⟨R3 28 (by decide), k0_pay492 (F := Ideal) (DV (W i) (ld2 arg2 harg2 x0 28 (by decide)) (ld3 arg3 harg3 x1 28 (by decide)) (ld5 arg5 harg5 x3 28 (by decide)) (ld6 arg6 harg6 x4 28 (by decide))) (arg12.view.readCov (kernelRun0_A.sl.HS1_29 (F := Ideal) c i arg2 harg2 arg3 harg3 arg5 harg5 arg6 harg6 arg12 x0 x1 x3 x4) (R3 28 (by decide)).toLoadRect)⟩ :: (kernelRun0_A.sl.HS1_29 (F := Ideal) c i arg2 harg2 arg3 harg3 arg5 harg5 arg6 harg6 arg12 x0 x1 x3 x4) := by sl_kernel_rfl
theorem hs0_at29 : (kernelRun0_A.sl.HS0_31 (F := Ideal) c i arg2 harg2 arg3 harg3 arg4 harg4 arg5 harg5 arg6 harg6 arg7 harg7 arg11 x0 x1 x2 x3 x4 x5) = ⟨R3 29 (by decide), k0_pay492 (F := Ideal) (DK (W i) (ld2 arg2 harg2 x0 29 (by decide)) (ld3 arg3 harg3 x1 29 (by decide)) (ld4 arg4 harg4 x2 29 (by decide)) (ld5 arg5 harg5 x3 29 (by decide)) (ld6 arg6 harg6 x4 29 (by decide)) (ld7 arg7 harg7 x5 29 (by decide))) (arg11.view.readCov (kernelRun0_A.sl.HS0_30 (F := Ideal) c i arg2 harg2 arg3 harg3 arg4 harg4 arg5 harg5 arg6 harg6 arg7 harg7 arg11 x0 x1 x2 x3 x4 x5) (R3 29 (by decide)).toLoadRect)⟩ :: (kernelRun0_A.sl.HS0_30 (F := Ideal) c i arg2 harg2 arg3 harg3 arg4 harg4 arg5 harg5 arg6 harg6 arg7 harg7 arg11 x0 x1 x2 x3 x4 x5) := by sl_kernel_rfl
theorem hs1_at29 : (kernelRun0_A.sl.HS1_31 (F := Ideal) c i arg2 harg2 arg3 harg3 arg5 harg5 arg6 harg6 arg12 x0 x1 x3 x4) = ⟨R3 29 (by decide), k0_pay492 (F := Ideal) (DV (W i) (ld2 arg2 harg2 x0 29 (by decide)) (ld3 arg3 harg3 x1 29 (by decide)) (ld5 arg5 harg5 x3 29 (by decide)) (ld6 arg6 harg6 x4 29 (by decide))) (arg12.view.readCov (kernelRun0_A.sl.HS1_30 (F := Ideal) c i arg2 harg2 arg3 harg3 arg5 harg5 arg6 harg6 arg12 x0 x1 x3 x4) (R3 29 (by decide)).toLoadRect)⟩ :: (kernelRun0_A.sl.HS1_30 (F := Ideal) c i arg2 harg2 arg3 harg3 arg5 harg5 arg6 harg6 arg12 x0 x1 x3 x4) := by sl_kernel_rfl
theorem hs0_at30 : (kernelRun0_A.sl.HS0_32 (F := Ideal) c i arg2 harg2 arg3 harg3 arg4 harg4 arg5 harg5 arg6 harg6 arg7 harg7 arg11 x0 x1 x2 x3 x4 x5) = ⟨R3 30 (by decide), k0_pay492 (F := Ideal) (DK (W i) (ld2 arg2 harg2 x0 30 (by decide)) (ld3 arg3 harg3 x1 30 (by decide)) (ld4 arg4 harg4 x2 30 (by decide)) (ld5 arg5 harg5 x3 30 (by decide)) (ld6 arg6 harg6 x4 30 (by decide)) (ld7 arg7 harg7 x5 30 (by decide))) (arg11.view.readCov (kernelRun0_A.sl.HS0_31 (F := Ideal) c i arg2 harg2 arg3 harg3 arg4 harg4 arg5 harg5 arg6 harg6 arg7 harg7 arg11 x0 x1 x2 x3 x4 x5) (R3 30 (by decide)).toLoadRect)⟩ :: (kernelRun0_A.sl.HS0_31 (F := Ideal) c i arg2 harg2 arg3 harg3 arg4 harg4 arg5 harg5 arg6 harg6 arg7 harg7 arg11 x0 x1 x2 x3 x4 x5) := by sl_kernel_rfl
theorem hs1_at30 : (kernelRun0_A.sl.HS1_32 (F := Ideal) c i arg2 harg2 arg3 harg3 arg5 harg5 arg6 harg6 arg12 x0 x1 x3 x4) = ⟨R3 30 (by decide), k0_pay492 (F := Ideal) (DV (W i) (ld2 arg2 harg2 x0 30 (by decide)) (ld3 arg3 harg3 x1 30 (by decide)) (ld5 arg5 harg5 x3 30 (by decide)) (ld6 arg6 harg6 x4 30 (by decide))) (arg12.view.readCov (kernelRun0_A.sl.HS1_31 (F := Ideal) c i arg2 harg2 arg3 harg3 arg5 harg5 arg6 harg6 arg12 x0 x1 x3 x4) (R3 30 (by decide)).toLoadRect)⟩ :: (kernelRun0_A.sl.HS1_31 (F := Ideal) c i arg2 harg2 arg3 harg3 arg5 harg5 arg6 harg6 arg12 x0 x1 x3 x4) := by sl_kernel_rfl
theorem hs0_at31 : (kernelRun0_A.sl.HS0_33 (F := Ideal) c i arg2 harg2 arg3 harg3 arg4 harg4 arg5 harg5 arg6 harg6 arg7 harg7 arg11 x0 x1 x2 x3 x4 x5) = ⟨R3 31 (by decide), k0_pay492 (F := Ideal) (DK (W i) (ld2 arg2 harg2 x0 31 (by decide)) (ld3 arg3 harg3 x1 31 (by decide)) (ld4 arg4 harg4 x2 31 (by decide)) (ld5 arg5 harg5 x3 31 (by decide)) (ld6 arg6 harg6 x4 31 (by decide)) (ld7 arg7 harg7 x5 31 (by decide))) (arg11.view.readCov (kernelRun0_A.sl.HS0_32 (F := Ideal) c i arg2 harg2 arg3 harg3 arg4 harg4 arg5 harg5 arg6 harg6 arg7 harg7 arg11 x0 x1 x2 x3 x4 x5) (R3 31 (by decide)).toLoadRect)⟩ :: (kernelRun0_A.sl.HS0_32 (F := Ideal) c i arg2 harg2 arg3 harg3 arg4 harg4 arg5 harg5 arg6 harg6 arg7 harg7 arg11 x0 x1 x2 x3 x4 x5) := by sl_kernel_rfl
theorem hs1_at31 : (kernelRun0_A.sl.HS1_33 (F := Ideal) c i arg2 harg2 arg3 harg3 arg5 harg5 arg6 harg6 arg12 x0 x1 x3 x4) = ⟨R3 31 (by decide), k0_pay492 (F := Ideal) (DV (W i) (ld2 arg2 harg2 x0 31 (by decide)) (ld3 arg3 harg3 x1 31 (by decide)) (ld5 arg5 harg5 x3 31 (by decide)) (ld6 arg6 harg6 x4 31 (by decide))) (arg12.view.readCov (kernelRun0_A.sl.HS1_32 (F := Ideal) c i arg2 harg2 arg3 harg3 arg5 harg5 arg6 harg6 arg12 x0 x1 x3 x4) (R3 31 (by decide)).toLoadRect)⟩ :: (kernelRun0_A.sl.HS1_32 (F := Ideal) c i arg2 harg2 arg3 harg3 arg5 harg5 arg6 harg6 arg12 x0 x1 x3 x4) := by sl_kernel_rfl

theorem dq_pieces : (kernelRun0_A (F := Ideal) c i arg2 harg2 arg3 harg3 arg4 harg4 arg5 harg5 arg6 harg6 arg7 harg7 arg8 harg8 arg9 harg9 arg10 harg10 arg11 harg11 arg12 harg12 x0 x1 x2 x3 x4 x5).1 = [⟨R3 31 (by decide), k0_pay199 (F := Ideal) (k0_pay198 (DQ (W i) (ld2 arg2 harg2 x0 31 (by decide)) (ld3 arg3 harg3 x1 31 (by decide)) (ld4 arg4 harg4 x2 31 (by decide)) (ld5 arg5 harg5 x3 31 (by decide)) (ld6 arg6 harg6 x4 31 (by decide)) (ld7 arg7 harg7 x5 31 (by decide))))⟩, ⟨R3 30 (by decide), k0_pay199 (F := Ideal) (k0_pay198 (DQ (W i) (ld2 arg2 harg2 x0 30 (by decide)) (ld3 arg3 harg3 x1 30 (by decide)) (ld4 arg4 harg4 x2 30 (by decide)) (ld5 arg5 harg5 x3 30 (by decide)) (ld6 arg6 harg6 x4 30 (by decide)) (ld7 arg7 harg7 x5 30 (by decide))))⟩, ⟨R3 29 (by decide), k0_pay199 (F := Ideal) (k0_pay198 (DQ (W i) (ld2 arg2 harg2 x0 29 (by decide)) (ld3 arg3 harg3 x1 29 (by decide)) (ld4 arg4 harg4 x2 29 (by decide)) (ld5 arg5 harg5 x3 29 (by decide)) (ld6 arg6 harg6 x4 29 (by decide)) (ld7 arg7 harg7 x5 29 (by decide))))⟩, ⟨R3 28 (by decide), k0_pay199 (F := Ideal) (k0_pay198 (DQ (W i) (ld2 arg2 harg2 x0 28 (by decide)) (ld3 arg3 harg3 x1 28 (by decide)) (ld4 arg4 harg4 x2 28 (by decide)) (ld5 arg5 harg5 x3 28 (by decide)) (ld6 arg6 harg6 x4 28 (by decide)) (ld7 arg7 harg7 x5 28 (by decide))))⟩, ⟨R3 27 (by decide), k0_pay199 (F := Ideal) (k0_pay198 (DQ (W i) (ld2 arg2 harg2 x0 27 (by decide)) (ld3 arg3 harg3 x1 27 (by decide)) (ld4 arg4 harg4 x2 27 (by decide)) (ld5 arg5 harg5 x3 27 (by decide)) (ld6 arg6 harg6 x4 27 (by decide)) (ld7 arg7 harg7 x5 27 (by decide))))⟩, ⟨R3 26 (by decide), k0_pay199 (F := Ideal) (k0_pay198 (DQ (W i) (ld2 arg2 harg2 x0 26 (by decide)) (ld3 arg3 harg3 x1 26 (by decide)) (ld4 arg4 harg4 x2 26 (by decide)) (ld5 arg5 harg5 x3 26 (by decide)) (ld6 arg6 harg6 x4 26 (by decide)) (ld7 arg7 harg7 x5 26 (by decide))))⟩, ⟨R3 25 (by decide), k0_pay199 (F := Ideal) (k0_pay198 (DQ (W i) (ld2 arg2 harg2 x0 25 (by decide)) (ld3 arg3 harg3 x1 25 (by decide)) (ld4 arg4 harg4 x2 25 (by decide)) (ld5 arg5 harg5 x3 25 (by decide)) (ld6 arg6 harg6 x4 25 (by decide)) (ld7 arg7 harg7 x5 25 (by decide))))⟩, ⟨R3 24 (by decide), k0_pay199 (F := Ideal) (k0_pay198 (DQ (W i) (ld2 arg2 harg2 x0 24 (by decide)) (ld3 arg3 harg3 x1 24 (by decide)) (ld4 arg4 harg4 x2 24 (by decide)) (ld5 arg5 harg5 x3 24 (by decide)) (ld6 arg6 harg6 x4 24 (by decide)) (ld7 arg7 harg7 x5 24 (by decide))))⟩, ⟨R3 23 (by decide), k0_pay199 (F := Ideal) (k0_pay198 (DQ (W i) (ld2 arg2 harg2 x0 23 (by decide)) (ld3 arg3 harg3 x1 23 (by decide)) (ld4 arg4 harg4 x2 23 (by decide)) (ld5 arg5 harg5 x3 23 (by decide)) (ld6 arg6 harg6 x4 23 (by decide)) (ld7 arg7 harg7 x5 23 (by decide))))⟩, ⟨R3 22 (by decide), k0_pay199 (F := Ideal) (k0_pay198 (DQ (W i) (ld2 arg2 harg2 x0 22 (by decide)) (ld3 arg3 harg3 x1 22 (by decide)) (ld4 arg4 harg4 x2 22 (by decide)) (ld5 arg5 harg5 x3 22 (by decide)) (ld6 arg6 harg6 x4 22 (by decide)) (ld7 arg7 harg7 x5 22 (by decide))))⟩, ⟨R3 21 (by decide), k0_pay199 (F := Ideal) (k0_pay198 (DQ (W i) (ld2 arg2 harg2 x0 21 (by decide)) (ld3 arg3 harg3 x1 21 (by decide)) (ld4 arg4 harg4 x2 21 (by decide)) (ld5 arg5 harg5 x3 21 (by decide)) (ld6 arg6 harg6 x4 21 (by decide)) (ld7 arg7 harg7 x5 21 (by decide))))⟩, ⟨R3 20 (by decide), k0_pay199 (F := Ideal) (k0_pay198 (DQ (W i) (ld2 arg2 harg2 x0 20 (by decide)) (ld3 arg3 harg3 x1 20 (by decide)) (ld4 arg4 harg4 x2 20 (by decide)) (ld5 arg5 harg5 x3 20 (by decide)) (ld6 arg6 harg6 x4 20 (by decide)) (ld7 arg7 harg7 x5 20 (by decide))))⟩, ⟨R3 19 (by decide), k0_pay199 (F := Ideal) (k0_pay198 (DQ (W i) (ld2 arg2 harg2 x0 19 (by decide)) (ld3 arg3 harg3 x1 19 (by decide)) (ld4 arg4 harg4 x2 19 (by decide)) (ld5 arg5 harg5 x3 19 (by decide)) (ld6 arg6 harg6 x4 19 (by decide)) (ld7 arg7 harg7 x5 19 (by decide))))⟩, ⟨R3 18 (by decide), k0_pay199 (F := Ideal) (k0_pay198 (DQ (W i) (ld2 arg2 harg2 x0 18 (by decide)) (ld3 arg3 harg3 x1 18 (by decide)) (ld4 arg4 harg4 x2 18 (by decide)) (ld5 arg5 harg5 x3 18 (by decide)) (ld6 arg6 harg6 x4 18 (by decide)) (ld7 arg7 harg7 x5 18 (by decide))))⟩, ⟨R3 17 (by decide), k0_pay199 (F := Ideal) (k0_pay198 (DQ (W i) (ld2 arg2 harg2 x0 17 (by decide)) (ld3 arg3 harg3 x1 17 (by decide)) (ld4 arg4 harg4 x2 17 (by decide)) (ld5 arg5 harg5 x3 17 (by decide)) (ld6 arg6 harg6 x4 17 (by decide)) (ld7 arg7 harg7 x5 17 (by decide))))⟩, ⟨R3 16 (by decide), k0_pay199 (F := Ideal) (k0_pay198 (DQ (W i) (ld2 arg2 harg2 x0 16 (by decide)) (ld3 arg3 harg3 x1 16 (by decide)) (ld4 arg4 harg4 x2 16 (by decide)) (ld5 arg5 harg5 x3 16 (by decide)) (ld6 arg6 harg6 x4 16 (by decide)) (ld7 arg7 harg7 x5 16 (by decide))))⟩, ⟨R3 15 (by decide), k0_pay199 (F := Ideal) (k0_pay198 (DQ (W i) (ld2 arg2 harg2 x0 15 (by decide)) (ld3 arg3 harg3 x1 15 (by decide)) (ld4 arg4 harg4 x2 15 (by decide)) (ld5 arg5 harg5 x3 15 (by decide)) (ld6 arg6 harg6 x4 15 (by decide)) (ld7 arg7 harg7 x5 15 (by decide))))⟩, ⟨R3 14 (by decide), k0_pay199 (F := Ideal) (k0_pay198 (DQ (W i) (ld2 arg2 harg2 x0 14 (by decide)) (ld3 arg3 harg3 x1 14 (by decide)) (ld4 arg4 harg4 x2 14 (by decide)) (ld5 arg5 harg5 x3 14 (by decide)) (ld6 arg6 harg6 x4 14 (by decide)) (ld7 arg7 harg7 x5 14 (by decide))))⟩, ⟨R3 13 (by decide), k0_pay199 (F := Ideal) (k0_pay198 (DQ (W i) (ld2 arg2 harg2 x0 13 (by decide)) (ld3 arg3 harg3 x1 13 (by decide)) (ld4 arg4 harg4 x2 13 (by decide)) (ld5 arg5 harg5 x3 13 (by decide)) (ld6 arg6 harg6 x4 13 (by decide)) (ld7 arg7 harg7 x5 13 (by decide))))⟩, ⟨R3 12 (by decide), k0_pay199 (F := Ideal) (k0_pay198 (DQ (W i) (ld2 arg2 harg2 x0 12 (by decide)) (ld3 arg3 harg3 x1 12 (by decide)) (ld4 arg4 harg4 x2 12 (by decide)) (ld5 arg5 harg5 x3 12 (by decide)) (ld6 arg6 harg6 x4 12 (by decide)) (ld7 arg7 harg7 x5 12 (by decide))))⟩, ⟨R3 11 (by decide), k0_pay199 (F := Ideal) (k0_pay198 (DQ (W i) (ld2 arg2 harg2 x0 11 (by decide)) (ld3 arg3 harg3 x1 11 (by decide)) (ld4 arg4 harg4 x2 11 (by decide)) (ld5 arg5 harg5 x3 11 (by decide)) (ld6 arg6 harg6 x4 11 (by decide)) (ld7 arg7 harg7 x5 11 (by decide))))⟩, ⟨R3 10 (by decide), k0_pay199 (F := Ideal) (k0_pay198 (DQ (W i) (ld2 arg2 harg2 x0 10 (by decide)) (ld3 arg3 harg3 x1 10 (by decide)) (ld4 arg4 harg4 x2 10 (by decide)) (ld5 arg5 harg5 x3 10 (by decide)) (ld6 arg6 harg6 x4 10 (by decide)) (ld7 arg7 harg7 x5 10 (by decide))))⟩, ⟨R3 9 (by decide), k0_pay199 (F := Ideal) (k0_pay198 (DQ (W i) (ld2 arg2 harg2 x0 9 (by decide)) (ld3 arg3 harg3 x1 9 (by decide)) (ld4 arg4 harg4 x2 9 (by decide)) (ld5 arg5 harg5 x3 9 (by decide)) (ld6 arg6 harg6 x4 9 (by decide)) (ld7 arg7 harg7 x5 9 (by decide))))⟩, ⟨R3 8 (by decide), k0_pay199 (F := Ideal) (k0_pay198 (DQ (W i) (ld2 arg2 harg2 x0 8 (by decide)) (ld3 arg3 harg3 x1 8 (by decide)) (ld4 arg4 harg4 x2 8 (by decide)) (ld5 arg5 harg5 x3 8 (by decide)) (ld6 arg6 harg6 x4 8 (by decide)) (ld7 arg7 harg7 x5 8 (by decide))))⟩, ⟨R3 7 (by decide), k0_pay199 (F := Ideal) (k0_pay198 (DQ (W i) (ld2 arg2 harg2 x0 7 (by decide)) (ld3 arg3 harg3 x1 7 (by decide)) (ld4 arg4 harg4 x2 7 (by decide)) (ld5 arg5 harg5 x3 7 (by decide)) (ld6 arg6 harg6 x4 7 (by decide)) (ld7 arg7 harg7 x5 7 (by decide))))⟩, ⟨R3 6 (by decide), k0_pay199 (F := Ideal) (k0_pay198 (DQ (W i) (ld2 arg2 harg2 x0 6 (by decide)) (ld3 arg3 harg3 x1 6 (by decide)) (ld4 arg4 harg4 x2 6 (by decide)) (ld5 arg5 harg5 x3 6 (by decide)) (ld6 arg6 harg6 x4 6 (by decide)) (ld7 arg7 harg7 x5 6 (by decide))))⟩, ⟨R3 5 (by decide), k0_pay199 (F := Ideal) (k0_pay198 (DQ (W i) (ld2 arg2 harg2 x0 5 (by decide)) (ld3 arg3 harg3 x1 5 (by decide)) (ld4 arg4 harg4 x2 5 (by decide)) (ld5 arg5 harg5 x3 5 (by decide)) (ld6 arg6 harg6 x4 5 (by decide)) (ld7 arg7 harg7 x5 5 (by decide))))⟩, ⟨R3 4 (by decide), k0_pay199 (F := Ideal) (k0_pay198 (DQ (W i) (ld2 arg2 harg2 x0 4 (by decide)) (ld3 arg3 harg3 x1 4 (by decide)) (ld4 arg4 harg4 x2 4 (by decide)) (ld5 arg5 harg5 x3 4 (by decide)) (ld6 arg6 harg6 x4 4 (by decide)) (ld7 arg7 harg7 x5 4 (by decide))))⟩, ⟨R3 3 (by decide), k0_pay199 (F := Ideal) (k0_pay198 (DQ (W i) (ld2 arg2 harg2 x0 3 (by decide)) (ld3 arg3 harg3 x1 3 (by decide)) (ld4 arg4 harg4 x2 3 (by decide)) (ld5 arg5 harg5 x3 3 (by decide)) (ld6 arg6 harg6 x4 3 (by decide)) (ld7 arg7 harg7 x5 3 (by decide))))⟩, ⟨R3 2 (by decide), k0_pay199 (F := Ideal) (k0_pay198 (DQ (W i) (ld2 arg2 harg2 x0 2 (by decide)) (ld3 arg3 harg3 x1 2 (by decide)) (ld4 arg4 harg4 x2 2 (by decide)) (ld5 arg5 harg5 x3 2 (by decide)) (ld6 arg6 harg6 x4 2 (by decide)) (ld7 arg7 harg7 x5 2 (by decide))))⟩, ⟨R3 1 (by decide), k0_pay199 (F := Ideal) (k0_pay198 (DQ (W i) (ld2 arg2 harg2 x0 1 (by decide)) (ld3 arg3 harg3 x1 1 (by decide)) (ld4 arg4 harg4 x2 1 (by decide)) (ld5 arg5 harg5 x3 1 (by decide)) (ld6 arg6 harg6 x4 1 (by decide)) (ld7 arg7 harg7 x5 1 (by decide))))⟩, ⟨R3 0 (by decide), k0_pay199 (F := Ideal) (k0_pay198 (DQ (W i) (ld2 arg2 harg2 x0 0 (by decide)) (ld3 arg3 harg3 x1 0 (by decide)) (ld4 arg4 harg4 x2 0 (by decide)) (ld5 arg5 harg5 x3 0 (by decide)) (ld6 arg6 harg6 x4 0 (by decide)) (ld7 arg7 harg7 x5 0 (by decide))))⟩] := by sl_kernel_rfl
theorem dk_pieces : (kernelRun0_A (F := Ideal) c i arg2 harg2 arg3 harg3 arg4 harg4 arg5 harg5 arg6 harg6 arg7 harg7 arg8 harg8 arg9 harg9 arg10 harg10 arg11 harg11 arg12 harg12 x0 x1 x2 x3 x4 x5).2.1 = [⟨Rect.unit (s := S32x128x128) ![0, 0, 0] S32x128x128.size inb_S32x128x128_S32x128x128_0_0_0, k0_pay494 (F := Ideal) (arg11.view.readCov (kernelRun0_A.sl.HS0_33 (F := Ideal) c i arg2 harg2 arg3 harg3 arg4 harg4 arg5 harg5 arg6 harg6 arg7 harg7 arg11 x0 x1 x2 x3 x4 x5) (Rect.unit (s := S32x128x128) ![0, 0, 0] S32x128x128.size inb_S32x128x128_S32x128x128_0_0_0).toLoadRect)⟩] := by sl_kernel_rfl
theorem dv_pieces : (kernelRun0_A (F := Ideal) c i arg2 harg2 arg3 harg3 arg4 harg4 arg5 harg5 arg6 harg6 arg7 harg7 arg8 harg8 arg9 harg9 arg10 harg10 arg11 harg11 arg12 harg12 x0 x1 x2 x3 x4 x5).2.2.1 = [⟨Rect.unit (s := S32x128x128) ![0, 0, 0] S32x128x128.size inb_S32x128x128_S32x128x128_0_0_0, k0_pay495 (F := Ideal) (arg12.view.readCov (kernelRun0_A.sl.HS1_33 (F := Ideal) c i arg2 harg2 arg3 harg3 arg5 harg5 arg6 harg6 arg12 x0 x1 x3 x4) (Rect.unit (s := S32x128x128) ![0, 0, 0] S32x128x128.size inb_S32x128x128_S32x128x128_0_0_0).toLoadRect)⟩] := by sl_kernel_rfl

end run

end Cert.AttnBwd2Ideal.Whole

end
-- ==== Proof.AttnBwd2Ref.lean ====
module

public import proofs.«01_k».proof.Proof.AttnBwd2Pay
public import proofs.«01_k».proof.Proof.Gen.AttnBwd2RefIdeal.Read

@[expose] public section

set_option maxRecDepth 16384

noncomputable section

open Idealize.ShloMosaic Idealize.ShloMosaic.TcCoe Idealize.SL.Sem
open Idealize.ShloMosaic.Pipeline (Dat)

namespace Cert.AttnBwd2Ideal.Whole

open Cert.AttnBwd2Ideal Cert.AttnBwd2Ideal.Gen Cert.AttnBwd2RefIdeal.Read

/-! ## One head of one stream, in plain sums -/

/-- A score's scale, `1 / √128` as a float. -/
abbrev SC : EReal := Ideal.ofBits FTy.f32 0x3DB504F3#32

/-- The probability of key `k` for query `r`. -/
def PR (fq fk : Fin 128 → Fin 128 → EReal) (fl : Fin 128 → EReal) (r k : Fin 128) : EReal :=
  if k ≤ r then Ideal.exp ((∑ e, fq r e * fk k e) * SC - fl r) else 0

/-- The gradient of the score. -/
def DS (fq fk fv fd : Fin 128 → Fin 128 → EReal) (fl fe : Fin 128 → EReal) (r k : Fin 128) : EReal :=
  PR fq fk fl r k * ((∑ e, fd r e * fv k e) - fe r) * SC

theorem sel_one {α : Type} (a b : α) : Scalar.select 1#1 a b = a := rfl
theorem sel_zero {α : Type} (a b : α) : Scalar.select 0#1 a b = b := rfl

theorem lane_bit : ∀ x h : Fin 8, IntOp.cmpi CmpIPredicate.eq (BitVec.ofNat 32 x.val) (BitVec.ofNat 32 h.val) = if x = h then 1#1 else 0#1 := by decide +kernel
theorem causal_bit : ∀ k r : Fin 128, IntOp.cmpi CmpIPredicate.sle (BitVec.ofNat 32 k.val) (BitVec.ofNat 32 r.val) = if k ≤ r then 1#1 else 0#1 := by decide +kernel

theorem pick (h : Fin 8) (f : Fin 8 → EReal) : (∑ x : Fin 8, Scalar.select (IntOp.cmpi CmpIPredicate.eq (BitVec.ofNat 32 x.val) (BitVec.ofNat 32 h.val)) (f x) 0) = f h := by
  rw [Finset.sum_eq_single h]
  · rw [lane_bit, if_pos rfl]; rfl
  · intro x _ hx
    rw [lane_bit, if_neg hx]; rfl
  · intro hx; exact absurd (Finset.mem_univ h) hx

theorem mask_exp (k r : Fin 128) (s : EReal) : Ideal.exp (Scalar.select (IntOp.cmpi CmpIPredicate.sle (BitVec.ofNat 32 k.val) (BitVec.ofNat 32 r.val)) s (Named.named (F := Ideal) κ "mask" (φ := .f32) 0xF149F2CA#32))
    = if k ≤ r then Ideal.exp s else 0 := by
  rw [causal_bit]
  by_cases hk : k ≤ r
  · rw [if_pos hk, if_pos hk]; rfl
  · rw [if_neg hk, if_neg hk]
    show Ideal.exp (Named.named (F := Ideal) κ "mask" (φ := .f32) 0xF149F2CA#32) = 0
    have e : Named.named (F := Ideal) κ "mask" (φ := .f32) 0xF149F2CA#32 = (⊥ : EReal) := rfl
    rw [e]
    rfl

section kernel
variable (h : Fin 8) (q k v d : Vec Ideal S1x128x128 .bf16) (l e : Vec Ideal S1x128x8 .f32)

/-- The rows of a load. -/
abbrev rw3 (x : Vec Ideal S1x128x128 .bf16) : Fin 128 → Fin 128 → EReal := fun r e => x (ix3 0 r e)
abbrev cl (x : Vec Ideal S1x128x8 .f32) (h : Fin 8) : Fin 128 → EReal := fun r => x (ix3 0 r h)

theorem dk_at (a b : Fin 128) : DK (BitVec.ofNat 32 h.val) q k v d l e (ix2 a b) = ∑ x, DS (rw3 q) (rw3 k) (rw3 v) (rw3 d) (cl l h) (cl e h) x a * q (ix3 0 x b) := by
  pointwise [DK, k0_pay114, k0_pay112, k0_pay111, k0_pay1, k0_pay4, k0_pay13, k0_pay14, k0_pay9, k0_pay10, k0_pay5]
  refine Finset.sum_congr rfl fun x _ => ?_
  rw [mask_exp, pick h (fun y => l (ix3 0 x y)), pick h (fun y => e (ix3 0 x y))]
  rfl

theorem dq_at (a b : Fin 128) : DQ (BitVec.ofNat 32 h.val) q k v d l e (ix2 a b) = ∑ x, DS (rw3 q) (rw3 k) (rw3 v) (rw3 d) (cl l h) (cl e h) a x * k (ix3 0 x b) := by
  pointwise [DQ, k0_pay113, k0_pay112, k0_pay111, k0_pay1, k0_pay4, k0_pay13, k0_pay14, k0_pay9, k0_pay10, k0_pay5]
  refine Finset.sum_congr rfl fun x _ => ?_
  rw [mask_exp, pick h (fun y => l (ix3 0 a y)), pick h (fun y => e (ix3 0 a y))]
  rfl

theorem dv_at (a b : Fin 128) : DV (BitVec.ofNat 32 h.val) q k d l (ix2 a b) = ∑ x, PR (rw3 q) (rw3 k) (cl l h) x a * d (ix3 0 x b) := by
  pointwise [DV, k0_pay115, k0_pay111, k0_pay1, k0_pay4, k0_pay13, k0_pay9, k0_pay5]
  refine Finset.sum_congr rfl fun x _ => ?_
  rw [mask_exp, pick h (fun y => l (ix3 0 x y))]
  rfl
end kernel

/-- A token of a stream. -/
abbrev tok (d : Fin 16) (r : Fin 128) : Fin 2048 := ⟨r.val * 16 + d.val, by omega⟩

theorem ix5_eq {n0 n1 n2 n3 n4 : Nat} (a0 b0 : Fin n0) (a1 b1 : Fin n1) (a2 b2 : Fin n2) (a3 b3 : Fin n3) (a4 b4 : Fin n4) (h0 : a0.val = b0.val) (h1 : a1.val = b1.val) (h2 : a2.val = b2.val) (h3 : a3.val = b3.val) (h4 : a4.val = b4.val) :
    (ix5 a0 a1 a2 a3 a4) = ix5 b0 b1 b2 b3 b4 := by
  rw [Fin.ext h0, Fin.ext h1, Fin.ext h2, Fin.ext h3, Fin.ext h4]
theorem ix3_eq {n0 n1 n2 : Nat} (a0 b0 : Fin n0) (a1 b1 : Fin n1) (a2 b2 : Fin n2) (h0 : a0.val = b0.val) (h1 : a1.val = b1.val) (h2 : a2.val = b2.val) :
    (ix3 a0 a1 a2) = ix3 b0 b1 b2 := by
  rw [Fin.ext h0, Fin.ext h1, Fin.ext h2]
theorem ix4_eq {n0 n1 n2 n3 : Nat} (a0 b0 : Fin n0) (a1 b1 : Fin n1) (a2 b2 : Fin n2) (a3 b3 : Fin n3) (h0 : a0.val = b0.val) (h1 : a1.val = b1.val) (h2 : a2.val = b2.val) (h3 : a3.val = b3.val) :
    (ix4 a0 a1 a2 a3) = ix4 b0 b1 b2 b3 := by
  rw [Fin.ext h0, Fin.ext h1, Fin.ext h2, Fin.ext h3]

section ref
variable (x0 x1 x2 : FVec Ideal Cert.AttnBwd2RefIdeal.S2x2048x8x128 .f32) (x3 x4 : FVec Ideal Cert.AttnBwd2RefIdeal.S2x2048x8 .f32) (x5 : FVec Ideal Cert.AttnBwd2RefIdeal.S2x2048x8x128 .f32)
/-- The rows of one head of one stream. -/
abbrev hd (x : FVec Ideal Cert.AttnBwd2RefIdeal.S2x2048x8x128 .f32) (b : Fin 2) (d : Fin 16) (h : Fin 8) : Fin 128 → Fin 128 → EReal := fun r e => x (ix4 b (tok d r) h e)
abbrev hc (x : FVec Ideal Cert.AttnBwd2RefIdeal.S2x2048x8 .f32) (b : Fin 2) (d : Fin 16) (h : Fin 8) : Fin 128 → EReal := fun r => x (ix3 b (tok d r) h)

theorem band_bit : ∀ r k : Fin 128, IntOp.andi (IntOp.cmpi CmpIPredicate.sge (BitVec.ofNat 32 r.val - BitVec.ofNat 32 k.val) 0#32) (IntOp.cmpi CmpIPredicate.sle (BitVec.ofNat 32 r.val - BitVec.ofNat 32 k.val) 128#32) = if k ≤ r then 1#1 else 0#1 := by decide +kernel

theorem ref_mask (b : Fin 2) (d : Fin 16) (h : Fin 8) (r k : Fin 128) : val_main_v27_1 (F := Ideal) (ix5 b d h r k) = if k ≤ r then 1#1 else 0#1 := by
  pointwise [val_main_v27_1, val_main_v17, val_main_v16, val_main_v15, val_main_c_0, val_main_v14, val_main_v13, val_main_c, val_main_v12, val_main_v11, val_main_v10, val_main_v9, val_main_v8, val_main_v7, val_main_v6]
  exact band_bit r k
theorem ref_q (b : Fin 2) (d : Fin 16) (h : Fin 8) (r e : Fin 128) : val_main_v1 (F := Ideal) x0 (ix5 b d h r e) = hd x0 b d h r e := by
  pointwise [val_main_v1, val_main_v0]
theorem ref_k (b : Fin 2) (d : Fin 16) (h : Fin 8) (r e : Fin 128) : val_main_v3 (F := Ideal) x1 (ix5 b d h r e) = hd x1 b d h r e := by
  pointwise [val_main_v3, val_main_v2]
theorem ref_v (b : Fin 2) (d : Fin 16) (h : Fin 8) (r e : Fin 128) : val_main_v5 (F := Ideal) x2 (ix5 b d h r e) = hd x2 b d h r e := by
  pointwise [val_main_v5, val_main_v4]
theorem ref_c (b : Fin 2) (d : Fin 16) (h : Fin 8) (r e : Fin 128) : val_main_v39 (F := Ideal) x5 (ix5 b d h r e) = hd x5 b d h r e := by
  pointwise [val_main_v39, val_main_v38]
theorem ref_l (b : Fin 2) (d : Fin 16) (h : Fin 8) (r k : Fin 128) : val_main_v24 (F := Ideal) x3 (ix5 b d h r k) = hc x3 b d h r := by
  pointwise [val_main_v24, val_main_v23, val_main_v22, val_main_v21]
theorem ref_e (b : Fin 2) (d : Fin 16) (h : Fin 8) (r k : Fin 128) : val_main_v37 (F := Ideal) x4 (ix5 b d h r k) = - hc x4 b d h r := by
  pointwise [val_main_v37, val_main_v36, val_main_v35, val_main_v34]
theorem ref_s (b : Fin 2) (d : Fin 16) (h : Fin 8) (r k : Fin 128) : val_main_v26 (F := Ideal) x0 x1 x3 (ix5 b d h r k)
    = Ideal.exp ((∑ e, hd x0 b d h r e * hd x1 b d h k e) * SC - hc x3 b d h r) := by
  have e : ∀ y, val_main_v19 (F := Ideal) y = SC := by intro y; pointwise [val_main_v19, val_main_cst]
  rw [← ref_l x3 b d h r k, ← e (ix5 b d h r k)]
  have e2 : (∑ e, hd x0 b d h r e * hd x1 b d h k e) = val_main_v18 (F := Ideal) x0 x1 (ix5 b d h r k) := by
    pointwise [val_main_v18]
    refine Finset.sum_congr rfl fun y _ => ?_
    rw [← ref_q, ← ref_k]; try rfl
  rw [e2]
  pointwise [val_main_v26, val_main_v25, val_main_v20]
theorem ref_p (b : Fin 2) (d : Fin 16) (h : Fin 8) (r k : Fin 128) : val_main_v27_0 (F := Ideal) x0 x1 x3 (ix5 b d h r k) = PR (hd x0 b d h) (hd x1 b d h) (hc x3 b d h) r k := by
  have e : ∀ y, val_main_call0_v2 (F := Ideal) y = 0 := by intro y; pointwise [val_main_call0_v2, val_main_call0_v0, val_main_cst_1]; show Ideal.ofBits FTy.f32 0x00000000#32 = 0; exact Ideal.ofBits_zero FTy.f32
  pointwise [val_main_v27_0]
  rw [ref_mask, ref_s, e]
  unfold PR
  by_cases hk : k ≤ r
  · rw [if_pos hk, if_pos hk]; rfl
  · rw [if_neg hk, if_neg hk]; rfl
theorem ref_ds (b : Fin 2) (d : Fin 16) (h : Fin 8) (r k : Fin 128) : val_main_v47 (F := Ideal) x0 x1 x2 x3 x4 x5 (ix5 b d h r k) = DS (hd x0 b d h) (hd x1 b d h) (hd x2 b d h) (hd x5 b d h) (hc x3 b d h) (hc x4 b d h) r k := by
  have e : ∀ y, val_main_call1_v0 (F := Ideal) y = 0 := by intro y; pointwise [val_main_call1_v0, val_main_call1_cst]
  have e3 : ∀ y, val_main_v46 (F := Ideal) y = SC := by intro y; pointwise [val_main_v46, val_main_cst_3]
  have e2 : val_main_v42 (F := Ideal) x2 x5 (ix5 b d h r k) = ∑ e, hd x5 b d h r e * hd x2 b d h k e := by
    pointwise [val_main_v42]
    refine Finset.sum_congr rfl fun y _ => ?_
    rw [← ref_c, ← ref_v]; try rfl
  pointwise [val_main_v47, val_main_v45, val_main_v44, val_main_v43]
  rw [ref_mask, ref_s, e, e2, e3, ref_e]
  unfold DS PR
  by_cases hk : k ≤ r
  · rw [if_pos hk, if_pos hk, sel_one, mul_comm (Ideal.exp _), add_comm]; rfl
  · rw [if_neg hk, if_neg hk, sel_zero, zero_mul, zero_mul, zero_mul, zero_mul]
theorem ref_dq (n : Fin 32) (r : Fin 128) (h : Fin 8) (e : Fin 128) (b : Fin 2) (d : Fin 16) (hn : n.val = b.val * 16 + d.val) (c : Fin 1024) (hc' : c.val = h.val * 128 + e.val) : val_main_v59 (F := Ideal) x0 x1 x2 x3 x4 x5 (ix3 n r c)
    = ∑ k, DS (hd x0 b d h) (hd x1 b d h) (hd x2 b d h) (hd x5 b d h) (hc x3 b d h) (hc x4 b d h) r k * hd x1 b d h k e := by
  have e1 : val_main_v49 (F := Ideal) x0 x1 x2 x3 x4 x5 (ix5 b d h r e) = ∑ k, DS (hd x0 b d h) (hd x1 b d h) (hd x2 b d h) (hd x5 b d h) (hc x3 b d h) (hc x4 b d h) r k * hd x1 b d h k e := by
    pointwise [val_main_v49]
    refine Finset.sum_congr rfl fun y _ => ?_
    rw [← ref_ds, ← ref_k]; try rfl
  rw [← e1]
  pointwise [val_main_v59, val_main_v58, val_main_v57, val_main_v56, val_main_v55, val_main_v54]
  exact congrArg _ (ix5_eq _ _ _ _ _ _ _ _ _ _ (by show n.val / 16 = b.val; omega) (by show n.val % 16 = d.val; omega) (by show c.val / 128 = h.val; omega) rfl (by show c.val % 128 = e.val; omega))
theorem ref_dk (n : Fin 32) (r : Fin 128) (h : Fin 8) (e : Fin 128) (b : Fin 2) (d : Fin 16) (hn : n.val = b.val * 16 + d.val) (c : Fin 1024) (hc' : c.val = h.val * 128 + e.val) : val_main_v63 (F := Ideal) x0 x1 x2 x3 x4 x5 (ix3 n r c)
    = ∑ k, DS (hd x0 b d h) (hd x1 b d h) (hd x2 b d h) (hd x5 b d h) (hc x3 b d h) (hc x4 b d h) k r * hd x0 b d h k e := by
  have e1 : val_main_v48 (F := Ideal) x0 x1 x2 x3 x4 x5 (ix5 b d h r e) = ∑ k, DS (hd x0 b d h) (hd x1 b d h) (hd x2 b d h) (hd x5 b d h) (hc x3 b d h) (hc x4 b d h) k r * hd x0 b d h k e := by
    pointwise [val_main_v48]
    refine Finset.sum_congr rfl fun y _ => ?_
    rw [← ref_ds, ← ref_q]; try rfl
  rw [← e1]
  pointwise [val_main_v63, val_main_v62, val_main_v61, val_main_v60, val_main_v53, val_main_v52]
  exact congrArg _ (ix5_eq _ _ _ _ _ _ _ _ _ _ (by show n.val / 16 = b.val; omega) (by show n.val % 16 = d.val; omega) (by show c.val / 128 = h.val; omega) rfl (by show c.val % 128 = e.val; omega))
theorem ref_dv (n : Fin 32) (r : Fin 128) (h : Fin 8) (e : Fin 128) (b : Fin 2) (d : Fin 16) (hn : n.val = b.val * 16 + d.val) (c : Fin 1024) (hc' : c.val = h.val * 128 + e.val) : val_main_v67 (F := Ideal) x0 x1 x3 x5 (ix3 n r c)
    = ∑ k, PR (hd x0 b d h) (hd x1 b d h) (hc x3 b d h) k r * hd x5 b d h k e := by
  have e1 : val_main_v41 (F := Ideal) x0 x1 x3 x5 (ix5 b d h r e) = ∑ k, PR (hd x0 b d h) (hd x1 b d h) (hc x3 b d h) k r * hd x5 b d h k e := by
    pointwise [val_main_v41, val_main_v40]
    refine Finset.sum_congr rfl fun y _ => ?_
    rw [← ref_p, ← ref_c, mul_comm]; try rfl
  rw [← e1]
  pointwise [val_main_v67, val_main_v66, val_main_v65, val_main_v64, val_main_v51, val_main_v50]
  exact congrArg _ (ix5_eq _ _ _ _ _ _ _ _ _ _ (by show n.val / 16 = b.val; omega) (by show n.val % 16 = d.val; omega) (by show c.val / 128 = h.val; omega) rfl (by show c.val % 128 = e.val; omega))
end ref

variable (m : (ℓ : Loc nD τ sig) → Buf (Elt Ideal) ℓ)
theorem V35 (c : Dev nD) (n : Fin 32) (r : Fin 128) (h : Fin 8) (b : Fin 2) (d : Fin 16) (hn : n.val = b.val * 16 + d.val) : V m c main_v35 (ix3 n r h) = m ((c : Thread nD τ).loc main_arg3) (ix3 b (tok d r) h) := by
  entry_read
  pointwise
  exact congrArg (m ((c : Thread nD τ).loc main_arg3)) (ix3_eq _ _ _ _ _ _ (by show n.val / 16 = b.val; omega) (by show r.val * 16 + n.val % 16 = r.val * 16 + d.val; omega) rfl)
theorem V36 (c : Dev nD) (n : Fin 32) (r : Fin 128) (h : Fin 8) (b : Fin 2) (d : Fin 16) (hn : n.val = b.val * 16 + d.val) : V m c main_v36 (ix3 n r h) = m ((c : Thread nD τ).loc main_arg4) (ix3 b (tok d r) h) := by
  entry_read
  pointwise
  exact congrArg (m ((c : Thread nD τ).loc main_arg4)) (ix3_eq _ _ _ _ _ _ (by show n.val / 16 = b.val; omega) (by show r.val * 16 + n.val % 16 = r.val * 16 + d.val; omega) rfl)
theorem V34 (c : Dev nD) (n : Fin 32) (r : Fin 128) (h : Fin 8) (e : Fin 128) (b : Fin 2) (d : Fin 16) (hn : n.val = b.val * 16 + d.val) (x : Fin 1024) (hx : x.val = h.val * 128 + e.val) :
   V m c main_v34 (ix3 n r x) = m ((c : Thread nD τ).loc main_arg5) (ix4 b (tok d r) h e) := by
  entry_read
  pointwise
  exact congrArg (m ((c : Thread nD τ).loc main_arg5)) (ix4_eq _ _ _ _ _ _ _ _ (by show (n.val * 128 + r.val) / 2048 = b.val; omega) (by show r.val * 16 + (n.val * 128 + r.val) / 128 % 16 = r.val * 16 + d.val; omega) (by show x.val / 128 = h.val; omega) (by show x.val % 128 = e.val; omega))

/-- An argument's rows by streams. -/
abbrev ST (x : FVec Ideal S2x2048x8x128 .f32) : FVec Ideal S4096x1024 .f32 :=
  shapeCast S4096x1024 (shapeCast S32x128x1024 (transpose S2x16x128x1024 [0, 2, 1, 3] (shapeCast S2x128x16x1024 (shapeCast S4096x1024 x shapeCasts_S2x2048x8x128_S4096x1024) shapeCasts_S4096x1024_S2x128x16x1024) transposes_S2x128x16x1024_S2x16x128x1024_0_2_1_3) shapeCasts_S2x16x128x1024_S32x128x1024) shapeCasts_S32x128x1024_S4096x1024
theorem ST_at (x : FVec Ideal S2x2048x8x128 .f32) (n : Fin 32) (r : Fin 128) (h : Fin 8) (e : Fin 128) (b : Fin 2) (d : Fin 16) (hn : n.val = b.val * 16 + d.val) (i : Fin 4096) (hi : i.val = n.val * 128 + r.val) (j : Fin 1024) (hj : j.val = h.val * 128 + e.val) : ST x (ix2 i j) = x (ix4 b (tok d r) h e) := by
  pointwise [ST]
  exact congrArg x (ix4_eq _ _ _ _ _ _ _ _ (by show i.val / 2048 = b.val; omega) (by show i.val % 128 * 16 + i.val / 128 % 16 = r.val * 16 + d.val; omega) (by show j.val / 128 = h.val; omega) (by show j.val % 128 = e.val; omega))
/-- The three side by side. -/
abbrev QKV (x0 x1 x2 : FVec Ideal S2x2048x8x128 .f32) : FVec Ideal S32x128x3072 .bf16 :=
  shapeCast S32x128x3072 (truncf .bf16 (concatenate S4096x3072 1 [⟨S4096x1024, ST x0⟩, ⟨S4096x1024, ST x1⟩, ⟨S4096x1024, ST x2⟩] concatenates_S4096x1024_S4096x1024_S4096x1024_S4096x3072_d1 : FVec Ideal S4096x3072 .f32) bitsLt_bf16_f32) shapeCasts_S4096x3072_S32x128x3072
theorem QKV_at (x0 x1 x2 : FVec Ideal S2x2048x8x128 .f32) (n : Fin 32) (r : Fin 128) (h : Fin 8) (e : Fin 128) (b : Fin 2) (d : Fin 16) (hn : n.val = b.val * 16 + d.val) (x : Fin 3072) :
    (x.val = h.val * 128 + e.val → QKV x0 x1 x2 (ix3 n r x) = x0 (ix4 b (tok d r) h e)) ∧
    (x.val = 1024 + (h.val * 128 + e.val) → QKV x0 x1 x2 (ix3 n r x) = x1 (ix4 b (tok d r) h e)) ∧
    (x.val = 2048 + (h.val * 128 + e.val) → QKV x0 x1 x2 (ix3 n r x) = x2 (ix4 b (tok d r) h e)) := by
  have k0 := ST_at x0 n r h e b d hn
  have k1 := ST_at x1 n r h e b d hn
  have k2 := ST_at x2 n r h e b d hn
  unfold QKV
  generalize ST x0 = y0 at *
  generalize ST x1 = y1 at *
  generalize ST x2 = y2 at *
  pointwise
  have l1 := h.isLt
  have l2 := e.isLt
  refine ⟨fun hx => ?_, fun hx => ?_, fun hx => ?_⟩
  · rw [dif_pos (by omega)]
    exact k0 _ rfl _ hx
  · rw [dif_neg (by omega), dif_pos (by omega)]
    exact k1 _ rfl _ (by show x.val - 1024 = _; omega)
  · rw [dif_neg (by omega), dif_neg (by omega)]
    exact k2 _ rfl _ (by show x.val - 1024 - 1024 = _; omega)
theorem V32 (c : Dev nD) :
   V m c main_v32 = QKV (m ((c : Thread nD τ).loc main_arg0)) (m ((c : Thread nD τ).loc main_arg1)) (m ((c : Thread nD τ).loc main_arg2)) := by
  sl_kernel_rfl
end Cert.AttnBwd2Ideal.Whole

end
-- ==== Proof.AttnBwd2Acc.lean ====
module

public import proofs.«01_k».proof.Proof.AttnBwd2Ref

@[expose] public section

set_option maxRecDepth 16384

noncomputable section

open Idealize.ShloMosaic Idealize.ShloMosaic.TcCoe Idealize.SL.Sem
open Idealize.ShloMosaic.Pipeline (Dat)

namespace Cert.AttnBwd2Ideal.Whole

open Cert.AttnBwd2Ideal Cert.AttnBwd2Ideal.Gen Cert.AttnBwd2RefIdeal.Read

/-! ## The rows read -/

theorem emb_R3 (n : Nat) (h : n < 32) (a : Fin 1) (r e : Fin 128) : (R3 n h).emb (ix3 a r e) = ix3 (⟨n, h⟩ : Fin 32) r e := by
  funext k
  apply Fin.ext
  fin_cases k
  · show n + 1 * a.val = n
    have := a.isLt
    omega
  · show 0 + 1 * r.val = r.val
    omega
  · show 0 + 1 * e.val = e.val
    omega
theorem emb_R8 (n : Nat) (h : n < 32) (a : Fin 1) (r : Fin 128) (e : Fin 8) : (R8 n h).emb (ix3 a r e) = ix3 (⟨n, h⟩ : Fin 32) r e := by
  funext k
  apply Fin.ext
  fin_cases k
  · show n + 1 * a.val = n
    have := a.isLt
    omega
  · show 0 + 1 * r.val = r.val
    omega
  · show 0 + 1 * e.val = e.val
    omega

theorem ld3_at (arg : Memref sig .tc .vmem S32x128x128 .bf16) (harg : arg.IsWhole) (x : Vec Ideal S32x128x128 .bf16) (n : Nat) (h : n < 32) (r e : Fin 128) :
    (View.readAt (Elt Ideal) arg.view (R3 n h).toLoadRect (harg.unread x) : Vec Ideal S1x128x128 .bf16) (ix3 0 r e) = x (ix3 (⟨n, h⟩ : Fin 32) r e) := by
  rw [View.readAt_eq_ld, harg.read_unread]
  exact congrArg x (emb_R3 n h 0 r e)
theorem ld8_at (arg : Memref sig .tc .vmem S32x128x8 .f32) (harg : arg.IsWhole) (x : Vec Ideal S32x128x8 .f32) (n : Nat) (h : n < 32) (r : Fin 128) (e : Fin 8) :
    (View.readAt (Elt Ideal) arg.view (R8 n h).toLoadRect (harg.unread x) : Vec Ideal S1x128x8 .f32) (ix3 0 r e) = x (ix3 (⟨n, h⟩ : Fin 32) r e) := by
  rw [View.readAt_eq_ld, harg.read_unread]
  exact congrArg x (emb_R8 n h 0 r e)

/-! ## What a step leaves, in plain sums -/

/-- The rows of one stream of a block. -/
abbrev bw {e : EltTy} (x : Vec Ideal S32x128x128 e) (n : Fin 32) : Fin 128 → Fin 128 → Elt Ideal e := fun r e => x (ix3 n r e)
abbrev bc (x : Vec Ideal S32x128x8 .f32) (h : Fin 8) (n : Fin 32) : Fin 128 → EReal := fun r => x (ix3 n r h)

section sums
variable (h : Fin 8) (x0 x1 x2 x3 : Vec Ideal S32x128x128 .bf16) (x4 x5 : Vec Ideal S32x128x8 .f32)

def TQ (y : S32x128x128.Idx) : EReal := ∑ k, DS (bw x0 (y 0)) (bw x1 (y 0)) (bw x2 (y 0)) (bw x3 (y 0)) (bc x4 h (y 0)) (bc x5 h (y 0)) (y 1) k * x1 (ix3 (y 0) k (y 2))
def TK (y : S32x128x128.Idx) : EReal := ∑ k, DS (bw x0 (y 0)) (bw x1 (y 0)) (bw x2 (y 0)) (bw x3 (y 0)) (bc x4 h (y 0)) (bc x5 h (y 0)) k (y 1) * x0 (ix3 (y 0) k (y 2))
def TV (y : S32x128x128.Idx) : EReal := ∑ k, PR (bw x0 (y 0)) (bw x1 (y 0)) (bc x4 h (y 0)) k (y 1) * x3 (ix3 (y 0) k (y 2))
end sums

section run
variable (c : Dev nD) (i : grid0.Coords) (arg2 : Memref sig .tc .vmem S32x128x128 .bf16) (harg2 : arg2.IsWhole) (arg3 : Memref sig .tc .vmem S32x128x128 .bf16) (harg3 : arg3.IsWhole) (arg4 : Memref sig .tc .vmem S32x128x128 .bf16) (harg4 : arg4.IsWhole) (arg5 : Memref sig .tc .vmem S32x128x128 .bf16) (harg5 : arg5.IsWhole) (arg6 : Memref sig .tc .vmem S32x128x8 .f32) (harg6 : arg6.IsWhole) (arg7 : Memref sig .tc .vmem S32x128x8 .f32) (harg7 : arg7.IsWhole) (arg8 : Memref sig .tc .vmem S32x128x128 .bf16) (harg8 : arg8.IsWhole) (arg9 : Memref sig .tc .vmem S32x128x128 .bf16) (harg9 : arg9.IsWhole) (arg10 : Memref sig .tc .vmem S32x128x128 .bf16) (harg10 : arg10.IsWhole) (arg11 : Memref sig .tc .vmem S32x128x128 .f32) (harg11 : arg11.IsWhole) (arg12 : Memref sig .tc .vmem S32x128x128 .f32) (harg12 : arg12.IsWhole)
    (x0 : Vec Ideal S32x128x128 .bf16) (x1 : Vec Ideal S32x128x128 .bf16) (x2 : Vec Ideal S32x128x128 .bf16) (x3 : Vec Ideal S32x128x128 .bf16) (x4 : Vec Ideal S32x128x8 .f32) (x5 : Vec Ideal S32x128x8 .f32)

theorem dk_ld (n : Nat) (h : n < 32) (a b : Fin 128) : DK (W i) (ld2 arg2 harg2 x0 n h) (ld3 arg3 harg3 x1 n h) (ld4 arg4 harg4 x2 n h) (ld5 arg5 harg5 x3 n h) (ld6 arg6 harg6 x4 n h) (ld7 arg7 harg7 x5 n h) (ix2 a b) = TK (i 1) x0 x1 x2 x3 x4 x5 (ix3 (⟨n, h⟩ : Fin 32) a b) := by
  refine (dk_at (i 1) (ld2 arg2 harg2 x0 n h) (ld3 arg3 harg3 x1 n h) (ld4 arg4 harg4 x2 n h) (ld5 arg5 harg5 x3 n h) (ld6 arg6 harg6 x4 n h) (ld7 arg7 harg7 x5 n h) a b).trans ?_
  unfold TK
  refine Finset.sum_congr rfl fun k _ => ?_
  congr 1
  · have e0 : rw3 (ld2 arg2 harg2 x0 n h) = bw x0 (⟨n, h⟩ : Fin 32) := by funext r e; exact ld3_at _ _ _ _ _ _ _
    have e1 : rw3 (ld3 arg3 harg3 x1 n h) = bw x1 (⟨n, h⟩ : Fin 32) := by funext r e; exact ld3_at _ _ _ _ _ _ _
    have e2 : rw3 (ld4 arg4 harg4 x2 n h) = bw x2 (⟨n, h⟩ : Fin 32) := by funext r e; exact ld3_at _ _ _ _ _ _ _
    have e3 : rw3 (ld5 arg5 harg5 x3 n h) = bw x3 (⟨n, h⟩ : Fin 32) := by funext r e; exact ld3_at _ _ _ _ _ _ _
    have e4 : cl (ld6 arg6 harg6 x4 n h) (i 1) = bc x4 (i 1) (⟨n, h⟩ : Fin 32) := by funext r; exact ld8_at _ _ _ _ _ _ _
    have e5 : cl (ld7 arg7 harg7 x5 n h) (i 1) = bc x5 (i 1) (⟨n, h⟩ : Fin 32) := by funext r; exact ld8_at _ _ _ _ _ _ _
    rw [e0, e1, e2, e3, e4, e5]
    rfl
  · exact ld3_at _ _ _ _ _ _ _
theorem dq_ld (n : Nat) (h : n < 32) (a b : Fin 128) : DQ (W i) (ld2 arg2 harg2 x0 n h) (ld3 arg3 harg3 x1 n h) (ld4 arg4 harg4 x2 n h) (ld5 arg5 harg5 x3 n h) (ld6 arg6 harg6 x4 n h) (ld7 arg7 harg7 x5 n h) (ix2 a b) = TQ (i 1) x0 x1 x2 x3 x4 x5 (ix3 (⟨n, h⟩ : Fin 32) a b) := by
  refine (dq_at (i 1) (ld2 arg2 harg2 x0 n h) (ld3 arg3 harg3 x1 n h) (ld4 arg4 harg4 x2 n h) (ld5 arg5 harg5 x3 n h) (ld6 arg6 harg6 x4 n h) (ld7 arg7 harg7 x5 n h) a b).trans ?_
  unfold TQ
  refine Finset.sum_congr rfl fun k _ => ?_
  congr 1
  · have e0 : rw3 (ld2 arg2 harg2 x0 n h) = bw x0 (⟨n, h⟩ : Fin 32) := by funext r e; exact ld3_at _ _ _ _ _ _ _
    have e1 : rw3 (ld3 arg3 harg3 x1 n h) = bw x1 (⟨n, h⟩ : Fin 32) := by funext r e; exact ld3_at _ _ _ _ _ _ _
    have e2 : rw3 (ld4 arg4 harg4 x2 n h) = bw x2 (⟨n, h⟩ : Fin 32) := by funext r e; exact ld3_at _ _ _ _ _ _ _
    have e3 : rw3 (ld5 arg5 harg5 x3 n h) = bw x3 (⟨n, h⟩ : Fin 32) := by funext r e; exact ld3_at _ _ _ _ _ _ _
    have e4 : cl (ld6 arg6 harg6 x4 n h) (i 1) = bc x4 (i 1) (⟨n, h⟩ : Fin 32) := by funext r; exact ld8_at _ _ _ _ _ _ _
    have e5 : cl (ld7 arg7 harg7 x5 n h) (i 1) = bc x5 (i 1) (⟨n, h⟩ : Fin 32) := by funext r; exact ld8_at _ _ _ _ _ _ _
    rw [e0, e1, e2, e3, e4, e5]
    rfl
  · exact ld3_at _ _ _ _ _ _ _
theorem dv_ld (n : Nat) (h : n < 32) (a b : Fin 128) : DV (W i) (ld2 arg2 harg2 x0 n h) (ld3 arg3 harg3 x1 n h) (ld5 arg5 harg5 x3 n h) (ld6 arg6 harg6 x4 n h) (ix2 a b) = TV (i 1) x0 x1 x3 x4 (ix3 (⟨n, h⟩ : Fin 32) a b) := by
  refine (dv_at (i 1) (ld2 arg2 harg2 x0 n h) (ld3 arg3 harg3 x1 n h) (ld5 arg5 harg5 x3 n h) (ld6 arg6 harg6 x4 n h) a b).trans ?_
  unfold TV
  refine Finset.sum_congr rfl fun k _ => ?_
  congr 1
  · have e0 : rw3 (ld2 arg2 harg2 x0 n h) = bw x0 (⟨n, h⟩ : Fin 32) := by funext r e; exact ld3_at _ _ _ _ _ _ _
    have e1 : rw3 (ld3 arg3 harg3 x1 n h) = bw x1 (⟨n, h⟩ : Fin 32) := by funext r e; exact ld3_at _ _ _ _ _ _ _
    have e4 : cl (ld6 arg6 harg6 x4 n h) (i 1) = bc x4 (i 1) (⟨n, h⟩ : Fin 32) := by funext r; exact ld8_at _ _ _ _ _ _ _
    rw [e0, e1, e4]
    rfl
  · exact ld3_at _ _ _ _ _ _ _

theorem dk_emb (n : Nat) (h : n < 32) (x : S1x128x128.Idx) : DK (W i) (ld2 arg2 harg2 x0 n h) (ld3 arg3 harg3 x1 n h) (ld4 arg4 harg4 x2 n h) (ld5 arg5 harg5 x3 n h) (ld6 arg6 harg6 x4 n h) (ld7 arg7 harg7 x5 n h) (ix2 (x 1) (x 2)) = TK (i 1) x0 x1 x2 x3 x4 x5 ((R3 n h).emb x) := by
  refine (dk_ld i arg2 harg2 arg3 harg3 arg4 harg4 arg5 harg5 arg6 harg6 arg7 harg7 x0 x1 x2 x3 x4 x5 n h (x 1) (x 2)).trans (congrArg (TK (i 1) x0 x1 x2 x3 x4 x5) ?_)
  rw [eq_ix3 x]
  exact (emb_R3 n h (x 0) (x 1) (x 2)).symm
theorem dv_emb (n : Nat) (h : n < 32) (x : S1x128x128.Idx) : DV (W i) (ld2 arg2 harg2 x0 n h) (ld3 arg3 harg3 x1 n h) (ld5 arg5 harg5 x3 n h) (ld6 arg6 harg6 x4 n h) (ix2 (x 1) (x 2)) = TV (i 1) x0 x1 x3 x4 ((R3 n h).emb x) := by
  refine (dv_ld i arg2 harg2 arg3 harg3 arg5 harg5 arg6 harg6 x0 x1 x3 x4 n h (x 1) (x 2)).trans (congrArg (TV (i 1) x0 x1 x3 x4) ?_)
  rw [eq_ix3 x]
  exact (emb_R3 n h (x 0) (x 1) (x 2)).symm
theorem dq_emb (n : Nat) (h : n < 32) (x : S1x128x128.Idx) : k0_pay199 (F := Ideal) (k0_pay198 (DQ (W i) (ld2 arg2 harg2 x0 n h) (ld3 arg3 harg3 x1 n h) (ld4 arg4 harg4 x2 n h) (ld5 arg5 harg5 x3 n h) (ld6 arg6 harg6 x4 n h) (ld7 arg7 harg7 x5 n h))) x = TQ (i 1) x0 x1 x2 x3 x4 x5 ((R3 n h).emb x) := by
  have key : ∀ D : FVec Ideal S128x128 .f32, k0_pay199 (F := Ideal) (k0_pay198 D) x = D (ix2 (x 1) (x 2)) := by
    intro D
    pointwise [k0_pay199, k0_pay198]
  refine (key _).trans ?_
  refine (dq_ld i arg2 harg2 arg3 harg3 arg4 harg4 arg5 harg5 arg6 harg6 arg7 harg7 x0 x1 x2 x3 x4 x5 n h (x 1) (x 2)).trans (congrArg (TQ (i 1) x0 x1 x2 x3 x4 x5) ?_)
  rw [eq_ix3 x]
  exact (emb_R3 n h (x 0) (x 1) (x 2)).symm

theorem pay2_zero (y) : k0_pay2 (F := Ideal) y = 0 := by
  pointwise [k0_pay2]

theorem acck : Acc (TK (i 1) x0 x1 x2 x3 x4 x5) (kernelRun0_A.sl.HS0_33 (F := Ideal) c i arg2 harg2 arg3 harg3 arg4 harg4 arg5 harg5 arg6 harg6 arg7 harg7 arg11 x0 x1 x2 x3 x4 x5) 32 := by
  have s0 : Acc (TK (i 1) x0 x1 x2 x3 x4 x5) (kernelRun0_A.sl.HS0_1 (F := Ideal)) 0 := acc_zero _ (k0_pay2 (F := Ideal)) pay2_zero inb_S32x128x128_S32x128x128_0_0_0
  have s1 : Acc (TK (i 1) x0 x1 x2 x3 x4 x5) (kernelRun0_A.sl.HS0_2 (F := Ideal) c i arg2 harg2 arg3 harg3 arg4 harg4 arg5 harg5 arg6 harg6 arg7 harg7 arg11 x0 x1 x2 x3 x4 x5) 1 := (hs0_at0 c i arg2 harg2 arg3 harg3 arg4 harg4 arg5 harg5 arg6 harg6 arg7 harg7 arg11 x0 x1 x2 x3 x4 x5) ▸ acc_step _ arg11.view _ 0 (by decide) _ (dk_emb i arg2 harg2 arg3 harg3 arg4 harg4 arg5 harg5 arg6 harg6 arg7 harg7 x0 x1 x2 x3 x4 x5 0 (by decide)) s0
  have s2 : Acc (TK (i 1) x0 x1 x2 x3 x4 x5) (kernelRun0_A.sl.HS0_3 (F := Ideal) c i arg2 harg2 arg3 harg3 arg4 harg4 arg5 harg5 arg6 harg6 arg7 harg7 arg11 x0 x1 x2 x3 x4 x5) 2 := (hs0_at1 c i arg2 harg2 arg3 harg3 arg4 harg4 arg5 harg5 arg6 harg6 arg7 harg7 arg11 x0 x1 x2 x3 x4 x5) ▸ acc_step _ arg11.view _ 1 (by decide) _ (dk_emb i arg2 harg2 arg3 harg3 arg4 harg4 arg5 harg5 arg6 harg6 arg7 harg7 x0 x1 x2 x3 x4 x5 1 (by decide)) s1
  have s3 : Acc (TK (i 1) x0 x1 x2 x3 x4 x5) (kernelRun0_A.sl.HS0_4 (F := Ideal) c i arg2 harg2 arg3 harg3 arg4 harg4 arg5 harg5 arg6 harg6 arg7 harg7 arg11 x0 x1 x2 x3 x4 x5) 3 := (hs0_at2 c i arg2 harg2 arg3 harg3 arg4 harg4 arg5 harg5 arg6 harg6 arg7 harg7 arg11 x0 x1 x2 x3 x4 x5) ▸ acc_step _ arg11.view _ 2 (by decide) _ (dk_emb i arg2 harg2 arg3 harg3 arg4 harg4 arg5 harg5 arg6 harg6 arg7 harg7 x0 x1 x2 x3 x4 x5 2 (by decide)) s2
  have s4 : Acc (TK (i 1) x0 x1 x2 x3 x4 x5) (kernelRun0_A.sl.HS0_5 (F := Ideal) c i arg2 harg2 arg3 harg3 arg4 harg4 arg5 harg5 arg6 harg6 arg7 harg7 arg11 x0 x1 x2 x3 x4 x5) 4 := (hs0_at3 c i arg2 harg2 arg3 harg3 arg4 harg4 arg5 harg5 arg6 harg6 arg7 harg7 arg11 x0 x1 x2 x3 x4 x5) ▸ acc_step _ arg11.view _ 3 (by decide) _ (dk_emb i arg2 harg2 arg3 harg3 arg4 harg4 arg5 harg5 arg6 harg6 arg7 harg7 x0 x1 x2 x3 x4 x5 3 (by decide)) s3
  have s5 : Acc (TK (i 1) x0 x1 x2 x3 x4 x5) (kernelRun0_A.sl.HS0_6 (F := Ideal) c i arg2 harg2 arg3 harg3 arg4 harg4 arg5 harg5 arg6 harg6 arg7 harg7 arg11 x0 x1 x2 x3 x4 x5) 5 := (hs0_at4 c i arg2 harg2 arg3 harg3 arg4 harg4 arg5 harg5 arg6 harg6 arg7 harg7 arg11 x0 x1 x2 x3 x4 x5) ▸ acc_step _ arg11.view _ 4 (by decide) _ (dk_emb i arg2 harg2 arg3 harg3 arg4 harg4 arg5 harg5 arg6 harg6 arg7 harg7 x0 x1 x2 x3 x4 x5 4 (by decide)) s4
  have s6 : Acc (TK (i 1) x0 x1 x2 x3 x4 x5) (kernelRun0_A.sl.HS0_7 (F := Ideal) c i arg2 harg2 arg3 harg3 arg4 harg4 arg5 harg5 arg6 harg6 arg7 harg7 arg11 x0 x1 x2 x3 x4 x5) 6 := (hs0_at5 c i arg2 harg2 arg3 harg3 arg4 harg4 arg5 harg5 arg6 harg6 arg7 harg7 arg11 x0 x1 x2 x3 x4 x5) ▸ acc_step _ arg11.view _ 5 (by decide) _ (dk_emb i arg2 harg2 arg3 harg3 arg4 harg4 arg5 harg5 arg6 harg6 arg7 harg7 x0 x1 x2 x3 x4 x5 5 (by decide)) s5
  have s7 : Acc (TK (i 1) x0 x1 x2 x3 x4 x5) (kernelRun0_A.sl.HS0_8 (F := Ideal) c i arg2 harg2 arg3 harg3 arg4 harg4 arg5 harg5 arg6 harg6 arg7 harg7 arg11 x0 x1 x2 x3 x4 x5) 7 := (hs0_at6 c i arg2 harg2 arg3 harg3 arg4 harg4 arg5 harg5 arg6 harg6 arg7 harg7 arg11 x0 x1 x2 x3 x4 x5) ▸ acc_step _ arg11.view _ 6 (by decide) _ (dk_emb i arg2 harg2 arg3 harg3 arg4 harg4 arg5 harg5 arg6 harg6 arg7 harg7 x0 x1 x2 x3 x4 x5 6 (by decide)) s6
  have s8 : Acc (TK (i 1) x0 x1 x2 x3 x4 x5) (kernelRun0_A.sl.HS0_9 (F := Ideal) c i arg2 harg2 arg3 harg3 arg4 harg4 arg5 harg5 arg6 harg6 arg7 harg7 arg11 x0 x1 x2 x3 x4 x5) 8 := (hs0_at7 c i arg2 harg2 arg3 harg3 arg4 harg4 arg5 harg5 arg6 harg6 arg7 harg7 arg11 x0 x1 x2 x3 x4 x5) ▸ acc_step _ arg11.view _ 7 (by decide) _ (dk_emb i arg2 harg2 arg3 harg3 arg4 harg4 arg5 harg5 arg6 harg6 arg7 harg7 x0 x1 x2 x3 x4 x5 7 (by decide)) s7
  have s9 : Acc (TK (i 1) x0 x1 x2 x3 x4 x5) (kernelRun0_A.sl.HS0_10 (F := Ideal) c i arg2 harg2 arg3 harg3 arg4 harg4 arg5 harg5 arg6 harg6 arg7 harg7 arg11 x0 x1 x2 x3 x4 x5) 9 := (hs0_at8 c i arg2 harg2 arg3 harg3 arg4 harg4 arg5 harg5 arg6 harg6 arg7 harg7 arg11 x0 x1 x2 x3 x4 x5) ▸ acc_step _ arg11.view _ 8 (by decide) _ (dk_emb i arg2 harg2 arg3 harg3 arg4 harg4 arg5 harg5 arg6 harg6 arg7 harg7 x0 x1 x2 x3 x4 x5 8 (by decide)) s8
  have s10 : Acc (TK (i 1) x0 x1 x2 x3 x4 x5) (kernelRun0_A.sl.HS0_11 (F := Ideal) c i arg2 harg2 arg3 harg3 arg4 harg4 arg5 harg5 arg6 harg6 arg7 harg7 arg11 x0 x1 x2 x3 x4 x5) 10 := (hs0_at9 c i arg2 harg2 arg3 harg3 arg4 harg4 arg5 harg5 arg6 harg6 arg7 harg7 arg11 x0 x1 x2 x3 x4 x5) ▸ acc_step _ arg11.view _ 9 (by decide) _ (dk_emb i arg2 harg2 arg3 harg3 arg4 harg4 arg5 harg5 arg6 harg6 arg7 harg7 x0 x1 x2 x3 x4 x5 9 (by decide)) s9
  have s11 : Acc (TK (i 1) x0 x1 x2 x3 x4 x5) (kernelRun0_A.sl.HS0_12 (F := Ideal) c i arg2 harg2 arg3 harg3 arg4 harg4 arg5 harg5 arg6 harg6 arg7 harg7 arg11 x0 x1 x2 x3 x4 x5) 11 := (hs0_at10 c i arg2 harg2 arg3 harg3 arg4 harg4 arg5 harg5 arg6 harg6 arg7 harg7 arg11 x0 x1 x2 x3 x4 x5) ▸ acc_step _ arg11.view _ 10 (by decide) _ (dk_emb i arg2 harg2 arg3 harg3 arg4 harg4 arg5 harg5 arg6 harg6 arg7 harg7 x0 x1 x2 x3 x4 x5 10 (by decide)) s10
  have s12 : Acc (TK (i 1) x0 x1 x2 x3 x4 x5) (kernelRun0_A.sl.HS0_13 (F := Ideal) c i arg2 harg2 arg3 harg3 arg4 harg4 arg5 harg5 arg6 harg6 arg7 harg7 arg11 x0 x1 x2 x3 x4 x5) 12 := (hs0_at11 c i arg2 harg2 arg3 harg3 arg4 harg4 arg5 harg5 arg6 harg6 arg7 harg7 arg11 x0 x1 x2 x3 x4 x5) ▸ acc_step _ arg11.view _ 11 (by decide) _ (dk_emb i arg2 harg2 arg3 harg3 arg4 harg4 arg5 harg5 arg6 harg6 arg7 harg7 x0 x1 x2 x3 x4 x5 11 (by decide)) s11
  have s13 : Acc (TK (i 1) x0 x1 x2 x3 x4 x5) (kernelRun0_A.sl.HS0_14 (F := Ideal) c i arg2 harg2 arg3 harg3 arg4 harg4 arg5 harg5 arg6 harg6 arg7 harg7 arg11 x0 x1 x2 x3 x4 x5) 13 := (hs0_at12 c i arg2 harg2 arg3 harg3 arg4 harg4 arg5 harg5 arg6 harg6 arg7 harg7 arg11 x0 x1 x2 x3 x4 x5) ▸ acc_step _ arg11.view _ 12 (by decide) _ (dk_emb i arg2 harg2 arg3 harg3 arg4 harg4 arg5 harg5 arg6 harg6 arg7 harg7 x0 x1 x2 x3 x4 x5 12 (by decide)) s12
  have s14 : Acc (TK (i 1) x0 x1 x2 x3 x4 x5) (kernelRun0_A.sl.HS0_15 (F := Ideal) c i arg2 harg2 arg3 harg3 arg4 harg4 arg5 harg5 arg6 harg6 arg7 harg7 arg11 x0 x1 x2 x3 x4 x5) 14 := (hs0_at13 c i arg2 harg2 arg3 harg3 arg4 harg4 arg5 harg5 arg6 harg6 arg7 harg7 arg11 x0 x1 x2 x3 x4 x5) ▸ acc_step _ arg11.view _ 13 (by decide) _ (dk_emb i arg2 harg2 arg3 harg3 arg4 harg4 arg5 harg5 arg6 harg6 arg7 harg7 x0 x1 x2 x3 x4 x5 13 (by decide)) s13
  have s15 : Acc (TK (i 1) x0 x1 x2 x3 x4 x5) (kernelRun0_A.sl.HS0_16 (F := Ideal) c i arg2 harg2 arg3 harg3 arg4 harg4 arg5 harg5 arg6 harg6 arg7 harg7 arg11 x0 x1 x2 x3 x4 x5) 15 := (hs0_at14 c i arg2 harg2 arg3 harg3 arg4 harg4 arg5 harg5 arg6 harg6 arg7 harg7 arg11 x0 x1 x2 x3 x4 x5) ▸ acc_step _ arg11.view _ 14 (by decide) _ (dk_emb i arg2 harg2 arg3 harg3 arg4 harg4 arg5 harg5 arg6 harg6 arg7 harg7 x0 x1 x2 x3 x4 x5 14 (by decide)) s14
  have s16 : Acc (TK (i 1) x0 x1 x2 x3 x4 x5) (kernelRun0_A.sl.HS0_17 (F := Ideal) c i arg2 harg2 arg3 harg3 arg4 harg4 arg5 harg5 arg6 harg6 arg7 harg7 arg11 x0 x1 x2 x3 x4 x5) 16 := (hs0_at15 c i arg2 harg2 arg3 harg3 arg4 harg4 arg5 harg5 arg6 harg6 arg7 harg7 arg11 x0 x1 x2 x3 x4 x5) ▸ acc_step _ arg11.view _ 15 (by decide) _ (dk_emb i arg2 harg2 arg3 harg3 arg4 harg4 arg5 harg5 arg6 harg6 arg7 harg7 x0 x1 x2 x3 x4 x5 15 (by decide)) s15
  have s17 : Acc (TK (i 1) x0 x1 x2 x3 x4 x5) (kernelRun0_A.sl.HS0_18 (F := Ideal) c i arg2 harg2 arg3 harg3 arg4 harg4 arg5 harg5 arg6 harg6 arg7 harg7 arg11 x0 x1 x2 x3 x4 x5) 17 := (hs0_at16 c i arg2 harg2 arg3 harg3 arg4 harg4 arg5 harg5 arg6 harg6 arg7 harg7 arg11 x0 x1 x2 x3 x4 x5) ▸ acc_step _ arg11.view _ 16 (by decide) _ (dk_emb i arg2 harg2 arg3 harg3 arg4 harg4 arg5 harg5 arg6 harg6 arg7 harg7 x0 x1 x2 x3 x4 x5 16 (by decide)) s16
  have s18 : Acc (TK (i 1) x0 x1 x2 x3 x4 x5) (kernelRun0_A.sl.HS0_19 (F := Ideal) c i arg2 harg2 arg3 harg3 arg4 harg4 arg5 harg5 arg6 harg6 arg7 harg7 arg11 x0 x1 x2 x3 x4 x5) 18 := (hs0_at17 c i arg2 harg2 arg3 harg3 arg4 harg4 arg5 harg5 arg6 harg6 arg7 harg7 arg11 x0 x1 x2 x3 x4 x5) ▸ acc_step _ arg11.view _ 17 (by decide) _ (dk_emb i arg2 harg2 arg3 harg3 arg4 harg4 arg5 harg5 arg6 harg6 arg7 harg7 x0 x1 x2 x3 x4 x5 17 (by decide)) s17
  have s19 : Acc (TK (i 1) x0 x1 x2 x3 x4 x5) (kernelRun0_A.sl.HS0_20 (F := Ideal) c i arg2 harg2 arg3 harg3 arg4 harg4 arg5 harg5 arg6 harg6 arg7 harg7 arg11 x0 x1 x2 x3 x4 x5) 19 := (hs0_at18 c i arg2 harg2 arg3 harg3 arg4 harg4 arg5 harg5 arg6 harg6 arg7 harg7 arg11 x0 x1 x2 x3 x4 x5) ▸ acc_step _ arg11.view _ 18 (by decide) _ (dk_emb i arg2 harg2 arg3 harg3 arg4 harg4 arg5 harg5 arg6 harg6 arg7 harg7 x0 x1 x2 x3 x4 x5 18 (by decide)) s18
  have s20 : Acc (TK (i 1) x0 x1 x2 x3 x4 x5) (kernelRun0_A.sl.HS0_21 (F := Ideal) c i arg2 harg2 arg3 harg3 arg4 harg4 arg5 harg5 arg6 harg6 arg7 harg7 arg11 x0 x1 x2 x3 x4 x5) 20 := (hs0_at19 c i arg2 harg2 arg3 harg3 arg4 harg4 arg5 harg5 arg6 harg6 arg7 harg7 arg11 x0 x1 x2 x3 x4 x5) ▸ acc_step _ arg11.view _ 19 (by decide) _ (dk_emb i arg2 harg2 arg3 harg3 arg4 harg4 arg5 harg5 arg6 harg6 arg7 harg7 x0 x1 x2 x3 x4 x5 19 (by decide)) s19
  have s21 : Acc (TK (i 1) x0 x1 x2 x3 x4 x5) (kernelRun0_A.sl.HS0_22 (F := Ideal) c i arg2 harg2 arg3 harg3 arg4 harg4 arg5 harg5 arg6 harg6 arg7 harg7 arg11 x0 x1 x2 x3 x4 x5) 21 := (hs0_at20 c i arg2 harg2 arg3 harg3 arg4 harg4 arg5 harg5 arg6 harg6 arg7 harg7 arg11 x0 x1 x2 x3 x4 x5) ▸ acc_step _ arg11.view _ 20 (by decide) _ (dk_emb i arg2 harg2 arg3 harg3 arg4 harg4 arg5 harg5 arg6 harg6 arg7 harg7 x0 x1 x2 x3 x4 x5 20 (by decide)) s20
  have s22 : Acc (TK (i 1) x0 x1 x2 x3 x4 x5) (kernelRun0_A.sl.HS0_23 (F := Ideal) c i arg2 harg2 arg3 harg3 arg4 harg4 arg5 harg5 arg6 harg6 arg7 harg7 arg11 x0 x1 x2 x3 x4 x5) 22 := (hs0_at21 c i arg2 harg2 arg3 harg3 arg4 harg4 arg5 harg5 arg6 harg6 arg7 harg7 arg11 x0 x1 x2 x3 x4 x5) ▸ acc_step _ arg11.view _ 21 (by decide) _ (dk_emb i arg2 harg2 arg3 harg3 arg4 harg4 arg5 harg5 arg6 harg6 arg7 harg7 x0 x1 x2 x3 x4 x5 21 (by decide)) s21
  have s23 : Acc (TK (i 1) x0 x1 x2 x3 x4 x5) (kernelRun0_A.sl.HS0_24 (F := Ideal) c i arg2 harg2 arg3 harg3 arg4 harg4 arg5 harg5 arg6 harg6 arg7 harg7 arg11 x0 x1 x2 x3 x4 x5) 23 := (hs0_at22 c i arg2 harg2 arg3 harg3 arg4 harg4 arg5 harg5 arg6 harg6 arg7 harg7 arg11 x0 x1 x2 x3 x4 x5) ▸ acc_step _ arg11.view _ 22 (by decide) _ (dk_emb i arg2 harg2 arg3 harg3 arg4 harg4 arg5 harg5 arg6 harg6 arg7 harg7 x0 x1 x2 x3 x4 x5 22 (by decide)) s22
  have s24 : Acc (TK (i 1) x0 x1 x2 x3 x4 x5) (kernelRun0_A.sl.HS0_25 (F := Ideal) c i arg2 harg2 arg3 harg3 arg4 harg4 arg5 harg5 arg6 harg6 arg7 harg7 arg11 x0 x1 x2 x3 x4 x5) 24 := (hs0_at23 c i arg2 harg2 arg3 harg3 arg4 harg4 arg5 harg5 arg6 harg6 arg7 harg7 arg11 x0 x1 x2 x3 x4 x5) ▸ acc_step _ arg11.view _ 23 (by decide) _ (dk_emb i arg2 harg2 arg3 harg3 arg4 harg4 arg5 harg5 arg6 harg6 arg7 harg7 x0 x1 x2 x3 x4 x5 23 (by decide)) s23
  have s25 : Acc (TK (i 1) x0 x1 x2 x3 x4 x5) (kernelRun0_A.sl.HS0_26 (F := Ideal) c i arg2 harg2 arg3 harg3 arg4 harg4 arg5 harg5 arg6 harg6 arg7 harg7 arg11 x0 x1 x2 x3 x4 x5) 25 := (hs0_at24 c i arg2 harg2 arg3 harg3 arg4 harg4 arg5 harg5 arg6 harg6 arg7 harg7 arg11 x0 x1 x2 x3 x4 x5) ▸ acc_step _ arg11.view _ 24 (by decide) _ (dk_emb i arg2 harg2 arg3 harg3 arg4 harg4 arg5 harg5 arg6 harg6 arg7 harg7 x0 x1 x2 x3 x4 x5 24 (by decide)) s24
  have s26 : Acc (TK (i 1) x0 x1 x2 x3 x4 x5) (kernelRun0_A.sl.HS0_27 (F := Ideal) c i arg2 harg2 arg3 harg3 arg4 harg4 arg5 harg5 arg6 harg6 arg7 harg7 arg11 x0 x1 x2 x3 x4 x5) 26 := (hs0_at25 c i arg2 harg2 arg3 harg3 arg4 harg4 arg5 harg5 arg6 harg6 arg7 harg7 arg11 x0 x1 x2 x3 x4 x5) ▸ acc_step _ arg11.view _ 25 (by decide) _ (dk_emb i arg2 harg2 arg3 harg3 arg4 harg4 arg5 harg5 arg6 harg6 arg7 harg7 x0 x1 x2 x3 x4 x5 25 (by decide)) s25
  have s27 : Acc (TK (i 1) x0 x1 x2 x3 x4 x5) (kernelRun0_A.sl.HS0_28 (F := Ideal) c i arg2 harg2 arg3 harg3 arg4 harg4 arg5 harg5 arg6 harg6 arg7 harg7 arg11 x0 x1 x2 x3 x4 x5) 27 := (hs0_at26 c i arg2 harg2 arg3 harg3 arg4 harg4 arg5 harg5 arg6 harg6 arg7 harg7 arg11 x0 x1 x2 x3 x4 x5) ▸ acc_step _ arg11.view _ 26 (by decide) _ (dk_emb i arg2 harg2 arg3 harg3 arg4 harg4 arg5 harg5 arg6 harg6 arg7 harg7 x0 x1 x2 x3 x4 x5 26 (by decide)) s26
  have s28 : Acc (TK (i 1) x0 x1 x2 x3 x4 x5) (kernelRun0_A.sl.HS0_29 (F := Ideal) c i arg2 harg2 arg3 harg3 arg4 harg4 arg5 harg5 arg6 harg6 arg7 harg7 arg11 x0 x1 x2 x3 x4 x5) 28 := (hs0_at27 c i arg2 harg2 arg3 harg3 arg4 harg4 arg5 harg5 arg6 harg6 arg7 harg7 arg11 x0 x1 x2 x3 x4 x5) ▸ acc_step _ arg11.view _ 27 (by decide) _ (dk_emb i arg2 harg2 arg3 harg3 arg4 harg4 arg5 harg5 arg6 harg6 arg7 harg7 x0 x1 x2 x3 x4 x5 27 (by decide)) s27
  have s29 : Acc (TK (i 1) x0 x1 x2 x3 x4 x5) (kernelRun0_A.sl.HS0_30 (F := Ideal) c i arg2 harg2 arg3 harg3 arg4 harg4 arg5 harg5 arg6 harg6 arg7 harg7 arg11 x0 x1 x2 x3 x4 x5) 29 := (hs0_at28 c i arg2 harg2 arg3 harg3 arg4 harg4 arg5 harg5 arg6 harg6 arg7 harg7 arg11 x0 x1 x2 x3 x4 x5) ▸ acc_step _ arg11.view _ 28 (by decide) _ (dk_emb i arg2 harg2 arg3 harg3 arg4 harg4 arg5 harg5 arg6 harg6 arg7 harg7 x0 x1 x2 x3 x4 x5 28 (by decide)) s28
  have s30 : Acc (TK (i 1) x0 x1 x2 x3 x4 x5) (kernelRun0_A.sl.HS0_31 (F := Ideal) c i arg2 harg2 arg3 harg3 arg4 harg4 arg5 harg5 arg6 harg6 arg7 harg7 arg11 x0 x1 x2 x3 x4 x5) 30 := (hs0_at29 c i arg2 harg2 arg3 harg3 arg4 harg4 arg5 harg5 arg6 harg6 arg7 harg7 arg11 x0 x1 x2 x3 x4 x5) ▸ acc_step _ arg11.view _ 29 (by decide) _ (dk_emb i arg2 harg2 arg3 harg3 arg4 harg4 arg5 harg5 arg6 harg6 arg7 harg7 x0 x1 x2 x3 x4 x5 29 (by decide)) s29
  have s31 : Acc (TK (i 1) x0 x1 x2 x3 x4 x5) (kernelRun0_A.sl.HS0_32 (F := Ideal) c i arg2 harg2 arg3 harg3 arg4 harg4 arg5 harg5 arg6 harg6 arg7 harg7 arg11 x0 x1 x2 x3 x4 x5) 31 := (hs0_at30 c i arg2 harg2 arg3 harg3 arg4 harg4 arg5 harg5 arg6 harg6 arg7 harg7 arg11 x0 x1 x2 x3 x4 x5) ▸ acc_step _ arg11.view _ 30 (by decide) _ (dk_emb i arg2 harg2 arg3 harg3 arg4 harg4 arg5 harg5 arg6 harg6 arg7 harg7 x0 x1 x2 x3 x4 x5 30 (by decide)) s30
  have s32 : Acc (TK (i 1) x0 x1 x2 x3 x4 x5) (kernelRun0_A.sl.HS0_33 (F := Ideal) c i arg2 harg2 arg3 harg3 arg4 harg4 arg5 harg5 arg6 harg6 arg7 harg7 arg11 x0 x1 x2 x3 x4 x5) 32 := (hs0_at31 c i arg2 harg2 arg3 harg3 arg4 harg4 arg5 harg5 arg6 harg6 arg7 harg7 arg11 x0 x1 x2 x3 x4 x5) ▸ acc_step _ arg11.view _ 31 (by decide) _ (dk_emb i arg2 harg2 arg3 harg3 arg4 harg4 arg5 harg5 arg6 harg6 arg7 harg7 x0 x1 x2 x3 x4 x5 31 (by decide)) s31
  exact s32

theorem accv : Acc (TV (i 1) x0 x1 x3 x4) (kernelRun0_A.sl.HS1_33 (F := Ideal) c i arg2 harg2 arg3 harg3 arg5 harg5 arg6 harg6 arg12 x0 x1 x3 x4) 32 := by
  have s0 : Acc (TV (i 1) x0 x1 x3 x4) (kernelRun0_A.sl.HS0_1 (F := Ideal)) 0 := acc_zero _ (k0_pay2 (F := Ideal)) pay2_zero inb_S32x128x128_S32x128x128_0_0_0
  have s1 : Acc (TV (i 1) x0 x1 x3 x4) (kernelRun0_A.sl.HS1_2 (F := Ideal) c i arg2 harg2 arg3 harg3 arg5 harg5 arg6 harg6 arg12 x0 x1 x3 x4) 1 := (hs1_at0 c i arg2 harg2 arg3 harg3 arg5 harg5 arg6 harg6 arg12 x0 x1 x3 x4) ▸ acc_step _ arg12.view _ 0 (by decide) _ (dv_emb i arg2 harg2 arg3 harg3 arg5 harg5 arg6 harg6 x0 x1 x3 x4 0 (by decide)) s0
  have s2 : Acc (TV (i 1) x0 x1 x3 x4) (kernelRun0_A.sl.HS1_3 (F := Ideal) c i arg2 harg2 arg3 harg3 arg5 harg5 arg6 harg6 arg12 x0 x1 x3 x4) 2 := (hs1_at1 c i arg2 harg2 arg3 harg3 arg5 harg5 arg6 harg6 arg12 x0 x1 x3 x4) ▸ acc_step _ arg12.view _ 1 (by decide) _ (dv_emb i arg2 harg2 arg3 harg3 arg5 harg5 arg6 harg6 x0 x1 x3 x4 1 (by decide)) s1
  have s3 : Acc (TV (i 1) x0 x1 x3 x4) (kernelRun0_A.sl.HS1_4 (F := Ideal) c i arg2 harg2 arg3 harg3 arg5 harg5 arg6 harg6 arg12 x0 x1 x3 x4) 3 := (hs1_at2 c i arg2 harg2 arg3 harg3 arg5 harg5 arg6 harg6 arg12 x0 x1 x3 x4) ▸ acc_step _ arg12.view _ 2 (by decide) _ (dv_emb i arg2 harg2 arg3 harg3 arg5 harg5 arg6 harg6 x0 x1 x3 x4 2 (by decide)) s2
  have s4 : Acc (TV (i 1) x0 x1 x3 x4) (kernelRun0_A.sl.HS1_5 (F := Ideal) c i arg2 harg2 arg3 harg3 arg5 harg5 arg6 harg6 arg12 x0 x1 x3 x4) 4 := (hs1_at3 c i arg2 harg2 arg3 harg3 arg5 harg5 arg6 harg6 arg12 x0 x1 x3 x4) ▸ acc_step _ arg12.view _ 3 (by decide) _ (dv_emb i arg2 harg2 arg3 harg3 arg5 harg5 arg6 harg6 x0 x1 x3 x4 3 (by decide)) s3
  have s5 : Acc (TV (i 1) x0 x1 x3 x4) (kernelRun0_A.sl.HS1_6 (F := Ideal) c i arg2 harg2 arg3 harg3 arg5 harg5 arg6 harg6 arg12 x0 x1 x3 x4) 5 := (hs1_at4 c i arg2 harg2 arg3 harg3 arg5 harg5 arg6 harg6 arg12 x0 x1 x3 x4) ▸ acc_step _ arg12.view _ 4 (by decide) _ (dv_emb i arg2 harg2 arg3 harg3 arg5 harg5 arg6 harg6 x0 x1 x3 x4 4 (by decide)) s4
  have s6 : Acc (TV (i 1) x0 x1 x3 x4) (kernelRun0_A.sl.HS1_7 (F := Ideal) c i arg2 harg2 arg3 harg3 arg5 harg5 arg6 harg6 arg12 x0 x1 x3 x4) 6 := (hs1_at5 c i arg2 harg2 arg3 harg3 arg5 harg5 arg6 harg6 arg12 x0 x1 x3 x4) ▸ acc_step _ arg12.view _ 5 (by decide) _ (dv_emb i arg2 harg2 arg3 harg3 arg5 harg5 arg6 harg6 x0 x1 x3 x4 5 (by decide)) s5
  have s7 : Acc (TV (i 1) x0 x1 x3 x4) (kernelRun0_A.sl.HS1_8 (F := Ideal) c i arg2 harg2 arg3 harg3 arg5 harg5 arg6 harg6 arg12 x0 x1 x3 x4) 7 := (hs1_at6 c i arg2 harg2 arg3 harg3 arg5 harg5 arg6 harg6 arg12 x0 x1 x3 x4) ▸ acc_step _ arg12.view _ 6 (by decide) _ (dv_emb i arg2 harg2 arg3 harg3 arg5 harg5 arg6 harg6 x0 x1 x3 x4 6 (by decide)) s6
  have s8 : Acc (TV (i 1) x0 x1 x3 x4) (kernelRun0_A.sl.HS1_9 (F := Ideal) c i arg2 harg2 arg3 harg3 arg5 harg5 arg6 harg6 arg12 x0 x1 x3 x4) 8 := (hs1_at7 c i arg2 harg2 arg3 harg3 arg5 harg5 arg6 harg6 arg12 x0 x1 x3 x4) ▸ acc_step _ arg12.view _ 7 (by decide) _ (dv_emb i arg2 harg2 arg3 harg3 arg5 harg5 arg6 harg6 x0 x1 x3 x4 7 (by decide)) s7
  have s9 : Acc (TV (i 1) x0 x1 x3 x4) (kernelRun0_A.sl.HS1_10 (F := Ideal) c i arg2 harg2 arg3 harg3 arg5 harg5 arg6 harg6 arg12 x0 x1 x3 x4) 9 := (hs1_at8 c i arg2 harg2 arg3 harg3 arg5 harg5 arg6 harg6 arg12 x0 x1 x3 x4) ▸ acc_step _ arg12.view _ 8 (by decide) _ (dv_emb i arg2 harg2 arg3 harg3 arg5 harg5 arg6 harg6 x0 x1 x3 x4 8 (by decide)) s8
  have s10 : Acc (TV (i 1) x0 x1 x3 x4) (kernelRun0_A.sl.HS1_11 (F := Ideal) c i arg2 harg2 arg3 harg3 arg5 harg5 arg6 harg6 arg12 x0 x1 x3 x4) 10 := (hs1_at9 c i arg2 harg2 arg3 harg3 arg5 harg5 arg6 harg6 arg12 x0 x1 x3 x4) ▸ acc_step _ arg12.view _ 9 (by decide) _ (dv_emb i arg2 harg2 arg3 harg3 arg5 harg5 arg6 harg6 x0 x1 x3 x4 9 (by decide)) s9
  have s11 : Acc (TV (i 1) x0 x1 x3 x4) (kernelRun0_A.sl.HS1_12 (F := Ideal) c i arg2 harg2 arg3 harg3 arg5 harg5 arg6 harg6 arg12 x0 x1 x3 x4) 11 := (hs1_at10 c i arg2 harg2 arg3 harg3 arg5 harg5 arg6 harg6 arg12 x0 x1 x3 x4) ▸ acc_step _ arg12.view _ 10 (by decide) _ (dv_emb i arg2 harg2 arg3 harg3 arg5 harg5 arg6 harg6 x0 x1 x3 x4 10 (by decide)) s10
  have s12 : Acc (TV (i 1) x0 x1 x3 x4) (kernelRun0_A.sl.HS1_13 (F := Ideal) c i arg2 harg2 arg3 harg3 arg5 harg5 arg6 harg6 arg12 x0 x1 x3 x4) 12 := (hs1_at11 c i arg2 harg2 arg3 harg3 arg5 harg5 arg6 harg6 arg12 x0 x1 x3 x4) ▸ acc_step _ arg12.view _ 11 (by decide) _ (dv_emb i arg2 harg2 arg3 harg3 arg5 harg5 arg6 harg6 x0 x1 x3 x4 11 (by decide)) s11
  have s13 : Acc (TV (i 1) x0 x1 x3 x4) (kernelRun0_A.sl.HS1_14 (F := Ideal) c i arg2 harg2 arg3 harg3 arg5 harg5 arg6 harg6 arg12 x0 x1 x3 x4) 13 := (hs1_at12 c i arg2 harg2 arg3 harg3 arg5 harg5 arg6 harg6 arg12 x0 x1 x3 x4) ▸ acc_step _ arg12.view _ 12 (by decide) _ (dv_emb i arg2 harg2 arg3 harg3 arg5 harg5 arg6 harg6 x0 x1 x3 x4 12 (by decide)) s12
  have s14 : Acc (TV (i 1) x0 x1 x3 x4) (kernelRun0_A.sl.HS1_15 (F := Ideal) c i arg2 harg2 arg3 harg3 arg5 harg5 arg6 harg6 arg12 x0 x1 x3 x4) 14 := (hs1_at13 c i arg2 harg2 arg3 harg3 arg5 harg5 arg6 harg6 arg12 x0 x1 x3 x4) ▸ acc_step _ arg12.view _ 13 (by decide) _ (dv_emb i arg2 harg2 arg3 harg3 arg5 harg5 arg6 harg6 x0 x1 x3 x4 13 (by decide)) s13
  have s15 : Acc (TV (i 1) x0 x1 x3 x4) (kernelRun0_A.sl.HS1_16 (F := Ideal) c i arg2 harg2 arg3 harg3 arg5 harg5 arg6 harg6 arg12 x0 x1 x3 x4) 15 := (hs1_at14 c i arg2 harg2 arg3 harg3 arg5 harg5 arg6 harg6 arg12 x0 x1 x3 x4) ▸ acc_step _ arg12.view _ 14 (by decide) _ (dv_emb i arg2 harg2 arg3 harg3 arg5 harg5 arg6 harg6 x0 x1 x3 x4 14 (by decide)) s14
  have s16 : Acc (TV (i 1) x0 x1 x3 x4) (kernelRun0_A.sl.HS1_17 (F := Ideal) c i arg2 harg2 arg3 harg3 arg5 harg5 arg6 harg6 arg12 x0 x1 x3 x4) 16 := (hs1_at15 c i arg2 harg2 arg3 harg3 arg5 harg5 arg6 harg6 arg12 x0 x1 x3 x4) ▸ acc_step _ arg12.view _ 15 (by decide) _ (dv_emb i arg2 harg2 arg3 harg3 arg5 harg5 arg6 harg6 x0 x1 x3 x4 15 (by decide)) s15
  have s17 : Acc (TV (i 1) x0 x1 x3 x4) (kernelRun0_A.sl.HS1_18 (F := Ideal) c i arg2 harg2 arg3 harg3 arg5 harg5 arg6 harg6 arg12 x0 x1 x3 x4) 17 := (hs1_at16 c i arg2 harg2 arg3 harg3 arg5 harg5 arg6 harg6 arg12 x0 x1 x3 x4) ▸ acc_step _ arg12.view _ 16 (by decide) _ (dv_emb i arg2 harg2 arg3 harg3 arg5 harg5 arg6 harg6 x0 x1 x3 x4 16 (by decide)) s16
  have s18 : Acc (TV (i 1) x0 x1 x3 x4) (kernelRun0_A.sl.HS1_19 (F := Ideal) c i arg2 harg2 arg3 harg3 arg5 harg5 arg6 harg6 arg12 x0 x1 x3 x4) 18 := (hs1_at17 c i arg2 harg2 arg3 harg3 arg5 harg5 arg6 harg6 arg12 x0 x1 x3 x4) ▸ acc_step _ arg12.view _ 17 (by decide) _ (dv_emb i arg2 harg2 arg3 harg3 arg5 harg5 arg6 harg6 x0 x1 x3 x4 17 (by decide)) s17
  have s19 : Acc (TV (i 1) x0 x1 x3 x4) (kernelRun0_A.sl.HS1_20 (F := Ideal) c i arg2 harg2 arg3 harg3 arg5 harg5 arg6 harg6 arg12 x0 x1 x3 x4) 19 := (hs1_at18 c i arg2 harg2 arg3 harg3 arg5 harg5 arg6 harg6 arg12 x0 x1 x3 x4) ▸ acc_step _ arg12.view _ 18 (by decide) _ (dv_emb i arg2 harg2 arg3 harg3 arg5 harg5 arg6 harg6 x0 x1 x3 x4 18 (by decide)) s18
  have s20 : Acc (TV (i 1) x0 x1 x3 x4) (kernelRun0_A.sl.HS1_21 (F := Ideal) c i arg2 harg2 arg3 harg3 arg5 harg5 arg6 harg6 arg12 x0 x1 x3 x4) 20 := (hs1_at19 c i arg2 harg2 arg3 harg3 arg5 harg5 arg6 harg6 arg12 x0 x1 x3 x4) ▸ acc_step _ arg12.view _ 19 (by decide) _ (dv_emb i arg2 harg2 arg3 harg3 arg5 harg5 arg6 harg6 x0 x1 x3 x4 19 (by decide)) s19
  have s21 : Acc (TV (i 1) x0 x1 x3 x4) (kernelRun0_A.sl.HS1_22 (F := Ideal) c i arg2 harg2 arg3 harg3 arg5 harg5 arg6 harg6 arg12 x0 x1 x3 x4) 21 := (hs1_at20 c i arg2 harg2 arg3 harg3 arg5 harg5 arg6 harg6 arg12 x0 x1 x3 x4) ▸ acc_step _ arg12.view _ 20 (by decide) _ (dv_emb i arg2 harg2 arg3 harg3 arg5 harg5 arg6 harg6 x0 x1 x3 x4 20 (by decide)) s20
  have s22 : Acc (TV (i 1) x0 x1 x3 x4) (kernelRun0_A.sl.HS1_23 (F := Ideal) c i arg2 harg2 arg3 harg3 arg5 harg5 arg6 harg6 arg12 x0 x1 x3 x4) 22 := (hs1_at21 c i arg2 harg2 arg3 harg3 arg5 harg5 arg6 harg6 arg12 x0 x1 x3 x4) ▸ acc_step _ arg12.view _ 21 (by decide) _ (dv_emb i arg2 harg2 arg3 harg3 arg5 harg5 arg6 harg6 x0 x1 x3 x4 21 (by decide)) s21
  have s23 : Acc (TV (i 1) x0 x1 x3 x4) (kernelRun0_A.sl.HS1_24 (F := Ideal) c i arg2 harg2 arg3 harg3 arg5 harg5 arg6 harg6 arg12 x0 x1 x3 x4) 23 := (hs1_at22 c i arg2 harg2 arg3 harg3 arg5 harg5 arg6 harg6 arg12 x0 x1 x3 x4) ▸ acc_step _ arg12.view _ 22 (by decide) _ (dv_emb i arg2 harg2 arg3 harg3 arg5 harg5 arg6 harg6 x0 x1 x3 x4 22 (by decide)) s22
  have s24 : Acc (TV (i 1) x0 x1 x3 x4) (kernelRun0_A.sl.HS1_25 (F := Ideal) c i arg2 harg2 arg3 harg3 arg5 harg5 arg6 harg6 arg12 x0 x1 x3 x4) 24 := (hs1_at23 c i arg2 harg2 arg3 harg3 arg5 harg5 arg6 harg6 arg12 x0 x1 x3 x4) ▸ acc_step _ arg12.view _ 23 (by decide) _ (dv_emb i arg2 harg2 arg3 harg3 arg5 harg5 arg6 harg6 x0 x1 x3 x4 23 (by decide)) s23
  have s25 : Acc (TV (i 1) x0 x1 x3 x4) (kernelRun0_A.sl.HS1_26 (F := Ideal) c i arg2 harg2 arg3 harg3 arg5 harg5 arg6 harg6 arg12 x0 x1 x3 x4) 25 := (hs1_at24 c i arg2 harg2 arg3 harg3 arg5 harg5 arg6 harg6 arg12 x0 x1 x3 x4) ▸ acc_step _ arg12.view _ 24 (by decide) _ (dv_emb i arg2 harg2 arg3 harg3 arg5 harg5 arg6 harg6 x0 x1 x3 x4 24 (by decide)) s24
  have s26 : Acc (TV (i 1) x0 x1 x3 x4) (kernelRun0_A.sl.HS1_27 (F := Ideal) c i arg2 harg2 arg3 harg3 arg5 harg5 arg6 harg6 arg12 x0 x1 x3 x4) 26 := (hs1_at25 c i arg2 harg2 arg3 harg3 arg5 harg5 arg6 harg6 arg12 x0 x1 x3 x4) ▸ acc_step _ arg12.view _ 25 (by decide) _ (dv_emb i arg2 harg2 arg3 harg3 arg5 harg5 arg6 harg6 x0 x1 x3 x4 25 (by decide)) s25
  have s27 : Acc (TV (i 1) x0 x1 x3 x4) (kernelRun0_A.sl.HS1_28 (F := Ideal) c i arg2 harg2 arg3 harg3 arg5 harg5 arg6 harg6 arg12 x0 x1 x3 x4) 27 := (hs1_at26 c i arg2 harg2 arg3 harg3 arg5 harg5 arg6 harg6 arg12 x0 x1 x3 x4) ▸ acc_step _ arg12.view _ 26 (by decide) _ (dv_emb i arg2 harg2 arg3 harg3 arg5 harg5 arg6 harg6 x0 x1 x3 x4 26 (by decide)) s26
  have s28 : Acc (TV (i 1) x0 x1 x3 x4) (kernelRun0_A.sl.HS1_29 (F := Ideal) c i arg2 harg2 arg3 harg3 arg5 harg5 arg6 harg6 arg12 x0 x1 x3 x4) 28 := (hs1_at27 c i arg2 harg2 arg3 harg3 arg5 harg5 arg6 harg6 arg12 x0 x1 x3 x4) ▸ acc_step _ arg12.view _ 27 (by decide) _ (dv_emb i arg2 harg2 arg3 harg3 arg5 harg5 arg6 harg6 x0 x1 x3 x4 27 (by decide)) s27
  have s29 : Acc (TV (i 1) x0 x1 x3 x4) (kernelRun0_A.sl.HS1_30 (F := Ideal) c i arg2 harg2 arg3 harg3 arg5 harg5 arg6 harg6 arg12 x0 x1 x3 x4) 29 := (hs1_at28 c i arg2 harg2 arg3 harg3 arg5 harg5 arg6 harg6 arg12 x0 x1 x3 x4) ▸ acc_step _ arg12.view _ 28 (by decide) _ (dv_emb i arg2 harg2 arg3 harg3 arg5 harg5 arg6 harg6 x0 x1 x3 x4 28 (by decide)) s28
  have s30 : Acc (TV (i 1) x0 x1 x3 x4) (kernelRun0_A.sl.HS1_31 (F := Ideal) c i arg2 harg2 arg3 harg3 arg5 harg5 arg6 harg6 arg12 x0 x1 x3 x4) 30 := (hs1_at29 c i arg2 harg2 arg3 harg3 arg5 harg5 arg6 harg6 arg12 x0 x1 x3 x4) ▸ acc_step _ arg12.view _ 29 (by decide) _ (dv_emb i arg2 harg2 arg3 harg3 arg5 harg5 arg6 harg6 x0 x1 x3 x4 29 (by decide)) s29
  have s31 : Acc (TV (i 1) x0 x1 x3 x4) (kernelRun0_A.sl.HS1_32 (F := Ideal) c i arg2 harg2 arg3 harg3 arg5 harg5 arg6 harg6 arg12 x0 x1 x3 x4) 31 := (hs1_at30 c i arg2 harg2 arg3 harg3 arg5 harg5 arg6 harg6 arg12 x0 x1 x3 x4) ▸ acc_step _ arg12.view _ 30 (by decide) _ (dv_emb i arg2 harg2 arg3 harg3 arg5 harg5 arg6 harg6 x0 x1 x3 x4 30 (by decide)) s30
  have s32 : Acc (TV (i 1) x0 x1 x3 x4) (kernelRun0_A.sl.HS1_33 (F := Ideal) c i arg2 harg2 arg3 harg3 arg5 harg5 arg6 harg6 arg12 x0 x1 x3 x4) 32 := (hs1_at31 c i arg2 harg2 arg3 harg3 arg5 harg5 arg6 harg6 arg12 x0 x1 x3 x4) ▸ acc_step _ arg12.view _ 31 (by decide) _ (dv_emb i arg2 harg2 arg3 harg3 arg5 harg5 arg6 harg6 x0 x1 x3 x4 31 (by decide)) s31
  exact s32

theorem out_k (y) : (out0_A_7 (F := Ideal) c i arg2 harg2 arg3 harg3 arg4 harg4 arg5 harg5 arg6 harg6 arg7 harg7 arg8 harg8 arg9 harg9 arg10 harg10 arg11 harg11 arg12 harg12 x0 x1 x2 x3 x4 x5 y : EReal) = TK (i 1) x0 x1 x2 x3 x4 x5 y := by
  unfold out0_A_7
  rw [View.read_writes_eq_canon _ _ _ (cover0_A_7 (F := Ideal) c i arg2 harg2 arg3 harg3 arg4 harg4 arg5 harg5 arg6 harg6 arg7 harg7 arg8 harg8 arg9 harg9 arg10 harg10 arg11 harg11 arg12 harg12 x0 x1 x2 x3 x4 x5), dk_pieces]
  have ha := acck c i arg2 harg2 arg3 harg3 arg4 harg4 arg5 harg5 arg6 harg6 arg7 harg7 arg11 x0 x1 x2 x3 x4 x5
  generalize kernelRun0_A.sl.HS0_33 (F := Ideal) c i arg2 harg2 arg3 harg3 arg4 harg4 arg5 harg5 arg6 harg6 arg7 harg7 arg11 x0 x1 x2 x3 x4 x5 = L at *
  have hy : y ∈ (Rect.unit (s := S32x128x128) ![0, 0, 0] S32x128x128.size inb_S32x128x128_S32x128x128_0_0_0).set := by
    rw [Rect.mem_set_unit]
    intro a
    have := (y a).isLt
    fin_cases a <;> simp <;> exact this
  obtain ⟨x, rfl⟩ := (Rect.unit (s := S32x128x128) ![0, 0, 0] S32x128x128.size inb_S32x128x128_S32x128x128_0_0_0).exists_idx_of_mem hy
  refine (View.canon_cons_emb (Rect.unit (s := S32x128x128) ![0, 0, 0] S32x128x128.size inb_S32x128x128_S32x128x128_0_0_0) _ [] x).trans ?_
  rw [View.readCov_eq_canon']
  have key : ∀ z : Vec Ideal S32x128x128 .f32, (k0_pay494 (F := Ideal) z x : EReal) = z x := by
    intro z
    pointwise [k0_pay494]
  refine (key _).trans ?_
  refine (ha _).trans (if_pos ?_)
  exact (((Rect.unit (s := S32x128x128) ![0, 0, 0] S32x128x128.size inb_S32x128x128_S32x128x128_0_0_0).emb x) 0).isLt
theorem out_v (y) : (out0_A_8 (F := Ideal) c i arg2 harg2 arg3 harg3 arg4 harg4 arg5 harg5 arg6 harg6 arg7 harg7 arg8 harg8 arg9 harg9 arg10 harg10 arg11 harg11 arg12 harg12 x0 x1 x2 x3 x4 x5 y : EReal) = TV (i 1) x0 x1 x3 x4 y := by
  unfold out0_A_8
  rw [View.read_writes_eq_canon _ _ _ (cover0_A_8 (F := Ideal) c i arg2 harg2 arg3 harg3 arg4 harg4 arg5 harg5 arg6 harg6 arg7 harg7 arg8 harg8 arg9 harg9 arg10 harg10 arg11 harg11 arg12 harg12 x0 x1 x2 x3 x4 x5), dv_pieces]
  have ha := accv c i arg2 harg2 arg3 harg3 arg5 harg5 arg6 harg6 arg12 x0 x1 x3 x4
  generalize kernelRun0_A.sl.HS1_33 (F := Ideal) c i arg2 harg2 arg3 harg3 arg5 harg5 arg6 harg6 arg12 x0 x1 x3 x4 = L at *
  have hy : y ∈ (Rect.unit (s := S32x128x128) ![0, 0, 0] S32x128x128.size inb_S32x128x128_S32x128x128_0_0_0).set := by
    rw [Rect.mem_set_unit]
    intro a
    have := (y a).isLt
    fin_cases a <;> simp <;> exact this
  obtain ⟨x, rfl⟩ := (Rect.unit (s := S32x128x128) ![0, 0, 0] S32x128x128.size inb_S32x128x128_S32x128x128_0_0_0).exists_idx_of_mem hy
  refine (View.canon_cons_emb (Rect.unit (s := S32x128x128) ![0, 0, 0] S32x128x128.size inb_S32x128x128_S32x128x128_0_0_0) _ [] x).trans ?_
  rw [View.readCov_eq_canon']
  have key : ∀ z : Vec Ideal S32x128x128 .f32, (k0_pay495 (F := Ideal) z x : EReal) = z x := by
    intro z
    pointwise [k0_pay495]
  refine (key _).trans ?_
  refine (ha _).trans (if_pos ?_)
  exact (((Rect.unit (s := S32x128x128) ![0, 0, 0] S32x128x128.size inb_S32x128x128_S32x128x128_0_0_0).emb x) 0).isLt
theorem out_q (y) : (out0_A_6 (F := Ideal) c i arg2 harg2 arg3 harg3 arg4 harg4 arg5 harg5 arg6 harg6 arg7 harg7 arg8 harg8 arg9 harg9 arg10 harg10 arg11 harg11 arg12 harg12 x0 x1 x2 x3 x4 x5 y : EReal) = TQ (i 1) x0 x1 x2 x3 x4 x5 y := by
  unfold out0_A_6
  rw [View.read_writes_eq_canon _ _ _ (cover0_A_6 (F := Ideal) c i arg2 harg2 arg3 harg3 arg4 harg4 arg5 harg5 arg6 harg6 arg7 harg7 arg8 harg8 arg9 harg9 arg10 harg10 arg11 harg11 arg12 harg12 x0 x1 x2 x3 x4 x5), dq_pieces]
  have st := fun L n h => put_step (e := .bf16) (TQ (i 1) x0 x1 x2 x3 x4 x5) L n h _ (dq_emb i arg2 harg2 arg3 harg3 arg4 harg4 arg5 harg5 arg6 harg6 arg7 harg7 x0 x1 x2 x3 x4 x5 n h)
  have s0 : ∀ y : S32x128x128.Idx, (y 0).val < 0 → View.canon (Val := Elt Ideal) (e := .bf16) [] y = TQ (i 1) x0 x1 x2 x3 x4 x5 y := fun y hy => absurd hy (Nat.not_lt_zero _)
  have s1 := st _ 0 (by decide) s0
  have s2 := st _ 1 (by decide) s1
  have s3 := st _ 2 (by decide) s2
  have s4 := st _ 3 (by decide) s3
  have s5 := st _ 4 (by decide) s4
  have s6 := st _ 5 (by decide) s5
  have s7 := st _ 6 (by decide) s6
  have s8 := st _ 7 (by decide) s7
  have s9 := st _ 8 (by decide) s8
  have s10 := st _ 9 (by decide) s9
  have s11 := st _ 10 (by decide) s10
  have s12 := st _ 11 (by decide) s11
  have s13 := st _ 12 (by decide) s12
  have s14 := st _ 13 (by decide) s13
  have s15 := st _ 14 (by decide) s14
  have s16 := st _ 15 (by decide) s15
  have s17 := st _ 16 (by decide) s16
  have s18 := st _ 17 (by decide) s17
  have s19 := st _ 18 (by decide) s18
  have s20 := st _ 19 (by decide) s19
  have s21 := st _ 20 (by decide) s20
  have s22 := st _ 21 (by decide) s21
  have s23 := st _ 22 (by decide) s22
  have s24 := st _ 23 (by decide) s23
  have s25 := st _ 24 (by decide) s24
  have s26 := st _ 25 (by decide) s25
  have s27 := st _ 26 (by decide) s26
  have s28 := st _ 27 (by decide) s27
  have s29 := st _ 28 (by decide) s28
  have s30 := st _ 29 (by decide) s29
  have s31 := st _ 30 (by decide) s30
  have s32 := st _ 31 (by decide) s31
  exact s32 y (y 0).isLt
end run

end Cert.AttnBwd2Ideal.Whole

end
-- ==== Proof.AttnBwd2Sum.lean ====
module

public import proofs.«01_k».proof.Proof.AttnBwd2Acc

@[expose] public section

set_option maxRecDepth 16384

noncomputable section

open Idealize.ShloMosaic Idealize.ShloMosaic.TcCoe Idealize.SL.Sem
open Idealize.ShloMosaic.Pipeline (Dat)

namespace Cert.AttnBwd2Ideal.Whole

open Cert.AttnBwd2Ideal Cert.AttnBwd2Ideal.Gen Cert.AttnBwd2RefIdeal.Read

/-! ## The blocks -/

variable (m : (ℓ : Loc nD τ sig) → Buf (Elt Ideal) ℓ)

theorem idx : ∀ t : Fin cfg0.N, win0_0.index t = ![0, 0, t.val] ∧ win0_1.index t = ![0, 0, 8 + t.val] ∧ win0_2.index t = ![0, 0, 16 + t.val] ∧ win0_3.index t = ![0, 0, t.val] ∧ win0_4.index t = ![0, 0, 0] ∧ win0_5.index t = ![0, 0, 0] ∧ win0_6.index t = ![0, 0, t.val] ∧ win0_7.index t = ![0, 0, t.val] ∧ win0_8.index t = ![0, 0, t.val] :=
  (by decide +kernel : ∀ t : Fin grid0.N, _)
theorem head_at : ∀ t : Fin cfg0.N, ((grid0.coords t) 1).val = t.val := (by decide +kernel : ∀ t : Fin grid0.N, _)
theorem lt8 (t : Fin cfg0.N) : t.val < 8 := t.isLt

theorem emb0 (t : Fin cfg0.N) (n : Fin 32) (r e : Fin 128) (x : Fin 3072) (hx : x.val = 0 + (t.val * 128 + e.val)) : ((cfg0.win 0).blk t).view.emb (ix3 n r e) = ix3 n r x := by
  have l := lt8 t
  funext a
  apply Fin.ext
  fin_cases a
  · blk_simp [idx t]; rfl
  · blk_simp [idx t]; rfl
  · blk_simp [idx t]
    show t.val * 128 + e.val = x.val
    omega
theorem emb1 (t : Fin cfg0.N) (n : Fin 32) (r e : Fin 128) (x : Fin 3072) (hx : x.val = 1024 + (t.val * 128 + e.val)) : ((cfg0.win 1).blk t).view.emb (ix3 n r e) = ix3 n r x := by
  have l := lt8 t
  funext a
  apply Fin.ext
  fin_cases a
  · blk_simp [idx t]; rfl
  · blk_simp [idx t]; rfl
  · blk_simp [idx t]
    show (8 + t.val) * 128 + e.val = x.val
    omega
theorem emb2 (t : Fin cfg0.N) (n : Fin 32) (r e : Fin 128) (x : Fin 3072) (hx : x.val = 2048 + (t.val * 128 + e.val)) : ((cfg0.win 2).blk t).view.emb (ix3 n r e) = ix3 n r x := by
  have l := lt8 t
  funext a
  apply Fin.ext
  fin_cases a
  · blk_simp [idx t]; rfl
  · blk_simp [idx t]; rfl
  · blk_simp [idx t]
    show (16 + t.val) * 128 + e.val = x.val
    omega
theorem emb3 (t : Fin cfg0.N) (n : Fin 32) (r e : Fin 128) (x : Fin 1024) (hx : x.val = 0 + (t.val * 128 + e.val)) : ((cfg0.win 3).blk t).view.emb (ix3 n r e) = ix3 n r x := by
  have l := lt8 t
  funext a
  apply Fin.ext
  fin_cases a
  · blk_simp [idx t]; rfl
  · blk_simp [idx t]; rfl
  · blk_simp [idx t]
    show t.val * 128 + e.val = x.val
    omega
theorem emb6 (t : Fin cfg0.N) (n : Fin 32) (r e : Fin 128) (x : Fin 1024) (hx : x.val = 0 + (t.val * 128 + e.val)) : ((cfg0.win 6).blk t).view.emb (ix3 n r e) = ix3 n r x := by
  have l := lt8 t
  funext a
  apply Fin.ext
  fin_cases a
  · blk_simp [idx t]; rfl
  · blk_simp [idx t]; rfl
  · blk_simp [idx t]
    show t.val * 128 + e.val = x.val
    omega
theorem emb7 (t : Fin cfg0.N) (n : Fin 32) (r e : Fin 128) (x : Fin 1024) (hx : x.val = 0 + (t.val * 128 + e.val)) : ((cfg0.win 7).blk t).view.emb (ix3 n r e) = ix3 n r x := by
  have l := lt8 t
  funext a
  apply Fin.ext
  fin_cases a
  · blk_simp [idx t]; rfl
  · blk_simp [idx t]; rfl
  · blk_simp [idx t]
    show t.val * 128 + e.val = x.val
    omega
theorem emb8 (t : Fin cfg0.N) (n : Fin 32) (r e : Fin 128) (x : Fin 1024) (hx : x.val = 0 + (t.val * 128 + e.val)) : ((cfg0.win 8).blk t).view.emb (ix3 n r e) = ix3 n r x := by
  have l := lt8 t
  funext a
  apply Fin.ext
  fin_cases a
  · blk_simp [idx t]; rfl
  · blk_simp [idx t]; rfl
  · blk_simp [idx t]
    show t.val * 128 + e.val = x.val
    omega
theorem emb4 (t : Fin cfg0.N) (n : Fin 32) (r : Fin 128) (e : Fin 8) : ((cfg0.win 4).blk t).view.emb (ix3 n r e) = ix3 n r e := by
  funext a
  apply Fin.ext
  fin_cases a <;> blk_simp [idx t] <;> rfl
theorem emb5 (t : Fin cfg0.N) (n : Fin 32) (r : Fin 128) (e : Fin 8) : ((cfg0.win 5).blk t).view.emb (ix3 n r e) = ix3 n r e := by
  funext a
  apply Fin.ext
  fin_cases a <;> blk_simp [idx t] <;> rfl

section blocks
variable (c : Dev nD) (t : Fin cfg0.N) (n : Fin 32) (b : Fin 2) (d : Fin 16) (hn : n.val = b.val * 16 + d.val)
/-- The step's head. -/
abbrev HD : Fin 8 := ⟨t.val, lt8 t⟩
include hn
theorem blk0 : bw (iblk m c 0 t) n = hd (m ((c : Thread nD τ).loc main_arg0)) b d (HD t) := by
  funext r e
  have l := lt8 t
  have l2 := e.isLt
  refine (congrArg (V m c main_v32) (emb0 t n r e ⟨0 + (t.val * 128 + e.val), by omega⟩ rfl)).trans ?_
  refine (congrFun (V32 m c) _).trans ?_
  exact (QKV_at _ _ _ n r (HD t) e b d hn _).1 (by first | rfl | exact Nat.zero_add _)
theorem blk1 : bw (iblk m c 1 t) n = hd (m ((c : Thread nD τ).loc main_arg1)) b d (HD t) := by
  funext r e
  have l := lt8 t
  have l2 := e.isLt
  refine (congrArg (V m c main_v32) (emb1 t n r e ⟨1024 + (t.val * 128 + e.val), by omega⟩ rfl)).trans ?_
  refine (congrFun (V32 m c) _).trans ?_
  exact (QKV_at _ _ _ n r (HD t) e b d hn _).2.1 (by first | rfl | exact Nat.zero_add _)
theorem blk2 : bw (iblk m c 2 t) n = hd (m ((c : Thread nD τ).loc main_arg2)) b d (HD t) := by
  funext r e
  have l := lt8 t
  have l2 := e.isLt
  refine (congrArg (V m c main_v32) (emb2 t n r e ⟨2048 + (t.val * 128 + e.val), by omega⟩ rfl)).trans ?_
  refine (congrFun (V32 m c) _).trans ?_
  exact (QKV_at _ _ _ n r (HD t) e b d hn _).2.2 (by first | rfl | exact Nat.zero_add _)
theorem blk3 : bw (iblk m c 3 t) n = hd (m ((c : Thread nD τ).loc main_arg5)) b d (HD t) := by
  funext r e
  have l := lt8 t
  have l2 := e.isLt
  refine (congrArg (V m c main_v34) (emb3 t n r e ⟨0 + (t.val * 128 + e.val), by omega⟩ rfl)).trans ?_
  exact V34 m c n r (HD t) e b d hn _ (Nat.zero_add _)
theorem blk4 : bc (iblk m c 4 t) (HD t) n = hc (m ((c : Thread nD τ).loc main_arg3)) b d (HD t) := by
  funext r
  refine (congrArg (V m c main_v35) (emb4 t n r (HD t))).trans ?_
  exact V35 m c n r (HD t) b d hn
theorem blk5 : bc (iblk m c 5 t) (HD t) n = hc (m ((c : Thread nD τ).loc main_arg4)) b d (HD t) := by
  funext r
  refine (congrArg (V m c main_v36) (emb5 t n r (HD t))).trans ?_
  exact V36 m c n r (HD t) b d hn
end blocks

theorem sum6 (c : Dev nD) (t : Fin cfg0.N) (n : Fin 32) (r e : Fin 128) : TQ (HD t) (iblk m c 0 t) (iblk m c 1 t) (iblk m c 2 t) (iblk m c 3 t) (iblk m c 4 t) (iblk m c 5 t) (ix3 n r e)
    = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb (ix3 n r e)) := by
  have l := lt8 t
  have l2 := e.isLt
  have l3 := n.isLt
  obtain ⟨b, d, hn⟩ : ∃ (b : Fin 2) (d : Fin 16), n.val = b.val * 16 + d.val := ⟨⟨n.val / 16, by omega⟩, ⟨n.val % 16, by omega⟩, by show n.val = n.val / 16 * 16 + n.val % 16; omega⟩
  refine Eq.trans ?_ (congrArg (val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (emb6 t n r e ⟨0 + (t.val * 128 + e.val), by omega⟩ rfl)).symm
  refine Eq.trans ?_ (ref_dq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n r (HD t) e b d hn _ (Nat.zero_add _)).symm
  unfold TQ
  refine Finset.sum_congr rfl fun k _ => ?_
  refine congrArg₂ (· * ·) ?_ (congrFun (congrFun (blk1 m c t n b d hn) k) e)
  show DS _ _ _ _ _ _ _ _ = _
  first
    | rw [blk0 m c t n b d hn, blk1 m c t n b d hn, blk2 m c t n b d hn, blk3 m c t n b d hn, blk4 m c t n b d hn, blk5 m c t n b d hn]
    | (refine (congrFun (congrFun (?_ : DS (bw (iblk m c 0 t) n) (bw (iblk m c 1 t) n) (bw (iblk m c 2 t) n) (bw (iblk m c 3 t) n) (bc (iblk m c 4 t) (HD t) n) (bc (iblk m c 5 t) (HD t) n) = _) _) _); rw [blk0 m c t n b d hn, blk1 m c t n b d hn, blk2 m c t n b d hn, blk3 m c t n b d hn, blk4 m c t n b d hn, blk5 m c t n b d hn])
theorem sumAt6 (c : Dev nD) (t : Fin cfg0.N) (z : S32x128x128.Idx) : TQ (HD t) (iblk m c 0 t) (iblk m c 1 t) (iblk m c 2 t) (iblk m c 3 t) (iblk m c 4 t) (iblk m c 5 t) z
    = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb z) := by
  rw [eq_ix3 z]
  exact sum6 m c t _ _ _
theorem sum7 (c : Dev nD) (t : Fin cfg0.N) (n : Fin 32) (r e : Fin 128) : TK (HD t) (iblk m c 0 t) (iblk m c 1 t) (iblk m c 2 t) (iblk m c 3 t) (iblk m c 4 t) (iblk m c 5 t) (ix3 n r e)
    = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb (ix3 n r e)) := by
  have l := lt8 t
  have l2 := e.isLt
  have l3 := n.isLt
  obtain ⟨b, d, hn⟩ : ∃ (b : Fin 2) (d : Fin 16), n.val = b.val * 16 + d.val := ⟨⟨n.val / 16, by omega⟩, ⟨n.val % 16, by omega⟩, by show n.val = n.val / 16 * 16 + n.val % 16; omega⟩
  refine Eq.trans ?_ (congrArg (val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (emb7 t n r e ⟨0 + (t.val * 128 + e.val), by omega⟩ rfl)).symm
  refine Eq.trans ?_ (ref_dk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n r (HD t) e b d hn _ (Nat.zero_add _)).symm
  unfold TK
  refine Finset.sum_congr rfl fun k _ => ?_
  refine congrArg₂ (· * ·) ?_ (congrFun (congrFun (blk0 m c t n b d hn) k) e)
  show DS _ _ _ _ _ _ _ _ = _
  first
    | rw [blk0 m c t n b d hn, blk1 m c t n b d hn, blk2 m c t n b d hn, blk3 m c t n b d hn, blk4 m c t n b d hn, blk5 m c t n b d hn]
    | (refine (congrFun (congrFun (?_ : DS (bw (iblk m c 0 t) n) (bw (iblk m c 1 t) n) (bw (iblk m c 2 t) n) (bw (iblk m c 3 t) n) (bc (iblk m c 4 t) (HD t) n) (bc (iblk m c 5 t) (HD t) n) = _) _) _); rw [blk0 m c t n b d hn, blk1 m c t n b d hn, blk2 m c t n b d hn, blk3 m c t n b d hn, blk4 m c t n b d hn, blk5 m c t n b d hn])
theorem sumAt7 (c : Dev nD) (t : Fin cfg0.N) (z : S32x128x128.Idx) : TK (HD t) (iblk m c 0 t) (iblk m c 1 t) (iblk m c 2 t) (iblk m c 3 t) (iblk m c 4 t) (iblk m c 5 t) z
    = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb z) := by
  rw [eq_ix3 z]
  exact sum7 m c t _ _ _
theorem sum8 (c : Dev nD) (t : Fin cfg0.N) (n : Fin 32) (r e : Fin 128) : TV (HD t) (iblk m c 0 t) (iblk m c 1 t) (iblk m c 3 t) (iblk m c 4 t) (ix3 n r e)
    = val_main_v67 (F := Ideal) (m ((c : Thread nD τ).loc main_arg0)) (m ((c : Thread nD τ).loc main_arg1)) (m ((c : Thread nD τ).loc main_arg3)) (m ((c : Thread nD τ).loc main_arg5)) (((cfg0.win 8).blk t).view.emb (ix3 n r e)) := by
  have l := lt8 t
  have l2 := e.isLt
  have l3 := n.isLt
  obtain ⟨b, d, hn⟩ : ∃ (b : Fin 2) (d : Fin 16), n.val = b.val * 16 + d.val := ⟨⟨n.val / 16, by omega⟩, ⟨n.val % 16, by omega⟩, by show n.val = n.val / 16 * 16 + n.val % 16; omega⟩
  refine Eq.trans ?_ (congrArg (val_main_v67 (F := Ideal) (m ((c : Thread nD τ).loc main_arg0)) (m ((c : Thread nD τ).loc main_arg1)) (m ((c : Thread nD τ).loc main_arg3)) (m ((c : Thread nD τ).loc main_arg5))) (emb8 t n r e ⟨0 + (t.val * 128 + e.val), by omega⟩ rfl)).symm
  refine Eq.trans ?_ (ref_dv (m ((c : Thread nD τ).loc main_arg0)) (m ((c : Thread nD τ).loc main_arg1)) (m ((c : Thread nD τ).loc main_arg3)) (m ((c : Thread nD τ).loc main_arg5)) n r (HD t) e b d hn _ (Nat.zero_add _)).symm
  unfold TV
  refine Finset.sum_congr rfl fun k _ => ?_
  refine congrArg₂ (· * ·) ?_ (congrFun (congrFun (blk3 m c t n b d hn) k) e)
  show PR _ _ _ _ _ = _
  first
    | rw [blk0 m c t n b d hn, blk1 m c t n b d hn, blk4 m c t n b d hn]
    | (refine (congrFun (congrFun (?_ : PR (bw (iblk m c 0 t) n) (bw (iblk m c 1 t) n) (bc (iblk m c 4 t) (HD t) n) = _) _) _); rw [blk0 m c t n b d hn, blk1 m c t n b d hn, blk4 m c t n b d hn])
theorem sumAt8 (c : Dev nD) (t : Fin cfg0.N) (z : S32x128x128.Idx) : TV (HD t) (iblk m c 0 t) (iblk m c 1 t) (iblk m c 3 t) (iblk m c 4 t) z
    = val_main_v67 (F := Ideal) (m ((c : Thread nD τ).loc main_arg0)) (m ((c : Thread nD τ).loc main_arg1)) (m ((c : Thread nD τ).loc main_arg3)) (m ((c : Thread nD τ).loc main_arg5)) (((cfg0.win 8).blk t).view.emb z) := by
  rw [eq_ix3 z]
  exact sum8 m c t _ _ _

end Cert.AttnBwd2Ideal.Whole

end
-- ==== Proof.AttnBwd2Value.lean ====
module

public import proofs.«01_k».proof.Proof.AttnBwd2Sum

@[expose] public section

set_option maxRecDepth 16384

noncomputable section

open Idealize.ShloMosaic Idealize.ShloMosaic.TcCoe Idealize.SL.Sem
open Idealize.ShloMosaic.Pipeline (Dat)

namespace Cert.AttnBwd2Ideal.Whole

open Cert.AttnBwd2Ideal Cert.AttnBwd2Ideal.Gen Cert.AttnBwd2RefIdeal.Read

variable (m : (ℓ : Loc nD τ sig) → Buf (Elt Ideal) ℓ)
theorem outs6 (c : Dev nD) (t : Fin cfg0.N) : (outsAt0 m c t).1 = out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) := by
  unfold outsAt0
  rfl
theorem point6 (c : Dev nD) (t : Fin cfg0.N) (z : S32x128x128.Idx) : (out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) z : EReal)
    = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb z) := by
  have hh : (grid0.coords t) 1 = HD t := Fin.ext (head_at t)
  rw [out_q, hh]
  exact sumAt6 m c t z
theorem final6 (c : Dev nD) : (dats m 0 c).arrAt 6 (cfgs 0).N = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6, outs6]
  exact point6 m c t y
theorem outs7 (c : Dev nD) (t : Fin cfg0.N) : (outsAt0 m c t).2.1 = out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) := by
  unfold outsAt0
  rfl
theorem point7 (c : Dev nD) (t : Fin cfg0.N) (z : S32x128x128.Idx) : (out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) z : EReal)
    = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb z) := by
  have hh : (grid0.coords t) 1 = HD t := Fin.ext (head_at t)
  rw [out_k, hh]
  exact sumAt7 m c t z
theorem final7 (c : Dev nD) : (dats m 0 c).arrAt 7 (cfgs 0).N = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7, outs7]
  exact point7 m c t y
theorem outs8 (c : Dev nD) (t : Fin cfg0.N) : (outsAt0 m c t).2.2 = out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) := by
  unfold outsAt0
  rfl
theorem point8 (c : Dev nD) (t : Fin cfg0.N) (z : S32x128x128.Idx) : (out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) z : EReal)
    = val_main_v67 (F := Ideal) (m ((c : Thread nD τ).loc main_arg0)) (m ((c : Thread nD τ).loc main_arg1)) (m ((c : Thread nD τ).loc main_arg3)) (m ((c : Thread nD τ).loc main_arg5)) (((cfg0.win 8).blk t).view.emb z) := by
  have hh : (grid0.coords t) 1 = HD t := Fin.ext (head_at t)
  rw [out_v, hh]
  exact sumAt8 m c t z
theorem final8 (c : Dev nD) : (dats m 0 c).arrAt 8 (cfgs 0).N = val_main_v67 (F := Ideal) (m ((c : Thread nD τ).loc main_arg0)) (m ((c : Thread nD τ).loc main_arg1)) (m ((c : Thread nD τ).loc main_arg3)) (m ((c : Thread nD τ).loc main_arg5)) := by
  refine (dats m 0 c).arrAt_eq_of_covers 8 _ (by decide +kernel) fun t _ y => ?_
  blk_simp
  rw [after0_8, outs8]
  exact point8 m c t y

end Cert.AttnBwd2Ideal.Whole

end
-- ==== Proof.AttnBwd2Claim.lean ====
module

public import proofs.«01_k».proof.Defs
public import proofs.«01_k».proof.Proof.Gen.AttnBwd2.Frame
public import proofs.«01_k».proof.Proof.Gen.AttnBwd2RefIdeal
public import proofs.«01_k».proof.Proof.Gen.AttnBwd2RefIdeal.Run
public import Idealize.ShloMosaic.Lib.Claim
public import proofs.«01_k».proof.Proof.AttnBwd2Value

@[expose] public section

noncomputable section

namespace Cert.AttnBwd2Claim

open Idealize.ShloMosaic Idealize.SL.Sem

theorem frame : Cert.quiescent_AttnBwd2 (hAttnBwd2 := Cert.AttnBwd2.Gen.facts) :=
  fun m g _ => Cert.AttnBwd2.Gen.frame m g

theorem frame_ideal : Cert.quiescent_AttnBwd2Ideal (hAttnBwd2Ideal := Cert.AttnBwd2Ideal.Gen.facts) :=
  fun m g _ => Cert.AttnBwd2Ideal.Gen.frame m g

theorem frame_ref : Cert.quiescent_AttnBwd2RefIdeal (hAttnBwd2RefIdeal := Cert.AttnBwd2RefIdeal.Gen.facts) := fun m g _ =>
  (θ_run Cert.AttnBwd2RefIdeal.defs _ _).mono (fun r h => ⟨fun c => (h c).2.2.2, Idealize.ShloMosaic.sem_eq_zero_of_no_sems (by decide) r.2⟩)
    (Cert.AttnBwd2RefIdeal.Value.run (F := Ideal) m g)

theorem preserves : Cert.preserves_AttnBwd2_AttnBwd2Ideal :=
  IdealRules.named_const.statement Cert.AttnBwd2Ideal.κ "mask" .f32 0xF149F2CA#32 ⊥ rfl

section algebraic

open Idealize.ShloMosaic.TcCoe Cert.AttnBwd2Ideal Cert.AttnBwd2Ideal.Gen Cert.AttnBwd2Ideal.Whole Cert.AttnBwd2RefIdeal.Read

theorem algebraic : Cert.algebraic_AttnBwd2Ideal_AttnBwd2RefIdeal (hAttnBwd2Ideal := Cert.AttnBwd2Ideal.Gen.facts)
    (hAttnBwd2RefIdeal := Cert.AttnBwd2RefIdeal.Gen.facts) := by
  intro m g m' g' hpre hagree
  refine ⟨fun c => val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    fun c => val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    fun c => val_main_v67 (F := Ideal) (m ((c : Thread nD τ).loc main_arg0)) (m ((c : Thread nD τ).loc main_arg1)) (m ((c : Thread nD τ).loc main_arg3)) (m ((c : Thread nD τ).loc main_arg5)), ?_, ?_⟩
  · refine θ_run_mono (θ_run_and (run_main m g) (Cert.AttnBwd2Ideal.Gen.frame m g)) ?_
    intro r hr c
    exact ⟨((hr.1 c).1 6).trans (final6 m c), ((hr.1 c).1 7).trans (final7 m c), ((hr.1 c).1 8).trans (final8 m c), hr.2.1 c⟩
  · refine θ_run_mono (Cert.AttnBwd2RefIdeal.Value.run m' g') ?_
    intro r h c
    obtain ⟨e0, e1, e2, e3, e4, e5⟩ := hagree c
    refine ⟨(h c).1.trans ?_, (h c).2.1.trans ?_, (h c).2.2.1.trans ?_, (h c).2.2.2⟩
    · refine (val_main_v59_eq _ _ _ _ _ _).trans ?_
      rw [e0, e1, e2, e3, e4, e5]
    · refine (val_main_v63_eq _ _ _ _ _ _).trans ?_
      rw [e0, e1, e2, e3, e4, e5]
    · refine (val_main_v67_eq _ _ _ _).trans ?_
      rw [e0, e1, e3, e5]

end algebraic

end Cert.AttnBwd2Claim

end
-- ==== Proof.RmsBwd.lean ====
module

public import Idealize.ShloMosaic.Lib.Pipeline.ValueKit

@[expose] public section

open Idealize.ShloMosaic

namespace Cert.RmsBwd

theorem width : Ideal.ofBits .f32 0x44800000#32 = ((1024 : ℝ) : EReal) := by
  simp [Ideal.ofBits, Ideal.ieee, -EReal.coe_mul]; norm_num

theorem neg_half : Ideal.ofBits .f32 0xBF000000#32 = ((-(1 / 2) : ℝ) : EReal) := by
  simp [Ideal.ofBits, Ideal.ieee, -EReal.coe_mul]; norm_num

theorem eps : ∃ w : ℝ, 0 < w ∧ Ideal.ofBits .f32 0x358637BD#32 = (w : EReal) := by
  refine ⟨8796093 * (2 : ℝ) ^ (-43 : ℤ), by positivity, ?_⟩
  simp [Ideal.ofBits, Ideal.ieee, -EReal.coe_mul]

theorem sq_nonneg (a : EReal) : 0 ≤ a * a := by
  induction a using EReal.rec with
  | bot => simp
  | top => simp
  | coe r => rw [← EReal.coe_mul]; exact_mod_cast mul_self_nonneg r

/-- A real factor that is not negative comes out of a sum. -/
theorem sum_mul {n : ℕ} (f : Fin n → EReal) {r : ℝ} (h : 0 ≤ r) : ∑ k, f k * (r : EReal) = (∑ k, f k) * (r : EReal) := by
  have g : ∀ s : Finset (Fin n), ∑ k ∈ s, f k * (r : EReal) = (∑ k ∈ s, f k) * (r : EReal) := by
    intro s
    induction s using Finset.cons_induction with
    | empty => simp
    | cons a s ha ih =>
      rw [Finset.sum_cons, Finset.sum_cons, ih,
        EReal.right_distrib_of_nonneg_of_ne_top (by exact_mod_cast h) (EReal.coe_ne_top r)]
  exact g Finset.univ

/-- The mean square of a row with the small constant added: the top, or a positive real. -/
theorem mean_cases (x : Fin 1024 → EReal) :
    Ideal.div (∑ k, x k * x k) (Ideal.ofBits .f32 0x44800000#32) + Ideal.ofBits .f32 0x358637BD#32 = ⊤
    ∨ ∃ e : ℝ, 0 < e ∧ Ideal.div (∑ k, x k * x k) (Ideal.ofBits .f32 0x44800000#32) + Ideal.ofBits .f32 0x358637BD#32 = (e : EReal) := by
  have hs : 0 ≤ ∑ k, x k * x k := Finset.sum_nonneg fun k _ => sq_nonneg (x k)
  obtain ⟨w, hw, he⟩ := eps
  rw [width, Ideal.div_coe (by norm_num), he]
  generalize ∑ k, x k * x k = Q at hs ⊢
  induction Q using EReal.rec with
  | bot => simp at hs
  | top =>
    left
    rw [EReal.top_mul_coe_of_pos (by norm_num)]
    rfl
  | coe q =>
    right
    have hq : 0 ≤ q := by exact_mod_cast hs
    refine ⟨q * (1 / 1024) + w, by positivity, ?_⟩
    rw [← EReal.coe_mul, ← EReal.coe_add]

/-- The gradient of a normalised row, entry by entry: the kernel's form and the form with the derivative of the
    reciprocal root. -/
theorem grad (x d : Fin 1024 → EReal) (j : Fin 1024) (e : EReal)
    (he : e = Ideal.div (∑ k, x k * x k) (Ideal.ofBits .f32 0x44800000#32) + Ideal.ofBits .f32 0x358637BD#32) :
    Ideal.rsqrt e * (d j - x j * Ideal.rsqrt e * Ideal.div (∑ k, d k * (x k * Ideal.rsqrt e)) (Ideal.ofBits .f32 0x44800000#32))
    = d j * Ideal.rsqrt e
      + x j * Ideal.div ((∑ k, x k * d k) * (Ideal.ofBits .f32 0xBF000000#32 * Ideal.div (Ideal.rsqrt e) e)) (Ideal.ofBits .f32 0x44800000#32)
      + Ideal.div ((∑ k, x k * d k) * (Ideal.ofBits .f32 0xBF000000#32 * Ideal.div (Ideal.rsqrt e) e)) (Ideal.ofBits .f32 0x44800000#32) * x j := by
  have hc := mean_cases x
  rw [← he] at hc
  clear he
  rw [width, neg_half, Ideal.div_coe (by norm_num), Ideal.div_coe (by norm_num)]
  rcases hc with rfl | ⟨e, hpos, rfl⟩
  · simp [Ideal.div]
  · rw [Ideal.div_coe hpos.ne', Ideal.rsqrt_coe, if_neg (not_lt.mpr hpos.le), if_neg hpos.ne']
    have hr : 0 < (Real.sqrt e)⁻¹ := inv_pos.mpr (Real.sqrt_pos.mpr hpos)
    have hee : 1 / e = (Real.sqrt e)⁻¹ * (Real.sqrt e)⁻¹ := by
      rw [← mul_inv, Real.mul_self_sqrt hpos.le, one_div]
    rw [hee]
    generalize (Real.sqrt e)⁻¹ = r at hr ⊢
    have h1 : ∀ k, d k * (x k * (r : EReal)) = x k * d k * (r : EReal) := fun k => by
      rw [← mul_assoc, mul_comm (d k)]
    simp only [h1]
    rw [sum_mul _ hr.le]
    generalize ∑ k, x k * d k = S
    generalize d j = D
    generalize x j = X
    have hu : S * (((-(1 / 2) : ℝ) : EReal) * ((r : EReal) * ((r * r : ℝ) : EReal))) * ((1 / 1024 : ℝ) : EReal)
        = -(S * ((r * r * r / 2048 : ℝ) : EReal)) := by
      rw [← EReal.coe_mul, ← EReal.coe_mul, mul_assoc, ← EReal.coe_mul, ← mul_neg, ← EReal.coe_neg]
      congr 2; ring
    rw [hu, sub_eq_add_neg, EReal.left_distrib_of_nonneg_of_ne_top (by exact_mod_cast hr.le) (EReal.coe_ne_top r),
      mul_comm (r : EReal) D, add_assoc]
    congr 1
    rw [mul_neg, mul_neg, neg_mul, mul_comm _ X]
    have h2 : (r : EReal) * (X * (r : EReal) * (S * (r : EReal) * ((1 / 1024 : ℝ) : EReal)))
        = X * S * ((r * r * r / 2048 : ℝ) : EReal) * ((2 : ℝ) : EReal) := by
      have : (r : EReal) * (X * (r : EReal) * (S * (r : EReal) * ((1 / 1024 : ℝ) : EReal)))
          = X * S * ((r : EReal) * (r : EReal) * (r : EReal) * ((1 / 1024 : ℝ) : EReal)) := by ac_rfl
      rw [this, mul_assoc (X * S) _ ((2 : ℝ) : EReal), ← EReal.coe_mul, ← EReal.coe_mul, ← EReal.coe_mul, ← EReal.coe_mul]
      congr 2; ring
    rw [h2, ← mul_assoc X S]
    generalize X * S * ((r * r * r / 2048 : ℝ) : EReal) = Z
    induction Z using EReal.rec with
    | bot => rw [EReal.bot_mul_coe_of_pos (by norm_num)]; rfl
    | top => rw [EReal.top_mul_coe_of_pos (by norm_num)]; rfl
    | coe z => rw [← EReal.coe_mul, ← EReal.coe_neg, ← EReal.coe_neg, ← EReal.coe_add]; congr 1; ring

/-- A sum over 6144 places, added up as two halves. -/
theorem sum_halves {A B : Fin 3072 → EReal} {f : Fin 6144 → EReal} (hA : ∀ k : Fin 3072, A k = f ⟨k.val, by omega⟩)
    (hB : ∀ k : Fin 3072, B k = f ⟨3072 + k.val, by omega⟩) : ∑ k, A k + ∑ k, B k = ∑ l, f l := by
  rw [Fin.sum_univ_add (a := 3072) (b := 3072) (f := f)]
  exact congrArg₂ (· + ·) (Finset.sum_congr rfl fun k _ => hA k) (Finset.sum_congr rfl fun k _ => hB k)

/-- Sixteen points of which the even ones add nothing, each odd one the sum over 512 rows: the sum over the 4096 rows. -/
theorem sum_points {A : Fin 16 → EReal} {f : Fin 4096 → EReal} (h0 : ∀ s : Fin 16, s.val % 2 = 0 → A s = 0)
    (h1 : ∀ s : Fin 8, A ⟨2 * s.val + 1, by omega⟩ = ∑ k : Fin 512, f ⟨s.val * 512 + k.val, by omega⟩) : ∑ s, A s = ∑ l, f l := by
  rw [← Fin.sum_mul_add_congr (S := 8) (n := 512) (f := f)
    (F := fun s k => f ⟨s.val * 512 + k.val, by omega⟩) (fun s k hl => rfl) rfl]
  rw [← Fin.sum_mul_add_congr (S := 8) (n := 2) (f := A)
    (F := fun s k => A ⟨s.val * 2 + k.val, by omega⟩) (fun s k hl => rfl) rfl]
  refine Finset.sum_congr rfl fun s _ => ?_
  rw [Fin.sum_univ_two, h0 _ (by show (s.val * 2 + 0) % 2 = 0; omega), zero_add, ← h1 s]
  exact congrArg A (Fin.ext (by show s.val * 2 + 1 = 2 * s.val + 1; omega))

end Cert.RmsBwd

end
-- ==== Proof.InProjBwdValue.lean ====
module

public import proofs.«01_k».proof.Proof.Gen.InProjBwdIdeal.Frame
public import proofs.«01_k».proof.Proof.Gen.InProjBwdRefIdeal.Read
public import Idealize.ShloMosaic.Lib.Pipeline.ValueKit
public import Idealize.ShloMosaic.Lib.Pipeline.ReadBack
public import Idealize.ShloMosaic.Lib.WritesUnit
public import proofs.«01_k».proof.Proof.RmsBwd

@[expose] public section

set_option maxRecDepth 16384

noncomputable section

open Idealize.ShloMosaic Idealize.ShloMosaic.TcCoe Idealize.SL.Sem
open Idealize.ShloMosaic.Pipeline (Dat)

namespace Cert.InProjBwdIdeal.Whole

open Cert.InProjBwdIdeal Cert.InProjBwdIdeal.Gen Cert.InProjBwdRefIdeal.Read

variable (m : (ℓ : Loc nD τ sig) → Buf (Elt Ideal) ℓ)

theorem idx : ∀ t : Fin cfg0.N, win0_0.index t = ![t.val / 2, t.val % 2] ∧ win0_1.index t = ![0, t.val % 2]
    ∧ win0_2.index t = ![t.val / 2, 0] ∧ win0_3.index t = ![t.val / 2, 0] ∧ win0_4.index t = ![0, 0]
    ∧ win0_5.index t = ![t.val / 2, 0] ∧ win0_6.index t = ![t.val / 2, 0] ∧ win0_7.index t = ![0, 0] :=
  (by decide +kernel : ∀ t : Fin grid0.N, _)

/-- The cotangent of the normalised stream: the product's and the other consumer's, together. -/
abbrev DH (c : Dev nD) : FVec Ideal Cert.InProjBwdRefIdeal.S4096x1024 .f32 :=
  val_main_v17 (F := Ideal) (m ((c : Thread nD τ).loc main_arg2)) (m ((c : Thread nD τ).loc main_arg3)) (m ((c : Thread nD τ).loc main_arg5))

/-- The reference's first result over the arrays that the kernel was given. -/
abbrev REF6 (x0 : FVec Ideal Cert.InProjBwdRefIdeal.S4096x1024 .f32) (x1 : FVec Ideal Cert.InProjBwdRefIdeal.S1x1024 .f32) (x2 : FVec Ideal Cert.InProjBwdRefIdeal.S1024x6144 .f32) (x3 : FVec Ideal Cert.InProjBwdRefIdeal.S4096x1024 .f32) (x4 : FVec Ideal Cert.InProjBwdRefIdeal.S4096x1024 .f32) (x5 : FVec Ideal Cert.InProjBwdRefIdeal.S4096x6144 .f32) : FVec Ideal Cert.InProjBwdRefIdeal.S4096x1024 .f32 :=
  val_main_v37 (F := Ideal) x0 x1 x2 x3 x4 x5

/-- The reference's second result over the arrays that the kernel was given. -/
abbrev REF7 (x0 : FVec Ideal Cert.InProjBwdRefIdeal.S4096x1024 .f32) (x2 : FVec Ideal Cert.InProjBwdRefIdeal.S1024x6144 .f32) (x3 : FVec Ideal Cert.InProjBwdRefIdeal.S4096x1024 .f32) (x5 : FVec Ideal Cert.InProjBwdRefIdeal.S4096x6144 .f32) : FVec Ideal Cert.InProjBwdRefIdeal.S8x1024 .f32 :=
  val_main_v38 (F := Ideal) x0 x2 x3 x5

/-- The point before. -/
theorem before_lt (t : Fin cfg0.N) : t.val - 1 < cfg0.N := Nat.lt_of_le_of_lt (Nat.sub_le _ _) t.isLt

/-- The cotangent's block at a row block's last point. -/
abbrev dhAt (c : Dev nD) (t : Fin cfg0.N) : FVec Ideal S512x1024 .f32 :=
  k0_pay5 (k0_pay2 (iblk m c 0 t) (iblk m c 1 t)) (outsAt0 m c (t.val - 1) (before_lt t)).2.2 (iblk m c 2 t)

/-- The scratch after a row block's first point holds the first half's product. -/
theorem scratch (c : Dev nD) (t : Fin cfg0.N) (h : t.val % 2 = 0) (y) :
    (outsAt0 m c t.val t.isLt).2.2 y = k0_pay2 (iblk m c 0 t) (iblk m c 1 t) y := by
  by_cases h0 : t.val % 16 = 0
  · rw [outsAt0_A m c t h0 h (by omega)]; frame_out
    pointwise [k0_pay3]
  · rw [outsAt0_C m c t h0 h (by omega)]; frame_out
    pointwise [k0_pay3]

theorem dhAt_eq (c : Dev nD) (t : Fin cfg0.N) (h : t.val % 2 = 1) (y : S512x1024.Idx) (i : Cert.InProjBwdRefIdeal.S4096x1024.Idx)
    (h0 : (i 0 : ℕ) = 512 * (t.val / 2) + y 0) (h1 : (i 1 : ℕ) = y 1) : dhAt m c t y = DH m c i := by
  have hp : t.val - 1 < cfg0.N := before_lt t
  have e := scratch m c ⟨t.val - 1, hp⟩ (by show (t.val - 1) % 2 = 0; omega) y
  pointwise [dhAt, k0_pay5]
  rw [e]
  pointwise [k0_pay2, DH, val_main_v16, val_main_v17]
  refine (add_comm _ _).trans (congrArg₂ (· + ·) ?_ (Cert.RmsBwd.sum_halves (fun k => ?_) (fun k => ?_)))
  · blk_point [iblk, V, idx t, idx ⟨_, hp⟩]
  · blk_point [iblk, V, idx t, idx ⟨_, hp⟩]
  · blk_point [iblk, V, idx t, idx ⟨_, hp⟩]

theorem outs6 (c : Dev nD) (t : Fin cfg0.N) (h : t.val % 2 = 1) (y) :
    (outsAt0 m c t.val t.isLt).1 y = k0_pay9 (k0_pay2 (iblk m c 0 t) (iblk m c 1 t)) (outsAt0 m c (t.val - 1) (before_lt t)).2.2 (iblk m c 2 t) (iblk m c 3 t) (iblk m c 4 t) (iblk m c 5 t) y := by
  rw [outsAt0_B m c t (by omega) (by omega) h]; frame_out
  try rw [read_unread_whole]

theorem xblk (c : Dev nD) (t : Fin cfg0.N) (y : S512x1024.Idx) (i : S4096x1024.Idx)
    (h0 : (i 0 : ℕ) = 512 * (t.val / 2) + y 0) (h1 : (i 1 : ℕ) = y 1) : iblk m c 3 t y = m ((c : Thread nD τ).loc main_arg0) i := by
  blk_point [iblk, V, idx t]

theorem gblk (c : Dev nD) (t : Fin cfg0.N) (y : S1x1024.Idx) (i : S1x1024.Idx)
    (h1 : (i 1 : ℕ) = y 1) : iblk m c 4 t y = m ((c : Thread nD τ).loc main_arg1) i := by
  blk_point [iblk, V, idx t]

theorem rblk (c : Dev nD) (t : Fin cfg0.N) (y : S512x1024.Idx) (i : S4096x1024.Idx)
    (h0 : (i 0 : ℕ) = 512 * (t.val / 2) + y 0) (h1 : (i 1 : ℕ) = y 1) : iblk m c 5 t y = m ((c : Thread nD τ).loc main_arg4) i := by
  blk_point [iblk, V, idx t]

theorem point6 (c : Dev nD) (t : Fin cfg0.N) (h : t.val % 2 = 1) (y : S512x1024.Idx) (a : Fin 4096) (b : Fin 1024)
    (h0 : (a : ℕ) = 512 * (t.val / 2) + y 0) (h1 : (b : ℕ) = y 1) : (outsAt0 m c t.val t.isLt).1 y
    = REF6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 a b) := by
  rw [outs6 m c t h]
  have ed := fun k => dhAt_eq m c t h (ix2 (y 0) k) (ix2 a k) h0 rfl
  have edy := dhAt_eq m c t h y (ix2 a b) h0 h1
  have ex := fun k => xblk m c t (ix2 (y 0) k) (ix2 a k) h0 rfl
  have exy := xblk m c t y (ix2 a b) h0 h1
  have eg := fun k => gblk m c t (ix2 0 k) (ix2 0 k) rfl
  have egy := gblk m c t (ix2 0 (y 1)) (ix2 0 b) h1
  have er := rblk m c t y (ix2 a b) h0 h1
  unfold dhAt DH at ed edy
  pointwise [k0_pay9, k0_pay7, k0_pay6, REF6, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v10, val_main_v9, val_main_v8, val_main_v7, val_main_v6, val_main_v5, val_main_v4, val_main_v3, val_main_v2, val_main_v1, val_main_v0, val_main_cst, val_main_cst_0, val_main_cst_1, val_main_cst_2, val_main_cst_4, val_main_cst_5, val_main_cst_6]
  rw [egy, edy, exy, er]
  simp only [ed, ex, eg, Fin.sum_univ_one]
  exact congrArg (· + _) (Cert.RmsBwd.grad (fun k => m ((c : Thread nD τ).loc main_arg0) (ix2 a k))
    (fun k => val_main_v17 (F := Ideal) (m ((c : Thread nD τ).loc main_arg2)) (m ((c : Thread nD τ).loc main_arg3)) (m ((c : Thread nD τ).loc main_arg5)) (ix2 a k) * m ((c : Thread nD τ).loc main_arg1) (ix2 0 k)) b _ rfl)

theorem final6 (c : Dev nD) : (dats m 0 c).arrAt 6 (cfgs 0).N = REF6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  refine (point6 m c t ((flush0_6 t).mp hf) y ((win0_6.blk t).view.emb y 0) ((win0_6.blk t).view.emb y 1) ?_ ?_).trans
    (congrArg _ (ix2_eta _)) <;> (blk_simp [idx t]; try omega)

/-- What a point adds to the gain's gradient: at a row block's last point its 512 rows, in the first row alone. -/
abbrev term (c : Dev nD) (t : Fin cfg0.N) (y : S8x1024.Idx) : EReal :=
  if t.val % 2 = 1 ∧ (y 0 : ℕ) = 0 then ∑ k : Fin 512, dhAt m c t (ix2 k (y 1)) * k0_pay7 (iblk m c 3 t) (ix2 k (y 1)) else 0

theorem held_first (c : Dev nD) (t : Fin cfg0.N) (h : t.val % 16 = 0) (y) :
    (outsAt0 m c t.val t.isLt).2.1 y = (0 : EReal) + term m c t y := by
  unfold term
  rw [if_neg (by omega), add_zero, outsAt0_A m c t h (by omega) (by omega)]; frame_out
  pointwise [k0_pay1]

theorem row_of_mem {κ : Kind} {sp : Space} (v : View sig κ sp S8x1024 .f32) (f : v.ty.Contents (Elt Ideal)) (w : Vec Ideal S1x1024 .f32)
    (y : S8x1024.Idx) (hy : (y 0 : ℕ) = 0) :
    v.read (Elt Ideal) (v.writes (Elt Ideal) f [⟨Rect.unit ![0, 0] ![1, 1024] inb_S8x1024_S1x1024_0_0, w⟩]) y = w (ix2 0 (y 1)) :=
  View.read_writes_cons_rows_of_mem v f (o := 0) inb_S8x1024_S1x1024_0_0 w [] y (ix2 0 (y 1)) rfl (by show (y 0 : ℕ) = 0 + 0; omega) rfl

theorem row_of_not_mem {κ : Kind} {sp : Space} (v : View sig κ sp S8x1024 .f32) (f : v.ty.Contents (Elt Ideal)) (w : Vec Ideal S1x1024 .f32)
    (y : S8x1024.Idx) (hy : ¬ (y 0 : ℕ) = 0) :
    v.read (Elt Ideal) (v.writes (Elt Ideal) f [⟨Rect.unit ![0, 0] ![1, 1024] inb_S8x1024_S1x1024_0_0, w⟩]) y = v.read (Elt Ideal) f y :=
  View.read_writes_cons_rows_of_not_mem v f (o := 0) (W := 1) inb_S8x1024_S1x1024_0_0 w [] y rfl rfl (by right; omega)

theorem held_next (c : Dev nD) (t : Fin cfg0.N) (h : ¬ t.val % 16 = 0) (y) : ((outsAt0 m c t.val t.isLt).2.1 y : EReal)
    = (outsAt0 m c (t.val - 1) (Nat.lt_of_le_of_lt (Nat.sub_le _ _) t.isLt)).2.1 y + term m c t y := by
  by_cases hl : t.val % 2 = 1
  · unfold term
    rw [outsAt0_B m c t h (by omega) hl]
    dsimp only
    unfold out0_B_7
    frame_out
    by_cases hy : (y 0 : ℕ) = 0
    · rw [if_pos ⟨hl, hy⟩]
      rw [row_of_mem _ _ _ y hy]
      pointwise [k0_pay8]
      rw [read_unread_whole]
      refine congrArg₂ (· + ·) ?_ rfl
      refine congrArg (outsAt0 m c (t.val - 1) (before_lt t)).2.1 (funext fun a => Fin.ext ?_)
      fin_cases a
      · show 0 = (y 0 : ℕ); omega
      · rfl
    · rw [if_neg (fun e => hy e.2), add_zero]
      rw [row_of_not_mem _ _ _ y hy, (hs0_7 t).read_unread]
  · unfold term
    rw [if_neg (by omega), add_zero, outsAt0_C m c t h (by omega) hl]
    rfl

theorem sums (c : Dev nD) (t : Fin cfg0.N) (h : t.val % 16 = 15) (y) :
    ((outsAt0 m c t.val t.isLt).2.1 y : EReal) = ∑ s : Fin 16, term m c ⟨16 * (t.val / 16) + s.val, Pipeline.run_point_lt_of_flush t h s⟩ y := by
  have e := Pipeline.eq_sum_fin_of_reset_step_apply_of_flush (M := EReal) (fun n h => (outsAt0 m c n h).2.1) 16 (fun _ => 0) _ (held_first m c)
    (held_next m c) t h y
  rw [zero_add] at e
  exact e

theorem point7 (c : Dev nD) (t : Fin cfg0.N) (h : t.val % 16 = 15) (y : S8x1024.Idx) (i : Cert.InProjBwdRefIdeal.S8x1024.Idx)
    (h0 : (i 0 : ℕ) = y 0) (h1 : (i 1 : ℕ) = y 1) : ((outsAt0 m c t.val t.isLt).2.1 y : EReal)
    = REF7 (m ((c : Thread nD τ).loc main_arg0)) (m ((c : Thread nD τ).loc main_arg2)) (m ((c : Thread nD τ).loc main_arg3)) (m ((c : Thread nD τ).loc main_arg5)) i := by
  have ht : t.val / 16 = 0 := by have : t.val < 16 := t.isLt; omega
  rw [sums m c t h]
  pointwise [REF7, val_main_v38]
  by_cases hi : (i 0 : ℕ) < 1
  · rw [dif_pos hi]
    pointwise [val_main_v20, val_main_v19, val_main_v18, val_main_v12, val_main_v11, val_main_v7, val_main_v6, val_main_v5, val_main_v4, val_main_v3, val_main_v2, val_main_v1, val_main_v0, val_main_cst, val_main_cst_0, val_main_cst_1, val_main_cst_3]
    refine Cert.RmsBwd.sum_points (fun s hs => ?_) (fun s => ?_)
    · unfold term
      rw [if_neg]
      intro e
      have e1 : (16 * (t.val / 16) + s.val) % 2 = 1 := e.1
      omega
    · have hp : 16 * (t.val / 16) + (2 * s.val + 1) < cfg0.N := by
        have : s.val < 8 := s.isLt
        rw [ht]; show _ < 16; omega
      have ho : (⟨16 * (t.val / 16) + (2 * s.val + 1), hp⟩ : Fin cfg0.N).val % 2 = 1 := by
        show (16 * (t.val / 16) + (2 * s.val + 1)) % 2 = 1; omega
      have hd : (⟨16 * (t.val / 16) + (2 * s.val + 1), hp⟩ : Fin cfg0.N).val / 2 = s.val := by
        show (16 * (t.val / 16) + (2 * s.val + 1)) / 2 = s.val; omega
      unfold term
      rw [if_pos ⟨ho, by omega⟩]
      refine Finset.sum_congr rfl fun k _ => ?_
      have ex := fun l => xblk m c _ (ix2 k l) (ix2 ⟨s.val * 512 + k.val, by omega⟩ l)
        (by show s.val * 512 + k.val = 512 * (_ / 2) + k.val; rw [hd]; omega) rfl
      rw [dhAt_eq m c _ ho (ix2 k (y 1)) (ix2 ⟨s.val * 512 + k.val, by omega⟩ (i 1))
        (by show s.val * 512 + k.val = 512 * (_ / 2) + k.val; rw [hd]; omega) h1]
      have exy := xblk m c _ (ix2 k (y 1)) (ix2 ⟨s.val * 512 + k.val, by omega⟩ (i 1))
        (by show s.val * 512 + k.val = 512 * (_ / 2) + k.val; rw [hd]; omega) h1
      pointwise [k0_pay7, k0_pay6, DH]
      rw [exy, mul_comm]
      simp only [ex]
  · rw [dif_neg hi]
    refine (Finset.sum_eq_zero fun s _ => ?_).trans ?_
    · unfold term
      rw [if_neg (fun e => hi (by omega))]
    · show (0 : EReal) = (((0#32 : BitVec 32).toInt : ℝ) : EReal)
      simp

theorem final7 (c : Dev nD) : (dats m 0 c).arrAt 7 (cfgs 0).N = REF7 (m ((c : Thread nD τ).loc main_arg0)) (m ((c : Thread nD τ).loc main_arg2)) (m ((c : Thread nD τ).loc main_arg3)) (m ((c : Thread nD τ).loc main_arg5)) := by
  refine (dats m 0 c).arrAt_eq_of_covers 7 _ (by decide +kernel) fun t hf y => ?_
  blk_simp
  rw [after0_7]
  refine point7 m c t ((flush0_7 t).mp hf) y _ ?_ ?_ <;> (blk_simp [idx t]; try omega)

end Cert.InProjBwdIdeal.Whole

end
-- ==== Proof.InProjBwdClaim.lean ====
module

public import proofs.«01_k».proof.Defs
public import proofs.«01_k».proof.Proof.Gen.InProjBwd.Frame
public import proofs.«01_k».proof.Proof.Gen.InProjBwdRefIdeal
public import proofs.«01_k».proof.Proof.Gen.InProjBwdRefIdeal.Run
public import Idealize.ShloMosaic.Lib.Claim
public import proofs.«01_k».proof.Proof.InProjBwdValue

@[expose] public section

noncomputable section

namespace Cert.InProjBwdClaim

open Idealize.ShloMosaic Idealize.SL.Sem

theorem frame : Cert.quiescent_InProjBwd (hInProjBwd := Cert.InProjBwd.Gen.facts) :=
  fun m g _ => Cert.InProjBwd.Gen.frame m g

theorem frame_ideal : Cert.quiescent_InProjBwdIdeal (hInProjBwdIdeal := Cert.InProjBwdIdeal.Gen.facts) :=
  fun m g _ => Cert.InProjBwdIdeal.Gen.frame m g

theorem frame_ref : Cert.quiescent_InProjBwdRefIdeal (hInProjBwdRefIdeal := Cert.InProjBwdRefIdeal.Gen.facts) := fun m g _ =>
  (θ_run Cert.InProjBwdRefIdeal.defs _ _).mono (fun r h => ⟨fun c => (h c).2.2, Idealize.ShloMosaic.sem_eq_zero_of_no_sems (by decide) r.2⟩)
    (Cert.InProjBwdRefIdeal.Value.run (F := Ideal) m g)

theorem algebraic : Cert.algebraic_InProjBwdIdeal_InProjBwdRefIdeal (hInProjBwdIdeal := Cert.InProjBwdIdeal.Gen.facts)
    (hInProjBwdRefIdeal := Cert.InProjBwdRefIdeal.Gen.facts) := by
  pair_intro
  · run_from Cert.InProjBwdIdeal.Gen.run_main m g
  · run_from Cert.InProjBwdRefIdeal.Value.run m' g'
    · rw [Cert.InProjBwdRefIdeal.Read.val_main_v37_eq, (hagree c).1, (hagree c).2.1, (hagree c).2.2.1, (hagree c).2.2.2.1, (hagree c).2.2.2.2.1,
        (hagree c).2.2.2.2.2]
      exact (Cert.InProjBwdIdeal.Whole.final6 m c).symm
    · exact (Cert.InProjBwdIdeal.Whole.final7 m c).symm

end Cert.InProjBwdClaim

end
-- ==== Proof.lean ====
module

public import proofs.«01_k».proof.Defs
public import proofs.«01_k».proof.Proof.AInDwClaim
public import proofs.«01_k».proof.Proof.AOutDwClaim
public import proofs.«01_k».proof.Proof.AOutDxClaim
public import proofs.«01_k».proof.Proof.BOutDwClaim
public import proofs.«01_k».proof.Proof.BOutDxClaim
public import proofs.«01_k».proof.Proof.BInDw0Claim
public import proofs.«01_k».proof.Proof.BInDx0Claim
public import proofs.«01_k».proof.Proof.BIn0Claim
public import proofs.«01_k».proof.Proof.BInDw1Claim
public import proofs.«01_k».proof.Proof.BInDx1Claim
public import proofs.«01_k».proof.Proof.BIn1Claim
public import proofs.«01_k».proof.Proof.BInDw2Claim
public import proofs.«01_k».proof.Proof.BInDx2Claim
public import proofs.«01_k».proof.Proof.BIn2Claim
public import proofs.«01_k».proof.Proof.AInClaim
public import proofs.«01_k».proof.Proof.AOutClaim
public import proofs.«01_k».proof.Proof.BOutLossClaim
public import proofs.«01_k».proof.Proof.AdamSmallClaim
public import proofs.«01_k».proof.Proof.AdamAOutClaim
public import proofs.«01_k».proof.Proof.AdamBInClaim
public import proofs.«01_k».proof.Proof.AdamBOutClaim
public import proofs.«01_k».proof.Proof.AdamAInClaim
public import proofs.«01_k».proof.Proof.AttnBwd2Claim
public import proofs.«01_k».proof.Proof.InProjBwdClaim
public import Idealize.ShloMosaic.Adequacy

@[expose] public section

noncomputable section

namespace Cert.Proof

open Idealize.ShloMosaic Idealize.SL.Sem

theorem claim : Cert.Claim :=
  ⟨Cert.AInDw.Gen.facts,
    Cert.AInDwIdeal.Gen.facts,
    Cert.AInDwRefIdeal.Gen.facts,
    Cert.AOutDw.Gen.facts,
    Cert.AOutDwIdeal.Gen.facts,
    Cert.AOutDwRefIdeal.Gen.facts,
    Cert.AOutDx.Gen.facts,
    Cert.AOutDxIdeal.Gen.facts,
    Cert.AOutDxRefIdeal.Gen.facts,
    Cert.BOutDw.Gen.facts,
    Cert.BOutDwIdeal.Gen.facts,
    Cert.BOutDwRefIdeal.Gen.facts,
    Cert.BOutDx.Gen.facts,
    Cert.BOutDxIdeal.Gen.facts,
    Cert.BOutDxRefIdeal.Gen.facts,
    Cert.BInDw0.Gen.facts,
    Cert.BInDw0Ideal.Gen.facts,
    Cert.BInDw0RefIdeal.Gen.facts,
    Cert.BInDx0.Gen.facts,
    Cert.BInDx0Ideal.Gen.facts,
    Cert.BInDx0RefIdeal.Gen.facts,
    Cert.BIn0.Gen.facts,
    Cert.BIn0Ideal.Gen.facts,
    Cert.BIn0RefIdeal.Gen.facts,
    Cert.BInDw1.Gen.facts,
    Cert.BInDw1Ideal.Gen.facts,
    Cert.BInDw1RefIdeal.Gen.facts,
    Cert.BInDx1.Gen.facts,
    Cert.BInDx1Ideal.Gen.facts,
    Cert.BInDx1RefIdeal.Gen.facts,
    Cert.BIn1.Gen.facts,
    Cert.BIn1Ideal.Gen.facts,
    Cert.BIn1RefIdeal.Gen.facts,
    Cert.BInDw2.Gen.facts,
    Cert.BInDw2Ideal.Gen.facts,
    Cert.BInDw2RefIdeal.Gen.facts,
    Cert.BInDx2.Gen.facts,
    Cert.BInDx2Ideal.Gen.facts,
    Cert.BInDx2RefIdeal.Gen.facts,
    Cert.BIn2.Gen.facts,
    Cert.BIn2Ideal.Gen.facts,
    Cert.BIn2RefIdeal.Gen.facts,
    Cert.AIn.Gen.facts,
    Cert.AInIdeal.Gen.facts,
    Cert.AInRefIdeal.Gen.facts,
    Cert.AOut.Gen.facts,
    Cert.AOutIdeal.Gen.facts,
    Cert.AOutRefIdeal.Gen.facts,
    Cert.BOutLoss.Gen.facts,
    Cert.BOutLossIdeal.Gen.facts,
    Cert.BOutLossRefIdeal.Gen.facts,
    Cert.AdamSmall.Gen.facts,
    Cert.AdamSmallIdeal.Gen.facts,
    Cert.AdamSmallRefIdeal.Gen.facts,
    Cert.AdamAOut.Gen.facts,
    Cert.AdamAOutIdeal.Gen.facts,
    Cert.AdamAOutRefIdeal.Gen.facts,
    Cert.AdamBIn.Gen.facts,
    Cert.AdamBInIdeal.Gen.facts,
    Cert.AdamBInRefIdeal.Gen.facts,
    Cert.AdamBOut.Gen.facts,
    Cert.AdamBOutIdeal.Gen.facts,
    Cert.AdamBOutRefIdeal.Gen.facts,
    Cert.AdamAIn.Gen.facts,
    Cert.AdamAInIdeal.Gen.facts,
    Cert.AdamAInRefIdeal.Gen.facts,
    Cert.AttnBwd2.Gen.facts,
    Cert.AttnBwd2Ideal.Gen.facts,
    Cert.AttnBwd2RefIdeal.Gen.facts,
    Cert.InProjBwd.Gen.facts,
    Cert.InProjBwdIdeal.Gen.facts,
    Cert.InProjBwdRefIdeal.Gen.facts,
    Cert.AInDwClaim.frame,
    Cert.AInDwClaim.frame_ideal,
    Cert.AInDwClaim.frame_ref,
    Cert.AOutDwClaim.frame,
    Cert.AOutDwClaim.frame_ideal,
    Cert.AOutDwClaim.frame_ref,
    Cert.AOutDxClaim.frame,
    Cert.AOutDxClaim.frame_ideal,
    Cert.AOutDxClaim.frame_ref,
    Cert.BOutDwClaim.frame,
    Cert.BOutDwClaim.frame_ideal,
    Cert.BOutDwClaim.frame_ref,
    Cert.BOutDxClaim.frame,
    Cert.BOutDxClaim.frame_ideal,
    Cert.BOutDxClaim.frame_ref,
    Cert.BInDw0Claim.frame,
    Cert.BInDw0Claim.frame_ideal,
    Cert.BInDw0Claim.frame_ref,
    Cert.BInDx0Claim.frame,
    Cert.BInDx0Claim.frame_ideal,
    Cert.BInDx0Claim.frame_ref,
    Cert.BIn0Claim.frame,
    Cert.BIn0Claim.frame_ideal,
    Cert.BIn0Claim.frame_ref,
    Cert.BInDw1Claim.frame,
    Cert.BInDw1Claim.frame_ideal,
    Cert.BInDw1Claim.frame_ref,
    Cert.BInDx1Claim.frame,
    Cert.BInDx1Claim.frame_ideal,
    Cert.BInDx1Claim.frame_ref,
    Cert.BIn1Claim.frame,
    Cert.BIn1Claim.frame_ideal,
    Cert.BIn1Claim.frame_ref,
    Cert.BInDw2Claim.frame,
    Cert.BInDw2Claim.frame_ideal,
    Cert.BInDw2Claim.frame_ref,
    Cert.BInDx2Claim.frame,
    Cert.BInDx2Claim.frame_ideal,
    Cert.BInDx2Claim.frame_ref,
    Cert.BIn2Claim.frame,
    Cert.BIn2Claim.frame_ideal,
    Cert.BIn2Claim.frame_ref,
    Cert.AInClaim.frame,
    Cert.AInClaim.frame_ideal,
    Cert.AInClaim.frame_ref,
    Cert.AOutClaim.frame,
    Cert.AOutClaim.frame_ideal,
    Cert.AOutClaim.frame_ref,
    Cert.BOutLossClaim.frame,
    Cert.BOutLossClaim.frame_ideal,
    Cert.BOutLossClaim.frame_ref,
    Cert.AdamSmallClaim.frame,
    Cert.AdamSmallClaim.frame_ideal,
    Cert.AdamSmallClaim.frame_ref,
    Cert.AdamAOutClaim.frame,
    Cert.AdamAOutClaim.frame_ideal,
    Cert.AdamAOutClaim.frame_ref,
    Cert.AdamBInClaim.frame,
    Cert.AdamBInClaim.frame_ideal,
    Cert.AdamBInClaim.frame_ref,
    Cert.AdamBOutClaim.frame,
    Cert.AdamBOutClaim.frame_ideal,
    Cert.AdamBOutClaim.frame_ref,
    Cert.AdamAInClaim.frame,
    Cert.AdamAInClaim.frame_ideal,
    Cert.AdamAInClaim.frame_ref,
    Cert.AttnBwd2Claim.frame,
    Cert.AttnBwd2Claim.frame_ideal,
    Cert.AttnBwd2Claim.frame_ref,
    Cert.InProjBwdClaim.frame,
    Cert.InProjBwdClaim.frame_ideal,
    Cert.InProjBwdClaim.frame_ref,
    trivial,
    Cert.AInDwClaim.algebraic,
    trivial,
    Cert.AOutDwClaim.algebraic,
    trivial,
    Cert.AOutDxClaim.algebraic,
    trivial,
    Cert.BOutDwClaim.algebraic,
    trivial,
    Cert.BOutDxClaim.algebraic,
    trivial,
    Cert.BInDw0Claim.algebraic,
    trivial,
    Cert.BInDx0Claim.algebraic,
    trivial,
    Cert.BIn0Claim.algebraic,
    trivial,
    Cert.BInDw1Claim.algebraic,
    trivial,
    Cert.BInDx1Claim.algebraic,
    trivial,
    Cert.BIn1Claim.algebraic,
    trivial,
    Cert.BInDw2Claim.algebraic,
    trivial,
    Cert.BInDx2Claim.algebraic,
    trivial,
    Cert.BIn2Claim.algebraic,
    trivial,
    Cert.AInClaim.algebraic,
    trivial,
    Cert.AOutClaim.algebraic,
    trivial,
    Cert.BOutLossClaim.algebraic,
    trivial,
    Cert.AdamSmallClaim.algebraic,
    trivial,
    Cert.AdamAOutClaim.algebraic,
    trivial,
    Cert.AdamBInClaim.algebraic,
    trivial,
    Cert.AdamBOutClaim.algebraic,
    trivial,
    Cert.AdamAInClaim.algebraic,
    Cert.AttnBwd2Claim.preserves,
    Cert.AttnBwd2Claim.algebraic,
    trivial,
    Cert.InProjBwdClaim.algebraic⟩

end Cert.Proof

end
